-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwReferenceIdeal (m : (ℓ : Loc Cert.ProjDwReferenceIdeal.nD Cert.ProjDwReferenceIdeal.τ Cert.ProjDwReferenceIdeal.sig) → Buf (Elt Ideal) ℓ) : Prop :=
  True

def Pre_ProjDh (m : (ℓ : Loc Cert.ProjDh.nD Cert.ProjDh.τ Cert.ProjDh.sig) → Buf (Elt Bits) ℓ) : Prop :=
  True

def Pre_ProjDhIdeal (m : (ℓ : Loc Cert.ProjDhIdeal.nD Cert.ProjDhIdeal.τ Cert.ProjDhIdeal.sig) → Buf (Elt Ideal) ℓ) : Prop :=
  True

def Pre_ProjDhReferenceIdeal (m : (ℓ : Loc Cert.ProjDhReferenceIdeal.nD Cert.ProjDhReferenceIdeal.τ Cert.ProjDhReferenceIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxReferenceIdeal (m : (ℓ : Loc Cert.ProjDxReferenceIdeal.nD Cert.ProjDxReferenceIdeal.τ Cert.ProjDxReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormReferenceIdeal (m : (ℓ : Loc Cert.OutNormReferenceIdeal.nD Cert.OutNormReferenceIdeal.τ Cert.OutNormReferenceIdeal.sig) → Buf (Elt Ideal) ℓ) : Prop :=
  True

def Pre_DownNorm (m : (ℓ : Loc Cert.DownNorm.nD Cert.DownNorm.τ Cert.DownNorm.sig) → Buf (Elt Bits) ℓ) : Prop :=
  True

def Pre_DownNormIdeal (m : (ℓ : Loc Cert.DownNormIdeal.nD Cert.DownNormIdeal.τ Cert.DownNormIdeal.sig) → Buf (Elt Ideal) ℓ) : Prop :=
  True

def Pre_DownNormReferenceIdeal (m : (ℓ : Loc Cert.DownNormReferenceIdeal.nD Cert.DownNormReferenceIdeal.τ Cert.DownNormReferenceIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActReferenceIdeal (m : (ℓ : Loc Cert.FfnActReferenceIdeal.nD Cert.FfnActReferenceIdeal.τ Cert.FfnActReferenceIdeal.sig) → Buf (Elt Ideal) ℓ) : Prop :=
  True

def Pre_FfnActGrad (m : (ℓ : Loc Cert.FfnActGrad.nD Cert.FfnActGrad.τ Cert.FfnActGrad.sig) → Buf (Elt Bits) ℓ) : Prop :=
  True

def Pre_FfnActGradIdeal (m : (ℓ : Loc Cert.FfnActGradIdeal.nD Cert.FfnActGradIdeal.τ Cert.FfnActGradIdeal.sig) → Buf (Elt Ideal) ℓ) : Prop :=
  True

def Pre_FfnActGradIdeal_finite_act [hPre_finite_act : Cert.Pre_finite_act.Facts] (m : (ℓ : Loc Cert.FfnActGradIdeal.nD Cert.FfnActGradIdeal.τ Cert.FfnActGradIdeal.sig) → Buf (Elt Ideal) ℓ) : Prop :=
  ∀ c : Dev Cert.FfnActGradIdeal.nD,
    (Cert.Pre_finite_act.fn (F := Ideal) (m ((c.tc : Thread Cert.FfnActGradIdeal.nD Cert.FfnActGradIdeal.τ).loc Cert.FfnActGradIdeal.main_arg0)) (m ((c.tc : Thread Cert.FfnActGradIdeal.nD Cert.FfnActGradIdeal.τ).loc Cert.FfnActGradIdeal.main_arg1)) (m ((c.tc : Thread Cert.FfnActGradIdeal.nD Cert.FfnActGradIdeal.τ).loc Cert.FfnActGradIdeal.main_arg2)) (m ((c.tc : Thread Cert.FfnActGradIdeal.nD Cert.FfnActGradIdeal.τ).loc Cert.FfnActGradIdeal.main_arg3))) = (fun _ => 1#1)

def Pre_FfnActGradReferenceIdeal (m : (ℓ : Loc Cert.FfnActGradReferenceIdeal.nD Cert.FfnActGradReferenceIdeal.τ Cert.FfnActGradReferenceIdeal.sig) → Buf (Elt Ideal) ℓ) : Prop :=
  True

def Pre_FfnActGradReferenceIdeal_finite_act [hPre_finite_act : Cert.Pre_finite_act.Facts] (m : (ℓ : Loc Cert.FfnActGradReferenceIdeal.nD Cert.FfnActGradReferenceIdeal.τ Cert.FfnActGradReferenceIdeal.sig) → Buf (Elt Ideal) ℓ) : Prop :=
  ∀ c : Dev Cert.FfnActGradReferenceIdeal.nD,
    (Cert.Pre_finite_act.fn (F := Ideal) (m ((c.tc : Thread Cert.FfnActGradReferenceIdeal.nD Cert.FfnActGradReferenceIdeal.τ).loc Cert.FfnActGradReferenceIdeal.main_arg0)) (m ((c.tc : Thread Cert.FfnActGradReferenceIdeal.nD Cert.FfnActGradReferenceIdeal.τ).loc Cert.FfnActGradReferenceIdeal.main_arg1)) (m ((c.tc : Thread Cert.FfnActGradReferenceIdeal.nD Cert.FfnActGradReferenceIdeal.τ).loc Cert.FfnActGradReferenceIdeal.main_arg2)) (m ((c.tc : Thread Cert.FfnActGradReferenceIdeal.nD Cert.FfnActGradReferenceIdeal.τ).loc Cert.FfnActGradReferenceIdeal.main_arg3))) = (fun _ => 1#1)

def Pre_FfnConvGrad (m : (ℓ : Loc Cert.FfnConvGrad.nD Cert.FfnConvGrad.τ Cert.FfnConvGrad.sig) → Buf (Elt Bits) ℓ) : Prop :=
  True

def Pre_FfnConvGradIdeal (m : (ℓ : Loc Cert.FfnConvGradIdeal.nD Cert.FfnConvGradIdeal.τ Cert.FfnConvGradIdeal.sig) → Buf (Elt Ideal) ℓ) : Prop :=
  True

def Pre_FfnConvGradReferenceIdeal (m : (ℓ : Loc Cert.FfnConvGradReferenceIdeal.nD Cert.FfnConvGradReferenceIdeal.τ Cert.FfnConvGradReferenceIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradIdeal_finite_norm [hPre_finite_norm : Cert.Pre_finite_norm.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_finite_norm.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4))) = (fun _ => 1#1)

def Pre_NormGradReferenceIdeal (m : (ℓ : Loc Cert.NormGradReferenceIdeal.nD Cert.NormGradReferenceIdeal.τ Cert.NormGradReferenceIdeal.sig) → Buf (Elt Ideal) ℓ) : Prop :=
  True

def Pre_NormGradReferenceIdeal_finite_norm [hPre_finite_norm : Cert.Pre_finite_norm.Facts] (m : (ℓ : Loc Cert.NormGradReferenceIdeal.nD Cert.NormGradReferenceIdeal.τ Cert.NormGradReferenceIdeal.sig) → Buf (Elt Ideal) ℓ) : Prop :=
  ∀ c : Dev Cert.NormGradReferenceIdeal.nD,
    (Cert.Pre_finite_norm.fn (F := Ideal) (m ((c.tc : Thread Cert.NormGradReferenceIdeal.nD Cert.NormGradReferenceIdeal.τ).loc Cert.NormGradReferenceIdeal.main_arg0)) (m ((c.tc : Thread Cert.NormGradReferenceIdeal.nD Cert.NormGradReferenceIdeal.τ).loc Cert.NormGradReferenceIdeal.main_arg1)) (m ((c.tc : Thread Cert.NormGradReferenceIdeal.nD Cert.NormGradReferenceIdeal.τ).loc Cert.NormGradReferenceIdeal.main_arg2)) (m ((c.tc : Thread Cert.NormGradReferenceIdeal.nD Cert.NormGradReferenceIdeal.τ).loc Cert.NormGradReferenceIdeal.main_arg3)) (m ((c.tc : Thread Cert.NormGradReferenceIdeal.nD Cert.NormGradReferenceIdeal.τ).loc Cert.NormGradReferenceIdeal.main_arg4))) = (fun _ => 1#1)

def Pre_NormTopGrad (m : (ℓ : Loc Cert.NormTopGrad.nD Cert.NormTopGrad.τ Cert.NormTopGrad.sig) → Buf (Elt Bits) ℓ) : Prop :=
  True

def Pre_NormTopGradIdeal (m : (ℓ : Loc Cert.NormTopGradIdeal.nD Cert.NormTopGradIdeal.τ Cert.NormTopGradIdeal.sig) → Buf (Elt Ideal) ℓ) : Prop :=
  True

def Pre_NormTopGradIdeal_finite_top [hPre_finite_top : Cert.Pre_finite_top.Facts] (m : (ℓ : Loc Cert.NormTopGradIdeal.nD Cert.NormTopGradIdeal.τ Cert.NormTopGradIdeal.sig) → Buf (Elt Ideal) ℓ) : Prop :=
  ∀ c : Dev Cert.NormTopGradIdeal.nD,
    (Cert.Pre_finite_top.fn (F := Ideal) (m ((c.tc : Thread Cert.NormTopGradIdeal.nD Cert.NormTopGradIdeal.τ).loc Cert.NormTopGradIdeal.main_arg0)) (m ((c.tc : Thread Cert.NormTopGradIdeal.nD Cert.NormTopGradIdeal.τ).loc Cert.NormTopGradIdeal.main_arg1)) (m ((c.tc : Thread Cert.NormTopGradIdeal.nD Cert.NormTopGradIdeal.τ).loc Cert.NormTopGradIdeal.main_arg2)) (m ((c.tc : Thread Cert.NormTopGradIdeal.nD Cert.NormTopGradIdeal.τ).loc Cert.NormTopGradIdeal.main_arg3))) = (fun _ => 1#1)

def Pre_NormTopGradReferenceIdeal (m : (ℓ : Loc Cert.NormTopGradReferenceIdeal.nD Cert.NormTopGradReferenceIdeal.τ Cert.NormTopGradReferenceIdeal.sig) → Buf (Elt Ideal) ℓ) : Prop :=
  True

def Pre_NormTopGradReferenceIdeal_finite_top [hPre_finite_top : Cert.Pre_finite_top.Facts] (m : (ℓ : Loc Cert.NormTopGradReferenceIdeal.nD Cert.NormTopGradReferenceIdeal.τ Cert.NormTopGradReferenceIdeal.sig) → Buf (Elt Ideal) ℓ) : Prop :=
  ∀ c : Dev Cert.NormTopGradReferenceIdeal.nD,
    (Cert.Pre_finite_top.fn (F := Ideal) (m ((c.tc : Thread Cert.NormTopGradReferenceIdeal.nD Cert.NormTopGradReferenceIdeal.τ).loc Cert.NormTopGradReferenceIdeal.main_arg0)) (m ((c.tc : Thread Cert.NormTopGradReferenceIdeal.nD Cert.NormTopGradReferenceIdeal.τ).loc Cert.NormTopGradReferenceIdeal.main_arg1)) (m ((c.tc : Thread Cert.NormTopGradReferenceIdeal.nD Cert.NormTopGradReferenceIdeal.τ).loc Cert.NormTopGradReferenceIdeal.main_arg2)) (m ((c.tc : Thread Cert.NormTopGradReferenceIdeal.nD Cert.NormTopGradReferenceIdeal.τ).loc Cert.NormTopGradReferenceIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_S5Out (m : (ℓ : Loc Cert.S5Out.nD Cert.S5Out.τ Cert.S5Out.sig) → Buf (Elt Bits) ℓ) : Prop :=
  True

def Pre_S5OutIdeal (m : (ℓ : Loc Cert.S5OutIdeal.nD Cert.S5OutIdeal.τ Cert.S5OutIdeal.sig) → Buf (Elt Ideal) ℓ) : Prop :=
  True

def Pre_S5OutReferenceIdeal (m : (ℓ : Loc Cert.S5OutReferenceIdeal.nD Cert.S5OutReferenceIdeal.τ Cert.S5OutReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_RopeGrad (m : (ℓ : Loc Cert.RopeGrad.nD Cert.RopeGrad.τ Cert.RopeGrad.sig) → Buf (Elt Bits) ℓ) : Prop :=
  True

def Pre_RopeGradIdeal (m : (ℓ : Loc Cert.RopeGradIdeal.nD Cert.RopeGradIdeal.τ Cert.RopeGradIdeal.sig) → Buf (Elt Ideal) ℓ) : Prop :=
  True

def Pre_RopeGradReferenceIdeal (m : (ℓ : Loc Cert.RopeGradReferenceIdeal.nD Cert.RopeGradReferenceIdeal.τ Cert.RopeGradReferenceIdeal.sig) → Buf (Elt Ideal) ℓ) : Prop :=
  True

def Pre_S5Bu (m : (ℓ : Loc Cert.S5Bu.nD Cert.S5Bu.τ Cert.S5Bu.sig) → Buf (Elt Bits) ℓ) : Prop :=
  True

def Pre_S5BuIdeal (m : (ℓ : Loc Cert.S5BuIdeal.nD Cert.S5BuIdeal.τ Cert.S5BuIdeal.sig) → Buf (Elt Ideal) ℓ) : Prop :=
  True

def Pre_S5BuReferenceIdeal (m : (ℓ : Loc Cert.S5BuReferenceIdeal.nD Cert.S5BuReferenceIdeal.τ Cert.S5BuReferenceIdeal.sig) → Buf (Elt Ideal) ℓ) : Prop :=
  True

def Pre_S5Y (m : (ℓ : Loc Cert.S5Y.nD Cert.S5Y.τ Cert.S5Y.sig) → Buf (Elt Bits) ℓ) : Prop :=
  True

def Pre_S5YIdeal (m : (ℓ : Loc Cert.S5YIdeal.nD Cert.S5YIdeal.τ Cert.S5YIdeal.sig) → Buf (Elt Ideal) ℓ) : Prop :=
  True

def Pre_S5YReferenceIdeal (m : (ℓ : Loc Cert.S5YReferenceIdeal.nD Cert.S5YReferenceIdeal.τ Cert.S5YReferenceIdeal.sig) → Buf (Elt Ideal) ℓ) : Prop :=
  True

def Pre_S5Dx (m : (ℓ : Loc Cert.S5Dx.nD Cert.S5Dx.τ Cert.S5Dx.sig) → Buf (Elt Bits) ℓ) : Prop :=
  True

def Pre_S5DxIdeal (m : (ℓ : Loc Cert.S5DxIdeal.nD Cert.S5DxIdeal.τ Cert.S5DxIdeal.sig) → Buf (Elt Ideal) ℓ) : Prop :=
  True

def Pre_S5DxReferenceIdeal (m : (ℓ : Loc Cert.S5DxReferenceIdeal.nD Cert.S5DxReferenceIdeal.τ Cert.S5DxReferenceIdeal.sig) → Buf (Elt Ideal) ℓ) : Prop :=
  True

def Pre_S5Dc (m : (ℓ : Loc Cert.S5Dc.nD Cert.S5Dc.τ Cert.S5Dc.sig) → Buf (Elt Bits) ℓ) : Prop :=
  True

def Pre_S5DcIdeal (m : (ℓ : Loc Cert.S5DcIdeal.nD Cert.S5DcIdeal.τ Cert.S5DcIdeal.sig) → Buf (Elt Ideal) ℓ) : Prop :=
  True

def Pre_S5DcReferenceIdeal (m : (ℓ : Loc Cert.S5DcReferenceIdeal.nD Cert.S5DcReferenceIdeal.τ Cert.S5DcReferenceIdeal.sig) → Buf (Elt Ideal) ℓ) : Prop :=
  True

def Pre_S5Du (m : (ℓ : Loc Cert.S5Du.nD Cert.S5Du.τ Cert.S5Du.sig) → Buf (Elt Bits) ℓ) : Prop :=
  True

def Pre_S5DuIdeal (m : (ℓ : Loc Cert.S5DuIdeal.nD Cert.S5DuIdeal.τ Cert.S5DuIdeal.sig) → Buf (Elt Ideal) ℓ) : Prop :=
  True

def Pre_S5DuReferenceIdeal (m : (ℓ : Loc Cert.S5DuReferenceIdeal.nD Cert.S5DuReferenceIdeal.τ Cert.S5DuReferenceIdeal.sig) → Buf (Elt Ideal) ℓ) : Prop :=
  True

def Pre_S5Db (m : (ℓ : Loc Cert.S5Db.nD Cert.S5Db.τ Cert.S5Db.sig) → Buf (Elt Bits) ℓ) : Prop :=
  True

def Pre_S5DbIdeal (m : (ℓ : Loc Cert.S5DbIdeal.nD Cert.S5DbIdeal.τ Cert.S5DbIdeal.sig) → Buf (Elt Ideal) ℓ) : Prop :=
  True

def Pre_S5DbReferenceIdeal (m : (ℓ : Loc Cert.S5DbReferenceIdeal.nD Cert.S5DbReferenceIdeal.τ Cert.S5DbReferenceIdeal.sig) → Buf (Elt Ideal) ℓ) : Prop :=
  True

def Pre_LruConvGrad (m : (ℓ : Loc Cert.LruConvGrad.nD Cert.LruConvGrad.τ Cert.LruConvGrad.sig) → Buf (Elt Bits) ℓ) : Prop :=
  True

def Pre_LruConvGradIdeal (m : (ℓ : Loc Cert.LruConvGradIdeal.nD Cert.LruConvGradIdeal.τ Cert.LruConvGradIdeal.sig) → Buf (Elt Ideal) ℓ) : Prop :=
  True

def Pre_LruConvGradReferenceIdeal (m : (ℓ : Loc Cert.LruConvGradReferenceIdeal.nD Cert.LruConvGradReferenceIdeal.τ Cert.LruConvGradReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamFfnConv (m : (ℓ : Loc Cert.AdamFfnConv.nD Cert.AdamFfnConv.τ Cert.AdamFfnConv.sig) → Buf (Elt Bits) ℓ) : Prop :=
  True

def Pre_AdamFfnConvIdeal (m : (ℓ : Loc Cert.AdamFfnConvIdeal.nD Cert.AdamFfnConvIdeal.τ Cert.AdamFfnConvIdeal.sig) → Buf (Elt Ideal) ℓ) : Prop :=
  True

def Pre_AdamFfnConvReferenceIdeal (m : (ℓ : Loc Cert.AdamFfnConvReferenceIdeal.nD Cert.AdamFfnConvReferenceIdeal.τ Cert.AdamFfnConvReferenceIdeal.sig) → Buf (Elt Ideal) ℓ) : Prop :=
  True

def Pre_AdamLruConv (m : (ℓ : Loc Cert.AdamLruConv.nD Cert.AdamLruConv.τ Cert.AdamLruConv.sig) → Buf (Elt Bits) ℓ) : Prop :=
  True

def Pre_AdamLruConvIdeal (m : (ℓ : Loc Cert.AdamLruConvIdeal.nD Cert.AdamLruConvIdeal.τ Cert.AdamLruConvIdeal.sig) → Buf (Elt Ideal) ℓ) : Prop :=
  True

def Pre_AdamLruConvReferenceIdeal (m : (ℓ : Loc Cert.AdamLruConvReferenceIdeal.nD Cert.AdamLruConvReferenceIdeal.τ Cert.AdamLruConvReferenceIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumReferenceIdeal (m : (ℓ : Loc Cert.PairSumReferenceIdeal.nD Cert.PairSumReferenceIdeal.τ Cert.PairSumReferenceIdeal.sig) → Buf (Elt Ideal) ℓ) : Prop :=
  True

def Pre_S5Params (m : (ℓ : Loc Cert.S5Params.nD Cert.S5Params.τ Cert.S5Params.sig) → Buf (Elt Bits) ℓ) : Prop :=
  True

def Pre_S5ParamsIdeal (m : (ℓ : Loc Cert.S5ParamsIdeal.nD Cert.S5ParamsIdeal.τ Cert.S5ParamsIdeal.sig) → Buf (Elt Ideal) ℓ) : Prop :=
  True

def Pre_S5ParamsReferenceIdeal (m : (ℓ : Loc Cert.S5ParamsReferenceIdeal.nD Cert.S5ParamsReferenceIdeal.τ Cert.S5ParamsReferenceIdeal.sig) → Buf (Elt Ideal) ℓ) : Prop :=
  True

def Pre_S5ParamsGrad (m : (ℓ : Loc Cert.S5ParamsGrad.nD Cert.S5ParamsGrad.τ Cert.S5ParamsGrad.sig) → Buf (Elt Bits) ℓ) : Prop :=
  True

def Pre_S5ParamsGradIdeal (m : (ℓ : Loc Cert.S5ParamsGradIdeal.nD Cert.S5ParamsGradIdeal.τ Cert.S5ParamsGradIdeal.sig) → Buf (Elt Ideal) ℓ) : Prop :=
  True

def Pre_S5ParamsGradReferenceIdeal (m : (ℓ : Loc Cert.S5ParamsGradReferenceIdeal.nD Cert.S5ParamsGradReferenceIdeal.τ Cert.S5ParamsGradReferenceIdeal.sig) → Buf (Elt Ideal) ℓ) : Prop :=
  True

def Pre_S5OutGrad (m : (ℓ : Loc Cert.S5OutGrad.nD Cert.S5OutGrad.τ Cert.S5OutGrad.sig) → Buf (Elt Bits) ℓ) : Prop :=
  True

def Pre_S5OutGradIdeal (m : (ℓ : Loc Cert.S5OutGradIdeal.nD Cert.S5OutGradIdeal.τ Cert.S5OutGradIdeal.sig) → Buf (Elt Ideal) ℓ) : Prop :=
  True

def Pre_S5OutGradIdeal_finite_s5 [hPre_finite_s5 : Cert.Pre_finite_s5.Facts] (m : (ℓ : Loc Cert.S5OutGradIdeal.nD Cert.S5OutGradIdeal.τ Cert.S5OutGradIdeal.sig) → Buf (Elt Ideal) ℓ) : Prop :=
  ∀ c : Dev Cert.S5OutGradIdeal.nD,
    (Cert.Pre_finite_s5.fn (F := Ideal) (m ((c.tc : Thread Cert.S5OutGradIdeal.nD Cert.S5OutGradIdeal.τ).loc Cert.S5OutGradIdeal.main_arg0)) (m ((c.tc : Thread Cert.S5OutGradIdeal.nD Cert.S5OutGradIdeal.τ).loc Cert.S5OutGradIdeal.main_arg1)) (m ((c.tc : Thread Cert.S5OutGradIdeal.nD Cert.S5OutGradIdeal.τ).loc Cert.S5OutGradIdeal.main_arg2)) (m ((c.tc : Thread Cert.S5OutGradIdeal.nD Cert.S5OutGradIdeal.τ).loc Cert.S5OutGradIdeal.main_arg3)) (m ((c.tc : Thread Cert.S5OutGradIdeal.nD Cert.S5OutGradIdeal.τ).loc Cert.S5OutGradIdeal.main_arg4)) (m ((c.tc : Thread Cert.S5OutGradIdeal.nD Cert.S5OutGradIdeal.τ).loc Cert.S5OutGradIdeal.main_arg5))) = (fun _ => 1#1)

def Pre_S5OutGradReferenceIdeal (m : (ℓ : Loc Cert.S5OutGradReferenceIdeal.nD Cert.S5OutGradReferenceIdeal.τ Cert.S5OutGradReferenceIdeal.sig) → Buf (Elt Ideal) ℓ) : Prop :=
  True

def Pre_S5OutGradReferenceIdeal_finite_s5 [hPre_finite_s5 : Cert.Pre_finite_s5.Facts] (m : (ℓ : Loc Cert.S5OutGradReferenceIdeal.nD Cert.S5OutGradReferenceIdeal.τ Cert.S5OutGradReferenceIdeal.sig) → Buf (Elt Ideal) ℓ) : Prop :=
  ∀ c : Dev Cert.S5OutGradReferenceIdeal.nD,
    (Cert.Pre_finite_s5.fn (F := Ideal) (m ((c.tc : Thread Cert.S5OutGradReferenceIdeal.nD Cert.S5OutGradReferenceIdeal.τ).loc Cert.S5OutGradReferenceIdeal.main_arg0)) (m ((c.tc : Thread Cert.S5OutGradReferenceIdeal.nD Cert.S5OutGradReferenceIdeal.τ).loc Cert.S5OutGradReferenceIdeal.main_arg1)) (m ((c.tc : Thread Cert.S5OutGradReferenceIdeal.nD Cert.S5OutGradReferenceIdeal.τ).loc Cert.S5OutGradReferenceIdeal.main_arg2)) (m ((c.tc : Thread Cert.S5OutGradReferenceIdeal.nD Cert.S5OutGradReferenceIdeal.τ).loc Cert.S5OutGradReferenceIdeal.main_arg3)) (m ((c.tc : Thread Cert.S5OutGradReferenceIdeal.nD Cert.S5OutGradReferenceIdeal.τ).loc Cert.S5OutGradReferenceIdeal.main_arg4)) (m ((c.tc : Thread Cert.S5OutGradReferenceIdeal.nD Cert.S5OutGradReferenceIdeal.τ).loc Cert.S5OutGradReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1)
      ∧ r.2.mem ((c.tc : Thread Cert.ProjDw.nD Cert.ProjDw.τ).loc Cert.ProjDw.main_arg2) = m ((c.tc : Thread Cert.ProjDw.nD Cert.ProjDw.τ).loc Cert.ProjDw.main_arg2))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
      ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ r.2.sem = fun _ => 0)

def quiescent_ProjDwReferenceIdeal [hProjDwReferenceIdeal : Cert.ProjDwReferenceIdeal.Facts] : Prop :=
  ∀ (m : (ℓ : Loc Cert.ProjDwReferenceIdeal.nD Cert.ProjDwReferenceIdeal.τ Cert.ProjDwReferenceIdeal.sig) → Buf (Elt Ideal) ℓ) (g : Dev Cert.ProjDwReferenceIdeal.nD → PrngReg), Pre_ProjDwReferenceIdeal m →
    θ_run (Cert.ProjDwReferenceIdeal.defs (F := Ideal)) (onTc (τ := Cert.ProjDwReferenceIdeal.τ) (Cert.ProjDwReferenceIdeal.main (F := Ideal))) ⟨m, fun _ => 0, g⟩ (fun r => (∀ c : Dev Cert.ProjDwReferenceIdeal.nD,
      r.2.mem ((c.tc : Thread Cert.ProjDwReferenceIdeal.nD Cert.ProjDwReferenceIdeal.τ).loc Cert.ProjDwReferenceIdeal.main_arg0) = m ((c.tc : Thread Cert.ProjDwReferenceIdeal.nD Cert.ProjDwReferenceIdeal.τ).loc Cert.ProjDwReferenceIdeal.main_arg0)
      ∧ r.2.mem ((c.tc : Thread Cert.ProjDwReferenceIdeal.nD Cert.ProjDwReferenceIdeal.τ).loc Cert.ProjDwReferenceIdeal.main_arg1) = m ((c.tc : Thread Cert.ProjDwReferenceIdeal.nD Cert.ProjDwReferenceIdeal.τ).loc Cert.ProjDwReferenceIdeal.main_arg1)
      ∧ r.2.mem ((c.tc : Thread Cert.ProjDwReferenceIdeal.nD Cert.ProjDwReferenceIdeal.τ).loc Cert.ProjDwReferenceIdeal.main_arg2) = m ((c.tc : Thread Cert.ProjDwReferenceIdeal.nD Cert.ProjDwReferenceIdeal.τ).loc Cert.ProjDwReferenceIdeal.main_arg2))
      ∧ r.2.sem = fun _ => 0)

def quiescent_ProjDh [hProjDh : Cert.ProjDh.Facts] : Prop :=
  ∀ (m : (ℓ : Loc Cert.ProjDh.nD Cert.ProjDh.τ Cert.ProjDh.sig) → Buf (Elt Bits) ℓ) (g : Dev Cert.ProjDh.nD → PrngReg), Pre_ProjDh m →
    θ_run (Cert.ProjDh.defs (F := Bits)) (onTc (τ := Cert.ProjDh.τ) (Cert.ProjDh.main (F := Bits))) ⟨m, fun _ => 0, g⟩ (fun r => (∀ c : Dev Cert.ProjDh.nD,
      r.2.mem ((c.tc : Thread Cert.ProjDh.nD Cert.ProjDh.τ).loc Cert.ProjDh.main_arg0) = m ((c.tc : Thread Cert.ProjDh.nD Cert.ProjDh.τ).loc Cert.ProjDh.main_arg0)
      ∧ r.2.mem ((c.tc : Thread Cert.ProjDh.nD Cert.ProjDh.τ).loc Cert.ProjDh.main_arg1) = m ((c.tc : Thread Cert.ProjDh.nD Cert.ProjDh.τ).loc Cert.ProjDh.main_arg1)
      ∧ r.2.mem ((c.tc : Thread Cert.ProjDh.nD Cert.ProjDh.τ).loc Cert.ProjDh.main_arg2) = m ((c.tc : Thread Cert.ProjDh.nD Cert.ProjDh.τ).loc Cert.ProjDh.main_arg2))
      ∧ r.2.sem = fun _ => 0)

def quiescent_ProjDhIdeal [hProjDhIdeal : Cert.ProjDhIdeal.Facts] : Prop :=
  ∀ (m : (ℓ : Loc Cert.ProjDhIdeal.nD Cert.ProjDhIdeal.τ Cert.ProjDhIdeal.sig) → Buf (Elt Ideal) ℓ) (g : Dev Cert.ProjDhIdeal.nD → PrngReg), Pre_ProjDhIdeal m →
    θ_run (Cert.ProjDhIdeal.defs (F := Ideal)) (onTc (τ := Cert.ProjDhIdeal.τ) (Cert.ProjDhIdeal.main (F := Ideal))) ⟨m, fun _ => 0, g⟩ (fun r => (∀ c : Dev Cert.ProjDhIdeal.nD,
      r.2.mem ((c.tc : Thread Cert.ProjDhIdeal.nD Cert.ProjDhIdeal.τ).loc Cert.ProjDhIdeal.main_arg0) = m ((c.tc : Thread Cert.ProjDhIdeal.nD Cert.ProjDhIdeal.τ).loc Cert.ProjDhIdeal.main_arg0)
      ∧ r.2.mem ((c.tc : Thread Cert.ProjDhIdeal.nD Cert.ProjDhIdeal.τ).loc Cert.ProjDhIdeal.main_arg1) = m ((c.tc : Thread Cert.ProjDhIdeal.nD Cert.ProjDhIdeal.τ).loc Cert.ProjDhIdeal.main_arg1)
      ∧ r.2.mem ((c.tc : Thread Cert.ProjDhIdeal.nD Cert.ProjDhIdeal.τ).loc Cert.ProjDhIdeal.main_arg2) = m ((c.tc : Thread Cert.ProjDhIdeal.nD Cert.ProjDhIdeal.τ).loc Cert.ProjDhIdeal.main_arg2))
      ∧ r.2.sem = fun _ => 0)

def quiescent_ProjDhReferenceIdeal [hProjDhReferenceIdeal : Cert.ProjDhReferenceIdeal.Facts] : Prop :=
  ∀ (m : (ℓ : Loc Cert.ProjDhReferenceIdeal.nD Cert.ProjDhReferenceIdeal.τ Cert.ProjDhReferenceIdeal.sig) → Buf (Elt Ideal) ℓ) (g : Dev Cert.ProjDhReferenceIdeal.nD → PrngReg), Pre_ProjDhReferenceIdeal m →
    θ_run (Cert.ProjDhReferenceIdeal.defs (F := Ideal)) (onTc (τ := Cert.ProjDhReferenceIdeal.τ) (Cert.ProjDhReferenceIdeal.main (F := Ideal))) ⟨m, fun _ => 0, g⟩ (fun r => (∀ c : Dev Cert.ProjDhReferenceIdeal.nD,
      r.2.mem ((c.tc : Thread Cert.ProjDhReferenceIdeal.nD Cert.ProjDhReferenceIdeal.τ).loc Cert.ProjDhReferenceIdeal.main_arg0) = m ((c.tc : Thread Cert.ProjDhReferenceIdeal.nD Cert.ProjDhReferenceIdeal.τ).loc Cert.ProjDhReferenceIdeal.main_arg0)
      ∧ r.2.mem ((c.tc : Thread Cert.ProjDhReferenceIdeal.nD Cert.ProjDhReferenceIdeal.τ).loc Cert.ProjDhReferenceIdeal.main_arg1) = m ((c.tc : Thread Cert.ProjDhReferenceIdeal.nD Cert.ProjDhReferenceIdeal.τ).loc Cert.ProjDhReferenceIdeal.main_arg1)
      ∧ r.2.mem ((c.tc : Thread Cert.ProjDhReferenceIdeal.nD Cert.ProjDhReferenceIdeal.τ).loc Cert.ProjDhReferenceIdeal.main_arg2) = m ((c.tc : Thread Cert.ProjDhReferenceIdeal.nD Cert.ProjDhReferenceIdeal.τ).loc Cert.ProjDhReferenceIdeal.main_arg2))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2)
      ∧ r.2.mem ((c.tc : Thread Cert.ProjDx.nD Cert.ProjDx.τ).loc Cert.ProjDx.main_arg3) = m ((c.tc : Thread Cert.ProjDx.nD Cert.ProjDx.τ).loc Cert.ProjDx.main_arg3))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
      ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3))
      ∧ r.2.sem = fun _ => 0)

def quiescent_ProjDxReferenceIdeal [hProjDxReferenceIdeal : Cert.ProjDxReferenceIdeal.Facts] : Prop :=
  ∀ (m : (ℓ : Loc Cert.ProjDxReferenceIdeal.nD Cert.ProjDxReferenceIdeal.τ Cert.ProjDxReferenceIdeal.sig) → Buf (Elt Ideal) ℓ) (g : Dev Cert.ProjDxReferenceIdeal.nD → PrngReg), Pre_ProjDxReferenceIdeal m →
    θ_run (Cert.ProjDxReferenceIdeal.defs (F := Ideal)) (onTc (τ := Cert.ProjDxReferenceIdeal.τ) (Cert.ProjDxReferenceIdeal.main (F := Ideal))) ⟨m, fun _ => 0, g⟩ (fun r => (∀ c : Dev Cert.ProjDxReferenceIdeal.nD,
      r.2.mem ((c.tc : Thread Cert.ProjDxReferenceIdeal.nD Cert.ProjDxReferenceIdeal.τ).loc Cert.ProjDxReferenceIdeal.main_arg0) = m ((c.tc : Thread Cert.ProjDxReferenceIdeal.nD Cert.ProjDxReferenceIdeal.τ).loc Cert.ProjDxReferenceIdeal.main_arg0)
      ∧ r.2.mem ((c.tc : Thread Cert.ProjDxReferenceIdeal.nD Cert.ProjDxReferenceIdeal.τ).loc Cert.ProjDxReferenceIdeal.main_arg1) = m ((c.tc : Thread Cert.ProjDxReferenceIdeal.nD Cert.ProjDxReferenceIdeal.τ).loc Cert.ProjDxReferenceIdeal.main_arg1)
      ∧ r.2.mem ((c.tc : Thread Cert.ProjDxReferenceIdeal.nD Cert.ProjDxReferenceIdeal.τ).loc Cert.ProjDxReferenceIdeal.main_arg2) = m ((c.tc : Thread Cert.ProjDxReferenceIdeal.nD Cert.ProjDxReferenceIdeal.τ).loc Cert.ProjDxReferenceIdeal.main_arg2)
      ∧ r.2.mem ((c.tc : Thread Cert.ProjDxReferenceIdeal.nD Cert.ProjDxReferenceIdeal.τ).loc Cert.ProjDxReferenceIdeal.main_arg3) = m ((c.tc : Thread Cert.ProjDxReferenceIdeal.nD Cert.ProjDxReferenceIdeal.τ).loc Cert.ProjDxReferenceIdeal.main_arg3))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1)
      ∧ r.2.mem ((c.tc : Thread Cert.OutDxReferenceIdeal.nD Cert.OutDxReferenceIdeal.τ).loc Cert.OutDxReferenceIdeal.main_arg2) = m ((c.tc : Thread Cert.OutDxReferenceIdeal.nD Cert.OutDxReferenceIdeal.τ).loc Cert.OutDxReferenceIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1)
      ∧ r.2.mem ((c.tc : Thread Cert.OutDwReferenceIdeal.nD Cert.OutDwReferenceIdeal.τ).loc Cert.OutDwReferenceIdeal.main_arg2) = m ((c.tc : Thread Cert.OutDwReferenceIdeal.nD Cert.OutDwReferenceIdeal.τ).loc Cert.OutDwReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1)
      ∧ r.2.mem ((c.tc : Thread Cert.UpDwReferenceIdeal.nD Cert.UpDwReferenceIdeal.τ).loc Cert.UpDwReferenceIdeal.main_arg2) = m ((c.tc : Thread Cert.UpDwReferenceIdeal.nD Cert.UpDwReferenceIdeal.τ).loc Cert.UpDwReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3)
      ∧ r.2.mem ((c.tc : Thread Cert.OutNorm.nD Cert.OutNorm.τ).loc Cert.OutNorm.main_arg4) = m ((c.tc : Thread Cert.OutNorm.nD Cert.OutNorm.τ).loc Cert.OutNorm.main_arg4))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
      ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ r.2.sem = fun _ => 0)

def quiescent_OutNormReferenceIdeal [hOutNormReferenceIdeal : Cert.OutNormReferenceIdeal.Facts] : Prop :=
  ∀ (m : (ℓ : Loc Cert.OutNormReferenceIdeal.nD Cert.OutNormReferenceIdeal.τ Cert.OutNormReferenceIdeal.sig) → Buf (Elt Ideal) ℓ) (g : Dev Cert.OutNormReferenceIdeal.nD → PrngReg), Pre_OutNormReferenceIdeal m →
    θ_run (Cert.OutNormReferenceIdeal.defs (F := Ideal)) (onTc (τ := Cert.OutNormReferenceIdeal.τ) (Cert.OutNormReferenceIdeal.main (F := Ideal))) ⟨m, fun _ => 0, g⟩ (fun r => (∀ c : Dev Cert.OutNormReferenceIdeal.nD,
      r.2.mem ((c.tc : Thread Cert.OutNormReferenceIdeal.nD Cert.OutNormReferenceIdeal.τ).loc Cert.OutNormReferenceIdeal.main_arg0) = m ((c.tc : Thread Cert.OutNormReferenceIdeal.nD Cert.OutNormReferenceIdeal.τ).loc Cert.OutNormReferenceIdeal.main_arg0)
      ∧ r.2.mem ((c.tc : Thread Cert.OutNormReferenceIdeal.nD Cert.OutNormReferenceIdeal.τ).loc Cert.OutNormReferenceIdeal.main_arg1) = m ((c.tc : Thread Cert.OutNormReferenceIdeal.nD Cert.OutNormReferenceIdeal.τ).loc Cert.OutNormReferenceIdeal.main_arg1)
      ∧ r.2.mem ((c.tc : Thread Cert.OutNormReferenceIdeal.nD Cert.OutNormReferenceIdeal.τ).loc Cert.OutNormReferenceIdeal.main_arg2) = m ((c.tc : Thread Cert.OutNormReferenceIdeal.nD Cert.OutNormReferenceIdeal.τ).loc Cert.OutNormReferenceIdeal.main_arg2)
      ∧ r.2.mem ((c.tc : Thread Cert.OutNormReferenceIdeal.nD Cert.OutNormReferenceIdeal.τ).loc Cert.OutNormReferenceIdeal.main_arg3) = m ((c.tc : Thread Cert.OutNormReferenceIdeal.nD Cert.OutNormReferenceIdeal.τ).loc Cert.OutNormReferenceIdeal.main_arg3)
      ∧ r.2.mem ((c.tc : Thread Cert.OutNormReferenceIdeal.nD Cert.OutNormReferenceIdeal.τ).loc Cert.OutNormReferenceIdeal.main_arg4) = m ((c.tc : Thread Cert.OutNormReferenceIdeal.nD Cert.OutNormReferenceIdeal.τ).loc Cert.OutNormReferenceIdeal.main_arg4))
      ∧ r.2.sem = fun _ => 0)

def quiescent_DownNorm [hDownNorm : Cert.DownNorm.Facts] : Prop :=
  ∀ (m : (ℓ : Loc Cert.DownNorm.nD Cert.DownNorm.τ Cert.DownNorm.sig) → Buf (Elt Bits) ℓ) (g : Dev Cert.DownNorm.nD → PrngReg), Pre_DownNorm m →
    θ_run (Cert.DownNorm.defs (F := Bits)) (onTc (τ := Cert.DownNorm.τ) (Cert.DownNorm.main (F := Bits))) ⟨m, fun _ => 0, g⟩ (fun r => (∀ c : Dev Cert.DownNorm.nD,
      r.2.mem ((c.tc : Thread Cert.DownNorm.nD Cert.DownNorm.τ).loc Cert.DownNorm.main_arg0) = m ((c.tc : Thread Cert.DownNorm.nD Cert.DownNorm.τ).loc Cert.DownNorm.main_arg0)
      ∧ r.2.mem ((c.tc : Thread Cert.DownNorm.nD Cert.DownNorm.τ).loc Cert.DownNorm.main_arg1) = m ((c.tc : Thread Cert.DownNorm.nD Cert.DownNorm.τ).loc Cert.DownNorm.main_arg1)
      ∧ r.2.mem ((c.tc : Thread Cert.DownNorm.nD Cert.DownNorm.τ).loc Cert.DownNorm.main_arg2) = m ((c.tc : Thread Cert.DownNorm.nD Cert.DownNorm.τ).loc Cert.DownNorm.main_arg2)
      ∧ r.2.mem ((c.tc : Thread Cert.DownNorm.nD Cert.DownNorm.τ).loc Cert.DownNorm.main_arg3) = m ((c.tc : Thread Cert.DownNorm.nD Cert.DownNorm.τ).loc Cert.DownNorm.main_arg3)
      ∧ r.2.mem ((c.tc : Thread Cert.DownNorm.nD Cert.DownNorm.τ).loc Cert.DownNorm.main_arg4) = m ((c.tc : Thread Cert.DownNorm.nD Cert.DownNorm.τ).loc Cert.DownNorm.main_arg4))
      ∧ r.2.sem = fun _ => 0)

def quiescent_DownNormIdeal [hDownNormIdeal : Cert.DownNormIdeal.Facts] : Prop :=
  ∀ (m : (ℓ : Loc Cert.DownNormIdeal.nD Cert.DownNormIdeal.τ Cert.DownNormIdeal.sig) → Buf (Elt Ideal) ℓ) (g : Dev Cert.DownNormIdeal.nD → PrngReg), Pre_DownNormIdeal m →
    θ_run (Cert.DownNormIdeal.defs (F := Ideal)) (onTc (τ := Cert.DownNormIdeal.τ) (Cert.DownNormIdeal.main (F := Ideal))) ⟨m, fun _ => 0, g⟩ (fun r => (∀ c : Dev Cert.DownNormIdeal.nD,
      r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
      ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
      ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
      ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3)
      ∧ r.2.mem ((c.tc : Thread Cert.DownNormIdeal.nD Cert.DownNormIdeal.τ).loc Cert.DownNormIdeal.main_arg4) = m ((c.tc : Thread Cert.DownNormIdeal.nD Cert.DownNormIdeal.τ).loc Cert.DownNormIdeal.main_arg4))
      ∧ r.2.sem = fun _ => 0)

def quiescent_DownNormReferenceIdeal [hDownNormReferenceIdeal : Cert.DownNormReferenceIdeal.Facts] : Prop :=
  ∀ (m : (ℓ : Loc Cert.DownNormReferenceIdeal.nD Cert.DownNormReferenceIdeal.τ Cert.DownNormReferenceIdeal.sig) → Buf (Elt Ideal) ℓ) (g : Dev Cert.DownNormReferenceIdeal.nD → PrngReg), Pre_DownNormReferenceIdeal m →
    θ_run (Cert.DownNormReferenceIdeal.defs (F := Ideal)) (onTc (τ := Cert.DownNormReferenceIdeal.τ) (Cert.DownNormReferenceIdeal.main (F := Ideal))) ⟨m, fun _ => 0, g⟩ (fun r => (∀ c : Dev Cert.DownNormReferenceIdeal.nD,
      r.2.mem ((c.tc : Thread Cert.DownNormReferenceIdeal.nD Cert.DownNormReferenceIdeal.τ).loc Cert.DownNormReferenceIdeal.main_arg0) = m ((c.tc : Thread Cert.DownNormReferenceIdeal.nD Cert.DownNormReferenceIdeal.τ).loc Cert.DownNormReferenceIdeal.main_arg0)
      ∧ r.2.mem ((c.tc : Thread Cert.DownNormReferenceIdeal.nD Cert.DownNormReferenceIdeal.τ).loc Cert.DownNormReferenceIdeal.main_arg1) = m ((c.tc : Thread Cert.DownNormReferenceIdeal.nD Cert.DownNormReferenceIdeal.τ).loc Cert.DownNormReferenceIdeal.main_arg1)
      ∧ r.2.mem ((c.tc : Thread Cert.DownNormReferenceIdeal.nD Cert.DownNormReferenceIdeal.τ).loc Cert.DownNormReferenceIdeal.main_arg2) = m ((c.tc : Thread Cert.DownNormReferenceIdeal.nD Cert.DownNormReferenceIdeal.τ).loc Cert.DownNormReferenceIdeal.main_arg2)
      ∧ r.2.mem ((c.tc : Thread Cert.DownNormReferenceIdeal.nD Cert.DownNormReferenceIdeal.τ).loc Cert.DownNormReferenceIdeal.main_arg3) = m ((c.tc : Thread Cert.DownNormReferenceIdeal.nD Cert.DownNormReferenceIdeal.τ).loc Cert.DownNormReferenceIdeal.main_arg3)
      ∧ r.2.mem ((c.tc : Thread Cert.DownNormReferenceIdeal.nD Cert.DownNormReferenceIdeal.τ).loc Cert.DownNormReferenceIdeal.main_arg4) = m ((c.tc : Thread Cert.DownNormReferenceIdeal.nD Cert.DownNormReferenceIdeal.τ).loc Cert.DownNormReferenceIdeal.main_arg4))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActReferenceIdeal [hFfnActReferenceIdeal : Cert.FfnActReferenceIdeal.Facts] : Prop :=
  ∀ (m : (ℓ : Loc Cert.FfnActReferenceIdeal.nD Cert.FfnActReferenceIdeal.τ Cert.FfnActReferenceIdeal.sig) → Buf (Elt Ideal) ℓ) (g : Dev Cert.FfnActReferenceIdeal.nD → PrngReg), Pre_FfnActReferenceIdeal m →
    θ_run (Cert.FfnActReferenceIdeal.defs (F := Ideal)) (onTc (τ := Cert.FfnActReferenceIdeal.τ) (Cert.FfnActReferenceIdeal.main (F := Ideal))) ⟨m, fun _ => 0, g⟩ (fun r => (∀ c : Dev Cert.FfnActReferenceIdeal.nD,
      r.2.mem ((c.tc : Thread Cert.FfnActReferenceIdeal.nD Cert.FfnActReferenceIdeal.τ).loc Cert.FfnActReferenceIdeal.main_arg0) = m ((c.tc : Thread Cert.FfnActReferenceIdeal.nD Cert.FfnActReferenceIdeal.τ).loc Cert.FfnActReferenceIdeal.main_arg0)
      ∧ r.2.mem ((c.tc : Thread Cert.FfnActReferenceIdeal.nD Cert.FfnActReferenceIdeal.τ).loc Cert.FfnActReferenceIdeal.main_arg1) = m ((c.tc : Thread Cert.FfnActReferenceIdeal.nD Cert.FfnActReferenceIdeal.τ).loc Cert.FfnActReferenceIdeal.main_arg1)
      ∧ r.2.mem ((c.tc : Thread Cert.FfnActReferenceIdeal.nD Cert.FfnActReferenceIdeal.τ).loc Cert.FfnActReferenceIdeal.main_arg2) = m ((c.tc : Thread Cert.FfnActReferenceIdeal.nD Cert.FfnActReferenceIdeal.τ).loc Cert.FfnActReferenceIdeal.main_arg2))
      ∧ r.2.sem = fun _ => 0)

def quiescent_FfnActGrad [hFfnActGrad : Cert.FfnActGrad.Facts] : Prop :=
  ∀ (m : (ℓ : Loc Cert.FfnActGrad.nD Cert.FfnActGrad.τ Cert.FfnActGrad.sig) → Buf (Elt Bits) ℓ) (g : Dev Cert.FfnActGrad.nD → PrngReg), Pre_FfnActGrad m →
    θ_run (Cert.FfnActGrad.defs (F := Bits)) (onTc (τ := Cert.FfnActGrad.τ) (Cert.FfnActGrad.main (F := Bits))) ⟨m, fun _ => 0, g⟩ (fun r => (∀ c : Dev Cert.FfnActGrad.nD,
      r.2.mem ((c.tc : Thread Cert.FfnActGrad.nD Cert.FfnActGrad.τ).loc Cert.FfnActGrad.main_arg0) = m ((c.tc : Thread Cert.FfnActGrad.nD Cert.FfnActGrad.τ).loc Cert.FfnActGrad.main_arg0)
      ∧ r.2.mem ((c.tc : Thread Cert.FfnActGrad.nD Cert.FfnActGrad.τ).loc Cert.FfnActGrad.main_arg1) = m ((c.tc : Thread Cert.FfnActGrad.nD Cert.FfnActGrad.τ).loc Cert.FfnActGrad.main_arg1)
      ∧ r.2.mem ((c.tc : Thread Cert.FfnActGrad.nD Cert.FfnActGrad.τ).loc Cert.FfnActGrad.main_arg2) = m ((c.tc : Thread Cert.FfnActGrad.nD Cert.FfnActGrad.τ).loc Cert.FfnActGrad.main_arg2)
      ∧ r.2.mem ((c.tc : Thread Cert.FfnActGrad.nD Cert.FfnActGrad.τ).loc Cert.FfnActGrad.main_arg3) = m ((c.tc : Thread Cert.FfnActGrad.nD Cert.FfnActGrad.τ).loc Cert.FfnActGrad.main_arg3))
      ∧ r.2.sem = fun _ => 0)

def quiescent_FfnActGradIdeal [hFfnActGradIdeal : Cert.FfnActGradIdeal.Facts] : Prop :=
  ∀ (m : (ℓ : Loc Cert.FfnActGradIdeal.nD Cert.FfnActGradIdeal.τ Cert.FfnActGradIdeal.sig) → Buf (Elt Ideal) ℓ) (g : Dev Cert.FfnActGradIdeal.nD → PrngReg), Pre_FfnActGradIdeal m →
    θ_run (Cert.FfnActGradIdeal.defs (F := Ideal)) (onTc (τ := Cert.FfnActGradIdeal.τ) (Cert.FfnActGradIdeal.main (F := Ideal))) ⟨m, fun _ => 0, g⟩ (fun r => (∀ c : Dev Cert.FfnActGradIdeal.nD,
      r.2.mem ((c.tc : Thread Cert.FfnActGradIdeal.nD Cert.FfnActGradIdeal.τ).loc Cert.FfnActGradIdeal.main_arg0) = m ((c.tc : Thread Cert.FfnActGradIdeal.nD Cert.FfnActGradIdeal.τ).loc Cert.FfnActGradIdeal.main_arg0)
      ∧ r.2.mem ((c.tc : Thread Cert.FfnActGradIdeal.nD Cert.FfnActGradIdeal.τ).loc Cert.FfnActGradIdeal.main_arg1) = m ((c.tc : Thread Cert.FfnActGradIdeal.nD Cert.FfnActGradIdeal.τ).loc Cert.FfnActGradIdeal.main_arg1)
      ∧ r.2.mem ((c.tc : Thread Cert.FfnActGradIdeal.nD Cert.FfnActGradIdeal.τ).loc Cert.FfnActGradIdeal.main_arg2) = m ((c.tc : Thread Cert.FfnActGradIdeal.nD Cert.FfnActGradIdeal.τ).loc Cert.FfnActGradIdeal.main_arg2)
      ∧ r.2.mem ((c.tc : Thread Cert.FfnActGradIdeal.nD Cert.FfnActGradIdeal.τ).loc Cert.FfnActGradIdeal.main_arg3) = m ((c.tc : Thread Cert.FfnActGradIdeal.nD Cert.FfnActGradIdeal.τ).loc Cert.FfnActGradIdeal.main_arg3))
      ∧ r.2.sem = fun _ => 0)

def quiescent_FfnActGradIdeal_pre_finite_act [hFfnActGradIdeal : Cert.FfnActGradIdeal.Facts] [hPre_finite_act : Cert.Pre_finite_act.Facts] : Prop :=
  ∀ (m : (ℓ : Loc Cert.FfnActGradIdeal.nD Cert.FfnActGradIdeal.τ Cert.FfnActGradIdeal.sig) → Buf (Elt Ideal) ℓ) (g : Dev Cert.FfnActGradIdeal.nD → PrngReg), Pre_FfnActGradIdeal_finite_act m →
    θ_run (Cert.FfnActGradIdeal.defs (F := Ideal)) (onTc (τ := Cert.FfnActGradIdeal.τ) (Cert.FfnActGradIdeal.main (F := Ideal))) ⟨m, fun _ => 0, g⟩ (fun r => (∀ c : Dev Cert.FfnActGradIdeal.nD,
      r.2.mem ((c.tc : Thread Cert.FfnActGradIdeal.nD Cert.FfnActGradIdeal.τ).loc Cert.FfnActGradIdeal.main_arg0) = m ((c.tc : Thread Cert.FfnActGradIdeal.nD Cert.FfnActGradIdeal.τ).loc Cert.FfnActGradIdeal.main_arg0)
      ∧ r.2.mem ((c.tc : Thread Cert.FfnActGradIdeal.nD Cert.FfnActGradIdeal.τ).loc Cert.FfnActGradIdeal.main_arg1) = m ((c.tc : Thread Cert.FfnActGradIdeal.nD Cert.FfnActGradIdeal.τ).loc Cert.FfnActGradIdeal.main_arg1)
      ∧ r.2.mem ((c.tc : Thread Cert.FfnActGradIdeal.nD Cert.FfnActGradIdeal.τ).loc Cert.FfnActGradIdeal.main_arg2) = m ((c.tc : Thread Cert.FfnActGradIdeal.nD Cert.FfnActGradIdeal.τ).loc Cert.FfnActGradIdeal.main_arg2)
      ∧ r.2.mem ((c.tc : Thread Cert.FfnActGradIdeal.nD Cert.FfnActGradIdeal.τ).loc Cert.FfnActGradIdeal.main_arg3) = m ((c.tc : Thread Cert.FfnActGradIdeal.nD Cert.FfnActGradIdeal.τ).loc Cert.FfnActGradIdeal.main_arg3))
      ∧ r.2.sem = fun _ => 0)

def quiescent_FfnActGradReferenceIdeal [hFfnActGradReferenceIdeal : Cert.FfnActGradReferenceIdeal.Facts] : Prop :=
  ∀ (m : (ℓ : Loc Cert.FfnActGradReferenceIdeal.nD Cert.FfnActGradReferenceIdeal.τ Cert.FfnActGradReferenceIdeal.sig) → Buf (Elt Ideal) ℓ) (g : Dev Cert.FfnActGradReferenceIdeal.nD → PrngReg), Pre_FfnActGradReferenceIdeal m →
    θ_run (Cert.FfnActGradReferenceIdeal.defs (F := Ideal)) (onTc (τ := Cert.FfnActGradReferenceIdeal.τ) (Cert.FfnActGradReferenceIdeal.main (F := Ideal))) ⟨m, fun _ => 0, g⟩ (fun r => (∀ c : Dev Cert.FfnActGradReferenceIdeal.nD,
      r.2.mem ((c.tc : Thread Cert.FfnActGradReferenceIdeal.nD Cert.FfnActGradReferenceIdeal.τ).loc Cert.FfnActGradReferenceIdeal.main_arg0) = m ((c.tc : Thread Cert.FfnActGradReferenceIdeal.nD Cert.FfnActGradReferenceIdeal.τ).loc Cert.FfnActGradReferenceIdeal.main_arg0)
      ∧ r.2.mem ((c.tc : Thread Cert.FfnActGradReferenceIdeal.nD Cert.FfnActGradReferenceIdeal.τ).loc Cert.FfnActGradReferenceIdeal.main_arg1) = m ((c.tc : Thread Cert.FfnActGradReferenceIdeal.nD Cert.FfnActGradReferenceIdeal.τ).loc Cert.FfnActGradReferenceIdeal.main_arg1)
      ∧ r.2.mem ((c.tc : Thread Cert.FfnActGradReferenceIdeal.nD Cert.FfnActGradReferenceIdeal.τ).loc Cert.FfnActGradReferenceIdeal.main_arg2) = m ((c.tc : Thread Cert.FfnActGradReferenceIdeal.nD Cert.FfnActGradReferenceIdeal.τ).loc Cert.FfnActGradReferenceIdeal.main_arg2)
      ∧ r.2.mem ((c.tc : Thread Cert.FfnActGradReferenceIdeal.nD Cert.FfnActGradReferenceIdeal.τ).loc Cert.FfnActGradReferenceIdeal.main_arg3) = m ((c.tc : Thread Cert.FfnActGradReferenceIdeal.nD Cert.FfnActGradReferenceIdeal.τ).loc Cert.FfnActGradReferenceIdeal.main_arg3))
      ∧ r.2.sem = fun _ => 0)

def quiescent_FfnActGradReferenceIdeal_pre_finite_act [hFfnActGradReferenceIdeal : Cert.FfnActGradReferenceIdeal.Facts] [hPre_finite_act : Cert.Pre_finite_act.Facts] : Prop :=
  ∀ (m : (ℓ : Loc Cert.FfnActGradReferenceIdeal.nD Cert.FfnActGradReferenceIdeal.τ Cert.FfnActGradReferenceIdeal.sig) → Buf (Elt Ideal) ℓ) (g : Dev Cert.FfnActGradReferenceIdeal.nD → PrngReg), Pre_FfnActGradReferenceIdeal_finite_act m →
    θ_run (Cert.FfnActGradReferenceIdeal.defs (F := Ideal)) (onTc (τ := Cert.FfnActGradReferenceIdeal.τ) (Cert.FfnActGradReferenceIdeal.main (F := Ideal))) ⟨m, fun _ => 0, g⟩ (fun r => (∀ c : Dev Cert.FfnActGradReferenceIdeal.nD,
      r.2.mem ((c.tc : Thread Cert.FfnActGradReferenceIdeal.nD Cert.FfnActGradReferenceIdeal.τ).loc Cert.FfnActGradReferenceIdeal.main_arg0) = m ((c.tc : Thread Cert.FfnActGradReferenceIdeal.nD Cert.FfnActGradReferenceIdeal.τ).loc Cert.FfnActGradReferenceIdeal.main_arg0)
      ∧ r.2.mem ((c.tc : Thread Cert.FfnActGradReferenceIdeal.nD Cert.FfnActGradReferenceIdeal.τ).loc Cert.FfnActGradReferenceIdeal.main_arg1) = m ((c.tc : Thread Cert.FfnActGradReferenceIdeal.nD Cert.FfnActGradReferenceIdeal.τ).loc Cert.FfnActGradReferenceIdeal.main_arg1)
      ∧ r.2.mem ((c.tc : Thread Cert.FfnActGradReferenceIdeal.nD Cert.FfnActGradReferenceIdeal.τ).loc Cert.FfnActGradReferenceIdeal.main_arg2) = m ((c.tc : Thread Cert.FfnActGradReferenceIdeal.nD Cert.FfnActGradReferenceIdeal.τ).loc Cert.FfnActGradReferenceIdeal.main_arg2)
      ∧ r.2.mem ((c.tc : Thread Cert.FfnActGradReferenceIdeal.nD Cert.FfnActGradReferenceIdeal.τ).loc Cert.FfnActGradReferenceIdeal.main_arg3) = m ((c.tc : Thread Cert.FfnActGradReferenceIdeal.nD Cert.FfnActGradReferenceIdeal.τ).loc Cert.FfnActGradReferenceIdeal.main_arg3))
      ∧ r.2.sem = fun _ => 0)

def quiescent_FfnConvGrad [hFfnConvGrad : Cert.FfnConvGrad.Facts] : Prop :=
  ∀ (m : (ℓ : Loc Cert.FfnConvGrad.nD Cert.FfnConvGrad.τ Cert.FfnConvGrad.sig) → Buf (Elt Bits) ℓ) (g : Dev Cert.FfnConvGrad.nD → PrngReg), Pre_FfnConvGrad m →
    θ_run (Cert.FfnConvGrad.defs (F := Bits)) (onTc (τ := Cert.FfnConvGrad.τ) (Cert.FfnConvGrad.main (F := Bits))) ⟨m, fun _ => 0, g⟩ (fun r => (∀ c : Dev Cert.FfnConvGrad.nD,
      r.2.mem ((c.tc : Thread Cert.FfnConvGrad.nD Cert.FfnConvGrad.τ).loc Cert.FfnConvGrad.main_arg0) = m ((c.tc : Thread Cert.FfnConvGrad.nD Cert.FfnConvGrad.τ).loc Cert.FfnConvGrad.main_arg0)
      ∧ r.2.mem ((c.tc : Thread Cert.FfnConvGrad.nD Cert.FfnConvGrad.τ).loc Cert.FfnConvGrad.main_arg1) = m ((c.tc : Thread Cert.FfnConvGrad.nD Cert.FfnConvGrad.τ).loc Cert.FfnConvGrad.main_arg1)
      ∧ r.2.mem ((c.tc : Thread Cert.FfnConvGrad.nD Cert.FfnConvGrad.τ).loc Cert.FfnConvGrad.main_arg2) = m ((c.tc : Thread Cert.FfnConvGrad.nD Cert.FfnConvGrad.τ).loc Cert.FfnConvGrad.main_arg2)
      ∧ r.2.mem ((c.tc : Thread Cert.FfnConvGrad.nD Cert.FfnConvGrad.τ).loc Cert.FfnConvGrad.main_arg3) = m ((c.tc : Thread Cert.FfnConvGrad.nD Cert.FfnConvGrad.τ).loc Cert.FfnConvGrad.main_arg3))
      ∧ r.2.sem = fun _ => 0)

def quiescent_FfnConvGradIdeal [hFfnConvGradIdeal : Cert.FfnConvGradIdeal.Facts] : Prop :=
  ∀ (m : (ℓ : Loc Cert.FfnConvGradIdeal.nD Cert.FfnConvGradIdeal.τ Cert.FfnConvGradIdeal.sig) → Buf (Elt Ideal) ℓ) (g : Dev Cert.FfnConvGradIdeal.nD → PrngReg), Pre_FfnConvGradIdeal m →
    θ_run (Cert.FfnConvGradIdeal.defs (F := Ideal)) (onTc (τ := Cert.FfnConvGradIdeal.τ) (Cert.FfnConvGradIdeal.main (F := Ideal))) ⟨m, fun _ => 0, g⟩ (fun r => (∀ c : Dev Cert.FfnConvGradIdeal.nD,
      r.2.mem ((c.tc : Thread Cert.FfnConvGradIdeal.nD Cert.FfnConvGradIdeal.τ).loc Cert.FfnConvGradIdeal.main_arg0) = m ((c.tc : Thread Cert.FfnConvGradIdeal.nD Cert.FfnConvGradIdeal.τ).loc Cert.FfnConvGradIdeal.main_arg0)
      ∧ r.2.mem ((c.tc : Thread Cert.FfnConvGradIdeal.nD Cert.FfnConvGradIdeal.τ).loc Cert.FfnConvGradIdeal.main_arg1) = m ((c.tc : Thread Cert.FfnConvGradIdeal.nD Cert.FfnConvGradIdeal.τ).loc Cert.FfnConvGradIdeal.main_arg1)
      ∧ r.2.mem ((c.tc : Thread Cert.FfnConvGradIdeal.nD Cert.FfnConvGradIdeal.τ).loc Cert.FfnConvGradIdeal.main_arg2) = m ((c.tc : Thread Cert.FfnConvGradIdeal.nD Cert.FfnConvGradIdeal.τ).loc Cert.FfnConvGradIdeal.main_arg2)
      ∧ r.2.mem ((c.tc : Thread Cert.FfnConvGradIdeal.nD Cert.FfnConvGradIdeal.τ).loc Cert.FfnConvGradIdeal.main_arg3) = m ((c.tc : Thread Cert.FfnConvGradIdeal.nD Cert.FfnConvGradIdeal.τ).loc Cert.FfnConvGradIdeal.main_arg3))
      ∧ r.2.sem = fun _ => 0)

def quiescent_FfnConvGradReferenceIdeal [hFfnConvGradReferenceIdeal : Cert.FfnConvGradReferenceIdeal.Facts] : Prop :=
  ∀ (m : (ℓ : Loc Cert.FfnConvGradReferenceIdeal.nD Cert.FfnConvGradReferenceIdeal.τ Cert.FfnConvGradReferenceIdeal.sig) → Buf (Elt Ideal) ℓ) (g : Dev Cert.FfnConvGradReferenceIdeal.nD → PrngReg), Pre_FfnConvGradReferenceIdeal m →
    θ_run (Cert.FfnConvGradReferenceIdeal.defs (F := Ideal)) (onTc (τ := Cert.FfnConvGradReferenceIdeal.τ) (Cert.FfnConvGradReferenceIdeal.main (F := Ideal))) ⟨m, fun _ => 0, g⟩ (fun r => (∀ c : Dev Cert.FfnConvGradReferenceIdeal.nD,
      r.2.mem ((c.tc : Thread Cert.FfnConvGradReferenceIdeal.nD Cert.FfnConvGradReferenceIdeal.τ).loc Cert.FfnConvGradReferenceIdeal.main_arg0) = m ((c.tc : Thread Cert.FfnConvGradReferenceIdeal.nD Cert.FfnConvGradReferenceIdeal.τ).loc Cert.FfnConvGradReferenceIdeal.main_arg0)
      ∧ r.2.mem ((c.tc : Thread Cert.FfnConvGradReferenceIdeal.nD Cert.FfnConvGradReferenceIdeal.τ).loc Cert.FfnConvGradReferenceIdeal.main_arg1) = m ((c.tc : Thread Cert.FfnConvGradReferenceIdeal.nD Cert.FfnConvGradReferenceIdeal.τ).loc Cert.FfnConvGradReferenceIdeal.main_arg1)
      ∧ r.2.mem ((c.tc : Thread Cert.FfnConvGradReferenceIdeal.nD Cert.FfnConvGradReferenceIdeal.τ).loc Cert.FfnConvGradReferenceIdeal.main_arg2) = m ((c.tc : Thread Cert.FfnConvGradReferenceIdeal.nD Cert.FfnConvGradReferenceIdeal.τ).loc Cert.FfnConvGradReferenceIdeal.main_arg2)
      ∧ r.2.mem ((c.tc : Thread Cert.FfnConvGradReferenceIdeal.nD Cert.FfnConvGradReferenceIdeal.τ).loc Cert.FfnConvGradReferenceIdeal.main_arg3) = m ((c.tc : Thread Cert.FfnConvGradReferenceIdeal.nD Cert.FfnConvGradReferenceIdeal.τ).loc Cert.FfnConvGradReferenceIdeal.main_arg3))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradIdeal_pre_finite_norm [hNormGradIdeal : Cert.NormGradIdeal.Facts] [hPre_finite_norm : Cert.Pre_finite_norm.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_finite_norm m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradReferenceIdeal [hNormGradReferenceIdeal : Cert.NormGradReferenceIdeal.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3)
      ∧ r.2.mem ((c.tc : Thread Cert.NormGradReferenceIdeal.nD Cert.NormGradReferenceIdeal.τ).loc Cert.NormGradReferenceIdeal.main_arg4) = m ((c.tc : Thread Cert.NormGradReferenceIdeal.nD Cert.NormGradReferenceIdeal.τ).loc Cert.NormGradReferenceIdeal.main_arg4))
      ∧ r.2.sem = fun _ => 0)

def quiescent_NormGradReferenceIdeal_pre_finite_norm [hNormGradReferenceIdeal : Cert.NormGradReferenceIdeal.Facts] [hPre_finite_norm : Cert.Pre_finite_norm.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal_finite_norm m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3)
      ∧ r.2.mem ((c.tc : Thread Cert.NormGradReferenceIdeal.nD Cert.NormGradReferenceIdeal.τ).loc Cert.NormGradReferenceIdeal.main_arg4) = m ((c.tc : Thread Cert.NormGradReferenceIdeal.nD Cert.NormGradReferenceIdeal.τ).loc Cert.NormGradReferenceIdeal.main_arg4))
      ∧ r.2.sem = fun _ => 0)

def quiescent_NormTopGrad [hNormTopGrad : Cert.NormTopGrad.Facts] : Prop :=
  ∀ (m : (ℓ : Loc Cert.NormTopGrad.nD Cert.NormTopGrad.τ Cert.NormTopGrad.sig) → Buf (Elt Bits) ℓ) (g : Dev Cert.NormTopGrad.nD → PrngReg), Pre_NormTopGrad m →
    θ_run (Cert.NormTopGrad.defs (F := Bits)) (onTc (τ := Cert.NormTopGrad.τ) (Cert.NormTopGrad.main (F := Bits))) ⟨m, fun _ => 0, g⟩ (fun r => (∀ c : Dev Cert.NormTopGrad.nD,
      r.2.mem ((c.tc : Thread Cert.NormTopGrad.nD Cert.NormTopGrad.τ).loc Cert.NormTopGrad.main_arg0) = m ((c.tc : Thread Cert.NormTopGrad.nD Cert.NormTopGrad.τ).loc Cert.NormTopGrad.main_arg0)
      ∧ r.2.mem ((c.tc : Thread Cert.NormTopGrad.nD Cert.NormTopGrad.τ).loc Cert.NormTopGrad.main_arg1) = m ((c.tc : Thread Cert.NormTopGrad.nD Cert.NormTopGrad.τ).loc Cert.NormTopGrad.main_arg1)
      ∧ r.2.mem ((c.tc : Thread Cert.NormTopGrad.nD Cert.NormTopGrad.τ).loc Cert.NormTopGrad.main_arg2) = m ((c.tc : Thread Cert.NormTopGrad.nD Cert.NormTopGrad.τ).loc Cert.NormTopGrad.main_arg2)
      ∧ r.2.mem ((c.tc : Thread Cert.NormTopGrad.nD Cert.NormTopGrad.τ).loc Cert.NormTopGrad.main_arg3) = m ((c.tc : Thread Cert.NormTopGrad.nD Cert.NormTopGrad.τ).loc Cert.NormTopGrad.main_arg3))
      ∧ r.2.sem = fun _ => 0)

def quiescent_NormTopGradIdeal [hNormTopGradIdeal : Cert.NormTopGradIdeal.Facts] : Prop :=
  ∀ (m : (ℓ : Loc Cert.NormTopGradIdeal.nD Cert.NormTopGradIdeal.τ Cert.NormTopGradIdeal.sig) → Buf (Elt Ideal) ℓ) (g : Dev Cert.NormTopGradIdeal.nD → PrngReg), Pre_NormTopGradIdeal m →
    θ_run (Cert.NormTopGradIdeal.defs (F := Ideal)) (onTc (τ := Cert.NormTopGradIdeal.τ) (Cert.NormTopGradIdeal.main (F := Ideal))) ⟨m, fun _ => 0, g⟩ (fun r => (∀ c : Dev Cert.NormTopGradIdeal.nD,
      r.2.mem ((c.tc : Thread Cert.NormTopGradIdeal.nD Cert.NormTopGradIdeal.τ).loc Cert.NormTopGradIdeal.main_arg0) = m ((c.tc : Thread Cert.NormTopGradIdeal.nD Cert.NormTopGradIdeal.τ).loc Cert.NormTopGradIdeal.main_arg0)
      ∧ r.2.mem ((c.tc : Thread Cert.NormTopGradIdeal.nD Cert.NormTopGradIdeal.τ).loc Cert.NormTopGradIdeal.main_arg1) = m ((c.tc : Thread Cert.NormTopGradIdeal.nD Cert.NormTopGradIdeal.τ).loc Cert.NormTopGradIdeal.main_arg1)
      ∧ r.2.mem ((c.tc : Thread Cert.NormTopGradIdeal.nD Cert.NormTopGradIdeal.τ).loc Cert.NormTopGradIdeal.main_arg2) = m ((c.tc : Thread Cert.NormTopGradIdeal.nD Cert.NormTopGradIdeal.τ).loc Cert.NormTopGradIdeal.main_arg2)
      ∧ r.2.mem ((c.tc : Thread Cert.NormTopGradIdeal.nD Cert.NormTopGradIdeal.τ).loc Cert.NormTopGradIdeal.main_arg3) = m ((c.tc : Thread Cert.NormTopGradIdeal.nD Cert.NormTopGradIdeal.τ).loc Cert.NormTopGradIdeal.main_arg3))
      ∧ r.2.sem = fun _ => 0)

def quiescent_NormTopGradIdeal_pre_finite_top [hNormTopGradIdeal : Cert.NormTopGradIdeal.Facts] [hPre_finite_top : Cert.Pre_finite_top.Facts] : Prop :=
  ∀ (m : (ℓ : Loc Cert.NormTopGradIdeal.nD Cert.NormTopGradIdeal.τ Cert.NormTopGradIdeal.sig) → Buf (Elt Ideal) ℓ) (g : Dev Cert.NormTopGradIdeal.nD → PrngReg), Pre_NormTopGradIdeal_finite_top m →
    θ_run (Cert.NormTopGradIdeal.defs (F := Ideal)) (onTc (τ := Cert.NormTopGradIdeal.τ) (Cert.NormTopGradIdeal.main (F := Ideal))) ⟨m, fun _ => 0, g⟩ (fun r => (∀ c : Dev Cert.NormTopGradIdeal.nD,
      r.2.mem ((c.tc : Thread Cert.NormTopGradIdeal.nD Cert.NormTopGradIdeal.τ).loc Cert.NormTopGradIdeal.main_arg0) = m ((c.tc : Thread Cert.NormTopGradIdeal.nD Cert.NormTopGradIdeal.τ).loc Cert.NormTopGradIdeal.main_arg0)
      ∧ r.2.mem ((c.tc : Thread Cert.NormTopGradIdeal.nD Cert.NormTopGradIdeal.τ).loc Cert.NormTopGradIdeal.main_arg1) = m ((c.tc : Thread Cert.NormTopGradIdeal.nD Cert.NormTopGradIdeal.τ).loc Cert.NormTopGradIdeal.main_arg1)
      ∧ r.2.mem ((c.tc : Thread Cert.NormTopGradIdeal.nD Cert.NormTopGradIdeal.τ).loc Cert.NormTopGradIdeal.main_arg2) = m ((c.tc : Thread Cert.NormTopGradIdeal.nD Cert.NormTopGradIdeal.τ).loc Cert.NormTopGradIdeal.main_arg2)
      ∧ r.2.mem ((c.tc : Thread Cert.NormTopGradIdeal.nD Cert.NormTopGradIdeal.τ).loc Cert.NormTopGradIdeal.main_arg3) = m ((c.tc : Thread Cert.NormTopGradIdeal.nD Cert.NormTopGradIdeal.τ).loc Cert.NormTopGradIdeal.main_arg3))
      ∧ r.2.sem = fun _ => 0)

def quiescent_NormTopGradReferenceIdeal [hNormTopGradReferenceIdeal : Cert.NormTopGradReferenceIdeal.Facts] : Prop :=
  ∀ (m : (ℓ : Loc Cert.NormTopGradReferenceIdeal.nD Cert.NormTopGradReferenceIdeal.τ Cert.NormTopGradReferenceIdeal.sig) → Buf (Elt Ideal) ℓ) (g : Dev Cert.NormTopGradReferenceIdeal.nD → PrngReg), Pre_NormTopGradReferenceIdeal m →
    θ_run (Cert.NormTopGradReferenceIdeal.defs (F := Ideal)) (onTc (τ := Cert.NormTopGradReferenceIdeal.τ) (Cert.NormTopGradReferenceIdeal.main (F := Ideal))) ⟨m, fun _ => 0, g⟩ (fun r => (∀ c : Dev Cert.NormTopGradReferenceIdeal.nD,
      r.2.mem ((c.tc : Thread Cert.NormTopGradReferenceIdeal.nD Cert.NormTopGradReferenceIdeal.τ).loc Cert.NormTopGradReferenceIdeal.main_arg0) = m ((c.tc : Thread Cert.NormTopGradReferenceIdeal.nD Cert.NormTopGradReferenceIdeal.τ).loc Cert.NormTopGradReferenceIdeal.main_arg0)
      ∧ r.2.mem ((c.tc : Thread Cert.NormTopGradReferenceIdeal.nD Cert.NormTopGradReferenceIdeal.τ).loc Cert.NormTopGradReferenceIdeal.main_arg1) = m ((c.tc : Thread Cert.NormTopGradReferenceIdeal.nD Cert.NormTopGradReferenceIdeal.τ).loc Cert.NormTopGradReferenceIdeal.main_arg1)
      ∧ r.2.mem ((c.tc : Thread Cert.NormTopGradReferenceIdeal.nD Cert.NormTopGradReferenceIdeal.τ).loc Cert.NormTopGradReferenceIdeal.main_arg2) = m ((c.tc : Thread Cert.NormTopGradReferenceIdeal.nD Cert.NormTopGradReferenceIdeal.τ).loc Cert.NormTopGradReferenceIdeal.main_arg2)
      ∧ r.2.mem ((c.tc : Thread Cert.NormTopGradReferenceIdeal.nD Cert.NormTopGradReferenceIdeal.τ).loc Cert.NormTopGradReferenceIdeal.main_arg3) = m ((c.tc : Thread Cert.NormTopGradReferenceIdeal.nD Cert.NormTopGradReferenceIdeal.τ).loc Cert.NormTopGradReferenceIdeal.main_arg3))
      ∧ r.2.sem = fun _ => 0)

def quiescent_NormTopGradReferenceIdeal_pre_finite_top [hNormTopGradReferenceIdeal : Cert.NormTopGradReferenceIdeal.Facts] [hPre_finite_top : Cert.Pre_finite_top.Facts] : Prop :=
  ∀ (m : (ℓ : Loc Cert.NormTopGradReferenceIdeal.nD Cert.NormTopGradReferenceIdeal.τ Cert.NormTopGradReferenceIdeal.sig) → Buf (Elt Ideal) ℓ) (g : Dev Cert.NormTopGradReferenceIdeal.nD → PrngReg), Pre_NormTopGradReferenceIdeal_finite_top m →
    θ_run (Cert.NormTopGradReferenceIdeal.defs (F := Ideal)) (onTc (τ := Cert.NormTopGradReferenceIdeal.τ) (Cert.NormTopGradReferenceIdeal.main (F := Ideal))) ⟨m, fun _ => 0, g⟩ (fun r => (∀ c : Dev Cert.NormTopGradReferenceIdeal.nD,
      r.2.mem ((c.tc : Thread Cert.NormTopGradReferenceIdeal.nD Cert.NormTopGradReferenceIdeal.τ).loc Cert.NormTopGradReferenceIdeal.main_arg0) = m ((c.tc : Thread Cert.NormTopGradReferenceIdeal.nD Cert.NormTopGradReferenceIdeal.τ).loc Cert.NormTopGradReferenceIdeal.main_arg0)
      ∧ r.2.mem ((c.tc : Thread Cert.NormTopGradReferenceIdeal.nD Cert.NormTopGradReferenceIdeal.τ).loc Cert.NormTopGradReferenceIdeal.main_arg1) = m ((c.tc : Thread Cert.NormTopGradReferenceIdeal.nD Cert.NormTopGradReferenceIdeal.τ).loc Cert.NormTopGradReferenceIdeal.main_arg1)
      ∧ r.2.mem ((c.tc : Thread Cert.NormTopGradReferenceIdeal.nD Cert.NormTopGradReferenceIdeal.τ).loc Cert.NormTopGradReferenceIdeal.main_arg2) = m ((c.tc : Thread Cert.NormTopGradReferenceIdeal.nD Cert.NormTopGradReferenceIdeal.τ).loc Cert.NormTopGradReferenceIdeal.main_arg2)
      ∧ r.2.mem ((c.tc : Thread Cert.NormTopGradReferenceIdeal.nD Cert.NormTopGradReferenceIdeal.τ).loc Cert.NormTopGradReferenceIdeal.main_arg3) = m ((c.tc : Thread Cert.NormTopGradReferenceIdeal.nD Cert.NormTopGradReferenceIdeal.τ).loc Cert.NormTopGradReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3))
      ∧ r.2.sem = fun _ => 0)

def quiescent_S5Out [hS5Out : Cert.S5Out.Facts] : Prop :=
  ∀ (m : (ℓ : Loc Cert.S5Out.nD Cert.S5Out.τ Cert.S5Out.sig) → Buf (Elt Bits) ℓ) (g : Dev Cert.S5Out.nD → PrngReg), Pre_S5Out m →
    θ_run (Cert.S5Out.defs (F := Bits)) (onTc (τ := Cert.S5Out.τ) (Cert.S5Out.main (F := Bits))) ⟨m, fun _ => 0, g⟩ (fun r => (∀ c : Dev Cert.S5Out.nD,
      r.2.mem ((c.tc : Thread Cert.S5Out.nD Cert.S5Out.τ).loc Cert.S5Out.main_arg0) = m ((c.tc : Thread Cert.S5Out.nD Cert.S5Out.τ).loc Cert.S5Out.main_arg0)
      ∧ r.2.mem ((c.tc : Thread Cert.S5Out.nD Cert.S5Out.τ).loc Cert.S5Out.main_arg1) = m ((c.tc : Thread Cert.S5Out.nD Cert.S5Out.τ).loc Cert.S5Out.main_arg1)
      ∧ r.2.mem ((c.tc : Thread Cert.S5Out.nD Cert.S5Out.τ).loc Cert.S5Out.main_arg2) = m ((c.tc : Thread Cert.S5Out.nD Cert.S5Out.τ).loc Cert.S5Out.main_arg2)
      ∧ r.2.mem ((c.tc : Thread Cert.S5Out.nD Cert.S5Out.τ).loc Cert.S5Out.main_arg3) = m ((c.tc : Thread Cert.S5Out.nD Cert.S5Out.τ).loc Cert.S5Out.main_arg3)
      ∧ r.2.mem ((c.tc : Thread Cert.S5Out.nD Cert.S5Out.τ).loc Cert.S5Out.main_arg4) = m ((c.tc : Thread Cert.S5Out.nD Cert.S5Out.τ).loc Cert.S5Out.main_arg4))
      ∧ r.2.sem = fun _ => 0)

def quiescent_S5OutIdeal [hS5OutIdeal : Cert.S5OutIdeal.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
      ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
      ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4))
      ∧ r.2.sem = fun _ => 0)

def quiescent_S5OutReferenceIdeal [hS5OutReferenceIdeal : Cert.S5OutReferenceIdeal.Facts] : Prop :=
  ∀ (m : (ℓ : Loc Cert.S5OutReferenceIdeal.nD Cert.S5OutReferenceIdeal.τ Cert.S5OutReferenceIdeal.sig) → Buf (Elt Ideal) ℓ) (g : Dev Cert.S5OutReferenceIdeal.nD → PrngReg), Pre_S5OutReferenceIdeal m →
    θ_run (Cert.S5OutReferenceIdeal.defs (F := Ideal)) (onTc (τ := Cert.S5OutReferenceIdeal.τ) (Cert.S5OutReferenceIdeal.main (F := Ideal))) ⟨m, fun _ => 0, g⟩ (fun r => (∀ c : Dev Cert.S5OutReferenceIdeal.nD,
      r.2.mem ((c.tc : Thread Cert.S5OutReferenceIdeal.nD Cert.S5OutReferenceIdeal.τ).loc Cert.S5OutReferenceIdeal.main_arg0) = m ((c.tc : Thread Cert.S5OutReferenceIdeal.nD Cert.S5OutReferenceIdeal.τ).loc Cert.S5OutReferenceIdeal.main_arg0)
      ∧ r.2.mem ((c.tc : Thread Cert.S5OutReferenceIdeal.nD Cert.S5OutReferenceIdeal.τ).loc Cert.S5OutReferenceIdeal.main_arg1) = m ((c.tc : Thread Cert.S5OutReferenceIdeal.nD Cert.S5OutReferenceIdeal.τ).loc Cert.S5OutReferenceIdeal.main_arg1)
      ∧ r.2.mem ((c.tc : Thread Cert.S5OutReferenceIdeal.nD Cert.S5OutReferenceIdeal.τ).loc Cert.S5OutReferenceIdeal.main_arg2) = m ((c.tc : Thread Cert.S5OutReferenceIdeal.nD Cert.S5OutReferenceIdeal.τ).loc Cert.S5OutReferenceIdeal.main_arg2)
      ∧ r.2.mem ((c.tc : Thread Cert.S5OutReferenceIdeal.nD Cert.S5OutReferenceIdeal.τ).loc Cert.S5OutReferenceIdeal.main_arg3) = m ((c.tc : Thread Cert.S5OutReferenceIdeal.nD Cert.S5OutReferenceIdeal.τ).loc Cert.S5OutReferenceIdeal.main_arg3)
      ∧ r.2.mem ((c.tc : Thread Cert.S5OutReferenceIdeal.nD Cert.S5OutReferenceIdeal.τ).loc Cert.S5OutReferenceIdeal.main_arg4) = m ((c.tc : Thread Cert.S5OutReferenceIdeal.nD Cert.S5OutReferenceIdeal.τ).loc Cert.S5OutReferenceIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2))
      ∧ r.2.sem = fun _ => 0)

def quiescent_RopeGrad [hRopeGrad : Cert.RopeGrad.Facts] : Prop :=
  ∀ (m : (ℓ : Loc Cert.RopeGrad.nD Cert.RopeGrad.τ Cert.RopeGrad.sig) → Buf (Elt Bits) ℓ) (g : Dev Cert.RopeGrad.nD → PrngReg), Pre_RopeGrad m →
    θ_run (Cert.RopeGrad.defs (F := Bits)) (onTc (τ := Cert.RopeGrad.τ) (Cert.RopeGrad.main (F := Bits))) ⟨m, fun _ => 0, g⟩ (fun r => (∀ c : Dev Cert.RopeGrad.nD,
      r.2.mem ((c.tc : Thread Cert.RopeGrad.nD Cert.RopeGrad.τ).loc Cert.RopeGrad.main_arg0) = m ((c.tc : Thread Cert.RopeGrad.nD Cert.RopeGrad.τ).loc Cert.RopeGrad.main_arg0)
      ∧ r.2.mem ((c.tc : Thread Cert.RopeGrad.nD Cert.RopeGrad.τ).loc Cert.RopeGrad.main_arg1) = m ((c.tc : Thread Cert.RopeGrad.nD Cert.RopeGrad.τ).loc Cert.RopeGrad.main_arg1)
      ∧ r.2.mem ((c.tc : Thread Cert.RopeGrad.nD Cert.RopeGrad.τ).loc Cert.RopeGrad.main_arg2) = m ((c.tc : Thread Cert.RopeGrad.nD Cert.RopeGrad.τ).loc Cert.RopeGrad.main_arg2)
      ∧ r.2.mem ((c.tc : Thread Cert.RopeGrad.nD Cert.RopeGrad.τ).loc Cert.RopeGrad.main_arg3) = m ((c.tc : Thread Cert.RopeGrad.nD Cert.RopeGrad.τ).loc Cert.RopeGrad.main_arg3))
      ∧ r.2.sem = fun _ => 0)

def quiescent_RopeGradIdeal [hRopeGradIdeal : Cert.RopeGradIdeal.Facts] : Prop :=
  ∀ (m : (ℓ : Loc Cert.RopeGradIdeal.nD Cert.RopeGradIdeal.τ Cert.RopeGradIdeal.sig) → Buf (Elt Ideal) ℓ) (g : Dev Cert.RopeGradIdeal.nD → PrngReg), Pre_RopeGradIdeal m →
    θ_run (Cert.RopeGradIdeal.defs (F := Ideal)) (onTc (τ := Cert.RopeGradIdeal.τ) (Cert.RopeGradIdeal.main (F := Ideal))) ⟨m, fun _ => 0, g⟩ (fun r => (∀ c : Dev Cert.RopeGradIdeal.nD,
      r.2.mem ((c.tc : Thread Cert.RopeGradIdeal.nD Cert.RopeGradIdeal.τ).loc Cert.RopeGradIdeal.main_arg0) = m ((c.tc : Thread Cert.RopeGradIdeal.nD Cert.RopeGradIdeal.τ).loc Cert.RopeGradIdeal.main_arg0)
      ∧ r.2.mem ((c.tc : Thread Cert.RopeGradIdeal.nD Cert.RopeGradIdeal.τ).loc Cert.RopeGradIdeal.main_arg1) = m ((c.tc : Thread Cert.RopeGradIdeal.nD Cert.RopeGradIdeal.τ).loc Cert.RopeGradIdeal.main_arg1)
      ∧ r.2.mem ((c.tc : Thread Cert.RopeGradIdeal.nD Cert.RopeGradIdeal.τ).loc Cert.RopeGradIdeal.main_arg2) = m ((c.tc : Thread Cert.RopeGradIdeal.nD Cert.RopeGradIdeal.τ).loc Cert.RopeGradIdeal.main_arg2)
      ∧ r.2.mem ((c.tc : Thread Cert.RopeGradIdeal.nD Cert.RopeGradIdeal.τ).loc Cert.RopeGradIdeal.main_arg3) = m ((c.tc : Thread Cert.RopeGradIdeal.nD Cert.RopeGradIdeal.τ).loc Cert.RopeGradIdeal.main_arg3))
      ∧ r.2.sem = fun _ => 0)

def quiescent_RopeGradReferenceIdeal [hRopeGradReferenceIdeal : Cert.RopeGradReferenceIdeal.Facts] : Prop :=
  ∀ (m : (ℓ : Loc Cert.RopeGradReferenceIdeal.nD Cert.RopeGradReferenceIdeal.τ Cert.RopeGradReferenceIdeal.sig) → Buf (Elt Ideal) ℓ) (g : Dev Cert.RopeGradReferenceIdeal.nD → PrngReg), Pre_RopeGradReferenceIdeal m →
    θ_run (Cert.RopeGradReferenceIdeal.defs (F := Ideal)) (onTc (τ := Cert.RopeGradReferenceIdeal.τ) (Cert.RopeGradReferenceIdeal.main (F := Ideal))) ⟨m, fun _ => 0, g⟩ (fun r => (∀ c : Dev Cert.RopeGradReferenceIdeal.nD,
      r.2.mem ((c.tc : Thread Cert.RopeGradReferenceIdeal.nD Cert.RopeGradReferenceIdeal.τ).loc Cert.RopeGradReferenceIdeal.main_arg0) = m ((c.tc : Thread Cert.RopeGradReferenceIdeal.nD Cert.RopeGradReferenceIdeal.τ).loc Cert.RopeGradReferenceIdeal.main_arg0)
      ∧ r.2.mem ((c.tc : Thread Cert.RopeGradReferenceIdeal.nD Cert.RopeGradReferenceIdeal.τ).loc Cert.RopeGradReferenceIdeal.main_arg1) = m ((c.tc : Thread Cert.RopeGradReferenceIdeal.nD Cert.RopeGradReferenceIdeal.τ).loc Cert.RopeGradReferenceIdeal.main_arg1)
      ∧ r.2.mem ((c.tc : Thread Cert.RopeGradReferenceIdeal.nD Cert.RopeGradReferenceIdeal.τ).loc Cert.RopeGradReferenceIdeal.main_arg2) = m ((c.tc : Thread Cert.RopeGradReferenceIdeal.nD Cert.RopeGradReferenceIdeal.τ).loc Cert.RopeGradReferenceIdeal.main_arg2)
      ∧ r.2.mem ((c.tc : Thread Cert.RopeGradReferenceIdeal.nD Cert.RopeGradReferenceIdeal.τ).loc Cert.RopeGradReferenceIdeal.main_arg3) = m ((c.tc : Thread Cert.RopeGradReferenceIdeal.nD Cert.RopeGradReferenceIdeal.τ).loc Cert.RopeGradReferenceIdeal.main_arg3))
      ∧ r.2.sem = fun _ => 0)

def quiescent_S5Bu [hS5Bu : Cert.S5Bu.Facts] : Prop :=
  ∀ (m : (ℓ : Loc Cert.S5Bu.nD Cert.S5Bu.τ Cert.S5Bu.sig) → Buf (Elt Bits) ℓ) (g : Dev Cert.S5Bu.nD → PrngReg), Pre_S5Bu m →
    θ_run (Cert.S5Bu.defs (F := Bits)) (onTc (τ := Cert.S5Bu.τ) (Cert.S5Bu.main (F := Bits))) ⟨m, fun _ => 0, g⟩ (fun r => (∀ c : Dev Cert.S5Bu.nD,
      r.2.mem ((c.tc : Thread Cert.S5Bu.nD Cert.S5Bu.τ).loc Cert.S5Bu.main_arg0) = m ((c.tc : Thread Cert.S5Bu.nD Cert.S5Bu.τ).loc Cert.S5Bu.main_arg0)
      ∧ r.2.mem ((c.tc : Thread Cert.S5Bu.nD Cert.S5Bu.τ).loc Cert.S5Bu.main_arg1) = m ((c.tc : Thread Cert.S5Bu.nD Cert.S5Bu.τ).loc Cert.S5Bu.main_arg1))
      ∧ r.2.sem = fun _ => 0)

def quiescent_S5BuIdeal [hS5BuIdeal : Cert.S5BuIdeal.Facts] : Prop :=
  ∀ (m : (ℓ : Loc Cert.S5BuIdeal.nD Cert.S5BuIdeal.τ Cert.S5BuIdeal.sig) → Buf (Elt Ideal) ℓ) (g : Dev Cert.S5BuIdeal.nD → PrngReg), Pre_S5BuIdeal m →
    θ_run (Cert.S5BuIdeal.defs (F := Ideal)) (onTc (τ := Cert.S5BuIdeal.τ) (Cert.S5BuIdeal.main (F := Ideal))) ⟨m, fun _ => 0, g⟩ (fun r => (∀ c : Dev Cert.S5BuIdeal.nD,
      r.2.mem ((c.tc : Thread Cert.S5BuIdeal.nD Cert.S5BuIdeal.τ).loc Cert.S5BuIdeal.main_arg0) = m ((c.tc : Thread Cert.S5BuIdeal.nD Cert.S5BuIdeal.τ).loc Cert.S5BuIdeal.main_arg0)
      ∧ r.2.mem ((c.tc : Thread Cert.S5BuIdeal.nD Cert.S5BuIdeal.τ).loc Cert.S5BuIdeal.main_arg1) = m ((c.tc : Thread Cert.S5BuIdeal.nD Cert.S5BuIdeal.τ).loc Cert.S5BuIdeal.main_arg1))
      ∧ r.2.sem = fun _ => 0)

def quiescent_S5BuReferenceIdeal [hS5BuReferenceIdeal : Cert.S5BuReferenceIdeal.Facts] : Prop :=
  ∀ (m : (ℓ : Loc Cert.S5BuReferenceIdeal.nD Cert.S5BuReferenceIdeal.τ Cert.S5BuReferenceIdeal.sig) → Buf (Elt Ideal) ℓ) (g : Dev Cert.S5BuReferenceIdeal.nD → PrngReg), Pre_S5BuReferenceIdeal m →
    θ_run (Cert.S5BuReferenceIdeal.defs (F := Ideal)) (onTc (τ := Cert.S5BuReferenceIdeal.τ) (Cert.S5BuReferenceIdeal.main (F := Ideal))) ⟨m, fun _ => 0, g⟩ (fun r => (∀ c : Dev Cert.S5BuReferenceIdeal.nD,
      r.2.mem ((c.tc : Thread Cert.S5BuReferenceIdeal.nD Cert.S5BuReferenceIdeal.τ).loc Cert.S5BuReferenceIdeal.main_arg0) = m ((c.tc : Thread Cert.S5BuReferenceIdeal.nD Cert.S5BuReferenceIdeal.τ).loc Cert.S5BuReferenceIdeal.main_arg0)
      ∧ r.2.mem ((c.tc : Thread Cert.S5BuReferenceIdeal.nD Cert.S5BuReferenceIdeal.τ).loc Cert.S5BuReferenceIdeal.main_arg1) = m ((c.tc : Thread Cert.S5BuReferenceIdeal.nD Cert.S5BuReferenceIdeal.τ).loc Cert.S5BuReferenceIdeal.main_arg1))
      ∧ r.2.sem = fun _ => 0)

def quiescent_S5Y [hS5Y : Cert.S5Y.Facts] : Prop :=
  ∀ (m : (ℓ : Loc Cert.S5Y.nD Cert.S5Y.τ Cert.S5Y.sig) → Buf (Elt Bits) ℓ) (g : Dev Cert.S5Y.nD → PrngReg), Pre_S5Y m →
    θ_run (Cert.S5Y.defs (F := Bits)) (onTc (τ := Cert.S5Y.τ) (Cert.S5Y.main (F := Bits))) ⟨m, fun _ => 0, g⟩ (fun r => (∀ c : Dev Cert.S5Y.nD,
      r.2.mem ((c.tc : Thread Cert.S5Y.nD Cert.S5Y.τ).loc Cert.S5Y.main_arg0) = m ((c.tc : Thread Cert.S5Y.nD Cert.S5Y.τ).loc Cert.S5Y.main_arg0)
      ∧ r.2.mem ((c.tc : Thread Cert.S5Y.nD Cert.S5Y.τ).loc Cert.S5Y.main_arg1) = m ((c.tc : Thread Cert.S5Y.nD Cert.S5Y.τ).loc Cert.S5Y.main_arg1))
      ∧ r.2.sem = fun _ => 0)

def quiescent_S5YIdeal [hS5YIdeal : Cert.S5YIdeal.Facts] : Prop :=
  ∀ (m : (ℓ : Loc Cert.S5YIdeal.nD Cert.S5YIdeal.τ Cert.S5YIdeal.sig) → Buf (Elt Ideal) ℓ) (g : Dev Cert.S5YIdeal.nD → PrngReg), Pre_S5YIdeal m →
    θ_run (Cert.S5YIdeal.defs (F := Ideal)) (onTc (τ := Cert.S5YIdeal.τ) (Cert.S5YIdeal.main (F := Ideal))) ⟨m, fun _ => 0, g⟩ (fun r => (∀ c : Dev Cert.S5YIdeal.nD,
      r.2.mem ((c.tc : Thread Cert.S5YIdeal.nD Cert.S5YIdeal.τ).loc Cert.S5YIdeal.main_arg0) = m ((c.tc : Thread Cert.S5YIdeal.nD Cert.S5YIdeal.τ).loc Cert.S5YIdeal.main_arg0)
      ∧ r.2.mem ((c.tc : Thread Cert.S5YIdeal.nD Cert.S5YIdeal.τ).loc Cert.S5YIdeal.main_arg1) = m ((c.tc : Thread Cert.S5YIdeal.nD Cert.S5YIdeal.τ).loc Cert.S5YIdeal.main_arg1))
      ∧ r.2.sem = fun _ => 0)

def quiescent_S5YReferenceIdeal [hS5YReferenceIdeal : Cert.S5YReferenceIdeal.Facts] : Prop :=
  ∀ (m : (ℓ : Loc Cert.S5YReferenceIdeal.nD Cert.S5YReferenceIdeal.τ Cert.S5YReferenceIdeal.sig) → Buf (Elt Ideal) ℓ) (g : Dev Cert.S5YReferenceIdeal.nD → PrngReg), Pre_S5YReferenceIdeal m →
    θ_run (Cert.S5YReferenceIdeal.defs (F := Ideal)) (onTc (τ := Cert.S5YReferenceIdeal.τ) (Cert.S5YReferenceIdeal.main (F := Ideal))) ⟨m, fun _ => 0, g⟩ (fun r => (∀ c : Dev Cert.S5YReferenceIdeal.nD,
      r.2.mem ((c.tc : Thread Cert.S5YReferenceIdeal.nD Cert.S5YReferenceIdeal.τ).loc Cert.S5YReferenceIdeal.main_arg0) = m ((c.tc : Thread Cert.S5YReferenceIdeal.nD Cert.S5YReferenceIdeal.τ).loc Cert.S5YReferenceIdeal.main_arg0)
      ∧ r.2.mem ((c.tc : Thread Cert.S5YReferenceIdeal.nD Cert.S5YReferenceIdeal.τ).loc Cert.S5YReferenceIdeal.main_arg1) = m ((c.tc : Thread Cert.S5YReferenceIdeal.nD Cert.S5YReferenceIdeal.τ).loc Cert.S5YReferenceIdeal.main_arg1))
      ∧ r.2.sem = fun _ => 0)

def quiescent_S5Dx [hS5Dx : Cert.S5Dx.Facts] : Prop :=
  ∀ (m : (ℓ : Loc Cert.S5Dx.nD Cert.S5Dx.τ Cert.S5Dx.sig) → Buf (Elt Bits) ℓ) (g : Dev Cert.S5Dx.nD → PrngReg), Pre_S5Dx m →
    θ_run (Cert.S5Dx.defs (F := Bits)) (onTc (τ := Cert.S5Dx.τ) (Cert.S5Dx.main (F := Bits))) ⟨m, fun _ => 0, g⟩ (fun r => (∀ c : Dev Cert.S5Dx.nD,
      r.2.mem ((c.tc : Thread Cert.S5Dx.nD Cert.S5Dx.τ).loc Cert.S5Dx.main_arg0) = m ((c.tc : Thread Cert.S5Dx.nD Cert.S5Dx.τ).loc Cert.S5Dx.main_arg0)
      ∧ r.2.mem ((c.tc : Thread Cert.S5Dx.nD Cert.S5Dx.τ).loc Cert.S5Dx.main_arg1) = m ((c.tc : Thread Cert.S5Dx.nD Cert.S5Dx.τ).loc Cert.S5Dx.main_arg1)
      ∧ r.2.mem ((c.tc : Thread Cert.S5Dx.nD Cert.S5Dx.τ).loc Cert.S5Dx.main_arg2) = m ((c.tc : Thread Cert.S5Dx.nD Cert.S5Dx.τ).loc Cert.S5Dx.main_arg2))
      ∧ r.2.sem = fun _ => 0)

def quiescent_S5DxIdeal [hS5DxIdeal : Cert.S5DxIdeal.Facts] : Prop :=
  ∀ (m : (ℓ : Loc Cert.S5DxIdeal.nD Cert.S5DxIdeal.τ Cert.S5DxIdeal.sig) → Buf (Elt Ideal) ℓ) (g : Dev Cert.S5DxIdeal.nD → PrngReg), Pre_S5DxIdeal m →
    θ_run (Cert.S5DxIdeal.defs (F := Ideal)) (onTc (τ := Cert.S5DxIdeal.τ) (Cert.S5DxIdeal.main (F := Ideal))) ⟨m, fun _ => 0, g⟩ (fun r => (∀ c : Dev Cert.S5DxIdeal.nD,
      r.2.mem ((c.tc : Thread Cert.S5DxIdeal.nD Cert.S5DxIdeal.τ).loc Cert.S5DxIdeal.main_arg0) = m ((c.tc : Thread Cert.S5DxIdeal.nD Cert.S5DxIdeal.τ).loc Cert.S5DxIdeal.main_arg0)
      ∧ r.2.mem ((c.tc : Thread Cert.S5DxIdeal.nD Cert.S5DxIdeal.τ).loc Cert.S5DxIdeal.main_arg1) = m ((c.tc : Thread Cert.S5DxIdeal.nD Cert.S5DxIdeal.τ).loc Cert.S5DxIdeal.main_arg1)
      ∧ r.2.mem ((c.tc : Thread Cert.S5DxIdeal.nD Cert.S5DxIdeal.τ).loc Cert.S5DxIdeal.main_arg2) = m ((c.tc : Thread Cert.S5DxIdeal.nD Cert.S5DxIdeal.τ).loc Cert.S5DxIdeal.main_arg2))
      ∧ r.2.sem = fun _ => 0)

def quiescent_S5DxReferenceIdeal [hS5DxReferenceIdeal : Cert.S5DxReferenceIdeal.Facts] : Prop :=
  ∀ (m : (ℓ : Loc Cert.S5DxReferenceIdeal.nD Cert.S5DxReferenceIdeal.τ Cert.S5DxReferenceIdeal.sig) → Buf (Elt Ideal) ℓ) (g : Dev Cert.S5DxReferenceIdeal.nD → PrngReg), Pre_S5DxReferenceIdeal m →
    θ_run (Cert.S5DxReferenceIdeal.defs (F := Ideal)) (onTc (τ := Cert.S5DxReferenceIdeal.τ) (Cert.S5DxReferenceIdeal.main (F := Ideal))) ⟨m, fun _ => 0, g⟩ (fun r => (∀ c : Dev Cert.S5DxReferenceIdeal.nD,
      r.2.mem ((c.tc : Thread Cert.S5DxReferenceIdeal.nD Cert.S5DxReferenceIdeal.τ).loc Cert.S5DxReferenceIdeal.main_arg0) = m ((c.tc : Thread Cert.S5DxReferenceIdeal.nD Cert.S5DxReferenceIdeal.τ).loc Cert.S5DxReferenceIdeal.main_arg0)
      ∧ r.2.mem ((c.tc : Thread Cert.S5DxReferenceIdeal.nD Cert.S5DxReferenceIdeal.τ).loc Cert.S5DxReferenceIdeal.main_arg1) = m ((c.tc : Thread Cert.S5DxReferenceIdeal.nD Cert.S5DxReferenceIdeal.τ).loc Cert.S5DxReferenceIdeal.main_arg1)
      ∧ r.2.mem ((c.tc : Thread Cert.S5DxReferenceIdeal.nD Cert.S5DxReferenceIdeal.τ).loc Cert.S5DxReferenceIdeal.main_arg2) = m ((c.tc : Thread Cert.S5DxReferenceIdeal.nD Cert.S5DxReferenceIdeal.τ).loc Cert.S5DxReferenceIdeal.main_arg2))
      ∧ r.2.sem = fun _ => 0)

def quiescent_S5Dc [hS5Dc : Cert.S5Dc.Facts] : Prop :=
  ∀ (m : (ℓ : Loc Cert.S5Dc.nD Cert.S5Dc.τ Cert.S5Dc.sig) → Buf (Elt Bits) ℓ) (g : Dev Cert.S5Dc.nD → PrngReg), Pre_S5Dc m →
    θ_run (Cert.S5Dc.defs (F := Bits)) (onTc (τ := Cert.S5Dc.τ) (Cert.S5Dc.main (F := Bits))) ⟨m, fun _ => 0, g⟩ (fun r => (∀ c : Dev Cert.S5Dc.nD,
      r.2.mem ((c.tc : Thread Cert.S5Dc.nD Cert.S5Dc.τ).loc Cert.S5Dc.main_arg0) = m ((c.tc : Thread Cert.S5Dc.nD Cert.S5Dc.τ).loc Cert.S5Dc.main_arg0)
      ∧ r.2.mem ((c.tc : Thread Cert.S5Dc.nD Cert.S5Dc.τ).loc Cert.S5Dc.main_arg1) = m ((c.tc : Thread Cert.S5Dc.nD Cert.S5Dc.τ).loc Cert.S5Dc.main_arg1)
      ∧ r.2.mem ((c.tc : Thread Cert.S5Dc.nD Cert.S5Dc.τ).loc Cert.S5Dc.main_arg2) = m ((c.tc : Thread Cert.S5Dc.nD Cert.S5Dc.τ).loc Cert.S5Dc.main_arg2))
      ∧ r.2.sem = fun _ => 0)

def quiescent_S5DcIdeal [hS5DcIdeal : Cert.S5DcIdeal.Facts] : Prop :=
  ∀ (m : (ℓ : Loc Cert.S5DcIdeal.nD Cert.S5DcIdeal.τ Cert.S5DcIdeal.sig) → Buf (Elt Ideal) ℓ) (g : Dev Cert.S5DcIdeal.nD → PrngReg), Pre_S5DcIdeal m →
    θ_run (Cert.S5DcIdeal.defs (F := Ideal)) (onTc (τ := Cert.S5DcIdeal.τ) (Cert.S5DcIdeal.main (F := Ideal))) ⟨m, fun _ => 0, g⟩ (fun r => (∀ c : Dev Cert.S5DcIdeal.nD,
      r.2.mem ((c.tc : Thread Cert.S5DcIdeal.nD Cert.S5DcIdeal.τ).loc Cert.S5DcIdeal.main_arg0) = m ((c.tc : Thread Cert.S5DcIdeal.nD Cert.S5DcIdeal.τ).loc Cert.S5DcIdeal.main_arg0)
      ∧ r.2.mem ((c.tc : Thread Cert.S5DcIdeal.nD Cert.S5DcIdeal.τ).loc Cert.S5DcIdeal.main_arg1) = m ((c.tc : Thread Cert.S5DcIdeal.nD Cert.S5DcIdeal.τ).loc Cert.S5DcIdeal.main_arg1)
      ∧ r.2.mem ((c.tc : Thread Cert.S5DcIdeal.nD Cert.S5DcIdeal.τ).loc Cert.S5DcIdeal.main_arg2) = m ((c.tc : Thread Cert.S5DcIdeal.nD Cert.S5DcIdeal.τ).loc Cert.S5DcIdeal.main_arg2))
      ∧ r.2.sem = fun _ => 0)

def quiescent_S5DcReferenceIdeal [hS5DcReferenceIdeal : Cert.S5DcReferenceIdeal.Facts] : Prop :=
  ∀ (m : (ℓ : Loc Cert.S5DcReferenceIdeal.nD Cert.S5DcReferenceIdeal.τ Cert.S5DcReferenceIdeal.sig) → Buf (Elt Ideal) ℓ) (g : Dev Cert.S5DcReferenceIdeal.nD → PrngReg), Pre_S5DcReferenceIdeal m →
    θ_run (Cert.S5DcReferenceIdeal.defs (F := Ideal)) (onTc (τ := Cert.S5DcReferenceIdeal.τ) (Cert.S5DcReferenceIdeal.main (F := Ideal))) ⟨m, fun _ => 0, g⟩ (fun r => (∀ c : Dev Cert.S5DcReferenceIdeal.nD,
      r.2.mem ((c.tc : Thread Cert.S5DcReferenceIdeal.nD Cert.S5DcReferenceIdeal.τ).loc Cert.S5DcReferenceIdeal.main_arg0) = m ((c.tc : Thread Cert.S5DcReferenceIdeal.nD Cert.S5DcReferenceIdeal.τ).loc Cert.S5DcReferenceIdeal.main_arg0)
      ∧ r.2.mem ((c.tc : Thread Cert.S5DcReferenceIdeal.nD Cert.S5DcReferenceIdeal.τ).loc Cert.S5DcReferenceIdeal.main_arg1) = m ((c.tc : Thread Cert.S5DcReferenceIdeal.nD Cert.S5DcReferenceIdeal.τ).loc Cert.S5DcReferenceIdeal.main_arg1)
      ∧ r.2.mem ((c.tc : Thread Cert.S5DcReferenceIdeal.nD Cert.S5DcReferenceIdeal.τ).loc Cert.S5DcReferenceIdeal.main_arg2) = m ((c.tc : Thread Cert.S5DcReferenceIdeal.nD Cert.S5DcReferenceIdeal.τ).loc Cert.S5DcReferenceIdeal.main_arg2))
      ∧ r.2.sem = fun _ => 0)

def quiescent_S5Du [hS5Du : Cert.S5Du.Facts] : Prop :=
  ∀ (m : (ℓ : Loc Cert.S5Du.nD Cert.S5Du.τ Cert.S5Du.sig) → Buf (Elt Bits) ℓ) (g : Dev Cert.S5Du.nD → PrngReg), Pre_S5Du m →
    θ_run (Cert.S5Du.defs (F := Bits)) (onTc (τ := Cert.S5Du.τ) (Cert.S5Du.main (F := Bits))) ⟨m, fun _ => 0, g⟩ (fun r => (∀ c : Dev Cert.S5Du.nD,
      r.2.mem ((c.tc : Thread Cert.S5Du.nD Cert.S5Du.τ).loc Cert.S5Du.main_arg0) = m ((c.tc : Thread Cert.S5Du.nD Cert.S5Du.τ).loc Cert.S5Du.main_arg0)
      ∧ r.2.mem ((c.tc : Thread Cert.S5Du.nD Cert.S5Du.τ).loc Cert.S5Du.main_arg1) = m ((c.tc : Thread Cert.S5Du.nD Cert.S5Du.τ).loc Cert.S5Du.main_arg1)
      ∧ r.2.mem ((c.tc : Thread Cert.S5Du.nD Cert.S5Du.τ).loc Cert.S5Du.main_arg2) = m ((c.tc : Thread Cert.S5Du.nD Cert.S5Du.τ).loc Cert.S5Du.main_arg2)
      ∧ r.2.mem ((c.tc : Thread Cert.S5Du.nD Cert.S5Du.τ).loc Cert.S5Du.main_arg3) = m ((c.tc : Thread Cert.S5Du.nD Cert.S5Du.τ).loc Cert.S5Du.main_arg3))
      ∧ r.2.sem = fun _ => 0)

def quiescent_S5DuIdeal [hS5DuIdeal : Cert.S5DuIdeal.Facts] : Prop :=
  ∀ (m : (ℓ : Loc Cert.S5DuIdeal.nD Cert.S5DuIdeal.τ Cert.S5DuIdeal.sig) → Buf (Elt Ideal) ℓ) (g : Dev Cert.S5DuIdeal.nD → PrngReg), Pre_S5DuIdeal m →
    θ_run (Cert.S5DuIdeal.defs (F := Ideal)) (onTc (τ := Cert.S5DuIdeal.τ) (Cert.S5DuIdeal.main (F := Ideal))) ⟨m, fun _ => 0, g⟩ (fun r => (∀ c : Dev Cert.S5DuIdeal.nD,
      r.2.mem ((c.tc : Thread Cert.S5DuIdeal.nD Cert.S5DuIdeal.τ).loc Cert.S5DuIdeal.main_arg0) = m ((c.tc : Thread Cert.S5DuIdeal.nD Cert.S5DuIdeal.τ).loc Cert.S5DuIdeal.main_arg0)
      ∧ r.2.mem ((c.tc : Thread Cert.S5DuIdeal.nD Cert.S5DuIdeal.τ).loc Cert.S5DuIdeal.main_arg1) = m ((c.tc : Thread Cert.S5DuIdeal.nD Cert.S5DuIdeal.τ).loc Cert.S5DuIdeal.main_arg1)
      ∧ r.2.mem ((c.tc : Thread Cert.S5DuIdeal.nD Cert.S5DuIdeal.τ).loc Cert.S5DuIdeal.main_arg2) = m ((c.tc : Thread Cert.S5DuIdeal.nD Cert.S5DuIdeal.τ).loc Cert.S5DuIdeal.main_arg2)
      ∧ r.2.mem ((c.tc : Thread Cert.S5DuIdeal.nD Cert.S5DuIdeal.τ).loc Cert.S5DuIdeal.main_arg3) = m ((c.tc : Thread Cert.S5DuIdeal.nD Cert.S5DuIdeal.τ).loc Cert.S5DuIdeal.main_arg3))
      ∧ r.2.sem = fun _ => 0)

def quiescent_S5DuReferenceIdeal [hS5DuReferenceIdeal : Cert.S5DuReferenceIdeal.Facts] : Prop :=
  ∀ (m : (ℓ : Loc Cert.S5DuReferenceIdeal.nD Cert.S5DuReferenceIdeal.τ Cert.S5DuReferenceIdeal.sig) → Buf (Elt Ideal) ℓ) (g : Dev Cert.S5DuReferenceIdeal.nD → PrngReg), Pre_S5DuReferenceIdeal m →
    θ_run (Cert.S5DuReferenceIdeal.defs (F := Ideal)) (onTc (τ := Cert.S5DuReferenceIdeal.τ) (Cert.S5DuReferenceIdeal.main (F := Ideal))) ⟨m, fun _ => 0, g⟩ (fun r => (∀ c : Dev Cert.S5DuReferenceIdeal.nD,
      r.2.mem ((c.tc : Thread Cert.S5DuReferenceIdeal.nD Cert.S5DuReferenceIdeal.τ).loc Cert.S5DuReferenceIdeal.main_arg0) = m ((c.tc : Thread Cert.S5DuReferenceIdeal.nD Cert.S5DuReferenceIdeal.τ).loc Cert.S5DuReferenceIdeal.main_arg0)
      ∧ r.2.mem ((c.tc : Thread Cert.S5DuReferenceIdeal.nD Cert.S5DuReferenceIdeal.τ).loc Cert.S5DuReferenceIdeal.main_arg1) = m ((c.tc : Thread Cert.S5DuReferenceIdeal.nD Cert.S5DuReferenceIdeal.τ).loc Cert.S5DuReferenceIdeal.main_arg1)
      ∧ r.2.mem ((c.tc : Thread Cert.S5DuReferenceIdeal.nD Cert.S5DuReferenceIdeal.τ).loc Cert.S5DuReferenceIdeal.main_arg2) = m ((c.tc : Thread Cert.S5DuReferenceIdeal.nD Cert.S5DuReferenceIdeal.τ).loc Cert.S5DuReferenceIdeal.main_arg2)
      ∧ r.2.mem ((c.tc : Thread Cert.S5DuReferenceIdeal.nD Cert.S5DuReferenceIdeal.τ).loc Cert.S5DuReferenceIdeal.main_arg3) = m ((c.tc : Thread Cert.S5DuReferenceIdeal.nD Cert.S5DuReferenceIdeal.τ).loc Cert.S5DuReferenceIdeal.main_arg3))
      ∧ r.2.sem = fun _ => 0)

def quiescent_S5Db [hS5Db : Cert.S5Db.Facts] : Prop :=
  ∀ (m : (ℓ : Loc Cert.S5Db.nD Cert.S5Db.τ Cert.S5Db.sig) → Buf (Elt Bits) ℓ) (g : Dev Cert.S5Db.nD → PrngReg), Pre_S5Db m →
    θ_run (Cert.S5Db.defs (F := Bits)) (onTc (τ := Cert.S5Db.τ) (Cert.S5Db.main (F := Bits))) ⟨m, fun _ => 0, g⟩ (fun r => (∀ c : Dev Cert.S5Db.nD,
      r.2.mem ((c.tc : Thread Cert.S5Db.nD Cert.S5Db.τ).loc Cert.S5Db.main_arg0) = m ((c.tc : Thread Cert.S5Db.nD Cert.S5Db.τ).loc Cert.S5Db.main_arg0)
      ∧ r.2.mem ((c.tc : Thread Cert.S5Db.nD Cert.S5Db.τ).loc Cert.S5Db.main_arg1) = m ((c.tc : Thread Cert.S5Db.nD Cert.S5Db.τ).loc Cert.S5Db.main_arg1)
      ∧ r.2.mem ((c.tc : Thread Cert.S5Db.nD Cert.S5Db.τ).loc Cert.S5Db.main_arg2) = m ((c.tc : Thread Cert.S5Db.nD Cert.S5Db.τ).loc Cert.S5Db.main_arg2))
      ∧ r.2.sem = fun _ => 0)

def quiescent_S5DbIdeal [hS5DbIdeal : Cert.S5DbIdeal.Facts] : Prop :=
  ∀ (m : (ℓ : Loc Cert.S5DbIdeal.nD Cert.S5DbIdeal.τ Cert.S5DbIdeal.sig) → Buf (Elt Ideal) ℓ) (g : Dev Cert.S5DbIdeal.nD → PrngReg), Pre_S5DbIdeal m →
    θ_run (Cert.S5DbIdeal.defs (F := Ideal)) (onTc (τ := Cert.S5DbIdeal.τ) (Cert.S5DbIdeal.main (F := Ideal))) ⟨m, fun _ => 0, g⟩ (fun r => (∀ c : Dev Cert.S5DbIdeal.nD,
      r.2.mem ((c.tc : Thread Cert.S5DbIdeal.nD Cert.S5DbIdeal.τ).loc Cert.S5DbIdeal.main_arg0) = m ((c.tc : Thread Cert.S5DbIdeal.nD Cert.S5DbIdeal.τ).loc Cert.S5DbIdeal.main_arg0)
      ∧ r.2.mem ((c.tc : Thread Cert.S5DbIdeal.nD Cert.S5DbIdeal.τ).loc Cert.S5DbIdeal.main_arg1) = m ((c.tc : Thread Cert.S5DbIdeal.nD Cert.S5DbIdeal.τ).loc Cert.S5DbIdeal.main_arg1)
      ∧ r.2.mem ((c.tc : Thread Cert.S5DbIdeal.nD Cert.S5DbIdeal.τ).loc Cert.S5DbIdeal.main_arg2) = m ((c.tc : Thread Cert.S5DbIdeal.nD Cert.S5DbIdeal.τ).loc Cert.S5DbIdeal.main_arg2))
      ∧ r.2.sem = fun _ => 0)

def quiescent_S5DbReferenceIdeal [hS5DbReferenceIdeal : Cert.S5DbReferenceIdeal.Facts] : Prop :=
  ∀ (m : (ℓ : Loc Cert.S5DbReferenceIdeal.nD Cert.S5DbReferenceIdeal.τ Cert.S5DbReferenceIdeal.sig) → Buf (Elt Ideal) ℓ) (g : Dev Cert.S5DbReferenceIdeal.nD → PrngReg), Pre_S5DbReferenceIdeal m →
    θ_run (Cert.S5DbReferenceIdeal.defs (F := Ideal)) (onTc (τ := Cert.S5DbReferenceIdeal.τ) (Cert.S5DbReferenceIdeal.main (F := Ideal))) ⟨m, fun _ => 0, g⟩ (fun r => (∀ c : Dev Cert.S5DbReferenceIdeal.nD,
      r.2.mem ((c.tc : Thread Cert.S5DbReferenceIdeal.nD Cert.S5DbReferenceIdeal.τ).loc Cert.S5DbReferenceIdeal.main_arg0) = m ((c.tc : Thread Cert.S5DbReferenceIdeal.nD Cert.S5DbReferenceIdeal.τ).loc Cert.S5DbReferenceIdeal.main_arg0)
      ∧ r.2.mem ((c.tc : Thread Cert.S5DbReferenceIdeal.nD Cert.S5DbReferenceIdeal.τ).loc Cert.S5DbReferenceIdeal.main_arg1) = m ((c.tc : Thread Cert.S5DbReferenceIdeal.nD Cert.S5DbReferenceIdeal.τ).loc Cert.S5DbReferenceIdeal.main_arg1)
      ∧ r.2.mem ((c.tc : Thread Cert.S5DbReferenceIdeal.nD Cert.S5DbReferenceIdeal.τ).loc Cert.S5DbReferenceIdeal.main_arg2) = m ((c.tc : Thread Cert.S5DbReferenceIdeal.nD Cert.S5DbReferenceIdeal.τ).loc Cert.S5DbReferenceIdeal.main_arg2))
      ∧ r.2.sem = fun _ => 0)

def quiescent_LruConvGrad [hLruConvGrad : Cert.LruConvGrad.Facts] : Prop :=
  ∀ (m : (ℓ : Loc Cert.LruConvGrad.nD Cert.LruConvGrad.τ Cert.LruConvGrad.sig) → Buf (Elt Bits) ℓ) (g : Dev Cert.LruConvGrad.nD → PrngReg), Pre_LruConvGrad m →
    θ_run (Cert.LruConvGrad.defs (F := Bits)) (onTc (τ := Cert.LruConvGrad.τ) (Cert.LruConvGrad.main (F := Bits))) ⟨m, fun _ => 0, g⟩ (fun r => (∀ c : Dev Cert.LruConvGrad.nD,
      r.2.mem ((c.tc : Thread Cert.LruConvGrad.nD Cert.LruConvGrad.τ).loc Cert.LruConvGrad.main_arg0) = m ((c.tc : Thread Cert.LruConvGrad.nD Cert.LruConvGrad.τ).loc Cert.LruConvGrad.main_arg0)
      ∧ r.2.mem ((c.tc : Thread Cert.LruConvGrad.nD Cert.LruConvGrad.τ).loc Cert.LruConvGrad.main_arg1) = m ((c.tc : Thread Cert.LruConvGrad.nD Cert.LruConvGrad.τ).loc Cert.LruConvGrad.main_arg1)
      ∧ r.2.mem ((c.tc : Thread Cert.LruConvGrad.nD Cert.LruConvGrad.τ).loc Cert.LruConvGrad.main_arg2) = m ((c.tc : Thread Cert.LruConvGrad.nD Cert.LruConvGrad.τ).loc Cert.LruConvGrad.main_arg2)
      ∧ r.2.mem ((c.tc : Thread Cert.LruConvGrad.nD Cert.LruConvGrad.τ).loc Cert.LruConvGrad.main_arg3) = m ((c.tc : Thread Cert.LruConvGrad.nD Cert.LruConvGrad.τ).loc Cert.LruConvGrad.main_arg3))
      ∧ r.2.sem = fun _ => 0)

def quiescent_LruConvGradIdeal [hLruConvGradIdeal : Cert.LruConvGradIdeal.Facts] : Prop :=
  ∀ (m : (ℓ : Loc Cert.LruConvGradIdeal.nD Cert.LruConvGradIdeal.τ Cert.LruConvGradIdeal.sig) → Buf (Elt Ideal) ℓ) (g : Dev Cert.LruConvGradIdeal.nD → PrngReg), Pre_LruConvGradIdeal m →
    θ_run (Cert.LruConvGradIdeal.defs (F := Ideal)) (onTc (τ := Cert.LruConvGradIdeal.τ) (Cert.LruConvGradIdeal.main (F := Ideal))) ⟨m, fun _ => 0, g⟩ (fun r => (∀ c : Dev Cert.LruConvGradIdeal.nD,
      r.2.mem ((c.tc : Thread Cert.LruConvGradIdeal.nD Cert.LruConvGradIdeal.τ).loc Cert.LruConvGradIdeal.main_arg0) = m ((c.tc : Thread Cert.LruConvGradIdeal.nD Cert.LruConvGradIdeal.τ).loc Cert.LruConvGradIdeal.main_arg0)
      ∧ r.2.mem ((c.tc : Thread Cert.LruConvGradIdeal.nD Cert.LruConvGradIdeal.τ).loc Cert.LruConvGradIdeal.main_arg1) = m ((c.tc : Thread Cert.LruConvGradIdeal.nD Cert.LruConvGradIdeal.τ).loc Cert.LruConvGradIdeal.main_arg1)
      ∧ r.2.mem ((c.tc : Thread Cert.LruConvGradIdeal.nD Cert.LruConvGradIdeal.τ).loc Cert.LruConvGradIdeal.main_arg2) = m ((c.tc : Thread Cert.LruConvGradIdeal.nD Cert.LruConvGradIdeal.τ).loc Cert.LruConvGradIdeal.main_arg2)
      ∧ r.2.mem ((c.tc : Thread Cert.LruConvGradIdeal.nD Cert.LruConvGradIdeal.τ).loc Cert.LruConvGradIdeal.main_arg3) = m ((c.tc : Thread Cert.LruConvGradIdeal.nD Cert.LruConvGradIdeal.τ).loc Cert.LruConvGradIdeal.main_arg3))
      ∧ r.2.sem = fun _ => 0)

def quiescent_LruConvGradReferenceIdeal [hLruConvGradReferenceIdeal : Cert.LruConvGradReferenceIdeal.Facts] : Prop :=
  ∀ (m : (ℓ : Loc Cert.LruConvGradReferenceIdeal.nD Cert.LruConvGradReferenceIdeal.τ Cert.LruConvGradReferenceIdeal.sig) → Buf (Elt Ideal) ℓ) (g : Dev Cert.LruConvGradReferenceIdeal.nD → PrngReg), Pre_LruConvGradReferenceIdeal m →
    θ_run (Cert.LruConvGradReferenceIdeal.defs (F := Ideal)) (onTc (τ := Cert.LruConvGradReferenceIdeal.τ) (Cert.LruConvGradReferenceIdeal.main (F := Ideal))) ⟨m, fun _ => 0, g⟩ (fun r => (∀ c : Dev Cert.LruConvGradReferenceIdeal.nD,
      r.2.mem ((c.tc : Thread Cert.LruConvGradReferenceIdeal.nD Cert.LruConvGradReferenceIdeal.τ).loc Cert.LruConvGradReferenceIdeal.main_arg0) = m ((c.tc : Thread Cert.LruConvGradReferenceIdeal.nD Cert.LruConvGradReferenceIdeal.τ).loc Cert.LruConvGradReferenceIdeal.main_arg0)
      ∧ r.2.mem ((c.tc : Thread Cert.LruConvGradReferenceIdeal.nD Cert.LruConvGradReferenceIdeal.τ).loc Cert.LruConvGradReferenceIdeal.main_arg1) = m ((c.tc : Thread Cert.LruConvGradReferenceIdeal.nD Cert.LruConvGradReferenceIdeal.τ).loc Cert.LruConvGradReferenceIdeal.main_arg1)
      ∧ r.2.mem ((c.tc : Thread Cert.LruConvGradReferenceIdeal.nD Cert.LruConvGradReferenceIdeal.τ).loc Cert.LruConvGradReferenceIdeal.main_arg2) = m ((c.tc : Thread Cert.LruConvGradReferenceIdeal.nD Cert.LruConvGradReferenceIdeal.τ).loc Cert.LruConvGradReferenceIdeal.main_arg2)
      ∧ r.2.mem ((c.tc : Thread Cert.LruConvGradReferenceIdeal.nD Cert.LruConvGradReferenceIdeal.τ).loc Cert.LruConvGradReferenceIdeal.main_arg3) = m ((c.tc : Thread Cert.LruConvGradReferenceIdeal.nD Cert.LruConvGradReferenceIdeal.τ).loc Cert.LruConvGradReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamFfnConv [hAdamFfnConv : Cert.AdamFfnConv.Facts] : Prop :=
  ∀ (m : (ℓ : Loc Cert.AdamFfnConv.nD Cert.AdamFfnConv.τ Cert.AdamFfnConv.sig) → Buf (Elt Bits) ℓ) (g : Dev Cert.AdamFfnConv.nD → PrngReg), Pre_AdamFfnConv m →
    θ_run (Cert.AdamFfnConv.defs (F := Bits)) (onTc (τ := Cert.AdamFfnConv.τ) (Cert.AdamFfnConv.main (F := Bits))) ⟨m, fun _ => 0, g⟩ (fun r => (∀ c : Dev Cert.AdamFfnConv.nD,
      r.2.mem ((c.tc : Thread Cert.AdamFfnConv.nD Cert.AdamFfnConv.τ).loc Cert.AdamFfnConv.main_arg0) = m ((c.tc : Thread Cert.AdamFfnConv.nD Cert.AdamFfnConv.τ).loc Cert.AdamFfnConv.main_arg0)
      ∧ r.2.mem ((c.tc : Thread Cert.AdamFfnConv.nD Cert.AdamFfnConv.τ).loc Cert.AdamFfnConv.main_arg1) = m ((c.tc : Thread Cert.AdamFfnConv.nD Cert.AdamFfnConv.τ).loc Cert.AdamFfnConv.main_arg1)
      ∧ r.2.mem ((c.tc : Thread Cert.AdamFfnConv.nD Cert.AdamFfnConv.τ).loc Cert.AdamFfnConv.main_arg2) = m ((c.tc : Thread Cert.AdamFfnConv.nD Cert.AdamFfnConv.τ).loc Cert.AdamFfnConv.main_arg2)
      ∧ r.2.mem ((c.tc : Thread Cert.AdamFfnConv.nD Cert.AdamFfnConv.τ).loc Cert.AdamFfnConv.main_arg3) = m ((c.tc : Thread Cert.AdamFfnConv.nD Cert.AdamFfnConv.τ).loc Cert.AdamFfnConv.main_arg3))
      ∧ r.2.sem = fun _ => 0)

def quiescent_AdamFfnConvIdeal [hAdamFfnConvIdeal : Cert.AdamFfnConvIdeal.Facts] : Prop :=
  ∀ (m : (ℓ : Loc Cert.AdamFfnConvIdeal.nD Cert.AdamFfnConvIdeal.τ Cert.AdamFfnConvIdeal.sig) → Buf (Elt Ideal) ℓ) (g : Dev Cert.AdamFfnConvIdeal.nD → PrngReg), Pre_AdamFfnConvIdeal m →
    θ_run (Cert.AdamFfnConvIdeal.defs (F := Ideal)) (onTc (τ := Cert.AdamFfnConvIdeal.τ) (Cert.AdamFfnConvIdeal.main (F := Ideal))) ⟨m, fun _ => 0, g⟩ (fun r => (∀ c : Dev Cert.AdamFfnConvIdeal.nD,
      r.2.mem ((c.tc : Thread Cert.AdamFfnConvIdeal.nD Cert.AdamFfnConvIdeal.τ).loc Cert.AdamFfnConvIdeal.main_arg0) = m ((c.tc : Thread Cert.AdamFfnConvIdeal.nD Cert.AdamFfnConvIdeal.τ).loc Cert.AdamFfnConvIdeal.main_arg0)
      ∧ r.2.mem ((c.tc : Thread Cert.AdamFfnConvIdeal.nD Cert.AdamFfnConvIdeal.τ).loc Cert.AdamFfnConvIdeal.main_arg1) = m ((c.tc : Thread Cert.AdamFfnConvIdeal.nD Cert.AdamFfnConvIdeal.τ).loc Cert.AdamFfnConvIdeal.main_arg1)
      ∧ r.2.mem ((c.tc : Thread Cert.AdamFfnConvIdeal.nD Cert.AdamFfnConvIdeal.τ).loc Cert.AdamFfnConvIdeal.main_arg2) = m ((c.tc : Thread Cert.AdamFfnConvIdeal.nD Cert.AdamFfnConvIdeal.τ).loc Cert.AdamFfnConvIdeal.main_arg2)
      ∧ r.2.mem ((c.tc : Thread Cert.AdamFfnConvIdeal.nD Cert.AdamFfnConvIdeal.τ).loc Cert.AdamFfnConvIdeal.main_arg3) = m ((c.tc : Thread Cert.AdamFfnConvIdeal.nD Cert.AdamFfnConvIdeal.τ).loc Cert.AdamFfnConvIdeal.main_arg3))
      ∧ r.2.sem = fun _ => 0)

def quiescent_AdamFfnConvReferenceIdeal [hAdamFfnConvReferenceIdeal : Cert.AdamFfnConvReferenceIdeal.Facts] : Prop :=
  ∀ (m : (ℓ : Loc Cert.AdamFfnConvReferenceIdeal.nD Cert.AdamFfnConvReferenceIdeal.τ Cert.AdamFfnConvReferenceIdeal.sig) → Buf (Elt Ideal) ℓ) (g : Dev Cert.AdamFfnConvReferenceIdeal.nD → PrngReg), Pre_AdamFfnConvReferenceIdeal m →
    θ_run (Cert.AdamFfnConvReferenceIdeal.defs (F := Ideal)) (onTc (τ := Cert.AdamFfnConvReferenceIdeal.τ) (Cert.AdamFfnConvReferenceIdeal.main (F := Ideal))) ⟨m, fun _ => 0, g⟩ (fun r => (∀ c : Dev Cert.AdamFfnConvReferenceIdeal.nD,
      r.2.mem ((c.tc : Thread Cert.AdamFfnConvReferenceIdeal.nD Cert.AdamFfnConvReferenceIdeal.τ).loc Cert.AdamFfnConvReferenceIdeal.main_arg0) = m ((c.tc : Thread Cert.AdamFfnConvReferenceIdeal.nD Cert.AdamFfnConvReferenceIdeal.τ).loc Cert.AdamFfnConvReferenceIdeal.main_arg0)
      ∧ r.2.mem ((c.tc : Thread Cert.AdamFfnConvReferenceIdeal.nD Cert.AdamFfnConvReferenceIdeal.τ).loc Cert.AdamFfnConvReferenceIdeal.main_arg1) = m ((c.tc : Thread Cert.AdamFfnConvReferenceIdeal.nD Cert.AdamFfnConvReferenceIdeal.τ).loc Cert.AdamFfnConvReferenceIdeal.main_arg1)
      ∧ r.2.mem ((c.tc : Thread Cert.AdamFfnConvReferenceIdeal.nD Cert.AdamFfnConvReferenceIdeal.τ).loc Cert.AdamFfnConvReferenceIdeal.main_arg2) = m ((c.tc : Thread Cert.AdamFfnConvReferenceIdeal.nD Cert.AdamFfnConvReferenceIdeal.τ).loc Cert.AdamFfnConvReferenceIdeal.main_arg2)
      ∧ r.2.mem ((c.tc : Thread Cert.AdamFfnConvReferenceIdeal.nD Cert.AdamFfnConvReferenceIdeal.τ).loc Cert.AdamFfnConvReferenceIdeal.main_arg3) = m ((c.tc : Thread Cert.AdamFfnConvReferenceIdeal.nD Cert.AdamFfnConvReferenceIdeal.τ).loc Cert.AdamFfnConvReferenceIdeal.main_arg3))
      ∧ r.2.sem = fun _ => 0)

def quiescent_AdamLruConv [hAdamLruConv : Cert.AdamLruConv.Facts] : Prop :=
  ∀ (m : (ℓ : Loc Cert.AdamLruConv.nD Cert.AdamLruConv.τ Cert.AdamLruConv.sig) → Buf (Elt Bits) ℓ) (g : Dev Cert.AdamLruConv.nD → PrngReg), Pre_AdamLruConv m →
    θ_run (Cert.AdamLruConv.defs (F := Bits)) (onTc (τ := Cert.AdamLruConv.τ) (Cert.AdamLruConv.main (F := Bits))) ⟨m, fun _ => 0, g⟩ (fun r => (∀ c : Dev Cert.AdamLruConv.nD,
      r.2.mem ((c.tc : Thread Cert.AdamLruConv.nD Cert.AdamLruConv.τ).loc Cert.AdamLruConv.main_arg0) = m ((c.tc : Thread Cert.AdamLruConv.nD Cert.AdamLruConv.τ).loc Cert.AdamLruConv.main_arg0)
      ∧ r.2.mem ((c.tc : Thread Cert.AdamLruConv.nD Cert.AdamLruConv.τ).loc Cert.AdamLruConv.main_arg1) = m ((c.tc : Thread Cert.AdamLruConv.nD Cert.AdamLruConv.τ).loc Cert.AdamLruConv.main_arg1)
      ∧ r.2.mem ((c.tc : Thread Cert.AdamLruConv.nD Cert.AdamLruConv.τ).loc Cert.AdamLruConv.main_arg2) = m ((c.tc : Thread Cert.AdamLruConv.nD Cert.AdamLruConv.τ).loc Cert.AdamLruConv.main_arg2)
      ∧ r.2.mem ((c.tc : Thread Cert.AdamLruConv.nD Cert.AdamLruConv.τ).loc Cert.AdamLruConv.main_arg3) = m ((c.tc : Thread Cert.AdamLruConv.nD Cert.AdamLruConv.τ).loc Cert.AdamLruConv.main_arg3))
      ∧ r.2.sem = fun _ => 0)

def quiescent_AdamLruConvIdeal [hAdamLruConvIdeal : Cert.AdamLruConvIdeal.Facts] : Prop :=
  ∀ (m : (ℓ : Loc Cert.AdamLruConvIdeal.nD Cert.AdamLruConvIdeal.τ Cert.AdamLruConvIdeal.sig) → Buf (Elt Ideal) ℓ) (g : Dev Cert.AdamLruConvIdeal.nD → PrngReg), Pre_AdamLruConvIdeal m →
    θ_run (Cert.AdamLruConvIdeal.defs (F := Ideal)) (onTc (τ := Cert.AdamLruConvIdeal.τ) (Cert.AdamLruConvIdeal.main (F := Ideal))) ⟨m, fun _ => 0, g⟩ (fun r => (∀ c : Dev Cert.AdamLruConvIdeal.nD,
      r.2.mem ((c.tc : Thread Cert.AdamLruConvIdeal.nD Cert.AdamLruConvIdeal.τ).loc Cert.AdamLruConvIdeal.main_arg0) = m ((c.tc : Thread Cert.AdamLruConvIdeal.nD Cert.AdamLruConvIdeal.τ).loc Cert.AdamLruConvIdeal.main_arg0)
      ∧ r.2.mem ((c.tc : Thread Cert.AdamLruConvIdeal.nD Cert.AdamLruConvIdeal.τ).loc Cert.AdamLruConvIdeal.main_arg1) = m ((c.tc : Thread Cert.AdamLruConvIdeal.nD Cert.AdamLruConvIdeal.τ).loc Cert.AdamLruConvIdeal.main_arg1)
      ∧ r.2.mem ((c.tc : Thread Cert.AdamLruConvIdeal.nD Cert.AdamLruConvIdeal.τ).loc Cert.AdamLruConvIdeal.main_arg2) = m ((c.tc : Thread Cert.AdamLruConvIdeal.nD Cert.AdamLruConvIdeal.τ).loc Cert.AdamLruConvIdeal.main_arg2)
      ∧ r.2.mem ((c.tc : Thread Cert.AdamLruConvIdeal.nD Cert.AdamLruConvIdeal.τ).loc Cert.AdamLruConvIdeal.main_arg3) = m ((c.tc : Thread Cert.AdamLruConvIdeal.nD Cert.AdamLruConvIdeal.τ).loc Cert.AdamLruConvIdeal.main_arg3))
      ∧ r.2.sem = fun _ => 0)

def quiescent_AdamLruConvReferenceIdeal [hAdamLruConvReferenceIdeal : Cert.AdamLruConvReferenceIdeal.Facts] : Prop :=
  ∀ (m : (ℓ : Loc Cert.AdamLruConvReferenceIdeal.nD Cert.AdamLruConvReferenceIdeal.τ Cert.AdamLruConvReferenceIdeal.sig) → Buf (Elt Ideal) ℓ) (g : Dev Cert.AdamLruConvReferenceIdeal.nD → PrngReg), Pre_AdamLruConvReferenceIdeal m →
    θ_run (Cert.AdamLruConvReferenceIdeal.defs (F := Ideal)) (onTc (τ := Cert.AdamLruConvReferenceIdeal.τ) (Cert.AdamLruConvReferenceIdeal.main (F := Ideal))) ⟨m, fun _ => 0, g⟩ (fun r => (∀ c : Dev Cert.AdamLruConvReferenceIdeal.nD,
      r.2.mem ((c.tc : Thread Cert.AdamLruConvReferenceIdeal.nD Cert.AdamLruConvReferenceIdeal.τ).loc Cert.AdamLruConvReferenceIdeal.main_arg0) = m ((c.tc : Thread Cert.AdamLruConvReferenceIdeal.nD Cert.AdamLruConvReferenceIdeal.τ).loc Cert.AdamLruConvReferenceIdeal.main_arg0)
      ∧ r.2.mem ((c.tc : Thread Cert.AdamLruConvReferenceIdeal.nD Cert.AdamLruConvReferenceIdeal.τ).loc Cert.AdamLruConvReferenceIdeal.main_arg1) = m ((c.tc : Thread Cert.AdamLruConvReferenceIdeal.nD Cert.AdamLruConvReferenceIdeal.τ).loc Cert.AdamLruConvReferenceIdeal.main_arg1)
      ∧ r.2.mem ((c.tc : Thread Cert.AdamLruConvReferenceIdeal.nD Cert.AdamLruConvReferenceIdeal.τ).loc Cert.AdamLruConvReferenceIdeal.main_arg2) = m ((c.tc : Thread Cert.AdamLruConvReferenceIdeal.nD Cert.AdamLruConvReferenceIdeal.τ).loc Cert.AdamLruConvReferenceIdeal.main_arg2)
      ∧ r.2.mem ((c.tc : Thread Cert.AdamLruConvReferenceIdeal.nD Cert.AdamLruConvReferenceIdeal.τ).loc Cert.AdamLruConvReferenceIdeal.main_arg3) = m ((c.tc : Thread Cert.AdamLruConvReferenceIdeal.nD Cert.AdamLruConvReferenceIdeal.τ).loc Cert.AdamLruConvReferenceIdeal.main_arg3))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumReferenceIdeal [hPairSumReferenceIdeal : Cert.PairSumReferenceIdeal.Facts] : Prop :=
  ∀ (m : (ℓ : Loc Cert.PairSumReferenceIdeal.nD Cert.PairSumReferenceIdeal.τ Cert.PairSumReferenceIdeal.sig) → Buf (Elt Ideal) ℓ) (g : Dev Cert.PairSumReferenceIdeal.nD → PrngReg), Pre_PairSumReferenceIdeal m →
    θ_run (Cert.PairSumReferenceIdeal.defs (F := Ideal)) (onTc (τ := Cert.PairSumReferenceIdeal.τ) (Cert.PairSumReferenceIdeal.main (F := Ideal))) ⟨m, fun _ => 0, g⟩ (fun r => (∀ c : Dev Cert.PairSumReferenceIdeal.nD,
      r.2.mem ((c.tc : Thread Cert.PairSumReferenceIdeal.nD Cert.PairSumReferenceIdeal.τ).loc Cert.PairSumReferenceIdeal.main_arg0) = m ((c.tc : Thread Cert.PairSumReferenceIdeal.nD Cert.PairSumReferenceIdeal.τ).loc Cert.PairSumReferenceIdeal.main_arg0)
      ∧ r.2.mem ((c.tc : Thread Cert.PairSumReferenceIdeal.nD Cert.PairSumReferenceIdeal.τ).loc Cert.PairSumReferenceIdeal.main_arg1) = m ((c.tc : Thread Cert.PairSumReferenceIdeal.nD Cert.PairSumReferenceIdeal.τ).loc Cert.PairSumReferenceIdeal.main_arg1))
      ∧ r.2.sem = fun _ => 0)

def quiescent_S5Params [hS5Params : Cert.S5Params.Facts] : Prop :=
  ∀ (m : (ℓ : Loc Cert.S5Params.nD Cert.S5Params.τ Cert.S5Params.sig) → Buf (Elt Bits) ℓ) (g : Dev Cert.S5Params.nD → PrngReg), Pre_S5Params m →
    θ_run (Cert.S5Params.defs (F := Bits)) (onTc (τ := Cert.S5Params.τ) (Cert.S5Params.main (F := Bits))) ⟨m, fun _ => 0, g⟩ (fun r => (∀ c : Dev Cert.S5Params.nD,
      r.2.mem ((c.tc : Thread Cert.S5Params.nD Cert.S5Params.τ).loc Cert.S5Params.main_arg0) = m ((c.tc : Thread Cert.S5Params.nD Cert.S5Params.τ).loc Cert.S5Params.main_arg0)
      ∧ r.2.mem ((c.tc : Thread Cert.S5Params.nD Cert.S5Params.τ).loc Cert.S5Params.main_arg1) = m ((c.tc : Thread Cert.S5Params.nD Cert.S5Params.τ).loc Cert.S5Params.main_arg1)
      ∧ r.2.mem ((c.tc : Thread Cert.S5Params.nD Cert.S5Params.τ).loc Cert.S5Params.main_arg2) = m ((c.tc : Thread Cert.S5Params.nD Cert.S5Params.τ).loc Cert.S5Params.main_arg2)
      ∧ r.2.mem ((c.tc : Thread Cert.S5Params.nD Cert.S5Params.τ).loc Cert.S5Params.main_arg3) = m ((c.tc : Thread Cert.S5Params.nD Cert.S5Params.τ).loc Cert.S5Params.main_arg3)
      ∧ r.2.mem ((c.tc : Thread Cert.S5Params.nD Cert.S5Params.τ).loc Cert.S5Params.main_arg4) = m ((c.tc : Thread Cert.S5Params.nD Cert.S5Params.τ).loc Cert.S5Params.main_arg4))
      ∧ r.2.sem = fun _ => 0)

def quiescent_S5ParamsIdeal [hS5ParamsIdeal : Cert.S5ParamsIdeal.Facts] : Prop :=
  ∀ (m : (ℓ : Loc Cert.S5ParamsIdeal.nD Cert.S5ParamsIdeal.τ Cert.S5ParamsIdeal.sig) → Buf (Elt Ideal) ℓ) (g : Dev Cert.S5ParamsIdeal.nD → PrngReg), Pre_S5ParamsIdeal m →
    θ_run (Cert.S5ParamsIdeal.defs (F := Ideal)) (onTc (τ := Cert.S5ParamsIdeal.τ) (Cert.S5ParamsIdeal.main (F := Ideal))) ⟨m, fun _ => 0, g⟩ (fun r => (∀ c : Dev Cert.S5ParamsIdeal.nD,
      r.2.mem ((c.tc : Thread Cert.S5ParamsIdeal.nD Cert.S5ParamsIdeal.τ).loc Cert.S5ParamsIdeal.main_arg0) = m ((c.tc : Thread Cert.S5ParamsIdeal.nD Cert.S5ParamsIdeal.τ).loc Cert.S5ParamsIdeal.main_arg0)
      ∧ r.2.mem ((c.tc : Thread Cert.S5ParamsIdeal.nD Cert.S5ParamsIdeal.τ).loc Cert.S5ParamsIdeal.main_arg1) = m ((c.tc : Thread Cert.S5ParamsIdeal.nD Cert.S5ParamsIdeal.τ).loc Cert.S5ParamsIdeal.main_arg1)
      ∧ r.2.mem ((c.tc : Thread Cert.S5ParamsIdeal.nD Cert.S5ParamsIdeal.τ).loc Cert.S5ParamsIdeal.main_arg2) = m ((c.tc : Thread Cert.S5ParamsIdeal.nD Cert.S5ParamsIdeal.τ).loc Cert.S5ParamsIdeal.main_arg2)
      ∧ r.2.mem ((c.tc : Thread Cert.S5ParamsIdeal.nD Cert.S5ParamsIdeal.τ).loc Cert.S5ParamsIdeal.main_arg3) = m ((c.tc : Thread Cert.S5ParamsIdeal.nD Cert.S5ParamsIdeal.τ).loc Cert.S5ParamsIdeal.main_arg3)
      ∧ r.2.mem ((c.tc : Thread Cert.S5ParamsIdeal.nD Cert.S5ParamsIdeal.τ).loc Cert.S5ParamsIdeal.main_arg4) = m ((c.tc : Thread Cert.S5ParamsIdeal.nD Cert.S5ParamsIdeal.τ).loc Cert.S5ParamsIdeal.main_arg4))
      ∧ r.2.sem = fun _ => 0)

def quiescent_S5ParamsReferenceIdeal [hS5ParamsReferenceIdeal : Cert.S5ParamsReferenceIdeal.Facts] : Prop :=
  ∀ (m : (ℓ : Loc Cert.S5ParamsReferenceIdeal.nD Cert.S5ParamsReferenceIdeal.τ Cert.S5ParamsReferenceIdeal.sig) → Buf (Elt Ideal) ℓ) (g : Dev Cert.S5ParamsReferenceIdeal.nD → PrngReg), Pre_S5ParamsReferenceIdeal m →
    θ_run (Cert.S5ParamsReferenceIdeal.defs (F := Ideal)) (onTc (τ := Cert.S5ParamsReferenceIdeal.τ) (Cert.S5ParamsReferenceIdeal.main (F := Ideal))) ⟨m, fun _ => 0, g⟩ (fun r => (∀ c : Dev Cert.S5ParamsReferenceIdeal.nD,
      r.2.mem ((c.tc : Thread Cert.S5ParamsReferenceIdeal.nD Cert.S5ParamsReferenceIdeal.τ).loc Cert.S5ParamsReferenceIdeal.main_arg0) = m ((c.tc : Thread Cert.S5ParamsReferenceIdeal.nD Cert.S5ParamsReferenceIdeal.τ).loc Cert.S5ParamsReferenceIdeal.main_arg0)
      ∧ r.2.mem ((c.tc : Thread Cert.S5ParamsReferenceIdeal.nD Cert.S5ParamsReferenceIdeal.τ).loc Cert.S5ParamsReferenceIdeal.main_arg1) = m ((c.tc : Thread Cert.S5ParamsReferenceIdeal.nD Cert.S5ParamsReferenceIdeal.τ).loc Cert.S5ParamsReferenceIdeal.main_arg1)
      ∧ r.2.mem ((c.tc : Thread Cert.S5ParamsReferenceIdeal.nD Cert.S5ParamsReferenceIdeal.τ).loc Cert.S5ParamsReferenceIdeal.main_arg2) = m ((c.tc : Thread Cert.S5ParamsReferenceIdeal.nD Cert.S5ParamsReferenceIdeal.τ).loc Cert.S5ParamsReferenceIdeal.main_arg2)
      ∧ r.2.mem ((c.tc : Thread Cert.S5ParamsReferenceIdeal.nD Cert.S5ParamsReferenceIdeal.τ).loc Cert.S5ParamsReferenceIdeal.main_arg3) = m ((c.tc : Thread Cert.S5ParamsReferenceIdeal.nD Cert.S5ParamsReferenceIdeal.τ).loc Cert.S5ParamsReferenceIdeal.main_arg3)
      ∧ r.2.mem ((c.tc : Thread Cert.S5ParamsReferenceIdeal.nD Cert.S5ParamsReferenceIdeal.τ).loc Cert.S5ParamsReferenceIdeal.main_arg4) = m ((c.tc : Thread Cert.S5ParamsReferenceIdeal.nD Cert.S5ParamsReferenceIdeal.τ).loc Cert.S5ParamsReferenceIdeal.main_arg4))
      ∧ r.2.sem = fun _ => 0)

def quiescent_S5ParamsGrad [hS5ParamsGrad : Cert.S5ParamsGrad.Facts] : Prop :=
  ∀ (m : (ℓ : Loc Cert.S5ParamsGrad.nD Cert.S5ParamsGrad.τ Cert.S5ParamsGrad.sig) → Buf (Elt Bits) ℓ) (g : Dev Cert.S5ParamsGrad.nD → PrngReg), Pre_S5ParamsGrad m →
    θ_run (Cert.S5ParamsGrad.defs (F := Bits)) (onTc (τ := Cert.S5ParamsGrad.τ) (Cert.S5ParamsGrad.main (F := Bits))) ⟨m, fun _ => 0, g⟩ (fun r => (∀ c : Dev Cert.S5ParamsGrad.nD,
      r.2.mem ((c.tc : Thread Cert.S5ParamsGrad.nD Cert.S5ParamsGrad.τ).loc Cert.S5ParamsGrad.main_arg0) = m ((c.tc : Thread Cert.S5ParamsGrad.nD Cert.S5ParamsGrad.τ).loc Cert.S5ParamsGrad.main_arg0)
      ∧ r.2.mem ((c.tc : Thread Cert.S5ParamsGrad.nD Cert.S5ParamsGrad.τ).loc Cert.S5ParamsGrad.main_arg1) = m ((c.tc : Thread Cert.S5ParamsGrad.nD Cert.S5ParamsGrad.τ).loc Cert.S5ParamsGrad.main_arg1)
      ∧ r.2.mem ((c.tc : Thread Cert.S5ParamsGrad.nD Cert.S5ParamsGrad.τ).loc Cert.S5ParamsGrad.main_arg2) = m ((c.tc : Thread Cert.S5ParamsGrad.nD Cert.S5ParamsGrad.τ).loc Cert.S5ParamsGrad.main_arg2)
      ∧ r.2.mem ((c.tc : Thread Cert.S5ParamsGrad.nD Cert.S5ParamsGrad.τ).loc Cert.S5ParamsGrad.main_arg3) = m ((c.tc : Thread Cert.S5ParamsGrad.nD Cert.S5ParamsGrad.τ).loc Cert.S5ParamsGrad.main_arg3)
      ∧ r.2.mem ((c.tc : Thread Cert.S5ParamsGrad.nD Cert.S5ParamsGrad.τ).loc Cert.S5ParamsGrad.main_arg4) = m ((c.tc : Thread Cert.S5ParamsGrad.nD Cert.S5ParamsGrad.τ).loc Cert.S5ParamsGrad.main_arg4)
      ∧ r.2.mem ((c.tc : Thread Cert.S5ParamsGrad.nD Cert.S5ParamsGrad.τ).loc Cert.S5ParamsGrad.main_arg5) = m ((c.tc : Thread Cert.S5ParamsGrad.nD Cert.S5ParamsGrad.τ).loc Cert.S5ParamsGrad.main_arg5)
      ∧ r.2.mem ((c.tc : Thread Cert.S5ParamsGrad.nD Cert.S5ParamsGrad.τ).loc Cert.S5ParamsGrad.main_arg6) = m ((c.tc : Thread Cert.S5ParamsGrad.nD Cert.S5ParamsGrad.τ).loc Cert.S5ParamsGrad.main_arg6)
      ∧ r.2.mem ((c.tc : Thread Cert.S5ParamsGrad.nD Cert.S5ParamsGrad.τ).loc Cert.S5ParamsGrad.main_arg7) = m ((c.tc : Thread Cert.S5ParamsGrad.nD Cert.S5ParamsGrad.τ).loc Cert.S5ParamsGrad.main_arg7)
      ∧ r.2.mem ((c.tc : Thread Cert.S5ParamsGrad.nD Cert.S5ParamsGrad.τ).loc Cert.S5ParamsGrad.main_arg8) = m ((c.tc : Thread Cert.S5ParamsGrad.nD Cert.S5ParamsGrad.τ).loc Cert.S5ParamsGrad.main_arg8))
      ∧ r.2.sem = fun _ => 0)

def quiescent_S5ParamsGradIdeal [hS5ParamsGradIdeal : Cert.S5ParamsGradIdeal.Facts] : Prop :=
  ∀ (m : (ℓ : Loc Cert.S5ParamsGradIdeal.nD Cert.S5ParamsGradIdeal.τ Cert.S5ParamsGradIdeal.sig) → Buf (Elt Ideal) ℓ) (g : Dev Cert.S5ParamsGradIdeal.nD → PrngReg), Pre_S5ParamsGradIdeal m →
    θ_run (Cert.S5ParamsGradIdeal.defs (F := Ideal)) (onTc (τ := Cert.S5ParamsGradIdeal.τ) (Cert.S5ParamsGradIdeal.main (F := Ideal))) ⟨m, fun _ => 0, g⟩ (fun r => (∀ c : Dev Cert.S5ParamsGradIdeal.nD,
      r.2.mem ((c.tc : Thread Cert.S5ParamsGradIdeal.nD Cert.S5ParamsGradIdeal.τ).loc Cert.S5ParamsGradIdeal.main_arg0) = m ((c.tc : Thread Cert.S5ParamsGradIdeal.nD Cert.S5ParamsGradIdeal.τ).loc Cert.S5ParamsGradIdeal.main_arg0)
      ∧ r.2.mem ((c.tc : Thread Cert.S5ParamsGradIdeal.nD Cert.S5ParamsGradIdeal.τ).loc Cert.S5ParamsGradIdeal.main_arg1) = m ((c.tc : Thread Cert.S5ParamsGradIdeal.nD Cert.S5ParamsGradIdeal.τ).loc Cert.S5ParamsGradIdeal.main_arg1)
      ∧ r.2.mem ((c.tc : Thread Cert.S5ParamsGradIdeal.nD Cert.S5ParamsGradIdeal.τ).loc Cert.S5ParamsGradIdeal.main_arg2) = m ((c.tc : Thread Cert.S5ParamsGradIdeal.nD Cert.S5ParamsGradIdeal.τ).loc Cert.S5ParamsGradIdeal.main_arg2)
      ∧ r.2.mem ((c.tc : Thread Cert.S5ParamsGradIdeal.nD Cert.S5ParamsGradIdeal.τ).loc Cert.S5ParamsGradIdeal.main_arg3) = m ((c.tc : Thread Cert.S5ParamsGradIdeal.nD Cert.S5ParamsGradIdeal.τ).loc Cert.S5ParamsGradIdeal.main_arg3)
      ∧ r.2.mem ((c.tc : Thread Cert.S5ParamsGradIdeal.nD Cert.S5ParamsGradIdeal.τ).loc Cert.S5ParamsGradIdeal.main_arg4) = m ((c.tc : Thread Cert.S5ParamsGradIdeal.nD Cert.S5ParamsGradIdeal.τ).loc Cert.S5ParamsGradIdeal.main_arg4)
      ∧ r.2.mem ((c.tc : Thread Cert.S5ParamsGradIdeal.nD Cert.S5ParamsGradIdeal.τ).loc Cert.S5ParamsGradIdeal.main_arg5) = m ((c.tc : Thread Cert.S5ParamsGradIdeal.nD Cert.S5ParamsGradIdeal.τ).loc Cert.S5ParamsGradIdeal.main_arg5)
      ∧ r.2.mem ((c.tc : Thread Cert.S5ParamsGradIdeal.nD Cert.S5ParamsGradIdeal.τ).loc Cert.S5ParamsGradIdeal.main_arg6) = m ((c.tc : Thread Cert.S5ParamsGradIdeal.nD Cert.S5ParamsGradIdeal.τ).loc Cert.S5ParamsGradIdeal.main_arg6)
      ∧ r.2.mem ((c.tc : Thread Cert.S5ParamsGradIdeal.nD Cert.S5ParamsGradIdeal.τ).loc Cert.S5ParamsGradIdeal.main_arg7) = m ((c.tc : Thread Cert.S5ParamsGradIdeal.nD Cert.S5ParamsGradIdeal.τ).loc Cert.S5ParamsGradIdeal.main_arg7)
      ∧ r.2.mem ((c.tc : Thread Cert.S5ParamsGradIdeal.nD Cert.S5ParamsGradIdeal.τ).loc Cert.S5ParamsGradIdeal.main_arg8) = m ((c.tc : Thread Cert.S5ParamsGradIdeal.nD Cert.S5ParamsGradIdeal.τ).loc Cert.S5ParamsGradIdeal.main_arg8))
      ∧ r.2.sem = fun _ => 0)

def quiescent_S5ParamsGradReferenceIdeal [hS5ParamsGradReferenceIdeal : Cert.S5ParamsGradReferenceIdeal.Facts] : Prop :=
  ∀ (m : (ℓ : Loc Cert.S5ParamsGradReferenceIdeal.nD Cert.S5ParamsGradReferenceIdeal.τ Cert.S5ParamsGradReferenceIdeal.sig) → Buf (Elt Ideal) ℓ) (g : Dev Cert.S5ParamsGradReferenceIdeal.nD → PrngReg), Pre_S5ParamsGradReferenceIdeal m →
    θ_run (Cert.S5ParamsGradReferenceIdeal.defs (F := Ideal)) (onTc (τ := Cert.S5ParamsGradReferenceIdeal.τ) (Cert.S5ParamsGradReferenceIdeal.main (F := Ideal))) ⟨m, fun _ => 0, g⟩ (fun r => (∀ c : Dev Cert.S5ParamsGradReferenceIdeal.nD,
      r.2.mem ((c.tc : Thread Cert.S5ParamsGradReferenceIdeal.nD Cert.S5ParamsGradReferenceIdeal.τ).loc Cert.S5ParamsGradReferenceIdeal.main_arg0) = m ((c.tc : Thread Cert.S5ParamsGradReferenceIdeal.nD Cert.S5ParamsGradReferenceIdeal.τ).loc Cert.S5ParamsGradReferenceIdeal.main_arg0)
      ∧ r.2.mem ((c.tc : Thread Cert.S5ParamsGradReferenceIdeal.nD Cert.S5ParamsGradReferenceIdeal.τ).loc Cert.S5ParamsGradReferenceIdeal.main_arg1) = m ((c.tc : Thread Cert.S5ParamsGradReferenceIdeal.nD Cert.S5ParamsGradReferenceIdeal.τ).loc Cert.S5ParamsGradReferenceIdeal.main_arg1)
      ∧ r.2.mem ((c.tc : Thread Cert.S5ParamsGradReferenceIdeal.nD Cert.S5ParamsGradReferenceIdeal.τ).loc Cert.S5ParamsGradReferenceIdeal.main_arg2) = m ((c.tc : Thread Cert.S5ParamsGradReferenceIdeal.nD Cert.S5ParamsGradReferenceIdeal.τ).loc Cert.S5ParamsGradReferenceIdeal.main_arg2)
      ∧ r.2.mem ((c.tc : Thread Cert.S5ParamsGradReferenceIdeal.nD Cert.S5ParamsGradReferenceIdeal.τ).loc Cert.S5ParamsGradReferenceIdeal.main_arg3) = m ((c.tc : Thread Cert.S5ParamsGradReferenceIdeal.nD Cert.S5ParamsGradReferenceIdeal.τ).loc Cert.S5ParamsGradReferenceIdeal.main_arg3)
      ∧ r.2.mem ((c.tc : Thread Cert.S5ParamsGradReferenceIdeal.nD Cert.S5ParamsGradReferenceIdeal.τ).loc Cert.S5ParamsGradReferenceIdeal.main_arg4) = m ((c.tc : Thread Cert.S5ParamsGradReferenceIdeal.nD Cert.S5ParamsGradReferenceIdeal.τ).loc Cert.S5ParamsGradReferenceIdeal.main_arg4)
      ∧ r.2.mem ((c.tc : Thread Cert.S5ParamsGradReferenceIdeal.nD Cert.S5ParamsGradReferenceIdeal.τ).loc Cert.S5ParamsGradReferenceIdeal.main_arg5) = m ((c.tc : Thread Cert.S5ParamsGradReferenceIdeal.nD Cert.S5ParamsGradReferenceIdeal.τ).loc Cert.S5ParamsGradReferenceIdeal.main_arg5)
      ∧ r.2.mem ((c.tc : Thread Cert.S5ParamsGradReferenceIdeal.nD Cert.S5ParamsGradReferenceIdeal.τ).loc Cert.S5ParamsGradReferenceIdeal.main_arg6) = m ((c.tc : Thread Cert.S5ParamsGradReferenceIdeal.nD Cert.S5ParamsGradReferenceIdeal.τ).loc Cert.S5ParamsGradReferenceIdeal.main_arg6)
      ∧ r.2.mem ((c.tc : Thread Cert.S5ParamsGradReferenceIdeal.nD Cert.S5ParamsGradReferenceIdeal.τ).loc Cert.S5ParamsGradReferenceIdeal.main_arg7) = m ((c.tc : Thread Cert.S5ParamsGradReferenceIdeal.nD Cert.S5ParamsGradReferenceIdeal.τ).loc Cert.S5ParamsGradReferenceIdeal.main_arg7)
      ∧ r.2.mem ((c.tc : Thread Cert.S5ParamsGradReferenceIdeal.nD Cert.S5ParamsGradReferenceIdeal.τ).loc Cert.S5ParamsGradReferenceIdeal.main_arg8) = m ((c.tc : Thread Cert.S5ParamsGradReferenceIdeal.nD Cert.S5ParamsGradReferenceIdeal.τ).loc Cert.S5ParamsGradReferenceIdeal.main_arg8))
      ∧ r.2.sem = fun _ => 0)

def quiescent_S5OutGrad [hS5OutGrad : Cert.S5OutGrad.Facts] : Prop :=
  ∀ (m : (ℓ : Loc Cert.S5OutGrad.nD Cert.S5OutGrad.τ Cert.S5OutGrad.sig) → Buf (Elt Bits) ℓ) (g : Dev Cert.S5OutGrad.nD → PrngReg), Pre_S5OutGrad m →
    θ_run (Cert.S5OutGrad.defs (F := Bits)) (onTc (τ := Cert.S5OutGrad.τ) (Cert.S5OutGrad.main (F := Bits))) ⟨m, fun _ => 0, g⟩ (fun r => (∀ c : Dev Cert.S5OutGrad.nD,
      r.2.mem ((c.tc : Thread Cert.S5OutGrad.nD Cert.S5OutGrad.τ).loc Cert.S5OutGrad.main_arg0) = m ((c.tc : Thread Cert.S5OutGrad.nD Cert.S5OutGrad.τ).loc Cert.S5OutGrad.main_arg0)
      ∧ r.2.mem ((c.tc : Thread Cert.S5OutGrad.nD Cert.S5OutGrad.τ).loc Cert.S5OutGrad.main_arg1) = m ((c.tc : Thread Cert.S5OutGrad.nD Cert.S5OutGrad.τ).loc Cert.S5OutGrad.main_arg1)
      ∧ r.2.mem ((c.tc : Thread Cert.S5OutGrad.nD Cert.S5OutGrad.τ).loc Cert.S5OutGrad.main_arg2) = m ((c.tc : Thread Cert.S5OutGrad.nD Cert.S5OutGrad.τ).loc Cert.S5OutGrad.main_arg2)
      ∧ r.2.mem ((c.tc : Thread Cert.S5OutGrad.nD Cert.S5OutGrad.τ).loc Cert.S5OutGrad.main_arg3) = m ((c.tc : Thread Cert.S5OutGrad.nD Cert.S5OutGrad.τ).loc Cert.S5OutGrad.main_arg3)
      ∧ r.2.mem ((c.tc : Thread Cert.S5OutGrad.nD Cert.S5OutGrad.τ).loc Cert.S5OutGrad.main_arg4) = m ((c.tc : Thread Cert.S5OutGrad.nD Cert.S5OutGrad.τ).loc Cert.S5OutGrad.main_arg4)
      ∧ r.2.mem ((c.tc : Thread Cert.S5OutGrad.nD Cert.S5OutGrad.τ).loc Cert.S5OutGrad.main_arg5) = m ((c.tc : Thread Cert.S5OutGrad.nD Cert.S5OutGrad.τ).loc Cert.S5OutGrad.main_arg5))
      ∧ r.2.sem = fun _ => 0)

def quiescent_S5OutGradIdeal [hS5OutGradIdeal : Cert.S5OutGradIdeal.Facts] : Prop :=
  ∀ (m : (ℓ : Loc Cert.S5OutGradIdeal.nD Cert.S5OutGradIdeal.τ Cert.S5OutGradIdeal.sig) → Buf (Elt Ideal) ℓ) (g : Dev Cert.S5OutGradIdeal.nD → PrngReg), Pre_S5OutGradIdeal m →
    θ_run (Cert.S5OutGradIdeal.defs (F := Ideal)) (onTc (τ := Cert.S5OutGradIdeal.τ) (Cert.S5OutGradIdeal.main (F := Ideal))) ⟨m, fun _ => 0, g⟩ (fun r => (∀ c : Dev Cert.S5OutGradIdeal.nD,
      r.2.mem ((c.tc : Thread Cert.S5OutGradIdeal.nD Cert.S5OutGradIdeal.τ).loc Cert.S5OutGradIdeal.main_arg0) = m ((c.tc : Thread Cert.S5OutGradIdeal.nD Cert.S5OutGradIdeal.τ).loc Cert.S5OutGradIdeal.main_arg0)
      ∧ r.2.mem ((c.tc : Thread Cert.S5OutGradIdeal.nD Cert.S5OutGradIdeal.τ).loc Cert.S5OutGradIdeal.main_arg1) = m ((c.tc : Thread Cert.S5OutGradIdeal.nD Cert.S5OutGradIdeal.τ).loc Cert.S5OutGradIdeal.main_arg1)
      ∧ r.2.mem ((c.tc : Thread Cert.S5OutGradIdeal.nD Cert.S5OutGradIdeal.τ).loc Cert.S5OutGradIdeal.main_arg2) = m ((c.tc : Thread Cert.S5OutGradIdeal.nD Cert.S5OutGradIdeal.τ).loc Cert.S5OutGradIdeal.main_arg2)
      ∧ r.2.mem ((c.tc : Thread Cert.S5OutGradIdeal.nD Cert.S5OutGradIdeal.τ).loc Cert.S5OutGradIdeal.main_arg3) = m ((c.tc : Thread Cert.S5OutGradIdeal.nD Cert.S5OutGradIdeal.τ).loc Cert.S5OutGradIdeal.main_arg3)
      ∧ r.2.mem ((c.tc : Thread Cert.S5OutGradIdeal.nD Cert.S5OutGradIdeal.τ).loc Cert.S5OutGradIdeal.main_arg4) = m ((c.tc : Thread Cert.S5OutGradIdeal.nD Cert.S5OutGradIdeal.τ).loc Cert.S5OutGradIdeal.main_arg4)
      ∧ r.2.mem ((c.tc : Thread Cert.S5OutGradIdeal.nD Cert.S5OutGradIdeal.τ).loc Cert.S5OutGradIdeal.main_arg5) = m ((c.tc : Thread Cert.S5OutGradIdeal.nD Cert.S5OutGradIdeal.τ).loc Cert.S5OutGradIdeal.main_arg5))
      ∧ r.2.sem = fun _ => 0)

def quiescent_S5OutGradIdeal_pre_finite_s5 [hS5OutGradIdeal : Cert.S5OutGradIdeal.Facts] [hPre_finite_s5 : Cert.Pre_finite_s5.Facts] : Prop :=
  ∀ (m : (ℓ : Loc Cert.S5OutGradIdeal.nD Cert.S5OutGradIdeal.τ Cert.S5OutGradIdeal.sig) → Buf (Elt Ideal) ℓ) (g : Dev Cert.S5OutGradIdeal.nD → PrngReg), Pre_S5OutGradIdeal_finite_s5 m →
    θ_run (Cert.S5OutGradIdeal.defs (F := Ideal)) (onTc (τ := Cert.S5OutGradIdeal.τ) (Cert.S5OutGradIdeal.main (F := Ideal))) ⟨m, fun _ => 0, g⟩ (fun r => (∀ c : Dev Cert.S5OutGradIdeal.nD,
      r.2.mem ((c.tc : Thread Cert.S5OutGradIdeal.nD Cert.S5OutGradIdeal.τ).loc Cert.S5OutGradIdeal.main_arg0) = m ((c.tc : Thread Cert.S5OutGradIdeal.nD Cert.S5OutGradIdeal.τ).loc Cert.S5OutGradIdeal.main_arg0)
      ∧ r.2.mem ((c.tc : Thread Cert.S5OutGradIdeal.nD Cert.S5OutGradIdeal.τ).loc Cert.S5OutGradIdeal.main_arg1) = m ((c.tc : Thread Cert.S5OutGradIdeal.nD Cert.S5OutGradIdeal.τ).loc Cert.S5OutGradIdeal.main_arg1)
      ∧ r.2.mem ((c.tc : Thread Cert.S5OutGradIdeal.nD Cert.S5OutGradIdeal.τ).loc Cert.S5OutGradIdeal.main_arg2) = m ((c.tc : Thread Cert.S5OutGradIdeal.nD Cert.S5OutGradIdeal.τ).loc Cert.S5OutGradIdeal.main_arg2)
      ∧ r.2.mem ((c.tc : Thread Cert.S5OutGradIdeal.nD Cert.S5OutGradIdeal.τ).loc Cert.S5OutGradIdeal.main_arg3) = m ((c.tc : Thread Cert.S5OutGradIdeal.nD Cert.S5OutGradIdeal.τ).loc Cert.S5OutGradIdeal.main_arg3)
      ∧ r.2.mem ((c.tc : Thread Cert.S5OutGradIdeal.nD Cert.S5OutGradIdeal.τ).loc Cert.S5OutGradIdeal.main_arg4) = m ((c.tc : Thread Cert.S5OutGradIdeal.nD Cert.S5OutGradIdeal.τ).loc Cert.S5OutGradIdeal.main_arg4)
      ∧ r.2.mem ((c.tc : Thread Cert.S5OutGradIdeal.nD Cert.S5OutGradIdeal.τ).loc Cert.S5OutGradIdeal.main_arg5) = m ((c.tc : Thread Cert.S5OutGradIdeal.nD Cert.S5OutGradIdeal.τ).loc Cert.S5OutGradIdeal.main_arg5))
      ∧ r.2.sem = fun _ => 0)

def quiescent_S5OutGradReferenceIdeal [hS5OutGradReferenceIdeal : Cert.S5OutGradReferenceIdeal.Facts] : Prop :=
  ∀ (m : (ℓ : Loc Cert.S5OutGradReferenceIdeal.nD Cert.S5OutGradReferenceIdeal.τ Cert.S5OutGradReferenceIdeal.sig) → Buf (Elt Ideal) ℓ) (g : Dev Cert.S5OutGradReferenceIdeal.nD → PrngReg), Pre_S5OutGradReferenceIdeal m →
    θ_run (Cert.S5OutGradReferenceIdeal.defs (F := Ideal)) (onTc (τ := Cert.S5OutGradReferenceIdeal.τ) (Cert.S5OutGradReferenceIdeal.main (F := Ideal))) ⟨m, fun _ => 0, g⟩ (fun r => (∀ c : Dev Cert.S5OutGradReferenceIdeal.nD,
      r.2.mem ((c.tc : Thread Cert.S5OutGradReferenceIdeal.nD Cert.S5OutGradReferenceIdeal.τ).loc Cert.S5OutGradReferenceIdeal.main_arg0) = m ((c.tc : Thread Cert.S5OutGradReferenceIdeal.nD Cert.S5OutGradReferenceIdeal.τ).loc Cert.S5OutGradReferenceIdeal.main_arg0)
      ∧ r.2.mem ((c.tc : Thread Cert.S5OutGradReferenceIdeal.nD Cert.S5OutGradReferenceIdeal.τ).loc Cert.S5OutGradReferenceIdeal.main_arg1) = m ((c.tc : Thread Cert.S5OutGradReferenceIdeal.nD Cert.S5OutGradReferenceIdeal.τ).loc Cert.S5OutGradReferenceIdeal.main_arg1)
      ∧ r.2.mem ((c.tc : Thread Cert.S5OutGradReferenceIdeal.nD Cert.S5OutGradReferenceIdeal.τ).loc Cert.S5OutGradReferenceIdeal.main_arg2) = m ((c.tc : Thread Cert.S5OutGradReferenceIdeal.nD Cert.S5OutGradReferenceIdeal.τ).loc Cert.S5OutGradReferenceIdeal.main_arg2)
      ∧ r.2.mem ((c.tc : Thread Cert.S5OutGradReferenceIdeal.nD Cert.S5OutGradReferenceIdeal.τ).loc Cert.S5OutGradReferenceIdeal.main_arg3) = m ((c.tc : Thread Cert.S5OutGradReferenceIdeal.nD Cert.S5OutGradReferenceIdeal.τ).loc Cert.S5OutGradReferenceIdeal.main_arg3)
      ∧ r.2.mem ((c.tc : Thread Cert.S5OutGradReferenceIdeal.nD Cert.S5OutGradReferenceIdeal.τ).loc Cert.S5OutGradReferenceIdeal.main_arg4) = m ((c.tc : Thread Cert.S5OutGradReferenceIdeal.nD Cert.S5OutGradReferenceIdeal.τ).loc Cert.S5OutGradReferenceIdeal.main_arg4)
      ∧ r.2.mem ((c.tc : Thread Cert.S5OutGradReferenceIdeal.nD Cert.S5OutGradReferenceIdeal.τ).loc Cert.S5OutGradReferenceIdeal.main_arg5) = m ((c.tc : Thread Cert.S5OutGradReferenceIdeal.nD Cert.S5OutGradReferenceIdeal.τ).loc Cert.S5OutGradReferenceIdeal.main_arg5))
      ∧ r.2.sem = fun _ => 0)

def quiescent_S5OutGradReferenceIdeal_pre_finite_s5 [hS5OutGradReferenceIdeal : Cert.S5OutGradReferenceIdeal.Facts] [hPre_finite_s5 : Cert.Pre_finite_s5.Facts] : Prop :=
  ∀ (m : (ℓ : Loc Cert.S5OutGradReferenceIdeal.nD Cert.S5OutGradReferenceIdeal.τ Cert.S5OutGradReferenceIdeal.sig) → Buf (Elt Ideal) ℓ) (g : Dev Cert.S5OutGradReferenceIdeal.nD → PrngReg), Pre_S5OutGradReferenceIdeal_finite_s5 m →
    θ_run (Cert.S5OutGradReferenceIdeal.defs (F := Ideal)) (onTc (τ := Cert.S5OutGradReferenceIdeal.τ) (Cert.S5OutGradReferenceIdeal.main (F := Ideal))) ⟨m, fun _ => 0, g⟩ (fun r => (∀ c : Dev Cert.S5OutGradReferenceIdeal.nD,
      r.2.mem ((c.tc : Thread Cert.S5OutGradReferenceIdeal.nD Cert.S5OutGradReferenceIdeal.τ).loc Cert.S5OutGradReferenceIdeal.main_arg0) = m ((c.tc : Thread Cert.S5OutGradReferenceIdeal.nD Cert.S5OutGradReferenceIdeal.τ).loc Cert.S5OutGradReferenceIdeal.main_arg0)
      ∧ r.2.mem ((c.tc : Thread Cert.S5OutGradReferenceIdeal.nD Cert.S5OutGradReferenceIdeal.τ).loc Cert.S5OutGradReferenceIdeal.main_arg1) = m ((c.tc : Thread Cert.S5OutGradReferenceIdeal.nD Cert.S5OutGradReferenceIdeal.τ).loc Cert.S5OutGradReferenceIdeal.main_arg1)
      ∧ r.2.mem ((c.tc : Thread Cert.S5OutGradReferenceIdeal.nD Cert.S5OutGradReferenceIdeal.τ).loc Cert.S5OutGradReferenceIdeal.main_arg2) = m ((c.tc : Thread Cert.S5OutGradReferenceIdeal.nD Cert.S5OutGradReferenceIdeal.τ).loc Cert.S5OutGradReferenceIdeal.main_arg2)
      ∧ r.2.mem ((c.tc : Thread Cert.S5OutGradReferenceIdeal.nD Cert.S5OutGradReferenceIdeal.τ).loc Cert.S5OutGradReferenceIdeal.main_arg3) = m ((c.tc : Thread Cert.S5OutGradReferenceIdeal.nD Cert.S5OutGradReferenceIdeal.τ).loc Cert.S5OutGradReferenceIdeal.main_arg3)
      ∧ r.2.mem ((c.tc : Thread Cert.S5OutGradReferenceIdeal.nD Cert.S5OutGradReferenceIdeal.τ).loc Cert.S5OutGradReferenceIdeal.main_arg4) = m ((c.tc : Thread Cert.S5OutGradReferenceIdeal.nD Cert.S5OutGradReferenceIdeal.τ).loc Cert.S5OutGradReferenceIdeal.main_arg4)
      ∧ r.2.mem ((c.tc : Thread Cert.S5OutGradReferenceIdeal.nD Cert.S5OutGradReferenceIdeal.τ).loc Cert.S5OutGradReferenceIdeal.main_arg5) = m ((c.tc : Thread Cert.S5OutGradReferenceIdeal.nD Cert.S5OutGradReferenceIdeal.τ).loc Cert.S5OutGradReferenceIdeal.main_arg5))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22_4) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v1) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_ProjDw_ProjDwIdeal : Prop :=
  True

def algebraic_ProjDwIdeal_ProjDwReferenceIdeal [hProjDwIdeal : Cert.ProjDwIdeal.Facts] [hProjDwReferenceIdeal : Cert.ProjDwReferenceIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwReferenceIdeal.nD Cert.ProjDwReferenceIdeal.τ Cert.ProjDwReferenceIdeal.sig) → Buf (Elt Ideal) ℓ) (g' : Dev Cert.ProjDwReferenceIdeal.nD → PrngReg), Pre_ProjDwIdeal m →
    (∀ c : Dev Cert.ProjDwIdeal.nD,
      m' ((c.tc : Thread Cert.ProjDwReferenceIdeal.nD Cert.ProjDwReferenceIdeal.τ).loc Cert.ProjDwReferenceIdeal.main_arg0) = m ((c.tc : Thread Cert.ProjDwIdeal.nD Cert.ProjDwIdeal.τ).loc Cert.ProjDwIdeal.main_arg0)
      ∧ m' ((c.tc : Thread Cert.ProjDwReferenceIdeal.nD Cert.ProjDwReferenceIdeal.τ).loc Cert.ProjDwReferenceIdeal.main_arg1) = m ((c.tc : Thread Cert.ProjDwIdeal.nD Cert.ProjDwIdeal.τ).loc Cert.ProjDwIdeal.main_arg1)
      ∧ m' ((c.tc : Thread Cert.ProjDwReferenceIdeal.nD Cert.ProjDwReferenceIdeal.τ).loc Cert.ProjDwReferenceIdeal.main_arg2) = m ((c.tc : Thread Cert.ProjDwIdeal.nD Cert.ProjDwIdeal.τ).loc Cert.ProjDwIdeal.main_arg2)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
          ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ θ_run (Cert.ProjDwReferenceIdeal.defs (F := Ideal)) (onTc (τ := Cert.ProjDwReferenceIdeal.τ) (Cert.ProjDwReferenceIdeal.main (F := Ideal))) ⟨m', fun _ => 0, g'⟩ (fun r => ∀ c : Dev Cert.ProjDwReferenceIdeal.nD,
          r.2.mem ((c.tc : Thread Cert.ProjDwReferenceIdeal.nD Cert.ProjDwReferenceIdeal.τ).loc Cert.ProjDwReferenceIdeal.main_v4) = v0 c
          ∧ r.2.mem ((c.tc : Thread Cert.ProjDwReferenceIdeal.nD Cert.ProjDwReferenceIdeal.τ).loc Cert.ProjDwReferenceIdeal.main_arg0) = m' ((c.tc : Thread Cert.ProjDwReferenceIdeal.nD Cert.ProjDwReferenceIdeal.τ).loc Cert.ProjDwReferenceIdeal.main_arg0)
          ∧ r.2.mem ((c.tc : Thread Cert.ProjDwReferenceIdeal.nD Cert.ProjDwReferenceIdeal.τ).loc Cert.ProjDwReferenceIdeal.main_arg1) = m' ((c.tc : Thread Cert.ProjDwReferenceIdeal.nD Cert.ProjDwReferenceIdeal.τ).loc Cert.ProjDwReferenceIdeal.main_arg1)
          ∧ r.2.mem ((c.tc : Thread Cert.ProjDwReferenceIdeal.nD Cert.ProjDwReferenceIdeal.τ).loc Cert.ProjDwReferenceIdeal.main_arg2) = m' ((c.tc : Thread Cert.ProjDwReferenceIdeal.nD Cert.ProjDwReferenceIdeal.τ).loc Cert.ProjDwReferenceIdeal.main_arg2))

def preserves_ProjDh_ProjDhIdeal : Prop :=
  True

def algebraic_ProjDhIdeal_ProjDhReferenceIdeal [hProjDhIdeal : Cert.ProjDhIdeal.Facts] [hProjDhReferenceIdeal : Cert.ProjDhReferenceIdeal.Facts] : Prop :=
  ∀ (m : (ℓ : Loc Cert.ProjDhIdeal.nD Cert.ProjDhIdeal.τ Cert.ProjDhIdeal.sig) → Buf (Elt Ideal) ℓ) (g : Dev Cert.ProjDhIdeal.nD → PrngReg)
    (m' : (ℓ : Loc Cert.ProjDhReferenceIdeal.nD Cert.ProjDhReferenceIdeal.τ Cert.ProjDhReferenceIdeal.sig) → Buf (Elt Ideal) ℓ) (g' : Dev Cert.ProjDhReferenceIdeal.nD → PrngReg), Pre_ProjDhIdeal m →
    (∀ c : Dev Cert.ProjDhIdeal.nD,
      m' ((c.tc : Thread Cert.ProjDhReferenceIdeal.nD Cert.ProjDhReferenceIdeal.τ).loc Cert.ProjDhReferenceIdeal.main_arg0) = m ((c.tc : Thread Cert.ProjDhIdeal.nD Cert.ProjDhIdeal.τ).loc Cert.ProjDhIdeal.main_arg0)
      ∧ m' ((c.tc : Thread Cert.ProjDhReferenceIdeal.nD Cert.ProjDhReferenceIdeal.τ).loc Cert.ProjDhReferenceIdeal.main_arg1) = m ((c.tc : Thread Cert.ProjDhIdeal.nD Cert.ProjDhIdeal.τ).loc Cert.ProjDhIdeal.main_arg1)
      ∧ m' ((c.tc : Thread Cert.ProjDhReferenceIdeal.nD Cert.ProjDhReferenceIdeal.τ).loc Cert.ProjDhReferenceIdeal.main_arg2) = m ((c.tc : Thread Cert.ProjDhIdeal.nD Cert.ProjDhIdeal.τ).loc Cert.ProjDhIdeal.main_arg2)) →
    ∃ (v0 : (c : Dev Cert.ProjDhIdeal.nD) → Buf (Elt Ideal) ((c.tc : Thread Cert.ProjDhIdeal.nD Cert.ProjDhIdeal.τ).loc Cert.ProjDhIdeal.main_v0)),
      θ_run (Cert.ProjDhIdeal.defs (F := Ideal)) (onTc (τ := Cert.ProjDhIdeal.τ) (Cert.ProjDhIdeal.main (F := Ideal))) ⟨m, fun _ => 0, g⟩ (fun r => ∀ c : Dev Cert.ProjDhIdeal.nD,
          r.2.mem ((c.tc : Thread Cert.ProjDhIdeal.nD Cert.ProjDhIdeal.τ).loc Cert.ProjDhIdeal.main_v0) = v0 c
          ∧ r.2.mem ((c.tc : Thread Cert.ProjDhIdeal.nD Cert.ProjDhIdeal.τ).loc Cert.ProjDhIdeal.main_arg0) = m ((c.tc : Thread Cert.ProjDhIdeal.nD Cert.ProjDhIdeal.τ).loc Cert.ProjDhIdeal.main_arg0)
          ∧ r.2.mem ((c.tc : Thread Cert.ProjDhIdeal.nD Cert.ProjDhIdeal.τ).loc Cert.ProjDhIdeal.main_arg1) = m ((c.tc : Thread Cert.ProjDhIdeal.nD Cert.ProjDhIdeal.τ).loc Cert.ProjDhIdeal.main_arg1)
          ∧ r.2.mem ((c.tc : Thread Cert.ProjDhIdeal.nD Cert.ProjDhIdeal.τ).loc Cert.ProjDhIdeal.main_arg2) = m ((c.tc : Thread Cert.ProjDhIdeal.nD Cert.ProjDhIdeal.τ).loc Cert.ProjDhIdeal.main_arg2))
      ∧ θ_run (Cert.ProjDhReferenceIdeal.defs (F := Ideal)) (onTc (τ := Cert.ProjDhReferenceIdeal.τ) (Cert.ProjDhReferenceIdeal.main (F := Ideal))) ⟨m', fun _ => 0, g'⟩ (fun r => ∀ c : Dev Cert.ProjDhReferenceIdeal.nD,
          r.2.mem ((c.tc : Thread Cert.ProjDhReferenceIdeal.nD Cert.ProjDhReferenceIdeal.τ).loc Cert.ProjDhReferenceIdeal.main_v3) = v0 c
          ∧ r.2.mem ((c.tc : Thread Cert.ProjDhReferenceIdeal.nD Cert.ProjDhReferenceIdeal.τ).loc Cert.ProjDhReferenceIdeal.main_arg0) = m' ((c.tc : Thread Cert.ProjDhReferenceIdeal.nD Cert.ProjDhReferenceIdeal.τ).loc Cert.ProjDhReferenceIdeal.main_arg0)
          ∧ r.2.mem ((c.tc : Thread Cert.ProjDhReferenceIdeal.nD Cert.ProjDhReferenceIdeal.τ).loc Cert.ProjDhReferenceIdeal.main_arg1) = m' ((c.tc : Thread Cert.ProjDhReferenceIdeal.nD Cert.ProjDhReferenceIdeal.τ).loc Cert.ProjDhReferenceIdeal.main_arg1)
          ∧ r.2.mem ((c.tc : Thread Cert.ProjDhReferenceIdeal.nD Cert.ProjDhReferenceIdeal.τ).loc Cert.ProjDhReferenceIdeal.main_arg2) = m' ((c.tc : Thread Cert.ProjDhReferenceIdeal.nD Cert.ProjDhReferenceIdeal.τ).loc Cert.ProjDhReferenceIdeal.main_arg2))

def preserves_ProjDx_ProjDxIdeal : Prop :=
  True

def algebraic_ProjDxIdeal_ProjDxReferenceIdeal [hProjDxIdeal : Cert.ProjDxIdeal.Facts] [hProjDxReferenceIdeal : Cert.ProjDxReferenceIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxReferenceIdeal.nD Cert.ProjDxReferenceIdeal.τ Cert.ProjDxReferenceIdeal.sig) → Buf (Elt Ideal) ℓ) (g' : Dev Cert.ProjDxReferenceIdeal.nD → PrngReg), Pre_ProjDxIdeal m →
    (∀ c : Dev Cert.ProjDxIdeal.nD,
      m' ((c.tc : Thread Cert.ProjDxReferenceIdeal.nD Cert.ProjDxReferenceIdeal.τ).loc Cert.ProjDxReferenceIdeal.main_arg0) = m ((c.tc : Thread Cert.ProjDxIdeal.nD Cert.ProjDxIdeal.τ).loc Cert.ProjDxIdeal.main_arg0)
      ∧ m' ((c.tc : Thread Cert.ProjDxReferenceIdeal.nD Cert.ProjDxReferenceIdeal.τ).loc Cert.ProjDxReferenceIdeal.main_arg1) = m ((c.tc : Thread Cert.ProjDxIdeal.nD Cert.ProjDxIdeal.τ).loc Cert.ProjDxIdeal.main_arg1)
      ∧ m' ((c.tc : Thread Cert.ProjDxReferenceIdeal.nD Cert.ProjDxReferenceIdeal.τ).loc Cert.ProjDxReferenceIdeal.main_arg2) = m ((c.tc : Thread Cert.ProjDxIdeal.nD Cert.ProjDxIdeal.τ).loc Cert.ProjDxIdeal.main_arg2)
      ∧ m' ((c.tc : Thread Cert.ProjDxReferenceIdeal.nD Cert.ProjDxReferenceIdeal.τ).loc Cert.ProjDxReferenceIdeal.main_arg3) = m ((c.tc : Thread Cert.ProjDxIdeal.nD Cert.ProjDxIdeal.τ).loc Cert.ProjDxIdeal.main_arg3)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
          ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3))
      ∧ θ_run (Cert.ProjDxReferenceIdeal.defs (F := Ideal)) (onTc (τ := Cert.ProjDxReferenceIdeal.τ) (Cert.ProjDxReferenceIdeal.main (F := Ideal))) ⟨m', fun _ => 0, g'⟩ (fun r => ∀ c : Dev Cert.ProjDxReferenceIdeal.nD,
          r.2.mem ((c.tc : Thread Cert.ProjDxReferenceIdeal.nD Cert.ProjDxReferenceIdeal.τ).loc Cert.ProjDxReferenceIdeal.main_v8) = v0 c
          ∧ r.2.mem ((c.tc : Thread Cert.ProjDxReferenceIdeal.nD Cert.ProjDxReferenceIdeal.τ).loc Cert.ProjDxReferenceIdeal.main_arg0) = m' ((c.tc : Thread Cert.ProjDxReferenceIdeal.nD Cert.ProjDxReferenceIdeal.τ).loc Cert.ProjDxReferenceIdeal.main_arg0)
          ∧ r.2.mem ((c.tc : Thread Cert.ProjDxReferenceIdeal.nD Cert.ProjDxReferenceIdeal.τ).loc Cert.ProjDxReferenceIdeal.main_arg1) = m' ((c.tc : Thread Cert.ProjDxReferenceIdeal.nD Cert.ProjDxReferenceIdeal.τ).loc Cert.ProjDxReferenceIdeal.main_arg1)
          ∧ r.2.mem ((c.tc : Thread Cert.ProjDxReferenceIdeal.nD Cert.ProjDxReferenceIdeal.τ).loc Cert.ProjDxReferenceIdeal.main_arg2) = m' ((c.tc : Thread Cert.ProjDxReferenceIdeal.nD Cert.ProjDxReferenceIdeal.τ).loc Cert.ProjDxReferenceIdeal.main_arg2)
          ∧ r.2.mem ((c.tc : Thread Cert.ProjDxReferenceIdeal.nD Cert.ProjDxReferenceIdeal.τ).loc Cert.ProjDxReferenceIdeal.main_arg3) = m' ((c.tc : Thread Cert.ProjDxReferenceIdeal.nD Cert.ProjDxReferenceIdeal.τ).loc Cert.ProjDxReferenceIdeal.main_arg3))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)
      ∧ m' ((c.tc : Thread Cert.OutDxReferenceIdeal.nD Cert.OutDxReferenceIdeal.τ).loc Cert.OutDxReferenceIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v3) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1)
          ∧ r.2.mem ((c.tc : Thread Cert.OutDxReferenceIdeal.nD Cert.OutDxReferenceIdeal.τ).loc Cert.OutDxReferenceIdeal.main_arg2) = m' ((c.tc : Thread Cert.OutDxReferenceIdeal.nD Cert.OutDxReferenceIdeal.τ).loc Cert.OutDxReferenceIdeal.main_arg2))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)
      ∧ m' ((c.tc : Thread Cert.OutDwReferenceIdeal.nD Cert.OutDwReferenceIdeal.τ).loc Cert.OutDwReferenceIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v4) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1)
          ∧ r.2.mem ((c.tc : Thread Cert.OutDwReferenceIdeal.nD Cert.OutDwReferenceIdeal.τ).loc Cert.OutDwReferenceIdeal.main_arg2) = m' ((c.tc : Thread Cert.OutDwReferenceIdeal.nD Cert.OutDwReferenceIdeal.τ).loc Cert.OutDwReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v1) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)
      ∧ m' ((c.tc : Thread Cert.UpDxReferenceIdeal.nD Cert.UpDxReferenceIdeal.τ).loc Cert.UpDxReferenceIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v3) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)
      ∧ m' ((c.tc : Thread Cert.UpDwReferenceIdeal.nD Cert.UpDwReferenceIdeal.τ).loc Cert.UpDwReferenceIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v4) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1)
          ∧ r.2.mem ((c.tc : Thread Cert.UpDwReferenceIdeal.nD Cert.UpDwReferenceIdeal.τ).loc Cert.UpDwReferenceIdeal.main_arg2) = m' ((c.tc : Thread Cert.UpDwReferenceIdeal.nD Cert.UpDwReferenceIdeal.τ).loc Cert.UpDwReferenceIdeal.main_arg2))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v4) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)
      ∧ m' ((c.tc : Thread Cert.DownDwReferenceIdeal.nD Cert.DownDwReferenceIdeal.τ).loc Cert.DownDwReferenceIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v4) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1)
          ∧ r.2.mem ((c.tc : Thread Cert.DownDwReferenceIdeal.nD Cert.DownDwReferenceIdeal.τ).loc Cert.DownDwReferenceIdeal.main_arg2) = m' ((c.tc : Thread Cert.DownDwReferenceIdeal.nD Cert.DownDwReferenceIdeal.τ).loc Cert.DownDwReferenceIdeal.main_arg2))

def preserves_OutNorm_OutNormIdeal : Prop :=
  True

def algebraic_OutNormIdeal_OutNormReferenceIdeal [hOutNormIdeal : Cert.OutNormIdeal.Facts] [hOutNormReferenceIdeal : Cert.OutNormReferenceIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormReferenceIdeal.nD Cert.OutNormReferenceIdeal.τ Cert.OutNormReferenceIdeal.sig) → Buf (Elt Ideal) ℓ) (g' : Dev Cert.OutNormReferenceIdeal.nD → PrngReg), Pre_OutNormIdeal m →
    (∀ c : Dev Cert.OutNormIdeal.nD,
      m' ((c.tc : Thread Cert.OutNormReferenceIdeal.nD Cert.OutNormReferenceIdeal.τ).loc Cert.OutNormReferenceIdeal.main_arg0) = m ((c.tc : Thread Cert.OutNormIdeal.nD Cert.OutNormIdeal.τ).loc Cert.OutNormIdeal.main_arg0)
      ∧ m' ((c.tc : Thread Cert.OutNormReferenceIdeal.nD Cert.OutNormReferenceIdeal.τ).loc Cert.OutNormReferenceIdeal.main_arg1) = m ((c.tc : Thread Cert.OutNormIdeal.nD Cert.OutNormIdeal.τ).loc Cert.OutNormIdeal.main_arg1)
      ∧ m' ((c.tc : Thread Cert.OutNormReferenceIdeal.nD Cert.OutNormReferenceIdeal.τ).loc Cert.OutNormReferenceIdeal.main_arg2) = m ((c.tc : Thread Cert.OutNormIdeal.nD Cert.OutNormIdeal.τ).loc Cert.OutNormIdeal.main_arg2)
      ∧ m' ((c.tc : Thread Cert.OutNormReferenceIdeal.nD Cert.OutNormReferenceIdeal.τ).loc Cert.OutNormReferenceIdeal.main_arg3) = m ((c.tc : Thread Cert.OutNormIdeal.nD Cert.OutNormIdeal.τ).loc Cert.OutNormIdeal.main_arg3)
      ∧ m' ((c.tc : Thread Cert.OutNormReferenceIdeal.nD Cert.OutNormReferenceIdeal.τ).loc Cert.OutNormReferenceIdeal.main_arg4) = m ((c.tc : Thread Cert.OutNormIdeal.nD Cert.OutNormIdeal.τ).loc Cert.OutNormIdeal.main_arg4)) →
    ∃ (v0 : (c : Dev Cert.OutNormIdeal.nD) → Buf (Elt Ideal) ((c.tc : Thread Cert.OutNormIdeal.nD Cert.OutNormIdeal.τ).loc Cert.OutNormIdeal.main_v2_0)) (v1 : (c : Dev Cert.OutNormIdeal.nD) → Buf (Elt Ideal) ((c.tc : Thread Cert.OutNormIdeal.nD Cert.OutNormIdeal.τ).loc Cert.OutNormIdeal.main_v2_1)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v2_0) = v0 c
          ∧ r.2.mem ((c.tc : Thread Cert.OutNormIdeal.nD Cert.OutNormIdeal.τ).loc Cert.OutNormIdeal.main_v2_1) = v1 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
          ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ θ_run (Cert.OutNormReferenceIdeal.defs (F := Ideal)) (onTc (τ := Cert.OutNormReferenceIdeal.τ) (Cert.OutNormReferenceIdeal.main (F := Ideal))) ⟨m', fun _ => 0, g'⟩ (fun r => ∀ c : Dev Cert.OutNormReferenceIdeal.nD,
          r.2.mem ((c.tc : Thread Cert.OutNormReferenceIdeal.nD Cert.OutNormReferenceIdeal.τ).loc Cert.OutNormReferenceIdeal.main_v29) = v0 c
          ∧ r.2.mem ((c.tc : Thread Cert.OutNormReferenceIdeal.nD Cert.OutNormReferenceIdeal.τ).loc Cert.OutNormReferenceIdeal.main_v35) = v1 c
          ∧ r.2.mem ((c.tc : Thread Cert.OutNormReferenceIdeal.nD Cert.OutNormReferenceIdeal.τ).loc Cert.OutNormReferenceIdeal.main_arg0) = m' ((c.tc : Thread Cert.OutNormReferenceIdeal.nD Cert.OutNormReferenceIdeal.τ).loc Cert.OutNormReferenceIdeal.main_arg0)
          ∧ r.2.mem ((c.tc : Thread Cert.OutNormReferenceIdeal.nD Cert.OutNormReferenceIdeal.τ).loc Cert.OutNormReferenceIdeal.main_arg1) = m' ((c.tc : Thread Cert.OutNormReferenceIdeal.nD Cert.OutNormReferenceIdeal.τ).loc Cert.OutNormReferenceIdeal.main_arg1)
          ∧ r.2.mem ((c.tc : Thread Cert.OutNormReferenceIdeal.nD Cert.OutNormReferenceIdeal.τ).loc Cert.OutNormReferenceIdeal.main_arg2) = m' ((c.tc : Thread Cert.OutNormReferenceIdeal.nD Cert.OutNormReferenceIdeal.τ).loc Cert.OutNormReferenceIdeal.main_arg2)
          ∧ r.2.mem ((c.tc : Thread Cert.OutNormReferenceIdeal.nD Cert.OutNormReferenceIdeal.τ).loc Cert.OutNormReferenceIdeal.main_arg3) = m' ((c.tc : Thread Cert.OutNormReferenceIdeal.nD Cert.OutNormReferenceIdeal.τ).loc Cert.OutNormReferenceIdeal.main_arg3)
          ∧ r.2.mem ((c.tc : Thread Cert.OutNormReferenceIdeal.nD Cert.OutNormReferenceIdeal.τ).loc Cert.OutNormReferenceIdeal.main_arg4) = m' ((c.tc : Thread Cert.OutNormReferenceIdeal.nD Cert.OutNormReferenceIdeal.τ).loc Cert.OutNormReferenceIdeal.main_arg4))

def preserves_DownNorm_DownNormIdeal : Prop :=
  True

def algebraic_DownNormIdeal_DownNormReferenceIdeal [hDownNormIdeal : Cert.DownNormIdeal.Facts] [hDownNormReferenceIdeal : Cert.DownNormReferenceIdeal.Facts] : Prop :=
  ∀ (m : (ℓ : Loc Cert.DownNormIdeal.nD Cert.DownNormIdeal.τ Cert.DownNormIdeal.sig) → Buf (Elt Ideal) ℓ) (g : Dev Cert.DownNormIdeal.nD → PrngReg)
    (m' : (ℓ : Loc Cert.DownNormReferenceIdeal.nD Cert.DownNormReferenceIdeal.τ Cert.DownNormReferenceIdeal.sig) → Buf (Elt Ideal) ℓ) (g' : Dev Cert.DownNormReferenceIdeal.nD → PrngReg), Pre_DownNormIdeal m →
    (∀ c : Dev Cert.DownNormIdeal.nD,
      m' ((c.tc : Thread Cert.DownNormReferenceIdeal.nD Cert.DownNormReferenceIdeal.τ).loc Cert.DownNormReferenceIdeal.main_arg0) = m ((c.tc : Thread Cert.DownNormIdeal.nD Cert.DownNormIdeal.τ).loc Cert.DownNormIdeal.main_arg0)
      ∧ m' ((c.tc : Thread Cert.DownNormReferenceIdeal.nD Cert.DownNormReferenceIdeal.τ).loc Cert.DownNormReferenceIdeal.main_arg1) = m ((c.tc : Thread Cert.DownNormIdeal.nD Cert.DownNormIdeal.τ).loc Cert.DownNormIdeal.main_arg1)
      ∧ m' ((c.tc : Thread Cert.DownNormReferenceIdeal.nD Cert.DownNormReferenceIdeal.τ).loc Cert.DownNormReferenceIdeal.main_arg2) = m ((c.tc : Thread Cert.DownNormIdeal.nD Cert.DownNormIdeal.τ).loc Cert.DownNormIdeal.main_arg2)
      ∧ m' ((c.tc : Thread Cert.DownNormReferenceIdeal.nD Cert.DownNormReferenceIdeal.τ).loc Cert.DownNormReferenceIdeal.main_arg3) = m ((c.tc : Thread Cert.DownNormIdeal.nD Cert.DownNormIdeal.τ).loc Cert.DownNormIdeal.main_arg3)
      ∧ m' ((c.tc : Thread Cert.DownNormReferenceIdeal.nD Cert.DownNormReferenceIdeal.τ).loc Cert.DownNormReferenceIdeal.main_arg4) = m ((c.tc : Thread Cert.DownNormIdeal.nD Cert.DownNormIdeal.τ).loc Cert.DownNormIdeal.main_arg4)) →
    ∃ (v0 : (c : Dev Cert.DownNormIdeal.nD) → Buf (Elt Ideal) ((c.tc : Thread Cert.DownNormIdeal.nD Cert.DownNormIdeal.τ).loc Cert.DownNormIdeal.main_v2_0)) (v1 : (c : Dev Cert.DownNormIdeal.nD) → Buf (Elt Ideal) ((c.tc : Thread Cert.DownNormIdeal.nD Cert.DownNormIdeal.τ).loc Cert.DownNormIdeal.main_v2_1)),
      θ_run (Cert.DownNormIdeal.defs (F := Ideal)) (onTc (τ := Cert.DownNormIdeal.τ) (Cert.DownNormIdeal.main (F := Ideal))) ⟨m, fun _ => 0, g⟩ (fun r => ∀ c : Dev Cert.DownNormIdeal.nD,
          r.2.mem ((c.tc : Thread Cert.DownNormIdeal.nD Cert.DownNormIdeal.τ).loc Cert.DownNormIdeal.main_v2_0) = v0 c
          ∧ r.2.mem ((c.tc : Thread Cert.DownNormIdeal.nD Cert.DownNormIdeal.τ).loc Cert.DownNormIdeal.main_v2_1) = v1 c
          ∧ r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
          ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
          ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
          ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3)
          ∧ r.2.mem ((c.tc : Thread Cert.DownNormIdeal.nD Cert.DownNormIdeal.τ).loc Cert.DownNormIdeal.main_arg4) = m ((c.tc : Thread Cert.DownNormIdeal.nD Cert.DownNormIdeal.τ).loc Cert.DownNormIdeal.main_arg4))
      ∧ θ_run (Cert.DownNormReferenceIdeal.defs (F := Ideal)) (onTc (τ := Cert.DownNormReferenceIdeal.τ) (Cert.DownNormReferenceIdeal.main (F := Ideal))) ⟨m', fun _ => 0, g'⟩ (fun r => ∀ c : Dev Cert.DownNormReferenceIdeal.nD,
          r.2.mem ((c.tc : Thread Cert.DownNormReferenceIdeal.nD Cert.DownNormReferenceIdeal.τ).loc Cert.DownNormReferenceIdeal.main_v29) = v0 c
          ∧ r.2.mem ((c.tc : Thread Cert.DownNormReferenceIdeal.nD Cert.DownNormReferenceIdeal.τ).loc Cert.DownNormReferenceIdeal.main_v35) = v1 c
          ∧ r.2.mem ((c.tc : Thread Cert.DownNormReferenceIdeal.nD Cert.DownNormReferenceIdeal.τ).loc Cert.DownNormReferenceIdeal.main_arg0) = m' ((c.tc : Thread Cert.DownNormReferenceIdeal.nD Cert.DownNormReferenceIdeal.τ).loc Cert.DownNormReferenceIdeal.main_arg0)
          ∧ r.2.mem ((c.tc : Thread Cert.DownNormReferenceIdeal.nD Cert.DownNormReferenceIdeal.τ).loc Cert.DownNormReferenceIdeal.main_arg1) = m' ((c.tc : Thread Cert.DownNormReferenceIdeal.nD Cert.DownNormReferenceIdeal.τ).loc Cert.DownNormReferenceIdeal.main_arg1)
          ∧ r.2.mem ((c.tc : Thread Cert.DownNormReferenceIdeal.nD Cert.DownNormReferenceIdeal.τ).loc Cert.DownNormReferenceIdeal.main_arg2) = m' ((c.tc : Thread Cert.DownNormReferenceIdeal.nD Cert.DownNormReferenceIdeal.τ).loc Cert.DownNormReferenceIdeal.main_arg2)
          ∧ r.2.mem ((c.tc : Thread Cert.DownNormReferenceIdeal.nD Cert.DownNormReferenceIdeal.τ).loc Cert.DownNormReferenceIdeal.main_arg3) = m' ((c.tc : Thread Cert.DownNormReferenceIdeal.nD Cert.DownNormReferenceIdeal.τ).loc Cert.DownNormReferenceIdeal.main_arg3)
          ∧ r.2.mem ((c.tc : Thread Cert.DownNormReferenceIdeal.nD Cert.DownNormReferenceIdeal.τ).loc Cert.DownNormReferenceIdeal.main_arg4) = m' ((c.tc : Thread Cert.DownNormReferenceIdeal.nD Cert.DownNormReferenceIdeal.τ).loc Cert.DownNormReferenceIdeal.main_arg4))

def preserves_FfnAct_FfnActIdeal : Prop :=
  IdealRules.named_const.Statement Cert.FfnActIdeal.κ "cubic" .f32 0x3D372713#32 ((8943 / 200000 : ℝ) : EReal)

def algebraic_FfnActIdeal_FfnActReferenceIdeal [hFfnActIdeal : Cert.FfnActIdeal.Facts] [hFfnActReferenceIdeal : Cert.FfnActReferenceIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActReferenceIdeal.nD Cert.FfnActReferenceIdeal.τ Cert.FfnActReferenceIdeal.sig) → Buf (Elt Ideal) ℓ) (g' : Dev Cert.FfnActReferenceIdeal.nD → PrngReg), Pre_FfnActIdeal m →
    (∀ c : Dev Cert.FfnActIdeal.nD,
      m' ((c.tc : Thread Cert.FfnActReferenceIdeal.nD Cert.FfnActReferenceIdeal.τ).loc Cert.FfnActReferenceIdeal.main_arg0) = m ((c.tc : Thread Cert.FfnActIdeal.nD Cert.FfnActIdeal.τ).loc Cert.FfnActIdeal.main_arg0)
      ∧ m' ((c.tc : Thread Cert.FfnActReferenceIdeal.nD Cert.FfnActReferenceIdeal.τ).loc Cert.FfnActReferenceIdeal.main_arg1) = m ((c.tc : Thread Cert.FfnActIdeal.nD Cert.FfnActIdeal.τ).loc Cert.FfnActIdeal.main_arg1)
      ∧ m' ((c.tc : Thread Cert.FfnActReferenceIdeal.nD Cert.FfnActReferenceIdeal.τ).loc Cert.FfnActReferenceIdeal.main_arg2) = m ((c.tc : Thread Cert.FfnActIdeal.nD Cert.FfnActIdeal.τ).loc Cert.FfnActIdeal.main_arg2)) →
    ∃ (v0 : (c : Dev Cert.FfnActIdeal.nD) → Buf (Elt Ideal) ((c.tc : Thread Cert.FfnActIdeal.nD Cert.FfnActIdeal.τ).loc Cert.FfnActIdeal.main_v2)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v2) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ θ_run (Cert.FfnActReferenceIdeal.defs (F := Ideal)) (onTc (τ := Cert.FfnActReferenceIdeal.τ) (Cert.FfnActReferenceIdeal.main (F := Ideal))) ⟨m', fun _ => 0, g'⟩ (fun r => ∀ c : Dev Cert.FfnActReferenceIdeal.nD,
          r.2.mem ((c.tc : Thread Cert.FfnActReferenceIdeal.nD Cert.FfnActReferenceIdeal.τ).loc Cert.FfnActReferenceIdeal.main_v46) = v0 c
          ∧ r.2.mem ((c.tc : Thread Cert.FfnActReferenceIdeal.nD Cert.FfnActReferenceIdeal.τ).loc Cert.FfnActReferenceIdeal.main_arg0) = m' ((c.tc : Thread Cert.FfnActReferenceIdeal.nD Cert.FfnActReferenceIdeal.τ).loc Cert.FfnActReferenceIdeal.main_arg0)
          ∧ r.2.mem ((c.tc : Thread Cert.FfnActReferenceIdeal.nD Cert.FfnActReferenceIdeal.τ).loc Cert.FfnActReferenceIdeal.main_arg1) = m' ((c.tc : Thread Cert.FfnActReferenceIdeal.nD Cert.FfnActReferenceIdeal.τ).loc Cert.FfnActReferenceIdeal.main_arg1)
          ∧ r.2.mem ((c.tc : Thread Cert.FfnActReferenceIdeal.nD Cert.FfnActReferenceIdeal.τ).loc Cert.FfnActReferenceIdeal.main_arg2) = m' ((c.tc : Thread Cert.FfnActReferenceIdeal.nD Cert.FfnActReferenceIdeal.τ).loc Cert.FfnActReferenceIdeal.main_arg2))

def preserves_FfnActGrad_FfnActGradIdeal : Prop :=
  IdealRules.named_const.Statement Cert.FfnActGradIdeal.κ "cubic" .f32 0x3D372713#32 ((8943 / 200000 : ℝ) : EReal)
  ∧ IdealRules.named_const.Statement Cert.FfnActGradIdeal.κ "cubic3" .f32 0x3E095D4F#32 ((26829 / 200000 : ℝ) : EReal)

def algebraic_FfnActGradIdeal_FfnActGradReferenceIdeal_pre_finite_act [hFfnActGradIdeal : Cert.FfnActGradIdeal.Facts] [hFfnActGradReferenceIdeal : Cert.FfnActGradReferenceIdeal.Facts] [hPre_finite_act : Cert.Pre_finite_act.Facts] : Prop :=
  ∀ (m : (ℓ : Loc Cert.FfnActGradIdeal.nD Cert.FfnActGradIdeal.τ Cert.FfnActGradIdeal.sig) → Buf (Elt Ideal) ℓ) (g : Dev Cert.FfnActGradIdeal.nD → PrngReg)
    (m' : (ℓ : Loc Cert.FfnActGradReferenceIdeal.nD Cert.FfnActGradReferenceIdeal.τ Cert.FfnActGradReferenceIdeal.sig) → Buf (Elt Ideal) ℓ) (g' : Dev Cert.FfnActGradReferenceIdeal.nD → PrngReg), Pre_FfnActGradIdeal_finite_act m →
    (∀ c : Dev Cert.FfnActGradIdeal.nD,
      m' ((c.tc : Thread Cert.FfnActGradReferenceIdeal.nD Cert.FfnActGradReferenceIdeal.τ).loc Cert.FfnActGradReferenceIdeal.main_arg0) = m ((c.tc : Thread Cert.FfnActGradIdeal.nD Cert.FfnActGradIdeal.τ).loc Cert.FfnActGradIdeal.main_arg0)
      ∧ m' ((c.tc : Thread Cert.FfnActGradReferenceIdeal.nD Cert.FfnActGradReferenceIdeal.τ).loc Cert.FfnActGradReferenceIdeal.main_arg1) = m ((c.tc : Thread Cert.FfnActGradIdeal.nD Cert.FfnActGradIdeal.τ).loc Cert.FfnActGradIdeal.main_arg1)
      ∧ m' ((c.tc : Thread Cert.FfnActGradReferenceIdeal.nD Cert.FfnActGradReferenceIdeal.τ).loc Cert.FfnActGradReferenceIdeal.main_arg2) = m ((c.tc : Thread Cert.FfnActGradIdeal.nD Cert.FfnActGradIdeal.τ).loc Cert.FfnActGradIdeal.main_arg2)
      ∧ m' ((c.tc : Thread Cert.FfnActGradReferenceIdeal.nD Cert.FfnActGradReferenceIdeal.τ).loc Cert.FfnActGradReferenceIdeal.main_arg3) = m ((c.tc : Thread Cert.FfnActGradIdeal.nD Cert.FfnActGradIdeal.τ).loc Cert.FfnActGradIdeal.main_arg3)) →
    ∃ (v0 : (c : Dev Cert.FfnActGradIdeal.nD) → Buf (Elt Ideal) ((c.tc : Thread Cert.FfnActGradIdeal.nD Cert.FfnActGradIdeal.τ).loc Cert.FfnActGradIdeal.main_v2)),
      θ_run (Cert.FfnActGradIdeal.defs (F := Ideal)) (onTc (τ := Cert.FfnActGradIdeal.τ) (Cert.FfnActGradIdeal.main (F := Ideal))) ⟨m, fun _ => 0, g⟩ (fun r => ∀ c : Dev Cert.FfnActGradIdeal.nD,
          r.2.mem ((c.tc : Thread Cert.FfnActGradIdeal.nD Cert.FfnActGradIdeal.τ).loc Cert.FfnActGradIdeal.main_v2) = v0 c
          ∧ r.2.mem ((c.tc : Thread Cert.FfnActGradIdeal.nD Cert.FfnActGradIdeal.τ).loc Cert.FfnActGradIdeal.main_arg0) = m ((c.tc : Thread Cert.FfnActGradIdeal.nD Cert.FfnActGradIdeal.τ).loc Cert.FfnActGradIdeal.main_arg0)
          ∧ r.2.mem ((c.tc : Thread Cert.FfnActGradIdeal.nD Cert.FfnActGradIdeal.τ).loc Cert.FfnActGradIdeal.main_arg1) = m ((c.tc : Thread Cert.FfnActGradIdeal.nD Cert.FfnActGradIdeal.τ).loc Cert.FfnActGradIdeal.main_arg1)
          ∧ r.2.mem ((c.tc : Thread Cert.FfnActGradIdeal.nD Cert.FfnActGradIdeal.τ).loc Cert.FfnActGradIdeal.main_arg2) = m ((c.tc : Thread Cert.FfnActGradIdeal.nD Cert.FfnActGradIdeal.τ).loc Cert.FfnActGradIdeal.main_arg2)
          ∧ r.2.mem ((c.tc : Thread Cert.FfnActGradIdeal.nD Cert.FfnActGradIdeal.τ).loc Cert.FfnActGradIdeal.main_arg3) = m ((c.tc : Thread Cert.FfnActGradIdeal.nD Cert.FfnActGradIdeal.τ).loc Cert.FfnActGradIdeal.main_arg3))
      ∧ θ_run (Cert.FfnActGradReferenceIdeal.defs (F := Ideal)) (onTc (τ := Cert.FfnActGradReferenceIdeal.τ) (Cert.FfnActGradReferenceIdeal.main (F := Ideal))) ⟨m', fun _ => 0, g'⟩ (fun r => ∀ c : Dev Cert.FfnActGradReferenceIdeal.nD,
          r.2.mem ((c.tc : Thread Cert.FfnActGradReferenceIdeal.nD Cert.FfnActGradReferenceIdeal.τ).loc Cert.FfnActGradReferenceIdeal.main_v79) = v0 c
          ∧ r.2.mem ((c.tc : Thread Cert.FfnActGradReferenceIdeal.nD Cert.FfnActGradReferenceIdeal.τ).loc Cert.FfnActGradReferenceIdeal.main_arg0) = m' ((c.tc : Thread Cert.FfnActGradReferenceIdeal.nD Cert.FfnActGradReferenceIdeal.τ).loc Cert.FfnActGradReferenceIdeal.main_arg0)
          ∧ r.2.mem ((c.tc : Thread Cert.FfnActGradReferenceIdeal.nD Cert.FfnActGradReferenceIdeal.τ).loc Cert.FfnActGradReferenceIdeal.main_arg1) = m' ((c.tc : Thread Cert.FfnActGradReferenceIdeal.nD Cert.FfnActGradReferenceIdeal.τ).loc Cert.FfnActGradReferenceIdeal.main_arg1)
          ∧ r.2.mem ((c.tc : Thread Cert.FfnActGradReferenceIdeal.nD Cert.FfnActGradReferenceIdeal.τ).loc Cert.FfnActGradReferenceIdeal.main_arg2) = m' ((c.tc : Thread Cert.FfnActGradReferenceIdeal.nD Cert.FfnActGradReferenceIdeal.τ).loc Cert.FfnActGradReferenceIdeal.main_arg2)
          ∧ r.2.mem ((c.tc : Thread Cert.FfnActGradReferenceIdeal.nD Cert.FfnActGradReferenceIdeal.τ).loc Cert.FfnActGradReferenceIdeal.main_arg3) = m' ((c.tc : Thread Cert.FfnActGradReferenceIdeal.nD Cert.FfnActGradReferenceIdeal.τ).loc Cert.FfnActGradReferenceIdeal.main_arg3))

def preserves_FfnConvGrad_FfnConvGradIdeal : Prop :=
  True

def algebraic_FfnConvGradIdeal_FfnConvGradReferenceIdeal [hFfnConvGradIdeal : Cert.FfnConvGradIdeal.Facts] [hFfnConvGradReferenceIdeal : Cert.FfnConvGradReferenceIdeal.Facts] : Prop :=
  ∀ (m : (ℓ : Loc Cert.FfnConvGradIdeal.nD Cert.FfnConvGradIdeal.τ Cert.FfnConvGradIdeal.sig) → Buf (Elt Ideal) ℓ) (g : Dev Cert.FfnConvGradIdeal.nD → PrngReg)
    (m' : (ℓ : Loc Cert.FfnConvGradReferenceIdeal.nD Cert.FfnConvGradReferenceIdeal.τ Cert.FfnConvGradReferenceIdeal.sig) → Buf (Elt Ideal) ℓ) (g' : Dev Cert.FfnConvGradReferenceIdeal.nD → PrngReg), Pre_FfnConvGradIdeal m →
    (∀ c : Dev Cert.FfnConvGradIdeal.nD,
      m' ((c.tc : Thread Cert.FfnConvGradReferenceIdeal.nD Cert.FfnConvGradReferenceIdeal.τ).loc Cert.FfnConvGradReferenceIdeal.main_arg0) = m ((c.tc : Thread Cert.FfnConvGradIdeal.nD Cert.FfnConvGradIdeal.τ).loc Cert.FfnConvGradIdeal.main_arg0)
      ∧ m' ((c.tc : Thread Cert.FfnConvGradReferenceIdeal.nD Cert.FfnConvGradReferenceIdeal.τ).loc Cert.FfnConvGradReferenceIdeal.main_arg1) = m ((c.tc : Thread Cert.FfnConvGradIdeal.nD Cert.FfnConvGradIdeal.τ).loc Cert.FfnConvGradIdeal.main_arg1)
      ∧ m' ((c.tc : Thread Cert.FfnConvGradReferenceIdeal.nD Cert.FfnConvGradReferenceIdeal.τ).loc Cert.FfnConvGradReferenceIdeal.main_arg2) = m ((c.tc : Thread Cert.FfnConvGradIdeal.nD Cert.FfnConvGradIdeal.τ).loc Cert.FfnConvGradIdeal.main_arg2)
      ∧ m' ((c.tc : Thread Cert.FfnConvGradReferenceIdeal.nD Cert.FfnConvGradReferenceIdeal.τ).loc Cert.FfnConvGradReferenceIdeal.main_arg3) = m ((c.tc : Thread Cert.FfnConvGradIdeal.nD Cert.FfnConvGradIdeal.τ).loc Cert.FfnConvGradIdeal.main_arg3)) →
    ∃ (v0 : (c : Dev Cert.FfnConvGradIdeal.nD) → Buf (Elt Ideal) ((c.tc : Thread Cert.FfnConvGradIdeal.nD Cert.FfnConvGradIdeal.τ).loc Cert.FfnConvGradIdeal.main_v0_0)) (v1 : (c : Dev Cert.FfnConvGradIdeal.nD) → Buf (Elt Ideal) ((c.tc : Thread Cert.FfnConvGradIdeal.nD Cert.FfnConvGradIdeal.τ).loc Cert.FfnConvGradIdeal.main_v0_1)),
      θ_run (Cert.FfnConvGradIdeal.defs (F := Ideal)) (onTc (τ := Cert.FfnConvGradIdeal.τ) (Cert.FfnConvGradIdeal.main (F := Ideal))) ⟨m, fun _ => 0, g⟩ (fun r => ∀ c : Dev Cert.FfnConvGradIdeal.nD,
          r.2.mem ((c.tc : Thread Cert.FfnConvGradIdeal.nD Cert.FfnConvGradIdeal.τ).loc Cert.FfnConvGradIdeal.main_v0_0) = v0 c
          ∧ r.2.mem ((c.tc : Thread Cert.FfnConvGradIdeal.nD Cert.FfnConvGradIdeal.τ).loc Cert.FfnConvGradIdeal.main_v0_1) = v1 c
          ∧ r.2.mem ((c.tc : Thread Cert.FfnConvGradIdeal.nD Cert.FfnConvGradIdeal.τ).loc Cert.FfnConvGradIdeal.main_arg0) = m ((c.tc : Thread Cert.FfnConvGradIdeal.nD Cert.FfnConvGradIdeal.τ).loc Cert.FfnConvGradIdeal.main_arg0)
          ∧ r.2.mem ((c.tc : Thread Cert.FfnConvGradIdeal.nD Cert.FfnConvGradIdeal.τ).loc Cert.FfnConvGradIdeal.main_arg1) = m ((c.tc : Thread Cert.FfnConvGradIdeal.nD Cert.FfnConvGradIdeal.τ).loc Cert.FfnConvGradIdeal.main_arg1)
          ∧ r.2.mem ((c.tc : Thread Cert.FfnConvGradIdeal.nD Cert.FfnConvGradIdeal.τ).loc Cert.FfnConvGradIdeal.main_arg2) = m ((c.tc : Thread Cert.FfnConvGradIdeal.nD Cert.FfnConvGradIdeal.τ).loc Cert.FfnConvGradIdeal.main_arg2)
          ∧ r.2.mem ((c.tc : Thread Cert.FfnConvGradIdeal.nD Cert.FfnConvGradIdeal.τ).loc Cert.FfnConvGradIdeal.main_arg3) = m ((c.tc : Thread Cert.FfnConvGradIdeal.nD Cert.FfnConvGradIdeal.τ).loc Cert.FfnConvGradIdeal.main_arg3))
      ∧ θ_run (Cert.FfnConvGradReferenceIdeal.defs (F := Ideal)) (onTc (τ := Cert.FfnConvGradReferenceIdeal.τ) (Cert.FfnConvGradReferenceIdeal.main (F := Ideal))) ⟨m', fun _ => 0, g'⟩ (fun r => ∀ c : Dev Cert.FfnConvGradReferenceIdeal.nD,
          r.2.mem ((c.tc : Thread Cert.FfnConvGradReferenceIdeal.nD Cert.FfnConvGradReferenceIdeal.τ).loc Cert.FfnConvGradReferenceIdeal.main_v73) = v0 c
          ∧ r.2.mem ((c.tc : Thread Cert.FfnConvGradReferenceIdeal.nD Cert.FfnConvGradReferenceIdeal.τ).loc Cert.FfnConvGradReferenceIdeal.main_v76) = v1 c
          ∧ r.2.mem ((c.tc : Thread Cert.FfnConvGradReferenceIdeal.nD Cert.FfnConvGradReferenceIdeal.τ).loc Cert.FfnConvGradReferenceIdeal.main_arg0) = m' ((c.tc : Thread Cert.FfnConvGradReferenceIdeal.nD Cert.FfnConvGradReferenceIdeal.τ).loc Cert.FfnConvGradReferenceIdeal.main_arg0)
          ∧ r.2.mem ((c.tc : Thread Cert.FfnConvGradReferenceIdeal.nD Cert.FfnConvGradReferenceIdeal.τ).loc Cert.FfnConvGradReferenceIdeal.main_arg1) = m' ((c.tc : Thread Cert.FfnConvGradReferenceIdeal.nD Cert.FfnConvGradReferenceIdeal.τ).loc Cert.FfnConvGradReferenceIdeal.main_arg1)
          ∧ r.2.mem ((c.tc : Thread Cert.FfnConvGradReferenceIdeal.nD Cert.FfnConvGradReferenceIdeal.τ).loc Cert.FfnConvGradReferenceIdeal.main_arg2) = m' ((c.tc : Thread Cert.FfnConvGradReferenceIdeal.nD Cert.FfnConvGradReferenceIdeal.τ).loc Cert.FfnConvGradReferenceIdeal.main_arg2)
          ∧ r.2.mem ((c.tc : Thread Cert.FfnConvGradReferenceIdeal.nD Cert.FfnConvGradReferenceIdeal.τ).loc Cert.FfnConvGradReferenceIdeal.main_arg3) = m' ((c.tc : Thread Cert.FfnConvGradReferenceIdeal.nD Cert.FfnConvGradReferenceIdeal.τ).loc Cert.FfnConvGradReferenceIdeal.main_arg3))

def preserves_NormGrad_NormGradIdeal : Prop :=
  True

def algebraic_NormGradIdeal_NormGradReferenceIdeal_pre_finite_norm [hNormGradIdeal : Cert.NormGradIdeal.Facts] [hNormGradReferenceIdeal : Cert.NormGradReferenceIdeal.Facts] [hPre_finite_norm : Cert.Pre_finite_norm.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradReferenceIdeal.nD Cert.NormGradReferenceIdeal.τ Cert.NormGradReferenceIdeal.sig) → Buf (Elt Ideal) ℓ) (g' : Dev Cert.NormGradReferenceIdeal.nD → PrngReg), Pre_NormGradIdeal_finite_norm m →
    (∀ c : Dev Cert.NormGradIdeal.nD,
      m' ((c.tc : Thread Cert.NormGradReferenceIdeal.nD Cert.NormGradReferenceIdeal.τ).loc Cert.NormGradReferenceIdeal.main_arg0) = m ((c.tc : Thread Cert.NormGradIdeal.nD Cert.NormGradIdeal.τ).loc Cert.NormGradIdeal.main_arg0)
      ∧ m' ((c.tc : Thread Cert.NormGradReferenceIdeal.nD Cert.NormGradReferenceIdeal.τ).loc Cert.NormGradReferenceIdeal.main_arg1) = m ((c.tc : Thread Cert.NormGradIdeal.nD Cert.NormGradIdeal.τ).loc Cert.NormGradIdeal.main_arg1)
      ∧ m' ((c.tc : Thread Cert.NormGradReferenceIdeal.nD Cert.NormGradReferenceIdeal.τ).loc Cert.NormGradReferenceIdeal.main_arg2) = m ((c.tc : Thread Cert.NormGradIdeal.nD Cert.NormGradIdeal.τ).loc Cert.NormGradIdeal.main_arg2)
      ∧ m' ((c.tc : Thread Cert.NormGradReferenceIdeal.nD Cert.NormGradReferenceIdeal.τ).loc Cert.NormGradReferenceIdeal.main_arg3) = m ((c.tc : Thread Cert.NormGradIdeal.nD Cert.NormGradIdeal.τ).loc Cert.NormGradIdeal.main_arg3)
      ∧ m' ((c.tc : Thread Cert.NormGradReferenceIdeal.nD Cert.NormGradReferenceIdeal.τ).loc Cert.NormGradReferenceIdeal.main_arg4) = m ((c.tc : Thread Cert.NormGradIdeal.nD Cert.NormGradIdeal.τ).loc Cert.NormGradIdeal.main_arg4)) →
    ∃ (v0 : (c : Dev Cert.NormGradIdeal.nD) → Buf (Elt Ideal) ((c.tc : Thread Cert.NormGradIdeal.nD Cert.NormGradIdeal.τ).loc Cert.NormGradIdeal.main_v1_0)) (v1 : (c : Dev Cert.NormGradIdeal.nD) → Buf (Elt Ideal) ((c.tc : Thread Cert.NormGradIdeal.nD Cert.NormGradIdeal.τ).loc Cert.NormGradIdeal.main_v1_1)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v1_0) = v0 c
          ∧ r.2.mem ((c.tc : Thread Cert.NormGradIdeal.nD Cert.NormGradIdeal.τ).loc Cert.NormGradIdeal.main_v1_1) = v1 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ θ_run (Cert.NormGradReferenceIdeal.defs (F := Ideal)) (onTc (τ := Cert.NormGradReferenceIdeal.τ) (Cert.NormGradReferenceIdeal.main (F := Ideal))) ⟨m', fun _ => 0, g'⟩ (fun r => ∀ c : Dev Cert.NormGradReferenceIdeal.nD,
          r.2.mem ((c.tc : Thread Cert.NormGradReferenceIdeal.nD Cert.NormGradReferenceIdeal.τ).loc Cert.NormGradReferenceIdeal.main_v64) = v0 c
          ∧ r.2.mem ((c.tc : Thread Cert.NormGradReferenceIdeal.nD Cert.NormGradReferenceIdeal.τ).loc Cert.NormGradReferenceIdeal.main_v68) = v1 c
          ∧ r.2.mem ((c.tc : Thread Cert.NormGradReferenceIdeal.nD Cert.NormGradReferenceIdeal.τ).loc Cert.NormGradReferenceIdeal.main_arg0) = m' ((c.tc : Thread Cert.NormGradReferenceIdeal.nD Cert.NormGradReferenceIdeal.τ).loc Cert.NormGradReferenceIdeal.main_arg0)
          ∧ r.2.mem ((c.tc : Thread Cert.NormGradReferenceIdeal.nD Cert.NormGradReferenceIdeal.τ).loc Cert.NormGradReferenceIdeal.main_arg1) = m' ((c.tc : Thread Cert.NormGradReferenceIdeal.nD Cert.NormGradReferenceIdeal.τ).loc Cert.NormGradReferenceIdeal.main_arg1)
          ∧ r.2.mem ((c.tc : Thread Cert.NormGradReferenceIdeal.nD Cert.NormGradReferenceIdeal.τ).loc Cert.NormGradReferenceIdeal.main_arg2) = m' ((c.tc : Thread Cert.NormGradReferenceIdeal.nD Cert.NormGradReferenceIdeal.τ).loc Cert.NormGradReferenceIdeal.main_arg2)
          ∧ r.2.mem ((c.tc : Thread Cert.NormGradReferenceIdeal.nD Cert.NormGradReferenceIdeal.τ).loc Cert.NormGradReferenceIdeal.main_arg3) = m' ((c.tc : Thread Cert.NormGradReferenceIdeal.nD Cert.NormGradReferenceIdeal.τ).loc Cert.NormGradReferenceIdeal.main_arg3)
          ∧ r.2.mem ((c.tc : Thread Cert.NormGradReferenceIdeal.nD Cert.NormGradReferenceIdeal.τ).loc Cert.NormGradReferenceIdeal.main_arg4) = m' ((c.tc : Thread Cert.NormGradReferenceIdeal.nD Cert.NormGradReferenceIdeal.τ).loc Cert.NormGradReferenceIdeal.main_arg4))

def preserves_NormTopGrad_NormTopGradIdeal : Prop :=
  True

def algebraic_NormTopGradIdeal_NormTopGradReferenceIdeal_pre_finite_top [hNormTopGradIdeal : Cert.NormTopGradIdeal.Facts] [hNormTopGradReferenceIdeal : Cert.NormTopGradReferenceIdeal.Facts] [hPre_finite_top : Cert.Pre_finite_top.Facts] : Prop :=
  ∀ (m : (ℓ : Loc Cert.NormTopGradIdeal.nD Cert.NormTopGradIdeal.τ Cert.NormTopGradIdeal.sig) → Buf (Elt Ideal) ℓ) (g : Dev Cert.NormTopGradIdeal.nD → PrngReg)
    (m' : (ℓ : Loc Cert.NormTopGradReferenceIdeal.nD Cert.NormTopGradReferenceIdeal.τ Cert.NormTopGradReferenceIdeal.sig) → Buf (Elt Ideal) ℓ) (g' : Dev Cert.NormTopGradReferenceIdeal.nD → PrngReg), Pre_NormTopGradIdeal_finite_top m →
    (∀ c : Dev Cert.NormTopGradIdeal.nD,
      m' ((c.tc : Thread Cert.NormTopGradReferenceIdeal.nD Cert.NormTopGradReferenceIdeal.τ).loc Cert.NormTopGradReferenceIdeal.main_arg0) = m ((c.tc : Thread Cert.NormTopGradIdeal.nD Cert.NormTopGradIdeal.τ).loc Cert.NormTopGradIdeal.main_arg0)
      ∧ m' ((c.tc : Thread Cert.NormTopGradReferenceIdeal.nD Cert.NormTopGradReferenceIdeal.τ).loc Cert.NormTopGradReferenceIdeal.main_arg1) = m ((c.tc : Thread Cert.NormTopGradIdeal.nD Cert.NormTopGradIdeal.τ).loc Cert.NormTopGradIdeal.main_arg1)
      ∧ m' ((c.tc : Thread Cert.NormTopGradReferenceIdeal.nD Cert.NormTopGradReferenceIdeal.τ).loc Cert.NormTopGradReferenceIdeal.main_arg2) = m ((c.tc : Thread Cert.NormTopGradIdeal.nD Cert.NormTopGradIdeal.τ).loc Cert.NormTopGradIdeal.main_arg2)
      ∧ m' ((c.tc : Thread Cert.NormTopGradReferenceIdeal.nD Cert.NormTopGradReferenceIdeal.τ).loc Cert.NormTopGradReferenceIdeal.main_arg3) = m ((c.tc : Thread Cert.NormTopGradIdeal.nD Cert.NormTopGradIdeal.τ).loc Cert.NormTopGradIdeal.main_arg3)) →
    ∃ (v0 : (c : Dev Cert.NormTopGradIdeal.nD) → Buf (Elt Ideal) ((c.tc : Thread Cert.NormTopGradIdeal.nD Cert.NormTopGradIdeal.τ).loc Cert.NormTopGradIdeal.main_v1_0)) (v1 : (c : Dev Cert.NormTopGradIdeal.nD) → Buf (Elt Ideal) ((c.tc : Thread Cert.NormTopGradIdeal.nD Cert.NormTopGradIdeal.τ).loc Cert.NormTopGradIdeal.main_v1_1)),
      θ_run (Cert.NormTopGradIdeal.defs (F := Ideal)) (onTc (τ := Cert.NormTopGradIdeal.τ) (Cert.NormTopGradIdeal.main (F := Ideal))) ⟨m, fun _ => 0, g⟩ (fun r => ∀ c : Dev Cert.NormTopGradIdeal.nD,
          r.2.mem ((c.tc : Thread Cert.NormTopGradIdeal.nD Cert.NormTopGradIdeal.τ).loc Cert.NormTopGradIdeal.main_v1_0) = v0 c
          ∧ r.2.mem ((c.tc : Thread Cert.NormTopGradIdeal.nD Cert.NormTopGradIdeal.τ).loc Cert.NormTopGradIdeal.main_v1_1) = v1 c
          ∧ r.2.mem ((c.tc : Thread Cert.NormTopGradIdeal.nD Cert.NormTopGradIdeal.τ).loc Cert.NormTopGradIdeal.main_arg0) = m ((c.tc : Thread Cert.NormTopGradIdeal.nD Cert.NormTopGradIdeal.τ).loc Cert.NormTopGradIdeal.main_arg0)
          ∧ r.2.mem ((c.tc : Thread Cert.NormTopGradIdeal.nD Cert.NormTopGradIdeal.τ).loc Cert.NormTopGradIdeal.main_arg1) = m ((c.tc : Thread Cert.NormTopGradIdeal.nD Cert.NormTopGradIdeal.τ).loc Cert.NormTopGradIdeal.main_arg1)
          ∧ r.2.mem ((c.tc : Thread Cert.NormTopGradIdeal.nD Cert.NormTopGradIdeal.τ).loc Cert.NormTopGradIdeal.main_arg2) = m ((c.tc : Thread Cert.NormTopGradIdeal.nD Cert.NormTopGradIdeal.τ).loc Cert.NormTopGradIdeal.main_arg2)
          ∧ r.2.mem ((c.tc : Thread Cert.NormTopGradIdeal.nD Cert.NormTopGradIdeal.τ).loc Cert.NormTopGradIdeal.main_arg3) = m ((c.tc : Thread Cert.NormTopGradIdeal.nD Cert.NormTopGradIdeal.τ).loc Cert.NormTopGradIdeal.main_arg3))
      ∧ θ_run (Cert.NormTopGradReferenceIdeal.defs (F := Ideal)) (onTc (τ := Cert.NormTopGradReferenceIdeal.τ) (Cert.NormTopGradReferenceIdeal.main (F := Ideal))) ⟨m', fun _ => 0, g'⟩ (fun r => ∀ c : Dev Cert.NormTopGradReferenceIdeal.nD,
          r.2.mem ((c.tc : Thread Cert.NormTopGradReferenceIdeal.nD Cert.NormTopGradReferenceIdeal.τ).loc Cert.NormTopGradReferenceIdeal.main_v62) = v0 c
          ∧ r.2.mem ((c.tc : Thread Cert.NormTopGradReferenceIdeal.nD Cert.NormTopGradReferenceIdeal.τ).loc Cert.NormTopGradReferenceIdeal.main_v66) = v1 c
          ∧ r.2.mem ((c.tc : Thread Cert.NormTopGradReferenceIdeal.nD Cert.NormTopGradReferenceIdeal.τ).loc Cert.NormTopGradReferenceIdeal.main_arg0) = m' ((c.tc : Thread Cert.NormTopGradReferenceIdeal.nD Cert.NormTopGradReferenceIdeal.τ).loc Cert.NormTopGradReferenceIdeal.main_arg0)
          ∧ r.2.mem ((c.tc : Thread Cert.NormTopGradReferenceIdeal.nD Cert.NormTopGradReferenceIdeal.τ).loc Cert.NormTopGradReferenceIdeal.main_arg1) = m' ((c.tc : Thread Cert.NormTopGradReferenceIdeal.nD Cert.NormTopGradReferenceIdeal.τ).loc Cert.NormTopGradReferenceIdeal.main_arg1)
          ∧ r.2.mem ((c.tc : Thread Cert.NormTopGradReferenceIdeal.nD Cert.NormTopGradReferenceIdeal.τ).loc Cert.NormTopGradReferenceIdeal.main_arg2) = m' ((c.tc : Thread Cert.NormTopGradReferenceIdeal.nD Cert.NormTopGradReferenceIdeal.τ).loc Cert.NormTopGradReferenceIdeal.main_arg2)
          ∧ r.2.mem ((c.tc : Thread Cert.NormTopGradReferenceIdeal.nD Cert.NormTopGradReferenceIdeal.τ).loc Cert.NormTopGradReferenceIdeal.main_arg3) = m' ((c.tc : Thread Cert.NormTopGradReferenceIdeal.nD Cert.NormTopGradReferenceIdeal.τ).loc Cert.NormTopGradReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v15) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v43) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3))

def preserves_S5Out_S5OutIdeal : Prop :=
  IdealRules.named_const.Statement Cert.S5OutIdeal.κ "cubic" .f32 0x3D372713#32 ((8943 / 200000 : ℝ) : EReal)

def algebraic_S5OutIdeal_S5OutReferenceIdeal [hS5OutIdeal : Cert.S5OutIdeal.Facts] [hS5OutReferenceIdeal : Cert.S5OutReferenceIdeal.Facts] : Prop :=
  ∀ (m : (ℓ : Loc Cert.S5OutIdeal.nD Cert.S5OutIdeal.τ Cert.S5OutIdeal.sig) → Buf (Elt Ideal) ℓ) (g : Dev Cert.S5OutIdeal.nD → PrngReg)
    (m' : (ℓ : Loc Cert.S5OutReferenceIdeal.nD Cert.S5OutReferenceIdeal.τ Cert.S5OutReferenceIdeal.sig) → Buf (Elt Ideal) ℓ) (g' : Dev Cert.S5OutReferenceIdeal.nD → PrngReg), Pre_S5OutIdeal m →
    (∀ c : Dev Cert.S5OutIdeal.nD,
      m' ((c.tc : Thread Cert.S5OutReferenceIdeal.nD Cert.S5OutReferenceIdeal.τ).loc Cert.S5OutReferenceIdeal.main_arg0) = m ((c.tc : Thread Cert.S5OutIdeal.nD Cert.S5OutIdeal.τ).loc Cert.S5OutIdeal.main_arg0)
      ∧ m' ((c.tc : Thread Cert.S5OutReferenceIdeal.nD Cert.S5OutReferenceIdeal.τ).loc Cert.S5OutReferenceIdeal.main_arg1) = m ((c.tc : Thread Cert.S5OutIdeal.nD Cert.S5OutIdeal.τ).loc Cert.S5OutIdeal.main_arg1)
      ∧ m' ((c.tc : Thread Cert.S5OutReferenceIdeal.nD Cert.S5OutReferenceIdeal.τ).loc Cert.S5OutReferenceIdeal.main_arg2) = m ((c.tc : Thread Cert.S5OutIdeal.nD Cert.S5OutIdeal.τ).loc Cert.S5OutIdeal.main_arg2)
      ∧ m' ((c.tc : Thread Cert.S5OutReferenceIdeal.nD Cert.S5OutReferenceIdeal.τ).loc Cert.S5OutReferenceIdeal.main_arg3) = m ((c.tc : Thread Cert.S5OutIdeal.nD Cert.S5OutIdeal.τ).loc Cert.S5OutIdeal.main_arg3)
      ∧ m' ((c.tc : Thread Cert.S5OutReferenceIdeal.nD Cert.S5OutReferenceIdeal.τ).loc Cert.S5OutReferenceIdeal.main_arg4) = m ((c.tc : Thread Cert.S5OutIdeal.nD Cert.S5OutIdeal.τ).loc Cert.S5OutIdeal.main_arg4)) →
    ∃ (v0 : (c : Dev Cert.S5OutIdeal.nD) → Buf (Elt Ideal) ((c.tc : Thread Cert.S5OutIdeal.nD Cert.S5OutIdeal.τ).loc Cert.S5OutIdeal.main_v2_0)) (v1 : (c : Dev Cert.S5OutIdeal.nD) → Buf (Elt Ideal) ((c.tc : Thread Cert.S5OutIdeal.nD Cert.S5OutIdeal.τ).loc Cert.S5OutIdeal.main_v2_1)),
      θ_run (Cert.S5OutIdeal.defs (F := Ideal)) (onTc (τ := Cert.S5OutIdeal.τ) (Cert.S5OutIdeal.main (F := Ideal))) ⟨m, fun _ => 0, g⟩ (fun r => ∀ c : Dev Cert.S5OutIdeal.nD,
          r.2.mem ((c.tc : Thread Cert.S5OutIdeal.nD Cert.S5OutIdeal.τ).loc Cert.S5OutIdeal.main_v2_0) = v0 c
          ∧ r.2.mem ((c.tc : Thread Cert.S5OutIdeal.nD Cert.S5OutIdeal.τ).loc Cert.S5OutIdeal.main_v2_1) = v1 c
          ∧ r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
          ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
          ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
          ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
          ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4))
      ∧ θ_run (Cert.S5OutReferenceIdeal.defs (F := Ideal)) (onTc (τ := Cert.S5OutReferenceIdeal.τ) (Cert.S5OutReferenceIdeal.main (F := Ideal))) ⟨m', fun _ => 0, g'⟩ (fun r => ∀ c : Dev Cert.S5OutReferenceIdeal.nD,
          r.2.mem ((c.tc : Thread Cert.S5OutReferenceIdeal.nD Cert.S5OutReferenceIdeal.τ).loc Cert.S5OutReferenceIdeal.main_v31) = v0 c
          ∧ r.2.mem ((c.tc : Thread Cert.S5OutReferenceIdeal.nD Cert.S5OutReferenceIdeal.τ).loc Cert.S5OutReferenceIdeal.main_v36) = v1 c
          ∧ r.2.mem ((c.tc : Thread Cert.S5OutReferenceIdeal.nD Cert.S5OutReferenceIdeal.τ).loc Cert.S5OutReferenceIdeal.main_arg0) = m' ((c.tc : Thread Cert.S5OutReferenceIdeal.nD Cert.S5OutReferenceIdeal.τ).loc Cert.S5OutReferenceIdeal.main_arg0)
          ∧ r.2.mem ((c.tc : Thread Cert.S5OutReferenceIdeal.nD Cert.S5OutReferenceIdeal.τ).loc Cert.S5OutReferenceIdeal.main_arg1) = m' ((c.tc : Thread Cert.S5OutReferenceIdeal.nD Cert.S5OutReferenceIdeal.τ).loc Cert.S5OutReferenceIdeal.main_arg1)
          ∧ r.2.mem ((c.tc : Thread Cert.S5OutReferenceIdeal.nD Cert.S5OutReferenceIdeal.τ).loc Cert.S5OutReferenceIdeal.main_arg2) = m' ((c.tc : Thread Cert.S5OutReferenceIdeal.nD Cert.S5OutReferenceIdeal.τ).loc Cert.S5OutReferenceIdeal.main_arg2)
          ∧ r.2.mem ((c.tc : Thread Cert.S5OutReferenceIdeal.nD Cert.S5OutReferenceIdeal.τ).loc Cert.S5OutReferenceIdeal.main_arg3) = m' ((c.tc : Thread Cert.S5OutReferenceIdeal.nD Cert.S5OutReferenceIdeal.τ).loc Cert.S5OutReferenceIdeal.main_arg3)
          ∧ r.2.mem ((c.tc : Thread Cert.S5OutReferenceIdeal.nD Cert.S5OutReferenceIdeal.τ).loc Cert.S5OutReferenceIdeal.main_arg4) = m' ((c.tc : Thread Cert.S5OutReferenceIdeal.nD Cert.S5OutReferenceIdeal.τ).loc Cert.S5OutReferenceIdeal.main_arg4))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)
      ∧ m' ((c.tc : Thread Cert.RopeReferenceIdeal.nD Cert.RopeReferenceIdeal.τ).loc Cert.RopeReferenceIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v9_0)) (v1 : (c : Dev Cert.RopeIdeal.nD) → Buf (Elt Ideal) ((c.tc : Thread Cert.RopeIdeal.nD Cert.RopeIdeal.τ).loc Cert.RopeIdeal.main_v9_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v9_0) = v0 c
          ∧ r.2.mem ((c.tc : Thread Cert.RopeIdeal.nD Cert.RopeIdeal.τ).loc Cert.RopeIdeal.main_v9_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v17) = v0 c
          ∧ r.2.mem ((c.tc : Thread Cert.RopeReferenceIdeal.nD Cert.RopeReferenceIdeal.τ).loc Cert.RopeReferenceIdeal.main_v35) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2))

def preserves_RopeGrad_RopeGradIdeal : Prop :=
  True

def algebraic_RopeGradIdeal_RopeGradReferenceIdeal [hRopeGradIdeal : Cert.RopeGradIdeal.Facts] [hRopeGradReferenceIdeal : Cert.RopeGradReferenceIdeal.Facts] : Prop :=
  ∀ (m : (ℓ : Loc Cert.RopeGradIdeal.nD Cert.RopeGradIdeal.τ Cert.RopeGradIdeal.sig) → Buf (Elt Ideal) ℓ) (g : Dev Cert.RopeGradIdeal.nD → PrngReg)
    (m' : (ℓ : Loc Cert.RopeGradReferenceIdeal.nD Cert.RopeGradReferenceIdeal.τ Cert.RopeGradReferenceIdeal.sig) → Buf (Elt Ideal) ℓ) (g' : Dev Cert.RopeGradReferenceIdeal.nD → PrngReg), Pre_RopeGradIdeal m →
    (∀ c : Dev Cert.RopeGradIdeal.nD,
      m' ((c.tc : Thread Cert.RopeGradReferenceIdeal.nD Cert.RopeGradReferenceIdeal.τ).loc Cert.RopeGradReferenceIdeal.main_arg0) = m ((c.tc : Thread Cert.RopeGradIdeal.nD Cert.RopeGradIdeal.τ).loc Cert.RopeGradIdeal.main_arg0)
      ∧ m' ((c.tc : Thread Cert.RopeGradReferenceIdeal.nD Cert.RopeGradReferenceIdeal.τ).loc Cert.RopeGradReferenceIdeal.main_arg1) = m ((c.tc : Thread Cert.RopeGradIdeal.nD Cert.RopeGradIdeal.τ).loc Cert.RopeGradIdeal.main_arg1)
      ∧ m' ((c.tc : Thread Cert.RopeGradReferenceIdeal.nD Cert.RopeGradReferenceIdeal.τ).loc Cert.RopeGradReferenceIdeal.main_arg2) = m ((c.tc : Thread Cert.RopeGradIdeal.nD Cert.RopeGradIdeal.τ).loc Cert.RopeGradIdeal.main_arg2)
      ∧ m' ((c.tc : Thread Cert.RopeGradReferenceIdeal.nD Cert.RopeGradReferenceIdeal.τ).loc Cert.RopeGradReferenceIdeal.main_arg3) = m ((c.tc : Thread Cert.RopeGradIdeal.nD Cert.RopeGradIdeal.τ).loc Cert.RopeGradIdeal.main_arg3)) →
    ∃ (v0 : (c : Dev Cert.RopeGradIdeal.nD) → Buf (Elt Ideal) ((c.tc : Thread Cert.RopeGradIdeal.nD Cert.RopeGradIdeal.τ).loc Cert.RopeGradIdeal.main_v9_0)) (v1 : (c : Dev Cert.RopeGradIdeal.nD) → Buf (Elt Ideal) ((c.tc : Thread Cert.RopeGradIdeal.nD Cert.RopeGradIdeal.τ).loc Cert.RopeGradIdeal.main_v9_1)),
      θ_run (Cert.RopeGradIdeal.defs (F := Ideal)) (onTc (τ := Cert.RopeGradIdeal.τ) (Cert.RopeGradIdeal.main (F := Ideal))) ⟨m, fun _ => 0, g⟩ (fun r => ∀ c : Dev Cert.RopeGradIdeal.nD,
          r.2.mem ((c.tc : Thread Cert.RopeGradIdeal.nD Cert.RopeGradIdeal.τ).loc Cert.RopeGradIdeal.main_v9_0) = v0 c
          ∧ r.2.mem ((c.tc : Thread Cert.RopeGradIdeal.nD Cert.RopeGradIdeal.τ).loc Cert.RopeGradIdeal.main_v9_1) = v1 c
          ∧ r.2.mem ((c.tc : Thread Cert.RopeGradIdeal.nD Cert.RopeGradIdeal.τ).loc Cert.RopeGradIdeal.main_arg0) = m ((c.tc : Thread Cert.RopeGradIdeal.nD Cert.RopeGradIdeal.τ).loc Cert.RopeGradIdeal.main_arg0)
          ∧ r.2.mem ((c.tc : Thread Cert.RopeGradIdeal.nD Cert.RopeGradIdeal.τ).loc Cert.RopeGradIdeal.main_arg1) = m ((c.tc : Thread Cert.RopeGradIdeal.nD Cert.RopeGradIdeal.τ).loc Cert.RopeGradIdeal.main_arg1)
          ∧ r.2.mem ((c.tc : Thread Cert.RopeGradIdeal.nD Cert.RopeGradIdeal.τ).loc Cert.RopeGradIdeal.main_arg2) = m ((c.tc : Thread Cert.RopeGradIdeal.nD Cert.RopeGradIdeal.τ).loc Cert.RopeGradIdeal.main_arg2)
          ∧ r.2.mem ((c.tc : Thread Cert.RopeGradIdeal.nD Cert.RopeGradIdeal.τ).loc Cert.RopeGradIdeal.main_arg3) = m ((c.tc : Thread Cert.RopeGradIdeal.nD Cert.RopeGradIdeal.τ).loc Cert.RopeGradIdeal.main_arg3))
      ∧ θ_run (Cert.RopeGradReferenceIdeal.defs (F := Ideal)) (onTc (τ := Cert.RopeGradReferenceIdeal.τ) (Cert.RopeGradReferenceIdeal.main (F := Ideal))) ⟨m', fun _ => 0, g'⟩ (fun r => ∀ c : Dev Cert.RopeGradReferenceIdeal.nD,
          r.2.mem ((c.tc : Thread Cert.RopeGradReferenceIdeal.nD Cert.RopeGradReferenceIdeal.τ).loc Cert.RopeGradReferenceIdeal.main_v19) = v0 c
          ∧ r.2.mem ((c.tc : Thread Cert.RopeGradReferenceIdeal.nD Cert.RopeGradReferenceIdeal.τ).loc Cert.RopeGradReferenceIdeal.main_v39) = v1 c
          ∧ r.2.mem ((c.tc : Thread Cert.RopeGradReferenceIdeal.nD Cert.RopeGradReferenceIdeal.τ).loc Cert.RopeGradReferenceIdeal.main_arg0) = m' ((c.tc : Thread Cert.RopeGradReferenceIdeal.nD Cert.RopeGradReferenceIdeal.τ).loc Cert.RopeGradReferenceIdeal.main_arg0)
          ∧ r.2.mem ((c.tc : Thread Cert.RopeGradReferenceIdeal.nD Cert.RopeGradReferenceIdeal.τ).loc Cert.RopeGradReferenceIdeal.main_arg1) = m' ((c.tc : Thread Cert.RopeGradReferenceIdeal.nD Cert.RopeGradReferenceIdeal.τ).loc Cert.RopeGradReferenceIdeal.main_arg1)
          ∧ r.2.mem ((c.tc : Thread Cert.RopeGradReferenceIdeal.nD Cert.RopeGradReferenceIdeal.τ).loc Cert.RopeGradReferenceIdeal.main_arg2) = m' ((c.tc : Thread Cert.RopeGradReferenceIdeal.nD Cert.RopeGradReferenceIdeal.τ).loc Cert.RopeGradReferenceIdeal.main_arg2)
          ∧ r.2.mem ((c.tc : Thread Cert.RopeGradReferenceIdeal.nD Cert.RopeGradReferenceIdeal.τ).loc Cert.RopeGradReferenceIdeal.main_arg3) = m' ((c.tc : Thread Cert.RopeGradReferenceIdeal.nD Cert.RopeGradReferenceIdeal.τ).loc Cert.RopeGradReferenceIdeal.main_arg3))

def preserves_S5Bu_S5BuIdeal : Prop :=
  True

def algebraic_S5BuIdeal_S5BuReferenceIdeal [hS5BuIdeal : Cert.S5BuIdeal.Facts] [hS5BuReferenceIdeal : Cert.S5BuReferenceIdeal.Facts] : Prop :=
  ∀ (m : (ℓ : Loc Cert.S5BuIdeal.nD Cert.S5BuIdeal.τ Cert.S5BuIdeal.sig) → Buf (Elt Ideal) ℓ) (g : Dev Cert.S5BuIdeal.nD → PrngReg)
    (m' : (ℓ : Loc Cert.S5BuReferenceIdeal.nD Cert.S5BuReferenceIdeal.τ Cert.S5BuReferenceIdeal.sig) → Buf (Elt Ideal) ℓ) (g' : Dev Cert.S5BuReferenceIdeal.nD → PrngReg), Pre_S5BuIdeal m →
    (∀ c : Dev Cert.S5BuIdeal.nD,
      m' ((c.tc : Thread Cert.S5BuReferenceIdeal.nD Cert.S5BuReferenceIdeal.τ).loc Cert.S5BuReferenceIdeal.main_arg0) = m ((c.tc : Thread Cert.S5BuIdeal.nD Cert.S5BuIdeal.τ).loc Cert.S5BuIdeal.main_arg0)
      ∧ m' ((c.tc : Thread Cert.S5BuReferenceIdeal.nD Cert.S5BuReferenceIdeal.τ).loc Cert.S5BuReferenceIdeal.main_arg1) = m ((c.tc : Thread Cert.S5BuIdeal.nD Cert.S5BuIdeal.τ).loc Cert.S5BuIdeal.main_arg1)) →
    ∃ (v0 : (c : Dev Cert.S5BuIdeal.nD) → Buf (Elt Ideal) ((c.tc : Thread Cert.S5BuIdeal.nD Cert.S5BuIdeal.τ).loc Cert.S5BuIdeal.main_v0)),
      θ_run (Cert.S5BuIdeal.defs (F := Ideal)) (onTc (τ := Cert.S5BuIdeal.τ) (Cert.S5BuIdeal.main (F := Ideal))) ⟨m, fun _ => 0, g⟩ (fun r => ∀ c : Dev Cert.S5BuIdeal.nD,
          r.2.mem ((c.tc : Thread Cert.S5BuIdeal.nD Cert.S5BuIdeal.τ).loc Cert.S5BuIdeal.main_v0) = v0 c
          ∧ r.2.mem ((c.tc : Thread Cert.S5BuIdeal.nD Cert.S5BuIdeal.τ).loc Cert.S5BuIdeal.main_arg0) = m ((c.tc : Thread Cert.S5BuIdeal.nD Cert.S5BuIdeal.τ).loc Cert.S5BuIdeal.main_arg0)
          ∧ r.2.mem ((c.tc : Thread Cert.S5BuIdeal.nD Cert.S5BuIdeal.τ).loc Cert.S5BuIdeal.main_arg1) = m ((c.tc : Thread Cert.S5BuIdeal.nD Cert.S5BuIdeal.τ).loc Cert.S5BuIdeal.main_arg1))
      ∧ θ_run (Cert.S5BuReferenceIdeal.defs (F := Ideal)) (onTc (τ := Cert.S5BuReferenceIdeal.τ) (Cert.S5BuReferenceIdeal.main (F := Ideal))) ⟨m', fun _ => 0, g'⟩ (fun r => ∀ c : Dev Cert.S5BuReferenceIdeal.nD,
          r.2.mem ((c.tc : Thread Cert.S5BuReferenceIdeal.nD Cert.S5BuReferenceIdeal.τ).loc Cert.S5BuReferenceIdeal.main_v2) = v0 c
          ∧ r.2.mem ((c.tc : Thread Cert.S5BuReferenceIdeal.nD Cert.S5BuReferenceIdeal.τ).loc Cert.S5BuReferenceIdeal.main_arg0) = m' ((c.tc : Thread Cert.S5BuReferenceIdeal.nD Cert.S5BuReferenceIdeal.τ).loc Cert.S5BuReferenceIdeal.main_arg0)
          ∧ r.2.mem ((c.tc : Thread Cert.S5BuReferenceIdeal.nD Cert.S5BuReferenceIdeal.τ).loc Cert.S5BuReferenceIdeal.main_arg1) = m' ((c.tc : Thread Cert.S5BuReferenceIdeal.nD Cert.S5BuReferenceIdeal.τ).loc Cert.S5BuReferenceIdeal.main_arg1))

def preserves_S5Y_S5YIdeal : Prop :=
  True

def algebraic_S5YIdeal_S5YReferenceIdeal [hS5YIdeal : Cert.S5YIdeal.Facts] [hS5YReferenceIdeal : Cert.S5YReferenceIdeal.Facts] : Prop :=
  ∀ (m : (ℓ : Loc Cert.S5YIdeal.nD Cert.S5YIdeal.τ Cert.S5YIdeal.sig) → Buf (Elt Ideal) ℓ) (g : Dev Cert.S5YIdeal.nD → PrngReg)
    (m' : (ℓ : Loc Cert.S5YReferenceIdeal.nD Cert.S5YReferenceIdeal.τ Cert.S5YReferenceIdeal.sig) → Buf (Elt Ideal) ℓ) (g' : Dev Cert.S5YReferenceIdeal.nD → PrngReg), Pre_S5YIdeal m →
    (∀ c : Dev Cert.S5YIdeal.nD,
      m' ((c.tc : Thread Cert.S5YReferenceIdeal.nD Cert.S5YReferenceIdeal.τ).loc Cert.S5YReferenceIdeal.main_arg0) = m ((c.tc : Thread Cert.S5YIdeal.nD Cert.S5YIdeal.τ).loc Cert.S5YIdeal.main_arg0)
      ∧ m' ((c.tc : Thread Cert.S5YReferenceIdeal.nD Cert.S5YReferenceIdeal.τ).loc Cert.S5YReferenceIdeal.main_arg1) = m ((c.tc : Thread Cert.S5YIdeal.nD Cert.S5YIdeal.τ).loc Cert.S5YIdeal.main_arg1)) →
    ∃ (v0 : (c : Dev Cert.S5YIdeal.nD) → Buf (Elt Ideal) ((c.tc : Thread Cert.S5YIdeal.nD Cert.S5YIdeal.τ).loc Cert.S5YIdeal.main_v0)),
      θ_run (Cert.S5YIdeal.defs (F := Ideal)) (onTc (τ := Cert.S5YIdeal.τ) (Cert.S5YIdeal.main (F := Ideal))) ⟨m, fun _ => 0, g⟩ (fun r => ∀ c : Dev Cert.S5YIdeal.nD,
          r.2.mem ((c.tc : Thread Cert.S5YIdeal.nD Cert.S5YIdeal.τ).loc Cert.S5YIdeal.main_v0) = v0 c
          ∧ r.2.mem ((c.tc : Thread Cert.S5YIdeal.nD Cert.S5YIdeal.τ).loc Cert.S5YIdeal.main_arg0) = m ((c.tc : Thread Cert.S5YIdeal.nD Cert.S5YIdeal.τ).loc Cert.S5YIdeal.main_arg0)
          ∧ r.2.mem ((c.tc : Thread Cert.S5YIdeal.nD Cert.S5YIdeal.τ).loc Cert.S5YIdeal.main_arg1) = m ((c.tc : Thread Cert.S5YIdeal.nD Cert.S5YIdeal.τ).loc Cert.S5YIdeal.main_arg1))
      ∧ θ_run (Cert.S5YReferenceIdeal.defs (F := Ideal)) (onTc (τ := Cert.S5YReferenceIdeal.τ) (Cert.S5YReferenceIdeal.main (F := Ideal))) ⟨m', fun _ => 0, g'⟩ (fun r => ∀ c : Dev Cert.S5YReferenceIdeal.nD,
          r.2.mem ((c.tc : Thread Cert.S5YReferenceIdeal.nD Cert.S5YReferenceIdeal.τ).loc Cert.S5YReferenceIdeal.main_v1) = v0 c
          ∧ r.2.mem ((c.tc : Thread Cert.S5YReferenceIdeal.nD Cert.S5YReferenceIdeal.τ).loc Cert.S5YReferenceIdeal.main_arg0) = m' ((c.tc : Thread Cert.S5YReferenceIdeal.nD Cert.S5YReferenceIdeal.τ).loc Cert.S5YReferenceIdeal.main_arg0)
          ∧ r.2.mem ((c.tc : Thread Cert.S5YReferenceIdeal.nD Cert.S5YReferenceIdeal.τ).loc Cert.S5YReferenceIdeal.main_arg1) = m' ((c.tc : Thread Cert.S5YReferenceIdeal.nD Cert.S5YReferenceIdeal.τ).loc Cert.S5YReferenceIdeal.main_arg1))

def preserves_S5Dx_S5DxIdeal : Prop :=
  True

def algebraic_S5DxIdeal_S5DxReferenceIdeal [hS5DxIdeal : Cert.S5DxIdeal.Facts] [hS5DxReferenceIdeal : Cert.S5DxReferenceIdeal.Facts] : Prop :=
  ∀ (m : (ℓ : Loc Cert.S5DxIdeal.nD Cert.S5DxIdeal.τ Cert.S5DxIdeal.sig) → Buf (Elt Ideal) ℓ) (g : Dev Cert.S5DxIdeal.nD → PrngReg)
    (m' : (ℓ : Loc Cert.S5DxReferenceIdeal.nD Cert.S5DxReferenceIdeal.τ Cert.S5DxReferenceIdeal.sig) → Buf (Elt Ideal) ℓ) (g' : Dev Cert.S5DxReferenceIdeal.nD → PrngReg), Pre_S5DxIdeal m →
    (∀ c : Dev Cert.S5DxIdeal.nD,
      m' ((c.tc : Thread Cert.S5DxReferenceIdeal.nD Cert.S5DxReferenceIdeal.τ).loc Cert.S5DxReferenceIdeal.main_arg0) = m ((c.tc : Thread Cert.S5DxIdeal.nD Cert.S5DxIdeal.τ).loc Cert.S5DxIdeal.main_arg0)
      ∧ m' ((c.tc : Thread Cert.S5DxReferenceIdeal.nD Cert.S5DxReferenceIdeal.τ).loc Cert.S5DxReferenceIdeal.main_arg1) = m ((c.tc : Thread Cert.S5DxIdeal.nD Cert.S5DxIdeal.τ).loc Cert.S5DxIdeal.main_arg1)
      ∧ m' ((c.tc : Thread Cert.S5DxReferenceIdeal.nD Cert.S5DxReferenceIdeal.τ).loc Cert.S5DxReferenceIdeal.main_arg2) = m ((c.tc : Thread Cert.S5DxIdeal.nD Cert.S5DxIdeal.τ).loc Cert.S5DxIdeal.main_arg2)) →
    ∃ (v0 : (c : Dev Cert.S5DxIdeal.nD) → Buf (Elt Ideal) ((c.tc : Thread Cert.S5DxIdeal.nD Cert.S5DxIdeal.τ).loc Cert.S5DxIdeal.main_v0)),
      θ_run (Cert.S5DxIdeal.defs (F := Ideal)) (onTc (τ := Cert.S5DxIdeal.τ) (Cert.S5DxIdeal.main (F := Ideal))) ⟨m, fun _ => 0, g⟩ (fun r => ∀ c : Dev Cert.S5DxIdeal.nD,
          r.2.mem ((c.tc : Thread Cert.S5DxIdeal.nD Cert.S5DxIdeal.τ).loc Cert.S5DxIdeal.main_v0) = v0 c
          ∧ r.2.mem ((c.tc : Thread Cert.S5DxIdeal.nD Cert.S5DxIdeal.τ).loc Cert.S5DxIdeal.main_arg0) = m ((c.tc : Thread Cert.S5DxIdeal.nD Cert.S5DxIdeal.τ).loc Cert.S5DxIdeal.main_arg0)
          ∧ r.2.mem ((c.tc : Thread Cert.S5DxIdeal.nD Cert.S5DxIdeal.τ).loc Cert.S5DxIdeal.main_arg1) = m ((c.tc : Thread Cert.S5DxIdeal.nD Cert.S5DxIdeal.τ).loc Cert.S5DxIdeal.main_arg1)
          ∧ r.2.mem ((c.tc : Thread Cert.S5DxIdeal.nD Cert.S5DxIdeal.τ).loc Cert.S5DxIdeal.main_arg2) = m ((c.tc : Thread Cert.S5DxIdeal.nD Cert.S5DxIdeal.τ).loc Cert.S5DxIdeal.main_arg2))
      ∧ θ_run (Cert.S5DxReferenceIdeal.defs (F := Ideal)) (onTc (τ := Cert.S5DxReferenceIdeal.τ) (Cert.S5DxReferenceIdeal.main (F := Ideal))) ⟨m', fun _ => 0, g'⟩ (fun r => ∀ c : Dev Cert.S5DxReferenceIdeal.nD,
          r.2.mem ((c.tc : Thread Cert.S5DxReferenceIdeal.nD Cert.S5DxReferenceIdeal.τ).loc Cert.S5DxReferenceIdeal.main_v2) = v0 c
          ∧ r.2.mem ((c.tc : Thread Cert.S5DxReferenceIdeal.nD Cert.S5DxReferenceIdeal.τ).loc Cert.S5DxReferenceIdeal.main_arg0) = m' ((c.tc : Thread Cert.S5DxReferenceIdeal.nD Cert.S5DxReferenceIdeal.τ).loc Cert.S5DxReferenceIdeal.main_arg0)
          ∧ r.2.mem ((c.tc : Thread Cert.S5DxReferenceIdeal.nD Cert.S5DxReferenceIdeal.τ).loc Cert.S5DxReferenceIdeal.main_arg1) = m' ((c.tc : Thread Cert.S5DxReferenceIdeal.nD Cert.S5DxReferenceIdeal.τ).loc Cert.S5DxReferenceIdeal.main_arg1)
          ∧ r.2.mem ((c.tc : Thread Cert.S5DxReferenceIdeal.nD Cert.S5DxReferenceIdeal.τ).loc Cert.S5DxReferenceIdeal.main_arg2) = m' ((c.tc : Thread Cert.S5DxReferenceIdeal.nD Cert.S5DxReferenceIdeal.τ).loc Cert.S5DxReferenceIdeal.main_arg2))

def preserves_S5Dc_S5DcIdeal : Prop :=
  True

def algebraic_S5DcIdeal_S5DcReferenceIdeal [hS5DcIdeal : Cert.S5DcIdeal.Facts] [hS5DcReferenceIdeal : Cert.S5DcReferenceIdeal.Facts] : Prop :=
  ∀ (m : (ℓ : Loc Cert.S5DcIdeal.nD Cert.S5DcIdeal.τ Cert.S5DcIdeal.sig) → Buf (Elt Ideal) ℓ) (g : Dev Cert.S5DcIdeal.nD → PrngReg)
    (m' : (ℓ : Loc Cert.S5DcReferenceIdeal.nD Cert.S5DcReferenceIdeal.τ Cert.S5DcReferenceIdeal.sig) → Buf (Elt Ideal) ℓ) (g' : Dev Cert.S5DcReferenceIdeal.nD → PrngReg), Pre_S5DcIdeal m →
    (∀ c : Dev Cert.S5DcIdeal.nD,
      m' ((c.tc : Thread Cert.S5DcReferenceIdeal.nD Cert.S5DcReferenceIdeal.τ).loc Cert.S5DcReferenceIdeal.main_arg0) = m ((c.tc : Thread Cert.S5DcIdeal.nD Cert.S5DcIdeal.τ).loc Cert.S5DcIdeal.main_arg0)
      ∧ m' ((c.tc : Thread Cert.S5DcReferenceIdeal.nD Cert.S5DcReferenceIdeal.τ).loc Cert.S5DcReferenceIdeal.main_arg1) = m ((c.tc : Thread Cert.S5DcIdeal.nD Cert.S5DcIdeal.τ).loc Cert.S5DcIdeal.main_arg1)
      ∧ m' ((c.tc : Thread Cert.S5DcReferenceIdeal.nD Cert.S5DcReferenceIdeal.τ).loc Cert.S5DcReferenceIdeal.main_arg2) = m ((c.tc : Thread Cert.S5DcIdeal.nD Cert.S5DcIdeal.τ).loc Cert.S5DcIdeal.main_arg2)) →
    ∃ (v0 : (c : Dev Cert.S5DcIdeal.nD) → Buf (Elt Ideal) ((c.tc : Thread Cert.S5DcIdeal.nD Cert.S5DcIdeal.τ).loc Cert.S5DcIdeal.main_v0)),
      θ_run (Cert.S5DcIdeal.defs (F := Ideal)) (onTc (τ := Cert.S5DcIdeal.τ) (Cert.S5DcIdeal.main (F := Ideal))) ⟨m, fun _ => 0, g⟩ (fun r => ∀ c : Dev Cert.S5DcIdeal.nD,
          r.2.mem ((c.tc : Thread Cert.S5DcIdeal.nD Cert.S5DcIdeal.τ).loc Cert.S5DcIdeal.main_v0) = v0 c
          ∧ r.2.mem ((c.tc : Thread Cert.S5DcIdeal.nD Cert.S5DcIdeal.τ).loc Cert.S5DcIdeal.main_arg0) = m ((c.tc : Thread Cert.S5DcIdeal.nD Cert.S5DcIdeal.τ).loc Cert.S5DcIdeal.main_arg0)
          ∧ r.2.mem ((c.tc : Thread Cert.S5DcIdeal.nD Cert.S5DcIdeal.τ).loc Cert.S5DcIdeal.main_arg1) = m ((c.tc : Thread Cert.S5DcIdeal.nD Cert.S5DcIdeal.τ).loc Cert.S5DcIdeal.main_arg1)
          ∧ r.2.mem ((c.tc : Thread Cert.S5DcIdeal.nD Cert.S5DcIdeal.τ).loc Cert.S5DcIdeal.main_arg2) = m ((c.tc : Thread Cert.S5DcIdeal.nD Cert.S5DcIdeal.τ).loc Cert.S5DcIdeal.main_arg2))
      ∧ θ_run (Cert.S5DcReferenceIdeal.defs (F := Ideal)) (onTc (τ := Cert.S5DcReferenceIdeal.τ) (Cert.S5DcReferenceIdeal.main (F := Ideal))) ⟨m', fun _ => 0, g'⟩ (fun r => ∀ c : Dev Cert.S5DcReferenceIdeal.nD,
          r.2.mem ((c.tc : Thread Cert.S5DcReferenceIdeal.nD Cert.S5DcReferenceIdeal.τ).loc Cert.S5DcReferenceIdeal.main_v3) = v0 c
          ∧ r.2.mem ((c.tc : Thread Cert.S5DcReferenceIdeal.nD Cert.S5DcReferenceIdeal.τ).loc Cert.S5DcReferenceIdeal.main_arg0) = m' ((c.tc : Thread Cert.S5DcReferenceIdeal.nD Cert.S5DcReferenceIdeal.τ).loc Cert.S5DcReferenceIdeal.main_arg0)
          ∧ r.2.mem ((c.tc : Thread Cert.S5DcReferenceIdeal.nD Cert.S5DcReferenceIdeal.τ).loc Cert.S5DcReferenceIdeal.main_arg1) = m' ((c.tc : Thread Cert.S5DcReferenceIdeal.nD Cert.S5DcReferenceIdeal.τ).loc Cert.S5DcReferenceIdeal.main_arg1)
          ∧ r.2.mem ((c.tc : Thread Cert.S5DcReferenceIdeal.nD Cert.S5DcReferenceIdeal.τ).loc Cert.S5DcReferenceIdeal.main_arg2) = m' ((c.tc : Thread Cert.S5DcReferenceIdeal.nD Cert.S5DcReferenceIdeal.τ).loc Cert.S5DcReferenceIdeal.main_arg2))

def preserves_S5Du_S5DuIdeal : Prop :=
  True

def algebraic_S5DuIdeal_S5DuReferenceIdeal [hS5DuIdeal : Cert.S5DuIdeal.Facts] [hS5DuReferenceIdeal : Cert.S5DuReferenceIdeal.Facts] : Prop :=
  ∀ (m : (ℓ : Loc Cert.S5DuIdeal.nD Cert.S5DuIdeal.τ Cert.S5DuIdeal.sig) → Buf (Elt Ideal) ℓ) (g : Dev Cert.S5DuIdeal.nD → PrngReg)
    (m' : (ℓ : Loc Cert.S5DuReferenceIdeal.nD Cert.S5DuReferenceIdeal.τ Cert.S5DuReferenceIdeal.sig) → Buf (Elt Ideal) ℓ) (g' : Dev Cert.S5DuReferenceIdeal.nD → PrngReg), Pre_S5DuIdeal m →
    (∀ c : Dev Cert.S5DuIdeal.nD,
      m' ((c.tc : Thread Cert.S5DuReferenceIdeal.nD Cert.S5DuReferenceIdeal.τ).loc Cert.S5DuReferenceIdeal.main_arg0) = m ((c.tc : Thread Cert.S5DuIdeal.nD Cert.S5DuIdeal.τ).loc Cert.S5DuIdeal.main_arg0)
      ∧ m' ((c.tc : Thread Cert.S5DuReferenceIdeal.nD Cert.S5DuReferenceIdeal.τ).loc Cert.S5DuReferenceIdeal.main_arg1) = m ((c.tc : Thread Cert.S5DuIdeal.nD Cert.S5DuIdeal.τ).loc Cert.S5DuIdeal.main_arg1)
      ∧ m' ((c.tc : Thread Cert.S5DuReferenceIdeal.nD Cert.S5DuReferenceIdeal.τ).loc Cert.S5DuReferenceIdeal.main_arg2) = m ((c.tc : Thread Cert.S5DuIdeal.nD Cert.S5DuIdeal.τ).loc Cert.S5DuIdeal.main_arg2)
      ∧ m' ((c.tc : Thread Cert.S5DuReferenceIdeal.nD Cert.S5DuReferenceIdeal.τ).loc Cert.S5DuReferenceIdeal.main_arg3) = m ((c.tc : Thread Cert.S5DuIdeal.nD Cert.S5DuIdeal.τ).loc Cert.S5DuIdeal.main_arg3)) →
    ∃ (v0 : (c : Dev Cert.S5DuIdeal.nD) → Buf (Elt Ideal) ((c.tc : Thread Cert.S5DuIdeal.nD Cert.S5DuIdeal.τ).loc Cert.S5DuIdeal.main_v0)),
      θ_run (Cert.S5DuIdeal.defs (F := Ideal)) (onTc (τ := Cert.S5DuIdeal.τ) (Cert.S5DuIdeal.main (F := Ideal))) ⟨m, fun _ => 0, g⟩ (fun r => ∀ c : Dev Cert.S5DuIdeal.nD,
          r.2.mem ((c.tc : Thread Cert.S5DuIdeal.nD Cert.S5DuIdeal.τ).loc Cert.S5DuIdeal.main_v0) = v0 c
          ∧ r.2.mem ((c.tc : Thread Cert.S5DuIdeal.nD Cert.S5DuIdeal.τ).loc Cert.S5DuIdeal.main_arg0) = m ((c.tc : Thread Cert.S5DuIdeal.nD Cert.S5DuIdeal.τ).loc Cert.S5DuIdeal.main_arg0)
          ∧ r.2.mem ((c.tc : Thread Cert.S5DuIdeal.nD Cert.S5DuIdeal.τ).loc Cert.S5DuIdeal.main_arg1) = m ((c.tc : Thread Cert.S5DuIdeal.nD Cert.S5DuIdeal.τ).loc Cert.S5DuIdeal.main_arg1)
          ∧ r.2.mem ((c.tc : Thread Cert.S5DuIdeal.nD Cert.S5DuIdeal.τ).loc Cert.S5DuIdeal.main_arg2) = m ((c.tc : Thread Cert.S5DuIdeal.nD Cert.S5DuIdeal.τ).loc Cert.S5DuIdeal.main_arg2)
          ∧ r.2.mem ((c.tc : Thread Cert.S5DuIdeal.nD Cert.S5DuIdeal.τ).loc Cert.S5DuIdeal.main_arg3) = m ((c.tc : Thread Cert.S5DuIdeal.nD Cert.S5DuIdeal.τ).loc Cert.S5DuIdeal.main_arg3))
      ∧ θ_run (Cert.S5DuReferenceIdeal.defs (F := Ideal)) (onTc (τ := Cert.S5DuReferenceIdeal.τ) (Cert.S5DuReferenceIdeal.main (F := Ideal))) ⟨m', fun _ => 0, g'⟩ (fun r => ∀ c : Dev Cert.S5DuReferenceIdeal.nD,
          r.2.mem ((c.tc : Thread Cert.S5DuReferenceIdeal.nD Cert.S5DuReferenceIdeal.τ).loc Cert.S5DuReferenceIdeal.main_v3) = v0 c
          ∧ r.2.mem ((c.tc : Thread Cert.S5DuReferenceIdeal.nD Cert.S5DuReferenceIdeal.τ).loc Cert.S5DuReferenceIdeal.main_arg0) = m' ((c.tc : Thread Cert.S5DuReferenceIdeal.nD Cert.S5DuReferenceIdeal.τ).loc Cert.S5DuReferenceIdeal.main_arg0)
          ∧ r.2.mem ((c.tc : Thread Cert.S5DuReferenceIdeal.nD Cert.S5DuReferenceIdeal.τ).loc Cert.S5DuReferenceIdeal.main_arg1) = m' ((c.tc : Thread Cert.S5DuReferenceIdeal.nD Cert.S5DuReferenceIdeal.τ).loc Cert.S5DuReferenceIdeal.main_arg1)
          ∧ r.2.mem ((c.tc : Thread Cert.S5DuReferenceIdeal.nD Cert.S5DuReferenceIdeal.τ).loc Cert.S5DuReferenceIdeal.main_arg2) = m' ((c.tc : Thread Cert.S5DuReferenceIdeal.nD Cert.S5DuReferenceIdeal.τ).loc Cert.S5DuReferenceIdeal.main_arg2)
          ∧ r.2.mem ((c.tc : Thread Cert.S5DuReferenceIdeal.nD Cert.S5DuReferenceIdeal.τ).loc Cert.S5DuReferenceIdeal.main_arg3) = m' ((c.tc : Thread Cert.S5DuReferenceIdeal.nD Cert.S5DuReferenceIdeal.τ).loc Cert.S5DuReferenceIdeal.main_arg3))

def preserves_S5Db_S5DbIdeal : Prop :=
  True

def algebraic_S5DbIdeal_S5DbReferenceIdeal [hS5DbIdeal : Cert.S5DbIdeal.Facts] [hS5DbReferenceIdeal : Cert.S5DbReferenceIdeal.Facts] : Prop :=
  ∀ (m : (ℓ : Loc Cert.S5DbIdeal.nD Cert.S5DbIdeal.τ Cert.S5DbIdeal.sig) → Buf (Elt Ideal) ℓ) (g : Dev Cert.S5DbIdeal.nD → PrngReg)
    (m' : (ℓ : Loc Cert.S5DbReferenceIdeal.nD Cert.S5DbReferenceIdeal.τ Cert.S5DbReferenceIdeal.sig) → Buf (Elt Ideal) ℓ) (g' : Dev Cert.S5DbReferenceIdeal.nD → PrngReg), Pre_S5DbIdeal m →
    (∀ c : Dev Cert.S5DbIdeal.nD,
      m' ((c.tc : Thread Cert.S5DbReferenceIdeal.nD Cert.S5DbReferenceIdeal.τ).loc Cert.S5DbReferenceIdeal.main_arg0) = m ((c.tc : Thread Cert.S5DbIdeal.nD Cert.S5DbIdeal.τ).loc Cert.S5DbIdeal.main_arg0)
      ∧ m' ((c.tc : Thread Cert.S5DbReferenceIdeal.nD Cert.S5DbReferenceIdeal.τ).loc Cert.S5DbReferenceIdeal.main_arg1) = m ((c.tc : Thread Cert.S5DbIdeal.nD Cert.S5DbIdeal.τ).loc Cert.S5DbIdeal.main_arg1)
      ∧ m' ((c.tc : Thread Cert.S5DbReferenceIdeal.nD Cert.S5DbReferenceIdeal.τ).loc Cert.S5DbReferenceIdeal.main_arg2) = m ((c.tc : Thread Cert.S5DbIdeal.nD Cert.S5DbIdeal.τ).loc Cert.S5DbIdeal.main_arg2)) →
    ∃ (v0 : (c : Dev Cert.S5DbIdeal.nD) → Buf (Elt Ideal) ((c.tc : Thread Cert.S5DbIdeal.nD Cert.S5DbIdeal.τ).loc Cert.S5DbIdeal.main_v0)),
      θ_run (Cert.S5DbIdeal.defs (F := Ideal)) (onTc (τ := Cert.S5DbIdeal.τ) (Cert.S5DbIdeal.main (F := Ideal))) ⟨m, fun _ => 0, g⟩ (fun r => ∀ c : Dev Cert.S5DbIdeal.nD,
          r.2.mem ((c.tc : Thread Cert.S5DbIdeal.nD Cert.S5DbIdeal.τ).loc Cert.S5DbIdeal.main_v0) = v0 c
          ∧ r.2.mem ((c.tc : Thread Cert.S5DbIdeal.nD Cert.S5DbIdeal.τ).loc Cert.S5DbIdeal.main_arg0) = m ((c.tc : Thread Cert.S5DbIdeal.nD Cert.S5DbIdeal.τ).loc Cert.S5DbIdeal.main_arg0)
          ∧ r.2.mem ((c.tc : Thread Cert.S5DbIdeal.nD Cert.S5DbIdeal.τ).loc Cert.S5DbIdeal.main_arg1) = m ((c.tc : Thread Cert.S5DbIdeal.nD Cert.S5DbIdeal.τ).loc Cert.S5DbIdeal.main_arg1)
          ∧ r.2.mem ((c.tc : Thread Cert.S5DbIdeal.nD Cert.S5DbIdeal.τ).loc Cert.S5DbIdeal.main_arg2) = m ((c.tc : Thread Cert.S5DbIdeal.nD Cert.S5DbIdeal.τ).loc Cert.S5DbIdeal.main_arg2))
      ∧ θ_run (Cert.S5DbReferenceIdeal.defs (F := Ideal)) (onTc (τ := Cert.S5DbReferenceIdeal.τ) (Cert.S5DbReferenceIdeal.main (F := Ideal))) ⟨m', fun _ => 0, g'⟩ (fun r => ∀ c : Dev Cert.S5DbReferenceIdeal.nD,
          r.2.mem ((c.tc : Thread Cert.S5DbReferenceIdeal.nD Cert.S5DbReferenceIdeal.τ).loc Cert.S5DbReferenceIdeal.main_v4) = v0 c
          ∧ r.2.mem ((c.tc : Thread Cert.S5DbReferenceIdeal.nD Cert.S5DbReferenceIdeal.τ).loc Cert.S5DbReferenceIdeal.main_arg0) = m' ((c.tc : Thread Cert.S5DbReferenceIdeal.nD Cert.S5DbReferenceIdeal.τ).loc Cert.S5DbReferenceIdeal.main_arg0)
          ∧ r.2.mem ((c.tc : Thread Cert.S5DbReferenceIdeal.nD Cert.S5DbReferenceIdeal.τ).loc Cert.S5DbReferenceIdeal.main_arg1) = m' ((c.tc : Thread Cert.S5DbReferenceIdeal.nD Cert.S5DbReferenceIdeal.τ).loc Cert.S5DbReferenceIdeal.main_arg1)
          ∧ r.2.mem ((c.tc : Thread Cert.S5DbReferenceIdeal.nD Cert.S5DbReferenceIdeal.τ).loc Cert.S5DbReferenceIdeal.main_arg2) = m' ((c.tc : Thread Cert.S5DbReferenceIdeal.nD Cert.S5DbReferenceIdeal.τ).loc Cert.S5DbReferenceIdeal.main_arg2))

def preserves_LruConvGrad_LruConvGradIdeal : Prop :=
  True

def algebraic_LruConvGradIdeal_LruConvGradReferenceIdeal [hLruConvGradIdeal : Cert.LruConvGradIdeal.Facts] [hLruConvGradReferenceIdeal : Cert.LruConvGradReferenceIdeal.Facts] : Prop :=
  ∀ (m : (ℓ : Loc Cert.LruConvGradIdeal.nD Cert.LruConvGradIdeal.τ Cert.LruConvGradIdeal.sig) → Buf (Elt Ideal) ℓ) (g : Dev Cert.LruConvGradIdeal.nD → PrngReg)
    (m' : (ℓ : Loc Cert.LruConvGradReferenceIdeal.nD Cert.LruConvGradReferenceIdeal.τ Cert.LruConvGradReferenceIdeal.sig) → Buf (Elt Ideal) ℓ) (g' : Dev Cert.LruConvGradReferenceIdeal.nD → PrngReg), Pre_LruConvGradIdeal m →
    (∀ c : Dev Cert.LruConvGradIdeal.nD,
      m' ((c.tc : Thread Cert.LruConvGradReferenceIdeal.nD Cert.LruConvGradReferenceIdeal.τ).loc Cert.LruConvGradReferenceIdeal.main_arg0) = m ((c.tc : Thread Cert.LruConvGradIdeal.nD Cert.LruConvGradIdeal.τ).loc Cert.LruConvGradIdeal.main_arg0)
      ∧ m' ((c.tc : Thread Cert.LruConvGradReferenceIdeal.nD Cert.LruConvGradReferenceIdeal.τ).loc Cert.LruConvGradReferenceIdeal.main_arg1) = m ((c.tc : Thread Cert.LruConvGradIdeal.nD Cert.LruConvGradIdeal.τ).loc Cert.LruConvGradIdeal.main_arg1)
      ∧ m' ((c.tc : Thread Cert.LruConvGradReferenceIdeal.nD Cert.LruConvGradReferenceIdeal.τ).loc Cert.LruConvGradReferenceIdeal.main_arg2) = m ((c.tc : Thread Cert.LruConvGradIdeal.nD Cert.LruConvGradIdeal.τ).loc Cert.LruConvGradIdeal.main_arg2)
      ∧ m' ((c.tc : Thread Cert.LruConvGradReferenceIdeal.nD Cert.LruConvGradReferenceIdeal.τ).loc Cert.LruConvGradReferenceIdeal.main_arg3) = m ((c.tc : Thread Cert.LruConvGradIdeal.nD Cert.LruConvGradIdeal.τ).loc Cert.LruConvGradIdeal.main_arg3)) →
    ∃ (v0 : (c : Dev Cert.LruConvGradIdeal.nD) → Buf (Elt Ideal) ((c.tc : Thread Cert.LruConvGradIdeal.nD Cert.LruConvGradIdeal.τ).loc Cert.LruConvGradIdeal.main_v1_0)) (v1 : (c : Dev Cert.LruConvGradIdeal.nD) → Buf (Elt Ideal) ((c.tc : Thread Cert.LruConvGradIdeal.nD Cert.LruConvGradIdeal.τ).loc Cert.LruConvGradIdeal.main_v1_1)),
      θ_run (Cert.LruConvGradIdeal.defs (F := Ideal)) (onTc (τ := Cert.LruConvGradIdeal.τ) (Cert.LruConvGradIdeal.main (F := Ideal))) ⟨m, fun _ => 0, g⟩ (fun r => ∀ c : Dev Cert.LruConvGradIdeal.nD,
          r.2.mem ((c.tc : Thread Cert.LruConvGradIdeal.nD Cert.LruConvGradIdeal.τ).loc Cert.LruConvGradIdeal.main_v1_0) = v0 c
          ∧ r.2.mem ((c.tc : Thread Cert.LruConvGradIdeal.nD Cert.LruConvGradIdeal.τ).loc Cert.LruConvGradIdeal.main_v1_1) = v1 c
          ∧ r.2.mem ((c.tc : Thread Cert.LruConvGradIdeal.nD Cert.LruConvGradIdeal.τ).loc Cert.LruConvGradIdeal.main_arg0) = m ((c.tc : Thread Cert.LruConvGradIdeal.nD Cert.LruConvGradIdeal.τ).loc Cert.LruConvGradIdeal.main_arg0)
          ∧ r.2.mem ((c.tc : Thread Cert.LruConvGradIdeal.nD Cert.LruConvGradIdeal.τ).loc Cert.LruConvGradIdeal.main_arg1) = m ((c.tc : Thread Cert.LruConvGradIdeal.nD Cert.LruConvGradIdeal.τ).loc Cert.LruConvGradIdeal.main_arg1)
          ∧ r.2.mem ((c.tc : Thread Cert.LruConvGradIdeal.nD Cert.LruConvGradIdeal.τ).loc Cert.LruConvGradIdeal.main_arg2) = m ((c.tc : Thread Cert.LruConvGradIdeal.nD Cert.LruConvGradIdeal.τ).loc Cert.LruConvGradIdeal.main_arg2)
          ∧ r.2.mem ((c.tc : Thread Cert.LruConvGradIdeal.nD Cert.LruConvGradIdeal.τ).loc Cert.LruConvGradIdeal.main_arg3) = m ((c.tc : Thread Cert.LruConvGradIdeal.nD Cert.LruConvGradIdeal.τ).loc Cert.LruConvGradIdeal.main_arg3))
      ∧ θ_run (Cert.LruConvGradReferenceIdeal.defs (F := Ideal)) (onTc (τ := Cert.LruConvGradReferenceIdeal.τ) (Cert.LruConvGradReferenceIdeal.main (F := Ideal))) ⟨m', fun _ => 0, g'⟩ (fun r => ∀ c : Dev Cert.LruConvGradReferenceIdeal.nD,
          r.2.mem ((c.tc : Thread Cert.LruConvGradReferenceIdeal.nD Cert.LruConvGradReferenceIdeal.τ).loc Cert.LruConvGradReferenceIdeal.main_v88) = v0 c
          ∧ r.2.mem ((c.tc : Thread Cert.LruConvGradReferenceIdeal.nD Cert.LruConvGradReferenceIdeal.τ).loc Cert.LruConvGradReferenceIdeal.main_v94) = v1 c
          ∧ r.2.mem ((c.tc : Thread Cert.LruConvGradReferenceIdeal.nD Cert.LruConvGradReferenceIdeal.τ).loc Cert.LruConvGradReferenceIdeal.main_arg0) = m' ((c.tc : Thread Cert.LruConvGradReferenceIdeal.nD Cert.LruConvGradReferenceIdeal.τ).loc Cert.LruConvGradReferenceIdeal.main_arg0)
          ∧ r.2.mem ((c.tc : Thread Cert.LruConvGradReferenceIdeal.nD Cert.LruConvGradReferenceIdeal.τ).loc Cert.LruConvGradReferenceIdeal.main_arg1) = m' ((c.tc : Thread Cert.LruConvGradReferenceIdeal.nD Cert.LruConvGradReferenceIdeal.τ).loc Cert.LruConvGradReferenceIdeal.main_arg1)
          ∧ r.2.mem ((c.tc : Thread Cert.LruConvGradReferenceIdeal.nD Cert.LruConvGradReferenceIdeal.τ).loc Cert.LruConvGradReferenceIdeal.main_arg2) = m' ((c.tc : Thread Cert.LruConvGradReferenceIdeal.nD Cert.LruConvGradReferenceIdeal.τ).loc Cert.LruConvGradReferenceIdeal.main_arg2)
          ∧ r.2.mem ((c.tc : Thread Cert.LruConvGradReferenceIdeal.nD Cert.LruConvGradReferenceIdeal.τ).loc Cert.LruConvGradReferenceIdeal.main_arg3) = m' ((c.tc : Thread Cert.LruConvGradReferenceIdeal.nD Cert.LruConvGradReferenceIdeal.τ).loc Cert.LruConvGradReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamFfnConv_AdamFfnConvIdeal : Prop :=
  True

def algebraic_AdamFfnConvIdeal_AdamFfnConvReferenceIdeal [hAdamFfnConvIdeal : Cert.AdamFfnConvIdeal.Facts] [hAdamFfnConvReferenceIdeal : Cert.AdamFfnConvReferenceIdeal.Facts] : Prop :=
  ∀ (m : (ℓ : Loc Cert.AdamFfnConvIdeal.nD Cert.AdamFfnConvIdeal.τ Cert.AdamFfnConvIdeal.sig) → Buf (Elt Ideal) ℓ) (g : Dev Cert.AdamFfnConvIdeal.nD → PrngReg)
    (m' : (ℓ : Loc Cert.AdamFfnConvReferenceIdeal.nD Cert.AdamFfnConvReferenceIdeal.τ Cert.AdamFfnConvReferenceIdeal.sig) → Buf (Elt Ideal) ℓ) (g' : Dev Cert.AdamFfnConvReferenceIdeal.nD → PrngReg), Pre_AdamFfnConvIdeal m →
    (∀ c : Dev Cert.AdamFfnConvIdeal.nD,
      m' ((c.tc : Thread Cert.AdamFfnConvReferenceIdeal.nD Cert.AdamFfnConvReferenceIdeal.τ).loc Cert.AdamFfnConvReferenceIdeal.main_arg0) = m ((c.tc : Thread Cert.AdamFfnConvIdeal.nD Cert.AdamFfnConvIdeal.τ).loc Cert.AdamFfnConvIdeal.main_arg0)
      ∧ m' ((c.tc : Thread Cert.AdamFfnConvReferenceIdeal.nD Cert.AdamFfnConvReferenceIdeal.τ).loc Cert.AdamFfnConvReferenceIdeal.main_arg1) = m ((c.tc : Thread Cert.AdamFfnConvIdeal.nD Cert.AdamFfnConvIdeal.τ).loc Cert.AdamFfnConvIdeal.main_arg1)
      ∧ m' ((c.tc : Thread Cert.AdamFfnConvReferenceIdeal.nD Cert.AdamFfnConvReferenceIdeal.τ).loc Cert.AdamFfnConvReferenceIdeal.main_arg2) = m ((c.tc : Thread Cert.AdamFfnConvIdeal.nD Cert.AdamFfnConvIdeal.τ).loc Cert.AdamFfnConvIdeal.main_arg2)
      ∧ m' ((c.tc : Thread Cert.AdamFfnConvReferenceIdeal.nD Cert.AdamFfnConvReferenceIdeal.τ).loc Cert.AdamFfnConvReferenceIdeal.main_arg3) = m ((c.tc : Thread Cert.AdamFfnConvIdeal.nD Cert.AdamFfnConvIdeal.τ).loc Cert.AdamFfnConvIdeal.main_arg3)) →
    ∃ (v0 : (c : Dev Cert.AdamFfnConvIdeal.nD) → Buf (Elt Ideal) ((c.tc : Thread Cert.AdamFfnConvIdeal.nD Cert.AdamFfnConvIdeal.τ).loc Cert.AdamFfnConvIdeal.main_v0_0)) (v1 : (c : Dev Cert.AdamFfnConvIdeal.nD) → Buf (Elt Ideal) ((c.tc : Thread Cert.AdamFfnConvIdeal.nD Cert.AdamFfnConvIdeal.τ).loc Cert.AdamFfnConvIdeal.main_v0_1)) (v2 : (c : Dev Cert.AdamFfnConvIdeal.nD) → Buf (Elt Ideal) ((c.tc : Thread Cert.AdamFfnConvIdeal.nD Cert.AdamFfnConvIdeal.τ).loc Cert.AdamFfnConvIdeal.main_v0_2)),
      θ_run (Cert.AdamFfnConvIdeal.defs (F := Ideal)) (onTc (τ := Cert.AdamFfnConvIdeal.τ) (Cert.AdamFfnConvIdeal.main (F := Ideal))) ⟨m, fun _ => 0, g⟩ (fun r => ∀ c : Dev Cert.AdamFfnConvIdeal.nD,
          r.2.mem ((c.tc : Thread Cert.AdamFfnConvIdeal.nD Cert.AdamFfnConvIdeal.τ).loc Cert.AdamFfnConvIdeal.main_v0_0) = v0 c
          ∧ r.2.mem ((c.tc : Thread Cert.AdamFfnConvIdeal.nD Cert.AdamFfnConvIdeal.τ).loc Cert.AdamFfnConvIdeal.main_v0_1) = v1 c
          ∧ r.2.mem ((c.tc : Thread Cert.AdamFfnConvIdeal.nD Cert.AdamFfnConvIdeal.τ).loc Cert.AdamFfnConvIdeal.main_v0_2) = v2 c
          ∧ r.2.mem ((c.tc : Thread Cert.AdamFfnConvIdeal.nD Cert.AdamFfnConvIdeal.τ).loc Cert.AdamFfnConvIdeal.main_arg0) = m ((c.tc : Thread Cert.AdamFfnConvIdeal.nD Cert.AdamFfnConvIdeal.τ).loc Cert.AdamFfnConvIdeal.main_arg0)
          ∧ r.2.mem ((c.tc : Thread Cert.AdamFfnConvIdeal.nD Cert.AdamFfnConvIdeal.τ).loc Cert.AdamFfnConvIdeal.main_arg1) = m ((c.tc : Thread Cert.AdamFfnConvIdeal.nD Cert.AdamFfnConvIdeal.τ).loc Cert.AdamFfnConvIdeal.main_arg1)
          ∧ r.2.mem ((c.tc : Thread Cert.AdamFfnConvIdeal.nD Cert.AdamFfnConvIdeal.τ).loc Cert.AdamFfnConvIdeal.main_arg2) = m ((c.tc : Thread Cert.AdamFfnConvIdeal.nD Cert.AdamFfnConvIdeal.τ).loc Cert.AdamFfnConvIdeal.main_arg2)
          ∧ r.2.mem ((c.tc : Thread Cert.AdamFfnConvIdeal.nD Cert.AdamFfnConvIdeal.τ).loc Cert.AdamFfnConvIdeal.main_arg3) = m ((c.tc : Thread Cert.AdamFfnConvIdeal.nD Cert.AdamFfnConvIdeal.τ).loc Cert.AdamFfnConvIdeal.main_arg3))
      ∧ θ_run (Cert.AdamFfnConvReferenceIdeal.defs (F := Ideal)) (onTc (τ := Cert.AdamFfnConvReferenceIdeal.τ) (Cert.AdamFfnConvReferenceIdeal.main (F := Ideal))) ⟨m', fun _ => 0, g'⟩ (fun r => ∀ c : Dev Cert.AdamFfnConvReferenceIdeal.nD,
          r.2.mem ((c.tc : Thread Cert.AdamFfnConvReferenceIdeal.nD Cert.AdamFfnConvReferenceIdeal.τ).loc Cert.AdamFfnConvReferenceIdeal.main_v23) = v0 c
          ∧ r.2.mem ((c.tc : Thread Cert.AdamFfnConvReferenceIdeal.nD Cert.AdamFfnConvReferenceIdeal.τ).loc Cert.AdamFfnConvReferenceIdeal.main_v4) = v1 c
          ∧ r.2.mem ((c.tc : Thread Cert.AdamFfnConvReferenceIdeal.nD Cert.AdamFfnConvReferenceIdeal.τ).loc Cert.AdamFfnConvReferenceIdeal.main_v10) = v2 c
          ∧ r.2.mem ((c.tc : Thread Cert.AdamFfnConvReferenceIdeal.nD Cert.AdamFfnConvReferenceIdeal.τ).loc Cert.AdamFfnConvReferenceIdeal.main_arg0) = m' ((c.tc : Thread Cert.AdamFfnConvReferenceIdeal.nD Cert.AdamFfnConvReferenceIdeal.τ).loc Cert.AdamFfnConvReferenceIdeal.main_arg0)
          ∧ r.2.mem ((c.tc : Thread Cert.AdamFfnConvReferenceIdeal.nD Cert.AdamFfnConvReferenceIdeal.τ).loc Cert.AdamFfnConvReferenceIdeal.main_arg1) = m' ((c.tc : Thread Cert.AdamFfnConvReferenceIdeal.nD Cert.AdamFfnConvReferenceIdeal.τ).loc Cert.AdamFfnConvReferenceIdeal.main_arg1)
          ∧ r.2.mem ((c.tc : Thread Cert.AdamFfnConvReferenceIdeal.nD Cert.AdamFfnConvReferenceIdeal.τ).loc Cert.AdamFfnConvReferenceIdeal.main_arg2) = m' ((c.tc : Thread Cert.AdamFfnConvReferenceIdeal.nD Cert.AdamFfnConvReferenceIdeal.τ).loc Cert.AdamFfnConvReferenceIdeal.main_arg2)
          ∧ r.2.mem ((c.tc : Thread Cert.AdamFfnConvReferenceIdeal.nD Cert.AdamFfnConvReferenceIdeal.τ).loc Cert.AdamFfnConvReferenceIdeal.main_arg3) = m' ((c.tc : Thread Cert.AdamFfnConvReferenceIdeal.nD Cert.AdamFfnConvReferenceIdeal.τ).loc Cert.AdamFfnConvReferenceIdeal.main_arg3))

def preserves_AdamLruConv_AdamLruConvIdeal : Prop :=
  True

def algebraic_AdamLruConvIdeal_AdamLruConvReferenceIdeal [hAdamLruConvIdeal : Cert.AdamLruConvIdeal.Facts] [hAdamLruConvReferenceIdeal : Cert.AdamLruConvReferenceIdeal.Facts] : Prop :=
  ∀ (m : (ℓ : Loc Cert.AdamLruConvIdeal.nD Cert.AdamLruConvIdeal.τ Cert.AdamLruConvIdeal.sig) → Buf (Elt Ideal) ℓ) (g : Dev Cert.AdamLruConvIdeal.nD → PrngReg)
    (m' : (ℓ : Loc Cert.AdamLruConvReferenceIdeal.nD Cert.AdamLruConvReferenceIdeal.τ Cert.AdamLruConvReferenceIdeal.sig) → Buf (Elt Ideal) ℓ) (g' : Dev Cert.AdamLruConvReferenceIdeal.nD → PrngReg), Pre_AdamLruConvIdeal m →
    (∀ c : Dev Cert.AdamLruConvIdeal.nD,
      m' ((c.tc : Thread Cert.AdamLruConvReferenceIdeal.nD Cert.AdamLruConvReferenceIdeal.τ).loc Cert.AdamLruConvReferenceIdeal.main_arg0) = m ((c.tc : Thread Cert.AdamLruConvIdeal.nD Cert.AdamLruConvIdeal.τ).loc Cert.AdamLruConvIdeal.main_arg0)
      ∧ m' ((c.tc : Thread Cert.AdamLruConvReferenceIdeal.nD Cert.AdamLruConvReferenceIdeal.τ).loc Cert.AdamLruConvReferenceIdeal.main_arg1) = m ((c.tc : Thread Cert.AdamLruConvIdeal.nD Cert.AdamLruConvIdeal.τ).loc Cert.AdamLruConvIdeal.main_arg1)
      ∧ m' ((c.tc : Thread Cert.AdamLruConvReferenceIdeal.nD Cert.AdamLruConvReferenceIdeal.τ).loc Cert.AdamLruConvReferenceIdeal.main_arg2) = m ((c.tc : Thread Cert.AdamLruConvIdeal.nD Cert.AdamLruConvIdeal.τ).loc Cert.AdamLruConvIdeal.main_arg2)
      ∧ m' ((c.tc : Thread Cert.AdamLruConvReferenceIdeal.nD Cert.AdamLruConvReferenceIdeal.τ).loc Cert.AdamLruConvReferenceIdeal.main_arg3) = m ((c.tc : Thread Cert.AdamLruConvIdeal.nD Cert.AdamLruConvIdeal.τ).loc Cert.AdamLruConvIdeal.main_arg3)) →
    ∃ (v0 : (c : Dev Cert.AdamLruConvIdeal.nD) → Buf (Elt Ideal) ((c.tc : Thread Cert.AdamLruConvIdeal.nD Cert.AdamLruConvIdeal.τ).loc Cert.AdamLruConvIdeal.main_v0_0)) (v1 : (c : Dev Cert.AdamLruConvIdeal.nD) → Buf (Elt Ideal) ((c.tc : Thread Cert.AdamLruConvIdeal.nD Cert.AdamLruConvIdeal.τ).loc Cert.AdamLruConvIdeal.main_v0_1)) (v2 : (c : Dev Cert.AdamLruConvIdeal.nD) → Buf (Elt Ideal) ((c.tc : Thread Cert.AdamLruConvIdeal.nD Cert.AdamLruConvIdeal.τ).loc Cert.AdamLruConvIdeal.main_v0_2)),
      θ_run (Cert.AdamLruConvIdeal.defs (F := Ideal)) (onTc (τ := Cert.AdamLruConvIdeal.τ) (Cert.AdamLruConvIdeal.main (F := Ideal))) ⟨m, fun _ => 0, g⟩ (fun r => ∀ c : Dev Cert.AdamLruConvIdeal.nD,
          r.2.mem ((c.tc : Thread Cert.AdamLruConvIdeal.nD Cert.AdamLruConvIdeal.τ).loc Cert.AdamLruConvIdeal.main_v0_0) = v0 c
          ∧ r.2.mem ((c.tc : Thread Cert.AdamLruConvIdeal.nD Cert.AdamLruConvIdeal.τ).loc Cert.AdamLruConvIdeal.main_v0_1) = v1 c
          ∧ r.2.mem ((c.tc : Thread Cert.AdamLruConvIdeal.nD Cert.AdamLruConvIdeal.τ).loc Cert.AdamLruConvIdeal.main_v0_2) = v2 c
          ∧ r.2.mem ((c.tc : Thread Cert.AdamLruConvIdeal.nD Cert.AdamLruConvIdeal.τ).loc Cert.AdamLruConvIdeal.main_arg0) = m ((c.tc : Thread Cert.AdamLruConvIdeal.nD Cert.AdamLruConvIdeal.τ).loc Cert.AdamLruConvIdeal.main_arg0)
          ∧ r.2.mem ((c.tc : Thread Cert.AdamLruConvIdeal.nD Cert.AdamLruConvIdeal.τ).loc Cert.AdamLruConvIdeal.main_arg1) = m ((c.tc : Thread Cert.AdamLruConvIdeal.nD Cert.AdamLruConvIdeal.τ).loc Cert.AdamLruConvIdeal.main_arg1)
          ∧ r.2.mem ((c.tc : Thread Cert.AdamLruConvIdeal.nD Cert.AdamLruConvIdeal.τ).loc Cert.AdamLruConvIdeal.main_arg2) = m ((c.tc : Thread Cert.AdamLruConvIdeal.nD Cert.AdamLruConvIdeal.τ).loc Cert.AdamLruConvIdeal.main_arg2)
          ∧ r.2.mem ((c.tc : Thread Cert.AdamLruConvIdeal.nD Cert.AdamLruConvIdeal.τ).loc Cert.AdamLruConvIdeal.main_arg3) = m ((c.tc : Thread Cert.AdamLruConvIdeal.nD Cert.AdamLruConvIdeal.τ).loc Cert.AdamLruConvIdeal.main_arg3))
      ∧ θ_run (Cert.AdamLruConvReferenceIdeal.defs (F := Ideal)) (onTc (τ := Cert.AdamLruConvReferenceIdeal.τ) (Cert.AdamLruConvReferenceIdeal.main (F := Ideal))) ⟨m', fun _ => 0, g'⟩ (fun r => ∀ c : Dev Cert.AdamLruConvReferenceIdeal.nD,
          r.2.mem ((c.tc : Thread Cert.AdamLruConvReferenceIdeal.nD Cert.AdamLruConvReferenceIdeal.τ).loc Cert.AdamLruConvReferenceIdeal.main_v23) = v0 c
          ∧ r.2.mem ((c.tc : Thread Cert.AdamLruConvReferenceIdeal.nD Cert.AdamLruConvReferenceIdeal.τ).loc Cert.AdamLruConvReferenceIdeal.main_v4) = v1 c
          ∧ r.2.mem ((c.tc : Thread Cert.AdamLruConvReferenceIdeal.nD Cert.AdamLruConvReferenceIdeal.τ).loc Cert.AdamLruConvReferenceIdeal.main_v10) = v2 c
          ∧ r.2.mem ((c.tc : Thread Cert.AdamLruConvReferenceIdeal.nD Cert.AdamLruConvReferenceIdeal.τ).loc Cert.AdamLruConvReferenceIdeal.main_arg0) = m' ((c.tc : Thread Cert.AdamLruConvReferenceIdeal.nD Cert.AdamLruConvReferenceIdeal.τ).loc Cert.AdamLruConvReferenceIdeal.main_arg0)
          ∧ r.2.mem ((c.tc : Thread Cert.AdamLruConvReferenceIdeal.nD Cert.AdamLruConvReferenceIdeal.τ).loc Cert.AdamLruConvReferenceIdeal.main_arg1) = m' ((c.tc : Thread Cert.AdamLruConvReferenceIdeal.nD Cert.AdamLruConvReferenceIdeal.τ).loc Cert.AdamLruConvReferenceIdeal.main_arg1)
          ∧ r.2.mem ((c.tc : Thread Cert.AdamLruConvReferenceIdeal.nD Cert.AdamLruConvReferenceIdeal.τ).loc Cert.AdamLruConvReferenceIdeal.main_arg2) = m' ((c.tc : Thread Cert.AdamLruConvReferenceIdeal.nD Cert.AdamLruConvReferenceIdeal.τ).loc Cert.AdamLruConvReferenceIdeal.main_arg2)
          ∧ r.2.mem ((c.tc : Thread Cert.AdamLruConvReferenceIdeal.nD Cert.AdamLruConvReferenceIdeal.τ).loc Cert.AdamLruConvReferenceIdeal.main_arg3) = m' ((c.tc : Thread Cert.AdamLruConvReferenceIdeal.nD Cert.AdamLruConvReferenceIdeal.τ).loc Cert.AdamLruConvReferenceIdeal.main_arg3))

def preserves_PairSum_PairSumIdeal : Prop :=
  True

def algebraic_PairSumIdeal_PairSumReferenceIdeal [hPairSumIdeal : Cert.PairSumIdeal.Facts] [hPairSumReferenceIdeal : Cert.PairSumReferenceIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumReferenceIdeal.nD Cert.PairSumReferenceIdeal.τ Cert.PairSumReferenceIdeal.sig) → Buf (Elt Ideal) ℓ) (g' : Dev Cert.PairSumReferenceIdeal.nD → PrngReg), Pre_PairSumIdeal m →
    (∀ c : Dev Cert.PairSumIdeal.nD,
      m' ((c.tc : Thread Cert.PairSumReferenceIdeal.nD Cert.PairSumReferenceIdeal.τ).loc Cert.PairSumReferenceIdeal.main_arg0) = m ((c.tc : Thread Cert.PairSumIdeal.nD Cert.PairSumIdeal.τ).loc Cert.PairSumIdeal.main_arg0)
      ∧ m' ((c.tc : Thread Cert.PairSumReferenceIdeal.nD Cert.PairSumReferenceIdeal.τ).loc Cert.PairSumReferenceIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumReferenceIdeal.defs (F := Ideal)) (onTc (τ := Cert.PairSumReferenceIdeal.τ) (Cert.PairSumReferenceIdeal.main (F := Ideal))) ⟨m', fun _ => 0, g'⟩ (fun r => ∀ c : Dev Cert.PairSumReferenceIdeal.nD,
          r.2.mem ((c.tc : Thread Cert.PairSumReferenceIdeal.nD Cert.PairSumReferenceIdeal.τ).loc Cert.PairSumReferenceIdeal.main_v0) = v0 c
          ∧ r.2.mem ((c.tc : Thread Cert.PairSumReferenceIdeal.nD Cert.PairSumReferenceIdeal.τ).loc Cert.PairSumReferenceIdeal.main_arg0) = m' ((c.tc : Thread Cert.PairSumReferenceIdeal.nD Cert.PairSumReferenceIdeal.τ).loc Cert.PairSumReferenceIdeal.main_arg0)
          ∧ r.2.mem ((c.tc : Thread Cert.PairSumReferenceIdeal.nD Cert.PairSumReferenceIdeal.τ).loc Cert.PairSumReferenceIdeal.main_arg1) = m' ((c.tc : Thread Cert.PairSumReferenceIdeal.nD Cert.PairSumReferenceIdeal.τ).loc Cert.PairSumReferenceIdeal.main_arg1))

def preserves_S5Params_S5ParamsIdeal : Prop :=
  True

def algebraic_S5ParamsIdeal_S5ParamsReferenceIdeal [hS5ParamsIdeal : Cert.S5ParamsIdeal.Facts] [hS5ParamsReferenceIdeal : Cert.S5ParamsReferenceIdeal.Facts] : Prop :=
  ∀ (m : (ℓ : Loc Cert.S5ParamsIdeal.nD Cert.S5ParamsIdeal.τ Cert.S5ParamsIdeal.sig) → Buf (Elt Ideal) ℓ) (g : Dev Cert.S5ParamsIdeal.nD → PrngReg)
    (m' : (ℓ : Loc Cert.S5ParamsReferenceIdeal.nD Cert.S5ParamsReferenceIdeal.τ Cert.S5ParamsReferenceIdeal.sig) → Buf (Elt Ideal) ℓ) (g' : Dev Cert.S5ParamsReferenceIdeal.nD → PrngReg), Pre_S5ParamsIdeal m →
    (∀ c : Dev Cert.S5ParamsIdeal.nD,
      m' ((c.tc : Thread Cert.S5ParamsReferenceIdeal.nD Cert.S5ParamsReferenceIdeal.τ).loc Cert.S5ParamsReferenceIdeal.main_arg0) = m ((c.tc : Thread Cert.S5ParamsIdeal.nD Cert.S5ParamsIdeal.τ).loc Cert.S5ParamsIdeal.main_arg0)
      ∧ m' ((c.tc : Thread Cert.S5ParamsReferenceIdeal.nD Cert.S5ParamsReferenceIdeal.τ).loc Cert.S5ParamsReferenceIdeal.main_arg1) = m ((c.tc : Thread Cert.S5ParamsIdeal.nD Cert.S5ParamsIdeal.τ).loc Cert.S5ParamsIdeal.main_arg1)
      ∧ m' ((c.tc : Thread Cert.S5ParamsReferenceIdeal.nD Cert.S5ParamsReferenceIdeal.τ).loc Cert.S5ParamsReferenceIdeal.main_arg2) = m ((c.tc : Thread Cert.S5ParamsIdeal.nD Cert.S5ParamsIdeal.τ).loc Cert.S5ParamsIdeal.main_arg2)
      ∧ m' ((c.tc : Thread Cert.S5ParamsReferenceIdeal.nD Cert.S5ParamsReferenceIdeal.τ).loc Cert.S5ParamsReferenceIdeal.main_arg3) = m ((c.tc : Thread Cert.S5ParamsIdeal.nD Cert.S5ParamsIdeal.τ).loc Cert.S5ParamsIdeal.main_arg3)
      ∧ m' ((c.tc : Thread Cert.S5ParamsReferenceIdeal.nD Cert.S5ParamsReferenceIdeal.τ).loc Cert.S5ParamsReferenceIdeal.main_arg4) = m ((c.tc : Thread Cert.S5ParamsIdeal.nD Cert.S5ParamsIdeal.τ).loc Cert.S5ParamsIdeal.main_arg4)) →
    ∃ (v0 : (c : Dev Cert.S5ParamsIdeal.nD) → Buf (Elt Ideal) ((c.tc : Thread Cert.S5ParamsIdeal.nD Cert.S5ParamsIdeal.τ).loc Cert.S5ParamsIdeal.main_v3_0)) (v1 : (c : Dev Cert.S5ParamsIdeal.nD) → Buf (Elt Ideal) ((c.tc : Thread Cert.S5ParamsIdeal.nD Cert.S5ParamsIdeal.τ).loc Cert.S5ParamsIdeal.main_v3_1)) (v2 : (c : Dev Cert.S5ParamsIdeal.nD) → Buf (Elt Ideal) ((c.tc : Thread Cert.S5ParamsIdeal.nD Cert.S5ParamsIdeal.τ).loc Cert.S5ParamsIdeal.main_v3_2)) (v3 : (c : Dev Cert.S5ParamsIdeal.nD) → Buf (Elt Ideal) ((c.tc : Thread Cert.S5ParamsIdeal.nD Cert.S5ParamsIdeal.τ).loc Cert.S5ParamsIdeal.main_v3_3)),
      θ_run (Cert.S5ParamsIdeal.defs (F := Ideal)) (onTc (τ := Cert.S5ParamsIdeal.τ) (Cert.S5ParamsIdeal.main (F := Ideal))) ⟨m, fun _ => 0, g⟩ (fun r => ∀ c : Dev Cert.S5ParamsIdeal.nD,
          r.2.mem ((c.tc : Thread Cert.S5ParamsIdeal.nD Cert.S5ParamsIdeal.τ).loc Cert.S5ParamsIdeal.main_v3_0) = v0 c
          ∧ r.2.mem ((c.tc : Thread Cert.S5ParamsIdeal.nD Cert.S5ParamsIdeal.τ).loc Cert.S5ParamsIdeal.main_v3_1) = v1 c
          ∧ r.2.mem ((c.tc : Thread Cert.S5ParamsIdeal.nD Cert.S5ParamsIdeal.τ).loc Cert.S5ParamsIdeal.main_v3_2) = v2 c
          ∧ r.2.mem ((c.tc : Thread Cert.S5ParamsIdeal.nD Cert.S5ParamsIdeal.τ).loc Cert.S5ParamsIdeal.main_v3_3) = v3 c
          ∧ r.2.mem ((c.tc : Thread Cert.S5ParamsIdeal.nD Cert.S5ParamsIdeal.τ).loc Cert.S5ParamsIdeal.main_arg0) = m ((c.tc : Thread Cert.S5ParamsIdeal.nD Cert.S5ParamsIdeal.τ).loc Cert.S5ParamsIdeal.main_arg0)
          ∧ r.2.mem ((c.tc : Thread Cert.S5ParamsIdeal.nD Cert.S5ParamsIdeal.τ).loc Cert.S5ParamsIdeal.main_arg1) = m ((c.tc : Thread Cert.S5ParamsIdeal.nD Cert.S5ParamsIdeal.τ).loc Cert.S5ParamsIdeal.main_arg1)
          ∧ r.2.mem ((c.tc : Thread Cert.S5ParamsIdeal.nD Cert.S5ParamsIdeal.τ).loc Cert.S5ParamsIdeal.main_arg2) = m ((c.tc : Thread Cert.S5ParamsIdeal.nD Cert.S5ParamsIdeal.τ).loc Cert.S5ParamsIdeal.main_arg2)
          ∧ r.2.mem ((c.tc : Thread Cert.S5ParamsIdeal.nD Cert.S5ParamsIdeal.τ).loc Cert.S5ParamsIdeal.main_arg3) = m ((c.tc : Thread Cert.S5ParamsIdeal.nD Cert.S5ParamsIdeal.τ).loc Cert.S5ParamsIdeal.main_arg3)
          ∧ r.2.mem ((c.tc : Thread Cert.S5ParamsIdeal.nD Cert.S5ParamsIdeal.τ).loc Cert.S5ParamsIdeal.main_arg4) = m ((c.tc : Thread Cert.S5ParamsIdeal.nD Cert.S5ParamsIdeal.τ).loc Cert.S5ParamsIdeal.main_arg4))
      ∧ θ_run (Cert.S5ParamsReferenceIdeal.defs (F := Ideal)) (onTc (τ := Cert.S5ParamsReferenceIdeal.τ) (Cert.S5ParamsReferenceIdeal.main (F := Ideal))) ⟨m', fun _ => 0, g'⟩ (fun r => ∀ c : Dev Cert.S5ParamsReferenceIdeal.nD,
          r.2.mem ((c.tc : Thread Cert.S5ParamsReferenceIdeal.nD Cert.S5ParamsReferenceIdeal.τ).loc Cert.S5ParamsReferenceIdeal.main_v8) = v0 c
          ∧ r.2.mem ((c.tc : Thread Cert.S5ParamsReferenceIdeal.nD Cert.S5ParamsReferenceIdeal.τ).loc Cert.S5ParamsReferenceIdeal.main_v10) = v1 c
          ∧ r.2.mem ((c.tc : Thread Cert.S5ParamsReferenceIdeal.nD Cert.S5ParamsReferenceIdeal.τ).loc Cert.S5ParamsReferenceIdeal.main_v38) = v2 c
          ∧ r.2.mem ((c.tc : Thread Cert.S5ParamsReferenceIdeal.nD Cert.S5ParamsReferenceIdeal.τ).loc Cert.S5ParamsReferenceIdeal.main_v39) = v3 c
          ∧ r.2.mem ((c.tc : Thread Cert.S5ParamsReferenceIdeal.nD Cert.S5ParamsReferenceIdeal.τ).loc Cert.S5ParamsReferenceIdeal.main_arg0) = m' ((c.tc : Thread Cert.S5ParamsReferenceIdeal.nD Cert.S5ParamsReferenceIdeal.τ).loc Cert.S5ParamsReferenceIdeal.main_arg0)
          ∧ r.2.mem ((c.tc : Thread Cert.S5ParamsReferenceIdeal.nD Cert.S5ParamsReferenceIdeal.τ).loc Cert.S5ParamsReferenceIdeal.main_arg1) = m' ((c.tc : Thread Cert.S5ParamsReferenceIdeal.nD Cert.S5ParamsReferenceIdeal.τ).loc Cert.S5ParamsReferenceIdeal.main_arg1)
          ∧ r.2.mem ((c.tc : Thread Cert.S5ParamsReferenceIdeal.nD Cert.S5ParamsReferenceIdeal.τ).loc Cert.S5ParamsReferenceIdeal.main_arg2) = m' ((c.tc : Thread Cert.S5ParamsReferenceIdeal.nD Cert.S5ParamsReferenceIdeal.τ).loc Cert.S5ParamsReferenceIdeal.main_arg2)
          ∧ r.2.mem ((c.tc : Thread Cert.S5ParamsReferenceIdeal.nD Cert.S5ParamsReferenceIdeal.τ).loc Cert.S5ParamsReferenceIdeal.main_arg3) = m' ((c.tc : Thread Cert.S5ParamsReferenceIdeal.nD Cert.S5ParamsReferenceIdeal.τ).loc Cert.S5ParamsReferenceIdeal.main_arg3)
          ∧ r.2.mem ((c.tc : Thread Cert.S5ParamsReferenceIdeal.nD Cert.S5ParamsReferenceIdeal.τ).loc Cert.S5ParamsReferenceIdeal.main_arg4) = m' ((c.tc : Thread Cert.S5ParamsReferenceIdeal.nD Cert.S5ParamsReferenceIdeal.τ).loc Cert.S5ParamsReferenceIdeal.main_arg4))

def preserves_S5ParamsGrad_S5ParamsGradIdeal : Prop :=
  True

def algebraic_S5ParamsGradIdeal_S5ParamsGradReferenceIdeal [hS5ParamsGradIdeal : Cert.S5ParamsGradIdeal.Facts] [hS5ParamsGradReferenceIdeal : Cert.S5ParamsGradReferenceIdeal.Facts] : Prop :=
  ∀ (m : (ℓ : Loc Cert.S5ParamsGradIdeal.nD Cert.S5ParamsGradIdeal.τ Cert.S5ParamsGradIdeal.sig) → Buf (Elt Ideal) ℓ) (g : Dev Cert.S5ParamsGradIdeal.nD → PrngReg)
    (m' : (ℓ : Loc Cert.S5ParamsGradReferenceIdeal.nD Cert.S5ParamsGradReferenceIdeal.τ Cert.S5ParamsGradReferenceIdeal.sig) → Buf (Elt Ideal) ℓ) (g' : Dev Cert.S5ParamsGradReferenceIdeal.nD → PrngReg), Pre_S5ParamsGradIdeal m →
    (∀ c : Dev Cert.S5ParamsGradIdeal.nD,
      m' ((c.tc : Thread Cert.S5ParamsGradReferenceIdeal.nD Cert.S5ParamsGradReferenceIdeal.τ).loc Cert.S5ParamsGradReferenceIdeal.main_arg0) = m ((c.tc : Thread Cert.S5ParamsGradIdeal.nD Cert.S5ParamsGradIdeal.τ).loc Cert.S5ParamsGradIdeal.main_arg0)
      ∧ m' ((c.tc : Thread Cert.S5ParamsGradReferenceIdeal.nD Cert.S5ParamsGradReferenceIdeal.τ).loc Cert.S5ParamsGradReferenceIdeal.main_arg1) = m ((c.tc : Thread Cert.S5ParamsGradIdeal.nD Cert.S5ParamsGradIdeal.τ).loc Cert.S5ParamsGradIdeal.main_arg1)
      ∧ m' ((c.tc : Thread Cert.S5ParamsGradReferenceIdeal.nD Cert.S5ParamsGradReferenceIdeal.τ).loc Cert.S5ParamsGradReferenceIdeal.main_arg2) = m ((c.tc : Thread Cert.S5ParamsGradIdeal.nD Cert.S5ParamsGradIdeal.τ).loc Cert.S5ParamsGradIdeal.main_arg2)
      ∧ m' ((c.tc : Thread Cert.S5ParamsGradReferenceIdeal.nD Cert.S5ParamsGradReferenceIdeal.τ).loc Cert.S5ParamsGradReferenceIdeal.main_arg3) = m ((c.tc : Thread Cert.S5ParamsGradIdeal.nD Cert.S5ParamsGradIdeal.τ).loc Cert.S5ParamsGradIdeal.main_arg3)
      ∧ m' ((c.tc : Thread Cert.S5ParamsGradReferenceIdeal.nD Cert.S5ParamsGradReferenceIdeal.τ).loc Cert.S5ParamsGradReferenceIdeal.main_arg4) = m ((c.tc : Thread Cert.S5ParamsGradIdeal.nD Cert.S5ParamsGradIdeal.τ).loc Cert.S5ParamsGradIdeal.main_arg4)
      ∧ m' ((c.tc : Thread Cert.S5ParamsGradReferenceIdeal.nD Cert.S5ParamsGradReferenceIdeal.τ).loc Cert.S5ParamsGradReferenceIdeal.main_arg5) = m ((c.tc : Thread Cert.S5ParamsGradIdeal.nD Cert.S5ParamsGradIdeal.τ).loc Cert.S5ParamsGradIdeal.main_arg5)
      ∧ m' ((c.tc : Thread Cert.S5ParamsGradReferenceIdeal.nD Cert.S5ParamsGradReferenceIdeal.τ).loc Cert.S5ParamsGradReferenceIdeal.main_arg6) = m ((c.tc : Thread Cert.S5ParamsGradIdeal.nD Cert.S5ParamsGradIdeal.τ).loc Cert.S5ParamsGradIdeal.main_arg6)
      ∧ m' ((c.tc : Thread Cert.S5ParamsGradReferenceIdeal.nD Cert.S5ParamsGradReferenceIdeal.τ).loc Cert.S5ParamsGradReferenceIdeal.main_arg7) = m ((c.tc : Thread Cert.S5ParamsGradIdeal.nD Cert.S5ParamsGradIdeal.τ).loc Cert.S5ParamsGradIdeal.main_arg7)
      ∧ m' ((c.tc : Thread Cert.S5ParamsGradReferenceIdeal.nD Cert.S5ParamsGradReferenceIdeal.τ).loc Cert.S5ParamsGradReferenceIdeal.main_arg8) = m ((c.tc : Thread Cert.S5ParamsGradIdeal.nD Cert.S5ParamsGradIdeal.τ).loc Cert.S5ParamsGradIdeal.main_arg8)) →
    ∃ (v0 : (c : Dev Cert.S5ParamsGradIdeal.nD) → Buf (Elt Ideal) ((c.tc : Thread Cert.S5ParamsGradIdeal.nD Cert.S5ParamsGradIdeal.τ).loc Cert.S5ParamsGradIdeal.main_v3_0)) (v1 : (c : Dev Cert.S5ParamsGradIdeal.nD) → Buf (Elt Ideal) ((c.tc : Thread Cert.S5ParamsGradIdeal.nD Cert.S5ParamsGradIdeal.τ).loc Cert.S5ParamsGradIdeal.main_v3_1)) (v2 : (c : Dev Cert.S5ParamsGradIdeal.nD) → Buf (Elt Ideal) ((c.tc : Thread Cert.S5ParamsGradIdeal.nD Cert.S5ParamsGradIdeal.τ).loc Cert.S5ParamsGradIdeal.main_v3_2)) (v3 : (c : Dev Cert.S5ParamsGradIdeal.nD) → Buf (Elt Ideal) ((c.tc : Thread Cert.S5ParamsGradIdeal.nD Cert.S5ParamsGradIdeal.τ).loc Cert.S5ParamsGradIdeal.main_v3_3)) (v4 : (c : Dev Cert.S5ParamsGradIdeal.nD) → Buf (Elt Ideal) ((c.tc : Thread Cert.S5ParamsGradIdeal.nD Cert.S5ParamsGradIdeal.τ).loc Cert.S5ParamsGradIdeal.main_v3_4)),
      θ_run (Cert.S5ParamsGradIdeal.defs (F := Ideal)) (onTc (τ := Cert.S5ParamsGradIdeal.τ) (Cert.S5ParamsGradIdeal.main (F := Ideal))) ⟨m, fun _ => 0, g⟩ (fun r => ∀ c : Dev Cert.S5ParamsGradIdeal.nD,
          r.2.mem ((c.tc : Thread Cert.S5ParamsGradIdeal.nD Cert.S5ParamsGradIdeal.τ).loc Cert.S5ParamsGradIdeal.main_v3_0) = v0 c
          ∧ r.2.mem ((c.tc : Thread Cert.S5ParamsGradIdeal.nD Cert.S5ParamsGradIdeal.τ).loc Cert.S5ParamsGradIdeal.main_v3_1) = v1 c
          ∧ r.2.mem ((c.tc : Thread Cert.S5ParamsGradIdeal.nD Cert.S5ParamsGradIdeal.τ).loc Cert.S5ParamsGradIdeal.main_v3_2) = v2 c
          ∧ r.2.mem ((c.tc : Thread Cert.S5ParamsGradIdeal.nD Cert.S5ParamsGradIdeal.τ).loc Cert.S5ParamsGradIdeal.main_v3_3) = v3 c
          ∧ r.2.mem ((c.tc : Thread Cert.S5ParamsGradIdeal.nD Cert.S5ParamsGradIdeal.τ).loc Cert.S5ParamsGradIdeal.main_v3_4) = v4 c
          ∧ r.2.mem ((c.tc : Thread Cert.S5ParamsGradIdeal.nD Cert.S5ParamsGradIdeal.τ).loc Cert.S5ParamsGradIdeal.main_arg0) = m ((c.tc : Thread Cert.S5ParamsGradIdeal.nD Cert.S5ParamsGradIdeal.τ).loc Cert.S5ParamsGradIdeal.main_arg0)
          ∧ r.2.mem ((c.tc : Thread Cert.S5ParamsGradIdeal.nD Cert.S5ParamsGradIdeal.τ).loc Cert.S5ParamsGradIdeal.main_arg1) = m ((c.tc : Thread Cert.S5ParamsGradIdeal.nD Cert.S5ParamsGradIdeal.τ).loc Cert.S5ParamsGradIdeal.main_arg1)
          ∧ r.2.mem ((c.tc : Thread Cert.S5ParamsGradIdeal.nD Cert.S5ParamsGradIdeal.τ).loc Cert.S5ParamsGradIdeal.main_arg2) = m ((c.tc : Thread Cert.S5ParamsGradIdeal.nD Cert.S5ParamsGradIdeal.τ).loc Cert.S5ParamsGradIdeal.main_arg2)
          ∧ r.2.mem ((c.tc : Thread Cert.S5ParamsGradIdeal.nD Cert.S5ParamsGradIdeal.τ).loc Cert.S5ParamsGradIdeal.main_arg3) = m ((c.tc : Thread Cert.S5ParamsGradIdeal.nD Cert.S5ParamsGradIdeal.τ).loc Cert.S5ParamsGradIdeal.main_arg3)
          ∧ r.2.mem ((c.tc : Thread Cert.S5ParamsGradIdeal.nD Cert.S5ParamsGradIdeal.τ).loc Cert.S5ParamsGradIdeal.main_arg4) = m ((c.tc : Thread Cert.S5ParamsGradIdeal.nD Cert.S5ParamsGradIdeal.τ).loc Cert.S5ParamsGradIdeal.main_arg4)
          ∧ r.2.mem ((c.tc : Thread Cert.S5ParamsGradIdeal.nD Cert.S5ParamsGradIdeal.τ).loc Cert.S5ParamsGradIdeal.main_arg5) = m ((c.tc : Thread Cert.S5ParamsGradIdeal.nD Cert.S5ParamsGradIdeal.τ).loc Cert.S5ParamsGradIdeal.main_arg5)
          ∧ r.2.mem ((c.tc : Thread Cert.S5ParamsGradIdeal.nD Cert.S5ParamsGradIdeal.τ).loc Cert.S5ParamsGradIdeal.main_arg6) = m ((c.tc : Thread Cert.S5ParamsGradIdeal.nD Cert.S5ParamsGradIdeal.τ).loc Cert.S5ParamsGradIdeal.main_arg6)
          ∧ r.2.mem ((c.tc : Thread Cert.S5ParamsGradIdeal.nD Cert.S5ParamsGradIdeal.τ).loc Cert.S5ParamsGradIdeal.main_arg7) = m ((c.tc : Thread Cert.S5ParamsGradIdeal.nD Cert.S5ParamsGradIdeal.τ).loc Cert.S5ParamsGradIdeal.main_arg7)
          ∧ r.2.mem ((c.tc : Thread Cert.S5ParamsGradIdeal.nD Cert.S5ParamsGradIdeal.τ).loc Cert.S5ParamsGradIdeal.main_arg8) = m ((c.tc : Thread Cert.S5ParamsGradIdeal.nD Cert.S5ParamsGradIdeal.τ).loc Cert.S5ParamsGradIdeal.main_arg8))
      ∧ θ_run (Cert.S5ParamsGradReferenceIdeal.defs (F := Ideal)) (onTc (τ := Cert.S5ParamsGradReferenceIdeal.τ) (Cert.S5ParamsGradReferenceIdeal.main (F := Ideal))) ⟨m', fun _ => 0, g'⟩ (fun r => ∀ c : Dev Cert.S5ParamsGradReferenceIdeal.nD,
          r.2.mem ((c.tc : Thread Cert.S5ParamsGradReferenceIdeal.nD Cert.S5ParamsGradReferenceIdeal.τ).loc Cert.S5ParamsGradReferenceIdeal.main_v127) = v0 c
          ∧ r.2.mem ((c.tc : Thread Cert.S5ParamsGradReferenceIdeal.nD Cert.S5ParamsGradReferenceIdeal.τ).loc Cert.S5ParamsGradReferenceIdeal.main_v121) = v1 c
          ∧ r.2.mem ((c.tc : Thread Cert.S5ParamsGradReferenceIdeal.nD Cert.S5ParamsGradReferenceIdeal.τ).loc Cert.S5ParamsGradReferenceIdeal.main_v134) = v2 c
          ∧ r.2.mem ((c.tc : Thread Cert.S5ParamsGradReferenceIdeal.nD Cert.S5ParamsGradReferenceIdeal.τ).loc Cert.S5ParamsGradReferenceIdeal.main_v135) = v3 c
          ∧ r.2.mem ((c.tc : Thread Cert.S5ParamsGradReferenceIdeal.nD Cert.S5ParamsGradReferenceIdeal.τ).loc Cert.S5ParamsGradReferenceIdeal.main_v136) = v4 c
          ∧ r.2.mem ((c.tc : Thread Cert.S5ParamsGradReferenceIdeal.nD Cert.S5ParamsGradReferenceIdeal.τ).loc Cert.S5ParamsGradReferenceIdeal.main_arg0) = m' ((c.tc : Thread Cert.S5ParamsGradReferenceIdeal.nD Cert.S5ParamsGradReferenceIdeal.τ).loc Cert.S5ParamsGradReferenceIdeal.main_arg0)
          ∧ r.2.mem ((c.tc : Thread Cert.S5ParamsGradReferenceIdeal.nD Cert.S5ParamsGradReferenceIdeal.τ).loc Cert.S5ParamsGradReferenceIdeal.main_arg1) = m' ((c.tc : Thread Cert.S5ParamsGradReferenceIdeal.nD Cert.S5ParamsGradReferenceIdeal.τ).loc Cert.S5ParamsGradReferenceIdeal.main_arg1)
          ∧ r.2.mem ((c.tc : Thread Cert.S5ParamsGradReferenceIdeal.nD Cert.S5ParamsGradReferenceIdeal.τ).loc Cert.S5ParamsGradReferenceIdeal.main_arg2) = m' ((c.tc : Thread Cert.S5ParamsGradReferenceIdeal.nD Cert.S5ParamsGradReferenceIdeal.τ).loc Cert.S5ParamsGradReferenceIdeal.main_arg2)
          ∧ r.2.mem ((c.tc : Thread Cert.S5ParamsGradReferenceIdeal.nD Cert.S5ParamsGradReferenceIdeal.τ).loc Cert.S5ParamsGradReferenceIdeal.main_arg3) = m' ((c.tc : Thread Cert.S5ParamsGradReferenceIdeal.nD Cert.S5ParamsGradReferenceIdeal.τ).loc Cert.S5ParamsGradReferenceIdeal.main_arg3)
          ∧ r.2.mem ((c.tc : Thread Cert.S5ParamsGradReferenceIdeal.nD Cert.S5ParamsGradReferenceIdeal.τ).loc Cert.S5ParamsGradReferenceIdeal.main_arg4) = m' ((c.tc : Thread Cert.S5ParamsGradReferenceIdeal.nD Cert.S5ParamsGradReferenceIdeal.τ).loc Cert.S5ParamsGradReferenceIdeal.main_arg4)
          ∧ r.2.mem ((c.tc : Thread Cert.S5ParamsGradReferenceIdeal.nD Cert.S5ParamsGradReferenceIdeal.τ).loc Cert.S5ParamsGradReferenceIdeal.main_arg5) = m' ((c.tc : Thread Cert.S5ParamsGradReferenceIdeal.nD Cert.S5ParamsGradReferenceIdeal.τ).loc Cert.S5ParamsGradReferenceIdeal.main_arg5)
          ∧ r.2.mem ((c.tc : Thread Cert.S5ParamsGradReferenceIdeal.nD Cert.S5ParamsGradReferenceIdeal.τ).loc Cert.S5ParamsGradReferenceIdeal.main_arg6) = m' ((c.tc : Thread Cert.S5ParamsGradReferenceIdeal.nD Cert.S5ParamsGradReferenceIdeal.τ).loc Cert.S5ParamsGradReferenceIdeal.main_arg6)
          ∧ r.2.mem ((c.tc : Thread Cert.S5ParamsGradReferenceIdeal.nD Cert.S5ParamsGradReferenceIdeal.τ).loc Cert.S5ParamsGradReferenceIdeal.main_arg7) = m' ((c.tc : Thread Cert.S5ParamsGradReferenceIdeal.nD Cert.S5ParamsGradReferenceIdeal.τ).loc Cert.S5ParamsGradReferenceIdeal.main_arg7)
          ∧ r.2.mem ((c.tc : Thread Cert.S5ParamsGradReferenceIdeal.nD Cert.S5ParamsGradReferenceIdeal.τ).loc Cert.S5ParamsGradReferenceIdeal.main_arg8) = m' ((c.tc : Thread Cert.S5ParamsGradReferenceIdeal.nD Cert.S5ParamsGradReferenceIdeal.τ).loc Cert.S5ParamsGradReferenceIdeal.main_arg8))

def preserves_S5OutGrad_S5OutGradIdeal : Prop :=
  IdealRules.named_const.Statement Cert.S5OutGradIdeal.κ "cubic" .f32 0x3D372713#32 ((8943 / 200000 : ℝ) : EReal)
  ∧ IdealRules.named_const.Statement Cert.S5OutGradIdeal.κ "cubic3" .f32 0x3E095D4F#32 ((26829 / 200000 : ℝ) : EReal)

def algebraic_S5OutGradIdeal_S5OutGradReferenceIdeal_pre_finite_s5 [hS5OutGradIdeal : Cert.S5OutGradIdeal.Facts] [hS5OutGradReferenceIdeal : Cert.S5OutGradReferenceIdeal.Facts] [hPre_finite_s5 : Cert.Pre_finite_s5.Facts] : Prop :=
  ∀ (m : (ℓ : Loc Cert.S5OutGradIdeal.nD Cert.S5OutGradIdeal.τ Cert.S5OutGradIdeal.sig) → Buf (Elt Ideal) ℓ) (g : Dev Cert.S5OutGradIdeal.nD → PrngReg)
    (m' : (ℓ : Loc Cert.S5OutGradReferenceIdeal.nD Cert.S5OutGradReferenceIdeal.τ Cert.S5OutGradReferenceIdeal.sig) → Buf (Elt Ideal) ℓ) (g' : Dev Cert.S5OutGradReferenceIdeal.nD → PrngReg), Pre_S5OutGradIdeal_finite_s5 m →
    (∀ c : Dev Cert.S5OutGradIdeal.nD,
      m' ((c.tc : Thread Cert.S5OutGradReferenceIdeal.nD Cert.S5OutGradReferenceIdeal.τ).loc Cert.S5OutGradReferenceIdeal.main_arg0) = m ((c.tc : Thread Cert.S5OutGradIdeal.nD Cert.S5OutGradIdeal.τ).loc Cert.S5OutGradIdeal.main_arg0)
      ∧ m' ((c.tc : Thread Cert.S5OutGradReferenceIdeal.nD Cert.S5OutGradReferenceIdeal.τ).loc Cert.S5OutGradReferenceIdeal.main_arg1) = m ((c.tc : Thread Cert.S5OutGradIdeal.nD Cert.S5OutGradIdeal.τ).loc Cert.S5OutGradIdeal.main_arg1)
      ∧ m' ((c.tc : Thread Cert.S5OutGradReferenceIdeal.nD Cert.S5OutGradReferenceIdeal.τ).loc Cert.S5OutGradReferenceIdeal.main_arg2) = m ((c.tc : Thread Cert.S5OutGradIdeal.nD Cert.S5OutGradIdeal.τ).loc Cert.S5OutGradIdeal.main_arg2)
      ∧ m' ((c.tc : Thread Cert.S5OutGradReferenceIdeal.nD Cert.S5OutGradReferenceIdeal.τ).loc Cert.S5OutGradReferenceIdeal.main_arg3) = m ((c.tc : Thread Cert.S5OutGradIdeal.nD Cert.S5OutGradIdeal.τ).loc Cert.S5OutGradIdeal.main_arg3)
      ∧ m' ((c.tc : Thread Cert.S5OutGradReferenceIdeal.nD Cert.S5OutGradReferenceIdeal.τ).loc Cert.S5OutGradReferenceIdeal.main_arg4) = m ((c.tc : Thread Cert.S5OutGradIdeal.nD Cert.S5OutGradIdeal.τ).loc Cert.S5OutGradIdeal.main_arg4)
      ∧ m' ((c.tc : Thread Cert.S5OutGradReferenceIdeal.nD Cert.S5OutGradReferenceIdeal.τ).loc Cert.S5OutGradReferenceIdeal.main_arg5) = m ((c.tc : Thread Cert.S5OutGradIdeal.nD Cert.S5OutGradIdeal.τ).loc Cert.S5OutGradIdeal.main_arg5)) →
    ∃ (v0 : (c : Dev Cert.S5OutGradIdeal.nD) → Buf (Elt Ideal) ((c.tc : Thread Cert.S5OutGradIdeal.nD Cert.S5OutGradIdeal.τ).loc Cert.S5OutGradIdeal.main_v2_0)) (v1 : (c : Dev Cert.S5OutGradIdeal.nD) → Buf (Elt Ideal) ((c.tc : Thread Cert.S5OutGradIdeal.nD Cert.S5OutGradIdeal.τ).loc Cert.S5OutGradIdeal.main_v2_1)) (v2 : (c : Dev Cert.S5OutGradIdeal.nD) → Buf (Elt Ideal) ((c.tc : Thread Cert.S5OutGradIdeal.nD Cert.S5OutGradIdeal.τ).loc Cert.S5OutGradIdeal.main_v2_2)) (v3 : (c : Dev Cert.S5OutGradIdeal.nD) → Buf (Elt Ideal) ((c.tc : Thread Cert.S5OutGradIdeal.nD Cert.S5OutGradIdeal.τ).loc Cert.S5OutGradIdeal.main_v2_3)),
      θ_run (Cert.S5OutGradIdeal.defs (F := Ideal)) (onTc (τ := Cert.S5OutGradIdeal.τ) (Cert.S5OutGradIdeal.main (F := Ideal))) ⟨m, fun _ => 0, g⟩ (fun r => ∀ c : Dev Cert.S5OutGradIdeal.nD,
          r.2.mem ((c.tc : Thread Cert.S5OutGradIdeal.nD Cert.S5OutGradIdeal.τ).loc Cert.S5OutGradIdeal.main_v2_0) = v0 c
          ∧ r.2.mem ((c.tc : Thread Cert.S5OutGradIdeal.nD Cert.S5OutGradIdeal.τ).loc Cert.S5OutGradIdeal.main_v2_1) = v1 c
          ∧ r.2.mem ((c.tc : Thread Cert.S5OutGradIdeal.nD Cert.S5OutGradIdeal.τ).loc Cert.S5OutGradIdeal.main_v2_2) = v2 c
          ∧ r.2.mem ((c.tc : Thread Cert.S5OutGradIdeal.nD Cert.S5OutGradIdeal.τ).loc Cert.S5OutGradIdeal.main_v2_3) = v3 c
          ∧ r.2.mem ((c.tc : Thread Cert.S5OutGradIdeal.nD Cert.S5OutGradIdeal.τ).loc Cert.S5OutGradIdeal.main_arg0) = m ((c.tc : Thread Cert.S5OutGradIdeal.nD Cert.S5OutGradIdeal.τ).loc Cert.S5OutGradIdeal.main_arg0)
          ∧ r.2.mem ((c.tc : Thread Cert.S5OutGradIdeal.nD Cert.S5OutGradIdeal.τ).loc Cert.S5OutGradIdeal.main_arg1) = m ((c.tc : Thread Cert.S5OutGradIdeal.nD Cert.S5OutGradIdeal.τ).loc Cert.S5OutGradIdeal.main_arg1)
          ∧ r.2.mem ((c.tc : Thread Cert.S5OutGradIdeal.nD Cert.S5OutGradIdeal.τ).loc Cert.S5OutGradIdeal.main_arg2) = m ((c.tc : Thread Cert.S5OutGradIdeal.nD Cert.S5OutGradIdeal.τ).loc Cert.S5OutGradIdeal.main_arg2)
          ∧ r.2.mem ((c.tc : Thread Cert.S5OutGradIdeal.nD Cert.S5OutGradIdeal.τ).loc Cert.S5OutGradIdeal.main_arg3) = m ((c.tc : Thread Cert.S5OutGradIdeal.nD Cert.S5OutGradIdeal.τ).loc Cert.S5OutGradIdeal.main_arg3)
          ∧ r.2.mem ((c.tc : Thread Cert.S5OutGradIdeal.nD Cert.S5OutGradIdeal.τ).loc Cert.S5OutGradIdeal.main_arg4) = m ((c.tc : Thread Cert.S5OutGradIdeal.nD Cert.S5OutGradIdeal.τ).loc Cert.S5OutGradIdeal.main_arg4)
          ∧ r.2.mem ((c.tc : Thread Cert.S5OutGradIdeal.nD Cert.S5OutGradIdeal.τ).loc Cert.S5OutGradIdeal.main_arg5) = m ((c.tc : Thread Cert.S5OutGradIdeal.nD Cert.S5OutGradIdeal.τ).loc Cert.S5OutGradIdeal.main_arg5))
      ∧ θ_run (Cert.S5OutGradReferenceIdeal.defs (F := Ideal)) (onTc (τ := Cert.S5OutGradReferenceIdeal.τ) (Cert.S5OutGradReferenceIdeal.main (F := Ideal))) ⟨m', fun _ => 0, g'⟩ (fun r => ∀ c : Dev Cert.S5OutGradReferenceIdeal.nD,
          r.2.mem ((c.tc : Thread Cert.S5OutGradReferenceIdeal.nD Cert.S5OutGradReferenceIdeal.τ).loc Cert.S5OutGradReferenceIdeal.main_v63) = v0 c
          ∧ r.2.mem ((c.tc : Thread Cert.S5OutGradReferenceIdeal.nD Cert.S5OutGradReferenceIdeal.τ).loc Cert.S5OutGradReferenceIdeal.main_v69) = v1 c
          ∧ r.2.mem ((c.tc : Thread Cert.S5OutGradReferenceIdeal.nD Cert.S5OutGradReferenceIdeal.τ).loc Cert.S5OutGradReferenceIdeal.main_v42) = v2 c
          ∧ r.2.mem ((c.tc : Thread Cert.S5OutGradReferenceIdeal.nD Cert.S5OutGradReferenceIdeal.τ).loc Cert.S5OutGradReferenceIdeal.main_v77) = v3 c
          ∧ r.2.mem ((c.tc : Thread Cert.S5OutGradReferenceIdeal.nD Cert.S5OutGradReferenceIdeal.τ).loc Cert.S5OutGradReferenceIdeal.main_arg0) = m' ((c.tc : Thread Cert.S5OutGradReferenceIdeal.nD Cert.S5OutGradReferenceIdeal.τ).loc Cert.S5OutGradReferenceIdeal.main_arg0)
          ∧ r.2.mem ((c.tc : Thread Cert.S5OutGradReferenceIdeal.nD Cert.S5OutGradReferenceIdeal.τ).loc Cert.S5OutGradReferenceIdeal.main_arg1) = m' ((c.tc : Thread Cert.S5OutGradReferenceIdeal.nD Cert.S5OutGradReferenceIdeal.τ).loc Cert.S5OutGradReferenceIdeal.main_arg1)
          ∧ r.2.mem ((c.tc : Thread Cert.S5OutGradReferenceIdeal.nD Cert.S5OutGradReferenceIdeal.τ).loc Cert.S5OutGradReferenceIdeal.main_arg2) = m' ((c.tc : Thread Cert.S5OutGradReferenceIdeal.nD Cert.S5OutGradReferenceIdeal.τ).loc Cert.S5OutGradReferenceIdeal.main_arg2)
          ∧ r.2.mem ((c.tc : Thread Cert.S5OutGradReferenceIdeal.nD Cert.S5OutGradReferenceIdeal.τ).loc Cert.S5OutGradReferenceIdeal.main_arg3) = m' ((c.tc : Thread Cert.S5OutGradReferenceIdeal.nD Cert.S5OutGradReferenceIdeal.τ).loc Cert.S5OutGradReferenceIdeal.main_arg3)
          ∧ r.2.mem ((c.tc : Thread Cert.S5OutGradReferenceIdeal.nD Cert.S5OutGradReferenceIdeal.τ).loc Cert.S5OutGradReferenceIdeal.main_arg4) = m' ((c.tc : Thread Cert.S5OutGradReferenceIdeal.nD Cert.S5OutGradReferenceIdeal.τ).loc Cert.S5OutGradReferenceIdeal.main_arg4)
          ∧ r.2.mem ((c.tc : Thread Cert.S5OutGradReferenceIdeal.nD Cert.S5OutGradReferenceIdeal.τ).loc Cert.S5OutGradReferenceIdeal.main_arg5) = m' ((c.tc : Thread Cert.S5OutGradReferenceIdeal.nD Cert.S5OutGradReferenceIdeal.τ).loc Cert.S5OutGradReferenceIdeal.main_arg5))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hProjDw : Cert.ProjDw.Facts) (hProjDwIdeal : Cert.ProjDwIdeal.Facts) (hProjDwReferenceIdeal : Cert.ProjDwReferenceIdeal.Facts) (hProjDh : Cert.ProjDh.Facts) (hProjDhIdeal : Cert.ProjDhIdeal.Facts) (hProjDhReferenceIdeal : Cert.ProjDhReferenceIdeal.Facts) (hProjDx : Cert.ProjDx.Facts) (hProjDxIdeal : Cert.ProjDxIdeal.Facts) (hProjDxReferenceIdeal : Cert.ProjDxReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hUp : Cert.Up.Facts) (hUpIdeal : Cert.UpIdeal.Facts) (hUpReferenceIdeal : Cert.UpReferenceIdeal.Facts) (hUpDx : Cert.UpDx.Facts) (hUpDxIdeal : Cert.UpDxIdeal.Facts) (hUpDxReferenceIdeal : Cert.UpDxReferenceIdeal.Facts) (hUpDw : Cert.UpDw.Facts) (hUpDwIdeal : Cert.UpDwIdeal.Facts) (hUpDwReferenceIdeal : Cert.UpDwReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hOutNorm : Cert.OutNorm.Facts) (hOutNormIdeal : Cert.OutNormIdeal.Facts) (hOutNormReferenceIdeal : Cert.OutNormReferenceIdeal.Facts) (hDownNorm : Cert.DownNorm.Facts) (hDownNormIdeal : Cert.DownNormIdeal.Facts) (hDownNormReferenceIdeal : Cert.DownNormReferenceIdeal.Facts) (hFfnAct : Cert.FfnAct.Facts) (hFfnActIdeal : Cert.FfnActIdeal.Facts) (hFfnActReferenceIdeal : Cert.FfnActReferenceIdeal.Facts) (hFfnActGrad : Cert.FfnActGrad.Facts) (hFfnActGradIdeal : Cert.FfnActGradIdeal.Facts) (hFfnActGradReferenceIdeal : Cert.FfnActGradReferenceIdeal.Facts) (hFfnConvGrad : Cert.FfnConvGrad.Facts) (hFfnConvGradIdeal : Cert.FfnConvGradIdeal.Facts) (hFfnConvGradReferenceIdeal : Cert.FfnConvGradReferenceIdeal.Facts) (hNormGrad : Cert.NormGrad.Facts) (hNormGradIdeal : Cert.NormGradIdeal.Facts) (hNormGradReferenceIdeal : Cert.NormGradReferenceIdeal.Facts) (hNormTopGrad : Cert.NormTopGrad.Facts) (hNormTopGradIdeal : Cert.NormTopGradIdeal.Facts) (hNormTopGradReferenceIdeal : Cert.NormTopGradReferenceIdeal.Facts) (hLoss : Cert.Loss.Facts) (hLossIdeal : Cert.LossIdeal.Facts) (hLossReferenceIdeal : Cert.LossReferenceIdeal.Facts) (hMix : Cert.Mix.Facts) (hMixIdeal : Cert.MixIdeal.Facts) (hMixReferenceIdeal : Cert.MixReferenceIdeal.Facts) (hS5Out : Cert.S5Out.Facts) (hS5OutIdeal : Cert.S5OutIdeal.Facts) (hS5OutReferenceIdeal : Cert.S5OutReferenceIdeal.Facts) (hRope : Cert.Rope.Facts) (hRopeIdeal : Cert.RopeIdeal.Facts) (hRopeReferenceIdeal : Cert.RopeReferenceIdeal.Facts) (hRopeGrad : Cert.RopeGrad.Facts) (hRopeGradIdeal : Cert.RopeGradIdeal.Facts) (hRopeGradReferenceIdeal : Cert.RopeGradReferenceIdeal.Facts) (hS5Bu : Cert.S5Bu.Facts) (hS5BuIdeal : Cert.S5BuIdeal.Facts) (hS5BuReferenceIdeal : Cert.S5BuReferenceIdeal.Facts) (hS5Y : Cert.S5Y.Facts) (hS5YIdeal : Cert.S5YIdeal.Facts) (hS5YReferenceIdeal : Cert.S5YReferenceIdeal.Facts) (hS5Dx : Cert.S5Dx.Facts) (hS5DxIdeal : Cert.S5DxIdeal.Facts) (hS5DxReferenceIdeal : Cert.S5DxReferenceIdeal.Facts) (hS5Dc : Cert.S5Dc.Facts) (hS5DcIdeal : Cert.S5DcIdeal.Facts) (hS5DcReferenceIdeal : Cert.S5DcReferenceIdeal.Facts) (hS5Du : Cert.S5Du.Facts) (hS5DuIdeal : Cert.S5DuIdeal.Facts) (hS5DuReferenceIdeal : Cert.S5DuReferenceIdeal.Facts) (hS5Db : Cert.S5Db.Facts) (hS5DbIdeal : Cert.S5DbIdeal.Facts) (hS5DbReferenceIdeal : Cert.S5DbReferenceIdeal.Facts) (hLruConvGrad : Cert.LruConvGrad.Facts) (hLruConvGradIdeal : Cert.LruConvGradIdeal.Facts) (hLruConvGradReferenceIdeal : Cert.LruConvGradReferenceIdeal.Facts) (hAdamSmall : Cert.AdamSmall.Facts) (hAdamSmallIdeal : Cert.AdamSmallIdeal.Facts) (hAdamSmallReferenceIdeal : Cert.AdamSmallReferenceIdeal.Facts) (hAdamFfnConv : Cert.AdamFfnConv.Facts) (hAdamFfnConvIdeal : Cert.AdamFfnConvIdeal.Facts) (hAdamFfnConvReferenceIdeal : Cert.AdamFfnConvReferenceIdeal.Facts) (hAdamLruConv : Cert.AdamLruConv.Facts) (hAdamLruConvIdeal : Cert.AdamLruConvIdeal.Facts) (hAdamLruConvReferenceIdeal : Cert.AdamLruConvReferenceIdeal.Facts) (hPairSum : Cert.PairSum.Facts) (hPairSumIdeal : Cert.PairSumIdeal.Facts) (hPairSumReferenceIdeal : Cert.PairSumReferenceIdeal.Facts) (hS5Params : Cert.S5Params.Facts) (hS5ParamsIdeal : Cert.S5ParamsIdeal.Facts) (hS5ParamsReferenceIdeal : Cert.S5ParamsReferenceIdeal.Facts) (hS5ParamsGrad : Cert.S5ParamsGrad.Facts) (hS5ParamsGradIdeal : Cert.S5ParamsGradIdeal.Facts) (hS5ParamsGradReferenceIdeal : Cert.S5ParamsGradReferenceIdeal.Facts) (hS5OutGrad : Cert.S5OutGrad.Facts) (hS5OutGradIdeal : Cert.S5OutGradIdeal.Facts) (hS5OutGradReferenceIdeal : Cert.S5OutGradReferenceIdeal.Facts) (hPre_finite : Cert.Pre_finite.Facts) (hPre_finite_act : Cert.Pre_finite_act.Facts) (hPre_finite_norm : Cert.Pre_finite_norm.Facts) (hPre_finite_top : Cert.Pre_finite_top.Facts) (hPre_finite_s5 : Cert.Pre_finite_s5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjReferenceIdeal (hProjReferenceIdeal := hProjReferenceIdeal)
    ∧ quiescent_ProjDw (hProjDw := hProjDw)
    ∧ quiescent_ProjDwIdeal (hProjDwIdeal := hProjDwIdeal)
    ∧ quiescent_ProjDwReferenceIdeal (hProjDwReferenceIdeal := hProjDwReferenceIdeal)
    ∧ quiescent_ProjDh (hProjDh := hProjDh)
    ∧ quiescent_ProjDhIdeal (hProjDhIdeal := hProjDhIdeal)
    ∧ quiescent_ProjDhReferenceIdeal (hProjDhReferenceIdeal := hProjDhReferenceIdeal)
    ∧ quiescent_ProjDx (hProjDx := hProjDx)
    ∧ quiescent_ProjDxIdeal (hProjDxIdeal := hProjDxIdeal)
    ∧ quiescent_ProjDxReferenceIdeal (hProjDxReferenceIdeal := hProjDxReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_Up (hUp := hUp)
    ∧ quiescent_UpIdeal (hUpIdeal := hUpIdeal)
    ∧ quiescent_UpReferenceIdeal (hUpReferenceIdeal := hUpReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_OutNorm (hOutNorm := hOutNorm)
    ∧ quiescent_OutNormIdeal (hOutNormIdeal := hOutNormIdeal)
    ∧ quiescent_OutNormReferenceIdeal (hOutNormReferenceIdeal := hOutNormReferenceIdeal)
    ∧ quiescent_DownNorm (hDownNorm := hDownNorm)
    ∧ quiescent_DownNormIdeal (hDownNormIdeal := hDownNormIdeal)
    ∧ quiescent_DownNormReferenceIdeal (hDownNormReferenceIdeal := hDownNormReferenceIdeal)
    ∧ quiescent_FfnAct (hFfnAct := hFfnAct)
    ∧ quiescent_FfnActIdeal (hFfnActIdeal := hFfnActIdeal)
    ∧ quiescent_FfnActReferenceIdeal (hFfnActReferenceIdeal := hFfnActReferenceIdeal)
    ∧ quiescent_FfnActGrad (hFfnActGrad := hFfnActGrad)
    ∧ quiescent_FfnActGradIdeal (hFfnActGradIdeal := hFfnActGradIdeal)
    ∧ quiescent_FfnActGradIdeal_pre_finite_act (hFfnActGradIdeal := hFfnActGradIdeal) (hPre_finite_act := hPre_finite_act)
    ∧ quiescent_FfnActGradReferenceIdeal (hFfnActGradReferenceIdeal := hFfnActGradReferenceIdeal)
    ∧ quiescent_FfnActGradReferenceIdeal_pre_finite_act (hFfnActGradReferenceIdeal := hFfnActGradReferenceIdeal) (hPre_finite_act := hPre_finite_act)
    ∧ quiescent_FfnConvGrad (hFfnConvGrad := hFfnConvGrad)
    ∧ quiescent_FfnConvGradIdeal (hFfnConvGradIdeal := hFfnConvGradIdeal)
    ∧ quiescent_FfnConvGradReferenceIdeal (hFfnConvGradReferenceIdeal := hFfnConvGradReferenceIdeal)
    ∧ quiescent_NormGrad (hNormGrad := hNormGrad)
    ∧ quiescent_NormGradIdeal (hNormGradIdeal := hNormGradIdeal)
    ∧ quiescent_NormGradIdeal_pre_finite_norm (hNormGradIdeal := hNormGradIdeal) (hPre_finite_norm := hPre_finite_norm)
    ∧ quiescent_NormGradReferenceIdeal (hNormGradReferenceIdeal := hNormGradReferenceIdeal)
    ∧ quiescent_NormGradReferenceIdeal_pre_finite_norm (hNormGradReferenceIdeal := hNormGradReferenceIdeal) (hPre_finite_norm := hPre_finite_norm)
    ∧ quiescent_NormTopGrad (hNormTopGrad := hNormTopGrad)
    ∧ quiescent_NormTopGradIdeal (hNormTopGradIdeal := hNormTopGradIdeal)
    ∧ quiescent_NormTopGradIdeal_pre_finite_top (hNormTopGradIdeal := hNormTopGradIdeal) (hPre_finite_top := hPre_finite_top)
    ∧ quiescent_NormTopGradReferenceIdeal (hNormTopGradReferenceIdeal := hNormTopGradReferenceIdeal)
    ∧ quiescent_NormTopGradReferenceIdeal_pre_finite_top (hNormTopGradReferenceIdeal := hNormTopGradReferenceIdeal) (hPre_finite_top := hPre_finite_top)
    ∧ quiescent_Loss (hLoss := hLoss)
    ∧ quiescent_LossIdeal (hLossIdeal := hLossIdeal)
    ∧ quiescent_LossReferenceIdeal (hLossReferenceIdeal := hLossReferenceIdeal)
    ∧ quiescent_Mix (hMix := hMix)
    ∧ quiescent_MixIdeal (hMixIdeal := hMixIdeal)
    ∧ quiescent_MixReferenceIdeal (hMixReferenceIdeal := hMixReferenceIdeal)
    ∧ quiescent_S5Out (hS5Out := hS5Out)
    ∧ quiescent_S5OutIdeal (hS5OutIdeal := hS5OutIdeal)
    ∧ quiescent_S5OutReferenceIdeal (hS5OutReferenceIdeal := hS5OutReferenceIdeal)
    ∧ quiescent_Rope (hRope := hRope)
    ∧ quiescent_RopeIdeal (hRopeIdeal := hRopeIdeal)
    ∧ quiescent_RopeReferenceIdeal (hRopeReferenceIdeal := hRopeReferenceIdeal)
    ∧ quiescent_RopeGrad (hRopeGrad := hRopeGrad)
    ∧ quiescent_RopeGradIdeal (hRopeGradIdeal := hRopeGradIdeal)
    ∧ quiescent_RopeGradReferenceIdeal (hRopeGradReferenceIdeal := hRopeGradReferenceIdeal)
    ∧ quiescent_S5Bu (hS5Bu := hS5Bu)
    ∧ quiescent_S5BuIdeal (hS5BuIdeal := hS5BuIdeal)
    ∧ quiescent_S5BuReferenceIdeal (hS5BuReferenceIdeal := hS5BuReferenceIdeal)
    ∧ quiescent_S5Y (hS5Y := hS5Y)
    ∧ quiescent_S5YIdeal (hS5YIdeal := hS5YIdeal)
    ∧ quiescent_S5YReferenceIdeal (hS5YReferenceIdeal := hS5YReferenceIdeal)
    ∧ quiescent_S5Dx (hS5Dx := hS5Dx)
    ∧ quiescent_S5DxIdeal (hS5DxIdeal := hS5DxIdeal)
    ∧ quiescent_S5DxReferenceIdeal (hS5DxReferenceIdeal := hS5DxReferenceIdeal)
    ∧ quiescent_S5Dc (hS5Dc := hS5Dc)
    ∧ quiescent_S5DcIdeal (hS5DcIdeal := hS5DcIdeal)
    ∧ quiescent_S5DcReferenceIdeal (hS5DcReferenceIdeal := hS5DcReferenceIdeal)
    ∧ quiescent_S5Du (hS5Du := hS5Du)
    ∧ quiescent_S5DuIdeal (hS5DuIdeal := hS5DuIdeal)
    ∧ quiescent_S5DuReferenceIdeal (hS5DuReferenceIdeal := hS5DuReferenceIdeal)
    ∧ quiescent_S5Db (hS5Db := hS5Db)
    ∧ quiescent_S5DbIdeal (hS5DbIdeal := hS5DbIdeal)
    ∧ quiescent_S5DbReferenceIdeal (hS5DbReferenceIdeal := hS5DbReferenceIdeal)
    ∧ quiescent_LruConvGrad (hLruConvGrad := hLruConvGrad)
    ∧ quiescent_LruConvGradIdeal (hLruConvGradIdeal := hLruConvGradIdeal)
    ∧ quiescent_LruConvGradReferenceIdeal (hLruConvGradReferenceIdeal := hLruConvGradReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamFfnConv (hAdamFfnConv := hAdamFfnConv)
    ∧ quiescent_AdamFfnConvIdeal (hAdamFfnConvIdeal := hAdamFfnConvIdeal)
    ∧ quiescent_AdamFfnConvReferenceIdeal (hAdamFfnConvReferenceIdeal := hAdamFfnConvReferenceIdeal)
    ∧ quiescent_AdamLruConv (hAdamLruConv := hAdamLruConv)
    ∧ quiescent_AdamLruConvIdeal (hAdamLruConvIdeal := hAdamLruConvIdeal)
    ∧ quiescent_AdamLruConvReferenceIdeal (hAdamLruConvReferenceIdeal := hAdamLruConvReferenceIdeal)
    ∧ quiescent_PairSum (hPairSum := hPairSum)
    ∧ quiescent_PairSumIdeal (hPairSumIdeal := hPairSumIdeal)
    ∧ quiescent_PairSumReferenceIdeal (hPairSumReferenceIdeal := hPairSumReferenceIdeal)
    ∧ quiescent_S5Params (hS5Params := hS5Params)
    ∧ quiescent_S5ParamsIdeal (hS5ParamsIdeal := hS5ParamsIdeal)
    ∧ quiescent_S5ParamsReferenceIdeal (hS5ParamsReferenceIdeal := hS5ParamsReferenceIdeal)
    ∧ quiescent_S5ParamsGrad (hS5ParamsGrad := hS5ParamsGrad)
    ∧ quiescent_S5ParamsGradIdeal (hS5ParamsGradIdeal := hS5ParamsGradIdeal)
    ∧ quiescent_S5ParamsGradReferenceIdeal (hS5ParamsGradReferenceIdeal := hS5ParamsGradReferenceIdeal)
    ∧ quiescent_S5OutGrad (hS5OutGrad := hS5OutGrad)
    ∧ quiescent_S5OutGradIdeal (hS5OutGradIdeal := hS5OutGradIdeal)
    ∧ quiescent_S5OutGradIdeal_pre_finite_s5 (hS5OutGradIdeal := hS5OutGradIdeal) (hPre_finite_s5 := hPre_finite_s5)
    ∧ quiescent_S5OutGradReferenceIdeal (hS5OutGradReferenceIdeal := hS5OutGradReferenceIdeal)
    ∧ quiescent_S5OutGradReferenceIdeal_pre_finite_s5 (hS5OutGradReferenceIdeal := hS5OutGradReferenceIdeal) (hPre_finite_s5 := hPre_finite_s5)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjReferenceIdeal (hProjIdeal := hProjIdeal) (hProjReferenceIdeal := hProjReferenceIdeal)
    ∧ preserves_ProjDw_ProjDwIdeal
    ∧ algebraic_ProjDwIdeal_ProjDwReferenceIdeal (hProjDwIdeal := hProjDwIdeal) (hProjDwReferenceIdeal := hProjDwReferenceIdeal)
    ∧ preserves_ProjDh_ProjDhIdeal
    ∧ algebraic_ProjDhIdeal_ProjDhReferenceIdeal (hProjDhIdeal := hProjDhIdeal) (hProjDhReferenceIdeal := hProjDhReferenceIdeal)
    ∧ preserves_ProjDx_ProjDxIdeal
    ∧ algebraic_ProjDxIdeal_ProjDxReferenceIdeal (hProjDxIdeal := hProjDxIdeal) (hProjDxReferenceIdeal := hProjDxReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_Up_UpIdeal
    ∧ algebraic_UpIdeal_UpReferenceIdeal (hUpIdeal := hUpIdeal) (hUpReferenceIdeal := hUpReferenceIdeal)
    ∧ preserves_UpDx_UpDxIdeal
    ∧ algebraic_UpDxIdeal_UpDxReferenceIdeal (hUpDxIdeal := hUpDxIdeal) (hUpDxReferenceIdeal := hUpDxReferenceIdeal)
    ∧ preserves_UpDw_UpDwIdeal
    ∧ algebraic_UpDwIdeal_UpDwReferenceIdeal (hUpDwIdeal := hUpDwIdeal) (hUpDwReferenceIdeal := hUpDwReferenceIdeal)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_OutNorm_OutNormIdeal
    ∧ algebraic_OutNormIdeal_OutNormReferenceIdeal (hOutNormIdeal := hOutNormIdeal) (hOutNormReferenceIdeal := hOutNormReferenceIdeal)
    ∧ preserves_DownNorm_DownNormIdeal
    ∧ algebraic_DownNormIdeal_DownNormReferenceIdeal (hDownNormIdeal := hDownNormIdeal) (hDownNormReferenceIdeal := hDownNormReferenceIdeal)
    ∧ preserves_FfnAct_FfnActIdeal
    ∧ algebraic_FfnActIdeal_FfnActReferenceIdeal (hFfnActIdeal := hFfnActIdeal) (hFfnActReferenceIdeal := hFfnActReferenceIdeal)
    ∧ preserves_FfnActGrad_FfnActGradIdeal
    ∧ algebraic_FfnActGradIdeal_FfnActGradReferenceIdeal_pre_finite_act (hFfnActGradIdeal := hFfnActGradIdeal) (hFfnActGradReferenceIdeal := hFfnActGradReferenceIdeal) (hPre_finite_act := hPre_finite_act)
    ∧ preserves_FfnConvGrad_FfnConvGradIdeal
    ∧ algebraic_FfnConvGradIdeal_FfnConvGradReferenceIdeal (hFfnConvGradIdeal := hFfnConvGradIdeal) (hFfnConvGradReferenceIdeal := hFfnConvGradReferenceIdeal)
    ∧ preserves_NormGrad_NormGradIdeal
    ∧ algebraic_NormGradIdeal_NormGradReferenceIdeal_pre_finite_norm (hNormGradIdeal := hNormGradIdeal) (hNormGradReferenceIdeal := hNormGradReferenceIdeal) (hPre_finite_norm := hPre_finite_norm)
    ∧ preserves_NormTopGrad_NormTopGradIdeal
    ∧ algebraic_NormTopGradIdeal_NormTopGradReferenceIdeal_pre_finite_top (hNormTopGradIdeal := hNormTopGradIdeal) (hNormTopGradReferenceIdeal := hNormTopGradReferenceIdeal) (hPre_finite_top := hPre_finite_top)
    ∧ preserves_Loss_LossIdeal
    ∧ algebraic_LossIdeal_LossReferenceIdeal (hLossIdeal := hLossIdeal) (hLossReferenceIdeal := hLossReferenceIdeal)
    ∧ preserves_Mix_MixIdeal
    ∧ algebraic_MixIdeal_MixReferenceIdeal (hMixIdeal := hMixIdeal) (hMixReferenceIdeal := hMixReferenceIdeal)
    ∧ preserves_S5Out_S5OutIdeal
    ∧ algebraic_S5OutIdeal_S5OutReferenceIdeal (hS5OutIdeal := hS5OutIdeal) (hS5OutReferenceIdeal := hS5OutReferenceIdeal)
    ∧ preserves_Rope_RopeIdeal
    ∧ algebraic_RopeIdeal_RopeReferenceIdeal (hRopeIdeal := hRopeIdeal) (hRopeReferenceIdeal := hRopeReferenceIdeal)
    ∧ preserves_RopeGrad_RopeGradIdeal
    ∧ algebraic_RopeGradIdeal_RopeGradReferenceIdeal (hRopeGradIdeal := hRopeGradIdeal) (hRopeGradReferenceIdeal := hRopeGradReferenceIdeal)
    ∧ preserves_S5Bu_S5BuIdeal
    ∧ algebraic_S5BuIdeal_S5BuReferenceIdeal (hS5BuIdeal := hS5BuIdeal) (hS5BuReferenceIdeal := hS5BuReferenceIdeal)
    ∧ preserves_S5Y_S5YIdeal
    ∧ algebraic_S5YIdeal_S5YReferenceIdeal (hS5YIdeal := hS5YIdeal) (hS5YReferenceIdeal := hS5YReferenceIdeal)
    ∧ preserves_S5Dx_S5DxIdeal
    ∧ algebraic_S5DxIdeal_S5DxReferenceIdeal (hS5DxIdeal := hS5DxIdeal) (hS5DxReferenceIdeal := hS5DxReferenceIdeal)
    ∧ preserves_S5Dc_S5DcIdeal
    ∧ algebraic_S5DcIdeal_S5DcReferenceIdeal (hS5DcIdeal := hS5DcIdeal) (hS5DcReferenceIdeal := hS5DcReferenceIdeal)
    ∧ preserves_S5Du_S5DuIdeal
    ∧ algebraic_S5DuIdeal_S5DuReferenceIdeal (hS5DuIdeal := hS5DuIdeal) (hS5DuReferenceIdeal := hS5DuReferenceIdeal)
    ∧ preserves_S5Db_S5DbIdeal
    ∧ algebraic_S5DbIdeal_S5DbReferenceIdeal (hS5DbIdeal := hS5DbIdeal) (hS5DbReferenceIdeal := hS5DbReferenceIdeal)
    ∧ preserves_LruConvGrad_LruConvGradIdeal
    ∧ algebraic_LruConvGradIdeal_LruConvGradReferenceIdeal (hLruConvGradIdeal := hLruConvGradIdeal) (hLruConvGradReferenceIdeal := hLruConvGradReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamFfnConv_AdamFfnConvIdeal
    ∧ algebraic_AdamFfnConvIdeal_AdamFfnConvReferenceIdeal (hAdamFfnConvIdeal := hAdamFfnConvIdeal) (hAdamFfnConvReferenceIdeal := hAdamFfnConvReferenceIdeal)
    ∧ preserves_AdamLruConv_AdamLruConvIdeal
    ∧ algebraic_AdamLruConvIdeal_AdamLruConvReferenceIdeal (hAdamLruConvIdeal := hAdamLruConvIdeal) (hAdamLruConvReferenceIdeal := hAdamLruConvReferenceIdeal)
    ∧ preserves_PairSum_PairSumIdeal
    ∧ algebraic_PairSumIdeal_PairSumReferenceIdeal (hPairSumIdeal := hPairSumIdeal) (hPairSumReferenceIdeal := hPairSumReferenceIdeal)
    ∧ preserves_S5Params_S5ParamsIdeal
    ∧ algebraic_S5ParamsIdeal_S5ParamsReferenceIdeal (hS5ParamsIdeal := hS5ParamsIdeal) (hS5ParamsReferenceIdeal := hS5ParamsReferenceIdeal)
    ∧ preserves_S5ParamsGrad_S5ParamsGradIdeal
    ∧ algebraic_S5ParamsGradIdeal_S5ParamsGradReferenceIdeal (hS5ParamsGradIdeal := hS5ParamsGradIdeal) (hS5ParamsGradReferenceIdeal := hS5ParamsGradReferenceIdeal)
    ∧ preserves_S5OutGrad_S5OutGradIdeal
    ∧ algebraic_S5OutGradIdeal_S5OutGradReferenceIdeal_pre_finite_s5 (hS5OutGradIdeal := hS5OutGradIdeal) (hS5OutGradReferenceIdeal := hS5OutGradReferenceIdeal) (hPre_finite_s5 := hPre_finite_s5)
-- ==== Pre_finite.lean ====
abbrev S4096x384 : Shape := ⟨2, ![4096, 384]⟩
abbrev S4096x2304 : Shape := ⟨2, ![4096, 2304]⟩
abbrev S_ : Shape := ⟨0, ![]⟩

class Facts : Prop where
  bcast_S_S4096x384 : S_.BroadcastsInDim S4096x384 (![] : Fin 0 → Fin S4096x384.rank)
  reducesTo_S4096x384_S_d0_1 : S4096x384.ReducesTo [0, 1] S_
  h_S_ : 0 < S_.numel
  bcast_S_S4096x2304 : S_.BroadcastsInDim S4096x2304 (![] : Fin 0 → Fin S4096x2304.rank)
  reducesTo_S4096x2304_S_d0_1 : S4096x2304.ReducesTo [0, 1] S_

variable [Facts]

def fn_part1 {F : FTy → Type} [FloatOps F] (main_v14 : IVec S_ 1) (main_v15 : FVec F S4096x384 .f32) (main_cst_5 : FVec F S_ .f32) : IVec S_ 1 :=
  let main_v16 : FVec F S4096x384 .f32 := broadcastInDim S4096x384 ![] bcast_S_S4096x384 main_cst_5
  let main_v17 : IVec S4096x384 1 := cmpf .olt main_v15 main_v16
  let main_c_6 : IVec S_ 1 := constantI S_ 1 1#1
  let main_v18 : IVec S_ 1 := (fun x v => Host.reduce IntOp.andi x v reducesTo_S4096x384_S_d0_1 h_S_) main_v17 main_c_6
  let main_v19 : IVec S_ 1 := andi main_v14 main_v18
  main_v19

def fn {F : FTy → Type} [FloatOps F] (main_arg0 : FVec F S4096x384 .f32) (main_arg1 : FVec F S4096x2304 .f32) (main_arg2 : FVec F S4096x384 .f32) (main_arg3 : FVec F S4096x384 .f32) : IVec S_ 1 :=
  let main_v0 : FVec F S4096x384 .f32 := Host.absf main_arg0
  let main_cst : FVec F S_ .f32 := constant S_ .f32 0x7F800000#32
  let main_v1 : FVec F S4096x384 .f32 := broadcastInDim S4096x384 ![] bcast_S_S4096x384 main_cst
  let main_v2 : IVec S4096x384 1 := cmpf .olt main_v0 main_v1
  let main_c : IVec S_ 1 := constantI S_ 1 1#1
  let main_v3 : IVec S_ 1 := (fun x v => Host.reduce IntOp.andi x v reducesTo_S4096x384_S_d0_1 h_S_) main_v2 main_c
  let main_c_0 : IVec S_ 1 := constantI S_ 1 1#1
  let main_v4 : IVec S_ 1 := andi main_c_0 main_v3
  let main_v5 : FVec F S4096x2304 .f32 := Host.absf main_arg1
  let main_cst_1 : FVec F S_ .f32 := constant S_ .f32 0x7F800000#32
  let main_v6 : FVec F S4096x2304 .f32 := broadcastInDim S4096x2304 ![] bcast_S_S4096x2304 main_cst_1
  let main_v7 : IVec S4096x2304 1 := cmpf .olt main_v5 main_v6
  let main_c_2 : IVec S_ 1 := constantI S_ 1 1#1
  let main_v8 : IVec S_ 1 := (fun x v => Host.reduce IntOp.andi x v reducesTo_S4096x2304_S_d0_1 h_S_) main_v7 main_c_2
  let main_v9 : IVec S_ 1 := andi main_v4 main_v8
  let main_v10 : FVec F S4096x384 .f32 := Host.absf main_arg2
  let main_cst_3 : FVec F S_ .f32 := constant S_ .f32 0x7F800000#32
  let main_v11 : FVec F S4096x384 .f32 := broadcastInDim S4096x384 ![] bcast_S_S4096x384 main_cst_3
  let main_v12 : IVec S4096x384 1 := cmpf .olt main_v10 main_v11
  let main_c_4 : IVec S_ 1 := constantI S_ 1 1#1
  let main_v13 : IVec S_ 1 := (fun x v => Host.reduce IntOp.andi x v reducesTo_S4096x384_S_d0_1 h_S_) main_v12 main_c_4
  let main_v14 : IVec S_ 1 := andi main_v9 main_v13
  let main_v15 : FVec F S4096x384 .f32 := Host.absf main_arg3
  let main_cst_5 : FVec F S_ .f32 := constant S_ .f32 0x7F800000#32
  fn_part1 (F := F) main_v14 main_v15 main_cst_5
-- ==== Pre_finite_act.lean ====
abbrev S4096x3072 : Shape := ⟨2, ![4096, 3072]⟩
abbrev S4096x6144 : Shape := ⟨2, ![4096, 6144]⟩
abbrev S3x6144 : Shape := ⟨2, ![3, 6144]⟩
abbrev S6144 : Shape := ⟨1, ![6144]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x6144 : S_.BroadcastsInDim S4096x6144 (![] : Fin 0 → Fin S4096x6144.rank)
  reducesTo_S4096x6144_S_d0_1 : S4096x6144.ReducesTo [0, 1] S_
  bcast_S_S3x6144 : S_.BroadcastsInDim S3x6144 (![] : Fin 0 → Fin S3x6144.rank)
  reducesTo_S3x6144_S_d0_1 : S3x6144.ReducesTo [0, 1] S_
  bcast_S_S6144 : S_.BroadcastsInDim S6144 (![] : Fin 0 → Fin S6144.rank)
  reducesTo_S6144_S_d0 : S6144.ReducesTo [0] S_

variable [Facts]

def fn_part1 {F : FTy → Type} [FloatOps F] (main_v15 : IVec S_ 1) (main_v16 : FVec F S6144 .f32) : IVec S_ 1 :=
  let main_cst_5 : FVec F S_ .f32 := constant S_ .f32 0x7F800000#32
  let main_v17 : FVec F S6144 .f32 := broadcastInDim S6144 ![] bcast_S_S6144 main_cst_5
  let main_v18 : IVec S6144 1 := cmpf .olt main_v16 main_v17
  let main_c_6 : IVec S_ 1 := constantI S_ 1 1#1
  let main_v19 : IVec S_ 1 := (fun x v => Host.reduce IntOp.andi x v reducesTo_S6144_S_d0 h_S_) main_v18 main_c_6
  let main_v20 : IVec S_ 1 := andi main_v15 main_v19
  main_v20

def fn {F : FTy → Type} [FloatOps F] (main_arg0 : FVec F S4096x3072 .bf16) (main_arg1 : FVec F S4096x6144 .f32) (main_arg2 : FVec F S3x6144 .f32) (main_arg3 : FVec F S6144 .f32) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_c_0 : IVec S_ 1 := constantI S_ 1 1#1
  let main_v5 : IVec S_ 1 := andi main_c_0 main_v4
  let main_v6 : FVec F S4096x6144 .f32 := Host.absf main_arg1
  let main_cst_1 : FVec F S_ .f32 := constant S_ .f32 0x7F800000#32
  let main_v7 : FVec F S4096x6144 .f32 := broadcastInDim S4096x6144 ![] bcast_S_S4096x6144 main_cst_1
  let main_v8 : IVec S4096x6144 1 := cmpf .olt main_v6 main_v7
  let main_c_2 : IVec S_ 1 := constantI S_ 1 1#1
  let main_v9 : IVec S_ 1 := (fun x v => Host.reduce IntOp.andi x v reducesTo_S4096x6144_S_d0_1 h_S_) main_v8 main_c_2
  let main_v10 : IVec S_ 1 := andi main_v5 main_v9
  let main_v11 : FVec F S3x6144 .f32 := Host.absf main_arg2
  let main_cst_3 : FVec F S_ .f32 := constant S_ .f32 0x7F800000#32
  let main_v12 : FVec F S3x6144 .f32 := broadcastInDim S3x6144 ![] bcast_S_S3x6144 main_cst_3
  let main_v13 : IVec S3x6144 1 := cmpf .olt main_v11 main_v12
  let main_c_4 : IVec S_ 1 := constantI S_ 1 1#1
  let main_v14 : IVec S_ 1 := (fun x v => Host.reduce IntOp.andi x v reducesTo_S3x6144_S_d0_1 h_S_) main_v13 main_c_4
  let main_v15 : IVec S_ 1 := andi main_v10 main_v14
  let main_v16 : FVec F S6144 .f32 := Host.absf main_arg3
  fn_part1 (F := F) main_v15 main_v16
-- ==== Pre_finite_norm.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  let main_v20 : FVec F S1024 .f32 := Host.absf main_arg4
  let main_cst_7 : FVec F S_ .f32 := constant S_ .f32 0x7F800000#32
  let main_v21 : FVec F S1024 .f32 := broadcastInDim S1024 ![] bcast_S_S1024 main_cst_7
  let main_v22 : IVec S1024 1 := cmpf .olt main_v20 main_v21
  let main_c_8 : IVec S_ 1 := constantI S_ 1 1#1
  let main_v23 : IVec S_ 1 := (fun x v => Host.reduce IntOp.andi x v reducesTo_S1024_S_d0 h_S_) main_v22 main_c_8
  let main_v24 : IVec S_ 1 := andi main_v19 main_v23
  main_v24

def fn {F : FTy → Type} [FloatOps F] (main_arg0 : FVec F S4096x1024 .f32) (main_arg1 : FVec F S4096x1024 .f32) (main_arg2 : FVec F S4096x1024 .f32) (main_arg3 : FVec F S1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S4096x1024 .f32 := Host.absf main_arg1
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_v5 main_v6
  let main_c_2 : IVec S_ 1 := constantI S_ 1 1#1
  let main_v8 : IVec S_ 1 := (fun x v => Host.reduce IntOp.andi x v reducesTo_S4096x1024_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_arg4 main_v14 main_v15 main_cst_5
-- ==== Pre_finite_s5.lean ====
abbrev S4096x256 : Shape := ⟨2, ![4096, 256]⟩
abbrev S4096x2304 : Shape := ⟨2, ![4096, 2304]⟩
abbrev S256 : Shape := ⟨1, ![256]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bitsLt_bf16_f32 : FTy.bits .bf16 < FTy.bits .f32
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S4096x256 .f32) (main_arg2 : FVec F S4096x2304 .f32) (main_arg3 : FVec F S256 .f32) (main_arg4 : FVec F S256x256 .bf16) (main_arg5 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_c_0 : IVec S_ 1 := constantI S_ 1 1#1
  let main_v4 : IVec S_ 1 := andi main_c_0 main_v3
  let main_v5 : FVec F S4096x256 .f32 := Host.absf main_arg1
  let main_cst_1 : FVec F S_ .f32 := constant S_ .f32 0x7F800000#32
  let main_v6 : FVec F S4096x256 .f32 := broadcastInDim S4096x256 ![] bcast_S_S4096x256 main_cst_1
  let main_v7 : IVec S4096x256 1 := cmpf .olt main_v5 main_v6
  let main_c_2 : IVec S_ 1 := constantI S_ 1 1#1
  let main_v8 : IVec S_ 1 := (fun x v => Host.reduce IntOp.andi x v reducesTo_S4096x256_S_d0_1 h_S_) main_v7 main_c_2
  let main_v9 : IVec S_ 1 := andi main_v4 main_v8
  let main_v10 : FVec F S256x256 .f32 := (extf .f32 · bitsLt_bf16_f32) main_arg4
  let main_v11 : FVec F S256x256 .f32 := Host.absf main_v10
  let main_cst_3 : FVec F S_ .f32 := constant S_ .f32 0x7F800000#32
  let main_v12 : FVec F S256x256 .f32 := broadcastInDim S256x256 ![] bcast_S_S256x256 main_cst_3
  let main_v13 : IVec S256x256 1 := cmpf .olt main_v11 main_v12
  let main_c_4 : IVec S_ 1 := constantI S_ 1 1#1
  let main_v14 : IVec S_ 1 := (fun x v => Host.reduce IntOp.andi x v reducesTo_S256x256_S_d0_1 h_S_) main_v13 main_c_4
  let main_v15 : IVec S_ 1 := andi main_v9 main_v14
  main_v15
-- ==== Pre_finite_top.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  main_v19

def fn {F : FTy → Type} [FloatOps F] (main_arg0 : FVec F S4096x1024 .f32) (main_arg1 : FVec F S4096x1024 .f32) (main_arg2 : FVec F S1024 .f32) (main_arg3 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S4096x1024 .f32 := Host.absf main_arg1
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_v5 main_v6
  let main_c_2 : IVec S_ 1 := constantI S_ 1 1#1
  let main_v8 : IVec S_ 1 := (fun x v => Host.reduce IntOp.andi x v reducesTo_S4096x1024_S_d0_1 h_S_) main_v7 main_c_2
  let main_v9 : IVec S_ 1 := andi main_v4 main_v8
  let main_v10 : FVec F S1024 .f32 := Host.absf main_arg2
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_v14 main_v15 main_cst_5
-- ==== Kernel.lean ====
abbrev S4096x384 : Shape := ⟨2, ![4096, 384]⟩
abbrev S4096x2304 : Shape := ⟨2, ![4096, 2304]⟩
abbrev S512x384 : Shape := ⟨2, ![512, 384]⟩
abbrev S8x384 : Shape := ⟨2, ![8, 384]⟩
abbrev S1x384 : Shape := ⟨2, ![1, 384]⟩

abbrev nBuf : Space → Nat
  | .hbm => 6
  | .vmem => 13
  | .smem => 0
  | _ => 0

abbrev bufTy : (tb : Table) → Fin (tcTables nBuf tb) → BufTy
  | .hbm, ⟨0, _⟩ => ⟨S4096x384, .f32⟩
  | .hbm, ⟨1, _⟩ => ⟨S4096x2304, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S4096x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S8x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_3 : BitVec 32 := 0#32
  let c64_i32 : BitVec 32 := 64#32
  let v6 : BitVec 32 := Scalar.addi c0_i32_3 c64_i32
  let c1_i32 : BitVec 32 := 1#32
  ⟨c0_i32_3, v6, c1_i32⟩
def k0_mult1 (k0_t1 : Fin k0_t1_loop.trips) : BitVec 32 :=
  let c63_i32 : BitVec 32 := 63#32
  let c0_i32_3 : BitVec 32 := 0#32
  let c1_i32 : BitVec 32 := 1#32
  let arg8 : BitVec 32 := Scf.iv c0_i32_3 c1_i32 k0_t1
  let v14 : BitVec 32 := Scalar.subi c63_i32 arg8
  let c8_i32 : BitVec 32 := 8#32
  let v15 : BitVec 32 := Scalar.muli v14 c8_i32
  v15
def k0_off1 (k0_t1 : Fin k0_t1_loop.trips) : Fin 2 → Nat :=
  let c63_i32 : BitVec 32 := 63#32
  let c0_i32_3 : BitVec 32 := 0#32
  let c1_i32 : BitVec 32 := 1#32
  let arg8 : BitVec 32 := Scf.iv c0_i32_3 c1_i32 k0_t1
  let v14 : BitVec 32 := Scalar.subi c63_i32 arg8
  let c8_i32 : BitVec 32 := 8#32
  let v15 : BitVec 32 := Scalar.muli v14 c8_i32
  let v16 : BitVec 32 := v15
  let v17 : Index := Scalar.indexCast v16
  let c0_9 : Index := 0#32
  ![v17.toNat, 0]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S4096x384 : Shape := ⟨2, ![4096, 384]⟩
abbrev S4096x2304 : Shape := ⟨2, ![4096, 2304]⟩
abbrev S_ : Shape := ⟨0, ![]⟩
abbrev S384 : Shape := ⟨1, ![384]⟩
abbrev S1x384 : Shape := ⟨2, ![1, 384]⟩

abbrev nBuf : Space → Nat
  | .hbm => 112
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x2304, .f32⟩
  | .hbm, ⟨2, _⟩ => ⟨S4096x384, .f32⟩
  | .hbm, ⟨3, _⟩ => ⟨S4096x384, .f32⟩
  | .hbm, ⟨4, _⟩ => ⟨S4096x384, .f32⟩
  | .hbm, ⟨5, _⟩ => ⟨S_, .f32⟩
  | .hbm, ⟨6, _⟩ => ⟨S4096x384, .f32⟩
  | .hbm, ⟨7, _⟩ => ⟨S4096x384, .f32⟩
  | .hbm, ⟨8, _⟩ => ⟨S4096x384, .f32⟩
  | .hbm, ⟨9, _⟩ => ⟨S4096x384, .f32⟩
  | .hbm, ⟨10, _⟩ => ⟨S_, .f32⟩
  | .hbm, ⟨11, _⟩ => ⟨S4096x384, .f32⟩
  | .hbm, ⟨12, _⟩ => ⟨S4096x384, .f32⟩
  | .hbm, ⟨13, _⟩ => ⟨S_, .f32⟩
  | .hbm, ⟨14, _⟩ => ⟨S4096x384, .f32⟩
  | .hbm, ⟨15, _⟩ => ⟨S4096x384, .f32⟩
  | .hbm, ⟨16, _⟩ => ⟨S4096x384, .f32⟩
  | .hbm, ⟨17, _⟩ => ⟨S_, .f32⟩
  | .hbm, ⟨18, _⟩ => ⟨S4096x384, .f32⟩
  | .hbm, ⟨19, _⟩ => ⟨S4096x384, .f32⟩
  | .hbm, ⟨20, _⟩ => ⟨S4096x384, .f32⟩
  | .hbm, ⟨21, _⟩ => ⟨S_, .f32⟩
  | .hbm, ⟨22, _⟩ => ⟨S4096x384, .f32⟩
  | .hbm, ⟨23, _⟩ => ⟨S4096x384, .f32⟩
  | .hbm, ⟨24, _⟩ => ⟨S4096x384, .f32⟩
  | .hbm, ⟨25, _⟩ => ⟨S4096x384, .f32⟩
  | .hbm, ⟨26, _⟩ => ⟨S4096x384, .f32⟩
  | .hbm, ⟨27, _⟩ => ⟨S_, .f32⟩
  | .hbm, ⟨28, _⟩ => ⟨S384, .f32⟩
  | .hbm, ⟨29, _⟩ => ⟨S4096x384, .f32⟩
  | .hbm, ⟨30, _⟩ => ⟨S_, .f32⟩
  | .hbm, ⟨31, _⟩ => ⟨S384, .f32⟩
  | .hbm, ⟨32, _⟩ => ⟨S_, .f32⟩
  | .hbm, ⟨33, _⟩ => ⟨S4096x384, .f32⟩
  | .hbm, ⟨34, _⟩ => ⟨S_, .i32⟩
  | .hbm, ⟨35, _⟩ => ⟨S4096x384, .f32⟩
  | .hbm, ⟨36, _⟩ => ⟨S4096x384, .f32⟩
  | .hbm, ⟨37, _⟩ => ⟨S_, .i32⟩
  | .hbm, ⟨38, _⟩ => ⟨S384, .f32⟩
  | .hbm, ⟨39, _⟩ => ⟨S4096x384, .f32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x384, .f32⟩
  | .hbm, ⟨48, _⟩ => ⟨S384, .f32⟩
  | .hbm, ⟨49, _⟩ => ⟨S_, .i32⟩
  | .hbm, ⟨50, _⟩ => ⟨S1x384, .f32⟩
  | .hbm, ⟨51, _⟩ => ⟨S384, .f32⟩
  | .hbm, ⟨52, _⟩ => ⟨S384, .f32⟩
  | .hbm, ⟨53, _⟩ => ⟨S384, .f32⟩
  | .hbm, ⟨54, _⟩ => ⟨S1x384, .f32⟩
  | .hbm, ⟨55, _⟩ => ⟨S_, .i32⟩
  | .hbm, ⟨56, _⟩ => ⟨S4096x384, .f32⟩
  | .hbm, ⟨57, _⟩ => ⟨S_, .i32⟩
  | .hbm, ⟨58, _⟩ => ⟨S_, .i32⟩
  | .hbm, ⟨59, _⟩ => ⟨S4096x384, .f32⟩
  | .hbm, ⟨60, _⟩ => ⟨S_, .f32⟩
  | .hbm, ⟨61, _⟩ => ⟨S4096x384, .f32⟩
  | .hbm, ⟨62, _⟩ => ⟨S4096x384, .f32⟩
  | .hbm, ⟨63, _⟩ => ⟨S4096x384, .f32⟩
  | .hbm, ⟨64, _⟩ => ⟨S4096x384, .f32⟩
  | .hbm, ⟨65, _⟩ => ⟨S_, .f32⟩
  | .hbm, ⟨66, _⟩ => ⟨S4096x384, .f32⟩
  | .hbm, ⟨67, _⟩ => ⟨S4096x384, .f32⟩
  | .hbm, ⟨68, _⟩ => ⟨S_, .f32⟩
  | .hbm, ⟨69, _⟩ => ⟨S4096x384, .f32⟩
  | .hbm, ⟨70, _⟩ => ⟨S4096x384, .f32⟩
  | .hbm, ⟨71, _⟩ => ⟨S4096x384, .f32⟩
  | .hbm, ⟨72, _⟩ => ⟨S_, .f32⟩
  | .hbm, ⟨73, _⟩ => ⟨S4096x384, .f32⟩
  | .hbm, ⟨74, _⟩ => ⟨S4096x384, .f32⟩
  | .hbm, ⟨75, _⟩ => ⟨S4096x384, .f32⟩
  | .hbm, ⟨76, _⟩ => ⟨S_, .f32⟩
  | .hbm, ⟨77, _⟩ => ⟨S4096x384, .f32⟩
  | .hbm, ⟨78, _⟩ => ⟨S4096x384, .f32⟩
  | .hbm, ⟨79, _⟩ => ⟨S_, .f32⟩
  | .hbm, ⟨80, _⟩ => ⟨S4096x384, .f32⟩
  | .hbm, ⟨81, _⟩ => ⟨S4096x384, .f32⟩
  | .hbm, ⟨82, _⟩ => ⟨S4096x384, .f32⟩
  | .hbm, ⟨83, _⟩ => ⟨S_, .f32⟩
  | .hbm, ⟨84, _⟩ => ⟨S4096x384, .f32⟩
  | .hbm, ⟨85, _⟩ => ⟨S4096x384, .f32⟩
  | .hbm, ⟨86, _⟩ => ⟨S4096x384, .f32⟩
  | .hbm, ⟨87, _⟩ => ⟨S4096x384, .f32⟩
  | .hbm, ⟨88, _⟩ => ⟨S4096x384, .f32⟩
  | .hbm, ⟨89, _⟩ => ⟨S4096x384, .f32⟩
  | .hbm, ⟨90, _⟩ => ⟨S4096x384, .f32⟩
  | .hbm, ⟨91, _⟩ => ⟨S4096x384, .f32⟩
  | .hbm, ⟨92, _⟩ => ⟨S_, .f32⟩
  | .hbm, ⟨93, _⟩ => ⟨S4096x384, .f32⟩
  | .hbm, ⟨94, _⟩ => ⟨S4096x384, .f32⟩
  | .hbm, ⟨95, _⟩ => ⟨S_, .f32⟩
  | .hbm, ⟨96, _⟩ => ⟨S4096x384, .f32⟩
  | .hbm, ⟨97, _⟩ => ⟨S4096x384, .f32⟩
  | .hbm, ⟨98, _⟩ => ⟨S_, .f32⟩
  | .hbm, ⟨99, _⟩ => ⟨S4096x384, .f32⟩
  | .hbm, ⟨100, _⟩ => ⟨S4096x384, .f32⟩
  | .hbm, ⟨101, _⟩ => ⟨S4096x384, .f32⟩
  | .hbm, ⟨102, _⟩ => ⟨S4096x384, .f32⟩
  | .hbm, ⟨103, _⟩ => ⟨S4096x384, .f32⟩
  | .hbm, ⟨104, _⟩ => ⟨S4096x384, .f32⟩
  | .hbm, ⟨105, _⟩ => ⟨S4096x384, .f32⟩
  | .hbm, ⟨106, _⟩ => ⟨S4096x384, .f32⟩
  | .hbm, ⟨107, _⟩ => ⟨S4096x384, .f32⟩
  | .hbm, ⟨108, _⟩ => ⟨S_, .f32⟩
  | .hbm, ⟨109, _⟩ => ⟨S4096x384, .f32⟩
  | .hbm, ⟨110, _⟩ => ⟨S4096x384, .f32⟩
  | .hbm, ⟨111, _⟩ => ⟨S4096x384, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_c : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev main_v22_4 : Ref sig .tc := ⟨.hbm, 39, rfl⟩
abbrev main_while0c_c_22 : Ref sig .tc := ⟨.hbm, 40, rfl⟩
abbrev main_while0c_v65 : Ref sig .tc := ⟨.hbm, 41, rfl⟩
abbrev main_while0b_c_22 : Ref sig .tc := ⟨.hbm, 42, rfl⟩
abbrev main_while0b_v65 : Ref sig .tc := ⟨.hbm, 43, rfl⟩
abbrev main_while0b_c_23 : Ref sig .tc := ⟨.hbm, 44, rfl⟩
abbrev main_while0b_v66 : Ref sig .tc := ⟨.hbm, 45, rfl⟩
abbrev main_while0b_call0_c : Ref sig .tc := ⟨.hbm, 46, rfl⟩
abbrev main_while0b_call0_v0 : Ref sig .tc := ⟨.hbm, 47, rfl⟩
abbrev main_while0b_v67 : Ref sig .tc := ⟨.hbm, 48, rfl⟩
abbrev main_while0b_call1_c : Ref sig .tc := ⟨.hbm, 49, rfl⟩
abbrev main_while0b_call1_v0 : Ref sig .tc := ⟨.hbm, 50, rfl⟩
abbrev main_while0b_v68 : Ref sig .tc := ⟨.hbm, 51, rfl⟩
abbrev main_while0b_v69 : Ref sig .tc := ⟨.hbm, 52, rfl⟩
abbrev main_while0b_v70 : Ref sig .tc := ⟨.hbm, 53, rfl⟩
abbrev main_while0b_call2_v0 : Ref sig .tc := ⟨.hbm, 54, rfl⟩
abbrev main_while0b_call2_c : Ref sig .tc := ⟨.hbm, 55, rfl⟩
abbrev main_while0b_v71 : Ref sig .tc := ⟨.hbm, 56, rfl⟩
abbrev main_while0b_c_24 : Ref sig .tc := ⟨.hbm, 57, rfl⟩
abbrev main_while0b_v72 : Ref sig .tc := ⟨.hbm, 58, rfl⟩
abbrev main_v23 : Ref sig .tc := ⟨.hbm, 59, rfl⟩
abbrev main_cst_7 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_8 : Ref sig .tc := ⟨.hbm, 65, rfl⟩
abbrev main_v28 : Ref sig .tc := ⟨.hbm, 66, rfl⟩
abbrev main_v29 : Ref sig .tc := ⟨.hbm, 67, rfl⟩
abbrev main_cst_9 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_10 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_11 : Ref sig .tc := ⟨.hbm, 76, rfl⟩
abbrev main_v36 : Ref sig .tc := ⟨.hbm, 77, rfl⟩
abbrev main_v37 : Ref sig .tc := ⟨.hbm, 78, rfl⟩
abbrev main_cst_12 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_13 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_14 : Ref sig .tc := ⟨.hbm, 92, rfl⟩
abbrev main_v49 : Ref sig .tc := ⟨.hbm, 93, rfl⟩
abbrev main_v50 : Ref sig .tc := ⟨.hbm, 94, rfl⟩
abbrev main_cst_15 : Ref sig .tc := ⟨.hbm, 95, rfl⟩
abbrev main_v51 : Ref sig .tc := ⟨.hbm, 96, rfl⟩
abbrev main_v52 : Ref sig .tc := ⟨.hbm, 97, rfl⟩
abbrev main_cst_16 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_17 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩

abbrev nD : Nat := 1
abbrev τ : Topo := Topo.v7x

variable {F : FTy → Type} [FloatOps F]

abbrev main_while0_count : Scf.Loop 32 := ⟨0#32, 4096#32, 1#32⟩
-- ==== Proj.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S4096x2304, .f32⟩
  | .local _ .vmem, ⟨0, _⟩ => ⟨S1024x1024, .f32⟩
  | .local _ .vmem, ⟨1, _⟩ => ⟨S1024x1024, .f32⟩
  | .local _ .vmem, ⟨2, _⟩ => ⟨S1024x2304, .bf16⟩
  | .local _ .vmem, ⟨3, _⟩ => ⟨S1024x2304, .f32⟩
  | .local _ .vmem, ⟨4, _⟩ => ⟨S1024x2304, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjIdeal.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S4096x2304, .f32⟩
  | .local _ .vmem, ⟨0, _⟩ => ⟨S1024x1024, .f32⟩
  | .local _ .vmem, ⟨1, _⟩ => ⟨S1024x1024, .f32⟩
  | .local _ .vmem, ⟨2, _⟩ => ⟨S1024x2304, .bf16⟩
  | .local _ .vmem, ⟨3, _⟩ => ⟨S1024x2304, .f32⟩
  | .local _ .vmem, ⟨4, _⟩ => ⟨S1024x2304, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S1024x2304, .f32⟩
  | .hbm, ⟨3, _⟩ => ⟨S4096x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjDw.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S4096x2304, .bf16⟩
  | .hbm, ⟨3, _⟩ => ⟨S1024x2304, .f32⟩
  | .local _ .vmem, ⟨0, _⟩ => ⟨S1024x1024, .f32⟩
  | .local _ .vmem, ⟨1, _⟩ => ⟨S1024x1024, .f32⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwIdeal.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S4096x2304, .bf16⟩
  | .hbm, ⟨3, _⟩ => ⟨S1024x2304, .f32⟩
  | .local _ .vmem, ⟨0, _⟩ => ⟨S1024x1024, .f32⟩
  | .local _ .vmem, ⟨1, _⟩ => ⟨S1024x1024, .f32⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwReferenceIdeal.lean ====
abbrev S4096x1024 : Shape := ⟨2, ![4096, 1024]⟩
abbrev S1024x2304 : Shape := ⟨2, ![1024, 2304]⟩
abbrev S4096x2304 : Shape := ⟨2, ![4096, 2304]⟩
abbrev S2304x1024 : Shape := ⟨2, ![2304, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S4096x2304, .bf16⟩
  | .hbm, ⟨3, _⟩ => ⟨S1024x2304, .f32⟩
  | .hbm, ⟨4, _⟩ => ⟨S4096x2304, .f32⟩
  | .hbm, ⟨5, _⟩ => ⟨S4096x2304, .f32⟩
  | .hbm, ⟨6, _⟩ => ⟨S2304x1024, .f32⟩
  | .hbm, ⟨7, _⟩ => ⟨S1024x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDh.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S4096x2304, .bf16⟩
  | .hbm, ⟨3, _⟩ => ⟨S4096x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDhIdeal.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S4096x2304, .bf16⟩
  | .hbm, ⟨3, _⟩ => ⟨S4096x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDhReferenceIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S4096x2304, .bf16⟩
  | .hbm, ⟨3, _⟩ => ⟨S1024x2304, .f32⟩
  | .hbm, ⟨4, _⟩ => ⟨S4096x2304, .f32⟩
  | .hbm, ⟨5, _⟩ => ⟨S4096x2304, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjDx.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S4096x2304, .bf16⟩
  | .hbm, ⟨3, _⟩ => ⟨S4096x1024, .f32⟩
  | .hbm, ⟨4, _⟩ => ⟨S4096x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjDxIdeal.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S4096x2304, .bf16⟩
  | .hbm, ⟨3, _⟩ => ⟨S4096x1024, .f32⟩
  | .hbm, ⟨4, _⟩ => ⟨S4096x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjDxReferenceIdeal.lean ====
abbrev S4096x1024 : Shape := ⟨2, ![4096, 1024]⟩
abbrev S1024x2304 : Shape := ⟨2, ![1024, 2304]⟩
abbrev S4096x2304 : Shape := ⟨2, ![4096, 2304]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .bf16⟩
  | .hbm, ⟨2, _⟩ => ⟨S4096x2304, .bf16⟩
  | .hbm, ⟨3, _⟩ => ⟨S4096x1024, .f32⟩
  | .hbm, ⟨4, _⟩ => ⟨S1024x2304, .f32⟩
  | .hbm, ⟨5, _⟩ => ⟨S4096x2304, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x2304, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwReferenceIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6144, .bf16⟩
  | .hbm, ⟨2, _⟩ => ⟨S4096x6144, .f32⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6144, .bf16⟩
  | .hbm, ⟨2, _⟩ => ⟨S4096x6144, .f32⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .bf16⟩
  | .hbm, ⟨2, _⟩ => ⟨S1024x6144, .f32⟩
  | .hbm, ⟨3, _⟩ => ⟨S4096x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDx.lean ====
abbrev S4096x1024 : Shape := ⟨2, ![4096, 1024]⟩
abbrev S1024x6144 : Shape := ⟨2, ![1024, 6144]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x6144, .bf16⟩
  | .hbm, ⟨2, _⟩ => ⟨S4096x6144, .bf16⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxIdeal.lean ====
abbrev S4096x1024 : Shape := ⟨2, ![4096, 1024]⟩
abbrev S1024x6144 : Shape := ⟨2, ![1024, 6144]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x6144, .bf16⟩
  | .hbm, ⟨2, _⟩ => ⟨S4096x6144, .bf16⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .bf16⟩
  | .hbm, ⟨2, _⟩ => ⟨S4096x6144, .bf16⟩
  | .hbm, ⟨3, _⟩ => ⟨S1024x6144, .f32⟩
  | .hbm, ⟨4, _⟩ => ⟨S4096x6144, .f32⟩
  | .hbm, ⟨5, _⟩ => ⟨S4096x6144, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDw.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩
abbrev S1024x1536 : Shape := ⟨2, ![1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x6144, .bf16⟩
  | .hbm, ⟨2, _⟩ => ⟨S4096x6144, .bf16⟩
  | .hbm, ⟨3, _⟩ => ⟨S1024x6144, .f32⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩
abbrev S1024x1536 : Shape := ⟨2, ![1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x6144, .bf16⟩
  | .hbm, ⟨2, _⟩ => ⟨S4096x6144, .bf16⟩
  | .hbm, ⟨3, _⟩ => ⟨S1024x6144, .f32⟩
  | .local _ .vmem, ⟨0, _⟩ => ⟨S1024x1024, .f32⟩
  | .local _ .vmem, ⟨1, _⟩ => ⟨S1024x1024, .f32⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S4096x1024 : Shape := ⟨2, ![4096, 1024]⟩
abbrev S1024x6144 : Shape := ⟨2, ![1024, 6144]⟩
abbrev S4096x6144 : Shape := ⟨2, ![4096, 6144]⟩
abbrev S6144x1024 : Shape := ⟨2, ![6144, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .bf16⟩
  | .hbm, ⟨2, _⟩ => ⟨S4096x6144, .bf16⟩
  | .hbm, ⟨3, _⟩ => ⟨S1024x6144, .f32⟩
  | .hbm, ⟨4, _⟩ => ⟨S4096x6144, .f32⟩
  | .hbm, ⟨5, _⟩ => ⟨S4096x6144, .f32⟩
  | .hbm, ⟨6, _⟩ => ⟨S6144x1024, .f32⟩
  | .hbm, ⟨7, _⟩ => ⟨S1024x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDx.lean ====
abbrev S4096x3072 : Shape := ⟨2, ![4096, 3072]⟩
abbrev S3072x1024 : Shape := ⟨2, ![3072, 1024]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxIdeal.lean ====
abbrev S4096x3072 : Shape := ⟨2, ![4096, 3072]⟩
abbrev S3072x1024 : Shape := ⟨2, ![3072, 1024]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S4096x3072 : Shape := ⟨2, ![4096, 3072]⟩
abbrev S3072x1024 : Shape := ⟨2, ![3072, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x3072, .f32⟩
  | .hbm, ⟨4, _⟩ => ⟨S3072x1024, .f32⟩
  | .hbm, ⟨5, _⟩ => ⟨S4096x1024, .f32⟩
  | .hbm, ⟨6, _⟩ => ⟨S4096x3072, .f32⟩
  | .hbm, ⟨7, _⟩ => ⟨S4096x3072, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x3072 : Shape := ⟨2, ![4096, 3072]⟩
abbrev S3072x1024 : Shape := ⟨2, ![3072, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S3072x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S4096x3072 : Shape := ⟨2, ![4096, 3072]⟩
abbrev S3072x1024 : Shape := ⟨2, ![3072, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S3072x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4096x3072 : Shape := ⟨2, ![4096, 3072]⟩
abbrev S3072x1024 : Shape := ⟨2, ![3072, 1024]⟩
abbrev S4096x1024 : Shape := ⟨2, ![4096, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S3072x1024, .f32⟩
  | .hbm, ⟨4, _⟩ => ⟨S4096x3072, .f32⟩
  | .hbm, ⟨5, _⟩ => ⟨S4096x1024, .f32⟩
  | .hbm, ⟨6, _⟩ => ⟨S1024x3072, .f32⟩
  | .hbm, ⟨7, _⟩ => ⟨S3072x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutNorm.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutNormIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutNormReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S1024x1024, .f32⟩
  | .hbm, ⟨46, _⟩ => ⟨S4096x1024, .f32⟩
  | .hbm, ⟨47, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== DownNorm.lean ====
abbrev S4096x3072 : Shape := ⟨2, ![4096, 3072]⟩
abbrev S3072x1024 : Shape := ⟨2, ![3072, 1024]⟩
abbrev S4096x1024 : Shape := ⟨2, ![4096, 1024]⟩
abbrev S1024 : Shape := ⟨1, ![1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownNormIdeal.lean ====
abbrev S4096x3072 : Shape := ⟨2, ![4096, 3072]⟩
abbrev S3072x1024 : Shape := ⟨2, ![3072, 1024]⟩
abbrev S4096x1024 : Shape := ⟨2, ![4096, 1024]⟩
abbrev S1024 : Shape := ⟨1, ![1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownNormReferenceIdeal.lean ====
abbrev S4096x3072 : Shape := ⟨2, ![4096, 3072]⟩
abbrev S3072x1024 : Shape := ⟨2, ![3072, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x3072, .f32⟩
  | .hbm, ⟨9, _⟩ => ⟨S3072x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x3072, .f32⟩
  | .hbm, ⟨45, _⟩ => ⟨S3072x1024, .f32⟩
  | .hbm, ⟨46, _⟩ => ⟨S4096x1024, .f32⟩
  | .hbm, ⟨47, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== FfnAct.lean ====
abbrev S4096x6144 : Shape := ⟨2, ![4096, 6144]⟩
abbrev S3x6144 : Shape := ⟨2, ![3, 6144]⟩
abbrev S6144 : Shape := ⟨1, ![6144]⟩
abbrev S1x6144 : Shape := ⟨2, ![1, 6144]⟩
abbrev S4096x3072 : Shape := ⟨2, ![4096, 3072]⟩
abbrev S512x1536 : Shape := ⟨2, ![512, 1536]⟩
abbrev S8x1536 : Shape := ⟨2, ![8, 1536]⟩
abbrev S3x1536 : Shape := ⟨2, ![3, 1536]⟩
abbrev S1x1536 : Shape := ⟨2, ![1, 1536]⟩
abbrev S64x8x1536 : Shape := ⟨3, ![64, 8, 1536]⟩
abbrev S1x8x1536 : Shape := ⟨3, ![1, 8, 1536]⟩
abbrev S63x8x1536 : Shape := ⟨3, ![63, 8, 1536]⟩

abbrev nBuf : Space → Nat
  | .hbm => 6
  | .vmem => 18
  | .smem => 0
  | _ => 0

abbrev bufTy : (tb : Table) → Fin (tcTables nBuf tb) → BufTy
  | .hbm, ⟨0, _⟩ => ⟨S4096x6144, .f32⟩
  | .hbm, ⟨1, _⟩ => ⟨S3x6144, .f32⟩
  | .hbm, ⟨2, _⟩ => ⟨S6144, .f32⟩
  | .hbm, ⟨3, _⟩ => ⟨S1x6144, .f32⟩
  | .hbm, ⟨4, _⟩ => ⟨S1x6144, .f32⟩
  | .hbm, ⟨5, _⟩ => ⟨S4096x3072, .bf16⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S512x1536, .f32⟩
  | .local _ .vmem, ⟨5, _⟩ => ⟨S512x1536, .f32⟩
  | .local _ .vmem, ⟨6, _⟩ => ⟨S8x1536, .f32⟩
  | .local _ .vmem, ⟨7, _⟩ => ⟨S8x1536, .f32⟩
  | .local _ .vmem, ⟨8, _⟩ => ⟨S3x1536, .f32⟩
  | .local _ .vmem, ⟨9, _⟩ => ⟨S3x1536, .f32⟩
  | .local _ .vmem, ⟨10, _⟩ => ⟨S3x1536, .f32⟩
  | .local _ .vmem, ⟨11, _⟩ => ⟨S3x1536, .f32⟩
  | .local _ .vmem, ⟨12, _⟩ => ⟨S1x1536, .f32⟩
  | .local _ .vmem, ⟨13, _⟩ => ⟨S1x1536, .f32⟩
  | .local _ .vmem, ⟨14, _⟩ => ⟨S1x1536, .f32⟩
  | .local _ .vmem, ⟨15, _⟩ => ⟨S1x1536, .f32⟩
  | .local _ .vmem, ⟨16, _⟩ => ⟨S512x1536, .bf16⟩
  | .local _ .vmem, ⟨17, _⟩ => ⟨S512x1536, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnActIdeal.lean ====
abbrev S4096x6144 : Shape := ⟨2, ![4096, 6144]⟩
abbrev S3x6144 : Shape := ⟨2, ![3, 6144]⟩
abbrev S6144 : Shape := ⟨1, ![6144]⟩
abbrev S1x6144 : Shape := ⟨2, ![1, 6144]⟩
abbrev S4096x3072 : Shape := ⟨2, ![4096, 3072]⟩
abbrev S512x1536 : Shape := ⟨2, ![512, 1536]⟩
abbrev S8x1536 : Shape := ⟨2, ![8, 1536]⟩
abbrev S3x1536 : Shape := ⟨2, ![3, 1536]⟩
abbrev S1x1536 : Shape := ⟨2, ![1, 1536]⟩
abbrev S64x8x1536 : Shape := ⟨3, ![64, 8, 1536]⟩
abbrev S1x8x1536 : Shape := ⟨3, ![1, 8, 1536]⟩
abbrev S63x8x1536 : Shape := ⟨3, ![63, 8, 1536]⟩

abbrev nBuf : Space → Nat
  | .hbm => 6
  | .vmem => 18
  | .smem => 0
  | _ => 0

abbrev bufTy : (tb : Table) → Fin (tcTables nBuf tb) → BufTy
  | .hbm, ⟨0, _⟩ => ⟨S4096x6144, .f32⟩
  | .hbm, ⟨1, _⟩ => ⟨S3x6144, .f32⟩
  | .hbm, ⟨2, _⟩ => ⟨S6144, .f32⟩
  | .hbm, ⟨3, _⟩ => ⟨S1x6144, .f32⟩
  | .hbm, ⟨4, _⟩ => ⟨S1x6144, .f32⟩
  | .hbm, ⟨5, _⟩ => ⟨S4096x3072, .bf16⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S512x1536, .f32⟩
  | .local _ .vmem, ⟨5, _⟩ => ⟨S512x1536, .f32⟩
  | .local _ .vmem, ⟨6, _⟩ => ⟨S8x1536, .f32⟩
  | .local _ .vmem, ⟨7, _⟩ => ⟨S8x1536, .f32⟩
  | .local _ .vmem, ⟨8, _⟩ => ⟨S3x1536, .f32⟩
  | .local _ .vmem, ⟨9, _⟩ => ⟨S3x1536, .f32⟩
  | .local _ .vmem, ⟨10, _⟩ => ⟨S3x1536, .f32⟩
  | .local _ .vmem, ⟨11, _⟩ => ⟨S3x1536, .f32⟩
  | .local _ .vmem, ⟨12, _⟩ => ⟨S1x1536, .f32⟩
  | .local _ .vmem, ⟨13, _⟩ => ⟨S1x1536, .f32⟩
  | .local _ .vmem, ⟨14, _⟩ => ⟨S1x1536, .f32⟩
  | .local _ .vmem, ⟨15, _⟩ => ⟨S1x1536, .f32⟩
  | .local _ .vmem, ⟨16, _⟩ => ⟨S512x1536, .bf16⟩
  | .local _ .vmem, ⟨17, _⟩ => ⟨S512x1536, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "cubic" => some ((8943 / 200000 : ℝ) : EReal)
  | "cubic3" => some ((26829 / 200000 : ℝ) : EReal)
  | _ => none

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnActReferenceIdeal.lean ====
abbrev S4096x6144 : Shape := ⟨2, ![4096, 6144]⟩
abbrev S3x6144 : Shape := ⟨2, ![3, 6144]⟩
abbrev S6144 : Shape := ⟨1, ![6144]⟩
abbrev S1x6144 : Shape := ⟨2, ![1, 6144]⟩
abbrev S_ : Shape := ⟨0, ![]⟩
abbrev S2x6144 : Shape := ⟨2, ![2, 6144]⟩
abbrev S4094x6144 : Shape := ⟨2, ![4094, 6144]⟩
abbrev S4095x6144 : Shape := ⟨2, ![4095, 6144]⟩
abbrev S4096x3072 : Shape := ⟨2, ![4096, 3072]⟩

abbrev nBuf : Space → Nat
  | .hbm => 58
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S3x6144, .f32⟩
  | .hbm, ⟨2, _⟩ => ⟨S6144, .f32⟩
  | .hbm, ⟨3, _⟩ => ⟨S1x6144, .f32⟩
  | .hbm, ⟨4, _⟩ => ⟨S6144, .f32⟩
  | .hbm, ⟨5, _⟩ => ⟨S_, .f32⟩
  | .hbm, ⟨6, _⟩ => ⟨S2x6144, .f32⟩
  | .hbm, ⟨7, _⟩ => ⟨S4094x6144, .f32⟩
  | .hbm, ⟨8, _⟩ => ⟨S4096x6144, .f32⟩
  | .hbm, ⟨9, _⟩ => ⟨S1x6144, .f32⟩
  | .hbm, ⟨10, _⟩ => ⟨S4096x6144, .f32⟩
  | .hbm, ⟨11, _⟩ => ⟨S4096x6144, .f32⟩
  | .hbm, ⟨12, _⟩ => ⟨S_, .f32⟩
  | .hbm, ⟨13, _⟩ => ⟨S4096x6144, .f32⟩
  | .hbm, ⟨14, _⟩ => ⟨S4096x6144, .f32⟩
  | .hbm, ⟨15, _⟩ => ⟨S1x6144, .f32⟩
  | .hbm, ⟨16, _⟩ => ⟨S6144, .f32⟩
  | .hbm, ⟨17, _⟩ => ⟨S_, .f32⟩
  | .hbm, ⟨18, _⟩ => ⟨S1x6144, .f32⟩
  | .hbm, ⟨19, _⟩ => ⟨S4095x6144, .f32⟩
  | .hbm, ⟨20, _⟩ => ⟨S4096x6144, .f32⟩
  | .hbm, ⟨21, _⟩ => ⟨S1x6144, .f32⟩
  | .hbm, ⟨22, _⟩ => ⟨S4096x6144, .f32⟩
  | .hbm, ⟨23, _⟩ => ⟨S4096x6144, .f32⟩
  | .hbm, ⟨24, _⟩ => ⟨S4096x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S4096x6144, .f32⟩
  | .hbm, ⟨29, _⟩ => ⟨S4096x6144, .f32⟩
  | .hbm, ⟨30, _⟩ => ⟨S4096x6144, .f32⟩
  | .hbm, ⟨31, _⟩ => ⟨S1x6144, .f32⟩
  | .hbm, ⟨32, _⟩ => ⟨S4096x6144, .f32⟩
  | .hbm, ⟨33, _⟩ => ⟨S4096x6144, .f32⟩
  | .hbm, ⟨34, _⟩ => ⟨S4096x3072, .f32⟩
  | .hbm, ⟨35, _⟩ => ⟨S4096x3072, .f32⟩
  | .hbm, ⟨36, _⟩ => ⟨S_, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S4096x3072, .f32⟩
  | .hbm, ⟨43, _⟩ => ⟨S4096x3072, .f32⟩
  | .hbm, ⟨44, _⟩ => ⟨S_, .f32⟩
  | .hbm, ⟨45, _⟩ => ⟨S4096x3072, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S4096x3072, .f32⟩
  | .hbm, ⟨50, _⟩ => ⟨S4096x3072, .f32⟩
  | .hbm, ⟨51, _⟩ => ⟨S4096x3072, .f32⟩
  | .hbm, ⟨52, _⟩ => ⟨S_, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S4096x3072, .f32⟩
  | .hbm, ⟨57, _⟩ => ⟨S4096x3072, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== FfnActGrad.lean ====
abbrev S4096x3072 : Shape := ⟨2, ![4096, 3072]⟩
abbrev S4096x6144 : Shape := ⟨2, ![4096, 6144]⟩
abbrev S3x6144 : Shape := ⟨2, ![3, 6144]⟩
abbrev S6144 : Shape := ⟨1, ![6144]⟩
abbrev S1x6144 : Shape := ⟨2, ![1, 6144]⟩
abbrev S2x4096x3072 : Shape := ⟨3, ![2, 4096, 3072]⟩
abbrev S512x1536 : Shape := ⟨2, ![512, 1536]⟩
abbrev S8x1536 : Shape := ⟨2, ![8, 1536]⟩
abbrev S3x1536 : Shape := ⟨2, ![3, 1536]⟩
abbrev S1x1536 : Shape := ⟨2, ![1, 1536]⟩
abbrev S2x512x1536 : Shape := ⟨3, ![2, 512, 1536]⟩
abbrev S64x8x1536 : Shape := ⟨3, ![64, 8, 1536]⟩
abbrev S1x8x1536 : Shape := ⟨3, ![1, 8, 1536]⟩
abbrev S63x8x1536 : Shape := ⟨3, ![63, 8, 1536]⟩
abbrev S1x512x1536 : Shape := ⟨3, ![1, 512, 1536]⟩

abbrev nBuf : Space → Nat
  | .hbm => 7
  | .vmem => 20
  | .smem => 0
  | _ => 0

abbrev bufTy : (tb : Table) → Fin (tcTables nBuf tb) → BufTy
  | .hbm, ⟨0, _⟩ => ⟨S4096x3072, .bf16⟩
  | .hbm, ⟨1, _⟩ => ⟨S4096x6144, .f32⟩
  | .hbm, ⟨2, _⟩ => ⟨S3x6144, .f32⟩
  | .hbm, ⟨3, _⟩ => ⟨S6144, .f32⟩
  | .hbm, ⟨4, _⟩ => ⟨S1x6144, .f32⟩
  | .hbm, ⟨5, _⟩ => ⟨S1x6144, .f32⟩
  | .hbm, ⟨6, _⟩ => ⟨S2x4096x3072, .bf16⟩
  | .local _ .vmem, ⟨0, _⟩ => ⟨S512x1536, .bf16⟩
  | .local _ .vmem, ⟨1, _⟩ => ⟨S512x1536, .bf16⟩
  | .local _ .vmem, ⟨2, _⟩ => ⟨S512x1536, .f32⟩
  | .local _ .vmem, ⟨3, _⟩ => ⟨S512x1536, .f32⟩
  | .local _ .vmem, ⟨4, _⟩ => ⟨S8x1536, .f32⟩
  | .local _ .vmem, ⟨5, _⟩ => ⟨S8x1536, .f32⟩
  | .local _ .vmem, ⟨6, _⟩ => ⟨S512x1536, .f32⟩
  | .local _ .vmem, ⟨7, _⟩ => ⟨S512x1536, .f32⟩
  | .local _ .vmem, ⟨8, _⟩ => ⟨S8x1536, .f32⟩
  | .local _ .vmem, ⟨9, _⟩ => ⟨S8x1536, .f32⟩
  | .local _ .vmem, ⟨10, _⟩ => ⟨S3x1536, .f32⟩
  | .local _ .vmem, ⟨11, _⟩ => ⟨S3x1536, .f32⟩
  | .local _ .vmem, ⟨12, _⟩ => ⟨S3x1536, .f32⟩
  | .local _ .vmem, ⟨13, _⟩ => ⟨S3x1536, .f32⟩
  | .local _ .vmem, ⟨14, _⟩ => ⟨S1x1536, .f32⟩
  | .local _ .vmem, ⟨15, _⟩ => ⟨S1x1536, .f32⟩
  | .local _ .vmem, ⟨16, _⟩ => ⟨S1x1536, .f32⟩
  | .local _ .vmem, ⟨17, _⟩ => ⟨S1x1536, .f32⟩
  | .local _ .vmem, ⟨18, _⟩ => ⟨S2x512x1536, .bf16⟩
  | .local _ .vmem, ⟨19, _⟩ => ⟨S2x512x1536, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnActGradIdeal.lean ====
abbrev S4096x3072 : Shape := ⟨2, ![4096, 3072]⟩
abbrev S4096x6144 : Shape := ⟨2, ![4096, 6144]⟩
abbrev S3x6144 : Shape := ⟨2, ![3, 6144]⟩
abbrev S6144 : Shape := ⟨1, ![6144]⟩
abbrev S1x6144 : Shape := ⟨2, ![1, 6144]⟩
abbrev S2x4096x3072 : Shape := ⟨3, ![2, 4096, 3072]⟩
abbrev S512x1536 : Shape := ⟨2, ![512, 1536]⟩
abbrev S8x1536 : Shape := ⟨2, ![8, 1536]⟩
abbrev S3x1536 : Shape := ⟨2, ![3, 1536]⟩
abbrev S1x1536 : Shape := ⟨2, ![1, 1536]⟩
abbrev S2x512x1536 : Shape := ⟨3, ![2, 512, 1536]⟩
abbrev S64x8x1536 : Shape := ⟨3, ![64, 8, 1536]⟩
abbrev S1x8x1536 : Shape := ⟨3, ![1, 8, 1536]⟩
abbrev S63x8x1536 : Shape := ⟨3, ![63, 8, 1536]⟩
abbrev S1x512x1536 : Shape := ⟨3, ![1, 512, 1536]⟩

abbrev nBuf : Space → Nat
  | .hbm => 7
  | .vmem => 20
  | .smem => 0
  | _ => 0

abbrev bufTy : (tb : Table) → Fin (tcTables nBuf tb) → BufTy
  | .hbm, ⟨0, _⟩ => ⟨S4096x3072, .bf16⟩
  | .hbm, ⟨1, _⟩ => ⟨S4096x6144, .f32⟩
  | .hbm, ⟨2, _⟩ => ⟨S3x6144, .f32⟩
  | .hbm, ⟨3, _⟩ => ⟨S6144, .f32⟩
  | .hbm, ⟨4, _⟩ => ⟨S1x6144, .f32⟩
  | .hbm, ⟨5, _⟩ => ⟨S1x6144, .f32⟩
  | .hbm, ⟨6, _⟩ => ⟨S2x4096x3072, .bf16⟩
  | .local _ .vmem, ⟨0, _⟩ => ⟨S512x1536, .bf16⟩
  | .local _ .vmem, ⟨1, _⟩ => ⟨S512x1536, .bf16⟩
  | .local _ .vmem, ⟨2, _⟩ => ⟨S512x1536, .f32⟩
  | .local _ .vmem, ⟨3, _⟩ => ⟨S512x1536, .f32⟩
  | .local _ .vmem, ⟨4, _⟩ => ⟨S8x1536, .f32⟩
  | .local _ .vmem, ⟨5, _⟩ => ⟨S8x1536, .f32⟩
  | .local _ .vmem, ⟨6, _⟩ => ⟨S512x1536, .f32⟩
  | .local _ .vmem, ⟨7, _⟩ => ⟨S512x1536, .f32⟩
  | .local _ .vmem, ⟨8, _⟩ => ⟨S8x1536, .f32⟩
  | .local _ .vmem, ⟨9, _⟩ => ⟨S8x1536, .f32⟩
  | .local _ .vmem, ⟨10, _⟩ => ⟨S3x1536, .f32⟩
  | .local _ .vmem, ⟨11, _⟩ => ⟨S3x1536, .f32⟩
  | .local _ .vmem, ⟨12, _⟩ => ⟨S3x1536, .f32⟩
  | .local _ .vmem, ⟨13, _⟩ => ⟨S3x1536, .f32⟩
  | .local _ .vmem, ⟨14, _⟩ => ⟨S1x1536, .f32⟩
  | .local _ .vmem, ⟨15, _⟩ => ⟨S1x1536, .f32⟩
  | .local _ .vmem, ⟨16, _⟩ => ⟨S1x1536, .f32⟩
  | .local _ .vmem, ⟨17, _⟩ => ⟨S1x1536, .f32⟩
  | .local _ .vmem, ⟨18, _⟩ => ⟨S2x512x1536, .bf16⟩
  | .local _ .vmem, ⟨19, _⟩ => ⟨S2x512x1536, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F] [Named F]

def κ : String → Option EReal := fun
  | "cubic" => some ((8943 / 200000 : ℝ) : EReal)
  | "cubic3" => some ((26829 / 200000 : ℝ) : EReal)
  | _ => none

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnActGradReferenceIdeal.lean ====
abbrev S4096x3072 : Shape := ⟨2, ![4096, 3072]⟩
abbrev S4096x6144 : Shape := ⟨2, ![4096, 6144]⟩
abbrev S3x6144 : Shape := ⟨2, ![3, 6144]⟩
abbrev S6144 : Shape := ⟨1, ![6144]⟩
abbrev S1x6144 : Shape := ⟨2, ![1, 6144]⟩
abbrev S_ : Shape := ⟨0, ![]⟩
abbrev S2x6144 : Shape := ⟨2, ![2, 6144]⟩
abbrev S4094x6144 : Shape := ⟨2, ![4094, 6144]⟩
abbrev S4095x6144 : Shape := ⟨2, ![4095, 6144]⟩
abbrev S1x4096x3072 : Shape := ⟨3, ![1, 4096, 3072]⟩
abbrev S2x4096x3072 : Shape := ⟨3, ![2, 4096, 3072]⟩

abbrev nBuf : Space → Nat
  | .hbm => 98
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x6144, .f32⟩
  | .hbm, ⟨2, _⟩ => ⟨S3x6144, .f32⟩
  | .hbm, ⟨3, _⟩ => ⟨S6144, .f32⟩
  | .hbm, ⟨4, _⟩ => ⟨S1x6144, .f32⟩
  | .hbm, ⟨5, _⟩ => ⟨S6144, .f32⟩
  | .hbm, ⟨6, _⟩ => ⟨S_, .f32⟩
  | .hbm, ⟨7, _⟩ => ⟨S2x6144, .f32⟩
  | .hbm, ⟨8, _⟩ => ⟨S4094x6144, .f32⟩
  | .hbm, ⟨9, _⟩ => ⟨S4096x6144, .f32⟩
  | .hbm, ⟨10, _⟩ => ⟨S1x6144, .f32⟩
  | .hbm, ⟨11, _⟩ => ⟨S4096x6144, .f32⟩
  | .hbm, ⟨12, _⟩ => ⟨S4096x6144, .f32⟩
  | .hbm, ⟨13, _⟩ => ⟨S_, .f32⟩
  | .hbm, ⟨14, _⟩ => ⟨S4096x6144, .f32⟩
  | .hbm, ⟨15, _⟩ => ⟨S4096x6144, .f32⟩
  | .hbm, ⟨16, _⟩ => ⟨S1x6144, .f32⟩
  | .hbm, ⟨17, _⟩ => ⟨S6144, .f32⟩
  | .hbm, ⟨18, _⟩ => ⟨S_, .f32⟩
  | .hbm, ⟨19, _⟩ => ⟨S1x6144, .f32⟩
  | .hbm, ⟨20, _⟩ => ⟨S4095x6144, .f32⟩
  | .hbm, ⟨21, _⟩ => ⟨S4096x6144, .f32⟩
  | .hbm, ⟨22, _⟩ => ⟨S1x6144, .f32⟩
  | .hbm, ⟨23, _⟩ => ⟨S4096x6144, .f32⟩
  | .hbm, ⟨24, _⟩ => ⟨S4096x6144, .f32⟩
  | .hbm, ⟨25, _⟩ => ⟨S4096x6144, .f32⟩
  | .hbm, ⟨26, _⟩ => ⟨S1x6144, .f32⟩
  | .hbm, ⟨27, _⟩ => ⟨S6144, .f32⟩
  | .hbm, ⟨28, _⟩ => ⟨S1x6144, .f32⟩
  | .hbm, ⟨29, _⟩ => ⟨S4096x6144, .f32⟩
  | .hbm, ⟨30, _⟩ => ⟨S4096x6144, .f32⟩
  | .hbm, ⟨31, _⟩ => ⟨S4096x6144, .f32⟩
  | .hbm, ⟨32, _⟩ => ⟨S1x6144, .f32⟩
  | .hbm, ⟨33, _⟩ => ⟨S4096x6144, .f32⟩
  | .hbm, ⟨34, _⟩ => ⟨S4096x6144, .f32⟩
  | .hbm, ⟨35, _⟩ => ⟨S4096x3072, .f32⟩
  | .hbm, ⟨36, _⟩ => ⟨S4096x3072, .f32⟩
  | .hbm, ⟨37, _⟩ => ⟨S_, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S_, .f32⟩
  | .hbm, ⟨43, _⟩ => ⟨S4096x3072, .f32⟩
  | .hbm, ⟨44, _⟩ => ⟨S4096x3072, .f32⟩
  | .hbm, ⟨45, _⟩ => ⟨S_, .f32⟩
  | .hbm, ⟨46, _⟩ => ⟨S4096x3072, .f32⟩
  | .hbm, ⟨47, _⟩ => ⟨S4096x3072, .f32⟩
  | .hbm, ⟨48, _⟩ => ⟨S4096x3072, .f32⟩
  | .hbm, ⟨49, _⟩ => ⟨S_, .f32⟩
  | .hbm, ⟨50, _⟩ => ⟨S4096x3072, .f32⟩
  | .hbm, ⟨51, _⟩ => ⟨S4096x3072, .f32⟩
  | .hbm, ⟨52, _⟩ => ⟨S4096x3072, .f32⟩
  | .hbm, ⟨53, _⟩ => ⟨S_, .f32⟩
  | .hbm, ⟨54, _⟩ => ⟨S4096x3072, .f32⟩
  | .hbm, ⟨55, _⟩ => ⟨S4096x3072, .f32⟩
  | .hbm, ⟨56, _⟩ => ⟨S_, .f32⟩
  | .hbm, ⟨57, _⟩ => ⟨S4096x3072, .f32⟩
  | .hbm, ⟨58, _⟩ => ⟨S4096x3072, .f32⟩
  | .hbm, ⟨59, _⟩ => ⟨S4096x3072, .f32⟩
  | .hbm, ⟨60, _⟩ => ⟨S_, .f32⟩
  | .hbm, ⟨61, _⟩ => ⟨S4096x3072, .f32⟩
  | .hbm, ⟨62, _⟩ => ⟨S4096x3072, .f32⟩
  | .hbm, ⟨63, _⟩ => ⟨S4096x3072, .f32⟩
  | .hbm, ⟨64, _⟩ => ⟨S4096x3072, .f32⟩
  | .hbm, ⟨65, _⟩ => ⟨S4096x3072, .f32⟩
  | .hbm, ⟨66, _⟩ => ⟨S4096x3072, .f32⟩
  | .hbm, ⟨67, _⟩ => ⟨S4096x3072, .f32⟩
  | .hbm, ⟨68, _⟩ => ⟨S4096x3072, .f32⟩
  | .hbm, ⟨69, _⟩ => ⟨S4096x3072, .f32⟩
  | .hbm, ⟨70, _⟩ => ⟨S4096x3072, .f32⟩
  | .hbm, ⟨71, _⟩ => ⟨S_, .f32⟩
  | .hbm, ⟨72, _⟩ => ⟨S4096x3072, .f32⟩
  | .hbm, ⟨73, _⟩ => ⟨S4096x3072, .f32⟩
  | .hbm, ⟨74, _⟩ => ⟨S_, .f32⟩
  | .hbm, ⟨75, _⟩ => ⟨S4096x3072, .f32⟩
  | .hbm, ⟨76, _⟩ => ⟨S4096x3072, .f32⟩
  | .hbm, ⟨77, _⟩ => ⟨S_, .f32⟩
  | .hbm, ⟨78, _⟩ => ⟨S4096x3072, .f32⟩
  | .hbm, ⟨79, _⟩ => ⟨S4096x3072, .f32⟩
  | .hbm, ⟨80, _⟩ => ⟨S4096x3072, .f32⟩
  | .hbm, ⟨81, _⟩ => ⟨S4096x3072, .f32⟩
  | .hbm, ⟨82, _⟩ => ⟨S4096x3072, .f32⟩
  | .hbm, ⟨83, _⟩ => ⟨S4096x3072, .f32⟩
  | .hbm, ⟨84, _⟩ => ⟨S4096x3072, .f32⟩
  | .hbm, ⟨85, _⟩ => ⟨S4096x3072, .f32⟩
  | .hbm, ⟨86, _⟩ => ⟨S4096x3072, .f32⟩
  | .hbm, ⟨87, _⟩ => ⟨S_, .f32⟩
  | .hbm, ⟨88, _⟩ => ⟨S4096x3072, .f32⟩
  | .hbm, ⟨89, _⟩ => ⟨S4096x3072, .f32⟩
  | .hbm, ⟨90, _⟩ => ⟨S4096x3072, .f32⟩
  | .hbm, ⟨91, _⟩ => ⟨S4096x6144, .f32⟩
  | .hbm, ⟨92, _⟩ => ⟨S4096x3072, .f32⟩
  | .hbm, ⟨93, _⟩ => ⟨S4096x3072, .f32⟩
  | .hbm, ⟨94, _⟩ => ⟨S1x4096x3072, .f32⟩
  | .hbm, ⟨95, _⟩ => ⟨S1x4096x3072, .f32⟩
  | .hbm, ⟨96, _⟩ => ⟨S2x4096x3072, .f32⟩
  | .hbm, ⟨97, _⟩ => ⟨S2x4096x3072, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_12 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== FfnConvGrad.lean ====
abbrev S2x4096x3072 : Shape := ⟨3, ![2, 4096, 3072]⟩
abbrev S4096x6144 : Shape := ⟨2, ![4096, 6144]⟩
abbrev S3x6144 : Shape := ⟨2, ![3, 6144]⟩
abbrev S6144 : Shape := ⟨1, ![6144]⟩
abbrev S8x6144 : Shape := ⟨2, ![8, 6144]⟩
abbrev S1x512x1536 : Shape := ⟨3, ![1, 512, 1536]⟩
abbrev S1x16x1536 : Shape := ⟨3, ![1, 16, 1536]⟩
abbrev S512x1536 : Shape := ⟨2, ![512, 1536]⟩
abbrev S3x1536 : Shape := ⟨2, ![3, 1536]⟩
abbrev S8x1536 : Shape := ⟨2, ![8, 1536]⟩
abbrev S16x1536 : Shape := ⟨2, ![16, 1536]⟩
abbrev S64x8x1536 : Shape := ⟨3, ![64, 8, 1536]⟩
abbrev S63x8x1536 : Shape := ⟨3, ![63, 8, 1536]⟩
abbrev S1x8x1536 : Shape := ⟨3, ![1, 8, 1536]⟩
abbrev S1x1536 : Shape := ⟨2, ![1, 1536]⟩
abbrev S1536 : Shape := ⟨1, ![1536]⟩

abbrev nBuf : Space → Nat
  | .hbm => 6
  | .vmem => 12
  | .smem => 0
  | _ => 0

abbrev bufTy : (tb : Table) → Fin (tcTables nBuf tb) → BufTy
  | .hbm, ⟨0, _⟩ => ⟨S2x4096x3072, .bf16⟩
  | .hbm, ⟨1, _⟩ => ⟨S4096x6144, .f32⟩
  | .hbm, ⟨2, _⟩ => ⟨S3x6144, .f32⟩
  | .hbm, ⟨3, _⟩ => ⟨S6144, .f32⟩
  | .hbm, ⟨4, _⟩ => ⟨S4096x6144, .bf16⟩
  | .hbm, ⟨5, _⟩ => ⟨S8x6144, .f32⟩
  | .local _ .vmem, ⟨0, _⟩ => ⟨S1x512x1536, .bf16⟩
  | .local _ .vmem, ⟨1, _⟩ => ⟨S1x512x1536, .bf16⟩
  | .local _ .vmem, ⟨2, _⟩ => ⟨S1x16x1536, .bf16⟩
  | .local _ .vmem, ⟨3, _⟩ => ⟨S1x16x1536, .bf16⟩
  | .local _ .vmem, ⟨4, _⟩ => ⟨S512x1536, .f32⟩
  | .local _ .vmem, ⟨5, _⟩ => ⟨S512x1536, .f32⟩
  | .local _ .vmem, ⟨6, _⟩ => ⟨S3x1536, .f32⟩
  | .local _ .vmem, ⟨7, _⟩ => ⟨S3x1536, .f32⟩
  | .local _ .vmem, ⟨8, _⟩ => ⟨S512x1536, .bf16⟩
  | .local _ .vmem, ⟨9, _⟩ => ⟨S512x1536, .bf16⟩
  | .local _ .vmem, ⟨10, _⟩ => ⟨S8x1536, .f32⟩
  | .local _ .vmem, ⟨11, _⟩ => ⟨S8x1536, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![arg0.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi v1 c0_i32
  let c0_i32_0 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnConvGradIdeal.lean ====
abbrev S2x4096x3072 : Shape := ⟨3, ![2, 4096, 3072]⟩
abbrev S4096x6144 : Shape := ⟨2, ![4096, 6144]⟩
abbrev S3x6144 : Shape := ⟨2, ![3, 6144]⟩
abbrev S6144 : Shape := ⟨1, ![6144]⟩
abbrev S8x6144 : Shape := ⟨2, ![8, 6144]⟩
abbrev S1x512x1536 : Shape := ⟨3, ![1, 512, 1536]⟩
abbrev S1x16x1536 : Shape := ⟨3, ![1, 16, 1536]⟩
abbrev S512x1536 : Shape := ⟨2, ![512, 1536]⟩
abbrev S3x1536 : Shape := ⟨2, ![3, 1536]⟩
abbrev S8x1536 : Shape := ⟨2, ![8, 1536]⟩
abbrev S16x1536 : Shape := ⟨2, ![16, 1536]⟩
abbrev S64x8x1536 : Shape := ⟨3, ![64, 8, 1536]⟩
abbrev S63x8x1536 : Shape := ⟨3, ![63, 8, 1536]⟩
abbrev S1x8x1536 : Shape := ⟨3, ![1, 8, 1536]⟩
abbrev S1x1536 : Shape := ⟨2, ![1, 1536]⟩
abbrev S1536 : Shape := ⟨1, ![1536]⟩

abbrev nBuf : Space → Nat
  | .hbm => 6
  | .vmem => 12
  | .smem => 0
  | _ => 0

abbrev bufTy : (tb : Table) → Fin (tcTables nBuf tb) → BufTy
  | .hbm, ⟨0, _⟩ => ⟨S2x4096x3072, .bf16⟩
  | .hbm, ⟨1, _⟩ => ⟨S4096x6144, .f32⟩
  | .hbm, ⟨2, _⟩ => ⟨S3x6144, .f32⟩
  | .hbm, ⟨3, _⟩ => ⟨S6144, .f32⟩
  | .hbm, ⟨4, _⟩ => ⟨S4096x6144, .bf16⟩
  | .hbm, ⟨5, _⟩ => ⟨S8x6144, .f32⟩
  | .local _ .vmem, ⟨0, _⟩ => ⟨S1x512x1536, .bf16⟩
  | .local _ .vmem, ⟨1, _⟩ => ⟨S1x512x1536, .bf16⟩
  | .local _ .vmem, ⟨2, _⟩ => ⟨S1x16x1536, .bf16⟩
  | .local _ .vmem, ⟨3, _⟩ => ⟨S1x16x1536, .bf16⟩
  | .local _ .vmem, ⟨4, _⟩ => ⟨S512x1536, .f32⟩
  | .local _ .vmem, ⟨5, _⟩ => ⟨S512x1536, .f32⟩
  | .local _ .vmem, ⟨6, _⟩ => ⟨S3x1536, .f32⟩
  | .local _ .vmem, ⟨7, _⟩ => ⟨S3x1536, .f32⟩
  | .local _ .vmem, ⟨8, _⟩ => ⟨S512x1536, .bf16⟩
  | .local _ .vmem, ⟨9, _⟩ => ⟨S512x1536, .bf16⟩
  | .local _ .vmem, ⟨10, _⟩ => ⟨S8x1536, .f32⟩
  | .local _ .vmem, ⟨11, _⟩ => ⟨S8x1536, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![arg0.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let v2 : BitVec 32 := Scalar.addi v1 c0_i32
  let c0_i32_0 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnConvGradReferenceIdeal.lean ====
abbrev S2x4096x3072 : Shape := ⟨3, ![2, 4096, 3072]⟩
abbrev S4096x6144 : Shape := ⟨2, ![4096, 6144]⟩
abbrev S3x6144 : Shape := ⟨2, ![3, 6144]⟩
abbrev S6144 : Shape := ⟨1, ![6144]⟩
abbrev S1x6144 : Shape := ⟨2, ![1, 6144]⟩
abbrev S_ : Shape := ⟨0, ![]⟩
abbrev S2x6144 : Shape := ⟨2, ![2, 6144]⟩
abbrev S4094x6144 : Shape := ⟨2, ![4094, 6144]⟩
abbrev S4095x6144 : Shape := ⟨2, ![4095, 6144]⟩
abbrev S1x4096x3072 : Shape := ⟨3, ![1, 4096, 3072]⟩
abbrev S4096x3072 : Shape := ⟨2, ![4096, 3072]⟩
abbrev S4x6144 : Shape := ⟨2, ![4, 6144]⟩
abbrev S8x6144 : Shape := ⟨2, ![8, 6144]⟩

abbrev nBuf : Space → Nat
  | .hbm => 100
  | .vmem => 0
  | .smem => 0
  | _ => 0

abbrev bufTy : (tb : Table) → Fin (tcTables nBuf tb) → BufTy
  | .hbm, ⟨0, _⟩ => ⟨S2x4096x3072, .bf16⟩
  | .hbm, ⟨1, _⟩ => ⟨S4096x6144, .f32⟩
  | .hbm, ⟨2, _⟩ => ⟨S3x6144, .f32⟩
  | .hbm, ⟨3, _⟩ => ⟨S6144, .f32⟩
  | .hbm, ⟨4, _⟩ => ⟨S1x6144, .f32⟩
  | .hbm, ⟨5, _⟩ => ⟨S6144, .f32⟩
  | .hbm, ⟨6, _⟩ => ⟨S_, .f32⟩
  | .hbm, ⟨7, _⟩ => ⟨S2x6144, .f32⟩
  | .hbm, ⟨8, _⟩ => ⟨S4094x6144, .f32⟩
  | .hbm, ⟨9, _⟩ => ⟨S4096x6144, .f32⟩
  | .hbm, ⟨10, _⟩ => ⟨S_, .f32⟩
  | .hbm, ⟨11, _⟩ => ⟨S2x6144, .f32⟩
  | .hbm, ⟨12, _⟩ => ⟨S1x6144, .f32⟩
  | .hbm, ⟨13, _⟩ => ⟨S4096x6144, .f32⟩
  | .hbm, ⟨14, _⟩ => ⟨S4096x6144, .f32⟩
  | .hbm, ⟨15, _⟩ => ⟨S_, .f32⟩
  | .hbm, ⟨16, _⟩ => ⟨S4096x6144, .f32⟩
  | .hbm, ⟨17, _⟩ => ⟨S4096x6144, .f32⟩
  | .hbm, ⟨18, _⟩ => ⟨S1x6144, .f32⟩
  | .hbm, ⟨19, _⟩ => ⟨S6144, .f32⟩
  | .hbm, ⟨20, _⟩ => ⟨S_, .f32⟩
  | .hbm, ⟨21, _⟩ => ⟨S1x6144, .f32⟩
  | .hbm, ⟨22, _⟩ => ⟨S4095x6144, .f32⟩
  | .hbm, ⟨23, _⟩ => ⟨S4096x6144, .f32⟩
  | .hbm, ⟨24, _⟩ => ⟨S_, .f32⟩
  | .hbm, ⟨25, _⟩ => ⟨S1x6144, .f32⟩
  | .hbm, ⟨26, _⟩ => ⟨S1x6144, .f32⟩
  | .hbm, ⟨27, _⟩ => ⟨S4096x6144, .f32⟩
  | .hbm, ⟨28, _⟩ => ⟨S4096x6144, .f32⟩
  | .hbm, ⟨29, _⟩ => ⟨S4096x6144, .f32⟩
  | .hbm, ⟨30, _⟩ => ⟨S1x6144, .f32⟩
  | .hbm, ⟨31, _⟩ => ⟨S6144, .f32⟩
  | .hbm, ⟨32, _⟩ => ⟨S1x6144, .f32⟩
  | .hbm, ⟨33, _⟩ => ⟨S4096x6144, .f32⟩
  | .hbm, ⟨34, _⟩ => ⟨S4096x6144, .f32⟩
  | .hbm, ⟨35, _⟩ => ⟨S4096x6144, .f32⟩
  | .hbm, ⟨36, _⟩ => ⟨S1x6144, .f32⟩
  | .hbm, ⟨37, _⟩ => ⟨S4096x6144, .f32⟩
  | .hbm, ⟨38, _⟩ => ⟨S4096x6144, .f32⟩
  | .hbm, ⟨39, _⟩ => ⟨S1x4096x3072, .bf16⟩
  | .hbm, ⟨40, _⟩ => ⟨S4096x3072, .bf16⟩
  | .hbm, ⟨41, _⟩ => ⟨S1x4096x3072, .bf16⟩
  | .hbm, ⟨42, _⟩ => ⟨S4096x3072, .bf16⟩
  | .hbm, ⟨43, _⟩ => ⟨S4096x6144, .bf16⟩
  | .hbm, ⟨44, _⟩ => ⟨S4096x6144, .f32⟩
  | .hbm, ⟨45, _⟩ => ⟨S_, .f32⟩
  | .hbm, ⟨46, _⟩ => ⟨S6144, .f32⟩
  | .hbm, ⟨47, _⟩ => ⟨S1x6144, .f32⟩
  | .hbm, ⟨48, _⟩ => ⟨S_, .f32⟩
  | .hbm, ⟨49, _⟩ => ⟨S6144, .f32⟩
  | .hbm, ⟨50, _⟩ => ⟨S4096x6144, .f32⟩
  | .hbm, ⟨51, _⟩ => ⟨S4096x6144, .f32⟩
  | .hbm, ⟨52, _⟩ => ⟨S4096x6144, .f32⟩
  | .hbm, ⟨53, _⟩ => ⟨S_, .f32⟩
  | .hbm, ⟨54, _⟩ => ⟨S6144, .f32⟩
  | .hbm, ⟨55, _⟩ => ⟨S1x6144, .f32⟩
  | .hbm, ⟨56, _⟩ => ⟨S_, .f32⟩
  | .hbm, ⟨57, _⟩ => ⟨S6144, .f32⟩
  | .hbm, ⟨58, _⟩ => ⟨S1x6144, .f32⟩
  | .hbm, ⟨59, _⟩ => ⟨S_, .f32⟩
  | .hbm, ⟨60, _⟩ => ⟨S3x6144, .f32⟩
  | .hbm, ⟨61, _⟩ => ⟨S4096x6144, .f32⟩
  | .hbm, ⟨62, _⟩ => ⟨S4096x6144, .f32⟩
  | .hbm, ⟨63, _⟩ => ⟨S4096x6144, .f32⟩
  | .hbm, ⟨64, _⟩ => ⟨S_, .f32⟩
  | .hbm, ⟨65, _⟩ => ⟨S6144, .f32⟩
  | .hbm, ⟨66, _⟩ => ⟨S1x6144, .f32⟩
  | .hbm, ⟨67, _⟩ => ⟨S_, .f32⟩
  | .hbm, ⟨68, _⟩ => ⟨S6144, .f32⟩
  | .hbm, ⟨69, _⟩ => ⟨S1x6144, .f32⟩
  | .hbm, ⟨70, _⟩ => ⟨S4095x6144, .f32⟩
  | .hbm, ⟨71, _⟩ => ⟨S_, .f32⟩
  | .hbm, ⟨72, _⟩ => ⟨S4096x6144, .f32⟩
  | .hbm, ⟨73, _⟩ => ⟨S4096x6144, .f32⟩
  | .hbm, ⟨74, _⟩ => ⟨S1x6144, .f32⟩
  | .hbm, ⟨75, _⟩ => ⟨S_, .f32⟩
  | .hbm, ⟨76, _⟩ => ⟨S3x6144, .f32⟩
  | .hbm, ⟨77, _⟩ => ⟨S3x6144, .f32⟩
  | .hbm, ⟨78, _⟩ => ⟨S4096x6144, .f32⟩
  | .hbm, ⟨79, _⟩ => ⟨S4096x6144, .f32⟩
  | .hbm, ⟨80, _⟩ => ⟨S4096x6144, .f32⟩
  | .hbm, ⟨81, _⟩ => ⟨S_, .f32⟩
  | .hbm, ⟨82, _⟩ => ⟨S6144, .f32⟩
  | .hbm, ⟨83, _⟩ => ⟨S1x6144, .f32⟩
  | .hbm, ⟨84, _⟩ => ⟨S_, .f32⟩
  | .hbm, ⟨85, _⟩ => ⟨S6144, .f32⟩
  | .hbm, ⟨86, _⟩ => ⟨S2x6144, .f32⟩
  | .hbm, ⟨87, _⟩ => ⟨S4094x6144, .f32⟩
  | .hbm, ⟨88, _⟩ => ⟨S_, .f32⟩
  | .hbm, ⟨89, _⟩ => ⟨S4096x6144, .f32⟩
  | .hbm, ⟨90, _⟩ => ⟨S4096x6144, .f32⟩
  | .hbm, ⟨91, _⟩ => ⟨S1x6144, .f32⟩
  | .hbm, ⟨92, _⟩ => ⟨S_, .f32⟩
  | .hbm, ⟨93, _⟩ => ⟨S3x6144, .f32⟩
  | .hbm, ⟨94, _⟩ => ⟨S3x6144, .f32⟩
  | .hbm, ⟨95, _⟩ => ⟨S4096x6144, .bf16⟩
  | .hbm, ⟨96, _⟩ => ⟨S1x6144, .f32⟩
  | .hbm, ⟨97, _⟩ => ⟨S_, .f32⟩
  | .hbm, ⟨98, _⟩ => ⟨S4x6144, .f32⟩
  | .hbm, ⟨99, _⟩ => ⟨S8x6144, .f32⟩
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_cst_14 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_15 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_16 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_17 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== NormGrad.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormGradIdeal.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormGradReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S6x1024, .f32⟩
  | .hbm, ⟨93, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_cst_14 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== NormTopGrad.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormTopGradIdeal.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormTopGradReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S6x1024, .f32⟩
  | .hbm, ⟨89, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_17 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== Loss.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossIdeal.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Mix.lean ====
abbrev S4096x384 : Shape := ⟨2, ![4096, 384]⟩
abbrev S4096x256 : Shape := ⟨2, ![4096, 256]⟩
abbrev S1024 : Shape := ⟨1, ![1024]⟩
abbrev S1x1024 : Shape := ⟨2, ![1, 1024]⟩
abbrev S4096x1024 : Shape := ⟨2, ![4096, 1024]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1x384 : Shape := ⟨2, ![1, 384]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S1024, .f32⟩
  | .hbm, ⟨4, _⟩ => ⟨S1x1024, .f32⟩
  | .hbm, ⟨5, _⟩ => ⟨S4096x1024, .bf16⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixIdeal.lean ====
abbrev S4096x384 : Shape := ⟨2, ![4096, 384]⟩
abbrev S4096x256 : Shape := ⟨2, ![4096, 256]⟩
abbrev S1024 : Shape := ⟨1, ![1024]⟩
abbrev S1x1024 : Shape := ⟨2, ![1, 1024]⟩
abbrev S4096x1024 : Shape := ⟨2, ![4096, 1024]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1x384 : Shape := ⟨2, ![1, 384]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S1024, .f32⟩
  | .hbm, ⟨4, _⟩ => ⟨S1x1024, .f32⟩
  | .hbm, ⟨5, _⟩ => ⟨S4096x1024, .bf16⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixReferenceIdeal.lean ====
abbrev S4096x384 : Shape := ⟨2, ![4096, 384]⟩
abbrev S4096x256 : Shape := ⟨2, ![4096, 256]⟩
abbrev S1024 : Shape := ⟨1, ![1024]⟩
abbrev S384 : Shape := ⟨1, ![384]⟩
abbrev S256 : Shape := ⟨1, ![256]⟩
abbrev S_ : Shape := ⟨0, ![]⟩
abbrev S4096 : Shape := ⟨1, ![4096]⟩
abbrev S4096x1 : Shape := ⟨2, ![4096, 1]⟩
abbrev S1x384 : Shape := ⟨2, ![1, 384]⟩
abbrev S1x256 : Shape := ⟨2, ![1, 256]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x256, .f32⟩
  | .hbm, ⟨3, _⟩ => ⟨S1024, .f32⟩
  | .hbm, ⟨4, _⟩ => ⟨S384, .f32⟩
  | .hbm, ⟨5, _⟩ => ⟨S384, .f32⟩
  | .hbm, ⟨6, _⟩ => ⟨S256, .f32⟩
  | .hbm, ⟨7, _⟩ => ⟨S4096x384, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x384, .f32⟩
  | .hbm, ⟨19, _⟩ => ⟨S4096x384, .f32⟩
  | .hbm, ⟨20, _⟩ => ⟨S1x384, .f32⟩
  | .hbm, ⟨21, _⟩ => ⟨S4096x384, .f32⟩
  | .hbm, ⟨22, _⟩ => ⟨S4096x384, .f32⟩
  | .hbm, ⟨23, _⟩ => ⟨S4096x384, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x384, .f32⟩
  | .hbm, ⟨35, _⟩ => ⟨S4096x384, .f32⟩
  | .hbm, ⟨36, _⟩ => ⟨S1x384, .f32⟩
  | .hbm, ⟨37, _⟩ => ⟨S4096x384, .f32⟩
  | .hbm, ⟨38, _⟩ => ⟨S4096x384, .f32⟩
  | .hbm, ⟨39, _⟩ => ⟨S4096x256, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x256, .f32⟩
  | .hbm, ⟨51, _⟩ => ⟨S4096x256, .f32⟩
  | .hbm, ⟨52, _⟩ => ⟨S1x256, .f32⟩
  | .hbm, ⟨53, _⟩ => ⟨S4096x256, .f32⟩
  | .hbm, ⟨54, _⟩ => ⟨S4096x256, .f32⟩
  | .hbm, ⟨55, _⟩ => ⟨S4096x1024, .f32⟩
  | .hbm, ⟨56, _⟩ => ⟨S4096x1024, .bf16⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== S5Out.lean ====
abbrev S4096x256 : Shape := ⟨2, ![4096, 256]⟩
abbrev S4096x2304 : Shape := ⟨2, ![4096, 2304]⟩
abbrev S256 : Shape := ⟨1, ![256]⟩
abbrev S256x256 : Shape := ⟨2, ![256, 256]⟩
abbrev S1x256 : Shape := ⟨2, ![1, 256]⟩
abbrev S512x256 : Shape := ⟨2, ![512, 256]⟩
abbrev S512x384 : Shape := ⟨2, ![512, 384]⟩

abbrev nBuf : Space → Nat
  | .hbm => 9
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x2304, .f32⟩
  | .hbm, ⟨2, _⟩ => ⟨S256, .f32⟩
  | .hbm, ⟨3, _⟩ => ⟨S256x256, .bf16⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S4096x256, .f32⟩
  | .hbm, ⟨8, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x384, .f32⟩
  | .local _ .vmem, ⟨3, _⟩ => ⟨S512x384, .f32⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== S5OutIdeal.lean ====
abbrev S4096x256 : Shape := ⟨2, ![4096, 256]⟩
abbrev S4096x2304 : Shape := ⟨2, ![4096, 2304]⟩
abbrev S256 : Shape := ⟨1, ![256]⟩
abbrev S256x256 : Shape := ⟨2, ![256, 256]⟩
abbrev S1x256 : Shape := ⟨2, ![1, 256]⟩
abbrev S512x256 : Shape := ⟨2, ![512, 256]⟩
abbrev S512x384 : Shape := ⟨2, ![512, 384]⟩

abbrev nBuf : Space → Nat
  | .hbm => 9
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x2304, .f32⟩
  | .hbm, ⟨2, _⟩ => ⟨S256, .f32⟩
  | .hbm, ⟨3, _⟩ => ⟨S256x256, .bf16⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S4096x256, .f32⟩
  | .hbm, ⟨8, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x384, .f32⟩
  | .local _ .vmem, ⟨3, _⟩ => ⟨S512x384, .f32⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F] [Named F]

def κ : String → Option EReal := fun
  | "cubic" => some ((8943 / 200000 : ℝ) : EReal)
  | "cubic3" => some ((26829 / 200000 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== S5OutReferenceIdeal.lean ====
abbrev S4096x256 : Shape := ⟨2, ![4096, 256]⟩
abbrev S4096x2304 : Shape := ⟨2, ![4096, 2304]⟩
abbrev S256 : Shape := ⟨1, ![256]⟩
abbrev S256x256 : Shape := ⟨2, ![256, 256]⟩
abbrev S1x256 : Shape := ⟨2, ![1, 256]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2304, .f32⟩
  | .hbm, ⟨2, _⟩ => ⟨S256, .f32⟩
  | .hbm, ⟨3, _⟩ => ⟨S256x256, .bf16⟩
  | .hbm, ⟨4, _⟩ => ⟨S256, .f32⟩
  | .hbm, ⟨5, _⟩ => ⟨S4096x256, .f32⟩
  | .hbm, ⟨6, _⟩ => ⟨S1x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S256x256, .f32⟩
  | .hbm, ⟨31, _⟩ => ⟨S4096x256, .f32⟩
  | .hbm, ⟨32, _⟩ => ⟨S1x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S1x256, .f32⟩
  | .hbm, ⟨46, _⟩ => ⟨S4096x256, .f32⟩
  | .hbm, ⟨47, _⟩ => ⟨S4096x256, .f32⟩
  | .hbm, ⟨48, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Rope.lean ====
abbrev S4096x2304 : Shape := ⟨2, ![4096, 2304]⟩
abbrev S4096x32 : Shape := ⟨2, ![4096, 32]⟩
abbrev S4096x64 : Shape := ⟨2, ![4096, 64]⟩
abbrev S1x4096x1x64 : Shape := ⟨4, ![1, 4096, 1, 64]⟩
abbrev S1x4096x6x64 : Shape := ⟨4, ![1, 4096, 6, 64]⟩
abbrev S4096x384 : Shape := ⟨2, ![4096, 384]⟩
abbrev S512x384 : Shape := ⟨2, ![512, 384]⟩

abbrev nBuf : Space → Nat
  | .hbm => 14
  | .vmem => 12
  | .smem => 0
  | _ => 0

abbrev bufTy : (tb : Table) → Fin (tcTables nBuf tb) → BufTy
  | .hbm, ⟨0, _⟩ => ⟨S4096x2304, .f32⟩
  | .hbm, ⟨1, _⟩ => ⟨S4096x32, .f32⟩
  | .hbm, ⟨2, _⟩ => ⟨S4096x32, .f32⟩
  | .hbm, ⟨3, _⟩ => ⟨S4096x64, .f32⟩
  | .hbm, ⟨4, _⟩ => ⟨S1x4096x1x64, .f32⟩
  | .hbm, ⟨5, _⟩ => ⟨S1x4096x6x64, .f32⟩
  | .hbm, ⟨6, _⟩ => ⟨S4096x384, .f32⟩
  | .hbm, ⟨7, _⟩ => ⟨S4096x32, .f32⟩
  | .hbm, ⟨8, _⟩ => ⟨S4096x64, .f32⟩
  | .hbm, ⟨9, _⟩ => ⟨S1x4096x1x64, .f32⟩
  | .hbm, ⟨10, _⟩ => ⟨S1x4096x6x64, .f32⟩
  | .hbm, ⟨11, _⟩ => ⟨S4096x384, .f32⟩
  | .hbm, ⟨12, _⟩ => ⟨S4096x384, .f32⟩
  | .hbm, ⟨13, _⟩ => ⟨S4096x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeIdeal.lean ====
abbrev S4096x2304 : Shape := ⟨2, ![4096, 2304]⟩
abbrev S4096x32 : Shape := ⟨2, ![4096, 32]⟩
abbrev S4096x64 : Shape := ⟨2, ![4096, 64]⟩
abbrev S1x4096x1x64 : Shape := ⟨4, ![1, 4096, 1, 64]⟩
abbrev S1x4096x6x64 : Shape := ⟨4, ![1, 4096, 6, 64]⟩
abbrev S4096x384 : Shape := ⟨2, ![4096, 384]⟩
abbrev S512x384 : Shape := ⟨2, ![512, 384]⟩

abbrev nBuf : Space → Nat
  | .hbm => 14
  | .vmem => 12
  | .smem => 0
  | _ => 0

abbrev bufTy : (tb : Table) → Fin (tcTables nBuf tb) → BufTy
  | .hbm, ⟨0, _⟩ => ⟨S4096x2304, .f32⟩
  | .hbm, ⟨1, _⟩ => ⟨S4096x32, .f32⟩
  | .hbm, ⟨2, _⟩ => ⟨S4096x32, .f32⟩
  | .hbm, ⟨3, _⟩ => ⟨S4096x64, .f32⟩
  | .hbm, ⟨4, _⟩ => ⟨S1x4096x1x64, .f32⟩
  | .hbm, ⟨5, _⟩ => ⟨S1x4096x6x64, .f32⟩
  | .hbm, ⟨6, _⟩ => ⟨S4096x384, .f32⟩
  | .hbm, ⟨7, _⟩ => ⟨S4096x32, .f32⟩
  | .hbm, ⟨8, _⟩ => ⟨S4096x64, .f32⟩
  | .hbm, ⟨9, _⟩ => ⟨S1x4096x1x64, .f32⟩
  | .hbm, ⟨10, _⟩ => ⟨S1x4096x6x64, .f32⟩
  | .hbm, ⟨11, _⟩ => ⟨S4096x384, .f32⟩
  | .hbm, ⟨12, _⟩ => ⟨S4096x384, .f32⟩
  | .hbm, ⟨13, _⟩ => ⟨S4096x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeReferenceIdeal.lean ====
abbrev S4096x2304 : Shape := ⟨2, ![4096, 2304]⟩
abbrev S4096x32 : Shape := ⟨2, ![4096, 32]⟩
abbrev S4096x384 : Shape := ⟨2, ![4096, 384]⟩
abbrev S4096x6x64 : Shape := ⟨3, ![4096, 6, 64]⟩
abbrev S4096x6x32 : Shape := ⟨3, ![4096, 6, 32]⟩
abbrev S4096x1x32 : Shape := ⟨3, ![4096, 1, 32]⟩

abbrev nBuf : Space → Nat
  | .hbm => 39
  | .vmem => 0
  | .smem => 0
  | _ => 0

abbrev bufTy : (tb : Table) → Fin (tcTables nBuf tb) → BufTy
  | .hbm, ⟨0, _⟩ => ⟨S4096x2304, .f32⟩
  | .hbm, ⟨1, _⟩ => ⟨S4096x32, .f32⟩
  | .hbm, ⟨2, _⟩ => ⟨S4096x32, .f32⟩
  | .hbm, ⟨3, _⟩ => ⟨S4096x384, .f32⟩
  | .hbm, ⟨4, _⟩ => ⟨S4096x6x64, .f32⟩
  | .hbm, ⟨5, _⟩ => ⟨S4096x6x32, .f32⟩
  | .hbm, ⟨6, _⟩ => ⟨S4096x6x32, .f32⟩
  | .hbm, ⟨7, _⟩ => ⟨S4096x1x32, .f32⟩
  | .hbm, ⟨8, _⟩ => ⟨S4096x1x32, .f32⟩
  | .hbm, ⟨9, _⟩ => ⟨S4096x6x32, .f32⟩
  | .hbm, ⟨10, _⟩ => ⟨S4096x6x32, .f32⟩
  | .hbm, ⟨11, _⟩ => ⟨S4096x6x32, .f32⟩
  | .hbm, ⟨12, _⟩ => ⟨S4096x6x32, .f32⟩
  | .hbm, ⟨13, _⟩ => ⟨S4096x6x32, .f32⟩
  | .hbm, ⟨14, _⟩ => ⟨S4096x6x32, .f32⟩
  | .hbm, ⟨15, _⟩ => ⟨S4096x6x32, .f32⟩
  | .hbm, ⟨16, _⟩ => ⟨S4096x6x32, .f32⟩
  | .hbm, ⟨17, _⟩ => ⟨S4096x6x32, .f32⟩
  | .hbm, ⟨18, _⟩ => ⟨S4096x6x32, .f32⟩
  | .hbm, ⟨19, _⟩ => ⟨S4096x6x64, .f32⟩
  | .hbm, ⟨20, _⟩ => ⟨S4096x384, .f32⟩
  | .hbm, ⟨21, _⟩ => ⟨S4096x384, .f32⟩
  | .hbm, ⟨22, _⟩ => ⟨S4096x6x64, .f32⟩
  | .hbm, ⟨23, _⟩ => ⟨S4096x6x32, .f32⟩
  | .hbm, ⟨24, _⟩ => ⟨S4096x6x32, .f32⟩
  | .hbm, ⟨25, _⟩ => ⟨S4096x1x32, .f32⟩
  | .hbm, ⟨26, _⟩ => ⟨S4096x1x32, .f32⟩
  | .hbm, ⟨27, _⟩ => ⟨S4096x6x32, .f32⟩
  | .hbm, ⟨28, _⟩ => ⟨S4096x6x32, .f32⟩
  | .hbm, ⟨29, _⟩ => ⟨S4096x6x32, .f32⟩
  | .hbm, ⟨30, _⟩ => ⟨S4096x6x32, .f32⟩
  | .hbm, ⟨31, _⟩ => ⟨S4096x6x32, .f32⟩
  | .hbm, ⟨32, _⟩ => ⟨S4096x6x32, .f32⟩
  | .hbm, ⟨33, _⟩ => ⟨S4096x6x32, .f32⟩
  | .hbm, ⟨34, _⟩ => ⟨S4096x6x32, .f32⟩
  | .hbm, ⟨35, _⟩ => ⟨S4096x6x32, .f32⟩
  | .hbm, ⟨36, _⟩ => ⟨S4096x6x32, .f32⟩
  | .hbm, ⟨37, _⟩ => ⟨S4096x6x64, .f32⟩
  | .hbm, ⟨38, _⟩ => ⟨S4096x384, .f32⟩
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩

abbrev nD : Nat := 1
abbrev τ : Topo := Topo.v7x

variable {F : FTy → Type} [FloatOps F]
-- ==== RopeGrad.lean ====
abbrev S4096x384 : Shape := ⟨2, ![4096, 384]⟩
abbrev S4096x32 : Shape := ⟨2, ![4096, 32]⟩
abbrev S4096x64 : Shape := ⟨2, ![4096, 64]⟩
abbrev S1x4096x1x64 : Shape := ⟨4, ![1, 4096, 1, 64]⟩
abbrev S1x4096x6x64 : Shape := ⟨4, ![1, 4096, 6, 64]⟩
abbrev S512x384 : Shape := ⟨2, ![512, 384]⟩

abbrev nBuf : Space → Nat
  | .hbm => 15
  | .vmem => 12
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x32, .f32⟩
  | .hbm, ⟨3, _⟩ => ⟨S4096x32, .f32⟩
  | .hbm, ⟨4, _⟩ => ⟨S4096x64, .f32⟩
  | .hbm, ⟨5, _⟩ => ⟨S1x4096x1x64, .f32⟩
  | .hbm, ⟨6, _⟩ => ⟨S1x4096x6x64, .f32⟩
  | .hbm, ⟨7, _⟩ => ⟨S4096x384, .f32⟩
  | .hbm, ⟨8, _⟩ => ⟨S4096x32, .f32⟩
  | .hbm, ⟨9, _⟩ => ⟨S4096x64, .f32⟩
  | .hbm, ⟨10, _⟩ => ⟨S1x4096x1x64, .f32⟩
  | .hbm, ⟨11, _⟩ => ⟨S1x4096x6x64, .f32⟩
  | .hbm, ⟨12, _⟩ => ⟨S4096x384, .f32⟩
  | .hbm, ⟨13, _⟩ => ⟨S4096x384, .f32⟩
  | .hbm, ⟨14, _⟩ => ⟨S4096x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeGradIdeal.lean ====
abbrev S4096x384 : Shape := ⟨2, ![4096, 384]⟩
abbrev S4096x32 : Shape := ⟨2, ![4096, 32]⟩
abbrev S4096x64 : Shape := ⟨2, ![4096, 64]⟩
abbrev S1x4096x1x64 : Shape := ⟨4, ![1, 4096, 1, 64]⟩
abbrev S1x4096x6x64 : Shape := ⟨4, ![1, 4096, 6, 64]⟩
abbrev S512x384 : Shape := ⟨2, ![512, 384]⟩

abbrev nBuf : Space → Nat
  | .hbm => 15
  | .vmem => 12
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x32, .f32⟩
  | .hbm, ⟨3, _⟩ => ⟨S4096x32, .f32⟩
  | .hbm, ⟨4, _⟩ => ⟨S4096x64, .f32⟩
  | .hbm, ⟨5, _⟩ => ⟨S1x4096x1x64, .f32⟩
  | .hbm, ⟨6, _⟩ => ⟨S1x4096x6x64, .f32⟩
  | .hbm, ⟨7, _⟩ => ⟨S4096x384, .f32⟩
  | .hbm, ⟨8, _⟩ => ⟨S4096x32, .f32⟩
  | .hbm, ⟨9, _⟩ => ⟨S4096x64, .f32⟩
  | .hbm, ⟨10, _⟩ => ⟨S1x4096x1x64, .f32⟩
  | .hbm, ⟨11, _⟩ => ⟨S1x4096x6x64, .f32⟩
  | .hbm, ⟨12, _⟩ => ⟨S4096x384, .f32⟩
  | .hbm, ⟨13, _⟩ => ⟨S4096x384, .f32⟩
  | .hbm, ⟨14, _⟩ => ⟨S4096x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeGradReferenceIdeal.lean ====
abbrev S4096x384 : Shape := ⟨2, ![4096, 384]⟩
abbrev S4096x32 : Shape := ⟨2, ![4096, 32]⟩
abbrev S4096x1x32 : Shape := ⟨3, ![4096, 1, 32]⟩
abbrev S4096x6x64 : Shape := ⟨3, ![4096, 6, 64]⟩
abbrev S4096x6x32 : Shape := ⟨3, ![4096, 6, 32]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x32, .f32⟩
  | .hbm, ⟨3, _⟩ => ⟨S4096x32, .f32⟩
  | .hbm, ⟨4, _⟩ => ⟨S4096x1x32, .f32⟩
  | .hbm, ⟨5, _⟩ => ⟨S4096x1x32, .f32⟩
  | .hbm, ⟨6, _⟩ => ⟨S4096x6x64, .f32⟩
  | .hbm, ⟨7, _⟩ => ⟨S4096x6x32, .f32⟩
  | .hbm, ⟨8, _⟩ => ⟨S4096x6x32, .f32⟩
  | .hbm, ⟨9, _⟩ => ⟨S4096x6x32, .f32⟩
  | .hbm, ⟨10, _⟩ => ⟨S4096x6x32, .f32⟩
  | .hbm, ⟨11, _⟩ => ⟨S4096x6x32, .f32⟩
  | .hbm, ⟨12, _⟩ => ⟨S4096x6x32, .f32⟩
  | .hbm, ⟨13, _⟩ => ⟨S4096x6x32, .f32⟩
  | .hbm, ⟨14, _⟩ => ⟨S4096x6x32, .f32⟩
  | .hbm, ⟨15, _⟩ => ⟨S4096x6x32, .f32⟩
  | .hbm, ⟨16, _⟩ => ⟨S4096x6x32, .f32⟩
  | .hbm, ⟨17, _⟩ => ⟨S4096x6x32, .f32⟩
  | .hbm, ⟨18, _⟩ => ⟨S4096x6x32, .f32⟩
  | .hbm, ⟨19, _⟩ => ⟨S4096x6x32, .f32⟩
  | .hbm, ⟨20, _⟩ => ⟨S_, .f32⟩
  | .hbm, ⟨21, _⟩ => ⟨S4096x6x64, .f32⟩
  | .hbm, ⟨22, _⟩ => ⟨S_, .f32⟩
  | .hbm, ⟨23, _⟩ => ⟨S4096x6x64, .f32⟩
  | .hbm, ⟨24, _⟩ => ⟨S4096x6x64, .f32⟩
  | .hbm, ⟨25, _⟩ => ⟨S4096x384, .f32⟩
  | .hbm, ⟨26, _⟩ => ⟨S4096x1x32, .f32⟩
  | .hbm, ⟨27, _⟩ => ⟨S4096x1x32, .f32⟩
  | .hbm, ⟨28, _⟩ => ⟨S4096x6x64, .f32⟩
  | .hbm, ⟨29, _⟩ => ⟨S4096x6x32, .f32⟩
  | .hbm, ⟨30, _⟩ => ⟨S4096x6x32, .f32⟩
  | .hbm, ⟨31, _⟩ => ⟨S4096x6x32, .f32⟩
  | .hbm, ⟨32, _⟩ => ⟨S4096x6x32, .f32⟩
  | .hbm, ⟨33, _⟩ => ⟨S4096x6x32, .f32⟩
  | .hbm, ⟨34, _⟩ => ⟨S4096x6x32, .f32⟩
  | .hbm, ⟨35, _⟩ => ⟨S4096x6x32, .f32⟩
  | .hbm, ⟨36, _⟩ => ⟨S4096x6x32, .f32⟩
  | .hbm, ⟨37, _⟩ => ⟨S4096x6x32, .f32⟩
  | .hbm, ⟨38, _⟩ => ⟨S4096x6x32, .f32⟩
  | .hbm, ⟨39, _⟩ => ⟨S4096x6x32, .f32⟩
  | .hbm, ⟨40, _⟩ => ⟨S4096x6x32, .f32⟩
  | .hbm, ⟨41, _⟩ => ⟨S4096x6x32, .f32⟩
  | .hbm, ⟨42, _⟩ => ⟨S_, .f32⟩
  | .hbm, ⟨43, _⟩ => ⟨S4096x6x64, .f32⟩
  | .hbm, ⟨44, _⟩ => ⟨S_, .f32⟩
  | .hbm, ⟨45, _⟩ => ⟨S4096x6x64, .f32⟩
  | .hbm, ⟨46, _⟩ => ⟨S4096x6x64, .f32⟩
  | .hbm, ⟨47, _⟩ => ⟨S4096x384, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== S5Bu.lean ====
abbrev S4096x2304 : Shape := ⟨2, ![4096, 2304]⟩
abbrev S384x2048 : Shape := ⟨2, ![384, 2048]⟩
abbrev S4096x2048 : Shape := ⟨2, ![4096, 2048]⟩
abbrev S1024x384 : Shape := ⟨2, ![1024, 384]⟩
abbrev S384x1024 : Shape := ⟨2, ![384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2304, .f32⟩
  | .hbm, ⟨1, _⟩ => ⟨S384x2048, .bf16⟩
  | .hbm, ⟨2, _⟩ => ⟨S4096x2048, .f32⟩
  | .local _ .vmem, ⟨0, _⟩ => ⟨S1024x384, .f32⟩
  | .local _ .vmem, ⟨1, _⟩ => ⟨S1024x384, .f32⟩
  | .local _ .vmem, ⟨2, _⟩ => ⟨S384x1024, .bf16⟩
  | .local _ .vmem, ⟨3, _⟩ => ⟨S384x1024, .bf16⟩
  | .local _ .vmem, ⟨4, _⟩ => ⟨S1024x1024, .f32⟩
  | .local _ .vmem, ⟨5, _⟩ => ⟨S1024x1024, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg2 c5_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5BuIdeal.lean ====
abbrev S4096x2304 : Shape := ⟨2, ![4096, 2304]⟩
abbrev S384x2048 : Shape := ⟨2, ![384, 2048]⟩
abbrev S4096x2048 : Shape := ⟨2, ![4096, 2048]⟩
abbrev S1024x384 : Shape := ⟨2, ![1024, 384]⟩
abbrev S384x1024 : Shape := ⟨2, ![384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2304, .f32⟩
  | .hbm, ⟨1, _⟩ => ⟨S384x2048, .bf16⟩
  | .hbm, ⟨2, _⟩ => ⟨S4096x2048, .f32⟩
  | .local _ .vmem, ⟨0, _⟩ => ⟨S1024x384, .f32⟩
  | .local _ .vmem, ⟨1, _⟩ => ⟨S1024x384, .f32⟩
  | .local _ .vmem, ⟨2, _⟩ => ⟨S384x1024, .bf16⟩
  | .local _ .vmem, ⟨3, _⟩ => ⟨S384x1024, .bf16⟩
  | .local _ .vmem, ⟨4, _⟩ => ⟨S1024x1024, .f32⟩
  | .local _ .vmem, ⟨5, _⟩ => ⟨S1024x1024, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg2 c5_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5BuReferenceIdeal.lean ====
abbrev S4096x2304 : Shape := ⟨2, ![4096, 2304]⟩
abbrev S384x2048 : Shape := ⟨2, ![384, 2048]⟩
abbrev S4096x384 : Shape := ⟨2, ![4096, 384]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2304, .f32⟩
  | .hbm, ⟨1, _⟩ => ⟨S384x2048, .bf16⟩
  | .hbm, ⟨2, _⟩ => ⟨S4096x384, .f32⟩
  | .hbm, ⟨3, _⟩ => ⟨S384x2048, .f32⟩
  | .hbm, ⟨4, _⟩ => ⟨S4096x2048, .f32⟩
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== S5Y.lean ====
abbrev S4096x2048 : Shape := ⟨2, ![4096, 2048]⟩
abbrev S2048x256 : Shape := ⟨2, ![2048, 256]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x256, .bf16⟩
  | .hbm, ⟨2, _⟩ => ⟨S4096x256, .f32⟩
  | .local _ .vmem, ⟨0, _⟩ => ⟨S1024x2048, .f32⟩
  | .local _ .vmem, ⟨1, _⟩ => ⟨S1024x2048, .f32⟩
  | .local _ .vmem, ⟨2, _⟩ => ⟨S2048x256, .bf16⟩
  | .local _ .vmem, ⟨3, _⟩ => ⟨S1024x256, .f32⟩
  | .local _ .vmem, ⟨4, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5YIdeal.lean ====
abbrev S4096x2048 : Shape := ⟨2, ![4096, 2048]⟩
abbrev S2048x256 : Shape := ⟨2, ![2048, 256]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x256, .bf16⟩
  | .hbm, ⟨2, _⟩ => ⟨S4096x256, .f32⟩
  | .local _ .vmem, ⟨0, _⟩ => ⟨S1024x2048, .f32⟩
  | .local _ .vmem, ⟨1, _⟩ => ⟨S1024x2048, .f32⟩
  | .local _ .vmem, ⟨2, _⟩ => ⟨S2048x256, .bf16⟩
  | .local _ .vmem, ⟨3, _⟩ => ⟨S1024x256, .f32⟩
  | .local _ .vmem, ⟨4, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5YReferenceIdeal.lean ====
abbrev S4096x2048 : Shape := ⟨2, ![4096, 2048]⟩
abbrev S2048x256 : Shape := ⟨2, ![2048, 256]⟩
abbrev S4096x256 : Shape := ⟨2, ![4096, 256]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x256, .bf16⟩
  | .hbm, ⟨2, _⟩ => ⟨S2048x256, .f32⟩
  | .hbm, ⟨3, _⟩ => ⟨S4096x256, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== S5Dx.lean ====
abbrev S4096x2048 : Shape := ⟨2, ![4096, 2048]⟩
abbrev S2048x256 : Shape := ⟨2, ![2048, 256]⟩
abbrev S4096x256 : Shape := ⟨2, ![4096, 256]⟩
abbrev S1024x256 : Shape := ⟨2, ![1024, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x256, .bf16⟩
  | .hbm, ⟨2, _⟩ => ⟨S4096x256, .f32⟩
  | .hbm, ⟨3, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DxIdeal.lean ====
abbrev S4096x2048 : Shape := ⟨2, ![4096, 2048]⟩
abbrev S2048x256 : Shape := ⟨2, ![2048, 256]⟩
abbrev S4096x256 : Shape := ⟨2, ![4096, 256]⟩
abbrev S1024x256 : Shape := ⟨2, ![1024, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x256, .bf16⟩
  | .hbm, ⟨2, _⟩ => ⟨S4096x256, .f32⟩
  | .hbm, ⟨3, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DxReferenceIdeal.lean ====
abbrev S4096x2048 : Shape := ⟨2, ![4096, 2048]⟩
abbrev S2048x256 : Shape := ⟨2, ![2048, 256]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x256, .bf16⟩
  | .hbm, ⟨2, _⟩ => ⟨S4096x256, .f32⟩
  | .hbm, ⟨3, _⟩ => ⟨S2048x256, .f32⟩
  | .hbm, ⟨4, _⟩ => ⟨S4096x256, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== S5Dc.lean ====
abbrev S4096x2048 : Shape := ⟨2, ![4096, 2048]⟩
abbrev S2048x256 : Shape := ⟨2, ![2048, 256]⟩
abbrev S4096x256 : Shape := ⟨2, ![4096, 256]⟩
abbrev S1024x1024 : Shape := ⟨2, ![1024, 1024]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x256, .bf16⟩
  | .hbm, ⟨2, _⟩ => ⟨S4096x256, .f32⟩
  | .hbm, ⟨3, _⟩ => ⟨S2048x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DcIdeal.lean ====
abbrev S4096x2048 : Shape := ⟨2, ![4096, 2048]⟩
abbrev S2048x256 : Shape := ⟨2, ![2048, 256]⟩
abbrev S4096x256 : Shape := ⟨2, ![4096, 256]⟩
abbrev S1024x1024 : Shape := ⟨2, ![1024, 1024]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x256, .bf16⟩
  | .hbm, ⟨2, _⟩ => ⟨S4096x256, .f32⟩
  | .hbm, ⟨3, _⟩ => ⟨S2048x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DcReferenceIdeal.lean ====
abbrev S4096x2048 : Shape := ⟨2, ![4096, 2048]⟩
abbrev S2048x256 : Shape := ⟨2, ![2048, 256]⟩
abbrev S4096x256 : Shape := ⟨2, ![4096, 256]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x256, .bf16⟩
  | .hbm, ⟨2, _⟩ => ⟨S4096x256, .f32⟩
  | .hbm, ⟨3, _⟩ => ⟨S2048x256, .f32⟩
  | .hbm, ⟨4, _⟩ => ⟨S4096x256, .f32⟩
  | .hbm, ⟨5, _⟩ => ⟨S256x2048, .f32⟩
  | .hbm, ⟨6, _⟩ => ⟨S2048x256, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== S5Du.lean ====
abbrev S4096x256 : Shape := ⟨2, ![4096, 256]⟩
abbrev S256x2048 : Shape := ⟨2, ![256, 2048]⟩
abbrev S4096x2048 : Shape := ⟨2, ![4096, 2048]⟩
abbrev S1024x2048 : Shape := ⟨2, ![1024, 2048]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .f32⟩
  | .hbm, ⟨3, _⟩ => ⟨S4096x256, .f32⟩
  | .hbm, ⟨4, _⟩ => ⟨S4096x256, .f32⟩
  | .local _ .vmem, ⟨0, _⟩ => ⟨S1024x2048, .f32⟩
  | .local _ .vmem, ⟨1, _⟩ => ⟨S1024x2048, .f32⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== S5DuIdeal.lean ====
abbrev S4096x256 : Shape := ⟨2, ![4096, 256]⟩
abbrev S256x2048 : Shape := ⟨2, ![256, 2048]⟩
abbrev S4096x2048 : Shape := ⟨2, ![4096, 2048]⟩
abbrev S1024x2048 : Shape := ⟨2, ![1024, 2048]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .f32⟩
  | .hbm, ⟨3, _⟩ => ⟨S4096x256, .f32⟩
  | .hbm, ⟨4, _⟩ => ⟨S4096x256, .f32⟩
  | .local _ .vmem, ⟨0, _⟩ => ⟨S1024x2048, .f32⟩
  | .local _ .vmem, ⟨1, _⟩ => ⟨S1024x2048, .f32⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== S5DuReferenceIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .f32⟩
  | .hbm, ⟨3, _⟩ => ⟨S4096x256, .f32⟩
  | .hbm, ⟨4, _⟩ => ⟨S256x2048, .f32⟩
  | .hbm, ⟨5, _⟩ => ⟨S4096x2048, .f32⟩
  | .hbm, ⟨6, _⟩ => ⟨S4096x256, .f32⟩
  | .hbm, ⟨7, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== S5Db.lean ====
abbrev S4096x2304 : Shape := ⟨2, ![4096, 2304]⟩
abbrev S384x2048 : Shape := ⟨2, ![384, 2048]⟩
abbrev S4096x2048 : Shape := ⟨2, ![4096, 2048]⟩
abbrev S1024x384 : Shape := ⟨2, ![1024, 384]⟩
abbrev S1024x1024 : Shape := ⟨2, ![1024, 1024]⟩
abbrev S384x1024 : Shape := ⟨2, ![384, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2304, .f32⟩
  | .hbm, ⟨1, _⟩ => ⟨S384x2048, .bf16⟩
  | .hbm, ⟨2, _⟩ => ⟨S4096x2048, .f32⟩
  | .hbm, ⟨3, _⟩ => ⟨S384x2048, .f32⟩
  | .local _ .vmem, ⟨0, _⟩ => ⟨S1024x384, .f32⟩
  | .local _ .vmem, ⟨1, _⟩ => ⟨S1024x384, .f32⟩
  | .local _ .vmem, ⟨2, _⟩ => ⟨S1024x1024, .f32⟩
  | .local _ .vmem, ⟨3, _⟩ => ⟨S1024x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg0 c5_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DbIdeal.lean ====
abbrev S4096x2304 : Shape := ⟨2, ![4096, 2304]⟩
abbrev S384x2048 : Shape := ⟨2, ![384, 2048]⟩
abbrev S4096x2048 : Shape := ⟨2, ![4096, 2048]⟩
abbrev S1024x384 : Shape := ⟨2, ![1024, 384]⟩
abbrev S1024x1024 : Shape := ⟨2, ![1024, 1024]⟩
abbrev S384x1024 : Shape := ⟨2, ![384, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2304, .f32⟩
  | .hbm, ⟨1, _⟩ => ⟨S384x2048, .bf16⟩
  | .hbm, ⟨2, _⟩ => ⟨S4096x2048, .f32⟩
  | .hbm, ⟨3, _⟩ => ⟨S384x2048, .f32⟩
  | .local _ .vmem, ⟨0, _⟩ => ⟨S1024x384, .f32⟩
  | .local _ .vmem, ⟨1, _⟩ => ⟨S1024x384, .f32⟩
  | .local _ .vmem, ⟨2, _⟩ => ⟨S1024x1024, .f32⟩
  | .local _ .vmem, ⟨3, _⟩ => ⟨S1024x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg0 c5_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5DbReferenceIdeal.lean ====
abbrev S4096x2304 : Shape := ⟨2, ![4096, 2304]⟩
abbrev S384x2048 : Shape := ⟨2, ![384, 2048]⟩
abbrev S4096x2048 : Shape := ⟨2, ![4096, 2048]⟩
abbrev S4096x384 : Shape := ⟨2, ![4096, 384]⟩
abbrev S2048x384 : Shape := ⟨2, ![2048, 384]⟩

abbrev nBuf : Space → Nat
  | .hbm => 8
  | .vmem => 0
  | .smem => 0
  | _ => 0

abbrev bufTy : (tb : Table) → Fin (tcTables nBuf tb) → BufTy
  | .hbm, ⟨0, _⟩ => ⟨S4096x2304, .f32⟩
  | .hbm, ⟨1, _⟩ => ⟨S384x2048, .bf16⟩
  | .hbm, ⟨2, _⟩ => ⟨S4096x2048, .f32⟩
  | .hbm, ⟨3, _⟩ => ⟨S4096x384, .f32⟩
  | .hbm, ⟨4, _⟩ => ⟨S384x2048, .f32⟩
  | .hbm, ⟨5, _⟩ => ⟨S4096x2048, .f32⟩
  | .hbm, ⟨6, _⟩ => ⟨S2048x384, .f32⟩
  | .hbm, ⟨7, _⟩ => ⟨S384x2048, .f32⟩
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LruConvGrad.lean ====
abbrev S4096x384 : Shape := ⟨2, ![4096, 384]⟩
abbrev S4096x2304 : Shape := ⟨2, ![4096, 2304]⟩
abbrev S4x384 : Shape := ⟨2, ![4, 384]⟩
abbrev S384 : Shape := ⟨1, ![384]⟩
abbrev S1x4096x384 : Shape := ⟨3, ![1, 4096, 384]⟩
abbrev S8x384 : Shape := ⟨2, ![8, 384]⟩
abbrev S1x512x384 : Shape := ⟨3, ![1, 512, 384]⟩
abbrev S1x8x384 : Shape := ⟨3, ![1, 8, 384]⟩
abbrev S512x384 : Shape := ⟨2, ![512, 384]⟩
abbrev S64x8x384 : Shape := ⟨3, ![64, 8, 384]⟩
abbrev S63x8x384 : Shape := ⟨3, ![63, 8, 384]⟩
abbrev S1x384 : Shape := ⟨2, ![1, 384]⟩

abbrev nBuf : Space → Nat
  | .hbm => 7
  | .vmem => 10
  | .smem => 0
  | _ => 0

abbrev bufTy : (tb : Table) → Fin (tcTables nBuf tb) → BufTy
  | .hbm, ⟨0, _⟩ => ⟨S4096x384, .f32⟩
  | .hbm, ⟨1, _⟩ => ⟨S4096x2304, .f32⟩
  | .hbm, ⟨2, _⟩ => ⟨S4x384, .f32⟩
  | .hbm, ⟨3, _⟩ => ⟨S384, .f32⟩
  | .hbm, ⟨4, _⟩ => ⟨S1x4096x384, .f32⟩
  | .hbm, ⟨5, _⟩ => ⟨S4096x384, .f32⟩
  | .hbm, ⟨6, _⟩ => ⟨S8x384, .f32⟩
  | .local _ .vmem, ⟨0, _⟩ => ⟨S1x512x384, .f32⟩
  | .local _ .vmem, ⟨1, _⟩ => ⟨S1x512x384, .f32⟩
  | .local _ .vmem, ⟨2, _⟩ => ⟨S1x8x384, .f32⟩
  | .local _ .vmem, ⟨3, _⟩ => ⟨S1x8x384, .f32⟩
  | .local _ .vmem, ⟨4, _⟩ => ⟨S512x384, .f32⟩
  | .local _ .vmem, ⟨5, _⟩ => ⟨S512x384, .f32⟩
  | .local _ .vmem, ⟨6, _⟩ => ⟨S4x384, .f32⟩
  | .local _ .vmem, ⟨7, _⟩ => ⟨S512x384, .f32⟩
  | .local _ .vmem, ⟨8, _⟩ => ⟨S512x384, .f32⟩
  | .local _ .vmem, ⟨9, _⟩ => ⟨S8x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![arg0.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c3_i32 : BitVec 32 := 3#32
  let v2 : BitVec 32 := Scalar.addi v1 c3_i32
  let c0_i32 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== LruConvGradIdeal.lean ====
abbrev S4096x384 : Shape := ⟨2, ![4096, 384]⟩
abbrev S4096x2304 : Shape := ⟨2, ![4096, 2304]⟩
abbrev S4x384 : Shape := ⟨2, ![4, 384]⟩
abbrev S384 : Shape := ⟨1, ![384]⟩
abbrev S1x4096x384 : Shape := ⟨3, ![1, 4096, 384]⟩
abbrev S8x384 : Shape := ⟨2, ![8, 384]⟩
abbrev S1x512x384 : Shape := ⟨3, ![1, 512, 384]⟩
abbrev S1x8x384 : Shape := ⟨3, ![1, 8, 384]⟩
abbrev S512x384 : Shape := ⟨2, ![512, 384]⟩
abbrev S64x8x384 : Shape := ⟨3, ![64, 8, 384]⟩
abbrev S63x8x384 : Shape := ⟨3, ![63, 8, 384]⟩
abbrev S1x384 : Shape := ⟨2, ![1, 384]⟩

abbrev nBuf : Space → Nat
  | .hbm => 7
  | .vmem => 10
  | .smem => 0
  | _ => 0

abbrev bufTy : (tb : Table) → Fin (tcTables nBuf tb) → BufTy
  | .hbm, ⟨0, _⟩ => ⟨S4096x384, .f32⟩
  | .hbm, ⟨1, _⟩ => ⟨S4096x2304, .f32⟩
  | .hbm, ⟨2, _⟩ => ⟨S4x384, .f32⟩
  | .hbm, ⟨3, _⟩ => ⟨S384, .f32⟩
  | .hbm, ⟨4, _⟩ => ⟨S1x4096x384, .f32⟩
  | .hbm, ⟨5, _⟩ => ⟨S4096x384, .f32⟩
  | .hbm, ⟨6, _⟩ => ⟨S8x384, .f32⟩
  | .local _ .vmem, ⟨0, _⟩ => ⟨S1x512x384, .f32⟩
  | .local _ .vmem, ⟨1, _⟩ => ⟨S1x512x384, .f32⟩
  | .local _ .vmem, ⟨2, _⟩ => ⟨S1x8x384, .f32⟩
  | .local _ .vmem, ⟨3, _⟩ => ⟨S1x8x384, .f32⟩
  | .local _ .vmem, ⟨4, _⟩ => ⟨S512x384, .f32⟩
  | .local _ .vmem, ⟨5, _⟩ => ⟨S512x384, .f32⟩
  | .local _ .vmem, ⟨6, _⟩ => ⟨S4x384, .f32⟩
  | .local _ .vmem, ⟨7, _⟩ => ⟨S512x384, .f32⟩
  | .local _ .vmem, ⟨8, _⟩ => ⟨S512x384, .f32⟩
  | .local _ .vmem, ⟨9, _⟩ => ⟨S8x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![arg0.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c3_i32 : BitVec 32 := 3#32
  let v2 : BitVec 32 := Scalar.addi v1 c3_i32
  let c0_i32 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== LruConvGradReferenceIdeal.lean ====
abbrev S4096x384 : Shape := ⟨2, ![4096, 384]⟩
abbrev S4096x2304 : Shape := ⟨2, ![4096, 2304]⟩
abbrev S4x384 : Shape := ⟨2, ![4, 384]⟩
abbrev S384 : Shape := ⟨1, ![384]⟩
abbrev S1x384 : Shape := ⟨2, ![1, 384]⟩
abbrev S_ : Shape := ⟨0, ![]⟩
abbrev S3x384 : Shape := ⟨2, ![3, 384]⟩
abbrev S4093x384 : Shape := ⟨2, ![4093, 384]⟩
abbrev S2x384 : Shape := ⟨2, ![2, 384]⟩
abbrev S4094x384 : Shape := ⟨2, ![4094, 384]⟩
abbrev S4095x384 : Shape := ⟨2, ![4095, 384]⟩
abbrev S8x384 : Shape := ⟨2, ![8, 384]⟩

abbrev nBuf : Space → Nat
  | .hbm => 124
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x2304, .f32⟩
  | .hbm, ⟨2, _⟩ => ⟨S4x384, .f32⟩
  | .hbm, ⟨3, _⟩ => ⟨S384, .f32⟩
  | .hbm, ⟨4, _⟩ => ⟨S4096x384, .f32⟩
  | .hbm, ⟨5, _⟩ => ⟨S1x384, .f32⟩
  | .hbm, ⟨6, _⟩ => ⟨S384, .f32⟩
  | .hbm, ⟨7, _⟩ => ⟨S_, .f32⟩
  | .hbm, ⟨8, _⟩ => ⟨S3x384, .f32⟩
  | .hbm, ⟨9, _⟩ => ⟨S4093x384, .f32⟩
  | .hbm, ⟨10, _⟩ => ⟨S4096x384, .f32⟩
  | .hbm, ⟨11, _⟩ => ⟨S_, .f32⟩
  | .hbm, ⟨12, _⟩ => ⟨S3x384, .f32⟩
  | .hbm, ⟨13, _⟩ => ⟨S1x384, .f32⟩
  | .hbm, ⟨14, _⟩ => ⟨S4096x384, .f32⟩
  | .hbm, ⟨15, _⟩ => ⟨S4096x384, .f32⟩
  | .hbm, ⟨16, _⟩ => ⟨S_, .f32⟩
  | .hbm, ⟨17, _⟩ => ⟨S4096x384, .f32⟩
  | .hbm, ⟨18, _⟩ => ⟨S4096x384, .f32⟩
  | .hbm, ⟨19, _⟩ => ⟨S1x384, .f32⟩
  | .hbm, ⟨20, _⟩ => ⟨S384, .f32⟩
  | .hbm, ⟨21, _⟩ => ⟨S_, .f32⟩
  | .hbm, ⟨22, _⟩ => ⟨S2x384, .f32⟩
  | .hbm, ⟨23, _⟩ => ⟨S4094x384, .f32⟩
  | .hbm, ⟨24, _⟩ => ⟨S4096x384, .f32⟩
  | .hbm, ⟨25, _⟩ => ⟨S_, .f32⟩
  | .hbm, ⟨26, _⟩ => ⟨S2x384, .f32⟩
  | .hbm, ⟨27, _⟩ => ⟨S1x384, .f32⟩
  | .hbm, ⟨28, _⟩ => ⟨S4096x384, .f32⟩
  | .hbm, ⟨29, _⟩ => ⟨S4096x384, .f32⟩
  | .hbm, ⟨30, _⟩ => ⟨S4096x384, .f32⟩
  | .hbm, ⟨31, _⟩ => ⟨S1x384, .f32⟩
  | .hbm, ⟨32, _⟩ => ⟨S384, .f32⟩
  | .hbm, ⟨33, _⟩ => ⟨S_, .f32⟩
  | .hbm, ⟨34, _⟩ => ⟨S1x384, .f32⟩
  | .hbm, ⟨35, _⟩ => ⟨S4095x384, .f32⟩
  | .hbm, ⟨36, _⟩ => ⟨S4096x384, .f32⟩
  | .hbm, ⟨37, _⟩ => ⟨S_, .f32⟩
  | .hbm, ⟨38, _⟩ => ⟨S1x384, .f32⟩
  | .hbm, ⟨39, _⟩ => ⟨S1x384, .f32⟩
  | .hbm, ⟨40, _⟩ => ⟨S4096x384, .f32⟩
  | .hbm, ⟨41, _⟩ => ⟨S4096x384, .f32⟩
  | .hbm, ⟨42, _⟩ => ⟨S4096x384, .f32⟩
  | .hbm, ⟨43, _⟩ => ⟨S1x384, .f32⟩
  | .hbm, ⟨44, _⟩ => ⟨S384, .f32⟩
  | .hbm, ⟨45, _⟩ => ⟨S1x384, .f32⟩
  | .hbm, ⟨46, _⟩ => ⟨S4096x384, .f32⟩
  | .hbm, ⟨47, _⟩ => ⟨S4096x384, .f32⟩
  | .hbm, ⟨48, _⟩ => ⟨S4096x384, .f32⟩
  | .hbm, ⟨49, _⟩ => ⟨S1x384, .f32⟩
  | .hbm, ⟨50, _⟩ => ⟨S4096x384, .f32⟩
  | .hbm, ⟨51, _⟩ => ⟨S4096x384, .f32⟩
  | .hbm, ⟨52, _⟩ => ⟨S4096x384, .f32⟩
  | .hbm, ⟨53, _⟩ => ⟨S_, .f32⟩
  | .hbm, ⟨54, _⟩ => ⟨S384, .f32⟩
  | .hbm, ⟨55, _⟩ => ⟨S1x384, .f32⟩
  | .hbm, ⟨56, _⟩ => ⟨S_, .f32⟩
  | .hbm, ⟨57, _⟩ => ⟨S384, .f32⟩
  | .hbm, ⟨58, _⟩ => ⟨S4096x384, .f32⟩
  | .hbm, ⟨59, _⟩ => ⟨S4096x384, .f32⟩
  | .hbm, ⟨60, _⟩ => ⟨S4096x384, .f32⟩
  | .hbm, ⟨61, _⟩ => ⟨S_, .f32⟩
  | .hbm, ⟨62, _⟩ => ⟨S384, .f32⟩
  | .hbm, ⟨63, _⟩ => ⟨S1x384, .f32⟩
  | .hbm, ⟨64, _⟩ => ⟨S_, .f32⟩
  | .hbm, ⟨65, _⟩ => ⟨S384, .f32⟩
  | .hbm, ⟨66, _⟩ => ⟨S1x384, .f32⟩
  | .hbm, ⟨67, _⟩ => ⟨S_, .f32⟩
  | .hbm, ⟨68, _⟩ => ⟨S4x384, .f32⟩
  | .hbm, ⟨69, _⟩ => ⟨S4096x384, .f32⟩
  | .hbm, ⟨70, _⟩ => ⟨S4096x384, .f32⟩
  | .hbm, ⟨71, _⟩ => ⟨S4096x384, .f32⟩
  | .hbm, ⟨72, _⟩ => ⟨S_, .f32⟩
  | .hbm, ⟨73, _⟩ => ⟨S384, .f32⟩
  | .hbm, ⟨74, _⟩ => ⟨S1x384, .f32⟩
  | .hbm, ⟨75, _⟩ => ⟨S_, .f32⟩
  | .hbm, ⟨76, _⟩ => ⟨S384, .f32⟩
  | .hbm, ⟨77, _⟩ => ⟨S1x384, .f32⟩
  | .hbm, ⟨78, _⟩ => ⟨S4095x384, .f32⟩
  | .hbm, ⟨79, _⟩ => ⟨S_, .f32⟩
  | .hbm, ⟨80, _⟩ => ⟨S4096x384, .f32⟩
  | .hbm, ⟨81, _⟩ => ⟨S4096x384, .f32⟩
  | .hbm, ⟨82, _⟩ => ⟨S1x384, .f32⟩
  | .hbm, ⟨83, _⟩ => ⟨S_, .f32⟩
  | .hbm, ⟨84, _⟩ => ⟨S4x384, .f32⟩
  | .hbm, ⟨85, _⟩ => ⟨S4x384, .f32⟩
  | .hbm, ⟨86, _⟩ => ⟨S4096x384, .f32⟩
  | .hbm, ⟨87, _⟩ => ⟨S4096x384, .f32⟩
  | .hbm, ⟨88, _⟩ => ⟨S4096x384, .f32⟩
  | .hbm, ⟨89, _⟩ => ⟨S_, .f32⟩
  | .hbm, ⟨90, _⟩ => ⟨S384, .f32⟩
  | .hbm, ⟨91, _⟩ => ⟨S1x384, .f32⟩
  | .hbm, ⟨92, _⟩ => ⟨S_, .f32⟩
  | .hbm, ⟨93, _⟩ => ⟨S384, .f32⟩
  | .hbm, ⟨94, _⟩ => ⟨S2x384, .f32⟩
  | .hbm, ⟨95, _⟩ => ⟨S4094x384, .f32⟩
  | .hbm, ⟨96, _⟩ => ⟨S_, .f32⟩
  | .hbm, ⟨97, _⟩ => ⟨S4096x384, .f32⟩
  | .hbm, ⟨98, _⟩ => ⟨S4096x384, .f32⟩
  | .hbm, ⟨99, _⟩ => ⟨S1x384, .f32⟩
  | .hbm, ⟨100, _⟩ => ⟨S_, .f32⟩
  | .hbm, ⟨101, _⟩ => ⟨S4x384, .f32⟩
  | .hbm, ⟨102, _⟩ => ⟨S4x384, .f32⟩
  | .hbm, ⟨103, _⟩ => ⟨S4096x384, .f32⟩
  | .hbm, ⟨104, _⟩ => ⟨S4096x384, .f32⟩
  | .hbm, ⟨105, _⟩ => ⟨S4096x384, .f32⟩
  | .hbm, ⟨106, _⟩ => ⟨S_, .f32⟩
  | .hbm, ⟨107, _⟩ => ⟨S384, .f32⟩
  | .hbm, ⟨108, _⟩ => ⟨S1x384, .f32⟩
  | .hbm, ⟨109, _⟩ => ⟨S_, .f32⟩
  | .hbm, ⟨110, _⟩ => ⟨S384, .f32⟩
  | .hbm, ⟨111, _⟩ => ⟨S3x384, .f32⟩
  | .hbm, ⟨112, _⟩ => ⟨S4093x384, .f32⟩
  | .hbm, ⟨113, _⟩ => ⟨S_, .f32⟩
  | .hbm, ⟨114, _⟩ => ⟨S4096x384, .f32⟩
  | .hbm, ⟨115, _⟩ => ⟨S4096x384, .f32⟩
  | .hbm, ⟨116, _⟩ => ⟨S1x384, .f32⟩
  | .hbm, ⟨117, _⟩ => ⟨S_, .f32⟩
  | .hbm, ⟨118, _⟩ => ⟨S4x384, .f32⟩
  | .hbm, ⟨119, _⟩ => ⟨S4x384, .f32⟩
  | .hbm, ⟨120, _⟩ => ⟨S1x384, .f32⟩
  | .hbm, ⟨121, _⟩ => ⟨S_, .f32⟩
  | .hbm, ⟨122, _⟩ => ⟨S3x384, .f32⟩
  | .hbm, ⟨123, _⟩ => ⟨S8x384, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_cst_16 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_17 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_19 : Ref sig .tc := ⟨.hbm, 106, rfl⟩
abbrev main_v82 : Ref sig .tc := ⟨.hbm, 107, rfl⟩
abbrev main_v83 : Ref sig .tc := ⟨.hbm, 108, rfl⟩
abbrev main_cst_20 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_21 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_22 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_23 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]
-- ==== AdamSmall.lean ====
abbrev S4096x128 : Shape := ⟨2, ![4096, 128]⟩
abbrev S2048x128 : Shape := ⟨2, ![2048, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallIdeal.lean ====
abbrev S4096x128 : Shape := ⟨2, ![4096, 128]⟩
abbrev S2048x128 : Shape := ⟨2, ![2048, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallReferenceIdeal.lean ====
abbrev S4096x128 : Shape := ⟨2, ![4096, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S_, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S4096x128, .f32⟩
  | .hbm, ⟨36, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnConv.lean ====
abbrev S2x3x1536 : Shape := ⟨3, ![2, 3, 1536]⟩

abbrev nBuf : Space → Nat
  | .hbm => 7
  | .vmem => 7
  | .smem => 0
  | _ => 0

abbrev bufTy : (tb : Table) → Fin (tcTables nBuf tb) → BufTy
  | .hbm, ⟨0, _⟩ => ⟨S2x3x1536, .f32⟩
  | .hbm, ⟨1, _⟩ => ⟨S2x3x1536, .f32⟩
  | .hbm, ⟨2, _⟩ => ⟨S2x3x1536, .f32⟩
  | .hbm, ⟨3, _⟩ => ⟨S2x3x1536, .f32⟩
  | .hbm, ⟨4, _⟩ => ⟨S2x3x1536, .f32⟩
  | .hbm, ⟨5, _⟩ => ⟨S2x3x1536, .f32⟩
  | .hbm, ⟨6, _⟩ => ⟨S2x3x1536, .f32⟩
  | .local _ .vmem, ⟨0, _⟩ => ⟨S2x3x1536, .f32⟩
  | .local _ .vmem, ⟨1, _⟩ => ⟨S2x3x1536, .f32⟩
  | .local _ .vmem, ⟨2, _⟩ => ⟨S2x3x1536, .f32⟩
  | .local _ .vmem, ⟨3, _⟩ => ⟨S2x3x1536, .f32⟩
  | .local _ .vmem, ⟨4, _⟩ => ⟨S2x3x1536, .f32⟩
  | .local _ .vmem, ⟨5, _⟩ => ⟨S2x3x1536, .f32⟩
  | .local _ .vmem, ⟨6, _⟩ => ⟨S2x3x1536, .f32⟩
  | _, _ => ⟨S2x3x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x3x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamFfnConvIdeal.lean ====
abbrev S2x3x1536 : Shape := ⟨3, ![2, 3, 1536]⟩

abbrev nBuf : Space → Nat
  | .hbm => 7
  | .vmem => 7
  | .smem => 0
  | _ => 0

abbrev bufTy : (tb : Table) → Fin (tcTables nBuf tb) → BufTy
  | .hbm, ⟨0, _⟩ => ⟨S2x3x1536, .f32⟩
  | .hbm, ⟨1, _⟩ => ⟨S2x3x1536, .f32⟩
  | .hbm, ⟨2, _⟩ => ⟨S2x3x1536, .f32⟩
  | .hbm, ⟨3, _⟩ => ⟨S2x3x1536, .f32⟩
  | .hbm, ⟨4, _⟩ => ⟨S2x3x1536, .f32⟩
  | .hbm, ⟨5, _⟩ => ⟨S2x3x1536, .f32⟩
  | .hbm, ⟨6, _⟩ => ⟨S2x3x1536, .f32⟩
  | .local _ .vmem, ⟨0, _⟩ => ⟨S2x3x1536, .f32⟩
  | .local _ .vmem, ⟨1, _⟩ => ⟨S2x3x1536, .f32⟩
  | .local _ .vmem, ⟨2, _⟩ => ⟨S2x3x1536, .f32⟩
  | .local _ .vmem, ⟨3, _⟩ => ⟨S2x3x1536, .f32⟩
  | .local _ .vmem, ⟨4, _⟩ => ⟨S2x3x1536, .f32⟩
  | .local _ .vmem, ⟨5, _⟩ => ⟨S2x3x1536, .f32⟩
  | .local _ .vmem, ⟨6, _⟩ => ⟨S2x3x1536, .f32⟩
  | _, _ => ⟨S2x3x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x3x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamFfnConvReferenceIdeal.lean ====
abbrev S2x3x1536 : Shape := ⟨3, ![2, 3, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x1536, .f32⟩
  | .hbm, ⟨1, _⟩ => ⟨S2x3x1536, .f32⟩
  | .hbm, ⟨2, _⟩ => ⟨S2x3x1536, .f32⟩
  | .hbm, ⟨3, _⟩ => ⟨S2x3x1536, .f32⟩
  | .hbm, ⟨4, _⟩ => ⟨S_, .f32⟩
  | .hbm, ⟨5, _⟩ => ⟨S2x3x1536, .f32⟩
  | .hbm, ⟨6, _⟩ => ⟨S2x3x1536, .f32⟩
  | .hbm, ⟨7, _⟩ => ⟨S_, .f32⟩
  | .hbm, ⟨8, _⟩ => ⟨S2x3x1536, .f32⟩
  | .hbm, ⟨9, _⟩ => ⟨S2x3x1536, .f32⟩
  | .hbm, ⟨10, _⟩ => ⟨S2x3x1536, .f32⟩
  | .hbm, ⟨11, _⟩ => ⟨S_, .f32⟩
  | .hbm, ⟨12, _⟩ => ⟨S2x3x1536, .f32⟩
  | .hbm, ⟨13, _⟩ => ⟨S2x3x1536, .f32⟩
  | .hbm, ⟨14, _⟩ => ⟨S2x3x1536, .f32⟩
  | .hbm, ⟨15, _⟩ => ⟨S_, .f32⟩
  | .hbm, ⟨16, _⟩ => ⟨S2x3x1536, .f32⟩
  | .hbm, ⟨17, _⟩ => ⟨S2x3x1536, .f32⟩
  | .hbm, ⟨18, _⟩ => ⟨S2x3x1536, .f32⟩
  | .hbm, ⟨19, _⟩ => ⟨S_, .f32⟩
  | .hbm, ⟨20, _⟩ => ⟨S2x3x1536, .f32⟩
  | .hbm, ⟨21, _⟩ => ⟨S2x3x1536, .f32⟩
  | .hbm, ⟨22, _⟩ => ⟨S_, .f32⟩
  | .hbm, ⟨23, _⟩ => ⟨S2x3x1536, .f32⟩
  | .hbm, ⟨24, _⟩ => ⟨S2x3x1536, .f32⟩
  | .hbm, ⟨25, _⟩ => ⟨S2x3x1536, .f32⟩
  | .hbm, ⟨26, _⟩ => ⟨S_, .f32⟩
  | .hbm, ⟨27, _⟩ => ⟨S2x3x1536, .f32⟩
  | .hbm, ⟨28, _⟩ => ⟨S2x3x1536, .f32⟩
  | .hbm, ⟨29, _⟩ => ⟨S2x3x1536, .f32⟩
  | .hbm, ⟨30, _⟩ => ⟨S_, .f32⟩
  | .hbm, ⟨31, _⟩ => ⟨S2x3x1536, .f32⟩
  | .hbm, ⟨32, _⟩ => ⟨S2x3x1536, .f32⟩
  | .hbm, ⟨33, _⟩ => ⟨S2x3x1536, .f32⟩
  | .hbm, ⟨34, _⟩ => ⟨S_, .f32⟩
  | .hbm, ⟨35, _⟩ => ⟨S2x3x1536, .f32⟩
  | .hbm, ⟨36, _⟩ => ⟨S2x3x1536, .f32⟩
  | _, _ => ⟨S2x3x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLruConv.lean ====
abbrev S2x4x96 : Shape := ⟨3, ![2, 4, 96]⟩

abbrev nBuf : Space → Nat
  | .hbm => 7
  | .vmem => 7
  | .smem => 0
  | _ => 0

abbrev bufTy : (tb : Table) → Fin (tcTables nBuf tb) → BufTy
  | .hbm, ⟨0, _⟩ => ⟨S2x4x96, .f32⟩
  | .hbm, ⟨1, _⟩ => ⟨S2x4x96, .f32⟩
  | .hbm, ⟨2, _⟩ => ⟨S2x4x96, .f32⟩
  | .hbm, ⟨3, _⟩ => ⟨S2x4x96, .f32⟩
  | .hbm, ⟨4, _⟩ => ⟨S2x4x96, .f32⟩
  | .hbm, ⟨5, _⟩ => ⟨S2x4x96, .f32⟩
  | .hbm, ⟨6, _⟩ => ⟨S2x4x96, .f32⟩
  | .local _ .vmem, ⟨0, _⟩ => ⟨S2x4x96, .f32⟩
  | .local _ .vmem, ⟨1, _⟩ => ⟨S2x4x96, .f32⟩
  | .local _ .vmem, ⟨2, _⟩ => ⟨S2x4x96, .f32⟩
  | .local _ .vmem, ⟨3, _⟩ => ⟨S2x4x96, .f32⟩
  | .local _ .vmem, ⟨4, _⟩ => ⟨S2x4x96, .f32⟩
  | .local _ .vmem, ⟨5, _⟩ => ⟨S2x4x96, .f32⟩
  | .local _ .vmem, ⟨6, _⟩ => ⟨S2x4x96, .f32⟩
  | _, _ => ⟨S2x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x4x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamLruConvIdeal.lean ====
abbrev S2x4x96 : Shape := ⟨3, ![2, 4, 96]⟩

abbrev nBuf : Space → Nat
  | .hbm => 7
  | .vmem => 7
  | .smem => 0
  | _ => 0

abbrev bufTy : (tb : Table) → Fin (tcTables nBuf tb) → BufTy
  | .hbm, ⟨0, _⟩ => ⟨S2x4x96, .f32⟩
  | .hbm, ⟨1, _⟩ => ⟨S2x4x96, .f32⟩
  | .hbm, ⟨2, _⟩ => ⟨S2x4x96, .f32⟩
  | .hbm, ⟨3, _⟩ => ⟨S2x4x96, .f32⟩
  | .hbm, ⟨4, _⟩ => ⟨S2x4x96, .f32⟩
  | .hbm, ⟨5, _⟩ => ⟨S2x4x96, .f32⟩
  | .hbm, ⟨6, _⟩ => ⟨S2x4x96, .f32⟩
  | .local _ .vmem, ⟨0, _⟩ => ⟨S2x4x96, .f32⟩
  | .local _ .vmem, ⟨1, _⟩ => ⟨S2x4x96, .f32⟩
  | .local _ .vmem, ⟨2, _⟩ => ⟨S2x4x96, .f32⟩
  | .local _ .vmem, ⟨3, _⟩ => ⟨S2x4x96, .f32⟩
  | .local _ .vmem, ⟨4, _⟩ => ⟨S2x4x96, .f32⟩
  | .local _ .vmem, ⟨5, _⟩ => ⟨S2x4x96, .f32⟩
  | .local _ .vmem, ⟨6, _⟩ => ⟨S2x4x96, .f32⟩
  | _, _ => ⟨S2x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x4x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamLruConvReferenceIdeal.lean ====
abbrev S2x4x96 : Shape := ⟨3, ![2, 4, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x96, .f32⟩
  | .hbm, ⟨1, _⟩ => ⟨S2x4x96, .f32⟩
  | .hbm, ⟨2, _⟩ => ⟨S2x4x96, .f32⟩
  | .hbm, ⟨3, _⟩ => ⟨S2x4x96, .f32⟩
  | .hbm, ⟨4, _⟩ => ⟨S_, .f32⟩
  | .hbm, ⟨5, _⟩ => ⟨S2x4x96, .f32⟩
  | .hbm, ⟨6, _⟩ => ⟨S2x4x96, .f32⟩
  | .hbm, ⟨7, _⟩ => ⟨S_, .f32⟩
  | .hbm, ⟨8, _⟩ => ⟨S2x4x96, .f32⟩
  | .hbm, ⟨9, _⟩ => ⟨S2x4x96, .f32⟩
  | .hbm, ⟨10, _⟩ => ⟨S2x4x96, .f32⟩
  | .hbm, ⟨11, _⟩ => ⟨S_, .f32⟩
  | .hbm, ⟨12, _⟩ => ⟨S2x4x96, .f32⟩
  | .hbm, ⟨13, _⟩ => ⟨S2x4x96, .f32⟩
  | .hbm, ⟨14, _⟩ => ⟨S2x4x96, .f32⟩
  | .hbm, ⟨15, _⟩ => ⟨S_, .f32⟩
  | .hbm, ⟨16, _⟩ => ⟨S2x4x96, .f32⟩
  | .hbm, ⟨17, _⟩ => ⟨S2x4x96, .f32⟩
  | .hbm, ⟨18, _⟩ => ⟨S2x4x96, .f32⟩
  | .hbm, ⟨19, _⟩ => ⟨S_, .f32⟩
  | .hbm, ⟨20, _⟩ => ⟨S2x4x96, .f32⟩
  | .hbm, ⟨21, _⟩ => ⟨S2x4x96, .f32⟩
  | .hbm, ⟨22, _⟩ => ⟨S_, .f32⟩
  | .hbm, ⟨23, _⟩ => ⟨S2x4x96, .f32⟩
  | .hbm, ⟨24, _⟩ => ⟨S2x4x96, .f32⟩
  | .hbm, ⟨25, _⟩ => ⟨S2x4x96, .f32⟩
  | .hbm, ⟨26, _⟩ => ⟨S_, .f32⟩
  | .hbm, ⟨27, _⟩ => ⟨S2x4x96, .f32⟩
  | .hbm, ⟨28, _⟩ => ⟨S2x4x96, .f32⟩
  | .hbm, ⟨29, _⟩ => ⟨S2x4x96, .f32⟩
  | .hbm, ⟨30, _⟩ => ⟨S_, .f32⟩
  | .hbm, ⟨31, _⟩ => ⟨S2x4x96, .f32⟩
  | .hbm, ⟨32, _⟩ => ⟨S2x4x96, .f32⟩
  | .hbm, ⟨33, _⟩ => ⟨S2x4x96, .f32⟩
  | .hbm, ⟨34, _⟩ => ⟨S_, .f32⟩
  | .hbm, ⟨35, _⟩ => ⟨S2x4x96, .f32⟩
  | .hbm, ⟨36, _⟩ => ⟨S2x4x96, .f32⟩
  | _, _ => ⟨S2x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PairSum.lean ====
abbrev S4096x128 : Shape := ⟨2, ![4096, 128]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumIdeal.lean ====
abbrev S4096x128 : Shape := ⟨2, ![4096, 128]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumReferenceIdeal.lean ====
abbrev S4096x128 : Shape := ⟨2, ![4096, 128]⟩

abbrev nBuf : Space → Nat
  | .hbm => 3
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== S5Params.lean ====
abbrev S16x64 : Shape := ⟨2, ![16, 64]⟩
abbrev S16 : Shape := ⟨1, ![16]⟩
abbrev S16x64x16 : Shape := ⟨3, ![16, 64, 16]⟩
abbrev S16x1 : Shape := ⟨2, ![16, 1]⟩
abbrev S16x16x64 : Shape := ⟨3, ![16, 16, 64]⟩
abbrev S16x1x64 : Shape := ⟨3, ![16, 1, 64]⟩

abbrev nBuf : Space → Nat
  | .hbm => 12
  | .vmem => 9
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x1, .f32⟩
  | .hbm, ⟨6, _⟩ => ⟨S16x16x64, .f32⟩
  | .hbm, ⟨7, _⟩ => ⟨S16x16x64, .f32⟩
  | .hbm, ⟨8, _⟩ => ⟨S16x64, .f32⟩
  | .hbm, ⟨9, _⟩ => ⟨S16x64, .f32⟩
  | .hbm, ⟨10, _⟩ => ⟨S16x16x64, .f32⟩
  | .hbm, ⟨11, _⟩ => ⟨S16x16x64, .f32⟩
  | .local _ .vmem, ⟨0, _⟩ => ⟨S16x64, .f32⟩
  | .local _ .vmem, ⟨1, _⟩ => ⟨S16x64, .f32⟩
  | .local _ .vmem, ⟨2, _⟩ => ⟨S16x1, .f32⟩
  | .local _ .vmem, ⟨3, _⟩ => ⟨S16x16x64, .f32⟩
  | .local _ .vmem, ⟨4, _⟩ => ⟨S16x16x64, .f32⟩
  | .local _ .vmem, ⟨5, _⟩ => ⟨S16x64, .f32⟩
  | .local _ .vmem, ⟨6, _⟩ => ⟨S16x64, .f32⟩
  | .local _ .vmem, ⟨7, _⟩ => ⟨S16x16x64, .f32⟩
  | .local _ .vmem, ⟨8, _⟩ => ⟨S16x16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== S5ParamsIdeal.lean ====
abbrev S16x64 : Shape := ⟨2, ![16, 64]⟩
abbrev S16 : Shape := ⟨1, ![16]⟩
abbrev S16x64x16 : Shape := ⟨3, ![16, 64, 16]⟩
abbrev S16x1 : Shape := ⟨2, ![16, 1]⟩
abbrev S16x16x64 : Shape := ⟨3, ![16, 16, 64]⟩
abbrev S16x1x64 : Shape := ⟨3, ![16, 1, 64]⟩

abbrev nBuf : Space → Nat
  | .hbm => 12
  | .vmem => 9
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x1, .f32⟩
  | .hbm, ⟨6, _⟩ => ⟨S16x16x64, .f32⟩
  | .hbm, ⟨7, _⟩ => ⟨S16x16x64, .f32⟩
  | .hbm, ⟨8, _⟩ => ⟨S16x64, .f32⟩
  | .hbm, ⟨9, _⟩ => ⟨S16x64, .f32⟩
  | .hbm, ⟨10, _⟩ => ⟨S16x16x64, .f32⟩
  | .hbm, ⟨11, _⟩ => ⟨S16x16x64, .f32⟩
  | .local _ .vmem, ⟨0, _⟩ => ⟨S16x64, .f32⟩
  | .local _ .vmem, ⟨1, _⟩ => ⟨S16x64, .f32⟩
  | .local _ .vmem, ⟨2, _⟩ => ⟨S16x1, .f32⟩
  | .local _ .vmem, ⟨3, _⟩ => ⟨S16x16x64, .f32⟩
  | .local _ .vmem, ⟨4, _⟩ => ⟨S16x16x64, .f32⟩
  | .local _ .vmem, ⟨5, _⟩ => ⟨S16x64, .f32⟩
  | .local _ .vmem, ⟨6, _⟩ => ⟨S16x64, .f32⟩
  | .local _ .vmem, ⟨7, _⟩ => ⟨S16x16x64, .f32⟩
  | .local _ .vmem, ⟨8, _⟩ => ⟨S16x16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== S5ParamsReferenceIdeal.lean ====
abbrev S16x64 : Shape := ⟨2, ![16, 64]⟩
abbrev S16 : Shape := ⟨1, ![16]⟩
abbrev S16x64x16 : Shape := ⟨3, ![16, 64, 16]⟩
abbrev S16x1 : Shape := ⟨2, ![16, 1]⟩
abbrev S_ : Shape := ⟨0, ![]⟩
abbrev S16x64x1 : Shape := ⟨3, ![16, 64, 1]⟩
abbrev S16x16x64 : Shape := ⟨3, ![16, 16, 64]⟩

abbrev nBuf : Space → Nat
  | .hbm => 46
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16, .f32⟩
  | .hbm, ⟨6, _⟩ => ⟨S16x1, .f32⟩
  | .hbm, ⟨7, _⟩ => ⟨S16x64, .f32⟩
  | .hbm, ⟨8, _⟩ => ⟨S16x64, .f32⟩
  | .hbm, ⟨9, _⟩ => ⟨S16x64, .f32⟩
  | .hbm, ⟨10, _⟩ => ⟨S16x64, .f32⟩
  | .hbm, ⟨11, _⟩ => ⟨S16x64, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S_, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64x1, .f32⟩
  | .hbm, ⟨31, _⟩ => ⟨S16x64x16, .f32⟩
  | .hbm, ⟨32, _⟩ => ⟨S16x64x16, .f32⟩
  | .hbm, ⟨33, _⟩ => ⟨S16x64x1, .f32⟩
  | .hbm, ⟨34, _⟩ => ⟨S16x64x16, .f32⟩
  | .hbm, ⟨35, _⟩ => ⟨S16x64x16, .f32⟩
  | .hbm, ⟨36, _⟩ => ⟨S16x64x16, .f32⟩
  | .hbm, ⟨37, _⟩ => ⟨S16x64x1, .f32⟩
  | .hbm, ⟨38, _⟩ => ⟨S16x64x16, .f32⟩
  | .hbm, ⟨39, _⟩ => ⟨S16x64x16, .f32⟩
  | .hbm, ⟨40, _⟩ => ⟨S16x64x1, .f32⟩
  | .hbm, ⟨41, _⟩ => ⟨S16x64x16, .f32⟩
  | .hbm, ⟨42, _⟩ => ⟨S16x64x16, .f32⟩
  | .hbm, ⟨43, _⟩ => ⟨S16x64x16, .f32⟩
  | .hbm, ⟨44, _⟩ => ⟨S16x16x64, .f32⟩
  | .hbm, ⟨45, _⟩ => ⟨S16x16x64, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== S5ParamsGrad.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S16x1 : Shape := ⟨2, ![16, 1]⟩
abbrev S16x1x64 : Shape := ⟨3, ![16, 1, 64]⟩

abbrev nBuf : Space → Nat
  | .hbm => 17
  | .vmem => 14
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x64, .f32⟩
  | .hbm, ⟨6, _⟩ => ⟨S16x64, .f32⟩
  | .hbm, ⟨7, _⟩ => ⟨S16x16x64, .f32⟩
  | .hbm, ⟨8, _⟩ => ⟨S16x16x64, .f32⟩
  | .hbm, ⟨9, _⟩ => ⟨S16x1, .f32⟩
  | .hbm, ⟨10, _⟩ => ⟨S16x16x64, .f32⟩
  | .hbm, ⟨11, _⟩ => ⟨S16x16x64, .f32⟩
  | .hbm, ⟨12, _⟩ => ⟨S16x64, .f32⟩
  | .hbm, ⟨13, _⟩ => ⟨S16x64, .f32⟩
  | .hbm, ⟨14, _⟩ => ⟨S16x1, .f32⟩
  | .hbm, ⟨15, _⟩ => ⟨S16x16x64, .f32⟩
  | .hbm, ⟨16, _⟩ => ⟨S16x16x64, .f32⟩
  | .local _ .vmem, ⟨0, _⟩ => ⟨S16x64, .f32⟩
  | .local _ .vmem, ⟨1, _⟩ => ⟨S16x64, .f32⟩
  | .local _ .vmem, ⟨2, _⟩ => ⟨S16x1, .f32⟩
  | .local _ .vmem, ⟨3, _⟩ => ⟨S16x16x64, .f32⟩
  | .local _ .vmem, ⟨4, _⟩ => ⟨S16x16x64, .f32⟩
  | .local _ .vmem, ⟨5, _⟩ => ⟨S16x64, .f32⟩
  | .local _ .vmem, ⟨6, _⟩ => ⟨S16x64, .f32⟩
  | .local _ .vmem, ⟨7, _⟩ => ⟨S16x16x64, .f32⟩
  | .local _ .vmem, ⟨8, _⟩ => ⟨S16x16x64, .f32⟩
  | .local _ .vmem, ⟨9, _⟩ => ⟨S16x64, .f32⟩
  | .local _ .vmem, ⟨10, _⟩ => ⟨S16x64, .f32⟩
  | .local _ .vmem, ⟨11, _⟩ => ⟨S16x1, .f32⟩
  | .local _ .vmem, ⟨12, _⟩ => ⟨S16x16x64, .f32⟩
  | .local _ .vmem, ⟨13, _⟩ => ⟨S16x16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== S5ParamsGradIdeal.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S16x1 : Shape := ⟨2, ![16, 1]⟩
abbrev S16x1x64 : Shape := ⟨3, ![16, 1, 64]⟩

abbrev nBuf : Space → Nat
  | .hbm => 17
  | .vmem => 14
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16, .f32⟩
  | .hbm, ⟨3, _⟩ => ⟨S16x64x16, .f32⟩
  | .hbm, ⟨4, _⟩ => ⟨S16x64x16, .f32⟩
  | .hbm, ⟨5, _⟩ => ⟨S16x64, .f32⟩
  | .hbm, ⟨6, _⟩ => ⟨S16x64, .f32⟩
  | .hbm, ⟨7, _⟩ => ⟨S16x16x64, .f32⟩
  | .hbm, ⟨8, _⟩ => ⟨S16x16x64, .f32⟩
  | .hbm, ⟨9, _⟩ => ⟨S16x1, .f32⟩
  | .hbm, ⟨10, _⟩ => ⟨S16x16x64, .f32⟩
  | .hbm, ⟨11, _⟩ => ⟨S16x16x64, .f32⟩
  | .hbm, ⟨12, _⟩ => ⟨S16x64, .f32⟩
  | .hbm, ⟨13, _⟩ => ⟨S16x64, .f32⟩
  | .hbm, ⟨14, _⟩ => ⟨S16x1, .f32⟩
  | .hbm, ⟨15, _⟩ => ⟨S16x16x64, .f32⟩
  | .hbm, ⟨16, _⟩ => ⟨S16x16x64, .f32⟩
  | .local _ .vmem, ⟨0, _⟩ => ⟨S16x64, .f32⟩
  | .local _ .vmem, ⟨1, _⟩ => ⟨S16x64, .f32⟩
  | .local _ .vmem, ⟨2, _⟩ => ⟨S16x1, .f32⟩
  | .local _ .vmem, ⟨3, _⟩ => ⟨S16x16x64, .f32⟩
  | .local _ .vmem, ⟨4, _⟩ => ⟨S16x16x64, .f32⟩
  | .local _ .vmem, ⟨5, _⟩ => ⟨S16x64, .f32⟩
  | .local _ .vmem, ⟨6, _⟩ => ⟨S16x64, .f32⟩
  | .local _ .vmem, ⟨7, _⟩ => ⟨S16x16x64, .f32⟩
  | .local _ .vmem, ⟨8, _⟩ => ⟨S16x16x64, .f32⟩
  | .local _ .vmem, ⟨9, _⟩ => ⟨S16x64, .f32⟩
  | .local _ .vmem, ⟨10, _⟩ => ⟨S16x64, .f32⟩
  | .local _ .vmem, ⟨11, _⟩ => ⟨S16x1, .f32⟩
  | .local _ .vmem, ⟨12, _⟩ => ⟨S16x16x64, .f32⟩
  | .local _ .vmem, ⟨13, _⟩ => ⟨S16x16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== S5ParamsGradReferenceIdeal.lean ====
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S16x1 : Shape := ⟨2, ![16, 1]⟩
abbrev S_ : Shape := ⟨0, ![]⟩
abbrev S16x64x1 : Shape := ⟨3, ![16, 64, 1]⟩

abbrev nBuf : Space → Nat
  | .hbm => 160
  | .vmem => 0
  | .smem => 0
  | _ => 0

abbrev hbmTy0_0 (i : Nat) : BufTy := match i % 128 with
  | 0 => ⟨S16x64, .f32⟩
  | 1 => ⟨S16x64, .f32⟩
  | 2 => ⟨S16, .f32⟩
  | 3 => ⟨S16x64x16, .f32⟩
  | 4 => ⟨S16x64x16, .f32⟩
  | 5 => ⟨S16x64, .f32⟩
  | 6 => ⟨S16x64, .f32⟩
  | 7 => ⟨S16x16x64, .f32⟩
  | 8 => ⟨S16x16x64, .f32⟩
  | 9 => ⟨S16, .f32⟩
  | 10 => ⟨S16x1, .f32⟩
  | 11 => ⟨S16x64, .f32⟩
  | 12 => ⟨S16x64, .f32⟩
  | 13 => ⟨S16x64, .f32⟩
  | 14 => ⟨S16x64, .f32⟩
  | 15 => ⟨S16x64, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S_, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S16x64, .f32⟩
  | 29 => ⟨S16x64, .f32⟩
  | 30 => ⟨S16x64, .f32⟩
  | 31 => ⟨S16x64, .f32⟩
  | 32 => ⟨S16x64, .f32⟩
  | 33 => ⟨S_, .f32⟩
  | 34 => ⟨S16x64, .f32⟩
  | 35 => ⟨S16x64, .f32⟩
  | 36 => ⟨S16x64, .f32⟩
  | 37 => ⟨S16x64, .f32⟩
  | 38 => ⟨S16x64, .f32⟩
  | 39 => ⟨S16x64, .f32⟩
  | 40 => ⟨S16x64, .f32⟩
  | 41 => ⟨S_, .f32⟩
  | 42 => ⟨S16x64, .f32⟩
  | 43 => ⟨S16x64, .f32⟩
  | 44 => ⟨S16x64x1, .f32⟩
  | 45 => ⟨S16x64x16, .f32⟩
  | 46 => ⟨S16x64x16, .f32⟩
  | 47 => ⟨S16x64x1, .f32⟩
  | 48 => ⟨S16x64x16, .f32⟩
  | 49 => ⟨S16x64x16, .f32⟩
  | 50 => ⟨S16x64x16, .f32⟩
  | 51 => ⟨S16x64x1, .f32⟩
  | 52 => ⟨S16x64x16, .f32⟩
  | 53 => ⟨S16x64x16, .f32⟩
  | 54 => ⟨S16x64x1, .f32⟩
  | 55 => ⟨S16x64x16, .f32⟩
  | 56 => ⟨S16x64x16, .f32⟩
  | 57 => ⟨S16x64x16, .f32⟩
  | 58 => ⟨S16x64x16, .f32⟩
  | 59 => ⟨S16x64x16, .f32⟩
  | 60 => ⟨S16x64x16, .f32⟩
  | 61 => ⟨S16x64x16, .f32⟩
  | 62 => ⟨S16x64x16, .f32⟩
  | 63 => ⟨S_, .f32⟩
  | 64 => ⟨S16x64, .f32⟩
  | 65 => ⟨S16x64x1, .f32⟩
  | 66 => ⟨S_, .f32⟩
  | 67 => ⟨S16x64, .f32⟩
  | 68 => ⟨S16x64x16, .f32⟩
  | 69 => ⟨S16x64x16, .f32⟩
  | 70 => ⟨S16x64x16, .f32⟩
  | 71 => ⟨S_, .f32⟩
  | 72 => ⟨S16x64, .f32⟩
  | 73 => ⟨S16x64x1, .f32⟩
  | 74 => ⟨S_, .f32⟩
  | 75 => ⟨S16x64, .f32⟩
  | 76 => ⟨S16x64x16, .f32⟩
  | 77 => ⟨S16x64x16, .f32⟩
  | 78 => ⟨S16x64x16, .f32⟩
  | 79 => ⟨S16x64x16, .f32⟩
  | 80 => ⟨S16x64x16, .f32⟩
  | 81 => ⟨S_, .f32⟩
  | 82 => ⟨S16x64, .f32⟩
  | 83 => ⟨S16x64x1, .f32⟩
  | 84 => ⟨S_, .f32⟩
  | 85 => ⟨S16x64, .f32⟩
  | 86 => ⟨S16x64, .f32⟩
  | 87 => ⟨S16x64x16, .f32⟩
  | 88 => ⟨S16x64x16, .f32⟩
  | 89 => ⟨S16x64x16, .f32⟩
  | 90 => ⟨S16x64x16, .f32⟩
  | 91 => ⟨S_, .f32⟩
  | 92 => ⟨S16x64, .f32⟩
  | 93 => ⟨S16x64x1, .f32⟩
  | 94 => ⟨S_, .f32⟩
  | 95 => ⟨S16x64, .f32⟩
  | 96 => ⟨S16x64, .f32⟩
  | 97 => ⟨S16x64, .f32⟩
  | 98 => ⟨S16x64, .f32⟩
  | 99 => ⟨S16x64, .f32⟩
  | 100 => ⟨S16x64, .f32⟩
  | 101 => ⟨S16x64, .f32⟩
  | 102 => ⟨S16x64, .f32⟩
  | 103 => ⟨S16x64, .f32⟩
  | 104 => ⟨S16x64, .f32⟩
  | 105 => ⟨S16x64, .f32⟩
  | 106 => ⟨S16x64, .f32⟩
  | 107 => ⟨S16x64, .f32⟩
  | 108 => ⟨S16x64, .f32⟩
  | 109 => ⟨S16x64, .f32⟩
  | 110 => ⟨S16x64, .f32⟩
  | 111 => ⟨S16x64, .f32⟩
  | 112 => ⟨S16x64, .f32⟩
  | 113 => ⟨S16x64, .f32⟩
  | 114 => ⟨S16x64, .f32⟩
  | 115 => ⟨S16x64, .f32⟩
  | 116 => ⟨S16x64, .f32⟩
  | 117 => ⟨S16x64, .f32⟩
  | 118 => ⟨S16x64, .f32⟩
  | 119 => ⟨S16x64, .f32⟩
  | 120 => ⟨S16x64, .f32⟩
  | 121 => ⟨S16x64, .f32⟩
  | 122 => ⟨S16x64, .f32⟩
  | 123 => ⟨S16x64, .f32⟩
  | 124 => ⟨S16x64, .f32⟩
  | 125 => ⟨S16x64, .f32⟩
  | 126 => ⟨S16x64, .f32⟩
  | 127 => ⟨S16x64, .f32⟩
  | _ => ⟨S16x64, .f32⟩

abbrev hbmTy0_1 (i : Nat) : BufTy := match i % 128 with
  | 0 => ⟨S16x64, .f32⟩
  | 1 => ⟨S16x64, .f32⟩
  | 2 => ⟨S16x64, .f32⟩
  | 3 => ⟨S16x64, .f32⟩
  | 4 => ⟨S16x64, .f32⟩
  | 5 => ⟨S16x64, .f32⟩
  | 6 => ⟨S16x64, .f32⟩
  | 7 => ⟨S16x64, .f32⟩
  | 8 => ⟨S16x64, .f32⟩
  | 9 => ⟨S16x64, .f32⟩
  | 10 => ⟨S16x64, .f32⟩
  | 11 => ⟨S16x64, .f32⟩
  | 12 => ⟨S16x64, .f32⟩
  | 13 => ⟨S16x64, .f32⟩
  | 14 => ⟨S16x64, .f32⟩
  | 15 => ⟨S_, .f32⟩
  | 16 => ⟨S16, .f32⟩
  | 17 => ⟨S16x1, .f32⟩
  | 18 => ⟨S16x64, .f32⟩
  | 19 => ⟨S16x64, .f32⟩
  | 20 => ⟨S16x64, .f32⟩
  | 21 => ⟨S16x64, .f32⟩
  | 22 => ⟨S_, .f32⟩
  | 23 => ⟨S16, .f32⟩
  | 24 => ⟨S16x1, .f32⟩
  | 25 => ⟨S16x1, .f32⟩
  | 26 => ⟨S_, .f32⟩
  | 27 => ⟨S16, .f32⟩
  | 28 => ⟨S16, .f32⟩
  | 29 => ⟨S16x1, .f32⟩
  | 30 => ⟨S16x16x64, .f32⟩
  | 31 => ⟨S16x16x64, .f32⟩
  | _ => ⟨S16x64, .f32⟩

abbrev hbmTy (i : Nat) : BufTy := match i / 128 with
  | 0 => hbmTy0_0 i
  | 1 => hbmTy0_1 i
  | _ => ⟨S16x64, .f32⟩

abbrev bufTy : (tb : Table) → Fin (tcTables nBuf tb) → BufTy
  | .hbm, ⟨i, _⟩ => hbmTy i
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_cst_7 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_cst_10 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_11 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_12 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩

abbrev nD : Nat := 1
abbrev τ : Topo := Topo.v7x

variable {F : FTy → Type} [FloatOps F]
-- ==== S5OutGrad.lean ====
abbrev S4096x256 : Shape := ⟨2, ![4096, 256]⟩
abbrev S4096x2304 : Shape := ⟨2, ![4096, 2304]⟩
abbrev S256 : Shape := ⟨1, ![256]⟩
abbrev S256x256 : Shape := ⟨2, ![256, 256]⟩
abbrev S1x256 : Shape := ⟨2, ![1, 256]⟩
abbrev S8x256 : Shape := ⟨2, ![8, 256]⟩
abbrev S512x256 : Shape := ⟨2, ![512, 256]⟩
abbrev S512x384 : Shape := ⟨2, ![512, 384]⟩

abbrev nBuf : Space → Nat
  | .hbm => 12
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x2304, .f32⟩
  | .hbm, ⟨3, _⟩ => ⟨S256, .f32⟩
  | .hbm, ⟨4, _⟩ => ⟨S256x256, .bf16⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S4096x256, .f32⟩
  | .hbm, ⟨9, _⟩ => ⟨S4096x256, .f32⟩
  | .hbm, ⟨10, _⟩ => ⟨S256x256, .f32⟩
  | .hbm, ⟨11, _⟩ => ⟨S8x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S256x256, .f32⟩
  | .local _ .vmem, ⟨14, _⟩ => ⟨S8x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== S5OutGradIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== S5OutGradReferenceIdeal.lean ====
abbrev S4096x256 : Shape := ⟨2, ![4096, 256]⟩
abbrev S4096x2304 : Shape := ⟨2, ![4096, 2304]⟩
abbrev S256 : Shape := ⟨1, ![256]⟩
abbrev S256x256 : Shape := ⟨2, ![256, 256]⟩
abbrev S_ : Shape := ⟨0, ![]⟩
abbrev S1x256 : Shape := ⟨2, ![1, 256]⟩
abbrev S6x256 : Shape := ⟨2, ![6, 256]⟩
abbrev S8x256 : Shape := ⟨2, ![8, 256]⟩

abbrev nBuf : Space → Nat
  | .hbm => 103
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x2304, .f32⟩
  | .hbm, ⟨3, _⟩ => ⟨S256, .f32⟩
  | .hbm, ⟨4, _⟩ => ⟨S256x256, .bf16⟩
  | .hbm, ⟨5, _⟩ => ⟨S256, .f32⟩
  | .hbm, ⟨6, _⟩ => ⟨S256x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S1x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S4096x256, .f32⟩
  | .hbm, ⟨42, _⟩ => ⟨S4096x256, .f32⟩
  | .hbm, ⟨43, _⟩ => ⟨S_, .f32⟩
  | .hbm, ⟨44, _⟩ => ⟨S4096x256, .f32⟩
  | .hbm, ⟨45, _⟩ => ⟨S4096x256, .f32⟩
  | .hbm, ⟨46, _⟩ => ⟨S_, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S_, .f32⟩
  | .hbm, ⟨55, _⟩ => ⟨S256, .f32⟩
  | .hbm, ⟨56, _⟩ => ⟨S1x256, .f32⟩
  | .hbm, ⟨57, _⟩ => ⟨S_, .f32⟩
  | .hbm, ⟨58, _⟩ => ⟨S256, .f32⟩
  | .hbm, ⟨59, _⟩ => ⟨S256x256, .f32⟩
  | .hbm, ⟨60, _⟩ => ⟨S256x256, .f32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S4096x256, .f32⟩
  | .hbm, ⟨66, _⟩ => ⟨S_, .f32⟩
  | .hbm, ⟨67, _⟩ => ⟨S4096x256, .f32⟩
  | .hbm, ⟨68, _⟩ => ⟨S4096x256, .f32⟩
  | .hbm, ⟨69, _⟩ => ⟨S_, .f32⟩
  | .hbm, ⟨70, _⟩ => ⟨S4096x256, .f32⟩
  | .hbm, ⟨71, _⟩ => ⟨S4096x256, .f32⟩
  | .hbm, ⟨72, _⟩ => ⟨S_, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S_, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S1x256, .f32⟩
  | .hbm, ⟨88, _⟩ => ⟨S4096x256, .f32⟩
  | .hbm, ⟨89, _⟩ => ⟨S4096x256, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S_, .f32⟩
  | .hbm, ⟨94, _⟩ => ⟨S256, .f32⟩
  | .hbm, ⟨95, _⟩ => ⟨S1x256, .f32⟩
  | .hbm, ⟨96, _⟩ => ⟨S_, .f32⟩
  | .hbm, ⟨97, _⟩ => ⟨S256, .f32⟩
  | .hbm, ⟨98, _⟩ => ⟨S1x256, .f32⟩
  | .hbm, ⟨99, _⟩ => ⟨S1x256, .f32⟩
  | .hbm, ⟨100, _⟩ => ⟨S_, .f32⟩
  | .hbm, ⟨101, _⟩ => ⟨S6x256, .f32⟩
  | .hbm, ⟨102, _⟩ => ⟨S8x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_17 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== Proof.Lru.RunA.lean ====
/- The kernel body's run on any staging memrefs at the first point: the pieces it leaves in the two outputs and in the scratch. -/
module

public import proofs.«01_k».proof.Proof.Gen.KernelIdeal.Loops
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's one conditional, from the grid coordinate. -/
abbrev cond0_0 (i : grid0.Coords) : Prop := (Scalar.cmpi .ne (Scalar.extui (Scalar.cmpi .eq (BitVec.ofNat 32 (i 0).val) 0#32)) 0#32) = 1#1

/-- It holds at the first point only. -/
theorem hcond0_0 : ∀ t : Fin cfg0.N, cond0_0 (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val = 0)

set_option maxHeartbeats 1000000 in
/-- At the first point, where the scratch is set to zero. -/
def bodyRunA (c : Dev nD) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (hc0 : cond0_0 i)
    (x0 x1 x2 x3 : Vec F S512x384 .f32) :
    Σ' (L4 L5 : List (View.Piece (Elt F) S512x384 .f32)), { LS : List (View.Piece (Elt F) S8x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0_lru_scan_bwd i arg1 harg1 arg2 harg2 arg3 harg3 arg4 harg4 arg5 harg5 arg6 harg6 arg7 harg7) K } := by
  refine ⟨?_, ?_, ?_, fun E K => ?run⟩
  case run =>
    simp only [cc0_lru_scan_bwd_eq_skeleton]; unfold cc0_lru_scan_bwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexists _; iexact HS0

end Cert.KernelIdeal.Gen

end
-- ==== Proof.Lru.RunB.lean ====
/- The kernel body's run on any staging memrefs at a later point: the pieces it leaves in the two outputs and in the scratch. -/
module

public import proofs.«01_k».proof.Proof.Lru.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At a later point, which reads the scratch at `xs`. -/
def bodyRunB (c : Dev nD) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (hc0 : ¬cond0_0 i)
    (x0 x1 x2 x3 : Vec F S512x384 .f32) (xs : Vec F S8x384 .f32) :
    Σ' (L4 L5 : List (View.Piece (Elt F) S512x384 .f32)), { LS : List (View.Piece (Elt F) S8x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0_lru_scan_bwd i arg1 harg1 arg2 harg2 arg3 harg3 arg4 harg4 arg5 harg5 arg6 harg6 arg7 harg7) K } := by
  refine ⟨?_, ?_, ?_, fun E K => ?run⟩
  case run =>
    simp only [cc0_lru_scan_bwd_eq_skeleton]; unfold cc0_lru_scan_bwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    iexact HS0

end Cert.KernelIdeal.Gen

end
-- ==== Proof.Lru.Consts.lean ====
/- The numbers the two programs write as words, as reals, and GELU over the reals. -/
module

public import Idealize.ShloMosaic.PureOps.Ideal.Laws
public import Idealize.ShloMosaic.Lib.IdealHost

@[expose] public section

noncomputable section

namespace Cert.Lru

open Idealize.ShloMosaic

/-- The f32 nearest to the square root of 2/π. -/
def rt : ℝ := 13386282 / 16777216

theorem ofBits_rt : Ideal.ofBits .f32 0x3F4C422A#32 = ((rt : ℝ) : EReal) := by
  simp [Ideal.ofBits, Ideal.ieee, rt, -EReal.coe_mul]; norm_num

theorem ofBits_half : Ideal.ofBits .f32 0x3F000000#32 = ((1 / 2 : ℝ) : EReal) := by
  simp [Ideal.ofBits, Ideal.ieee, -EReal.coe_mul]; norm_num

theorem ofBits_num : Ideal.ofBits .f32 0x472EAB00#32 = ((44715 : ℝ) : EReal) := by
  simp [Ideal.ofBits, Ideal.ieee, -EReal.coe_mul]; norm_num

theorem ofBits_den : Ideal.ofBits .f32 0x49742400#32 = ((1000000 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32]; rfl

theorem ofBits_one : Ideal.ofBits .f32 0x3F800000#32 = ((1 : ℝ) : EReal) := by
  rw [Ideal.ofBits_one_f32]; rfl

theorem tanh_coe (r : ℝ) : Ideal.tanh (r : EReal) = ((Real.tanh r : ℝ) : EReal) := rfl
theorem exp_coe (r : ℝ) : Ideal.exp (r : EReal) = ((Real.exp r : ℝ) : EReal) := rfl

/-- tanh's argument in GELU. -/
def arg (x : ℝ) : ℝ := rt * (x + 8943 / 200000 * (x * x * x))

def gelu (x : ℝ) : ℝ := x * (1 / 2 * (1 + Real.tanh (arg x)))

/-- GELU's derivative. -/
def dgelu (x : ℝ) : ℝ :=
  1 / 2 * (1 + Real.tanh (arg x))
    + 1 / 2 * x * (1 - Real.tanh (arg x) * Real.tanh (arg x)) * rt * (1 + 26829 / 200000 * x * x)

end Cert.Lru

end
-- ==== Proof.Lru.Tile.lean ====
/- One tile of eight rows at the ideal values, from tiles of reals: the exponential, the gate's gradient, and the
   doubling scan that turns `x_i + b_i g_{i+1}` into the eight rows of `g`. -/
module

public import proofs.«01_k».proof.Proof.Gen.KernelIdeal.Skeleton
public import proofs.«01_k».proof.Proof.Lru.Consts
public import Idealize.ShloMosaic.Lib.Pointwise

@[expose] public section

set_option maxRecDepth 16384

noncomputable section

namespace Cert.Lru

open Idealize.ShloMosaic Idealize.ShloMosaic.TcCoe
open Cert.KernelIdeal Cert.KernelIdeal.Gen

theorem cubic_val (w : BitVec 32) : Named.named (F := Ideal) (φ := .f32) κ "cubic" w = ((8943 / 200000 : ℝ) : EReal) := rfl
theorem cubic3_val (w : BitVec 32) : Named.named (F := Ideal) (φ := .f32) κ "cubic3" w = ((26829 / 200000 : ℝ) : EReal) := rfl

/-- A tile of reals. -/
abbrev RT : Type := ℕ → Fin 384 → ℝ

/-- A tile of reals as the kernel's eight rows. -/
def up8 (x : RT) : FVec Ideal S8x384 .f32 := fun j => ((x (j 0).val (j 1) : ℝ) : EReal)
def up1 (x : Fin 384 → ℝ) : FVec Ideal S1x384 .f32 := fun j => ((x (j 1) : ℝ) : EReal)

theorem up8_ix (x : RT) (i : Fin 8) (l : Fin 384) : up8 x (ix2 i l) = ((x i.val l : ℝ) : EReal) := rfl
theorem up1_ix (x : Fin 384 → ℝ) (i : Fin 1) (l : Fin 384) : up1 x (ix2 i l) = ((x l : ℝ) : EReal) := rfl

theorem exp_tile (x : RT) : k0_pay7 (up8 x) = up8 fun i l => Real.exp (x i l) := by
  funext j; idx_vars j
  pointwise [k0_pay7]
  rfl

theorem dgate_tile (d g h : RT) :
    k0_pay8 (up8 d) (up8 g) (up8 h) = up8 fun i l => d i l * h i l * dgelu (g i l) := by
  funext j; idx_vars j
  pointwise [k0_pay8]
  simp only [up8_ix, cubic_val, cubic3_val, ofBits_rt, ofBits_half, ← EReal.coe_one, ← EReal.coe_mul, ← EReal.coe_add,
    ← EReal.coe_sub, tanh_coe]
  rw [EReal.coe_eq_coe_iff]
  rw [show rt * (g j0.val j1 + 8943 / 200000 * g j0.val j1 * g j0.val j1 * g j0.val j1) = arg (g j0.val j1) by unfold arg; ring]
  unfold dgelu
  ring

/-- Eight rows shifted up by `k`, and `z` behind the last. -/
def shift (k : ℕ) (z : ℝ) (x : RT) : RT := fun i l => if i < 8 - k then x (i + k) l else z

/-- The coefficients: the row below's, and the carried one behind the last row. -/
def coef (an : Fin 384 → ℝ) (a : RT) : RT := fun i l => if i < 7 then a (i + 1) l else an l

/-- One step of the doubling: the sums, and the coefficients. -/
def dblX (k : ℕ) (x b : RT) : RT := fun i l => x i l + b i l * shift k 0 x i l
def dblB (k : ℕ) (b : RT) : RT := fun i l => b i l * shift k 1 b i l

theorem sel7 (i : Fin 8) (x y : EReal) :
    Scalar.select (IntOp.cmpi .slt (BitVec.ofNat 32 i.val) 7#32) x y = if i.val < 7 then x else y := by
  fin_cases i <;> rfl
theorem sel6 (i : Fin 8) (x y : EReal) :
    Scalar.select (IntOp.cmpi .slt (BitVec.ofNat 32 i.val) 6#32) x y = if i.val < 6 then x else y := by
  fin_cases i <;> rfl
theorem sel4 (i : Fin 8) (x y : EReal) :
    Scalar.select (IntOp.cmpi .slt (BitVec.ofNat 32 i.val) 4#32) x y = if i.val < 4 then x else y := by
  fin_cases i <;> rfl

/-- A row `k` below inside the tile, by the rotation's index. -/
theorem up8_rot (x : RT) (i : Fin 8) (k : ℕ) (hk : k ≤ 8) (hi : i.val < 8 - k) (h) (l : Fin 384) :
    up8 x (ix2 ⟨(i.val + 8 - (8 - k)) % 8, h⟩ l) = ((x (i.val + k) l : ℝ) : EReal) := by
  have : (i.val + 8 - (8 - k)) % 8 = i.val + k := by omega
  show ((x ((i.val + 8 - (8 - k)) % 8) l : ℝ) : EReal) = _
  rw [this]

theorem shift_sel (k : ℕ) (hk : k ≤ 8) (z : ℝ) (x : RT) (i : Fin 8) (l : Fin 384) (h) :
    (if i.val < 8 - k then up8 x (ix2 ⟨(i.val + 8 - (8 - k)) % 8, h⟩ l) else (z : EReal))
      = ((shift k z x i.val l : ℝ) : EReal) := by
  unfold shift
  split
  · next hi => exact up8_rot x i k hk hi h l
  · rfl

theorem shift_mul (k : ℕ) (hk : k ≤ 8) (b x : RT) (i : Fin 8) (l : Fin 384) (h) :
    (if i.val < 8 - k then up8 b (ix2 i l) * up8 x (ix2 ⟨(i.val + 8 - (8 - k)) % 8, h⟩ l) else ((0 : ℝ) : EReal))
      = ((b i.val l * shift k 0 x i.val l : ℝ) : EReal) := by
  unfold shift
  split
  · next hi => rw [up8_rot x i k hk hi h l, up8_ix, ← EReal.coe_mul]
  · rw [mul_zero]

abbrev rows : IVec S8x384 32 := iota .tc S8x384 32 [0] iota_S8x384_d0_w32

theorem coef_tile (an : Fin 384 → ℝ) (a : RT) : k0_pay9 rows (up1 an) (up8 a) = up8 (coef an a) := by
  funext j; idx_vars j
  pointwise [k0_pay9, rows]
  rw [sel7, up8_ix (coef an a)]
  unfold coef
  split
  · next hi => exact up8_rot a j0 1 (by omega) hi _ j1
  · rfl

theorem b1_tile (an : Fin 384 → ℝ) (a : RT) : k0_pay10 rows (up1 an) (up8 a) = up8 (dblB 1 (coef an a)) := by
  unfold k0_pay10
  rw [coef_tile]
  funext j; idx_vars j
  pointwise [rows]
  rw [sel7, ← EReal.coe_one, shift_sel 1 (by omega), up8_ix, up8_ix, ← EReal.coe_mul]
  rfl

theorem x2_tile (an : Fin 384 → ℝ) (d g a : RT) :
    k0_pay11 rows (up1 an) (up8 d) (up8 g) (up8 a)
      = up8 (dblX 2 (dblX 1 (fun i l => d i l * gelu (g i l)) (coef an a)) (dblB 1 (coef an a))) := by
  unfold k0_pay11
  rw [coef_tile, b1_tile]
  have hx : (mulf (up8 d) (mulf (up8 g) (mulf (broadcast S8x384 (Scalar.ofBits (F := Ideal) .f32 0x3F000000#32))
      (addf (broadcast S8x384 (Scalar.ofBits (F := Ideal) .f32 0x3F800000#32))
        (tanh (mulf (broadcast S8x384 (Scalar.ofBits (F := Ideal) .f32 0x3F4C422A#32))
          (addf (up8 g) (mulf (broadcast S8x384 (Named.named (F := Ideal) (φ := .f32) κ "cubic" 0x3D372713#32))
            (mulf (up8 g) (mulf (up8 g) (up8 g)))))))))) : FVec Ideal S8x384 .f32)
      = up8 (fun i l => d i l * gelu (g i l)) := by
    funext j; idx_vars j
    pointwise
    simp only [up8_ix, cubic_val, ofBits_rt, ofBits_half, ← EReal.coe_one, ← EReal.coe_mul, ← EReal.coe_add, tanh_coe]
    rw [EReal.coe_eq_coe_iff]
    unfold gelu arg
    rw [mul_assoc (g j0.val j1) (g j0.val j1) (g j0.val j1)]
  dsimp only
  rw [hx]
  generalize (fun i l => d i l * gelu (g i l) : RT) = x
  have h1 : (addf (up8 x) (mulf (up8 (coef an a)) (select (cmpi .slt rows (broadcast S8x384 7#32))
      (dynamicRotate 0 7#32 none (up8 x) rotates_S8x384_d0)
      (broadcast S8x384 (Scalar.ofBits (F := Ideal) .f32 0x00000000#32)))) : FVec Ideal S8x384 .f32)
      = up8 (dblX 1 x (coef an a)) := by
    funext j; idx_vars j
    pointwise [rows]
    rw [sel7, ← EReal.coe_zero, shift_mul 1 (by omega), up8_ix, up8_ix, ← EReal.coe_add]
    rfl
  rw [h1]
  funext j; idx_vars j
  pointwise [rows]
  rw [sel6, ← EReal.coe_zero, shift_mul 2 (by omega), up8_ix, up8_ix, ← EReal.coe_add]
  rfl

/-- The eight rows of `g` by the doubling. -/
def dbl (gn : Fin 384 → ℝ) (x b : RT) : RT :=
  fun i l => dblX 4 (dblX 2 (dblX 1 x b) (dblB 1 b)) (dblB 2 (dblB 1 b)) i l + dblB 4 (dblB 2 (dblB 1 b)) i l * gn l

theorem g_tile (gn : Fin 384 → ℝ) (x b : RT) :
    k0_pay2 (up1 gn) (up8 (dblB 1 b)) (up8 (dblX 2 (dblX 1 x b) (dblB 1 b))) (k0_pay12 rows) 6#32 = up8 (dbl gn x b) := by
  unfold k0_pay2 k0_pay12
  dsimp only
  have h1 : (mulf (up8 (dblB 1 b)) (select (cmpi .slt rows (broadcast S8x384 6#32))
      (dynamicRotate 0 6#32 none (up8 (dblB 1 b)) rotates_S8x384_d0)
      (broadcast S8x384 (Scalar.ofBits (F := Ideal) .f32 0x3F800000#32))) : FVec Ideal S8x384 .f32)
      = up8 (dblB 2 (dblB 1 b)) := by
    funext j; idx_vars j
    pointwise [rows]
    rw [sel6, ← EReal.coe_one, shift_sel 2 (by omega), up8_ix, up8_ix, ← EReal.coe_mul]
    rfl
  rw [h1]
  funext j; idx_vars j
  pointwise [rows]
  rw [sel4, sel4, ← EReal.coe_zero, ← EReal.coe_one, shift_mul 4 (by omega), shift_sel 4 (by omega)]
  simp only [up8_ix, up1_ix, ← EReal.coe_mul, ← EReal.coe_add]
  rfl

/-- The doubling is the recurrence: `G` with `G_i = x_i + b_i G_{i+1}` in the tile and `gn` behind it. -/
theorem dbl_eq (gn : Fin 384 → ℝ) (x b G : RT) (hG : ∀ i l, i < 8 → G i l = x i l + b i l * G (i + 1) l)
    (h8 : ∀ l, G 8 l = gn l) (i : ℕ) (hi : i < 8) (l : Fin 384) : dbl gn x b i l = G i l := by
  have e7 := hG 7 l (by omega); have e6 := hG 6 l (by omega); have e5 := hG 5 l (by omega); have e4 := hG 4 l (by omega)
  have e3 := hG 3 l (by omega); have e2 := hG 2 l (by omega); have e1 := hG 1 l (by omega); have e0 := hG 0 l (by omega)
  have e8 := h8 l
  simp only [Nat.reduceAdd] at e7 e6 e5 e4 e3 e2 e1 e0
  rw [e8] at e7; rw [e7] at e6; rw [e6] at e5; rw [e5] at e4; rw [e4] at e3; rw [e3] at e2; rw [e2] at e1; rw [e1] at e0
  interval_cases i
  · rw [e0]; simp [dbl, dblX, dblB, shift]; ring
  · rw [e1]; simp [dbl, dblX, dblB, shift]; ring
  · rw [e2]; simp [dbl, dblX, dblB, shift]; ring
  · rw [e3]; simp [dbl, dblX, dblB, shift]; ring
  · rw [e4]; simp [dbl, dblX, dblB, shift]; ring
  · rw [e5]; simp [dbl, dblX, dblB, shift]; ring
  · rw [e6]; simp [dbl, dblX, dblB, shift]; ring
  · rw [e7]; simp [dbl, dblX, dblB, shift]

theorem row0_g (gn : Fin 384 → ℝ) (b0 : FVec Ideal S8x384 .f32) (x0 : FVec Ideal S8x384 .f32) (c0 : IVec S8x384 1) (w : BitVec 32)
    (g : RT) (h : k0_pay2 (up1 gn) b0 x0 c0 w = up8 g) : k0_pay3 (up1 gn) b0 x0 c0 w = up1 (g 0) := by
  unfold k0_pay3
  rw [h]
  funext j; idx_vars j
  pointwise
  rfl

theorem row0_a (a : RT) : k0_pay4 (up8 a) = up1 (a 0) := by
  funext j; idx_vars j
  pointwise [k0_pay4]
  rfl

end Cert.Lru

end
-- ==== Proof.Lru.Loop.lean ====
/- The kernel's loop over the 64 tiles of a block, last tile first, at the ideal values: what it carries and what it
   leaves in the two outputs' buffers. -/
module

public import proofs.«01_k».proof.Proof.Gen.KernelIdeal.Loops
public import proofs.«01_k».proof.Proof.Gen.KernelIdeal
public import proofs.«01_k».proof.Proof.Lru.Tile
public import Idealize.ShloMosaic.Lib.WritesUnit
public import Idealize.ShloMosaic.Lib.Pipeline.Frame

@[expose] public section

set_option maxRecDepth 16384

noncomputable section

namespace Cert.Lru

open Idealize.ShloMosaic Idealize.ShloMosaic.TcCoe
open Cert.KernelIdeal Cert.KernelIdeal.Gen

/-- A block of reals as the kernel's 512 rows. -/
def up512 (x : RT) : FVec Ideal S512x384 .f32 := fun j => ((x (j 0).val (j 1) : ℝ) : EReal)

theorem trips_eq : k0_t1_loop.trips = 64 := by decide +kernel

theorem off1_eq : ∀ k : Fin k0_t1_loop.trips, k0_off1 k = ![8 * (63 - k.val), 0] := by decide +kernel

/-- The tile a trip reads. -/
theorem read_tile (m : Memref sig .tc .vmem S512x384 .f32) (h : m.IsWhole) (x : RT) (k : Fin k0_t1_loop.trips) (inb) :
    View.readAt (Elt Ideal) m.view (Rect.unit (s := S512x384) (k0_off1 k) ![8, 384] inb).toLoadRect (h.unread (up512 x))
      = up8 (fun i l => x (8 * (63 - k.val) + i) l) := by
  rw [View.readAt_eq_ld, h.read_unread]
  funext j
  have e := off1_eq k
  show ((x (k0_off1 k 0 + 1 * (j 0).val) ⟨k0_off1 k 1 + 1 * (j 1).val, _⟩ : ℝ) : EReal) = ((x (8 * (63 - k.val) + (j 0).val) (j 1) : ℝ) : EReal)
  have e0 : k0_off1 k 0 = 8 * (63 - k.val) := by rw [e]; rfl
  have e1 : k0_off1 k 1 = 0 := by rw [e]; rfl
  congr 2
  · rw [e0, one_mul]
  · apply Fin.ext
    show k0_off1 k 1 + 1 * (j 1).val = (j 1).val
    rw [e1]; omega

section
variable (𝒱 : Variants) (c : Dev nD) (bd : Option 𝒱.V) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole)
variable (d g h la : RT)

/-- The carried pair: a row of `G` and a row of `A`. -/
def carried (G A : RT) (r : ℕ) : Vec Ideal S1x384 .f32 × Vec Ideal S1x384 .f32 := (up1 (G r), up1 (A r))

theorem trip_val (G A : RT) (hA : ∀ r l, r < 512 → A r l = Real.exp (la r l))
    (hG : ∀ r l, r < 512 → G r l = d r l * gelu (g r l) + A (r + 1) l * G (r + 1) l) (k : Fin k0_t1_loop.trips) :
    (trip_k0_t1 (F := Ideal) 𝒱 c bd i arg1 harg1 arg2 harg2 arg3 harg3 arg4 harg4 arg5 harg5 arg6 harg6 arg7 harg7 rows (harg1.unread (up512 d)) (harg2.unread (up512 g)) (harg3.unread (up512 h)) (harg4.unread (up512 la)) k).1 (carried G A (8 * (63 - k.val) + 8))
      = carried G A (8 * (63 - k.val))
    ∧ (trip_k0_t1 (F := Ideal) 𝒱 c bd i arg1 harg1 arg2 harg2 arg3 harg3 arg4 harg4 arg5 harg5 arg6 harg6 arg7 harg7 rows (harg1.unread (up512 d)) (harg2.unread (up512 g)) (harg3.unread (up512 h)) (harg4.unread (up512 la)) k).2.1 (carried G A (8 * (63 - k.val) + 8))
      = [⟨Rect.unit (s := S512x384) (k0_off1 k) S8x384.size (k0_off1_inb k), up8 (fun i l => G (8 * (63 - k.val) + i) l)⟩]
    ∧ (trip_k0_t1 (F := Ideal) 𝒱 c bd i arg1 harg1 arg2 harg2 arg3 harg3 arg4 harg4 arg5 harg5 arg6 harg6 arg7 harg7 rows (harg1.unread (up512 d)) (harg2.unread (up512 g)) (harg3.unread (up512 h)) (harg4.unread (up512 la)) k).2.2.1 (carried G A (8 * (63 - k.val) + 8))
      = [⟨Rect.unit (s := S512x384) (k0_off1 k) S8x384.size (k0_off1_inb k), up8 (fun i l => d (8 * (63 - k.val) + i) l * h (8 * (63 - k.val) + i) l * dgelu (g (8 * (63 - k.val) + i) l))⟩] := by
  have hk : k.val < 64 := Nat.lt_of_lt_of_eq k.isLt trips_eq
  unfold trip_k0_t1
  simp only [trip_k0_t1.sl.r, trip_k0_t1.sl.r_1, trip_k0_t1.sl.r_2, trip_k0_t1.sl.r_3, trip_k0_t1.sl.r_4, trip_k0_t1.sl.r_5]
  have ha : (fun i l => Real.exp (la (8 * (63 - k.val) + i) l) : RT) = fun i l => if i < 8 then A (8 * (63 - k.val) + i) l else Real.exp (la (8 * (63 - k.val) + i) l) := by
    funext i l; split
    · rw [hA _ _ (by omega)]
    · rfl
  have hg : k0_pay2 (up1 (G (8 * (63 - k.val) + 8)))
      (k0_pay10 rows (up1 (A (8 * (63 - k.val) + 8))) (k0_pay7 (up8 fun i l => la (8 * (63 - k.val) + i) l)))
      (k0_pay11 rows (up1 (A (8 * (63 - k.val) + 8))) (up8 fun i l => d (8 * (63 - k.val) + i) l) (up8 fun i l => g (8 * (63 - k.val) + i) l)
        (k0_pay7 (up8 fun i l => la (8 * (63 - k.val) + i) l)))
      (k0_pay12 rows) 6#32 = up8 (fun i l => G (8 * (63 - k.val) + i) l) := by
    rw [exp_tile, b1_tile, x2_tile, g_tile]
    funext j
    unfold up8
    rw [EReal.coe_eq_coe_iff]
    refine dbl_eq _ _ _ (fun i l => G (8 * (63 - k.val) + i) l) (fun i l hi => ?_) (fun l => rfl) _ (j 0).isLt _
    rw [hG _ _ (by omega)]
    congr 2
    unfold coef
    split
    · rw [Nat.add_assoc, hA _ _ (by omega)]
    · have : i = 7 := by omega
      subst this; rfl
  simp only [carried]
  rw [show k0_pay4 (k0_pay7 (View.readAt (Elt Ideal) arg4.view (Rect.unit (s := S512x384) (k0_off1 k) ![8, 384] (k0_off1_inb k)).toLoadRect (harg4.unread (up512 la)))) = up1 (A (8 * (63 - k.val))) by
    rw [read_tile, exp_tile, row0_a]; congr 1; funext l; exact (hA _ _ (by omega)).symm]
  refine ⟨?_, ?_, ?_⟩
  · rw [read_tile, read_tile, read_tile, row0_g _ _ _ _ _ _ hg]; rfl
  · rw [read_tile, read_tile, read_tile, hg]
  · rw [read_tile, read_tile, read_tile, dgate_tile]

/-- Before trip `k` the rows from `8 (64 - k)` on are done. -/
theorem state_val (G A : RT) (hA : ∀ r l, r < 512 → A r l = Real.exp (la r l))
    (hG : ∀ r l, r < 512 → G r l = d r l * gelu (g r l) + A (r + 1) l * G (r + 1) l) (k : ℕ) (hk : k ≤ 64) :
    (st_k0_t1 (F := Ideal) 𝒱 c bd i arg1 harg1 arg2 harg2 arg3 harg3 arg4 harg4 arg5 harg5 arg6 harg6 arg7 harg7 rows (harg1.unread (up512 d)) (harg2.unread (up512 g)) (harg3.unread (up512 h)) (harg4.unread (up512 la)) (carried G A 512) k).1
      = carried G A (8 * (64 - k))
    ∧ (∀ (f) (y : S512x384.Idx), 8 * (64 - k) ≤ (y 0).val → arg5.view.read (Elt Ideal) (arg5.view.writes (Elt Ideal) f
        (st_k0_t1 (F := Ideal) 𝒱 c bd i arg1 harg1 arg2 harg2 arg3 harg3 arg4 harg4 arg5 harg5 arg6 harg6 arg7 harg7 rows (harg1.unread (up512 d)) (harg2.unread (up512 g)) (harg3.unread (up512 h)) (harg4.unread (up512 la)) (carried G A 512) k).2.1) y = up512 G y)
    ∧ (∀ (f) (y : S512x384.Idx), 8 * (64 - k) ≤ (y 0).val → arg6.view.read (Elt Ideal) (arg6.view.writes (Elt Ideal) f
        (st_k0_t1 (F := Ideal) 𝒱 c bd i arg1 harg1 arg2 harg2 arg3 harg3 arg4 harg4 arg5 harg5 arg6 harg6 arg7 harg7 rows (harg1.unread (up512 d)) (harg2.unread (up512 g)) (harg3.unread (up512 h)) (harg4.unread (up512 la)) (carried G A 512) k).2.2) y
          = up512 (fun r l => d r l * h r l * dgelu (g r l)) y) := by
  induction k with
  | zero =>
    refine ⟨rfl, fun f y hy => ?_, fun f y hy => ?_⟩ <;> exact absurd (y 0).isLt (by have : S512x384.size 0 = 512 := rfl; omega)
  | succ k ih =>
    obtain ⟨i1, i2, i3⟩ := ih (by omega)
    have e := st_k0_t1_succ (F := Ideal) 𝒱 c bd i arg1 harg1 arg2 harg2 arg3 harg3 arg4 harg4 arg5 harg5 arg6 harg6 arg7 harg7 rows (harg1.unread (up512 d)) (harg2.unread (up512 g)) (harg3.unread (up512 h)) (harg4.unread (up512 la)) (carried G A 512) ⟨k, by rw [trips_eq]; omega⟩
    obtain ⟨t1, t2, t3⟩ := trip_val 𝒱 c bd i arg1 harg1 arg2 harg2 arg3 harg3 arg4 harg4 arg5 harg5 arg6 harg6 arg7 harg7 d g h la G A hA hG ⟨k, by rw [trips_eq]; omega⟩
    have e1 : 8 * (64 - k) = 8 * (63 - k) + 8 := by omega
    have e2 : 64 - (k + 1) = 63 - k := by omega
    have eo := off1_eq ⟨k, by rw [trips_eq]; omega⟩
    dsimp only [tripR_k0_t1, tripL_k0_t1] at e t1 t2 t3 eo
    rw [i1, e1, t1, t2, t3] at e
    rw [e, e2]
    refine ⟨rfl, fun f y hy => ?_, fun f y hy => ?_⟩
    · dsimp only
      rw [List.singleton_append, View.read_writes_cons_rows (size := S8x384.size) (o := 8 * (63 - k)) (W := 8) arg5.view f _ _ _ y eo rfl rfl]
      split
      · next hh =>
        unfold up8 up512
        congr 2
        show G (8 * (63 - k) + ((y 0).val - 8 * (63 - k))) _ = _
        rw [Nat.add_sub_cancel' hh.1]
        rfl
      · exact i2 f y (by omega)
    · dsimp only
      rw [List.singleton_append, View.read_writes_cons_rows (size := S8x384.size) (o := 8 * (63 - k)) (W := 8) arg6.view f _ _ _ y eo rfl rfl]
      split
      · next hh =>
        unfold up8 up512
        have e3 : 8 * (63 - k) + ((y 0).val - 8 * (63 - k)) = (y 0).val := Nat.add_sub_cancel' hh.1
        show ((d (8 * (63 - k) + ((y 0).val - 8 * (63 - k))) _ * h (8 * (63 - k) + ((y 0).val - 8 * (63 - k))) _
          * dgelu (g (8 * (63 - k) + ((y 0).val - 8 * (63 - k))) _) : ℝ) : EReal) = _
        rw [e3]
        rfl
      · exact i3 f y (by omega)

end

end Cert.Lru

end
-- ==== Proof.Lru.Frame.lean ====
/- The kernel's run point by point: what each point leaves in the outputs and in the scratch, and the launch. -/
module

public import proofs.«01_k».proof.Proof.Lru.RunB
public import proofs.«01_k».proof.Proof.Lru.Loop
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Lru (trips_eq off1_eq)

/-- Before trip `k` the pieces stored into the two outputs cover the rows from `8 (64 - k)` on. -/
theorem loop_cover (𝒱 : Variants) (c : Dev nD) (bd : Option 𝒱.V) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (v3 : IVec S8x384 32) (X1 : BufTy.Contents (Elt F) arg1.view.ty) (X2 : BufTy.Contents (Elt F) arg2.view.ty) (X3 : BufTy.Contents (Elt F) arg3.view.ty) (X4 : BufTy.Contents (Elt F) arg4.view.ty)
    (init : Vec F S1x384 .f32 × Vec F S1x384 .f32) (k : ℕ) (hk : k ≤ 64) (y : S512x384.Idx) (hy : 8 * (64 - k) ≤ (y 0).val) :
    (∃ pc ∈ (st_k0_t1 (F := F) 𝒱 c bd i arg1 harg1 arg2 harg2 arg3 harg3 arg4 harg4 arg5 harg5 arg6 harg6 arg7 harg7 v3 X1 X2 X3 X4 init k).2.1, y ∈ pc.1.set) ∧ ∃ pc ∈ (st_k0_t1 (F := F) 𝒱 c bd i arg1 harg1 arg2 harg2 arg3 harg3 arg4 harg4 arg5 harg5 arg6 harg6 arg7 harg7 v3 X1 X2 X3 X4 init k).2.2, y ∈ pc.1.set := by
  induction k with
  | zero => exact absurd (y 0).isLt (by have : S512x384.size 0 = 512 := rfl; omega)
  | succ k ih =>
    have hk' : k < k0_t1_loop.trips := by rw [trips_eq]; omega
    have e := st_k0_t1_succ (F := F) 𝒱 c bd i arg1 harg1 arg2 harg2 arg3 harg3 arg4 harg4 arg5 harg5 arg6 harg6 arg7 harg7 v3 X1 X2 X3 X4 init ⟨k, hk'⟩
    dsimp only [tripL_k0_t1] at e
    have t : ∀ acc, ∃ w5 w6, (trip_k0_t1 (F := F) 𝒱 c bd i arg1 harg1 arg2 harg2 arg3 harg3 arg4 harg4 arg5 harg5 arg6 harg6 arg7 harg7 v3 X1 X2 X3 X4 ⟨k, hk'⟩).2.1 acc = [⟨Rect.unit (s := S512x384) (k0_off1 ⟨k, hk'⟩) S8x384.size (k0_off1_inb ⟨k, hk'⟩), w5⟩]
        ∧ (trip_k0_t1 (F := F) 𝒱 c bd i arg1 harg1 arg2 harg2 arg3 harg3 arg4 harg4 arg5 harg5 arg6 harg6 arg7 harg7 v3 X1 X2 X3 X4 ⟨k, hk'⟩).2.2.1 acc = [⟨Rect.unit (s := S512x384) (k0_off1 ⟨k, hk'⟩) S8x384.size (k0_off1_inb ⟨k, hk'⟩), w6⟩] := by
      intro acc; unfold trip_k0_t1; exact ⟨_, _, rfl, rfl⟩
    obtain ⟨w5, w6, t1, t2⟩ := t (st_k0_t1 (F := F) 𝒱 c bd i arg1 harg1 arg2 harg2 arg3 harg3 arg4 harg4 arg5 harg5 arg6 harg6 arg7 harg7 v3 X1 X2 X3 X4 init k).1
    rw [t1, t2] at e
    rw [e]
    by_cases hh : (y 0).val < 8 * (63 - k) + 8
    · have hm : y ∈ (Rect.unit (s := S512x384) (k0_off1 ⟨k, hk'⟩) S8x384.size (k0_off1_inb ⟨k, hk'⟩)).set := by
        rw [Rect.mem_set_unit, off1_eq]
        intro a; fin_cases a
        · exact ⟨by show 8 * (63 - k) ≤ (y 0).val; omega, hh⟩
        · exact ⟨Nat.zero_le _, lt_of_lt_of_le (y 1).isLt (Nat.le_add_left _ _)⟩
      exact ⟨⟨_, List.mem_cons_self, hm⟩, ⟨_, List.mem_cons_self, hm⟩⟩
    · obtain ⟨⟨p, hp, hm⟩, ⟨q, hq, hn⟩⟩ := ih (by omega) (by omega)
      exact ⟨⟨p, List.mem_append_right _ hp, hm⟩, ⟨q, List.mem_append_right _ hq, hn⟩⟩

theorem coverA4 (c : Dev nD) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (hc0 : cond0_0 i) (x0 x1 x2 x3 : Vec F S512x384 .f32) (y : S512x384.Idx) : ∃ pc ∈ (bodyRunA c i arg1 harg1 arg2 harg2 arg3 harg3 arg4 harg4 arg5 harg5 arg6 harg6 arg7 harg7 hc0 x0 x1 x2 x3).1, y ∈ pc.1.set :=
  (loop_cover Variants.none c none i arg1 harg1 arg2 harg2 arg3 harg3 arg4 harg4 arg5 harg5 arg6 harg6 arg7 harg7 _ _ _ _ _ _ 64 le_rfl y (Nat.zero_le _)).1

theorem coverA5 (c : Dev nD) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (hc0 : cond0_0 i) (x0 x1 x2 x3 : Vec F S512x384 .f32) (y : S512x384.Idx) : ∃ pc ∈ (bodyRunA c i arg1 harg1 arg2 harg2 arg3 harg3 arg4 harg4 arg5 harg5 arg6 harg6 arg7 harg7 hc0 x0 x1 x2 x3).2.1, y ∈ pc.1.set :=
  (loop_cover Variants.none c none i arg1 harg1 arg2 harg2 arg3 harg3 arg4 harg4 arg5 harg5 arg6 harg6 arg7 harg7 _ _ _ _ _ _ 64 le_rfl y (Nat.zero_le _)).2

theorem coverAS (c : Dev nD) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (hc0 : cond0_0 i) (x0 x1 x2 x3 : Vec F S512x384 .f32) (y : S8x384.Idx) : ∃ pc ∈ (bodyRunA c i arg1 harg1 arg2 harg2 arg3 harg3 arg4 harg4 arg5 harg5 arg6 harg6 arg7 harg7 hc0 x0 x1 x2 x3).2.2.1, y ∈ pc.1.set :=
  View.cover_of_wholeMem (bodyRunA c i arg1 harg1 arg2 harg2 arg3 harg3 arg4 harg4 arg5 harg5 arg6 harg6 arg7 harg7 hc0 x0 x1 x2 x3).2.2.1 (by sl_whole_mem) y

/-- What the first point leaves in the two outputs' buffers and in the scratch. -/
def outA (c : Dev nD) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (hc0 : cond0_0 i) (x0 x1 x2 x3 : Vec F S512x384 .f32) : Vec F S512x384 .f32 × Vec F S512x384 .f32 × Vec F S8x384 .f32 :=
  (View.canon (bodyRunA c i arg1 harg1 arg2 harg2 arg3 harg3 arg4 harg4 arg5 harg5 arg6 harg6 arg7 harg7 hc0 x0 x1 x2 x3).1, View.canon (bodyRunA c i arg1 harg1 arg2 harg2 arg3 harg3 arg4 harg4 arg5 harg5 arg6 harg6 arg7 harg7 hc0 x0 x1 x2 x3).2.1,
    View.canon (bodyRunA c i arg1 harg1 arg2 harg2 arg3 harg3 arg4 harg4 arg5 harg5 arg6 harg6 arg7 harg7 hc0 x0 x1 x2 x3).2.2.1)

theorem coverB4 (c : Dev nD) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (hc0 : ¬cond0_0 i) (x0 x1 x2 x3 : Vec F S512x384 .f32) (xs : Vec F S8x384 .f32) (y : S512x384.Idx) : ∃ pc ∈ (bodyRunB c i arg1 harg1 arg2 harg2 arg3 harg3 arg4 harg4 arg5 harg5 arg6 harg6 arg7 harg7 hc0 x0 x1 x2 x3 xs).1, y ∈ pc.1.set :=
  (loop_cover Variants.none c none i arg1 harg1 arg2 harg2 arg3 harg3 arg4 harg4 arg5 harg5 arg6 harg6 arg7 harg7 _ _ _ _ _ _ 64 le_rfl y (Nat.zero_le _)).1

theorem coverB5 (c : Dev nD) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (hc0 : ¬cond0_0 i) (x0 x1 x2 x3 : Vec F S512x384 .f32) (xs : Vec F S8x384 .f32) (y : S512x384.Idx) : ∃ pc ∈ (bodyRunB c i arg1 harg1 arg2 harg2 arg3 harg3 arg4 harg4 arg5 harg5 arg6 harg6 arg7 harg7 hc0 x0 x1 x2 x3 xs).2.1, y ∈ pc.1.set :=
  (loop_cover Variants.none c none i arg1 harg1 arg2 harg2 arg3 harg3 arg4 harg4 arg5 harg5 arg6 harg6 arg7 harg7 _ _ _ _ _ _ 64 le_rfl y (Nat.zero_le _)).2

/-- What a later point leaves in the two outputs' buffers and in the scratch. -/
def outB (c : Dev nD) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (hc0 : ¬cond0_0 i) (x0 x1 x2 x3 : Vec F S512x384 .f32) (xs : Vec F S8x384 .f32) : Vec F S512x384 .f32 × Vec F S512x384 .f32 × Vec F S8x384 .f32 :=
  (View.canon (bodyRunB c i arg1 harg1 arg2 harg2 arg3 harg3 arg4 harg4 arg5 harg5 arg6 harg6 arg7 harg7 hc0 x0 x1 x2 x3 xs).1, View.canon (bodyRunB c i arg1 harg1 arg2 harg2 arg3 harg3 arg4 harg4 arg5 harg5 arg6 harg6 arg7 harg7 hc0 x0 x1 x2 x3 xs).2.1,
    arg7.view.read (Elt F) (arg7.view.writes (Elt F) (harg7.unread xs) (bodyRunB c i arg1 harg1 arg2 harg2 arg3 harg3 arg4 harg4 arg5 harg5 arg6 harg6 arg7 harg7 hc0 x0 x1 x2 x3 xs).2.2.1))

variable (m : (ℓ : Loc nD τ sig) → Buf (Elt F) ℓ) (ρ : Dev nD → PrngReg)

abbrev ms0_0 (t : Fin cfg0.N) : Memref sig .tc .vmem S512x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x384 .f32 := win0_5.stage (cfg0.slots t 5)
abbrev hs0_5 (t : Fin cfg0.N) : (ms0_5 t).IsWhole := hstage0_5 ((cfg0.slots t 5).cast nbuf0_5)
abbrev scM0_0 : Memref sig .tc .vmem S8x384 .f32 := Memref.whole cc0_scratch0

theorem PhiA0_eq (c : Dev nD) :
    (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

/-- What the body leaves at each point. -/
def outsAt (c : Dev nD) : (n : ℕ) → n < cfg0.N → Vec F S512x384 .f32 × Vec F S512x384 .f32 × Vec F S8x384 .f32
  | 0, hn => outA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩)
  | n + 1, hn => outB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => absurd ((hcond0_0 ⟨n + 1, hn⟩).mp h) (Nat.succ_ne_zero n)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.2

theorem outsAt_first (c : Dev nD) (t : Fin cfg0.N) (h0 : t.val = 0) :
    outsAt m c t.val t.isLt = outA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) := by
  obtain ⟨n, hn⟩ := t
  cases n with
  | zero => exact rfl
  | succ n => exact absurd h0 (Nat.succ_ne_zero n)

theorem outsAt_later (c : Dev nD) (t : Fin cfg0.N) (h0 : ¬t.val = 0) :
    outsAt m c t.val t.isLt = outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt m c (t.val - 1) (Nat.lt_of_le_of_lt (Nat.sub_le _ _) t.isLt)).2.2 := by
  obtain ⟨n, hn⟩ := t
  cases n with
  | zero => exact absurd rfl h0
  | succ n => exact rfl

/-- Before point `n`: the scratch at what the point before left, at anything before the first. -/
def PhiS (c : Dev nD) : (n : ℕ) → n ≤ cfg0.N → sProp 𝕄
  | 0, _ => Pipeline.ΦA spec0 c
  | n + 1, hn => iprop(owns (c : Thread nD τ) scM0_0 fullShare (outsAt m c n hn).2.2 ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (outsAt m c n hn).2.2 ∗ (∃ r, prngReg c r)) := rfl

theorem PhiS_pos (c : Dev nD) (n : ℕ) (h : n ≤ cfg0.N) (hz : n ≠ 0) :
    PhiS m c n h = iprop(owns (c : Thread nD τ) scM0_0 fullShare (outsAt m c (n - 1) (by omega)).2.2 ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).1 := by dsimp only [dats]
theorem after0_5 (c : Dev nD) (t : Fin cfg0.N) : (dats m 0 c).after 5 t = (outsAt m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  by_cases h0 : t.val = 0
  · rw [PhiS_castSucc m c t, PhiS_zero m c _ _ h0, PhiA0_eq]
    rw [outsAt_first m c t h0]
    unfold outA
    iintro ⟨⟨HS0, Hg⟩, Ho, ⟨%d0, H0⟩, ⟨%d1, H1⟩, ⟨%d2, H2⟩, ⟨%d3, H3⟩, ⟨%d4, H4⟩, ⟨%d5, H5⟩⟩
    iapply ((bodyRunA c (grid0.coords t) _ _ _ _ _ _ _ _ _ _ _ _ _ _ ((hcond0_0 t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 Hg]
    · isplitl [HS0]
      · unfold owns; iexists _; isplitr
        swap; · iexact HS0
        ipureintro; exact View.read_writes_eq_canon _ _ _ (coverAS c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverA4 c _ _ _ _ _ _ _ _ _ _ _ _ _ _ _ _ _ _ _ _)
    · unfold owns; iexists _; isplitr
      swap; · iexact H5
      ipureintro; exact View.read_writes_eq_canon _ _ _ (coverA5 c _ _ _ _ _ _ _ _ _ _ _ _ _ _ _ _ _ _ _ _)
  · rw [PhiS_castSucc m c t, PhiS_pos m c _ _ h0]
    rw [outsAt_later m c t h0]
    unfold outB
    iintro ⟨⟨HS0, Hg⟩, Ho, ⟨%d0, H0⟩, ⟨%d1, H1⟩, ⟨%d2, H2⟩, ⟨%d3, H3⟩, ⟨%d4, H4⟩, ⟨%d5, H5⟩⟩
    iapply ((bodyRunB c (grid0.coords t) _ _ _ _ _ _ _ _ _ _ _ _ _ _ (fun h => h0 ((hcond0_0 t).mp h)) (iblk m c 0 t) (iblk m c 1 t) (iblk m c 2 t) (iblk m c 3 t) _).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, HS0⟩
    isplitl [HS0 Hg]
    · isplitl [HS0]
      · unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverB4 c _ _ _ _ _ _ _ _ _ _ _ _ _ _ _ _ _ _ _ _ _)
    · unfold owns; iexists _; isplitr
      swap; · iexact H5
      ipureintro; exact View.read_writes_eq_canon _ _ _ (coverB5 c _ _ _ _ _ _ _ _ _ _ _ _ _ _ _ _ _ _ _ _ _)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

set_option backward.isDefEq.respectTransparency.types false in
/-- The run, and every semaphore at zero at its end. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they began and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Gen

end
-- ==== Proof.Lru.Value.lean ====
/- What a point leaves, at the ideal values: the rows of `G` and of the gate's gradient in the outputs, the first rows of `G` and `A` in the
   scratch. -/
module

public import proofs.«01_k».proof.Proof.Lru.Frame

@[expose] public section

set_option maxRecDepth 16384

noncomputable section

namespace Cert.Lru

open Idealize.ShloMosaic Idealize.ShloMosaic.TcCoe
open Cert.KernelIdeal Cert.KernelIdeal.Gen

/-- The gate's gradient. -/
def dg (d g h : RT) : RT := fun r l => d r l * h r l * dgelu (g r l)

theorem hz2 : (![0, 0] : Fin 2 → Nat) = fun _ => 0 := funext fun a => by fin_cases a <;> rfl

/-- The scratch's first two rows after the two stores. -/
theorem scratch_rows (v : View sig .tc .vmem S8x384 .f32) (f : v.ty.Contents (Elt Ideal)) (p q : FVec Ideal S1x384 .f32) (L : List (View.Piece (Elt Ideal) S8x384 .f32))
    (l : Fin 384) :
    v.read (Elt Ideal) (v.writes (Elt Ideal) f (⟨Rect.unit (s := S8x384) ![1, 0] ![1, 384] inb_S8x384_S1x384_1_0, q⟩ :: ⟨Rect.unit (s := S8x384) ![0, 0] ![1, 384] inb_S8x384_S1x384_0_0, p⟩ :: L)) (ix2 (0 : Fin 8) l) = p (ix2 (0 : Fin 1) l)
    ∧ v.read (Elt Ideal) (v.writes (Elt Ideal) f (⟨Rect.unit (s := S8x384) ![1, 0] ![1, 384] inb_S8x384_S1x384_1_0, q⟩ :: ⟨Rect.unit (s := S8x384) ![0, 0] ![1, 384] inb_S8x384_S1x384_0_0, p⟩ :: L)) (ix2 (1 : Fin 8) l) = q (ix2 (0 : Fin 1) l) := by
  constructor
  · rw [View.read_writes_cons_rows_of_not_mem (o := 1) (W := 1) v f _ _ _ _ rfl rfl (Or.inl Nat.zero_lt_one)]
    exact View.read_writes_cons_rows_of_mem (o := 0) v f _ _ _ _ (ix2 (0 : Fin 1) l) rfl rfl rfl
  · exact View.read_writes_cons_rows_of_mem (o := 1) v f _ _ _ _ (ix2 (0 : Fin 1) l) rfl rfl rfl

theorem outA_val (c : Dev nD) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (hc0 : cond0_0 i) (d g h la G A : RT) (hA : ∀ r l, r < 512 → A r l = Real.exp (la r l))
    (hG : ∀ r l, r < 512 → G r l = d r l * gelu (g r l) + A (r + 1) l * G (r + 1) l) (h0 : ∀ l, G 512 l = 0) (h1 : ∀ l, A 512 l = 0) :
    (outA (F := Ideal) c i arg1 harg1 arg2 harg2 arg3 harg3 arg4 harg4 arg5 harg5 arg6 harg6 arg7 harg7 hc0 (up512 d) (up512 g) (up512 h) (up512 la)).1 = up512 G ∧ (outA (F := Ideal) c i arg1 harg1 arg2 harg2 arg3 harg3 arg4 harg4 arg5 harg5 arg6 harg6 arg7 harg7 hc0 (up512 d) (up512 g) (up512 h) (up512 la)).2.1 = up512 (dg d g h)
    ∧ ∀ l : Fin 384, (outA (F := Ideal) c i arg1 harg1 arg2 harg2 arg3 harg3 arg4 harg4 arg5 harg5 arg6 harg6 arg7 harg7 hc0 (up512 d) (up512 g) (up512 h) (up512 la)).2.2 (ix2 (0 : Fin 8) l) = ((G 0 l : ℝ) : EReal) ∧ (outA (F := Ideal) c i arg1 harg1 arg2 harg2 arg3 harg3 arg4 harg4 arg5 harg5 arg6 harg6 arg7 harg7 hc0 (up512 d) (up512 g) (up512 h) (up512 la)).2.2 (ix2 (1 : Fin 8) l) = ((A 0 l : ℝ) : EReal) := by
  have hi : (bodyRunA.sl.v4 (F := Ideal) c arg7, bodyRunA.sl.v5 (F := Ideal) c arg7) = carried G A 512 := by
    unfold bodyRunA.sl.v4 bodyRunA.sl.v5
    rw [View.readCov_eq_canon_ld _ _ _ (fun y => View.cover_of_wholeMem bodyRunA.sl.HS0_1 (by unfold bodyRunA.sl.HS0_1; sl_whole_mem) y),
      View.readCov_eq_canon_ld _ _ _ (fun y => View.cover_of_wholeMem bodyRunA.sl.HS0_1 (by unfold bodyRunA.sl.HS0_1; sl_whole_mem) y)]
    unfold bodyRunA.sl.HS0_1
    rw [View.canon_unit_zero hz2]
    refine Prod.ext ?_ ?_
    · funext j; exact ofBits_zero.trans (congrArg (fun x : ℝ => (x : EReal)) (h0 (j 1)).symm)
    · funext j; exact ofBits_zero.trans (congrArg (fun x : ℝ => (x : EReal)) (h1 (j 1)).symm)
  obtain ⟨s1, s2, s3⟩ := state_val Variants.none c none i arg1 harg1 arg2 harg2 arg3 harg3 arg4 harg4 arg5 harg5 arg6 harg6 arg7 harg7 d g h la G A hA hG 64 le_rfl
  have c4 := coverA4 (F := Ideal) c i arg1 harg1 arg2 harg2 arg3 harg3 arg4 harg4 arg5 harg5 arg6 harg6 arg7 harg7 hc0 (up512 d) (up512 g) (up512 h) (up512 la)
  have c5 := coverA5 (F := Ideal) c i arg1 harg1 arg2 harg2 arg3 harg3 arg4 harg4 arg5 harg5 arg6 harg6 arg7 harg7 hc0 (up512 d) (up512 g) (up512 h) (up512 la)
  have cS := coverAS (F := Ideal) c i arg1 harg1 arg2 harg2 arg3 harg3 arg4 harg4 arg5 harg5 arg6 harg6 arg7 harg7 hc0 (up512 d) (up512 g) (up512 h) (up512 la)
  unfold outA
  dsimp only
  refine ⟨?_, ?_, fun l => ?_⟩
  · rw [← View.read_writes_eq_canon arg5.view (harg5.unread (up512 G)) _ c4]
    unfold bodyRunA
    dsimp only
    rw [hi]
    funext y
    exact s2 _ y (Nat.zero_le _)
  · rw [← View.read_writes_eq_canon arg6.view (harg6.unread (up512 G)) _ c5]
    unfold bodyRunA
    dsimp only
    rw [hi]
    funext y
    exact s3 _ y (Nat.zero_le _)
  · rw [← View.read_writes_eq_canon arg7.view (harg7.unread (fun _ => (0 : EReal))) _ cS]
    unfold bodyRunA
    dsimp only
    rw [hi]
    have e : ((st_k0_t1 (F := Ideal) Variants.none c none i arg1 harg1 arg2 harg2 arg3 harg3 arg4 harg4 arg5 harg5 arg6 harg6 arg7 harg7 rows (harg1.unread (up512 d)) (harg2.unread (up512 g)) (harg3.unread (up512 h)) (harg4.unread (up512 la)) (carried G A 512) 64).1) = carried G A 0 := s1
    refine ⟨(scratch_rows arg7.view _ _ _ _ l).1.trans ?_, (scratch_rows arg7.view _ _ _ _ l).2.trans ?_⟩
    · show k0_pay5 ((st_k0_t1 (F := Ideal) Variants.none c none i arg1 harg1 arg2 harg2 arg3 harg3 arg4 harg4 arg5 harg5 arg6 harg6 arg7 harg7 rows (harg1.unread (up512 d)) (harg2.unread (up512 g)) (harg3.unread (up512 h)) (harg4.unread (up512 la)) (carried G A 512) 64).1).1 _ = _
      rw [e]; pointwise [k0_pay5, carried, up1_ix]
    · show k0_pay6 ((st_k0_t1 (F := Ideal) Variants.none c none i arg1 harg1 arg2 harg2 arg3 harg3 arg4 harg4 arg5 harg5 arg6 harg6 arg7 harg7 rows (harg1.unread (up512 d)) (harg2.unread (up512 g)) (harg3.unread (up512 h)) (harg4.unread (up512 la)) (carried G A 512) 64).1).2 _ = _
      rw [e]; pointwise [k0_pay6, carried, up1_ix]

theorem outB_val (c : Dev nD) (i : grid0.Coords) (arg1 : Memref sig .tc .vmem S512x384 .f32) (harg1 : arg1.IsWhole) (arg2 : Memref sig .tc .vmem S512x384 .f32) (harg2 : arg2.IsWhole) (arg3 : Memref sig .tc .vmem S512x384 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S8x384 .f32) (harg7 : arg7.IsWhole) (hc0 : ¬cond0_0 i) (d g h la G A : RT) (hA : ∀ r l, r < 512 → A r l = Real.exp (la r l))
    (hG : ∀ r l, r < 512 → G r l = d r l * gelu (g r l) + A (r + 1) l * G (r + 1) l) (xs : Vec Ideal S8x384 .f32) (h0 : ∀ l : Fin 384, xs (ix2 (0 : Fin 8) l) = ((G 512 l : ℝ) : EReal)) (h1 : ∀ l : Fin 384, xs (ix2 (1 : Fin 8) l) = ((A 512 l : ℝ) : EReal)) :
    (outB (F := Ideal) c i arg1 harg1 arg2 harg2 arg3 harg3 arg4 harg4 arg5 harg5 arg6 harg6 arg7 harg7 hc0 (up512 d) (up512 g) (up512 h) (up512 la) xs).1 = up512 G ∧ (outB (F := Ideal) c i arg1 harg1 arg2 harg2 arg3 harg3 arg4 harg4 arg5 harg5 arg6 harg6 arg7 harg7 hc0 (up512 d) (up512 g) (up512 h) (up512 la) xs).2.1 = up512 (dg d g h)
    ∧ ∀ l : Fin 384, (outB (F := Ideal) c i arg1 harg1 arg2 harg2 arg3 harg3 arg4 harg4 arg5 harg5 arg6 harg6 arg7 harg7 hc0 (up512 d) (up512 g) (up512 h) (up512 la) xs).2.2 (ix2 (0 : Fin 8) l) = ((G 0 l : ℝ) : EReal) ∧ (outB (F := Ideal) c i arg1 harg1 arg2 harg2 arg3 harg3 arg4 harg4 arg5 harg5 arg6 harg6 arg7 harg7 hc0 (up512 d) (up512 g) (up512 h) (up512 la) xs).2.2 (ix2 (1 : Fin 8) l) = ((A 0 l : ℝ) : EReal) := by
  have hi : (View.readAt (Elt Ideal) arg7.view (Rect.unit (s := S8x384) ![0, 0] ![1, 384] inb_S8x384_S1x384_0_0).toLoadRect (harg7.unread xs),
      View.readAt (Elt Ideal) arg7.view (Rect.unit (s := S8x384) ![1, 0] ![1, 384] inb_S8x384_S1x384_1_0).toLoadRect (harg7.unread xs)) = carried G A 512 := by
    rw [View.readAt_eq_ld, View.readAt_eq_ld, harg7.read_unread]
    refine Prod.ext ?_ ?_
    · funext j; idx_vars j; rw [show (carried G A 512).1 (ix2 j0 j1) = ((G 512 j1 : ℝ) : EReal) from rfl, ← h0]
      refine congrArg xs (funext fun a => ?_)
      fin_cases a <;> apply Fin.ext
      · show 0 + 1 * j0.val = 0; omega
      · show 0 + 1 * j1.val = j1.val; omega
    · funext j; idx_vars j; rw [show (carried G A 512).2 (ix2 j0 j1) = ((A 512 j1 : ℝ) : EReal) from rfl, ← h1]
      refine congrArg xs (funext fun a => ?_)
      fin_cases a <;> apply Fin.ext
      · show 1 + 1 * j0.val = 1; omega
      · show 0 + 1 * j1.val = j1.val; omega
  obtain ⟨s1, s2, s3⟩ := state_val Variants.none c none i arg1 harg1 arg2 harg2 arg3 harg3 arg4 harg4 arg5 harg5 arg6 harg6 arg7 harg7 d g h la G A hA hG 64 le_rfl
  have c4 := coverB4 (F := Ideal) c i arg1 harg1 arg2 harg2 arg3 harg3 arg4 harg4 arg5 harg5 arg6 harg6 arg7 harg7 hc0 (up512 d) (up512 g) (up512 h) (up512 la) xs
  have c5 := coverB5 (F := Ideal) c i arg1 harg1 arg2 harg2 arg3 harg3 arg4 harg4 arg5 harg5 arg6 harg6 arg7 harg7 hc0 (up512 d) (up512 g) (up512 h) (up512 la) xs
  skip
  unfold outB
  dsimp only
  refine ⟨?_, ?_, fun l => ?_⟩
  · rw [← View.read_writes_eq_canon arg5.view (harg5.unread (up512 G)) _ c4]
    unfold bodyRunB
    dsimp only
    rw [hi]
    funext y
    exact s2 _ y (Nat.zero_le _)
  · rw [← View.read_writes_eq_canon arg6.view (harg6.unread (up512 G)) _ c5]
    unfold bodyRunB
    dsimp only
    rw [hi]
    funext y
    exact s3 _ y (Nat.zero_le _)
  · skip
    unfold bodyRunB
    dsimp only
    rw [hi]
    have e : ((st_k0_t1 (F := Ideal) Variants.none c none i arg1 harg1 arg2 harg2 arg3 harg3 arg4 harg4 arg5 harg5 arg6 harg6 arg7 harg7 rows (harg1.unread (up512 d)) (harg2.unread (up512 g)) (harg3.unread (up512 h)) (harg4.unread (up512 la)) (carried G A 512) 64).1) = carried G A 0 := s1
    refine ⟨(scratch_rows arg7.view _ _ _ _ l).1.trans ?_, (scratch_rows arg7.view _ _ _ _ l).2.trans ?_⟩
    · show k0_pay5 ((st_k0_t1 (F := Ideal) Variants.none c none i arg1 harg1 arg2 harg2 arg3 harg3 arg4 harg4 arg5 harg5 arg6 harg6 arg7 harg7 rows (harg1.unread (up512 d)) (harg2.unread (up512 g)) (harg3.unread (up512 h)) (harg4.unread (up512 la)) (carried G A 512) 64).1).1 _ = _
      rw [e]; pointwise [k0_pay5, carried, up1_ix]
    · show k0_pay6 ((st_k0_t1 (F := Ideal) Variants.none c none i arg1 harg1 arg2 harg2 arg3 harg3 arg4 harg4 arg5 harg5 arg6 harg6 arg7 harg7 rows (harg1.unread (up512 d)) (harg2.unread (up512 g)) (harg3.unread (up512 h)) (harg4.unread (up512 la)) (carried G A 512) 64).1).2 _ = _
      rw [e]; pointwise [k0_pay6, carried, up1_ix]

end Cert.Lru

end
-- ==== Proof.Lru.Result.lean ====
/- The kernel's two result arrays, when the arguments hold reals: the recurrence's gradient `G`, from the last row to the first, and the
   gate's gradient. -/
module

public import proofs.«01_k».proof.Proof.Lru.Value

@[expose] public section

set_option maxRecDepth 16384

noncomputable section

namespace Cert.Lru

open Idealize.ShloMosaic Idealize.ShloMosaic.TcCoe Idealize.SL.Sem
open Cert.KernelIdeal Cert.KernelIdeal.Gen

section reals
variable (d g la : RT)

/-- The decay of row `r`, nothing after the last row. -/
def decay : RT := fun r l => if r < 4096 then Real.exp (la r l) else 0

/-- The gradient of the recurrence, `n` rows from the end. -/
def fromEnd : RT
  | 0, _ => 0
  | n + 1, l => d (4095 - n) l * gelu (g (4095 - n) l) + decay la (4096 - n) l * fromEnd n l

def grad : RT := fun r l => fromEnd d g la (4096 - r) l

theorem grad_end (l : Fin 384) : grad d g la 4096 l = 0 := rfl

theorem grad_row (r : ℕ) (l : Fin 384) (h : r < 4096) :
    grad d g la r l = d r l * gelu (g r l) + decay la (r + 1) l * grad d g la (r + 1) l := by
  unfold grad
  obtain ⟨n, hn⟩ : ∃ n, 4096 - r = n + 1 := ⟨4095 - r, by omega⟩
  rw [hn, show 4096 - (r + 1) = n by omega, fromEnd, show 4095 - n = r by omega, show 4096 - n = r + 1 by omega]

end reals

/-- An array of reals as 4096 rows. -/
def up4096 (x : RT) : FVec Ideal S4096x384 .f32 := fun j => ((x (j 0).val (j 1) : ℝ) : EReal)

/-- The lane of the projection that holds the gate's lane `l`. -/
def gl (l : Fin 384) : Fin 2304 := ⟨1536 + l.val, by omega⟩

variable (m : (ℓ : Loc nD τ sig) → Buf (Elt Ideal) ℓ) (ρ : Dev nD → PrngReg)

/-- The arguments of device `c` hold reals. -/
structure Reals (c : Dev nD) (d : RT) (p : ℕ → Fin 2304 → ℝ) (h la : RT) : Prop where
  d : m ((c : Thread nD τ).loc main_arg0) = up4096 d
  p : m ((c : Thread nD τ).loc main_arg1) = fun j => ((p (j 0).val (j 1) : ℝ) : EReal)
  h : m ((c : Thread nD τ).loc main_arg2) = up4096 h
  la : m ((c : Thread nD τ).loc main_arg3) = up4096 la

theorem index_eq : ∀ t : Fin cfg0.N,
    ((win0_0.index t 0 = 7 - t.val ∧ win0_0.index t 1 = 0) ∧ (win0_1.index t 0 = 7 - t.val ∧ win0_1.index t 1 = 4))
    ∧ ((win0_2.index t 0 = 7 - t.val ∧ win0_2.index t 1 = 0) ∧ (win0_3.index t 0 = 7 - t.val ∧ win0_3.index t 1 = 0))
    ∧ ((win0_4.index t 0 = 7 - t.val ∧ win0_4.index t 1 = 0) ∧ (win0_5.index t 0 = 7 - t.val ∧ win0_5.index t 1 = 0)) :=
  (by decide +kernel : ∀ t : Fin grid0.N, _)

section
variable {m} {c : Dev nD} {d h la : RT} {p : ℕ → Fin 2304 → ℝ} (H : Reals m c d p h la)

/-- Rows from `512 (7 - n)` on. -/
def blkOf (n : ℕ) (x : RT) : RT := fun r l => x (512 * (7 - n) + r) l

/-- The gate's columns of the projection. -/
def gate (p : ℕ → Fin 2304 → ℝ) : RT := fun r l => p r (gl l)

include H

theorem iblk0_val (t : Fin cfg0.N) : iblk m c 0 t = up512 (blkOf t.val d) := by
  have e := (index_eq t).1.1
  funext j
  show V m c main_arg0 (((cfg0.win 0).blk t).view.emb j) = _
  unfold V; rw [H.d]
  unfold up4096 up512 blkOf
  have e0 : ((((cfg0.win 0).blk t).view.emb j) 0).val = 512 * (7 - t.val) + (j 0).val := by
    show win0_0.index t 0 * 512 + 1 * (j 0).val = _; rw [e.1]; omega
  have e1 : (((cfg0.win 0).blk t).view.emb j) 1 = j 1 := Fin.ext (by
    show win0_0.index t 1 * 384 + 1 * (j 1).val = _; rw [e.2]; omega)
  exact congrArg (fun x : ℝ => (x : EReal)) (congrArg₂ d e0 e1)

theorem iblk2_val (t : Fin cfg0.N) : iblk m c 2 t = up512 (blkOf t.val h) := by
  have e := (index_eq t).2.1.1
  funext j
  show V m c main_arg2 (((cfg0.win 2).blk t).view.emb j) = _
  unfold V; rw [H.h]
  unfold up4096 up512 blkOf
  have e0 : ((((cfg0.win 2).blk t).view.emb j) 0).val = 512 * (7 - t.val) + (j 0).val := by
    show win0_2.index t 0 * 512 + 1 * (j 0).val = _; rw [e.1]; omega
  have e1 : (((cfg0.win 2).blk t).view.emb j) 1 = j 1 := Fin.ext (by
    show win0_2.index t 1 * 384 + 1 * (j 1).val = _; rw [e.2]; omega)
  exact congrArg (fun x : ℝ => (x : EReal)) (congrArg₂ h e0 e1)

theorem iblk3_val (t : Fin cfg0.N) : iblk m c 3 t = up512 (blkOf t.val la) := by
  have e := (index_eq t).2.1.2
  funext j
  show V m c main_arg3 (((cfg0.win 3).blk t).view.emb j) = _
  unfold V; rw [H.la]
  unfold up4096 up512 blkOf
  have e0 : ((((cfg0.win 3).blk t).view.emb j) 0).val = 512 * (7 - t.val) + (j 0).val := by
    show win0_3.index t 0 * 512 + 1 * (j 0).val = _; rw [e.1]; omega
  have e1 : (((cfg0.win 3).blk t).view.emb j) 1 = j 1 := Fin.ext (by
    show win0_3.index t 1 * 384 + 1 * (j 1).val = _; rw [e.2]; omega)
  exact congrArg (fun x : ℝ => (x : EReal)) (congrArg₂ la e0 e1)

theorem iblk1_val (t : Fin cfg0.N) : iblk m c 1 t = up512 (blkOf t.val (gate p)) := by
  have e := (index_eq t).1.2
  funext j
  show V m c main_arg1 (((cfg0.win 1).blk t).view.emb j) = _
  unfold V; rw [H.p]
  unfold up512 blkOf gate
  have e0 : ((((cfg0.win 1).blk t).view.emb j) 0).val = 512 * (7 - t.val) + (j 0).val := by
    show win0_1.index t 0 * 512 + 1 * (j 0).val = _; rw [e.1]; omega
  have e1 : (((cfg0.win 1).blk t).view.emb j) 1 = gl (j 1) := Fin.ext (by
    show win0_1.index t 1 * 384 + 1 * (j 1).val = 1536 + (j 1).val; rw [e.2]; omega)
  exact congrArg (fun x : ℝ => (x : EReal)) (congrArg₂ p e0 e1)

/-- Point `n` leaves its block of the two gradients, and in the scratch its first row of `grad` and of the decay. -/
theorem outsAt_val (n : ℕ) (hn : n < cfg0.N) :
    (outsAt m c n hn).1 = up512 (blkOf n (grad d (gate p) la))
    ∧ (outsAt m c n hn).2.1 = up512 (blkOf n (dg d (gate p) h))
    ∧ ∀ l : Fin 384, (outsAt m c n hn).2.2 (ix2 (0 : Fin 8) l) = ((blkOf n (grad d (gate p) la) 0 l : ℝ) : EReal)
      ∧ (outsAt m c n hn).2.2 (ix2 (1 : Fin 8) l) = ((blkOf n (decay la) 0 l : ℝ) : EReal) := by
  have hN : cfg0.N = 8 := N_0
  have hA : ∀ n, n < 8 → ∀ r l, r < 512 → blkOf n (decay la) r l = Real.exp (blkOf n la r l) := fun n hn r l hr =>
    if_pos (by omega)
  have hG : ∀ n, n < 8 → ∀ r l, r < 512 → blkOf n (grad d (gate p) la) r l
      = blkOf n d r l * gelu (blkOf n (gate p) r l) + blkOf n (decay la) (r + 1) l * blkOf n (grad d (gate p) la) (r + 1) l :=
    fun n hn r l hr => grad_row d (gate p) la _ l (by omega)
  induction n with
  | zero =>
    rw [outsAt_first m c ⟨0, hn⟩ rfl, iblk0_val H, iblk1_val H, iblk2_val H, iblk3_val H]
    exact outA_val c _ _ _ _ _ _ _ _ _ _ _ _ _ _ _ _ _ _ _ _ _ _ (hA 0 (by omega)) (hG 0 (by omega))
      (fun l => grad_end d (gate p) la l) (fun l => show decay la 4096 l = 0 from if_neg (Nat.lt_irrefl 4096))
  | succ n ih =>
    obtain ⟨_, _, i3⟩ := ih (Nat.lt_of_succ_lt hn)
    rw [outsAt_later m c ⟨n + 1, hn⟩ (Nat.succ_ne_zero n), iblk0_val H, iblk1_val H, iblk2_val H, iblk3_val H]
    have e : 512 * (7 - (n + 1)) + 512 = 512 * (7 - n) + 0 := by omega
    exact outB_val c _ _ _ _ _ _ _ _ _ _ _ _ _ _ _ _ _ _ _ _ _ _ (hA (n + 1) (by omega)) (hG (n + 1) (by omega)) _
      (fun l => (i3 l).1.trans (congrArg (fun r : ℕ => ((grad d (gate p) la r l : ℝ) : EReal)) e.symm))
      (fun l => (i3 l).2.trans (congrArg (fun r : ℕ => ((decay la r l : ℝ) : EReal)) e.symm))

theorem flushed4_val (t : Fin cfg0.N) :
    (dats m 0 c).flushed 4 t = ((cfg0.win 4).blk t).view.read (Elt Ideal) (up4096 (grad d (gate p) la)) := by
  have e := (index_eq t).2.2.1
  show (cfg0.win 4).cut (grid0.coords t) ((dats m 0 c).after 4 t) = _
  rw [after0_4, (outsAt_val H t.val t.isLt).1]
  funext j
  show up512 _ j = up4096 _ (((cfg0.win 4).blk t).view.emb j)
  have e0 : ((((cfg0.win 4).blk t).view.emb j) 0).val = 512 * (7 - t.val) + (j 0).val := by
    show win0_4.index t 0 * 512 + 1 * (j 0).val = _; rw [e.1]; omega
  have e1 : (((cfg0.win 4).blk t).view.emb j) 1 = j 1 := Fin.ext (by
    show win0_4.index t 1 * 384 + 1 * (j 1).val = _; rw [e.2]; omega)
  exact congrArg (fun x : ℝ => (x : EReal)) (congrArg₂ (grad d (gate p) la) e0 e1).symm

theorem flushed5_val (t : Fin cfg0.N) :
    (dats m 0 c).flushed 5 t = ((cfg0.win 5).blk t).view.read (Elt Ideal) (up4096 (dg d (gate p) h)) := by
  have e := (index_eq t).2.2.2
  show (cfg0.win 5).cut (grid0.coords t) ((dats m 0 c).after 5 t) = _
  rw [after0_5, (outsAt_val H t.val t.isLt).2.1]
  funext j
  show up512 _ j = up4096 _ (((cfg0.win 5).blk t).view.emb j)
  have e0 : ((((cfg0.win 5).blk t).view.emb j) 0).val = 512 * (7 - t.val) + (j 0).val := by
    show win0_5.index t 0 * 512 + 1 * (j 0).val = _; rw [e.1]; omega
  have e1 : (((cfg0.win 5).blk t).view.emb j) 1 = j 1 := Fin.ext (by
    show win0_5.index t 1 * 384 + 1 * (j 1).val = _; rw [e.2]; omega)
  exact congrArg (fun x : ℝ => (x : EReal)) (congrArg₂ (dg d (gate p) h) e0 e1).symm

omit H in
theorem cover4 (i : S4096x384.Idx) : ∃ t : Fin cfg0.N, (cfg0.win 4).flush t = true ∧ i ∈ ((cfg0.win 4).blk t).view.set := by
  have h0 : (i 0 : Nat) < 4096 := (i 0).isLt
  have h1 : (i 1 : Nat) < 384 := (i 1).isLt
  have hN : cfg0.N = 8 := N_0
  obtain ⟨t, ht⟩ : ∃ t : Fin cfg0.N, t.val = 7 - (i 0).val / 512 := ⟨⟨7 - (i 0).val / 512, by omega⟩, rfl⟩
  refine ⟨t, flush0_4 t, ?_⟩
  have e := (index_eq t).2.2.1
  show i ∈ ((View.whole main_v0_0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512; rw [e.1, ht]; omega
  | ⟨1, _⟩ => show win0_4.index t 1 * 384 ≤ (i 1 : Nat) ∧ (i 1 : Nat) < win0_4.index t 1 * 384 + 384; rw [e.2]; omega

omit H in
theorem cover5 (i : S4096x384.Idx) : ∃ t : Fin cfg0.N, (cfg0.win 5).flush t = true ∧ i ∈ ((cfg0.win 5).blk t).view.set := by
  have h0 : (i 0 : Nat) < 4096 := (i 0).isLt
  have h1 : (i 1 : Nat) < 384 := (i 1).isLt
  have hN : cfg0.N = 8 := N_0
  obtain ⟨t, ht⟩ : ∃ t : Fin cfg0.N, t.val = 7 - (i 0).val / 512 := ⟨⟨7 - (i 0).val / 512, by omega⟩, rfl⟩
  refine ⟨t, flush0_5 t, ?_⟩
  have e := (index_eq t).2.2.2
  show i ∈ ((View.whole main_v0_1).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512; rw [e.1, ht]; omega
  | ⟨1, _⟩ => show win0_5.index t 1 * 384 ≤ (i 1 : Nat) ∧ (i 1 : Nat) < win0_5.index t 1 * 384 + 384; rw [e.2]; omega

theorem final4 : (dats m 0 c).arrAt 4 cfg0.N = up4096 (grad d (gate p) la) :=
  (dats m 0 c).arrAt_eq_of_cover 4 (up4096 (grad d (gate p) la)) (fun t _ => flushed4_val H t) cover4

theorem final5 : (dats m 0 c).arrAt 5 cfg0.N = up4096 (dg d (gate p) h) :=
  (dats m 0 c).arrAt_eq_of_cover 5 (up4096 (dg d (gate p) h)) (fun t _ => flushed5_val H t) cover5

end

/-- The run, with the two result arrays at the gradients. -/
theorem run (d : Dev nD → RT) (p : Dev nD → ℕ → Fin 2304 → ℝ) (h la : Dev nD → RT) (H : ∀ c, Reals m c (d c) (p c) (h c) (la c)) :
    θ_run defs (onTc (τ := τ) (main (F := Ideal))) ⟨m, fun _ => 0, ρ⟩ (fun r => ∀ c : Dev nD,
      r.2.mem ((c.tc : Thread nD τ).loc main_v0_0) = up4096 (grad (d c) (gate (p c)) (la c))
      ∧ r.2.mem ((c.tc : Thread nD τ).loc main_v0_1) = up4096 (dg (d c) (gate (p c)) (h c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h' c => ⟨((h'.1.1 c).1 4).trans (final4 (H c)), ((h'.1.1 c).1 5).trans (final5 (H c)), h'.2.1 c⟩)
    (θ_run_and (run_main_quiescent m ρ) (frame m ρ))

end Cert.Lru

end
-- ==== Proof.Lru.Ref.lean ====
/- The reference's results: its loop walks the rows from the last to the first, and after `j` trips its array holds the last `j` rows of
   `grad`. -/
module

public import proofs.«01_k».proof.Proof.Lru.Result
public import proofs.«01_k».proof.Proof.Gen.ReferenceIdeal.Run
public import Idealize.ShloMosaic.Lib.Pointwise

@[expose] public section

set_option maxRecDepth 16384

noncomputable section

namespace Cert.Lru.Ref

open Idealize.ShloMosaic Idealize.ShloMosaic.TcCoe Idealize.SL.Sem
open Cert.ReferenceIdeal Cert.ReferenceIdeal.Gen Cert.ReferenceIdeal.Value Idealize.ShloMosaic.StableHlo

/-- The projection's array. -/
def upP (p : ℕ → Fin 2304 → ℝ) : FVec Ideal S4096x2304 .f32 := fun j => ((p (j 0).val (j 1) : ℝ) : EReal)

/-- The row trip `k` reads. -/
def srow (k : ℕ) : ℕ := (min (max (IntOp.subi (IntOp.subi 4096#32 (BitVec.ofNat 32 k)) 1#32).toInt 0) ((4096 - 1 : Nat) : Int)).toNat

theorem srow_eq (k : ℕ) (h : k < 4096) : srow k = 4095 - k :=
  (by decide +kernel : ∀ k : Fin 4096, srow k.val = 4095 - k.val) ⟨k, h⟩

section vals
variable (d la hh : RT) (p : ℕ → Fin 2304 → ℝ)

theorem gate_val (j : S4096x384.Idx) :
    extractStridedSlice S4096x384 ![0, 1536] (upP p) slices_S4096x2304_S4096x384_0_1536 j = ((gate p (j 0).val (j 1) : ℝ) : EReal) := by
  unfold extractStridedSlice
  show ((p _ _ : ℝ) : EReal) = _
  unfold gate
  refine congrArg (fun x : ℝ => (x : EReal)) (congrArg₂ p ?_ (Fin.ext ?_))
  · show 0 + (j 0).val = _; omega
  · rfl

/-- The readout's gradient in `h`: `d · gelu (gate)`. -/
def readoutGrad (d : FVec Ideal S4096x384 .f32) (v : FVec Ideal S4096x384 .f32) : FVec Ideal S4096x384 .f32 :=
  let splat (w : BitVec 32) : FVec Ideal S4096x384 .f32 := broadcastInDim S4096x384 ![] bcast_S_S4096x384 (constant S_ .f32 w)
  mulf d (mulf (mulf (splat 0x3F000000#32) v)
    (addf (splat 0x3F800000#32) (Host.tanh (mulf (splat 0x3F4C422A#32) (addf v (Host.divf (mulf (mulf (mulf v v) v) (splat 0x472EAB00#32)) (splat 0x49742400#32)))))))

theorem init_dh : readoutGrad (up4096 d) (extractStridedSlice S4096x384 ![0, 1536] (upP p) slices_S4096x2304_S4096x384_0_1536)
    = up4096 fun r l => d r l * gelu (gate p r l) := by
  funext j
  unfold readoutGrad
  show up4096 d j * ((Ideal.ofBits .f32 0x3F000000#32 * extractStridedSlice S4096x384 ![0, 1536] (upP p) slices_S4096x2304_S4096x384_0_1536 j)
      * (Ideal.ofBits .f32 0x3F800000#32 + Ideal.tanh (Ideal.ofBits .f32 0x3F4C422A#32 * (extractStridedSlice S4096x384 ![0, 1536] (upP p) slices_S4096x2304_S4096x384_0_1536 j
        + Ideal.div (extractStridedSlice S4096x384 ![0, 1536] (upP p) slices_S4096x2304_S4096x384_0_1536 j * extractStridedSlice S4096x384 ![0, 1536] (upP p) slices_S4096x2304_S4096x384_0_1536 j
          * extractStridedSlice S4096x384 ![0, 1536] (upP p) slices_S4096x2304_S4096x384_0_1536 j * Ideal.ofBits .f32 0x472EAB00#32) (Ideal.ofBits .f32 0x49742400#32))))) = _
  rw [gate_val p j, ofBits_half, ofBits_one, ofBits_rt, ofBits_num, ofBits_den, Ideal.div_coe (by norm_num)]
  unfold up4096
  simp only [← EReal.coe_one, ← EReal.coe_mul, ← EReal.coe_add, ← EReal.coe_sub, tanh_coe]
  refine congrArg (fun x : ℝ => (x : EReal)) ?_
  generalize gate p (j 0).val (j 1) = g
  unfold gelu arg
  rw [show rt * (g + g * g * g * 44715 * (1 / 1000000)) = rt * (g + 8943 / 200000 * (g * g * g)) by ring]
  ring

end vals

/-- A row of reals. -/
def up384 (x : Fin 384 → ℝ) : FVec Ideal S384 .f32 := fun l => ((x (l 0) : ℝ) : EReal)

/-- The word of the row trip `k` reads. -/
def rowWord (k : ℕ) : IVec S_ 32 := subi (subi (constantI S_ 32 4096#32) (constantI S_ 32 (BitVec.ofNat 32 k))) (constantI S_ 32 1#32)

theorem slice_val (x : RT) (k : ℕ) (hk : k < 4096) (y : S1x384.Idx) :
    Host.dynamicSlice S1x384 (up4096 x) (fun q => (((![rowWord k, constantI S_ 32 0#32] : Fin 2 → (⟨S_, .i32⟩ : BufTy).Contents (Elt Ideal))) q (Shape.Idx.first h_S_)).toInt) sliceFits_S4096x384_S1x384 y
      = ((x (4095 - k) (y 1) : ℝ) : EReal) := by
  have h0 : (y 0).val = 0 := by have := (y 0).isLt; change (y 0).val < 1 at this; omega
  unfold Host.dynamicSlice extractStridedSlice
  show ((x _ _ : ℝ) : EReal) = _
  refine congrArg (fun x : ℝ => (x : EReal)) (congrArg₂ x ?_ (Fin.ext ?_))
  · show srow k + (y 0).val = _; rw [srow_eq k hk, h0, Nat.add_zero]
  · show 0 + (y 1).val = _; omega

theorem row_val (x : RT) (k : ℕ) (hk : k < 4096) :
    shapeCast S384 (Host.dynamicSlice S1x384 (up4096 x) (fun q => (((![rowWord k, constantI S_ 32 0#32] : Fin 2 → (⟨S_, .i32⟩ : BufTy).Contents (Elt Ideal))) q (Shape.Idx.first h_S_)).toInt) sliceFits_S4096x384_S1x384) shapeCasts_S1x384_S384
      = up384 (x (4095 - k)) := by
  funext l
  have e : ∀ v : FVec Ideal S1x384 .f32, shapeCast S384 v shapeCasts_S1x384_S384 l = v (ix2 (0 : Fin 1) (l 0)) := by
    intro v; idx_vars l; pointwise
  exact (e _).trans (slice_val x k hk _)

/-- An update of one row, at a start inside the array. -/
theorem update_row (x : FVec Ideal S4096x384 .f32) (r : FVec Ideal S1x384 .f32) (st : Fin 2 → Int) (k : ℕ) (h0 : st 0 = k) (h1 : st 1 = (0 : ℕ))
    (hk : k < 4096) (j : S4096x384.Idx) :
    Host.dynamicUpdateSlice x r st updateFits_S4096x384_S1x384 j = if (j 0).val = k then r (ix2 (0 : Fin 1) (j 1)) else x j := by
  have hj : (j 1).val < 384 := (j 1).isLt
  have c0 := Host.clampedStart_of_le (s := S4096x384) (t := S1x384) rfl st 0 k h0 (show k + 1 ≤ 4096 by omega)
  have c1 := Host.clampedStart_of_le (s := S4096x384) (t := S1x384) rfl st 1 0 h1 (show 0 + 384 ≤ 384 by omega)
  refine (Host.dynamicUpdateSlice_apply x r st updateFits_S4096x384_S1x384 j).trans ?_
  by_cases e : (j 0).val = k
  · refine Eq.trans (dif_pos ?_) (Eq.trans (congrArg r (funext fun a => Fin.ext ?_)) (if_pos e).symm)
    · intro a
      match a with
      | ⟨0, _⟩ =>
        show Host.clampedStart S4096x384 S1x384 rfl st 0 ≤ (j 0).val ∧ (j 0).val < Host.clampedStart S4096x384 S1x384 rfl st 0 + 1
        rw [c0]; omega
      | ⟨1, _⟩ =>
        show Host.clampedStart S4096x384 S1x384 rfl st 1 ≤ (j 1).val ∧ (j 1).val < Host.clampedStart S4096x384 S1x384 rfl st 1 + 384
        rw [c1]; omega
    · match a with
      | ⟨0, _⟩ => show (j 0).val - Host.clampedStart S4096x384 S1x384 rfl st 0 = 0; rw [c0]; omega
      | ⟨1, _⟩ => show (j 1).val - Host.clampedStart S4096x384 S1x384 rfl st 1 = (j 1).val; rw [c1]; omega
  · refine (dif_neg fun hin => ?_).trans (if_neg e).symm
    have h := hin 0
    change Host.clampedStart S4096x384 S1x384 rfl st 0 ≤ (j 0).val ∧ (j 0).val < Host.clampedStart S4096x384 S1x384 rfl st 0 + 1 at h
    rw [c0] at h; omega

theorem rowWord_toInt (k : ℕ) (h : k < 4096) : (IntOp.subi (IntOp.subi 4096#32 (BitVec.ofNat 32 k)) 1#32).toInt = ((4095 - k : ℕ) : Int) :=
  (by decide +kernel : ∀ k : Fin 4096, (IntOp.subi (IntOp.subi 4096#32 (BitVec.ofNat 32 k.val)) 1#32).toInt = ((4095 - k.val : ℕ) : Int)) ⟨k, h⟩

/-- The start of trip `k`'s row. -/
def starts (k : ℕ) : Fin 2 → Int :=
  fun q => (((![rowWord k, constantI S_ 32 0#32] : Fin 2 → (⟨S_, .i32⟩ : BufTy).Contents (Elt Ideal))) q (Shape.Idx.first h_S_)).toInt

theorem starts_one (k : ℕ) : starts k 1 = (0 : ℕ) := by
  show (0#32).toInt = 0
  decide

theorem starts_zero (k : ℕ) (h : k < 4096) : starts k 0 = (4095 - k : ℕ) := rowWord_toInt k h

theorem update_val (x : FVec Ideal S4096x384 .f32) (r : Fin 384 → ℝ) (k : ℕ) (hk : k < 4096) (j : S4096x384.Idx) :
    Host.dynamicUpdateSlice x (broadcastInDim S1x384 ![1] bcast_S384_S1x384_1 (up384 r)) (starts k) updateFits_S4096x384_S1x384 j
      = if (j 0).val = 4095 - k then ((r (j 1) : ℝ) : EReal) else x j :=
  update_row x (broadcastInDim S1x384 ![1] bcast_S384_S1x384_1 (up384 r)) (starts k) (4095 - k) (starts_zero k hk) (starts_one k) (by omega) j

theorem add384 (x y : Fin 384 → ℝ) : addf (up384 x) (up384 y) = up384 fun l => x l + y l :=
  funext fun l => (EReal.coe_add _ _).symm

theorem mul384 (x y : Fin 384 → ℝ) : mulf (up384 x) (up384 y) = up384 fun l => x l * y l :=
  funext fun l => (EReal.coe_mul _ _).symm

section loop
variable (d la : RT) (g : RT)

/-- The loop's values before trip `k`: the carry, the rows written so far, and what no trip changes. -/
structure Inv (V : Valuation τ sig (Elt Ideal)) (k : ℕ) : Prop where
  carry : V (Proc.devRef .tc main_v22_3) = up384 fun l => decay la (4096 - k) l * grad d g la (4096 - k) l
  out : ∀ j : S4096x384.Idx, 4096 - k ≤ (j 0).val → (V (Proc.devRef .tc main_v22_4) : FVec Ideal S4096x384 .f32) j = up4096 (grad d g la) j
  dh : V (Proc.devRef .tc main_v22_0) = up4096 fun r l => d r l * gelu (g r l)
  a : V (Proc.devRef .tc main_v22_1) = up4096 fun r l => Real.exp (la r l)
  n : V (Proc.devRef .tc main_v22_2) = (constantI S_ 32 (BitVec.ofNat 32 k) : IVec S_ 32)

variable {d la g} {V : Valuation τ sig (Elt Ideal)} {k : ℕ}

theorem word_val (h : Inv d la g V k) : res_main_while0b_v66 V = rowWord k := by
  unfold res_main_while0b_v66; rw [h.n]; rfl

theorem new_row (h : Inv d la g V k) (hk : k < 4096) : res_main_while0b_v69 V = up384 (grad d g la (4095 - k)) := by
  unfold res_main_while0b_v69
  rw [word_val h, h.carry, h.dh]
  refine (congrArg (addf _) (row_val _ k hk)).trans ((add384 _ _).trans (congrArg up384 (funext fun l => ?_)))
  rw [grad_row d g la (4095 - k) l (by omega), show 4095 - k + 1 = 4096 - k by omega, add_comm]

theorem next (h : Inv d la g V k) (hk : k < 4096) : Inv d la g (STEP V) (k + 1) where
  carry := by
    rw [STEP_main_v22_3]; unfold step_main_v22_3
    rw [word_val h, new_row h hk, h.a]
    dsimp only [id]
    refine (congrArg (fun v => mulf v _) (row_val _ k hk)).trans ((mul384 _ _).trans (congrArg up384 (funext fun l => ?_)))
    rw [show 4096 - (k + 1) = 4095 - k by omega]
    unfold decay; rw [if_pos (by omega)]
  out := by
    rw [STEP_main_v22_4]; unfold step_main_v22_4
    rw [word_val h, new_row h hk]
    dsimp only [id]
    intro j hj
    refine (update_val _ _ k hk j).trans ?_
    split
    · rename_i e; exact congrArg (fun r => ((grad d g la r (j 1) : ℝ) : EReal)) e.symm
    · rename_i e; exact h.out j (by omega)
  dh := (STEP_main_v22_0 V).trans h.dh
  a := (STEP_main_v22_1 V).trans h.a
  n := by
    rw [STEP_main_v22_2]; unfold step_main_v22_2; rw [h.n]
    funext i
    show BitVec.ofNat 32 k + 1#32 = BitVec.ofNat 32 (k + 1)
    simp only [BitVec.ofNat_add]

theorem after_trips (h : Inv d la g V 0) : ∀ k, k ≤ 4096 → Inv d la g (STEP^[k] V) k
  | 0, _ => h
  | k + 1, hk => by rw [Function.iterate_succ_apply']; exact next (after_trips h k (by omega)) (by omega)

end loop

section results
variable (m : (ℓ : Loc nD τ sig) → Buf (Elt Ideal) ℓ) (c : Dev nD) (d hh la : RT) (p : ℕ → Fin 2304 → ℝ)

theorem at_entry (h0 : m ((c.tc : Thread nD τ).loc main_arg0) = up4096 d) (h1 : m ((c.tc : Thread nD τ).loc main_arg1) = upP p)
    (h3 : m ((c.tc : Thread nD τ).loc main_arg3) = up4096 la) : Inv d la (gate p) (entryContents preI m c) 0 where
  carry := by
    simp only [entryContents, afterL_cons, afterL_nil]; after_reads_simp
    exact funext fun l => ofBits_zero.trans (congrArg (fun x : ℝ => (x : EReal)) (mul_zero (decay la 4096 (l 0))).symm)
  out := fun j hj => absurd (show (j 0).val < 4096 from (j 0).isLt) (by omega)
  dh := by
    simp only [entryContents, afterL_cons, afterL_nil]; after_reads_simp
    have e0 : launchContents m c (Proc.devRef .tc main_arg0) = up4096 d := h0
    have e1 : launchContents m c (Proc.devRef .tc main_arg1) = upP p := h1
    rw [e0, e1]
    refine Eq.trans ?_ (init_dh d p)
    rfl
  a := by
    simp only [entryContents, afterL_cons, afterL_nil]; after_reads_simp
    have e3 : launchContents m c (Proc.devRef .tc main_arg3) = up4096 la := h3
    rw [e3]
    rfl
  n := by
    simp only [entryContents, afterL_cons, afterL_nil]; after_reads_simp
    rfl

/-- What the operations after the loop make of the arguments: the gate's gradient. -/
theorem gate_grad (V : Valuation τ sig (Elt Ideal)) (h0 : V (Proc.devRef .tc main_arg0) = up4096 d) (h1 : V (Proc.devRef .tc main_arg1) = upP p)
    (h2 : V (Proc.devRef .tc main_arg2) = up4096 hh) : out_main_v64 V = up4096 (dg d (gate p) hh) := by
  unfold out_main_v64
  rw [h0, h1, h2]
  have e := fun j => gate_val p j
  generalize extractStridedSlice S4096x384 ![0, 1536] (upP p) slices_S4096x2304_S4096x384_0_1536 = v at e ⊢
  funext j
  idx_vars j
  pointwise
  simp only [e, up4096, ofBits_rt, ofBits_half, ofBits_num, ofBits_den]
  show _ = (((d j0.val j1 * hh j0.val j1 * dgelu (gate p j0.val j1) : ℝ)) : EReal)
  change _ = (((d (ix2 j0 j1 0 : Fin 4096).val (ix2 j0 j1 1) * hh (ix2 j0 j1 0 : Fin 4096).val (ix2 j0 j1 1) * dgelu (gate p (ix2 j0 j1 0 : Fin 4096).val (ix2 j0 j1 1)) : ℝ)) : EReal)
  generalize gate p (ix2 j0 j1 0 : Fin 4096).val (ix2 j0 j1 1) = g
  generalize d (ix2 j0 j1 0 : Fin 4096).val (ix2 j0 j1 1) = d
  generalize hh (ix2 j0 j1 0 : Fin 4096).val (ix2 j0 j1 1) = h
  simp only [Ideal.div_coe (show (1000000 : ℝ) ≠ 0 by norm_num), ← EReal.coe_one, ← EReal.coe_mul, ← EReal.coe_add, ← EReal.coe_sub, tanh_coe]
  refine congrArg (fun x : ℝ => (x : EReal)) ?_
  unfold dgelu arg
  rw [show rt * (g + g * g * g * 44715 * (1 / 1000000)) = rt * (g + 8943 / 200000 * (g * g * g)) by ring]
  generalize Real.tanh _ = T
  ring

/-- The run, with the two result arrays at the gradients. -/
theorem run (ρ : Dev nD → PrngReg) (d hh la : Dev nD → RT) (p : Dev nD → ℕ → Fin 2304 → ℝ)
    (h0 : ∀ c : Dev nD, m ((c.tc : Thread nD τ).loc main_arg0) = up4096 (d c)) (h1 : ∀ c : Dev nD, m ((c.tc : Thread nD τ).loc main_arg1) = upP (p c))
    (h2 : ∀ c : Dev nD, m ((c.tc : Thread nD τ).loc main_arg2) = up4096 (hh c)) (h3 : ∀ c : Dev nD, m ((c.tc : Thread nD τ).loc main_arg3) = up4096 (la c)) :
    θ_run defs (onTc (τ := τ) (main (F := Ideal))) ⟨m, fun _ => 0, ρ⟩ (fun r => ∀ c : Dev nD,
      r.2.mem ((c.tc : Thread nD τ).loc main_v22_4) = up4096 (grad (d c) (gate (p c)) (la c))
      ∧ r.2.mem ((c.tc : Thread nD τ).loc main_v64) = up4096 (dg (d c) (gate (p c)) (hh c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    have i := after_trips (at_entry m c (d c) (la c) (p c) (h0 c) (h1 c) (h3 c)) 4096 le_rfl
    ⟨(h c).1.trans (funext fun j => i.out j (by omega)),
      (h c).2.1.trans (gate_grad (d c) (hh c) (p c) _ ((iter_main_arg0 m c 4096).trans (h0 c)) ((iter_main_arg1 m c 4096).trans (h1 c)) ((iter_main_arg2 m c 4096).trans (h2 c))),
      (h c).2.2⟩) (Value.run m ρ)

end results

end Cert.Lru.Ref

end
-- ==== Proof.Lru.Reals.lean ====
/- A number whose magnitude is below +∞ is real. -/
module

public import Idealize.ShloMosaic.PureOps.Ideal.Laws
public import Idealize.ShloMosaic.Lib.IdealHost
public import Idealize.ShloMosaic.Lib.ReduceAll

@[expose] public section

noncomputable section

namespace Cert.Lru

open Idealize.ShloMosaic

theorem ofBits_inf : Ideal.ofBits .f32 0x7F800000#32 = ⊤ := by simp [Ideal.ofBits, Ideal.ieee]

theorem real_of_lt_inf (x : EReal) (h : Ideal.cmp .olt (max x (-x)) (Ideal.ofBits .f32 0x7F800000#32) = 1#1) : x = ((x.toReal : ℝ) : EReal) := by
  rw [ofBits_inf] at h
  have hlt : max x (-x) < ⊤ := by
    by_contra hn
    have : Ideal.cmp .olt (max x (-x)) (⊤ : EReal) = 0#1 := by simp [Ideal.cmp, hn]
    rw [this] at h; exact absurd h (by decide)
  refine (EReal.coe_toReal ?_ ?_).symm
  · rintro rfl; simp at hlt
  · rintro rfl; simp at hlt

theorem andi_one (a b : BitVec 1) (h : IntOp.andi a b = 1#1) : a = 1#1 ∧ b = 1#1 := by
  revert h; revert a b; decide

end Cert.Lru

end
-- ==== Proof.Lru.Pre.lean ====
/- The precondition: an array whose magnitudes are below +∞ holds reals. -/
module

public import proofs.«01_k».proof.Proof.Lru.Ref
public import proofs.«01_k».proof.Proof.Lru.Reals
public import proofs.«01_k».proof.Proof.Gen.Pre_finite
public import Idealize.ShloMosaic.Lib.ReduceAll

@[expose] public section

set_option maxRecDepth 16384

noncomputable section

namespace Cert.Lru

open Idealize.ShloMosaic Idealize.ShloMosaic.TcCoe
open Cert.Pre_finite Cert.Pre_finite.Gen

variable (a0 : FVec Ideal Cert.Pre_finite.S4096x384 .f32) (a1 : FVec Ideal Cert.Pre_finite.S4096x2304 .f32) (a2 a3 : FVec Ideal Cert.Pre_finite.S4096x384 .f32)

/-- Each element of each argument is a real. -/
theorem reals_of_finite (h : Cert.Pre_finite.fn (F := Ideal) a0 a1 a2 a3 = fun _ => 1#1) :
    ((∀ i, a0 i = (((a0 i).toReal : ℝ) : EReal)) ∧ (∀ i, a1 i = (((a1 i).toReal : ℝ) : EReal)))
    ∧ (∀ i, a2 i = (((a2 i).toReal : ℝ) : EReal)) ∧ (∀ i, a3 i = (((a3 i).toReal : ℝ) : EReal)) := by
  have hs : Subsingleton Cert.Pre_finite.S_.Idx := ⟨fun a b => funext fun k => k.elim0⟩
  have h := congrFun h (Shape.Idx.first h_S_)
  dsimp only [Cert.Pre_finite.fn, Cert.Pre_finite.fn_part1] at h
  obtain ⟨h, e3⟩ := andi_one _ _ h
  obtain ⟨h, e2⟩ := andi_one _ _ h
  obtain ⟨h, e1⟩ := andi_one _ _ h
  obtain ⟨_, e0⟩ := andi_one _ _ h
  exact ⟨⟨fun i => real_of_lt_inf _ (Host.reduce_andi_all _ _ _ _ _ e0 i), fun i => real_of_lt_inf _ (Host.reduce_andi_all _ _ _ _ _ e1 i)⟩,
    fun i => real_of_lt_inf _ (Host.reduce_andi_all _ _ _ _ _ e2 i), fun i => real_of_lt_inf _ (Host.reduce_andi_all _ _ _ _ _ e3 i)⟩

/-- The reals an array holds, by row and lane. -/
def realRows {n k : ℕ} (x : (⟨2, ![n, k]⟩ : Shape).Idx → EReal) : ℕ → Fin k → ℝ := fun r l => if h : r < n then (x (ix2 (⟨r, h⟩ : Fin n) l)).toReal else 0

theorem eq_rows {n k : ℕ} (x : (⟨2, ![n, k]⟩ : Shape).Idx → EReal) (h : ∀ i, x i = (((x i).toReal : ℝ) : EReal)) :
    x = fun j => ((realRows x (j 0).val (j 1) : ℝ) : EReal) := by
  funext j
  unfold realRows
  rw [dif_pos (show (j 0).val < n from (j 0).isLt)]
  refine (h j).trans (congrArg (fun i => (((x i).toReal : ℝ) : EReal)) (funext fun a => ?_))
  match a with
  | ⟨0, _⟩ => rfl
  | ⟨1, _⟩ => rfl

end Cert.Lru

end
-- ==== Proof.Products.Sums.lean ====
/- The three products of two matrices over the extended reals, as sums over the contracted axis; a residual and the layer
   normalisation of a row. -/
module

public import Idealize.ShloMosaic.PureOps.Ideal
public import Idealize.ShloMosaic.Lib.Pointwise

@[expose] public section

noncomputable section

namespace Cert.Products

open Idealize.ShloMosaic

/-- The indices of a matrix. -/
abbrev Ix (m n : ℕ) : Type := (⟨2, ![m, n]⟩ : Shape).Idx

/-- `a · b`. -/
def nn {m n k : ℕ} (a : Ix m k → EReal) (b : Ix k n → EReal) (i : Ix m n) : EReal := ∑ l : Fin k, a (ix2 (i 0) l) * b (ix2 l (i 1))

/-- `a · bᵀ`. -/
def nt {m n k : ℕ} (a : Ix m k → EReal) (b : Ix n k → EReal) (i : Ix m n) : EReal := ∑ l : Fin k, a (ix2 (i 0) l) * b (ix2 (i 1) l)

/-- `aᵀ · b`. -/
def tn {m n k : ℕ} (a : Ix k m → EReal) (b : Ix k n → EReal) (i : Ix m n) : EReal := ∑ l : Fin k, a (ix2 l (i 0)) * b (ix2 l (i 1))

/-- The last 384 columns of the projection: the S5 channels and the padding. -/
def u (p : Ix 4096 2304 → EReal) (i : Ix 4096 384) : EReal := p (ix2 (i 0) (⟨1920 + (i 1).val, by have h : (i 1).val < 384 := (i 1).isLt; omega⟩ : Fin 2304))

/-- The constant `α` of the residual, -/
abbrev alpha : EReal := (Scalar.ofBits .f32 0x3FB504F3#32 : Ideal .f32)

/-- the width of a row, -/
abbrev width : EReal := (Scalar.ofBits .f32 0x44800000#32 : Ideal .f32)

/-- and the term under the normalisation's root. -/
abbrev eps : EReal := (Scalar.ofBits .f32 0x3727C5AC#32 : Ideal .f32)

/-- A residual and a product. -/
def residual {m n k : ℕ} (a : Ix m k → EReal) (w : Ix k n → EReal) (h : Ix m n → EReal) (i : Ix m n) : EReal :=
  alpha * h i + nn a w i

/-- The mean of a row. -/
def mean {n : ℕ} (z : Fin n → EReal) : EReal := Ideal.div (∑ x, z x) width

/-- The layer normalisation of a row, at one place of it. -/
def norm {n : ℕ} (z : Fin n → EReal) (g b : EReal) (j : Fin n) : EReal :=
  (z j - mean z) * Ideal.rsqrt (mean (fun x => (z x - mean z) * (z x - mean z)) + eps) * g + b

end Cert.Products

end
-- ==== Proof.Products.Proj.lean ====
/- Proj: the mixer's projection `h · w_in`. A point of the grid computes one block of the result, over the whole contracted axis. -/
module

public import proofs.«01_k».proof.Defs
public import proofs.«01_k».proof.Proof.Gen.ProjIdeal.Value
public import proofs.«01_k».proof.Proof.Gen.ProjReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.ProjIdeal.Products

open Idealize.ShloMosaic
open Cert.ProjIdeal
open Cert.ProjIdeal.Gen

variable (m : (ℓ : Loc nD τ sig) → Buf (Elt Ideal) ℓ)

/-- A point reads the block of the first operand in its result's rows, -/
theorem i0 : ∀ t : Fin cfg0.N, win0_0.index t = ![win0_2.index t 0, 0] := (by decide +kernel : ∀ t : Fin grid0.N, _)

/-- and the block of the second in its result's columns. -/
theorem i1 : ∀ t : Fin cfg0.N, win0_1.index t = ![0, win0_2.index t 1] := (by decide +kernel : ∀ t : Fin grid0.N, _)

/-- The result at the end of the run. -/
theorem final (c : Dev nD) : (dats (F := Ideal) m 0 c).arrAt 2 cfg0.N
    = Products.nn (m := 4096) (n := 2304) (k := 1024) (m (c.tc.loc main_arg0)) (m (c.tc.loc main_arg1)) := by
  refine (dats m 0 c).arrAt_eq_of_covers 2 _ (by decide +kernel) fun t hf y => ?_
  blk_simp
  rw [after0_2]
  frame_out
  idx_vars y
  pointwise [k0_pay1]
  refine Fin.sum_fin_congr fun x => congrArg₂ (· * ·) ?_ ?_
  · blk_ext [iblk, V, i0 t]
  · blk_ext [iblk, V, i1 t]

/-- The call and its reference leave the same result. -/
theorem algebraic : algebraic_ProjIdeal_ProjReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).1, (ha c).2]
        funext j
        idx_vars j
        pointwise [Products.nn]), (h c).2⟩)
      (Cert.ProjReferenceIdeal.Value.run m' g')⟩

/-- The reference changes none of its arguments. -/
theorem reference_frame : quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run m ρ)

end Cert.ProjIdeal.Products

end
-- ==== Proof.Products.ProjDw.lean ====
/- ProjDw: the gradient `hᵀ · dproj` of the projection's weight. A block of the result is accumulated over 4 points, each of which contracts one block of the axis. -/
module

public import proofs.«01_k».proof.Defs
public import proofs.«01_k».proof.Proof.Gen.ProjDwIdeal.Value
public import proofs.«01_k».proof.Proof.Gen.ProjDwReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.ProjDwIdeal.Products

open Idealize.ShloMosaic
open Cert.ProjDwIdeal
open Cert.ProjDwIdeal.Gen

variable (m : (ℓ : Loc nD τ sig) → Buf (Elt Ideal) ℓ)

theorem i0 : ∀ t : Fin cfg0.N, win0_0.index t = ![t.val % 4, win0_2.index t 0] := (by decide +kernel : ∀ t : Fin grid0.N, _)

theorem i1 : ∀ t : Fin cfg0.N, win0_1.index t = ![t.val % 4, win0_2.index t 1] := (by decide +kernel : ∀ t : Fin grid0.N, _)

/-- The points of a run share their block of the result. -/
theorem i2 : ∀ t s : Fin cfg0.N, t.val / 4 = s.val / 4 → win0_2.index t = win0_2.index s :=
  (by decide +kernel : ∀ t s : Fin grid0.N, t.val / 4 = s.val / 4 → _)

/-- What a point adds to the accumulator. -/
def part (c : Dev nD) (t : Fin cfg0.N) : S1024x768.Idx → EReal :=
  Products.tn (iblk (F := Ideal) m c 0 t) (iblk (F := Ideal) m c 1 t)

/-- The accumulator at the last point of a run is the sum of what the points of the run add. -/
theorem acc (c : Dev nD) (t : Fin cfg0.N) (h : t.val % 4 = 3) (y : S1024x768.Idx) :
    (outsAt0 (F := Ideal) m c t.val t.isLt).2 y
      = 0 + ∑ s : Fin 4, part m c ⟨4 * (t.val / 4) + s.val, Pipeline.run_point_lt_of_flush t h s⟩ y := by
  refine Pipeline.eq_sum_fin_of_reset_step_apply_of_flush (fun n h => (outsAt0 (F := Ideal) m c n h).2) 4
    (fun _ => 0) (part m c) (fun t h y => ?_) (fun t h y => ?_) t h y
  · rw [outsAt0_A m c t h (by omega) (by omega)]
    frame_out
    idx_vars y
    pointwise [k0_pay2, k0_pay1, part, Products.tn]
  · by_cases h2 : t.val % 4 = 3
    · rw [outsAt0_C m c t h (by omega) h2]
      frame_out
      rw [(Memref.isWhole_whole cc0_scratch0).read_unread]
      idx_vars y
      pointwise [k0_pay3, k0_pay1, part, Products.tn]
    · rw [outsAt0_B m c t h (by omega) h2]
      frame_out
      rw [(Memref.isWhole_whole cc0_scratch0).read_unread]
      idx_vars y
      pointwise [k0_pay3, k0_pay1, part, Products.tn]

/-- The result at the end of the run. -/
theorem final (c : Dev nD) : (dats (F := Ideal) m 0 c).arrAt 2 cfg0.N
    = Products.tn (m := 1024) (n := 2304) (k := 4096) (m (c.tc.loc main_arg0)) (m (c.tc.loc main_arg2)) := by
  refine (dats m 0 c).arrAt_eq_of_covers 2 _ (by decide +kernel) fun t hf y => ?_
  blk_simp
  have h3 := (flush0_2 t).mp hf
  have e : (outsAt0 (F := Ideal) m c t.val t.isLt).1 y = (outsAt0 (F := Ideal) m c t.val t.isLt).2 y := by
    rw [outsAt0_C m c t (by omega) (by omega) h3]
    frame_out
  rw [after0_2, e, acc m c t h3, zero_add]
  unfold part Products.tn
  refine Fin.sum_mul_add_congr fun s k hl => ?_
  have e2 := i2 ⟨4 * (t.val / 4) + s.val, Pipeline.run_point_lt_of_flush t h3 s⟩ t (by dsimp only; omega)
  refine congrArg₂ (· * ·) ?_ ?_
  · blk_ext [iblk, V, i0, e2]
  · blk_ext [iblk, V, i1, e2]

/-- The call and its reference leave the same result. -/
theorem algebraic : algebraic_ProjDwIdeal_ProjDwReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).1, (ha c).2.2]
        funext j
        idx_vars j
        pointwise [Products.tn]
        exact Fin.sum_fin_congr fun x => mul_comm _ _), (h c).2⟩)
      (Cert.ProjDwReferenceIdeal.Value.run m' g')⟩

/-- The reference changes none of its arguments. -/
theorem reference_frame : quiescent_ProjDwReferenceIdeal := fun m ρ _ =>
  (θ_run Cert.ProjDwReferenceIdeal.defs _ _).mono (fun r h => ⟨fun c => (h c).2, sem_eq_zero_of_no_sems (by decide) r.2⟩)
    (Cert.ProjDwReferenceIdeal.Value.run m ρ)

end Cert.ProjDwIdeal.Products

end
-- ==== Proof.Products.ProjDh.lean ====
/- ProjDh: the gradient `dproj · w_inᵀ` of the projection's input. A point of the grid computes one block of the result, over the whole contracted axis. -/
module

public import proofs.«01_k».proof.Defs
public import proofs.«01_k».proof.Proof.Gen.ProjDhIdeal.Value
public import proofs.«01_k».proof.Proof.Gen.ProjDhReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.ProjDhIdeal.Products

open Idealize.ShloMosaic
open Cert.ProjDhIdeal
open Cert.ProjDhIdeal.Gen

variable (m : (ℓ : Loc nD τ sig) → Buf (Elt Ideal) ℓ)

/-- A point reads the block of the first operand in its result's rows, -/
theorem i0 : ∀ t : Fin cfg0.N, win0_0.index t = ![win0_2.index t 0, 0] := (by decide +kernel : ∀ t : Fin grid0.N, _)

/-- and the block of the second in its result's columns. -/
theorem i1 : ∀ t : Fin cfg0.N, win0_1.index t = ![win0_2.index t 1, 0] := (by decide +kernel : ∀ t : Fin grid0.N, _)

/-- The result at the end of the run. -/
theorem final (c : Dev nD) : (dats (F := Ideal) m 0 c).arrAt 2 cfg0.N
    = Products.nt (m := 4096) (n := 1024) (k := 2304) (m (c.tc.loc main_arg2)) (m (c.tc.loc main_arg1)) := by
  refine (dats m 0 c).arrAt_eq_of_covers 2 _ (by decide +kernel) fun t hf y => ?_
  blk_simp
  rw [after0_2]
  frame_out
  idx_vars y
  pointwise [k0_pay1]
  refine Fin.sum_fin_congr fun x => congrArg₂ (· * ·) ?_ ?_
  · blk_ext [iblk, V, i0 t]
  · blk_ext [iblk, V, i1 t]

/-- The call and its reference leave the same result. -/
theorem algebraic : algebraic_ProjDhIdeal_ProjDhReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).2.1, (ha c).2.2]
        funext j
        idx_vars j
        pointwise [Products.nt]), (h c).2⟩)
      (Cert.ProjDhReferenceIdeal.Value.run m' g')⟩

/-- The reference changes none of its arguments. -/
theorem reference_frame : quiescent_ProjDhReferenceIdeal := fun m ρ _ =>
  (θ_run Cert.ProjDhReferenceIdeal.defs _ _).mono (fun r h => ⟨fun c => (h c).2, sem_eq_zero_of_no_sems (by decide) r.2⟩)
    (Cert.ProjDhReferenceIdeal.Value.run m ρ)

end Cert.ProjDhIdeal.Products

end
-- ==== Proof.Products.ProjDx.lean ====
/- ProjDx: the gradient `dproj · w_inᵀ + α · dz` of a layer's input, through the projection and the residual. A point of the grid computes one block of the result, over the whole contracted axis. -/
module

public import proofs.«01_k».proof.Defs
public import proofs.«01_k».proof.Proof.Gen.ProjDxIdeal.Value
public import proofs.«01_k».proof.Proof.Gen.ProjDxReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.ProjDxIdeal.Products

open Idealize.ShloMosaic
open Cert.ProjDxIdeal
open Cert.ProjDxIdeal.Gen

variable (m : (ℓ : Loc nD τ sig) → Buf (Elt Ideal) ℓ)

theorem i0 : ∀ t : Fin cfg0.N, win0_0.index t = ![win0_3.index t 0, 0] := (by decide +kernel : ∀ t : Fin grid0.N, _)

theorem i1 : ∀ t : Fin cfg0.N, win0_1.index t = ![win0_3.index t 1, 0] := (by decide +kernel : ∀ t : Fin grid0.N, _)

theorem i2 : ∀ t : Fin cfg0.N, win0_2.index t = win0_3.index t := (by decide +kernel : ∀ t : Fin grid0.N, _)

/-- `a · bᵀ + α · z`, with `α` the constant of the call. -/
def sum (a : Products.Ix 4096 2304 → EReal) (b : Products.Ix 1024 2304 → EReal) (z : Products.Ix 4096 1024 → EReal)
    (i : Products.Ix 4096 1024) : EReal := Products.nt a b i + (Scalar.ofBits .f32 0x3FB504F3#32 : Ideal .f32) * z i

/-- The result at the end of the run. -/
theorem final (c : Dev nD) : (dats (F := Ideal) m 0 c).arrAt 3 cfg0.N
    = sum (m (c.tc.loc main_arg2)) (m (c.tc.loc main_arg1)) (m (c.tc.loc main_arg3)) := by
  refine (dats m 0 c).arrAt_eq_of_covers 3 _ (by decide +kernel) fun t hf y => ?_
  blk_simp
  rw [after0_3]
  frame_out
  idx_vars y
  pointwise [k0_pay1]
  refine congrArg₂ (· + ·) (Fin.sum_fin_congr fun x => congrArg₂ (· * ·) ?_ ?_) (congrArg₂ (· * ·) rfl ?_)
  · blk_ext [iblk, V, i0 t]
  · blk_ext [iblk, V, i1 t]
  · blk_ext [iblk, V, i2 t]

/-- The call and its reference leave the same result. -/
theorem algebraic : algebraic_ProjDxIdeal_ProjDxReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).2.1, (ha c).2.2.1, (ha c).2.2.2]
        funext j
        idx_vars j
        pointwise [sum, Products.nt]
        exact add_comm _ _), (h c).2⟩)
      (Cert.ProjDxReferenceIdeal.Value.run m' g')⟩

/-- The reference changes none of its arguments. -/
theorem reference_frame : quiescent_ProjDxReferenceIdeal := fun m ρ _ =>
  (θ_run Cert.ProjDxReferenceIdeal.defs _ _).mono (fun r h => ⟨fun c => (h c).2, sem_eq_zero_of_no_sems (by decide) r.2⟩)
    (Cert.ProjDxReferenceIdeal.Value.run m ρ)

end Cert.ProjDxIdeal.Products

end
-- ==== Proof.Products.OutDx.lean ====
/- OutDx: the gradient `dz · w_outᵀ` of the mixer's output product. A point of the grid computes one block of the result, over the whole contracted axis. -/
module

public import proofs.«01_k».proof.Defs
public import proofs.«01_k».proof.Proof.Gen.OutDxIdeal.Value
public import proofs.«01_k».proof.Proof.Gen.OutDxReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.OutDxIdeal.Products

open Idealize.ShloMosaic
open Cert.OutDxIdeal
open Cert.OutDxIdeal.Gen

variable (m : (ℓ : Loc nD τ sig) → Buf (Elt Ideal) ℓ)

/-- A point reads the block of the first operand in its result's rows, -/
theorem i0 : ∀ t : Fin cfg0.N, win0_0.index t = ![win0_2.index t 0, 0] := (by decide +kernel : ∀ t : Fin grid0.N, _)

/-- and the block of the second in its result's columns. -/
theorem i1 : ∀ t : Fin cfg0.N, win0_1.index t = ![win0_2.index t 1, 0] := (by decide +kernel : ∀ t : Fin grid0.N, _)

/-- The result at the end of the run. -/
theorem final (c : Dev nD) : (dats (F := Ideal) m 0 c).arrAt 2 cfg0.N
    = Products.nt (m := 4096) (n := 1024) (k := 1024) (m (c.tc.loc main_arg2)) (m (c.tc.loc main_arg1)) := by
  refine (dats m 0 c).arrAt_eq_of_covers 2 _ (by decide +kernel) fun t hf y => ?_
  blk_simp
  rw [after0_2]
  frame_out
  idx_vars y
  pointwise [k0_pay1]
  refine Fin.sum_fin_congr fun x => congrArg₂ (· * ·) ?_ ?_
  · blk_ext [iblk, V, i0 t]
  · blk_ext [iblk, V, i1 t]

/-- The call and its reference leave the same result. -/
theorem algebraic : algebraic_OutDxIdeal_OutDxReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).2.1, (ha c).2.2]
        funext j
        idx_vars j
        pointwise [Products.nt]), (h c).2⟩)
      (Cert.OutDxReferenceIdeal.Value.run m' g')⟩

/-- The reference changes none of its arguments. -/
theorem reference_frame : quiescent_OutDxReferenceIdeal := fun m ρ _ =>
  (θ_run Cert.OutDxReferenceIdeal.defs _ _).mono (fun r h => ⟨fun c => (h c).2, sem_eq_zero_of_no_sems (by decide) r.2⟩)
    (Cert.OutDxReferenceIdeal.Value.run m ρ)

end Cert.OutDxIdeal.Products

end
-- ==== Proof.Products.OutDw.lean ====
/- OutDw: the gradient `mixedᵀ · dz` of the output product's weight. A block of the result is accumulated over 4 points, each of which contracts one block of the axis. -/
module

public import proofs.«01_k».proof.Defs
public import proofs.«01_k».proof.Proof.Gen.OutDwIdeal.Value
public import proofs.«01_k».proof.Proof.Gen.OutDwReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.OutDwIdeal.Products

open Idealize.ShloMosaic
open Cert.OutDwIdeal
open Cert.OutDwIdeal.Gen

variable (m : (ℓ : Loc nD τ sig) → Buf (Elt Ideal) ℓ)

theorem i0 : ∀ t : Fin cfg0.N, win0_0.index t = ![t.val % 4, win0_2.index t 0] := (by decide +kernel : ∀ t : Fin grid0.N, _)

theorem i1 : ∀ t : Fin cfg0.N, win0_1.index t = ![t.val % 4, win0_2.index t 1] := (by decide +kernel : ∀ t : Fin grid0.N, _)

/-- The points of a run share their block of the result. -/
theorem i2 : ∀ t s : Fin cfg0.N, t.val / 4 = s.val / 4 → win0_2.index t = win0_2.index s :=
  (by decide +kernel : ∀ t s : Fin grid0.N, t.val / 4 = s.val / 4 → _)

/-- What a point adds to the accumulator. -/
def part (c : Dev nD) (t : Fin cfg0.N) : S1024x1024.Idx → EReal :=
  Products.tn (iblk (F := Ideal) m c 0 t) (iblk (F := Ideal) m c 1 t)

/-- The accumulator at the last point of a run is the sum of what the points of the run add. -/
theorem acc (c : Dev nD) (t : Fin cfg0.N) (h : t.val % 4 = 3) (y : S1024x1024.Idx) :
    (outsAt0 (F := Ideal) m c t.val t.isLt).2 y
      = 0 + ∑ s : Fin 4, part m c ⟨4 * (t.val / 4) + s.val, Pipeline.run_point_lt_of_flush t h s⟩ y := by
  refine Pipeline.eq_sum_fin_of_reset_step_apply_of_flush (fun n h => (outsAt0 (F := Ideal) m c n h).2) 4
    (fun _ => 0) (part m c) (fun t h y => ?_) (fun t h y => ?_) t h y
  · have hN : t.val < 4 := t.isLt
    rw [outsAt0_A m c t h (by omega) (by omega)]
    frame_out
    idx_vars y
    pointwise [k0_pay2, k0_pay1, part, Products.tn]
  · by_cases h2 : t.val % 4 = 3
    · rw [outsAt0_C m c t h (by omega) h2]
      frame_out
      rw [(Memref.isWhole_whole cc0_scratch0).read_unread]
      idx_vars y
      pointwise [k0_pay3, k0_pay1, part, Products.tn]
    · rw [outsAt0_B m c t h (by omega) h2]
      frame_out
      rw [(Memref.isWhole_whole cc0_scratch0).read_unread]
      idx_vars y
      pointwise [k0_pay3, k0_pay1, part, Products.tn]

/-- The result at the end of the run. -/
theorem final (c : Dev nD) : (dats (F := Ideal) m 0 c).arrAt 2 cfg0.N
    = Products.tn (m := 1024) (n := 1024) (k := 4096) (m (c.tc.loc main_arg0)) (m (c.tc.loc main_arg2)) := by
  refine (dats m 0 c).arrAt_eq_of_covers 2 _ (by decide +kernel) fun t hf y => ?_
  blk_simp
  have h3 := (flush0_2 t).mp hf
  have e : (outsAt0 (F := Ideal) m c t.val t.isLt).1 y = (outsAt0 (F := Ideal) m c t.val t.isLt).2 y := by
    rw [outsAt0_C m c t (by omega) (by omega) h3]
    frame_out
  rw [after0_2, e, acc m c t h3, zero_add]
  unfold part Products.tn
  refine Fin.sum_mul_add_congr fun s k hl => ?_
  have e2 := i2 ⟨4 * (t.val / 4) + s.val, Pipeline.run_point_lt_of_flush t h3 s⟩ t (by dsimp only; omega)
  refine congrArg₂ (· * ·) ?_ ?_
  · blk_ext [iblk, V, i0, e2]
  · blk_ext [iblk, V, i1, e2]

/-- The call and its reference leave the same result. -/
theorem algebraic : algebraic_OutDwIdeal_OutDwReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).1, (ha c).2.2]
        funext j
        idx_vars j
        pointwise [Products.tn]
        exact Fin.sum_fin_congr fun x => mul_comm _ _), (h c).2⟩)
      (Cert.OutDwReferenceIdeal.Value.run m' g')⟩

/-- The reference changes none of its arguments. -/
theorem reference_frame : quiescent_OutDwReferenceIdeal := fun m ρ _ =>
  (θ_run Cert.OutDwReferenceIdeal.defs _ _).mono (fun r h => ⟨fun c => (h c).2, sem_eq_zero_of_no_sems (by decide) r.2⟩)
    (Cert.OutDwReferenceIdeal.Value.run m ρ)

end Cert.OutDwIdeal.Products

end
-- ==== Proof.Products.Up.lean ====
/- Up: the feed-forward layer's first product `h · w_up`. A point of the grid computes one block of the result, over the whole contracted axis. -/
module

public import proofs.«01_k».proof.Defs
public import proofs.«01_k».proof.Proof.Gen.UpIdeal.Value
public import proofs.«01_k».proof.Proof.Gen.UpReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.UpIdeal.Products

open Idealize.ShloMosaic
open Cert.UpIdeal
open Cert.UpIdeal.Gen

variable (m : (ℓ : Loc nD τ sig) → Buf (Elt Ideal) ℓ)

/-- A point reads the block of the first operand in its result's rows, -/
theorem i0 : ∀ t : Fin cfg0.N, win0_0.index t = ![win0_2.index t 0, 0] := (by decide +kernel : ∀ t : Fin grid0.N, _)

/-- and the block of the second in its result's columns. -/
theorem i1 : ∀ t : Fin cfg0.N, win0_1.index t = ![0, win0_2.index t 1] := (by decide +kernel : ∀ t : Fin grid0.N, _)

/-- The result at the end of the run. -/
theorem final (c : Dev nD) : (dats (F := Ideal) m 0 c).arrAt 2 cfg0.N
    = Products.nn (m := 4096) (n := 6144) (k := 1024) (m (c.tc.loc main_arg0)) (m (c.tc.loc main_arg1)) := by
  refine (dats m 0 c).arrAt_eq_of_covers 2 _ (by decide +kernel) fun t hf y => ?_
  blk_simp
  rw [after0_2]
  frame_out
  idx_vars y
  pointwise [k0_pay1]
  refine Fin.sum_fin_congr fun x => congrArg₂ (· * ·) ?_ ?_
  · blk_ext [iblk, V, i0 t]
  · blk_ext [iblk, V, i1 t]

/-- The call and its reference leave the same result. -/
theorem algebraic : algebraic_UpIdeal_UpReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).1, (ha c).2]
        funext j
        idx_vars j
        pointwise [Products.nn]), (h c).2⟩)
      (Cert.UpReferenceIdeal.Value.run m' g')⟩

/-- The reference changes none of its arguments. -/
theorem reference_frame : quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run m ρ)

end Cert.UpIdeal.Products

end
-- ==== Proof.Products.UpDx.lean ====
/- UpDx: the gradient `dup · w_upᵀ` of the first product's input. A block of the result is accumulated over 3 points, each of which contracts one block of the axis. -/
module

public import proofs.«01_k».proof.Defs
public import proofs.«01_k».proof.Proof.Gen.UpDxIdeal.Value
public import proofs.«01_k».proof.Proof.Gen.UpDxReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.UpDxIdeal.Products

open Idealize.ShloMosaic
open Cert.UpDxIdeal
open Cert.UpDxIdeal.Gen

variable (m : (ℓ : Loc nD τ sig) → Buf (Elt Ideal) ℓ)

theorem i0 : ∀ t : Fin cfg0.N, win0_0.index t = ![win0_2.index t 0, t.val % 3] := (by decide +kernel : ∀ t : Fin grid0.N, _)

theorem i1 : ∀ t : Fin cfg0.N, win0_1.index t = ![win0_2.index t 1, t.val % 3] := (by decide +kernel : ∀ t : Fin grid0.N, _)

/-- The points of a run share their block of the result. -/
theorem i2 : ∀ t s : Fin cfg0.N, t.val / 3 = s.val / 3 → win0_2.index t = win0_2.index s :=
  (by decide +kernel : ∀ t s : Fin grid0.N, t.val / 3 = s.val / 3 → _)

/-- What a point adds to the accumulator. -/
def part (c : Dev nD) (t : Fin cfg0.N) : S1024x1024.Idx → EReal :=
  Products.nt (iblk (F := Ideal) m c 0 t) (iblk (F := Ideal) m c 1 t)

/-- The accumulator at the last point of a run is the sum of what the points of the run add. -/
theorem acc (c : Dev nD) (t : Fin cfg0.N) (h : t.val % 3 = 2) (y : S1024x1024.Idx) :
    (outsAt0 (F := Ideal) m c t.val t.isLt).2 y
      = 0 + ∑ s : Fin 3, part m c ⟨3 * (t.val / 3) + s.val, Pipeline.run_point_lt_of_flush t h s⟩ y := by
  refine Pipeline.eq_sum_fin_of_reset_step_apply_of_flush (fun n h => (outsAt0 (F := Ideal) m c n h).2) 3
    (fun _ => 0) (part m c) (fun t h y => ?_) (fun t h y => ?_) t h y
  · rw [outsAt0_A m c t h (by omega) (by omega)]
    frame_out
    idx_vars y
    pointwise [k0_pay2, k0_pay1, part, Products.nt]
  · by_cases h2 : t.val % 3 = 2
    · rw [outsAt0_C m c t h (by omega) h2]
      frame_out
      rw [(Memref.isWhole_whole cc0_scratch0).read_unread]
      idx_vars y
      pointwise [k0_pay3, k0_pay1, part, Products.nt]
    · rw [outsAt0_B m c t h (by omega) h2]
      frame_out
      rw [(Memref.isWhole_whole cc0_scratch0).read_unread]
      idx_vars y
      pointwise [k0_pay3, k0_pay1, part, Products.nt]

/-- The result at the end of the run. -/
theorem final (c : Dev nD) : (dats (F := Ideal) m 0 c).arrAt 2 cfg0.N
    = Products.nt (m := 4096) (n := 1024) (k := 6144) (m (c.tc.loc main_arg2)) (m (c.tc.loc main_arg1)) := by
  refine (dats m 0 c).arrAt_eq_of_covers 2 _ (by decide +kernel) fun t hf y => ?_
  blk_simp
  have h3 := (flush0_2 t).mp hf
  have e : (outsAt0 (F := Ideal) m c t.val t.isLt).1 y = (outsAt0 (F := Ideal) m c t.val t.isLt).2 y := by
    rw [outsAt0_C m c t (by omega) (by omega) h3]
    frame_out
  rw [after0_2, e, acc m c t h3, zero_add]
  unfold part Products.nt
  refine Fin.sum_mul_add_congr fun s k hl => ?_
  have e2 := i2 ⟨3 * (t.val / 3) + s.val, Pipeline.run_point_lt_of_flush t h3 s⟩ t (by dsimp only; omega)
  refine congrArg₂ (· * ·) ?_ ?_
  · blk_ext [iblk, V, i0, e2]
  · blk_ext [iblk, V, i1, e2]

/-- The call and its reference leave the same result. -/
theorem algebraic : algebraic_UpDxIdeal_UpDxReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).2.1, (ha c).2.2]
        funext j
        idx_vars j
        pointwise [Products.nt]), (h c).2⟩)
      (Cert.UpDxReferenceIdeal.Value.run m' g')⟩

/-- The reference changes none of its arguments. -/
theorem reference_frame : quiescent_UpDxReferenceIdeal := fun m ρ _ =>
  (θ_run Cert.UpDxReferenceIdeal.defs _ _).mono (fun r h => ⟨fun c => (h c).2, sem_eq_zero_of_no_sems (by decide) r.2⟩)
    (Cert.UpDxReferenceIdeal.Value.run m ρ)

end Cert.UpDxIdeal.Products

end
-- ==== Proof.Products.UpDw.lean ====
/- UpDw: the gradient `hᵀ · dup` of the first product's weight. A block of the result is accumulated over 4 points, each of which contracts one block of the axis. -/
module

public import proofs.«01_k».proof.Defs
public import proofs.«01_k».proof.Proof.Gen.UpDwIdeal.Value
public import proofs.«01_k».proof.Proof.Gen.UpDwReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.UpDwIdeal.Products

open Idealize.ShloMosaic
open Cert.UpDwIdeal
open Cert.UpDwIdeal.Gen

variable (m : (ℓ : Loc nD τ sig) → Buf (Elt Ideal) ℓ)

theorem i0 : ∀ t : Fin cfg0.N, win0_0.index t = ![t.val % 4, win0_2.index t 0] := (by decide +kernel : ∀ t : Fin grid0.N, _)

theorem i1 : ∀ t : Fin cfg0.N, win0_1.index t = ![t.val % 4, win0_2.index t 1] := (by decide +kernel : ∀ t : Fin grid0.N, _)

/-- The points of a run share their block of the result. -/
theorem i2 : ∀ t s : Fin cfg0.N, t.val / 4 = s.val / 4 → win0_2.index t = win0_2.index s :=
  (by decide +kernel : ∀ t s : Fin grid0.N, t.val / 4 = s.val / 4 → _)

/-- What a point adds to the accumulator. -/
def part (c : Dev nD) (t : Fin cfg0.N) : S1024x1536.Idx → EReal :=
  Products.tn (iblk (F := Ideal) m c 0 t) (iblk (F := Ideal) m c 1 t)

/-- The accumulator at the last point of a run is the sum of what the points of the run add. -/
theorem acc (c : Dev nD) (t : Fin cfg0.N) (h : t.val % 4 = 3) (y : S1024x1536.Idx) :
    (outsAt0 (F := Ideal) m c t.val t.isLt).2 y
      = 0 + ∑ s : Fin 4, part m c ⟨4 * (t.val / 4) + s.val, Pipeline.run_point_lt_of_flush t h s⟩ y := by
  refine Pipeline.eq_sum_fin_of_reset_step_apply_of_flush (fun n h => (outsAt0 (F := Ideal) m c n h).2) 4
    (fun _ => 0) (part m c) (fun t h y => ?_) (fun t h y => ?_) t h y
  · rw [outsAt0_A m c t h (by omega) (by omega)]
    frame_out
    idx_vars y
    pointwise [k0_pay2, k0_pay1, part, Products.tn]
  · by_cases h2 : t.val % 4 = 3
    · rw [outsAt0_C m c t h (by omega) h2]
      frame_out
      rw [(Memref.isWhole_whole cc0_scratch0).read_unread]
      idx_vars y
      pointwise [k0_pay3, k0_pay1, part, Products.tn]
    · rw [outsAt0_B m c t h (by omega) h2]
      frame_out
      rw [(Memref.isWhole_whole cc0_scratch0).read_unread]
      idx_vars y
      pointwise [k0_pay3, k0_pay1, part, Products.tn]

/-- The result at the end of the run. -/
theorem final (c : Dev nD) : (dats (F := Ideal) m 0 c).arrAt 2 cfg0.N
    = Products.tn (m := 1024) (n := 6144) (k := 4096) (m (c.tc.loc main_arg0)) (m (c.tc.loc main_arg2)) := by
  refine (dats m 0 c).arrAt_eq_of_covers 2 _ (by decide +kernel) fun t hf y => ?_
  blk_simp
  have h3 := (flush0_2 t).mp hf
  have e : (outsAt0 (F := Ideal) m c t.val t.isLt).1 y = (outsAt0 (F := Ideal) m c t.val t.isLt).2 y := by
    rw [outsAt0_C m c t (by omega) (by omega) h3]
    frame_out
  rw [after0_2, e, acc m c t h3, zero_add]
  unfold part Products.tn
  refine Fin.sum_mul_add_congr fun s k hl => ?_
  have e2 := i2 ⟨4 * (t.val / 4) + s.val, Pipeline.run_point_lt_of_flush t h3 s⟩ t (by dsimp only; omega)
  refine congrArg₂ (· * ·) ?_ ?_
  · blk_ext [iblk, V, i0, e2]
  · blk_ext [iblk, V, i1, e2]

/-- The call and its reference leave the same result. -/
theorem algebraic : algebraic_UpDwIdeal_UpDwReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).1, (ha c).2.2]
        funext j
        idx_vars j
        pointwise [Products.tn]
        exact Fin.sum_fin_congr fun x => mul_comm _ _), (h c).2⟩)
      (Cert.UpDwReferenceIdeal.Value.run m' g')⟩

/-- The reference changes none of its arguments. -/
theorem reference_frame : quiescent_UpDwReferenceIdeal := fun m ρ _ =>
  (θ_run Cert.UpDwReferenceIdeal.defs _ _).mono (fun r h => ⟨fun c => (h c).2, sem_eq_zero_of_no_sems (by decide) r.2⟩)
    (Cert.UpDwReferenceIdeal.Value.run m ρ)

end Cert.UpDwIdeal.Products

end
-- ==== Proof.Products.DownDx.lean ====
/- DownDx: the gradient `dz · w_downᵀ` of the second product's input. A point of the grid computes one block of the result, over the whole contracted axis. -/
module

public import proofs.«01_k».proof.Defs
public import proofs.«01_k».proof.Proof.Gen.DownDxIdeal.Value
public import proofs.«01_k».proof.Proof.Gen.DownDxReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.DownDxIdeal.Products

open Idealize.ShloMosaic
open Cert.DownDxIdeal
open Cert.DownDxIdeal.Gen

variable (m : (ℓ : Loc nD τ sig) → Buf (Elt Ideal) ℓ)

/-- A point reads the block of the first operand in its result's rows, -/
theorem i0 : ∀ t : Fin cfg0.N, win0_0.index t = ![win0_2.index t 0, 0] := (by decide +kernel : ∀ t : Fin grid0.N, _)

/-- and the block of the second in its result's columns. -/
theorem i1 : ∀ t : Fin cfg0.N, win0_1.index t = ![win0_2.index t 1, 0] := (by decide +kernel : ∀ t : Fin grid0.N, _)

/-- The result at the end of the run. -/
theorem final (c : Dev nD) : (dats (F := Ideal) m 0 c).arrAt 2 cfg0.N
    = Products.nt (m := 4096) (n := 3072) (k := 1024) (m (c.tc.loc main_arg2)) (m (c.tc.loc main_arg1)) := by
  refine (dats m 0 c).arrAt_eq_of_covers 2 _ (by decide +kernel) fun t hf y => ?_
  blk_simp
  rw [after0_2]
  frame_out
  idx_vars y
  pointwise [k0_pay1]
  refine Fin.sum_fin_congr fun x => congrArg₂ (· * ·) ?_ ?_
  · blk_ext [iblk, V, i0 t]
  · blk_ext [iblk, V, i1 t]

/-- The call and its reference leave the same result. -/
theorem algebraic : algebraic_DownDxIdeal_DownDxReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).2.1, (ha c).2.2]
        funext j
        idx_vars j
        pointwise [Products.nt]), (h c).2⟩)
      (Cert.DownDxReferenceIdeal.Value.run m' g')⟩

/-- The reference changes none of its arguments. -/
theorem reference_frame : quiescent_DownDxReferenceIdeal := fun m ρ _ =>
  (θ_run Cert.DownDxReferenceIdeal.defs _ _).mono (fun r h => ⟨fun c => (h c).2, sem_eq_zero_of_no_sems (by decide) r.2⟩)
    (Cert.DownDxReferenceIdeal.Value.run m ρ)

end Cert.DownDxIdeal.Products

end
-- ==== Proof.Products.DownDw.lean ====
/- DownDw: the gradient `actᵀ · dz` of the second product's weight. A block of the result is accumulated over 4 points, each of which contracts one block of the axis. -/
module

public import proofs.«01_k».proof.Defs
public import proofs.«01_k».proof.Proof.Gen.DownDwIdeal.Value
public import proofs.«01_k».proof.Proof.Gen.DownDwReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.DownDwIdeal.Products

open Idealize.ShloMosaic
open Cert.DownDwIdeal
open Cert.DownDwIdeal.Gen

variable (m : (ℓ : Loc nD τ sig) → Buf (Elt Ideal) ℓ)

theorem i0 : ∀ t : Fin cfg0.N, win0_0.index t = ![t.val % 4, win0_2.index t 0] := (by decide +kernel : ∀ t : Fin grid0.N, _)

theorem i1 : ∀ t : Fin cfg0.N, win0_1.index t = ![t.val % 4, win0_2.index t 1] := (by decide +kernel : ∀ t : Fin grid0.N, _)

/-- The points of a run share their block of the result. -/
theorem i2 : ∀ t s : Fin cfg0.N, t.val / 4 = s.val / 4 → win0_2.index t = win0_2.index s :=
  (by decide +kernel : ∀ t s : Fin grid0.N, t.val / 4 = s.val / 4 → _)

/-- What a point adds to the accumulator. -/
def part (c : Dev nD) (t : Fin cfg0.N) : S1024x1024.Idx → EReal :=
  Products.tn (iblk (F := Ideal) m c 0 t) (iblk (F := Ideal) m c 1 t)

/-- The accumulator at the last point of a run is the sum of what the points of the run add. -/
theorem acc (c : Dev nD) (t : Fin cfg0.N) (h : t.val % 4 = 3) (y : S1024x1024.Idx) :
    (outsAt0 (F := Ideal) m c t.val t.isLt).2 y
      = 0 + ∑ s : Fin 4, part m c ⟨4 * (t.val / 4) + s.val, Pipeline.run_point_lt_of_flush t h s⟩ y := by
  refine Pipeline.eq_sum_fin_of_reset_step_apply_of_flush (fun n h => (outsAt0 (F := Ideal) m c n h).2) 4
    (fun _ => 0) (part m c) (fun t h y => ?_) (fun t h y => ?_) t h y
  · rw [outsAt0_A m c t h (by omega) (by omega)]
    frame_out
    idx_vars y
    pointwise [k0_pay2, k0_pay1, part, Products.tn]
  · by_cases h2 : t.val % 4 = 3
    · rw [outsAt0_C m c t h (by omega) h2]
      frame_out
      rw [(Memref.isWhole_whole cc0_scratch0).read_unread]
      idx_vars y
      pointwise [k0_pay3, k0_pay1, part, Products.tn]
    · rw [outsAt0_B m c t h (by omega) h2]
      frame_out
      rw [(Memref.isWhole_whole cc0_scratch0).read_unread]
      idx_vars y
      pointwise [k0_pay3, k0_pay1, part, Products.tn]

/-- The result at the end of the run. -/
theorem final (c : Dev nD) : (dats (F := Ideal) m 0 c).arrAt 2 cfg0.N
    = Products.tn (m := 3072) (n := 1024) (k := 4096) (m (c.tc.loc main_arg0)) (m (c.tc.loc main_arg2)) := by
  refine (dats m 0 c).arrAt_eq_of_covers 2 _ (by decide +kernel) fun t hf y => ?_
  blk_simp
  have h3 := (flush0_2 t).mp hf
  have e : (outsAt0 (F := Ideal) m c t.val t.isLt).1 y = (outsAt0 (F := Ideal) m c t.val t.isLt).2 y := by
    rw [outsAt0_C m c t (by omega) (by omega) h3]
    frame_out
  rw [after0_2, e, acc m c t h3, zero_add]
  unfold part Products.tn
  refine Fin.sum_mul_add_congr fun s k hl => ?_
  have e2 := i2 ⟨4 * (t.val / 4) + s.val, Pipeline.run_point_lt_of_flush t h3 s⟩ t (by dsimp only; omega)
  refine congrArg₂ (· * ·) ?_ ?_
  · blk_ext [iblk, V, i0, e2]
  · blk_ext [iblk, V, i1, e2]

/-- The call and its reference leave the same result. -/
theorem algebraic : algebraic_DownDwIdeal_DownDwReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).1, (ha c).2.2]
        funext j
        idx_vars j
        pointwise [Products.tn]
        exact Fin.sum_fin_congr fun x => mul_comm _ _), (h c).2⟩)
      (Cert.DownDwReferenceIdeal.Value.run m' g')⟩

/-- The reference changes none of its arguments. -/
theorem reference_frame : quiescent_DownDwReferenceIdeal := fun m ρ _ =>
  (θ_run Cert.DownDwReferenceIdeal.defs _ _).mono (fun r h => ⟨fun c => (h c).2, sem_eq_zero_of_no_sems (by decide) r.2⟩)
    (Cert.DownDwReferenceIdeal.Value.run m ρ)

end Cert.DownDwIdeal.Products

end
-- ==== Proof.Products.OutNorm.lean ====
/- OutNorm: the mixer's output product, the residual and the layer normalisation. A point of the grid computes a block of rows. -/
module

public import proofs.«01_k».proof.Defs
public import proofs.«01_k».proof.Proof.Gen.OutNormIdeal.Value
public import proofs.«01_k».proof.Proof.Gen.OutNormReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.OutNormIdeal.Products

open Idealize.ShloMosaic Idealize.ShloMosaic.TcCoe
open Cert.OutNormIdeal
open Cert.OutNormIdeal.Gen

variable (m : (ℓ : Loc nD τ sig) → Buf (Elt Ideal) ℓ)

theorem i0 : ∀ t : Fin cfg0.N, win0_0.index t = win0_5.index t := (by decide +kernel : ∀ t : Fin grid0.N, _)

theorem i1 : ∀ t : Fin cfg0.N, win0_1.index t = ![0, win0_5.index t 1] := (by decide +kernel : ∀ t : Fin grid0.N, _)

theorem i2 : ∀ t : Fin cfg0.N, win0_2.index t = win0_5.index t := (by decide +kernel : ∀ t : Fin grid0.N, _)

theorem i3 : ∀ t : Fin cfg0.N, win0_3.index t = ![0, 0] := (by decide +kernel : ∀ t : Fin grid0.N, _)

theorem i4 : ∀ t : Fin cfg0.N, win0_4.index t = ![0, 0] := (by decide +kernel : ∀ t : Fin grid0.N, _)

theorem i5 : ∀ t : Fin cfg0.N, win0_5.index t 1 = 0 := (by decide +kernel : ∀ t : Fin grid0.N, _)

theorem i6 : ∀ t : Fin cfg0.N, win0_6.index t = win0_5.index t := (by decide +kernel : ∀ t : Fin grid0.N, _)

/-- The region finds the scale -/
theorem scale (c : Dev nD) (j : Fin 1024) :
    V (F := Ideal) m c main_v0 (ix2 0 j) = m ((c : Thread nD τ).loc main_arg3) (ix1 j) := by
  unfold V
  after_results
  pointwise

/-- and the shift as one row each. -/
theorem shift (c : Dev nD) (j : Fin 1024) :
    V (F := Ideal) m c main_v1 (ix2 0 j) = m ((c : Thread nD τ).loc main_arg4) (ix1 j) := by
  unfold V
  after_results
  pointwise

/-- A block's residual and product, at one place. -/
theorem pay1_eq (h : Vec Ideal S512x1024 .f32) (a : Vec Ideal S512x1024 .bf16) (w : Vec Ideal S1024x1024 .bf16) (i : Fin 512) (j : Fin 1024) :
    k0_pay1 h a w (ix2 i j) = Products.residual a w h (ix2 i j) := by
  pointwise [k0_pay1, Products.residual, Products.nn]

/-- A block's normalised rows, at one place. -/
theorem pay2_eq (h : Vec Ideal S512x1024 .f32) (a : Vec Ideal S512x1024 .bf16) (w : Vec Ideal S1024x1024 .bf16) (g b : Vec Ideal S1x1024 .f32)
    (i : Fin 512) (j : Fin 1024) :
    k0_pay2 h a w g b (ix2 i j)
      = Products.norm (fun x => Products.residual a w h (ix2 i x)) (g (ix2 0 j)) (b (ix2 0 j)) j := by
  pointwise [k0_pay2, k0_pay1, Products.norm, Products.mean, Products.residual, Products.nn]

/-- The residual and product at a point's block, from the blocks the point reads. -/
theorem block (c : Dev nD) (t : Fin cfg0.N) (i : Fin 512) (j : Fin 1024) (r : Products.Ix 4096 1024)
    (h0 : (r 0).val = win0_5.index t 0 * 512 + i.val) (h1 : r 1 = j) :
    Products.residual (m := 512) (n := 1024) (k := 1024) (iblk (F := Ideal) m c 0 t) (iblk (F := Ideal) m c 1 t) (iblk (F := Ideal) m c 2 t) (ix2 i j)
      = Products.residual (m := 4096) (n := 1024) (k := 1024) (m (c.tc.loc main_arg0)) (m (c.tc.loc main_arg1)) (m (c.tc.loc main_arg2)) r := by
  unfold Products.residual Products.nn
  refine congrArg₂ (· + ·) (congrArg₂ (· * ·) rfl ?_) (Fin.sum_fin_congr fun x => congrArg₂ (· * ·) ?_ ?_)
  · blk_ext [iblk, V_main_arg2 m c, i2 t, i5 t, h0, h1]
  · blk_ext [iblk, V_main_arg0 m c, i0 t, i5 t, h0, h1]
  · blk_ext [iblk, V_main_arg1 m c, i1 t, i5 t, h0, h1]

/-- The rows before the normalisation, at the end of the run. -/
theorem final6 (c : Dev nD) : (dats (F := Ideal) m 0 c).arrAt 6 cfg0.N
    = Products.residual (m := 4096) (n := 1024) (k := 1024) (m (c.tc.loc main_arg0)) (m (c.tc.loc main_arg1)) (m (c.tc.loc main_arg2)) := by
  refine (dats m 0 c).arrAt_eq_of_covers 6 _ (by decide +kernel) fun t hf y => ?_
  blk_simp
  rw [after0_6]
  frame_out
  idx_vars y
  refine (pay1_eq _ _ _ _ _).trans (block m c t _ _ _ ?_ ?_)
  · blk_simp [i6 t]
  · apply Fin.ext
    blk_simp [i6 t, i5 t]

/-- The normalised rows at the end of the run. -/
theorem final5 (c : Dev nD) : (dats (F := Ideal) m 0 c).arrAt 5 cfg0.N
    = fun i : Products.Ix 4096 1024 => Products.norm (fun x => Products.residual (m := 4096) (n := 1024) (k := 1024)
        (m (c.tc.loc main_arg0)) (m (c.tc.loc main_arg1)) (m (c.tc.loc main_arg2)) (ix2 (i 0) x))
        (m (c.tc.loc main_arg3) (ix1 (i 1))) (m (c.tc.loc main_arg4) (ix1 (i 1))) (i 1) := by
  refine (dats m 0 c).arrAt_eq_of_covers 5 _ (by decide +kernel) fun t hf y => ?_
  blk_simp
  rw [after0_5]
  frame_out
  idx_vars y
  refine (pay2_eq _ _ _ _ _ _ _).trans ?_
  have hj : (((cfg0.win 5).blk t).view.emb (ix2 y0 y1)) 1 = y1 := by
    apply Fin.ext
    blk_simp [i5 t]
  refine congr (congr (congr (congrArg Products.norm (funext fun x => block m c t y0 x _ ?_ rfl)) ?_) ?_) hj.symm
  · blk_simp
  · rw [hj, ← scale m c]
    blk_ext [iblk, i3 t]
  · rw [hj, ← shift m c]
    blk_ext [iblk, i4 t]

/-- The call and its reference leave the same results. -/
theorem algebraic : algebraic_OutNormIdeal_OutNormReferenceIdeal := fun m g m' g' _ ha =>
  ⟨_, _, (θ_run _ _ _).mono (fun r h c => ⟨(h c).1.trans (final5 m c), (h c).2.1.trans (final6 m c), (h c).2.2⟩) (Value.run_blocks m g),
    (θ_run _ _ _).mono (fun r h c => ⟨(h c).1.trans (by
        rw [(ha c).1, (ha c).2.1, (ha c).2.2.1, (ha c).2.2.2.1, (ha c).2.2.2.2]
        funext j
        idx_vars j
        pointwise [Products.norm, Products.mean, Products.residual, Products.nn]), (h c).2.1.trans (by
        rw [(ha c).1, (ha c).2.1, (ha c).2.2.1]
        funext j
        idx_vars j
        pointwise [Products.residual, Products.nn]), (h c).2.2⟩)
      (Cert.OutNormReferenceIdeal.Value.run m' g')⟩

/-- The reference changes none of its arguments. -/
theorem reference_frame : quiescent_OutNormReferenceIdeal := fun m ρ _ =>
  (θ_run Cert.OutNormReferenceIdeal.defs _ _).mono (fun r h => ⟨fun c => (h c).2.2, sem_eq_zero_of_no_sems (by decide) r.2⟩)
    (Cert.OutNormReferenceIdeal.Value.run m ρ)

end Cert.OutNormIdeal.Products

end
-- ==== Proof.Products.DownNorm.lean ====
/- DownNorm: the feed-forward layer's second product, the residual and the layer normalisation. A point of the grid computes a block of rows. -/
module

public import proofs.«01_k».proof.Defs
public import proofs.«01_k».proof.Proof.Gen.DownNormIdeal.Value
public import proofs.«01_k».proof.Proof.Gen.DownNormReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.DownNormIdeal.Products

open Idealize.ShloMosaic Idealize.ShloMosaic.TcCoe
open Cert.DownNormIdeal
open Cert.DownNormIdeal.Gen

variable (m : (ℓ : Loc nD τ sig) → Buf (Elt Ideal) ℓ)

theorem i0 : ∀ t : Fin cfg0.N, win0_0.index t = win0_5.index t := (by decide +kernel : ∀ t : Fin grid0.N, _)

theorem i1 : ∀ t : Fin cfg0.N, win0_1.index t = ![0, win0_5.index t 1] := (by decide +kernel : ∀ t : Fin grid0.N, _)

theorem i2 : ∀ t : Fin cfg0.N, win0_2.index t = win0_5.index t := (by decide +kernel : ∀ t : Fin grid0.N, _)

theorem i3 : ∀ t : Fin cfg0.N, win0_3.index t = ![0, 0] := (by decide +kernel : ∀ t : Fin grid0.N, _)

theorem i4 : ∀ t : Fin cfg0.N, win0_4.index t = ![0, 0] := (by decide +kernel : ∀ t : Fin grid0.N, _)

theorem i5 : ∀ t : Fin cfg0.N, win0_5.index t 1 = 0 := (by decide +kernel : ∀ t : Fin grid0.N, _)

theorem i6 : ∀ t : Fin cfg0.N, win0_6.index t = win0_5.index t := (by decide +kernel : ∀ t : Fin grid0.N, _)

/-- The region finds the scale -/
theorem scale (c : Dev nD) (j : Fin 1024) :
    V (F := Ideal) m c main_v0 (ix2 0 j) = m ((c : Thread nD τ).loc main_arg3) (ix1 j) := by
  unfold V
  after_results
  pointwise

/-- and the shift as one row each. -/
theorem shift (c : Dev nD) (j : Fin 1024) :
    V (F := Ideal) m c main_v1 (ix2 0 j) = m ((c : Thread nD τ).loc main_arg4) (ix1 j) := by
  unfold V
  after_results
  pointwise

/-- A block's residual and product, at one place. -/
theorem pay1_eq (h : Vec Ideal S512x1024 .f32) (a : Vec Ideal S512x3072 .bf16) (w : Vec Ideal S3072x1024 .bf16) (i : Fin 512) (j : Fin 1024) :
    k0_pay1 h a w (ix2 i j) = Products.residual a w h (ix2 i j) := by
  pointwise [k0_pay1, Products.residual, Products.nn]

/-- A block's normalised rows, at one place. -/
theorem pay2_eq (h : Vec Ideal S512x1024 .f32) (a : Vec Ideal S512x3072 .bf16) (w : Vec Ideal S3072x1024 .bf16) (g b : Vec Ideal S1x1024 .f32)
    (i : Fin 512) (j : Fin 1024) :
    k0_pay2 h a w g b (ix2 i j)
      = Products.norm (fun x => Products.residual a w h (ix2 i x)) (g (ix2 0 j)) (b (ix2 0 j)) j := by
  pointwise [k0_pay2, k0_pay1, Products.norm, Products.mean, Products.residual, Products.nn]

/-- The residual and product at a point's block, from the blocks the point reads. -/
theorem block (c : Dev nD) (t : Fin cfg0.N) (i : Fin 512) (j : Fin 1024) (r : Products.Ix 4096 1024)
    (h0 : (r 0).val = win0_5.index t 0 * 512 + i.val) (h1 : r 1 = j) :
    Products.residual (m := 512) (n := 1024) (k := 3072) (iblk (F := Ideal) m c 0 t) (iblk (F := Ideal) m c 1 t) (iblk (F := Ideal) m c 2 t) (ix2 i j)
      = Products.residual (m := 4096) (n := 1024) (k := 3072) (m (c.tc.loc main_arg0)) (m (c.tc.loc main_arg1)) (m (c.tc.loc main_arg2)) r := by
  unfold Products.residual Products.nn
  refine congrArg₂ (· + ·) (congrArg₂ (· * ·) rfl ?_) (Fin.sum_fin_congr fun x => congrArg₂ (· * ·) ?_ ?_)
  · blk_ext [iblk, V_main_arg2 m c, i2 t, i5 t, h0, h1]
  · blk_ext [iblk, V_main_arg0 m c, i0 t, i5 t, h0, h1]
  · blk_ext [iblk, V_main_arg1 m c, i1 t, i5 t, h0, h1]

/-- The rows before the normalisation, at the end of the run. -/
theorem final6 (c : Dev nD) : (dats (F := Ideal) m 0 c).arrAt 6 cfg0.N
    = Products.residual (m := 4096) (n := 1024) (k := 3072) (m (c.tc.loc main_arg0)) (m (c.tc.loc main_arg1)) (m (c.tc.loc main_arg2)) := by
  refine (dats m 0 c).arrAt_eq_of_covers 6 _ (by decide +kernel) fun t hf y => ?_
  blk_simp
  rw [after0_6]
  frame_out
  idx_vars y
  refine (pay1_eq _ _ _ _ _).trans (block m c t _ _ _ ?_ ?_)
  · blk_simp [i6 t]
  · apply Fin.ext
    blk_simp [i6 t, i5 t]

/-- The normalised rows at the end of the run. -/
theorem final5 (c : Dev nD) : (dats (F := Ideal) m 0 c).arrAt 5 cfg0.N
    = fun i : Products.Ix 4096 1024 => Products.norm (fun x => Products.residual (m := 4096) (n := 1024) (k := 3072)
        (m (c.tc.loc main_arg0)) (m (c.tc.loc main_arg1)) (m (c.tc.loc main_arg2)) (ix2 (i 0) x))
        (m (c.tc.loc main_arg3) (ix1 (i 1))) (m (c.tc.loc main_arg4) (ix1 (i 1))) (i 1) := by
  refine (dats m 0 c).arrAt_eq_of_covers 5 _ (by decide +kernel) fun t hf y => ?_
  blk_simp
  rw [after0_5]
  frame_out
  idx_vars y
  refine (pay2_eq _ _ _ _ _ _ _).trans ?_
  have hj : (((cfg0.win 5).blk t).view.emb (ix2 y0 y1)) 1 = y1 := by
    apply Fin.ext
    blk_simp [i5 t]
  refine congr (congr (congr (congrArg Products.norm (funext fun x => block m c t y0 x _ ?_ rfl)) ?_) ?_) hj.symm
  · blk_simp
  · rw [hj, ← scale m c]
    blk_ext [iblk, i3 t]
  · rw [hj, ← shift m c]
    blk_ext [iblk, i4 t]

/-- The call and its reference leave the same results. -/
theorem algebraic : algebraic_DownNormIdeal_DownNormReferenceIdeal := fun m g m' g' _ ha =>
  ⟨_, _, (θ_run _ _ _).mono (fun r h c => ⟨(h c).1.trans (final5 m c), (h c).2.1.trans (final6 m c), (h c).2.2⟩) (Value.run_blocks m g),
    (θ_run _ _ _).mono (fun r h c => ⟨(h c).1.trans (by
        rw [(ha c).1, (ha c).2.1, (ha c).2.2.1, (ha c).2.2.2.1, (ha c).2.2.2.2]
        funext j
        idx_vars j
        pointwise [Products.norm, Products.mean, Products.residual, Products.nn]), (h c).2.1.trans (by
        rw [(ha c).1, (ha c).2.1, (ha c).2.2.1]
        funext j
        idx_vars j
        pointwise [Products.residual, Products.nn]), (h c).2.2⟩)
      (Cert.DownNormReferenceIdeal.Value.run m' g')⟩

/-- The reference changes none of its arguments. -/
theorem reference_frame : quiescent_DownNormReferenceIdeal := fun m ρ _ =>
  (θ_run Cert.DownNormReferenceIdeal.defs _ _).mono (fun r h => ⟨fun c => (h c).2.2, sem_eq_zero_of_no_sems (by decide) r.2⟩)
    (Cert.DownNormReferenceIdeal.Value.run m ρ)

end Cert.DownNormIdeal.Products

end
-- ==== Proof.Calls.Rows.lean ====
/- Rows moved down or up by a few places, as the kernels move them tile by tile, and a choice by a comparison of counters. -/
module

public import Idealize.ShloMosaic.PureOps.Ideal
public import Idealize.ShloMosaic.Lib.Pointwise
public import proofs.«01_k».proof.Proof.Products.Sums

@[expose] public section

noncomputable section

namespace Cert.Calls

open Idealize.ShloMosaic
open Cert.Products (Ix)

theorem toInt_ofNat (a : ℕ) (ha : a < 2147483648) : (BitVec.ofNat 32 a).toInt = a := by
  have e : (BitVec.ofNat 32 a).toNat = a := by rw [BitVec.toNat_ofNat, Nat.mod_eq_of_lt (by omega)]
  rw [BitVec.toInt_eq_toNat_of_lt (by omega), e]

theorem select_lt {α : Type} (a b : ℕ) (ha : a < 2147483648) (hb : b < 2147483648) (x y : α) :
    Scalar.select (IntOp.cmpi .slt (BitVec.ofNat 32 a) (BitVec.ofNat 32 b)) x y = if a < b then x else y := by
  have e : (BitVec.ofNat 32 a).slt (BitVec.ofNat 32 b) = decide (a < b) := by
    rw [BitVec.slt_eq_decide, toInt_ofNat a ha, toInt_ofNat b hb]
    exact decide_eq_decide.mpr Int.ofNat_lt
  by_cases h : a < b <;> simp [Scalar.select, IntOp.cmpi, e, h]

theorem select_eq {α : Type} (a b : ℕ) (ha : a < 4294967296) (hb : b < 4294967296) (x y : α) :
    Scalar.select (Scalar.cmpi .eq (BitVec.ofNat 32 a) (BitVec.ofNat 32 b)) x y = if a = b then x else y := by
  have e : BitVec.ofNat 32 a = BitVec.ofNat 32 b ↔ a = b := by
    rw [← BitVec.toNat_inj, BitVec.toNat_ofNat, BitVec.toNat_ofNat, Nat.mod_eq_of_lt (by omega), Nat.mod_eq_of_lt (by omega)]
  by_cases h : a = b
  · subst h
    simp [Scalar.select, Scalar.cmpi, IntOp.cmpi]
  · have h2 : (BitVec.ofNat 32 a == BitVec.ofNat 32 b) = false := by
      rw [beq_eq_false_iff_ne]
      exact fun h3 => h (e.mp h3)
    simp [Scalar.select, Scalar.cmpi, IntOp.cmpi, h, h2]

/-- A positive real number times a sum. -/
theorem mul_sum {ι : Type} (s : Finset ι) (c : ℝ) (hc : 0 ≤ c) (f : ι → EReal) : ((c : ℝ) : EReal) * ∑ i ∈ s, f i = ∑ i ∈ s, ((c : ℝ) : EReal) * f i :=
  map_sum (⟨⟨fun x => ((c : ℝ) : EReal) * x, mul_zero _⟩,
    fun x y => EReal.left_distrib_of_nonneg_of_ne_top (by exact_mod_cast hc) (EReal.coe_ne_top c) x y⟩ : EReal →+ EReal) f s

/-- `x` moved down by `k` rows, with zeros before the first. -/
def delay {m n : ℕ} (x : Ix m n → EReal) (k : ℕ) (i : Ix m n) : EReal :=
  if h : (i 0).val < k then 0 else x (ix2 (⟨(i 0).val - k, lt_of_le_of_lt (Nat.sub_le _ _) (i 0).isLt⟩ : Fin m) (i 1))

theorem delay_ix {m n : ℕ} (x : Ix m n → EReal) (k : ℕ) (r : Fin m) (j : Fin n) :
    delay x k (ix2 r j) = if h : r.val < k then 0 else x (ix2 (⟨r.val - k, by omega⟩ : Fin m) j) := rfl

/-- `x` moved up by `k` rows, with zeros after the last. -/
def ahead {m n : ℕ} (x : Ix m n → EReal) (k : ℕ) (i : Ix m n) : EReal :=
  if h : (i 0).val + k < m then x (ix2 (⟨(i 0).val + k, h⟩ : Fin m) (i 1)) else 0

theorem ahead_ix {m n : ℕ} (x : Ix m n → EReal) (k : ℕ) (r : Fin m) (j : Fin n) :
    ahead x k (ix2 r j) = if h : r.val + k < m then x (ix2 (⟨r.val + k, h⟩ : Fin m) j) else 0 := rfl

/-- The rows of a block of 512 moved down by `k`: its first `k` rows are the last of the tile `p`. -/
def below {n : ℕ} (k : ℕ) (hk : k < 8) (x : Ix 512 n → EReal) (p : Ix 8 n → EReal) (r : Fin 512) (j : Fin n) : EReal :=
  if h : r.val < k then p (ix2 (⟨8 - k + r.val, by omega⟩ : Fin 8) j) else x (ix2 (⟨r.val - k, by omega⟩ : Fin 512) j)

theorem below_eq {n : ℕ} (k : ℕ) (hk : k < 8) (h0 : 0 < k) (x : Ix 512 n → EReal) (p : Ix 8 n → EReal) (a : ℕ) (ha : a < 4294967296) (r : Fin 512) (j : Fin n) :
    Scalar.select (IntOp.cmpi .slt (BitVec.ofNat 32 (r.val % 8)) (BitVec.ofNat 32 k))
      (if h : r.val / 8 < 1 then Scalar.select (Scalar.cmpi .eq (BitVec.ofNat 32 a) 0#32) 0 (p (ix2 (⟨(r.val % 8 + 8 - k) % 8, by omega⟩ : Fin 8) j))
        else x (ix2 (⟨(r.val / 8 - 1) * 8 + (r.val % 8 + 8 - k) % 8, by omega⟩ : Fin 512) j))
      (x (ix2 (⟨r.val / 8 * 8 + (r.val % 8 + 8 - k) % 8, by omega⟩ : Fin 512) j))
      = below k hk x (fun y => if a = 0 then 0 else p y) r j := by
  rw [select_lt _ _ (by omega) (by omega)]
  unfold below
  by_cases h1 : r.val % 8 < k
  · rw [if_pos h1]
    by_cases h2 : r.val / 8 < 1
    · rw [dif_pos h2, dif_pos (by omega), select_eq _ 0 ha (by omega)]
      congr 3
      apply Fin.ext
      dsimp only
      omega
    · rw [dif_neg h2, dif_neg (by omega)]
      congr 2
      apply Fin.ext
      dsimp only
      omega
  · rw [if_neg h1, dif_neg (by omega)]
    congr 2
    apply Fin.ext
    dsimp only
    omega

/-- A column of a block of 512 rows moved up by `k`: its last `k` rows are the first of the tile `p`. -/
def above (k : ℕ) (hk : k < 8) (x : Fin 512 → EReal) (p : Fin 16 → EReal) (r : Fin 512) : EReal :=
  if h : r.val + k < 512 then x ⟨r.val + k, h⟩ else p ⟨r.val + k - 512, by omega⟩

theorem above_eq (k q : ℕ) (hq : k + q = 8) (h0 : 0 < q) (hk : k < 8) (x : Fin 512 → EReal) (p : Fin 16 → EReal) (a : ℕ) (ha : a < 4294967296) (r : Fin 512) :
    Scalar.select (IntOp.cmpi .slt (BitVec.ofNat 32 (r.val % 8)) (BitVec.ofNat 32 q))
      (x ⟨r.val / 8 * 8 + (r.val % 8 + 8 - q) % 8, by omega⟩)
      (if h : r.val / 8 < 63 then x ⟨(1 + r.val / 8) * 8 + (r.val % 8 + 8 - q) % 8, by omega⟩
        else Scalar.select (Scalar.cmpi .eq (BitVec.ofNat 32 a) 7#32) 0 (p ⟨(r.val % 8 + 8 - q) % 8, by omega⟩))
      = above k hk x (fun y => if a = 7 then 0 else p y) r := by
  rw [select_lt _ _ (by omega) (by omega)]
  unfold above
  by_cases h1 : r.val % 8 < q
  · rw [if_pos h1, dif_pos (by omega)]
    refine congrArg x (Fin.ext ?_)
    dsimp only
    omega
  · rw [if_neg h1]
    by_cases h2 : r.val / 8 < 63
    · rw [dif_pos h2, dif_pos (by omega)]
      refine congrArg x (Fin.ext ?_)
      dsimp only
      omega
    · rw [dif_neg h2, dif_neg (by omega), select_eq _ 7 ha (by omega)]
      refine congrArg (fun y => if a = 7 then (0 : EReal) else p y) (Fin.ext ?_)
      dsimp only
      omega

end Cert.Calls

end
-- ==== Proof.Calls.Gelu.lean ====
/- GELU as the two programs write it: the cubic coefficient once as a quotient and once as a number. -/
module

public import proofs.«01_k».proof.Proof.Lru.Consts

@[expose] public section

noncomputable section

namespace Cert.Calls

open Idealize.ShloMosaic

theorem div_pos {x : EReal} {d : ℝ} (hd : d ≠ 0) : Ideal.div x ((d : ℝ) : EReal) = x * ((d⁻¹ : ℝ) : EReal) := by
  rw [Ideal.div, if_neg (by exact_mod_cast hd), EReal.coe_inv]

/-- The cubic term, whichever side of the multiplications its coefficient is on. -/
theorem cubic (x : EReal) :
    Ideal.div (x * x * x * Ideal.ofBits .f32 1194240768#32) (Ideal.ofBits .f32 1232348160#32) = ((8943 / 200000 : ℝ) : EReal) * (x * (x * x)) := by
  rw [Lru.ofBits_num, Lru.ofBits_den, div_pos (by norm_num), mul_assoc, ← EReal.coe_mul, mul_comm, mul_assoc x x x]
  norm_num

def gelu (x : EReal) : EReal :=
  x * (Ideal.ofBits .f32 1056964608#32 * (1 + Ideal.tanh (Ideal.ofBits .f32 1061962282#32 * (x + ((8943 / 200000 : ℝ) : EReal) * (x * (x * x))))))

theorem gelu_eq (x : EReal) :
    Ideal.ofBits .f32 1056964608#32 * x * (1 + Ideal.tanh (Ideal.ofBits .f32 1061962282#32
      * (x + Ideal.div (x * x * x * Ideal.ofBits .f32 1194240768#32) (Ideal.ofBits .f32 1232348160#32)))) = gelu x := by
  rw [cubic, gelu, mul_comm (Ideal.ofBits .f32 1056964608#32) x, mul_assoc]

end Cert.Calls

end
-- ==== Proof.Calls.FfnAct.lean ====
/- FfnAct: the feed-forward layer between its products, `gelu(gate) · val` of the convolved rows. A point of the grid computes a block of rows
   of half the columns, from the block and the tile of 8 rows before it. -/
module

public import proofs.«01_k».proof.Defs
public import proofs.«01_k».proof.Proof.Gen.FfnActIdeal.Value
public import proofs.«01_k».proof.Proof.Gen.FfnActReferenceIdeal.Run
public import proofs.«01_k».proof.Proof.Calls.Rows
public import proofs.«01_k».proof.Proof.Calls.Gelu
public import Idealize.ShloMosaic.Lib.Pipeline.ValueKit
public import Idealize.ShloMosaic.Lib.Quiescent

@[expose] public section

set_option maxRecDepth 16384

noncomputable section

namespace Cert.FfnActIdeal.Calls

open Idealize.ShloMosaic Idealize.ShloMosaic.TcCoe
open Cert.FfnActIdeal
open Cert.FfnActIdeal.Gen

variable (m : (ℓ : Loc nD τ sig) → Buf (Elt Ideal) ℓ)

theorem i0 : ∀ t : Fin cfg0.N, win0_0.index t = win0_8.index t := (by decide +kernel : ∀ t : Fin grid0.N, _)
theorem i1 : ∀ t : Fin cfg0.N, win0_1.index t = ![64 * win0_8.index t 0 - 1, win0_8.index t 1] := (by decide +kernel : ∀ t : Fin grid0.N, _)
theorem i2 : ∀ t : Fin cfg0.N, win0_2.index t = ![win0_8.index t 0, win0_8.index t 1 + 2] := (by decide +kernel : ∀ t : Fin grid0.N, _)
theorem i3 : ∀ t : Fin cfg0.N, win0_3.index t = ![64 * win0_8.index t 0 - 1, win0_8.index t 1 + 2] := (by decide +kernel : ∀ t : Fin grid0.N, _)
theorem i4 : ∀ t : Fin cfg0.N, win0_4.index t = ![0, win0_8.index t 1] := (by decide +kernel : ∀ t : Fin grid0.N, _)
theorem i5 : ∀ t : Fin cfg0.N, win0_5.index t = ![0, win0_8.index t 1 + 2] := (by decide +kernel : ∀ t : Fin grid0.N, _)
theorem i6 : ∀ t : Fin cfg0.N, win0_6.index t = ![0, win0_8.index t 1] := (by decide +kernel : ∀ t : Fin grid0.N, _)
theorem i7 : ∀ t : Fin cfg0.N, win0_7.index t = ![0, win0_8.index t 1 + 2] := (by decide +kernel : ∀ t : Fin grid0.N, _)

/-- A point's block of rows is the second coordinate of the grid. -/
theorem row : ∀ t : Fin cfg0.N, (grid0.coords t 1).val = win0_8.index t 0 := (by decide +kernel : ∀ t : Fin grid0.N, _)

/-- The convolution of a block's row: three taps, the earlier rows from the tile before the block, or zero at the first block. -/
def conv (z : ℕ) (x : Vec Ideal S512x1536 .f32) (p : Vec Ideal S8x1536 .f32) (b w0 w1 w2 : Vec Ideal S1x1536 .f32) (r : Fin 512) (j : Fin 1536) : EReal :=
  b (ix2 0 j) + w2 (ix2 0 j) * x (ix2 r j)
    + w0 (ix2 0 j) * Calls.below 2 (by omega) x (fun y => if z = 0 then 0 else p y) r j
    + w1 (ix2 0 j) * Calls.below 1 (by omega) x (fun y => if z = 0 then 0 else p y) r j

theorem gate_conv (i : grid0.Coords) (x : Vec Ideal S512x1536 .f32) (p : Vec Ideal S8x1536 .f32) (b w0 w1 w2 : Vec Ideal S1x1536 .f32)
    (r : Fin 512) (j : Fin 1536) :
    k0_pay5 (k0_pay3 i x p b w2 w0) w1 (k0_pay4 i x p) (ix2 r j) = conv (i 1).val x p b w0 w1 w2 r j := by
  have hi : (i 1).val < 4294967296 := lt_of_lt_of_le (i 1).isLt (by decide)
  pointwise [k0_pay5, k0_pay3, k0_pay4, k0_pay2]
  rw [Calls.below_eq 2 (by omega) (by omega) x p _ hi r j, Calls.below_eq 1 (by omega) (by omega) x p _ hi r j, conv]

theorem act (i : grid0.Coords) (g : Vec Ideal S512x1536 .f32) (x : Vec Ideal S512x1536 .f32) (p : Vec Ideal S8x1536 .f32) (b w0 w1 w2 : Vec Ideal S1x1536 .f32)
    (r : Fin 512) (j : Fin 1536) :
    k0_pay1 g (k0_pay7 (Scalar.cmpi .eq (BitVec.ofNat 32 (i 1).val) 0#32) x p b w2 w0) w1
        (k0_pay8 (Scalar.cmpi .eq (BitVec.ofNat 32 (i 1).val) 0#32) x p) (ix2 r j)
      = Calls.gelu (g (ix2 r j)) * conv (i 1).val x p b w0 w1 w2 r j := by
  have hi : (i 1).val < 4294967296 := lt_of_lt_of_le (i 1).isLt (by decide)
  pointwise [k0_pay1, k0_pay7, k0_pay8, k0_pay6]
  rw [Calls.below_eq 2 (by omega) (by omega) x p _ hi r j, Calls.below_eq 1 (by omega) (by omega) x p _ hi r j, conv]
  rfl

/-- The convolution of the whole rows. -/
def convs (x : S4096x6144.Idx → EReal) (w : S3x6144.Idx → EReal) (b : S6144.Idx → EReal) (r : Fin 4096) (j : Fin 6144) : EReal :=
  b (ix1 j) + w (ix2 2 j) * x (ix2 r j) + w (ix2 0 j) * Calls.delay x 2 (ix2 r j) + w (ix2 1 j) * Calls.delay x 1 (ix2 r j)

theorem convs_eq (x : S4096x6144.Idx → EReal) (w : S3x6144.Idx → EReal) (b : S6144.Idx → EReal) (r : Fin 4096) (j : Fin 6144) :
    ((w (ix2 0 j) * if h : r.val < 2 then 0 else x (ix2 (⟨r.val - 2, by omega⟩ : Fin 4096) j))
      + w (ix2 1 j) * if h : r.val < 1 then 0 else x (ix2 (⟨r.val - 1, by omega⟩ : Fin 4096) j)) + w (ix2 2 j) * x (ix2 r j) + b (ix1 j)
      = convs x w b r j := by
  rw [convs, Calls.delay_ix, Calls.delay_ix]
  ac_rfl

def acts (x : S4096x6144.Idx → EReal) (w : S3x6144.Idx → EReal) (b : S6144.Idx → EReal) : S4096x3072.Idx → EReal :=
  fun y => Calls.gelu (convs x w b ⟨(y 0).val, (y 0).isLt⟩ ⟨(y 1).val, lt_trans (y 1).isLt (by decide)⟩)
    * convs x w b ⟨(y 0).val, (y 0).isLt⟩ ⟨3072 + (y 1).val, Nat.add_lt_add_left (y 1).isLt 3072⟩

theorem bias (c : Dev nD) (j : Fin 6144) : V (F := Ideal) m c main_v0 (ix2 0 j) = m (c.tc.loc main_arg2) (ix1 j) := by
  unfold V
  after_results
  pointwise

theorem bound : ∀ t : Fin cfg0.N, win0_8.index t 0 < 8 ∧ win0_8.index t 1 < 2 := (by decide +kernel : ∀ t : Fin grid0.N, _)

/-- A place of a block among the whole rows. -/
def at0 (t : Fin cfg0.N) (r : Fin 512) : Fin 4096 := ⟨win0_8.index t 0 * 512 + r.val, by have := bound t; omega⟩
def at1 (t : Fin cfg0.N) (j : Fin 1536) (k : Fin 2) : Fin 6144 := ⟨(win0_8.index t 1 + 2 * k.val) * 1536 + j.val, by have := bound t; omega⟩

/-- The tap's rows. -/
theorem tap0 (x : Vec Ideal S3x1536 .f32) (j : Fin 1536) : View.ld x r0_4 (ix2 0 j) = x (ix2 0 j) := by
  pointwise [r0_4]
theorem tap1 (x : Vec Ideal S3x1536 .f32) (j : Fin 1536) : View.ld x r0_5 (ix2 0 j) = x (ix2 1 j) := by
  pointwise [r0_5]
theorem tap2 (x : Vec Ideal S3x1536 .f32) (j : Fin 1536) : View.ld x r0_3 (ix2 0 j) = x (ix2 2 j) := by
  pointwise [r0_3]

theorem gate_below (c : Dev nD) (t : Fin cfg0.N) (k : ℕ) (hk : k < 8) (r : Fin 512) (j : Fin 1536) :
    Calls.below k hk (iblk (F := Ideal) m c 0 t) (fun y => if win0_8.index t 0 = 0 then 0 else iblk (F := Ideal) m c 1 t y) r j
      = Calls.delay (m (c.tc.loc main_arg0)) k (ix2 (at0 t r) (at1 t j 0)) := by
  rw [Calls.delay_ix]
  unfold Calls.below at0 at1
  dsimp only
  by_cases h : r.val < k
  · rw [dif_pos h]
    by_cases h0 : win0_8.index t 0 = 0
    · rw [if_pos h0, dif_pos (by omega)]
    · rw [if_neg h0, dif_neg (by omega)]
      blk_ext [iblk, V, i1 t]
  · rw [dif_neg h, dif_neg (by omega)]
    blk_ext [iblk, V, i0 t]

theorem gate_rows (c : Dev nD) (t : Fin cfg0.N) (r : Fin 512) (j : Fin 1536) :
    conv (grid0.coords t 1).val (iblk (F := Ideal) m c 0 t) (iblk m c 1 t) (iblk m c 6 t) (View.ld (iblk m c 4 t) r0_4) (View.ld (iblk m c 4 t) r0_5)
        (View.ld (iblk m c 4 t) r0_3) r j = convs (m (c.tc.loc main_arg0)) (m (c.tc.loc main_arg1)) (m (c.tc.loc main_arg2)) (at0 t r) (at1 t j 0) := by
  rw [row, conv, convs, gate_below m c t, gate_below m c t, ← bias m c]
  refine congrArg₂ (· + ·) (congrArg₂ (· + ·) (congrArg₂ (· + ·) ?_ (congrArg₂ (· * ·) ?_ ?_)) (congrArg₂ (· * ·) ?_ rfl)) (congrArg₂ (· * ·) ?_ rfl)
  · blk_ext [iblk, V, at1, i6 t]
  · refine (tap2 _ _).trans ?_
    blk_ext [iblk, V, at1, i4 t]
  · blk_ext [iblk, V, at0, at1, i0 t]
  · refine (tap0 _ _).trans ?_
    blk_ext [iblk, V, at1, i4 t]
  · refine (tap1 _ _).trans ?_
    blk_ext [iblk, V, at1, i4 t]

theorem val_below (c : Dev nD) (t : Fin cfg0.N) (k : ℕ) (hk : k < 8) (r : Fin 512) (j : Fin 1536) :
    Calls.below k hk (iblk (F := Ideal) m c 2 t) (fun y => if win0_8.index t 0 = 0 then 0 else iblk (F := Ideal) m c 3 t y) r j
      = Calls.delay (m (c.tc.loc main_arg0)) k (ix2 (at0 t r) (at1 t j 1)) := by
  rw [Calls.delay_ix]
  unfold Calls.below at0 at1
  dsimp only
  by_cases h : r.val < k
  · rw [dif_pos h]
    by_cases h0 : win0_8.index t 0 = 0
    · rw [if_pos h0, dif_pos (by omega)]
    · rw [if_neg h0, dif_neg (by omega)]
      blk_ext [iblk, V, i3 t]
  · rw [dif_neg h, dif_neg (by omega)]
    blk_ext [iblk, V, i2 t]

theorem val_rows (c : Dev nD) (t : Fin cfg0.N) (r : Fin 512) (j : Fin 1536) :
    conv (grid0.coords t 1).val (iblk (F := Ideal) m c 2 t) (iblk m c 3 t) (iblk m c 7 t) (View.ld (iblk m c 5 t) r0_4) (View.ld (iblk m c 5 t) r0_5)
        (View.ld (iblk m c 5 t) r0_3) r j = convs (m (c.tc.loc main_arg0)) (m (c.tc.loc main_arg1)) (m (c.tc.loc main_arg2)) (at0 t r) (at1 t j 1) := by
  rw [row, conv, convs, val_below m c t, val_below m c t, ← bias m c]
  refine congrArg₂ (· + ·) (congrArg₂ (· + ·) (congrArg₂ (· + ·) ?_ (congrArg₂ (· * ·) ?_ ?_)) (congrArg₂ (· * ·) ?_ rfl)) (congrArg₂ (· * ·) ?_ rfl)
  · blk_ext [iblk, V, at1, i7 t]
  · refine (tap2 _ _).trans ?_
    blk_ext [iblk, V, at1, i5 t]
  · blk_ext [iblk, V, at0, at1, i2 t]
  · refine (tap0 _ _).trans ?_
    blk_ext [iblk, V, at1, i5 t]
  · refine (tap1 _ _).trans ?_
    blk_ext [iblk, V, at1, i5 t]

theorem final (c : Dev nD) : (dats (F := Ideal) m 0 c).arrAt 8 cfg0.N
    = acts (m (c.tc.loc main_arg0)) (m (c.tc.loc main_arg1)) (m (c.tc.loc main_arg2)) := by
  refine (dats m 0 c).arrAt_eq_of_covers 8 _ (by decide +kernel) fun t hf y => ?_
  blk_simp
  rw [after0_8]
  frame_out
  idx_vars y
  refine (act (grid0.coords t) _ _ _ _ _ _ _ _ _).trans ?_
  refine congrArg₂ (· * ·) (congrArg Calls.gelu (((gate_conv (grid0.coords t) _ _ _ _ _ _ _ _).trans (gate_rows m c t _ _)).trans ?_))
    ((val_rows m c t _ _).trans ?_)
  · refine congrArg₂ (convs _ _ _) (Fin.ext ?_) (Fin.ext ?_)
    · blk_simp; rfl
    · blk_simp
      simp only [at1]
      omega
  · refine congrArg₂ (convs _ _ _) (Fin.ext ?_) (Fin.ext ?_)
    · blk_simp; rfl
    · blk_simp
      simp only [at1]
      omega

/-- The call and its reference leave the same result. -/
theorem algebraic : algebraic_FfnActIdeal_FfnActReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        funext j
        idx_vars j
        pointwise [Cert.FfnActReferenceIdeal.Value.res_main_v46]
        rw [(ha c).1, (ha c).2.1, (ha c).2.2, Calls.gelu_eq]
        exact congrArg₂ (· * ·) (congrArg Calls.gelu (convs_eq _ _ _ _ _)) (convs_eq _ _ _ _ _)), (h c).2⟩)
      (Cert.FfnActReferenceIdeal.Value.run m' g')⟩

/-- The reference changes none of its arguments. -/
theorem reference_frame : quiescent_FfnActReferenceIdeal := fun m ρ _ =>
  (θ_run Cert.FfnActReferenceIdeal.defs _ _).mono (fun r h => ⟨fun c => (h c).2, sem_eq_zero_of_no_sems (by decide) r.2⟩)
    (Cert.FfnActReferenceIdeal.Value.run m ρ)

end Cert.FfnActIdeal.Calls

end
-- ==== Proof.Calls.GeluGrad.lean ====
/- The gradients of `gelu(gate) · val`, over the reals: by the closed form of GELU's derivative, and by the rules of the chain applied to the
   reference's lines one by one. -/
module

public import proofs.«01_k».proof.Proof.Calls.Gelu

@[expose] public section

noncomputable section

namespace Cert.Calls

open Idealize.ShloMosaic

/-- GELU's tanh, with the argument's factor outside and inside. -/
def tanhOut (g : EReal) : EReal :=
  Ideal.tanh (Ideal.ofBits .f32 1061962282#32 * g * (1 + ((8943 / 200000 : ℝ) : EReal) * (g * g)))
def tanhIn (g : EReal) : EReal :=
  Ideal.tanh (Ideal.ofBits .f32 1061962282#32 * (g + Ideal.div (g * g * g * Ideal.ofBits .f32 1194240768#32) (Ideal.ofBits .f32 1232348160#32)))

/-- GELU's derivative. -/
def slope (g : EReal) : EReal :=
  Ideal.ofBits .f32 1056964608#32 * (1 + tanhOut g)
    + Ideal.ofBits .f32 1056964608#32 * g * (1 - tanhOut g * tanhOut g) * Ideal.ofBits .f32 1061962282#32 * (1 + ((26829 / 200000 : ℝ) : EReal) * (g * g))

/-- The gradient of tanh's argument, and of its cubic term. -/
def inner (d v g : EReal) : EReal :=
  Ideal.ofBits .f32 1061962282#32 * (Ideal.ofBits .f32 1056964608#32 * g * (d * v) * ((1 + tanhIn g) * (1 - tanhIn g)))
def cube (d v g : EReal) : EReal :=
  Ideal.div (inner d v g) (Ideal.ofBits .f32 1232348160#32) * Ideal.ofBits .f32 1194240768#32

/-- The gate's gradient by the rules. -/
def gateByRules (d v g : EReal) : EReal :=
  inner d v g + g * g * cube d v g + g * (cube d v g * g) + cube d v g * g * g + Ideal.ofBits .f32 1056964608#32 * (d * v * (1 + tanhIn g))
def valByRules (d g : EReal) : EReal := Ideal.ofBits .f32 1056964608#32 * g * (1 + tanhIn g) * d

def gateGrad (d v g : EReal) : EReal := d * v * slope g
def valGrad (d g : EReal) : EReal := d * (Ideal.ofBits .f32 1056964608#32 * g * (1 + tanhOut g))

theorem tanhOut_coe (g : ℝ) : tanhOut (g : EReal) = ((Real.tanh (Lru.arg g) : ℝ) : EReal) := by
  unfold tanhOut
  rw [Lru.ofBits_rt, ← EReal.coe_one]
  simp only [← EReal.coe_mul, ← EReal.coe_add, Lru.tanh_coe]
  congr 2
  unfold Lru.arg
  ring

theorem tanhIn_coe (g : ℝ) : tanhIn (g : EReal) = ((Real.tanh (Lru.arg g) : ℝ) : EReal) := by
  unfold tanhIn
  rw [Lru.ofBits_rt, cubic]
  simp only [← EReal.coe_mul, ← EReal.coe_add, Lru.tanh_coe]
  congr 2
  unfold Lru.arg
  ring

theorem gate_eq (d v g : ℝ) : gateByRules d v g = gateGrad d v g := by
  unfold gateByRules gateGrad cube inner slope
  rw [tanhIn_coe, tanhOut_coe, Lru.ofBits_rt, Lru.ofBits_half, Lru.ofBits_num, Lru.ofBits_den, div_pos (by norm_num), ← EReal.coe_one]
  simp only [← EReal.coe_mul, ← EReal.coe_add, ← EReal.coe_sub]
  congr 1
  ring

theorem val_eq (d g : ℝ) : valByRules d g = valGrad d g := by
  unfold valByRules valGrad
  rw [tanhIn_coe, tanhOut_coe, mul_comm]

/-- An extended real that is a real. -/
def IsReal (x : EReal) : Prop := ∃ a : ℝ, x = a

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩

theorem gate_eq_of_real {d v g : EReal} : IsReal d → IsReal v → IsReal g → gateByRules d v g = gateGrad d v g
  | ⟨d, hd⟩, ⟨v, hv⟩, ⟨g, hg⟩ => by rw [hd, hv, hg, gate_eq]
theorem val_eq_of_real {d g : EReal} : IsReal d → IsReal g → valByRules d g = valGrad d g
  | ⟨d, hd⟩, ⟨g, hg⟩ => by rw [hd, hg, val_eq]

end Cert.Calls

end
-- ==== Proof.Calls.Tile.lean ====
/- A tile of rows written one row, or some columns, at a time: what a row holds after the writes. -/
module

public import Idealize.ShloMosaic.Lib.Pipeline.ValueKit
public import Idealize.ShloMosaic.Lib.Pipeline.ReadBack
public import Idealize.ShloMosaic.Lib.WritesUnit

@[expose] public section

noncomputable section

namespace Cert.Calls

open Idealize.ShloMosaic

variable {Val : EltTy → Type} {e : EltTy} {k n : ℕ}

theorem canon_row [∀ e, Nonempty (Val e)] (o : ℕ) (inb : ∀ a : Fin 2, (![o, 0] : Fin 2 → ℕ) a + (![1, n] : Fin 2 → ℕ) a ≤ (![k, n] : Fin 2 → ℕ) a)
    (w : (Rect.unit (s := ⟨2, ![k, n]⟩) ![o, 0] ![1, n] inb).shape.Idx → Val e) (L : List (View.Piece Val (⟨2, ![k, n]⟩ : Shape) e)) (r : Fin k) (j : Fin n) :
    View.canon ((⟨Rect.unit (s := ⟨2, ![k, n]⟩) ![o, 0] ![1, n] inb, w⟩ : View.Piece Val (⟨2, ![k, n]⟩ : Shape) e) :: L) (ix2 r j)
      = if r.val = o then w (ix2 (0 : Fin 1) j) else View.canon L (ix2 r j) := by
  by_cases h : r.val = o
  · rw [if_pos h]
    have hy : (Rect.unit (s := ⟨2, ![k, n]⟩) ![o, 0] ![1, n] inb).emb (ix2 (0 : Fin 1) j) = ix2 r j := by
      funext a
      apply Fin.ext
      fin_cases a
      · change o + 1 * 0 = r.val
        omega
      · change 0 + 1 * j.val = j.val
        omega
    rw [← hy]
    exact View.canon_cons_emb _ _ _ _
  · rw [if_neg h]
    refine View.canon_cons_of_not_mem _ _ ?_
    rw [Rect.mem_set_unit]
    intro hall
    have h0 := hall 0
    change o ≤ r.val ∧ r.val < o + 1 at h0
    omega

theorem canon_fill [∀ e, Nonempty (Val e)] (inb : ∀ a : Fin 2, (![0, 0] : Fin 2 → ℕ) a + (![k, n] : Fin 2 → ℕ) a ≤ (![k, n] : Fin 2 → ℕ) a)
    (w : (Rect.unit (s := ⟨2, ![k, n]⟩) ![0, 0] ![k, n] inb).shape.Idx → Val e) (L : List (View.Piece Val (⟨2, ![k, n]⟩ : Shape) e)) (r : Fin k) (j : Fin n) :
    View.canon ((⟨Rect.unit (s := ⟨2, ![k, n]⟩) ![0, 0] ![k, n] inb, w⟩ : View.Piece Val (⟨2, ![k, n]⟩ : Shape) e) :: L) (ix2 r j) = w (ix2 r j) := by
  have hy : (Rect.unit (s := ⟨2, ![k, n]⟩) ![0, 0] ![k, n] inb).emb (ix2 r j) = ix2 r j := by
    funext a
    apply Fin.ext
    fin_cases a
    · change 0 + 1 * r.val = r.val
      omega
    · change 0 + 1 * j.val = j.val
      omega
  exact (congrArg _ hy.symm).trans (View.canon_cons_emb _ _ _ _)

/-- The same for planes, one after the other. -/
theorem canon_plane [∀ e, Nonempty (Val e)] {p : ℕ} (o : ℕ) (inb : ∀ a : Fin 3, (![o, 0, 0] : Fin 3 → ℕ) a + (![1, k, n] : Fin 3 → ℕ) a ≤ (![p, k, n] : Fin 3 → ℕ) a)
    (w : (Rect.unit (s := ⟨3, ![p, k, n]⟩) ![o, 0, 0] ![1, k, n] inb).shape.Idx → Val e) (L : List (View.Piece Val (⟨3, ![p, k, n]⟩ : Shape) e))
    (i : Fin p) (r : Fin k) (j : Fin n) :
    View.canon ((⟨Rect.unit (s := ⟨3, ![p, k, n]⟩) ![o, 0, 0] ![1, k, n] inb, w⟩ : View.Piece Val (⟨3, ![p, k, n]⟩ : Shape) e) :: L) (ix3 i r j)
      = if i.val = o then w (ix3 (0 : Fin 1) r j) else View.canon L (ix3 i r j) := by
  by_cases h : i.val = o
  · rw [if_pos h]
    have hy : (Rect.unit (s := ⟨3, ![p, k, n]⟩) ![o, 0, 0] ![1, k, n] inb).emb (ix3 (0 : Fin 1) r j) = ix3 i r j := by
      funext a
      apply Fin.ext
      fin_cases a
      · change o + 1 * 0 = i.val
        omega
      · change 0 + 1 * r.val = r.val
        omega
      · change 0 + 1 * j.val = j.val
        omega
    rw [← hy]
    exact View.canon_cons_emb _ _ _ _
  · rw [if_neg h]
    refine View.canon_cons_of_not_mem _ _ ?_
    rw [Rect.mem_set_unit]
    intro hall
    have h0 := hall 0
    change o ≤ i.val ∧ i.val < o + 1 at h0
    omega

/-- The same for pieces side by side. -/
theorem canon_col [∀ e, Nonempty (Val e)] (o b : ℕ) (inb : ∀ a : Fin 2, (![0, o] : Fin 2 → ℕ) a + (![k, b] : Fin 2 → ℕ) a ≤ (![k, n] : Fin 2 → ℕ) a)
    (w : (Rect.unit (s := ⟨2, ![k, n]⟩) ![0, o] ![k, b] inb).shape.Idx → Val e) (L : List (View.Piece Val (⟨2, ![k, n]⟩ : Shape) e)) (r : Fin k) (j : Fin n) :
    View.canon ((⟨Rect.unit (s := ⟨2, ![k, n]⟩) ![0, o] ![k, b] inb, w⟩ : View.Piece Val (⟨2, ![k, n]⟩ : Shape) e) :: L) (ix2 r j)
      = if h : o ≤ j.val ∧ j.val < o + b then w (ix2 r (⟨j.val - o, by omega⟩ : Fin b)) else View.canon L (ix2 r j) := by
  by_cases h : o ≤ j.val ∧ j.val < o + b
  · rw [dif_pos h]
    have hy : (Rect.unit (s := ⟨2, ![k, n]⟩) ![0, o] ![k, b] inb).emb (ix2 r (⟨j.val - o, by omega⟩ : Fin b)) = ix2 r j := by
      funext a
      apply Fin.ext
      fin_cases a
      · change 0 + 1 * r.val = r.val
        omega
      · change o + 1 * (j.val - o) = j.val
        omega
    exact (congrArg _ hy.symm).trans (View.canon_cons_emb _ _ _ _)
  · rw [dif_neg h]
    refine View.canon_cons_of_not_mem _ _ ?_
    rw [Rect.mem_set_unit]
    intro hall
    exact h (hall 1)

theorem read_row {sig : RefSig} {κ : Kind} {sp : Space} (v : View sig κ sp (⟨2, ![k, n]⟩ : Shape) e) (f : v.ty.Contents Val) (o : ℕ)
    (inb : ∀ a : Fin 2, (![o, 0] : Fin 2 → ℕ) a + (![1, n] : Fin 2 → ℕ) a ≤ (![k, n] : Fin 2 → ℕ) a)
    (w : (Rect.unit (s := ⟨2, ![k, n]⟩) ![o, 0] ![1, n] inb).shape.Idx → Val e) (L : List (View.Piece Val (⟨2, ![k, n]⟩ : Shape) e)) (r : Fin k) (j : Fin n) :
    v.read Val (v.writes Val f ((⟨Rect.unit (s := ⟨2, ![k, n]⟩) ![o, 0] ![1, n] inb, w⟩ : View.Piece Val (⟨2, ![k, n]⟩ : Shape) e) :: L)) (ix2 r j)
      = if r.val = o then w (ix2 (0 : Fin 1) j) else v.read Val (v.writes Val f L) (ix2 r j) := by
  by_cases h : r.val = o
  · rw [if_pos h]
    exact View.read_writes_cons_rows_of_mem v f inb w L (ix2 r j) (ix2 (0 : Fin 1) j) rfl h rfl
  · rw [if_neg h]
    refine View.read_writes_cons_rows_of_not_mem v f inb w L (ix2 r j) rfl rfl ?_
    change r.val < o ∨ o + 1 ≤ r.val
    omega

theorem ld_row (x : (⟨2, ![k, n]⟩ : Shape).Idx → Val e) (o : ℕ) (inb : ∀ a : Fin 2, (![o, 0] : Fin 2 → ℕ) a + (![1, n] : Fin 2 → ℕ) a ≤ (![k, n] : Fin 2 → ℕ) a)
    (r : Fin k) (hr : r.val = o) (j : Fin n) : View.ld x (Rect.unit (s := ⟨2, ![k, n]⟩) ![o, 0] ![1, n] inb) (ix2 (0 : Fin 1) j) = x (ix2 r j) := by
  refine congrArg x (funext fun a => Fin.ext ?_)
  fin_cases a
  · change o + 1 * 0 = r.val
    omega
  · change 0 + 1 * j.val = j.val
    omega

end Cert.Calls

end
-- ==== Proof.Calls.FfnActGrad.lean ====
/- FfnActGrad: the gradients of the feed-forward layer's `gelu(gate) · val`, of the gates and of the values in two planes. A point of the grid
   computes a block of rows of half the columns of both, the convolved rows anew from the block and the tile of 8 rows before it. -/
module

public import proofs.«01_k».proof.Defs
public import proofs.«01_k».proof.Proof.Gen.FfnActGradIdeal.Value
public import proofs.«01_k».proof.Proof.Gen.FfnActGradReferenceIdeal.Run
public import proofs.«01_k».proof.Proof.Calls.FfnAct
public import proofs.«01_k».proof.Proof.Calls.GeluGrad
public import proofs.«01_k».proof.Proof.Calls.Tile
public import proofs.«01_k».proof.Proof.Gen.Pre_finite_act
public import proofs.«01_k».proof.Proof.Lru.Reals
public import Idealize.ShloMosaic.Lib.Pipeline.ValueKit
public import Idealize.ShloMosaic.Lib.Quiescent
public import Idealize.ShloMosaic.Lib.ReduceAll

@[expose] public section

set_option maxRecDepth 16384

noncomputable section

namespace Cert.FfnActGradIdeal.Calls

open Idealize.ShloMosaic Idealize.ShloMosaic.TcCoe
open Cert.FfnActGradIdeal
open Cert.FfnActGradIdeal.Gen

variable (m : (ℓ : Loc nD τ sig) → Buf (Elt Ideal) ℓ)

theorem i0 : ∀ t : Fin cfg0.N, win0_0.index t = ![t.val % 8, t.val / 8] := (by decide +kernel : ∀ t : Fin grid0.N, _)
theorem i1 : ∀ t : Fin cfg0.N, win0_1.index t = ![t.val % 8, t.val / 8] := (by decide +kernel : ∀ t : Fin grid0.N, _)
theorem i2 : ∀ t : Fin cfg0.N, win0_2.index t = ![64 * (t.val % 8) - 1, t.val / 8] := (by decide +kernel : ∀ t : Fin grid0.N, _)
theorem i3 : ∀ t : Fin cfg0.N, win0_3.index t = ![t.val % 8, t.val / 8 + 2] := (by decide +kernel : ∀ t : Fin grid0.N, _)
theorem i4 : ∀ t : Fin cfg0.N, win0_4.index t = ![64 * (t.val % 8) - 1, t.val / 8 + 2] := (by decide +kernel : ∀ t : Fin grid0.N, _)
theorem i5 : ∀ t : Fin cfg0.N, win0_5.index t = ![0, t.val / 8] := (by decide +kernel : ∀ t : Fin grid0.N, _)
theorem i6 : ∀ t : Fin cfg0.N, win0_6.index t = ![0, t.val / 8 + 2] := (by decide +kernel : ∀ t : Fin grid0.N, _)
theorem i7 : ∀ t : Fin cfg0.N, win0_7.index t = ![0, t.val / 8] := (by decide +kernel : ∀ t : Fin grid0.N, _)
theorem i8 : ∀ t : Fin cfg0.N, win0_8.index t = ![0, t.val / 8 + 2] := (by decide +kernel : ∀ t : Fin grid0.N, _)
theorem i9 : ∀ t : Fin cfg0.N, win0_9.index t = ![0, t.val % 8, t.val / 8] := (by decide +kernel : ∀ t : Fin grid0.N, _)
theorem row : ∀ t : Fin cfg0.N, (grid0.coords t 1).val = t.val % 8 := (by decide +kernel : ∀ t : Fin grid0.N, _)

open Cert.FfnActIdeal.Calls (conv convs convs_eq)

theorem gate_conv (i : grid0.Coords) (x : Vec Ideal S512x1536 .f32) (p : Vec Ideal S8x1536 .f32) (b w0 w1 w2 : Vec Ideal S1x1536 .f32)
    (r : Fin 512) (j : Fin 1536) :
    k0_pay6 (k0_pay4 i x p b w2 w0) w1 (k0_pay5 i x p) (ix2 r j) = conv (i 1).val x p b w0 w1 w2 r j := by
  have hi : (i 1).val < 4294967296 := lt_of_lt_of_le (i 1).isLt (by decide)
  pointwise [k0_pay6, k0_pay4, k0_pay5, k0_pay3]
  rw [Calls.below_eq 2 (by omega) (by omega) x p _ hi r j, Calls.below_eq 1 (by omega) (by omega) x p _ hi r j, conv]

theorem gate_grad (d : Vec Ideal S512x1536 .bf16) (g : FVec Ideal S512x1536 .f32) (i : grid0.Coords) (x : Vec Ideal S512x1536 .f32) (p : Vec Ideal S8x1536 .f32)
    (b w0 w1 w2 : Vec Ideal S1x1536 .f32) (r : Fin 512) (j : Fin 1536) :
    k0_pay1 (k0_pay14 g (k0_pay8 (Scalar.cmpi .eq (BitVec.ofNat 32 (i 1).val) 0#32) x p b w2 w0) w1
        (k0_pay9 (Scalar.cmpi .eq (BitVec.ofNat 32 (i 1).val) 0#32) x p) d) (ix3 0 r j)
      = Calls.gateGrad (d (ix2 r j)) (conv (i 1).val x p b w0 w1 w2 r j) (g (ix2 r j)) := by
  have hi : (i 1).val < 4294967296 := lt_of_lt_of_le (i 1).isLt (by decide)
  pointwise [k0_pay1, k0_pay14, k0_pay10, k0_pay11, k0_pay12, k0_pay13, k0_pay8, k0_pay9, k0_pay7]
  rw [Calls.below_eq 2 (by omega) (by omega) x p _ hi r j, Calls.below_eq 1 (by omega) (by omega) x p _ hi r j, conv]
  rfl

theorem val_grad (d : Vec Ideal S512x1536 .bf16) (g : FVec Ideal S512x1536 .f32) (r : Fin 512) (j : Fin 1536) :
    k0_pay2 (k0_pay10 d) (k0_pay13 g) (ix3 0 r j) = Calls.valGrad (d (ix2 r j)) (g (ix2 r j)) := by
  pointwise [k0_pay2, k0_pay10, k0_pay13, k0_pay11, k0_pay12]
  rfl

theorem bias (c : Dev nD) (j : Fin 6144) : V (F := Ideal) m c main_v0 (ix2 0 j) = m (c.tc.loc main_arg3) (ix1 j) := by
  unfold V
  after_results
  pointwise

/-- A place of a block among the whole rows. -/
def at0 (t : Fin cfg0.N) (r : Fin 512) : Fin 4096 := ⟨t.val % 8 * 512 + r.val, by omega⟩
def at1 (t : Fin cfg0.N) (j : Fin 1536) : Fin 3072 := ⟨t.val / 8 * 1536 + j.val, by have := t.isLt; change t.val < 16 at this; omega⟩
/-- A column among the gates, or among the values. -/
def half (k : Fin 2) (j : Fin 3072) : Fin 6144 := ⟨3072 * k.val + j.val, by omega⟩

theorem gate_below (c : Dev nD) (t : Fin cfg0.N) (k : ℕ) (hk : k < 8) (r : Fin 512) (j : Fin 1536) :
    Calls.below k hk (iblk (F := Ideal) m c 1 t) (fun y => if t.val % 8 = 0 then 0 else iblk (F := Ideal) m c 2 t y) r j
      = Calls.delay (m (c.tc.loc main_arg1)) k (ix2 (at0 t r) (half 0 (at1 t j))) := by
  rw [Calls.delay_ix]
  unfold Calls.below at0 at1 half
  dsimp only
  by_cases h : r.val < k
  · rw [dif_pos h]
    by_cases h0 : t.val % 8 = 0
    · rw [if_pos h0, dif_pos (by omega)]
    · rw [if_neg h0, dif_neg (by omega)]
      blk_ext [iblk, V, i2 t]
  · rw [dif_neg h, dif_neg (by omega)]
    blk_ext [iblk, V, i1 t]

theorem gate_rows (c : Dev nD) (t : Fin cfg0.N) (r : Fin 512) (j : Fin 1536) :
    conv (grid0.coords t 1).val (iblk (F := Ideal) m c 1 t) (iblk m c 2 t) (iblk m c 7 t) (View.ld (iblk m c 5 t) r0_4) (View.ld (iblk m c 5 t) r0_5)
        (View.ld (iblk m c 5 t) r0_3) r j = convs (m (c.tc.loc main_arg1)) (m (c.tc.loc main_arg2)) (m (c.tc.loc main_arg3)) (at0 t r) (half 0 (at1 t j)) := by
  rw [row, conv, convs, gate_below m c t, gate_below m c t, ← bias m c]
  refine congrArg₂ (· + ·) (congrArg₂ (· + ·) (congrArg₂ (· + ·) ?_ (congrArg₂ (· * ·) ?_ ?_)) (congrArg₂ (· * ·) ?_ rfl)) (congrArg₂ (· * ·) ?_ rfl)
  · blk_ext [iblk, V, half, at1, i7 t]
  · refine (Calls.ld_row _ _ _ 2 rfl _).trans ?_
    blk_ext [iblk, V, half, at1, i5 t]
  · blk_ext [iblk, V, half, at0, at1, i1 t]
  · refine (Calls.ld_row _ _ _ 0 rfl _).trans ?_
    blk_ext [iblk, V, half, at1, i5 t]
  · refine (Calls.ld_row _ _ _ 1 rfl _).trans ?_
    blk_ext [iblk, V, half, at1, i5 t]

theorem val_below (c : Dev nD) (t : Fin cfg0.N) (k : ℕ) (hk : k < 8) (r : Fin 512) (j : Fin 1536) :
    Calls.below k hk (iblk (F := Ideal) m c 3 t) (fun y => if t.val % 8 = 0 then 0 else iblk (F := Ideal) m c 4 t y) r j
      = Calls.delay (m (c.tc.loc main_arg1)) k (ix2 (at0 t r) (half 1 (at1 t j))) := by
  rw [Calls.delay_ix]
  unfold Calls.below at0 at1 half
  dsimp only
  by_cases h : r.val < k
  · rw [dif_pos h]
    by_cases h0 : t.val % 8 = 0
    · rw [if_pos h0, dif_pos (by omega)]
    · rw [if_neg h0, dif_neg (by omega)]
      blk_ext [iblk, V, i4 t]
  · rw [dif_neg h, dif_neg (by omega)]
    blk_ext [iblk, V, i3 t]

theorem val_rows (c : Dev nD) (t : Fin cfg0.N) (r : Fin 512) (j : Fin 1536) :
    conv (grid0.coords t 1).val (iblk (F := Ideal) m c 3 t) (iblk m c 4 t) (iblk m c 8 t) (View.ld (iblk m c 6 t) r0_4) (View.ld (iblk m c 6 t) r0_5)
        (View.ld (iblk m c 6 t) r0_3) r j = convs (m (c.tc.loc main_arg1)) (m (c.tc.loc main_arg2)) (m (c.tc.loc main_arg3)) (at0 t r) (half 1 (at1 t j)) := by
  rw [row, conv, convs, val_below m c t, val_below m c t, ← bias m c]
  refine congrArg₂ (· + ·) (congrArg₂ (· + ·) (congrArg₂ (· + ·) ?_ (congrArg₂ (· * ·) ?_ ?_)) (congrArg₂ (· * ·) ?_ rfl)) (congrArg₂ (· * ·) ?_ rfl)
  · blk_ext [iblk, V, half, at1, i8 t]
  · refine (Calls.ld_row _ _ _ 2 rfl _).trans ?_
    blk_ext [iblk, V, half, at1, i6 t]
  · blk_ext [iblk, V, half, at0, at1, i3 t]
  · refine (Calls.ld_row _ _ _ 0 rfl _).trans ?_
    blk_ext [iblk, V, half, at1, i6 t]
  · refine (Calls.ld_row _ _ _ 1 rfl _).trans ?_
    blk_ext [iblk, V, half, at1, i6 t]

theorem grad_block (c : Dev nD) (t : Fin cfg0.N) (r : Fin 512) (j : Fin 1536) :
    iblk (F := Ideal) m c 0 t (ix2 r j) = m (c.tc.loc main_arg0) (ix2 (at0 t r) (at1 t j)) := by
  blk_ext [iblk, V, at0, at1, i0 t]

theorem gate_whole (c : Dev nD) (t : Fin cfg0.N) (r : Fin 512) (j : Fin 1536) :
    k0_pay6 (k0_pay4 (grid0.coords t) (View.ld (iblk (F := Ideal) m c 1 t) r0_0) (View.ld (iblk m c 2 t) r0_1) (View.ld (iblk m c 7 t) r0_2) (View.ld (iblk m c 5 t) r0_3)
        (View.ld (iblk m c 5 t) r0_4)) (View.ld (iblk m c 5 t) r0_5) (k0_pay5 (grid0.coords t) (View.ld (iblk m c 1 t) r0_0) (View.ld (iblk m c 2 t) r0_1)) (ix2 r j)
      = convs (m (c.tc.loc main_arg1)) (m (c.tc.loc main_arg2)) (m (c.tc.loc main_arg3)) (at0 t r) (half 0 (at1 t j)) := by
  have h1 : View.ld (iblk (F := Ideal) m c 1 t) r0_0 = iblk m c 1 t := View.ld_unit_zero (funext fun a => by fin_cases a <;> rfl) _ _
  have h2 : View.ld (iblk (F := Ideal) m c 2 t) r0_1 = iblk m c 2 t := View.ld_unit_zero (funext fun a => by fin_cases a <;> rfl) _ _
  have h7 : View.ld (iblk (F := Ideal) m c 7 t) r0_2 = iblk m c 7 t := View.ld_unit_zero (funext fun a => by fin_cases a <;> rfl) _ _
  rw [h1, h2, h7]
  exact (gate_conv (grid0.coords t) _ _ _ _ _ _ _ _).trans (gate_rows m c t _ _)

/-- The gradients of the gates and of the values, one plane after the other. -/
def grad (d : S4096x3072.Idx → EReal) (x : S4096x6144.Idx → EReal) (w : S3x6144.Idx → EReal) (b : S6144.Idx → EReal) (i : Fin 2) (r : Fin 4096) (j : Fin 3072) : EReal :=
  if i.val = 1 then Calls.valGrad (d (ix2 r j)) (convs x w b r (half 0 j))
  else Calls.gateGrad (d (ix2 r j)) (convs x w b r (half 1 j)) (convs x w b r (half 0 j))

def grads (d : S4096x3072.Idx → EReal) (x : S4096x6144.Idx → EReal) (w : S3x6144.Idx → EReal) (b : S6144.Idx → EReal) : S2x4096x3072.Idx → EReal := fun y =>
  grad d x w b ⟨(y 0).val, (y 0).isLt⟩ ⟨(y 1).val, (y 1).isLt⟩ ⟨(y 2).val, (y 2).isLt⟩

theorem final (c : Dev nD) : (dats (F := Ideal) m 0 c).arrAt 9 cfg0.N
    = grads (m (c.tc.loc main_arg0)) (m (c.tc.loc main_arg1)) (m (c.tc.loc main_arg2)) (m (c.tc.loc main_arg3)) := by
  refine (dats m 0 c).arrAt_eq_of_covers 9 _ (by decide +kernel) fun t hf y => ?_
  blk_simp
  rw [after0_9]
  frame_out
  idx_vars y
  refine Eq.trans (b := grad (m (c.tc.loc main_arg0)) (m (c.tc.loc main_arg1)) (m (c.tc.loc main_arg2)) (m (c.tc.loc main_arg3)) y0 (at0 t y1) (at1 t y2)) ?_ ?_
  · refine (Calls.canon_plane _ _ _ _ _ _ _).trans ?_
    rw [Calls.canon_plane, grad]
    by_cases h1 : y0.val = 1
    · rw [if_pos h1, if_pos h1]
      refine (val_grad _ _ _ _).trans ?_
      exact congrArg₂ Calls.valGrad (grad_block m c t _ _) (gate_whole m c t _ _)
    · rw [if_neg h1, if_neg h1, if_pos (by omega)]
      refine (gate_grad _ _ (grid0.coords t) _ _ _ _ _ _ _ _).trans ?_
      refine congr (congrArg₂ Calls.gateGrad ?_ ?_) ?_
      · exact grad_block m c t _ _
      · exact val_rows m c t _ _
      · exact gate_whole m c t _ _
  · unfold grads
    refine congr (congrArg₂ (grad _ _ _ _) (Fin.ext ?_) (Fin.ext ?_)) (Fin.ext ?_)
    · blk_simp
      simp only [i9 t]
      change y0.val = 0 * 2 + y0.val
      omega
    · blk_simp
      simp only [i9 t, at0]
      rfl
    · blk_simp
      simp only [i9 t, at1]
      rfl

theorem real_args (c : Dev nD) (hp : Pre_FfnActGradIdeal_finite_act m) :
    ((∀ i, Calls.IsReal (m (c.tc.loc main_arg0) i)) ∧ (∀ i, Calls.IsReal (m (c.tc.loc main_arg1) i)))
    ∧ (∀ i, Calls.IsReal (m (c.tc.loc main_arg2) i)) ∧ (∀ i, Calls.IsReal (m (c.tc.loc main_arg3) i)) := by
  have hs : Subsingleton Cert.Pre_finite_act.S_.Idx := ⟨fun a b => funext fun k => k.elim0⟩
  have h := congrFun (hp c) (Shape.Idx.first Cert.Pre_finite_act.Gen.h_S_)
  dsimp only [Cert.Pre_finite_act.fn, Cert.Pre_finite_act.fn_part1] at h
  obtain ⟨h, e3⟩ := Lru.andi_one _ _ h
  obtain ⟨h, e2⟩ := Lru.andi_one _ _ h
  obtain ⟨h, e1⟩ := Lru.andi_one _ _ h
  obtain ⟨h, e0⟩ := Lru.andi_one _ _ h
  exact ⟨⟨fun i => ⟨_, Lru.real_of_lt_inf _ (Host.reduce_andi_all _ _ _ _ _ e0 i)⟩, fun i => ⟨_, Lru.real_of_lt_inf _ (Host.reduce_andi_all _ _ _ _ _ e1 i)⟩⟩,
    fun i => ⟨_, Lru.real_of_lt_inf _ (Host.reduce_andi_all _ _ _ _ _ e2 i)⟩, fun i => ⟨_, Lru.real_of_lt_inf _ (Host.reduce_andi_all _ _ _ _ _ e3 i)⟩⟩

theorem convs_real (x : S4096x6144.Idx → EReal) (w : S3x6144.Idx → EReal) (b : S6144.Idx → EReal) (hx : ∀ i, Calls.IsReal (x i)) (hw : ∀ i, Calls.IsReal (w i))
    (hb : ∀ i, Calls.IsReal (b i)) (r : Fin 4096) (j : Fin 6144) : Calls.IsReal (convs x w b r j) := by
  have hd (k : ℕ) : Calls.IsReal (Calls.delay x k (ix2 r j)) := by
    rw [Calls.delay_ix]
    by_cases h : r.val < k
    · rw [dif_pos h]
      exact ⟨0, rfl⟩
    · rw [dif_neg h]
      exact hx _
  exact (((hb _).add ((hw _).mul (hx _))).add ((hw _).mul (hd 2))).add ((hw _).mul (hd 1))

section Reference

variable (V0 : Valuation Cert.FfnActGradReferenceIdeal.τ Cert.FfnActGradReferenceIdeal.sig (Elt Ideal))

/-- The reference's arguments, as arrays. -/
abbrev dact : S4096x3072.Idx → EReal := V0 (Proc.devRef .tc Cert.FfnActGradReferenceIdeal.main_arg0)
abbrev up : S4096x6144.Idx → EReal := V0 (Proc.devRef .tc Cert.FfnActGradReferenceIdeal.main_arg1)
abbrev tapw : S3x6144.Idx → EReal := V0 (Proc.devRef .tc Cert.FfnActGradReferenceIdeal.main_arg2)
abbrev shift : S6144.Idx → EReal := V0 (Proc.devRef .tc Cert.FfnActGradReferenceIdeal.main_arg3)

theorem ref_convs (r : Fin 4096) (j : Fin 6144) :
    Cert.FfnActGradReferenceIdeal.Value.res_main_v27 (F := Ideal) V0 (ix2 r j) = convs (up V0) (tapw V0) (shift V0) r j := by
  refine Eq.trans ?_ (convs_eq _ _ _ _ _)
  pointwise [Cert.FfnActGradReferenceIdeal.Value.res_main_v27]

theorem half_zero (j : Fin 3072) : (⟨j.val, by omega⟩ : Fin 6144) = half 0 j := Fin.ext (by change j.val = 3072 * 0 + j.val; omega)

theorem ref_gate (r : Fin 4096) (j : Fin 3072) :
    Cert.FfnActGradReferenceIdeal.Value.res_main_v73 (F := Ideal) V0 (ix2 r (⟨j.val, by omega⟩ : Fin 6144))
      = Calls.gateByRules (dact V0 (ix2 r j)) (convs (up V0) (tapw V0) (shift V0) r (half 1 j)) (convs (up V0) (tapw V0) (shift V0) r (half 0 j)) := by
  rw [← ref_convs, ← ref_convs, ← half_zero]
  pointwise [Cert.FfnActGradReferenceIdeal.Value.res_main_v28, Cert.FfnActGradReferenceIdeal.Value.res_main_v29, Cert.FfnActGradReferenceIdeal.Value.res_main_v31, Cert.FfnActGradReferenceIdeal.Value.res_main_v32, Cert.FfnActGradReferenceIdeal.Value.res_main_v41, Cert.FfnActGradReferenceIdeal.Value.res_main_v48, Cert.FfnActGradReferenceIdeal.Value.res_main_v49, Cert.FfnActGradReferenceIdeal.Value.res_main_v51, Cert.FfnActGradReferenceIdeal.Value.res_main_v53, Cert.FfnActGradReferenceIdeal.Value.res_main_v58, Cert.FfnActGradReferenceIdeal.Value.res_main_v62, Cert.FfnActGradReferenceIdeal.Value.res_main_v65, Cert.FfnActGradReferenceIdeal.Value.res_main_v73]
  rfl

theorem ref_val (r : Fin 4096) (j : Fin 3072) :
    Cert.FfnActGradReferenceIdeal.Value.res_main_v73 (F := Ideal) V0 (ix2 r (⟨3072 + j.val, by omega⟩ : Fin 6144))
      = Calls.valByRules (dact V0 (ix2 r j)) (convs (up V0) (tapw V0) (shift V0) r (half 0 j)) := by
  rw [← ref_convs, ← half_zero]
  pointwise [Cert.FfnActGradReferenceIdeal.Value.res_main_v28, Cert.FfnActGradReferenceIdeal.Value.res_main_v29, Cert.FfnActGradReferenceIdeal.Value.res_main_v31, Cert.FfnActGradReferenceIdeal.Value.res_main_v32, Cert.FfnActGradReferenceIdeal.Value.res_main_v41, Cert.FfnActGradReferenceIdeal.Value.res_main_v48, Cert.FfnActGradReferenceIdeal.Value.res_main_v49, Cert.FfnActGradReferenceIdeal.Value.res_main_v51, Cert.FfnActGradReferenceIdeal.Value.res_main_v53, Cert.FfnActGradReferenceIdeal.Value.res_main_v58, Cert.FfnActGradReferenceIdeal.Value.res_main_v62, Cert.FfnActGradReferenceIdeal.Value.res_main_v65, Cert.FfnActGradReferenceIdeal.Value.res_main_v73]
  rfl

theorem ref_eq (hd : ∀ i, Calls.IsReal (dact V0 i)) (hx : ∀ i, Calls.IsReal (up V0 i)) (hw : ∀ i, Calls.IsReal (tapw V0 i)) (hb : ∀ i, Calls.IsReal (shift V0 i))
    (i : Fin 2) (r : Fin 4096) (j : Fin 3072) :
    (if h : i.val < 1 then Cert.FfnActGradReferenceIdeal.Value.res_main_v73 (F := Ideal) V0 (ix2 r (⟨j.val, by omega⟩ : Fin 6144))
      else Cert.FfnActGradReferenceIdeal.Value.res_main_v73 (F := Ideal) V0 (ix2 r (⟨3072 + j.val, by omega⟩ : Fin 6144)))
      = grads (dact V0) (up V0) (tapw V0) (shift V0) (ix3 i r j) := by
  change _ = grad (dact V0) (up V0) (tapw V0) (shift V0) i r j
  rw [ref_gate, ref_val, grad]
  by_cases h : i.val < 1
  · rw [dif_pos h, if_neg (by omega)]
    exact Calls.gate_eq_of_real (hd _) (convs_real _ _ _ hx hw hb _ _) (convs_real _ _ _ hx hw hb _ _)
  · rw [dif_neg h, if_pos (by omega)]
    exact Calls.val_eq_of_real (hd _) (convs_real _ _ _ hx hw hb _ _)

end Reference

/-- The call and its reference leave the same result. -/
theorem algebraic : algebraic_FfnActGradIdeal_FfnActGradReferenceIdeal_pre_finite_act := by
  intro m g m' g' hp ha
  refine ⟨_, (θ_run _ _ _).mono (fun r h c => ⟨(h c).1.trans (final m c), (h c).2⟩) (Value.run_blocks m g), ?_⟩
  refine (θ_run _ _ _).mono (fun r h c => ?_) (Cert.FfnActGradReferenceIdeal.Value.run m' g')
  refine ⟨(h c).1.trans ?_, (h c).2⟩
  clear h
  obtain ⟨h0, h1, h2, h3⟩ := ha c
  obtain ⟨⟨r0, r1⟩, r2, r3⟩ := real_args m c hp
  clear ha
  rw [← h0, ← h1, ← h2, ← h3]
  rw [← h0] at r0
  rw [← h1] at r1
  rw [← h2] at r2
  rw [← h3] at r3
  funext j
  idx_vars j
  refine Eq.trans ?_ (ref_eq (StableHlo.launchContents m' c) r0 r1 r2 r3 j0 j1 j2)
  pointwise

/-- The reference changes none of its arguments. -/
theorem reference_frame : quiescent_FfnActGradReferenceIdeal := fun m ρ _ =>
  (θ_run Cert.FfnActGradReferenceIdeal.defs _ _).mono (fun r h => ⟨fun c => (h c).2, sem_eq_zero_of_no_sems (by decide) r.2⟩)
    (Cert.FfnActGradReferenceIdeal.Value.run m ρ)

end Cert.FfnActGradIdeal.Calls

end
-- ==== Proof.Calls.TapRows.lean ====
/- The gradients of a convolution's taps and shift: a row of a tile of 8 rows each, gathered over blocks of rows. -/
module

public import proofs.«01_k».proof.Proof.Calls.Rows
public import Idealize.ShloMosaic.Lib.Pipeline.ValueKit

@[expose] public section

noncomputable section

namespace Cert.Calls

open Idealize.ShloMosaic

/-- Of one column: `d` and its rows moved up by one and by two, times the rows of the input, and the sum of `d`. -/
def tapGrad {n : ℕ} (d d1 d2 u : Fin n → EReal) (i : Fin 8) : EReal :=
  if i.val = 3 then ∑ r, d r else if i.val = 2 then ∑ r, d r * u r else if i.val = 1 then ∑ r, d1 r * u r else if i.val = 0 then ∑ r, d2 r * u r else 0

theorem sum_blocks (g : Fin 4096 → EReal) : ∑ s : Fin 8, ∑ r : Fin 512, g ⟨s.val * 512 + r.val, by omega⟩ = ∑ r, g r :=
  Fin.sum_mul_add_congr (M := EReal) (S := 8) (n := 512) (F := fun s r => g ⟨s.val * 512 + r.val, by omega⟩) fun _ _ _ => rfl

theorem tapGrad_blocks (d d1 d2 u : Fin 4096 → EReal) (i : Fin 8) (f : Fin 8 → EReal)
    (h : ∀ s : Fin 8, f s = tapGrad (fun r : Fin 512 => d ⟨s.val * 512 + r.val, by omega⟩) (fun r : Fin 512 => d1 ⟨s.val * 512 + r.val, by omega⟩)
      (fun r : Fin 512 => d2 ⟨s.val * 512 + r.val, by omega⟩) (fun r : Fin 512 => u ⟨s.val * 512 + r.val, by omega⟩) i) :
    ∑ s, f s = tapGrad d d1 d2 u i := by
  rw [funext h]
  unfold tapGrad
  by_cases h3 : i.val = 3
  · simp only [if_pos h3]
    exact sum_blocks d
  simp only [if_neg h3]
  by_cases h2 : i.val = 2
  · simp only [if_pos h2]
    exact sum_blocks fun r => d r * u r
  simp only [if_neg h2]
  by_cases h1 : i.val = 1
  · simp only [if_pos h1]
    exact sum_blocks fun r => d1 r * u r
  simp only [if_neg h1]
  by_cases h0 : i.val = 0
  · simp only [if_pos h0]
    exact sum_blocks fun r => d2 r * u r
  simp only [if_neg h0]
  exact Finset.sum_const_zero

/-- A column moved up by `k`, with zeros after the last row. -/
def up {n : ℕ} (x : Fin n → EReal) (k : ℕ) (r : Fin n) : EReal := if h : r.val + k < n then x ⟨r.val + k, h⟩ else 0

/-- A product with a column moved up. -/
theorem sum_up (n k : ℕ) (x u : Fin (n + k) → EReal) : ∑ r : Fin n, x ⟨k + r.val, by omega⟩ * u ⟨r.val, by omega⟩ = ∑ r, up x k r * u r := by
  rw [Fin.sum_univ_add]
  have e : ∑ i : Fin k, up x k (Fin.natAdd n i) * u (Fin.natAdd n i) = 0 := Finset.sum_eq_zero fun i _ => by
    unfold up
    rw [dif_neg (by simp), zero_mul]
  rw [e, add_zero]
  refine Finset.sum_congr rfl fun r _ => congrArg₂ (· * ·) ?_ rfl
  unfold up
  rw [dif_pos (by simp)]
  refine congrArg x (Fin.ext ?_)
  simp [add_comm]

end Cert.Calls

end
-- ==== Proof.Calls.FfnConvGrad.lean ====
/- FfnConvGrad: the gradients of the feed-forward layer's convolution: of its input, block of rows by block of rows, and of its taps and shifts, gathered over the blocks. -/
module

public import proofs.«01_k».proof.Defs
public import proofs.«01_k».proof.Proof.Gen.FfnConvGradIdeal.Value
public import proofs.«01_k».proof.Proof.Gen.FfnConvGradReferenceIdeal.Run
public import proofs.«01_k».proof.Proof.Calls.Rows
public import proofs.«01_k».proof.Proof.Calls.Tile
public import proofs.«01_k».proof.Proof.Calls.TapRows
public import Idealize.ShloMosaic.Lib.Pipeline.ValueKit
public import Idealize.ShloMosaic.Lib.Quiescent

@[expose] public section

set_option maxRecDepth 16384

noncomputable section

namespace Cert.FfnConvGradIdeal.Calls

open Idealize.ShloMosaic Idealize.ShloMosaic.TcCoe
open Cert.FfnConvGradIdeal
open Cert.FfnConvGradIdeal.Gen

variable (m : (ℓ : Loc nD τ sig) → Buf (Elt Ideal) ℓ)

theorem i0 : ∀ t : Fin cfg0.N, win0_0.index t = ![t.val / 8 / 2, t.val % 8, t.val / 8 % 2] := (by decide +kernel : ∀ t : Fin grid0.N, _)
theorem i1 : ∀ t : Fin cfg0.N, win0_1.index t = ![t.val / 8 / 2, min (t.val % 8 * 32 + 32) 255, t.val / 8 % 2] := (by decide +kernel : ∀ t : Fin grid0.N, _)
theorem i2 : ∀ t : Fin cfg0.N, win0_2.index t = ![t.val % 8, t.val / 8] := (by decide +kernel : ∀ t : Fin grid0.N, _)
theorem i3 : ∀ t : Fin cfg0.N, win0_3.index t = ![0, t.val / 8] := (by decide +kernel : ∀ t : Fin grid0.N, _)
theorem i4 : ∀ t : Fin cfg0.N, win0_4.index t = ![t.val % 8, t.val / 8] := (by decide +kernel : ∀ t : Fin grid0.N, _)
theorem i5 : ∀ t : Fin cfg0.N, win0_5.index t = ![0, t.val / 8] := (by decide +kernel : ∀ t : Fin grid0.N, _)
theorem row : ∀ t : Fin cfg0.N, (grid0.coords t 2).val = t.val % 8 := (by decide +kernel : ∀ t : Fin grid0.N, _)

/-- A place of a block among the whole rows. -/
def at0 (t : Fin cfg0.N) (r : Fin 512) : Fin 4096 := ⟨t.val % 8 * 512 + r.val, by omega⟩
def at1 (t : Fin cfg0.N) (j : Fin 1536) : Fin 6144 := ⟨t.val / 8 * 1536 + j.val, by have := t.isLt; change t.val < 32 at this; omega⟩

/-- The halves of the columns side by side. -/
def joined (d : S2x4096x3072.Idx → EReal) (j : Fin 6144) (r : Fin 4096) : EReal :=
  d (ix3 (⟨j.val / 3072, by omega⟩ : Fin 2) r (⟨j.val % 3072, by omega⟩ : Fin 3072))

theorem joined_block (c : Dev nD) (t : Fin cfg0.N) (r : Fin 512) (j : Fin 1536) :
    iblk (F := Ideal) m c 0 t (ix3 0 r j) = joined (m (c.tc.loc main_arg0)) (at1 t j) (at0 t r) := by
  have := t.isLt
  change t.val < 32 at this
  unfold joined
  blk_ext [iblk, V, at0, at1, i0 t]

theorem pay4_eq (c : Dev nD) (t : Fin cfg0.N) (r : Fin 512) (j : Fin 1536) :
    k0_pay4 (iblk (F := Ideal) m c 0 t) (ix2 r j) = joined (m (c.tc.loc main_arg0)) (at1 t j) (at0 t r) := by
  refine Eq.trans ?_ (joined_block m c t r j)
  pointwise [k0_pay4]

/-- The rows of a block moved up. -/
theorem above_block (c : Dev nD) (t : Fin cfg0.N) (k : ℕ) (hk : k < 8) (r : Fin 512) (j : Fin 1536) :
    Calls.above k hk (fun r => iblk (F := Ideal) m c 0 t (ix3 0 r j)) (fun r => if (grid0.coords t 2).val = 7 then 0 else iblk (F := Ideal) m c 1 t (ix3 0 r j)) r
      = Calls.up (joined (m (c.tc.loc main_arg0)) (at1 t j)) k (at0 t r) := by
  have := t.isLt
  change t.val < 32 at this
  unfold Calls.above Calls.up
  rw [row t]
  by_cases h : r.val + k < 512
  · rw [dif_pos h, dif_pos (show (at0 t r).val + k < 4096 by unfold at0; dsimp only; omega)]
    refine (joined_block m c t _ j).trans (congrArg (joined _ _) (Fin.ext ?_))
    unfold at0
    dsimp only
    omega
  · rw [dif_neg h]
    by_cases h7 : t.val % 8 = 7
    · rw [dif_neg (show ¬ (at0 t r).val + k < 4096 by unfold at0; dsimp only; omega)]
      exact if_pos h7
    · rw [dif_pos (show (at0 t r).val + k < 4096 by unfold at0; dsimp only; omega)]
      refine (if_neg h7).trans ?_
      unfold joined
      blk_ext [iblk, V, at0, at1, i1 t]

theorem pay5_eq (c : Dev nD) (t : Fin cfg0.N) (r : Fin 512) (j : Fin 1536) :
    k0_pay5 (grid0.coords t) (iblk (F := Ideal) m c 1 t) (iblk (F := Ideal) m c 0 t) (ix2 r j) = Calls.up (joined (m (c.tc.loc main_arg0)) (at1 t j)) 1 (at0 t r) := by
  have hi : (grid0.coords t 2).val < 4294967296 := lt_of_lt_of_le (grid0.coords t 2).isLt (by decide)
  refine Eq.trans ?_ ((Calls.above_eq 1 7 rfl (by omega) (by omega) (fun r => iblk (F := Ideal) m c 0 t (ix3 0 r j)) (fun r => iblk (F := Ideal) m c 1 t (ix3 0 r j)) _ hi r).trans
    (above_block m c t 1 (by omega) r j))
  pointwise [k0_pay5, k0_pay2, k0_pay3, k0_pay4]

theorem pay6_eq (c : Dev nD) (t : Fin cfg0.N) (r : Fin 512) (j : Fin 1536) :
    k0_pay6 (grid0.coords t) (iblk (F := Ideal) m c 1 t) (iblk (F := Ideal) m c 0 t) (ix2 r j) = Calls.up (joined (m (c.tc.loc main_arg0)) (at1 t j)) 2 (at0 t r) := by
  have hi : (grid0.coords t 2).val < 4294967296 := lt_of_lt_of_le (grid0.coords t 2).isLt (by decide)
  refine Eq.trans ?_ ((Calls.above_eq 2 6 rfl (by omega) (by omega) (fun r => iblk (F := Ideal) m c 0 t (ix3 0 r j)) (fun r => iblk (F := Ideal) m c 1 t (ix3 0 r j)) _ hi r).trans
    (above_block m c t 2 (by omega) r j))
  pointwise [k0_pay6, k0_pay2, k0_pay3, k0_pay4]

theorem up_block (c : Dev nD) (t : Fin cfg0.N) (r : Fin 512) (j : Fin 1536) :
    iblk (F := Ideal) m c 2 t (ix2 r j) = m (c.tc.loc main_arg1) (ix2 (at0 t r) (at1 t j)) := by
  blk_ext [iblk, V, at0, at1, i2 t]

theorem tap_block (c : Dev nD) (t : Fin cfg0.N) (k : Fin 3) (j : Fin 1536) :
    iblk (F := Ideal) m c 3 t (ix2 k j) = m (c.tc.loc main_arg2) (ix2 k (at1 t j)) := by
  blk_ext [iblk, V, at1, i3 t]

theorem pay7_eq (a b d : FVec Ideal S512x1536 .f32) (x y z : Vec Ideal S1x1536 .f32) (r : Fin 512) (j : Fin 1536) :
    k0_pay7 a b d x y z (ix2 r j) = x (ix2 0 j) * a (ix2 r j) + y (ix2 0 j) * d (ix2 r j) + z (ix2 0 j) * b (ix2 r j) := by
  pointwise [k0_pay7]

/-- The gradient of the convolution's input. -/
def input (d : S2x4096x3072.Idx → EReal) (w : S3x6144.Idx → EReal) (r : Fin 4096) (j : Fin 6144) : EReal :=
  w (ix2 2 j) * joined d j r + w (ix2 0 j) * Calls.up (joined d j) 2 r + w (ix2 1 j) * Calls.up (joined d j) 1 r

def inputs (d : S2x4096x3072.Idx → EReal) (w : S3x6144.Idx → EReal) : S4096x6144.Idx → EReal := fun y =>
  input d w ⟨(y 0).val, (y 0).isLt⟩ ⟨(y 1).val, (y 1).isLt⟩

theorem final4 (c : Dev nD) : (dats (F := Ideal) m 0 c).arrAt 4 cfg0.N = inputs (m (c.tc.loc main_arg0)) (m (c.tc.loc main_arg2)) := by
  refine (dats m 0 c).arrAt_eq_of_covers 4 _ (by decide +kernel) fun t hf y => ?_
  blk_simp
  idx_vars y
  have e : (outsAt0 (F := Ideal) m c t.val t.isLt).1 (ix2 y0 y1) = input (m (c.tc.loc main_arg0)) (m (c.tc.loc main_arg2)) (at0 t y0) (at1 t y1) := by
    have e (a b d : FVec Ideal S512x1536 .f32) (x y z : Vec Ideal S1x1536 .f32) (a' b' d' x' y' z' : EReal) (ha : a (ix2 y0 y1) = a') (hb : b (ix2 y0 y1) = b') (hd : d (ix2 y0 y1) = d')
        (hx : x (ix2 0 y1) = x') (hy : y (ix2 0 y1) = y') (hz : z (ix2 0 y1) = z') : k0_pay7 a b d x y z (ix2 y0 y1) = x' * a' + y' * d' + z' * b' := by
      rw [pay7_eq, ha, hb, hd, hx, hy, hz]
    by_cases h : t.val % 8 = 0
    · rw [outsAt0_A m c t h]
      frame_out
      exact e _ _ _ _ _ _ _ _ _ _ _ _ (pay4_eq m c t y0 y1) (pay5_eq m c t y0 y1) (pay6_eq m c t y0 y1)
        ((Calls.ld_row _ _ _ 2 rfl _).trans (tap_block m c t 2 y1)) ((Calls.ld_row _ _ _ 0 rfl _).trans (tap_block m c t 0 y1)) ((Calls.ld_row _ _ _ 1 rfl _).trans (tap_block m c t 1 y1))
    · rw [outsAt0_B m c t h]
      frame_out
      exact e _ _ _ _ _ _ _ _ _ _ _ _ (pay4_eq m c t y0 y1) (pay5_eq m c t y0 y1) (pay6_eq m c t y0 y1)
        ((Calls.ld_row _ _ _ 2 rfl _).trans (tap_block m c t 2 y1)) ((Calls.ld_row _ _ _ 0 rfl _).trans (tap_block m c t 0 y1)) ((Calls.ld_row _ _ _ 1 rfl _).trans (tap_block m c t 1 y1))
  rw [after0_4]
  refine e.trans ?_
  unfold inputs
  refine congrArg₂ (input _ _) (Fin.ext ?_) (Fin.ext ?_)
  · blk_simp
    simp only [i4 t, at0]
    rfl
  · blk_simp
    simp only [i4 t, at1]
    rfl

theorem row0 (a b : FVec Ideal S512x1536 .f32) (x : Vec Ideal S1x1536 .f32) (j : Fin 1536) : k0_pay8 a b x (ix2 0 j) = x (ix2 0 j) + ∑ r, b (ix2 r j) * a (ix2 r j) := by
  pointwise [k0_pay8]
theorem row1 (a b : FVec Ideal S512x1536 .f32) (x : Vec Ideal S1x1536 .f32) (j : Fin 1536) : k0_pay9 a b x (ix2 0 j) = x (ix2 0 j) + ∑ r, b (ix2 r j) * a (ix2 r j) := by
  pointwise [k0_pay9]
theorem row2 (a b : FVec Ideal S512x1536 .f32) (x : Vec Ideal S1x1536 .f32) (j : Fin 1536) : k0_pay10 a b x (ix2 0 j) = x (ix2 0 j) + ∑ r, a (ix2 r j) * b (ix2 r j) := by
  pointwise [k0_pay10]
theorem row3 (a : FVec Ideal S512x1536 .f32) (x : Vec Ideal S1x1536 .f32) (j : Fin 1536) : k0_pay1 a x (ix2 0 j) = x (ix2 0 j) + ∑ r, a (ix2 r j) := by
  pointwise [k0_pay1]

/-- What a point adds to the tile. -/
def part (c : Dev nD) (t : Fin cfg0.N) : S8x1536.Idx → EReal := fun y =>
  Calls.tapGrad (fun r : Fin 512 => k0_pay4 (iblk (F := Ideal) m c 0 t) (ix2 r (⟨(y 1).val, (y 1).isLt⟩ : Fin 1536)))
    (fun r => k0_pay5 (grid0.coords t) (iblk (F := Ideal) m c 1 t) (iblk (F := Ideal) m c 0 t) (ix2 r (⟨(y 1).val, (y 1).isLt⟩ : Fin 1536)))
    (fun r => k0_pay6 (grid0.coords t) (iblk (F := Ideal) m c 1 t) (iblk (F := Ideal) m c 0 t) (ix2 r (⟨(y 1).val, (y 1).isLt⟩ : Fin 1536)))
    (fun r => iblk (F := Ideal) m c 2 t (ix2 r (⟨(y 1).val, (y 1).isLt⟩ : Fin 1536))) ⟨(y 0).val, (y 0).isLt⟩

theorem part_ix (c : Dev nD) (t : Fin cfg0.N) (i : Fin 8) (j : Fin 1536) :
    part m c t (ix2 i j) = Calls.tapGrad (fun r : Fin 512 => k0_pay4 (iblk (F := Ideal) m c 0 t) (ix2 r j))
      (fun r => k0_pay5 (grid0.coords t) (iblk (F := Ideal) m c 1 t) (iblk (F := Ideal) m c 0 t) (ix2 r j))
      (fun r => k0_pay6 (grid0.coords t) (iblk (F := Ideal) m c 1 t) (iblk (F := Ideal) m c 0 t) (ix2 r j))
      (fun r => iblk (F := Ideal) m c 2 t (ix2 r j)) i := rfl

theorem acc (c : Dev nD) (t : Fin cfg0.N) (h : t.val % 8 = 7) (y : S8x1536.Idx) :
    (outsAt0 (F := Ideal) m c t.val t.isLt).2 y
      = 0 + ∑ s : Fin 8, part m c ⟨8 * (t.val / 8) + s.val, Pipeline.run_point_lt_of_flush t h s⟩ y := by
  refine Pipeline.eq_sum_fin_of_reset_step_apply_of_flush (fun n h => (outsAt0 (F := Ideal) m c n h).2) 8
    (fun _ => 0) (part m c) (fun t h y => ?_) (fun t h y => ?_) t h y
  · rw [outsAt0_A m c t h]
    frame_out
    idx_vars y
    simp (disch := decide) only [View.readCov_skip, View.readCov_fill]
    refine (Calls.canon_row _ _ _ _ _ _).trans ?_
    rw [Calls.canon_row, Calls.canon_row, Calls.canon_row, Calls.canon_fill, part_ix, Calls.tapGrad]
    by_cases h3 : y0.val = 3
    · rw [if_pos h3, if_pos h3]
      refine (row3 _ _ _).trans (congrArg (· + _) ?_)
      pointwise [k0_pay2]
    rw [if_neg h3, if_neg h3]
    by_cases h2 : y0.val = 2
    · rw [if_pos h2, if_pos h2]
      refine (row2 _ _ _ _).trans (congrArg (· + _) ?_)
      pointwise [k0_pay2]
    rw [if_neg h2, if_neg h2]
    by_cases h1 : y0.val = 1
    · rw [if_pos h1, if_pos h1]
      refine (row1 _ _ _ _).trans (congrArg (· + _) ?_)
      pointwise [k0_pay2]
    rw [if_neg h1, if_neg h1]
    by_cases h0 : y0.val = 0
    · rw [if_pos h0, if_pos h0]
      refine (row0 _ _ _ _).trans (congrArg (· + _) ?_)
      pointwise [k0_pay2]
    rw [if_neg h0, if_neg h0]
    pointwise [k0_pay2]
  · rw [outsAt0_B m c t h]
    frame_out
    idx_vars y
    rw [part_ix, Calls.tapGrad]
    refine (Calls.read_row _ _ _ _ _ _ _ _).trans ?_
    by_cases h3 : y0.val = 3
    · rw [if_pos h3, if_pos h3]
      exact (row3 _ _ _).trans (congrArg (· + _) (Calls.ld_row _ _ _ y0 h3 _))
    rw [if_neg h3, if_neg h3]
    refine (Calls.read_row _ _ _ _ _ _ _ _).trans ?_
    by_cases h2 : y0.val = 2
    · rw [if_pos h2, if_pos h2]
      exact (row2 _ _ _ _).trans (congrArg (· + _) (Calls.ld_row _ _ _ y0 h2 _))
    rw [if_neg h2, if_neg h2]
    refine (Calls.read_row _ _ _ _ _ _ _ _).trans ?_
    by_cases h1 : y0.val = 1
    · rw [if_pos h1, if_pos h1]
      exact (row1 _ _ _ _).trans (congrArg (· + _) (Calls.ld_row _ _ _ y0 h1 _))
    rw [if_neg h1, if_neg h1]
    refine (Calls.read_row _ _ _ _ _ _ _ _).trans ?_
    by_cases h0 : y0.val = 0
    · rw [if_pos h0, if_pos h0]
      exact (row0 _ _ _ _).trans (congrArg (· + _) (Calls.ld_row _ _ _ y0 h0 _))
    rw [if_neg h0, if_neg h0, add_zero]
    exact congrFun (Memref.IsWhole.read_unread _ _) _

/-- The gradients of the taps and of the shifts. -/
def tap (d : S2x4096x3072.Idx → EReal) (u : S4096x6144.Idx → EReal) (i : Fin 8) (j : Fin 6144) : EReal :=
  Calls.tapGrad (joined d j) (Calls.up (joined d j) 1) (Calls.up (joined d j) 2) (fun r => u (ix2 r j)) i

def taps (d : S2x4096x3072.Idx → EReal) (u : S4096x6144.Idx → EReal) : S8x6144.Idx → EReal := fun y =>
  tap d u ⟨(y 0).val, (y 0).isLt⟩ ⟨(y 1).val, (y 1).isLt⟩

theorem final5 (c : Dev nD) : (dats (F := Ideal) m 0 c).arrAt 5 cfg0.N = taps (m (c.tc.loc main_arg0)) (m (c.tc.loc main_arg1)) := by
  refine (dats m 0 c).arrAt_eq_of_covers 5 _ (by decide +kernel) fun t hf y => ?_
  blk_simp
  have h3 : t.val % 8 = 7 := (flush0_5 t).mp hf
  rw [after0_5, acc m c t h3, zero_add]
  idx_vars y
  have e : tap (m (c.tc.loc main_arg0)) (m (c.tc.loc main_arg1)) y0 (at1 t y1)
      = taps (m (c.tc.loc main_arg0)) (m (c.tc.loc main_arg1)) (((cfg0.win 5).blk t).view.emb (ix2 y0 y1)) := by
    unfold taps
    refine congrArg₂ (tap _ _) (Fin.ext ?_) (Fin.ext ?_)
    · blk_simp
      simp only [i5 t]
      change y0.val = 0 * 8 + y0.val
      omega
    · blk_simp
      simp only [i5 t, at1]
      rfl
  refine Eq.trans ?_ e
  unfold tap
  refine Calls.tapGrad_blocks _ _ _ _ y0 _ fun s => ?_
  have e0 (r : Fin 512) : at0 ⟨8 * (t.val / 8) + s.val, Pipeline.run_point_lt_of_flush t h3 s⟩ r = ⟨s.val * 512 + r.val, by omega⟩ := by
    apply Fin.ext
    change (8 * (t.val / 8) + s.val) % 8 * 512 + r.val = s.val * 512 + r.val
    omega
  have e1 : at1 ⟨8 * (t.val / 8) + s.val, Pipeline.run_point_lt_of_flush t h3 s⟩ y1 = at1 t y1 := by
    apply Fin.ext
    change (8 * (t.val / 8) + s.val) / 8 * 1536 + y1.val = t.val / 8 * 1536 + y1.val
    omega
  rw [part_ix]
  refine congr (congr (congr (congr (congrArg Calls.tapGrad (funext fun r => ?_)) (funext fun r => ?_)) (funext fun r => ?_)) (funext fun r => ?_)) rfl
  · rw [pay4_eq m c, e0, e1]
  · rw [pay5_eq m c, e0, e1]
  · rw [pay6_eq m c, e0, e1]
  · rw [up_block m c, e0, e1]

theorem joined_ite (d : S2x4096x3072.Idx → EReal) (j : Fin 6144) (r : Fin 4096) :
    (if h : j.val < 3072 then d (ix3 (0 : Fin 2) r (⟨j.val, h⟩ : Fin 3072)) else d (ix3 (1 : Fin 2) r (⟨j.val - 3072, by omega⟩ : Fin 3072))) = joined d j r := by
  unfold joined
  by_cases h : j.val < 3072
  · rw [dif_pos h]
    refine congrArg₂ (fun a b => d (ix3 a r b)) (Fin.ext ?_) (Fin.ext ?_)
    · change 0 = j.val / 3072
      omega
    · dsimp only
      omega
  · rw [dif_neg h]
    refine congrArg₂ (fun a b => d (ix3 a r b)) (Fin.ext ?_) (Fin.ext ?_)
    · change 1 = j.val / 3072
      omega
    · dsimp only
      omega

theorem ref4 (d : S2x4096x3072.Idx → EReal) (w : S3x6144.Idx → EReal) (r : Fin 4096) (j : Fin 6144) :
    ((w (ix2 2 j) * if h : j.val < 3072 then d (ix3 (0 : Fin 2) r (⟨j.val, h⟩ : Fin 3072)) else d (ix3 (1 : Fin 2) r (⟨j.val - 3072, by omega⟩ : Fin 3072)))
      + if h : r.val < 4095 then w (ix2 1 j) * if h1 : j.val < 3072 then d (ix3 (0 : Fin 2) (⟨1 + r.val, by omega⟩ : Fin 4096) (⟨j.val, h1⟩ : Fin 3072))
            else d (ix3 (1 : Fin 2) (⟨1 + r.val, by omega⟩ : Fin 4096) (⟨j.val - 3072, by omega⟩ : Fin 3072)) else 0)
      + (if h : r.val < 4094 then w (ix2 0 j) * if h1 : j.val < 3072 then d (ix3 (0 : Fin 2) (⟨2 + r.val, by omega⟩ : Fin 4096) (⟨j.val, h1⟩ : Fin 3072))
            else d (ix3 (1 : Fin 2) (⟨2 + r.val, by omega⟩ : Fin 4096) (⟨j.val - 3072, by omega⟩ : Fin 3072)) else 0)
      = inputs d w (ix2 r j) := by
  change _ = input d w r j
  unfold input
  have up_eq (k : ℕ) (z : EReal) : (if h : r.val < 4096 - k then z * joined d j ⟨k + r.val, by omega⟩ else 0) = z * Calls.up (joined d j) k r := by
    unfold Calls.up
    by_cases h : r.val < 4096 - k
    · rw [dif_pos h, dif_pos (by omega)]
      exact congrArg (z * joined d j ·) (Fin.ext (Nat.add_comm _ _))
    · rw [dif_neg h, dif_neg (by omega), mul_zero]
  rw [joined_ite]
  simp only [joined_ite]
  exact (congrArg₂ (· + ·) (congrArg (w (ix2 2 j) * joined d j r + ·) (up_eq 1 (w (ix2 1 j)))) (up_eq 2 (w (ix2 0 j)))).trans (add_right_comm _ _ _)

theorem ref5 (d : S2x4096x3072.Idx → EReal) (u : S4096x6144.Idx → EReal) (i : Fin 8) (j : Fin 6144) :
    (if h : i.val < 3 then
      ((if h : 2 ≤ i.val ∧ i.val - 2 < 1 then ∑ _x : Fin 1, ∑ r : Fin 4096, joined d j r * u (ix2 r j) else 0)
        + if h : 1 ≤ i.val ∧ i.val - 1 < 1 then ∑ _x : Fin 1, ((∑ r : Fin 1, joined d j 0 * 0)
            + ∑ r : Fin 4095, joined d j ⟨1 + r.val, by omega⟩ * u (ix2 (⟨r.val, by omega⟩ : Fin 4096) j)) else 0)
        + (if h : i.val < 1 then ∑ _x : Fin 1, ((∑ r : Fin 2, joined d j ⟨r.val, by omega⟩ * 0)
            + ∑ r : Fin 4094, joined d j ⟨2 + r.val, by omega⟩ * u (ix2 (⟨r.val, by omega⟩ : Fin 4096) j)) else 0)
      else if h : i.val - 3 < 1 then ∑ _x : Fin 1, ∑ r : Fin 4096, joined d j r else 0)
      = taps d u (ix2 i j) := by
  change _ = tap d u i j
  unfold tap Calls.tapGrad
  simp only [mul_zero, Finset.sum_const_zero, zero_add, Fin.sum_univ_one]
  by_cases h3 : i.val = 3
  · rw [dif_neg (by omega), dif_pos (by omega), if_pos h3]
  rw [if_neg h3]
  by_cases h2 : i.val = 2
  · rw [dif_pos (by omega), dif_pos (by omega), dif_neg (by omega), dif_neg (by omega), if_pos h2, add_zero, add_zero]
  rw [if_neg h2]
  by_cases h1 : i.val = 1
  · rw [dif_pos (by omega), dif_neg (by omega), dif_pos (by omega), dif_neg (by omega), if_pos h1, zero_add, add_zero]
    exact Calls.sum_up 4095 1 (joined d j) (fun r => u (ix2 r j))
  rw [if_neg h1]
  by_cases h0 : i.val = 0
  · rw [dif_pos (by omega), dif_neg (by omega), dif_neg (by omega), dif_pos (by omega), if_pos h0, add_zero, zero_add]
    exact Calls.sum_up 4094 2 (joined d j) (fun r => u (ix2 r j))
  rw [dif_neg (by omega), dif_neg (by omega), if_neg h0]

theorem second (m' : (ℓ : Loc Cert.FfnConvGradReferenceIdeal.nD Cert.FfnConvGradReferenceIdeal.τ Cert.FfnConvGradReferenceIdeal.sig) → Buf (Elt Ideal) ℓ) (c : Dev Cert.FfnConvGradReferenceIdeal.nD) :
    Cert.FfnConvGradReferenceIdeal.Value.res_main_v76 (F := Ideal) m' c
      = taps (m' (c.tc.loc Cert.FfnConvGradReferenceIdeal.main_arg0)) (m' (c.tc.loc Cert.FfnConvGradReferenceIdeal.main_arg1)) := by
  funext j
  idx_vars j
  refine Eq.trans ?_ (ref5 _ _ _ _)
  pointwise [Cert.FfnConvGradReferenceIdeal.Value.res_main_v76]
  simp only [joined_ite]

/-- The call and its reference leave the same results. -/
theorem algebraic : algebraic_FfnConvGradIdeal_FfnConvGradReferenceIdeal := by
  intro m g m' g' _ ha
  refine ⟨_, _, (θ_run _ _ _).mono (fun r h c => ⟨(h c).1.trans (final4 m c), (h c).2.1.trans (final5 m c), (h c).2.2⟩) (Value.run_blocks m g), ?_⟩
  refine (θ_run _ _ _).mono (fun r h c => ?_) (Cert.FfnConvGradReferenceIdeal.Value.run m' g')
  refine ⟨(h c).1.trans ?_, (h c).2.1.trans ?_, (h c).2.2⟩ <;> clear h
  · obtain ⟨h0, h1, h2, -⟩ := ha c
    clear ha
    funext j
    idx_vars j
    pointwise
    exact (ref4 _ _ _ _).trans (congrFun (congrArg₂ inputs h0 h2) _)
  · obtain ⟨h0, h1, h2, -⟩ := ha c
    clear ha
    exact (second m' c).trans (congrArg₂ taps h0 h1)

/-- The reference changes none of its arguments. -/
theorem reference_frame : quiescent_FfnConvGradReferenceIdeal := fun m ρ _ =>
  (θ_run Cert.FfnConvGradReferenceIdeal.defs _ _).mono (fun r h => ⟨fun c => (h c).2.2, sem_eq_zero_of_no_sems (by decide) r.2⟩)
    (Cert.FfnConvGradReferenceIdeal.Value.run m ρ)

end Cert.FfnConvGradIdeal.Calls

end
-- ==== Proof.Calls.NormRows.lean ====
/- The gradient of the layer normalisation of a row: as the kernel writes it, and as the derivative of the normalisation is printed. -/
module

public import proofs.«01_k».proof.Proof.Lru.Consts
public import proofs.«01_k».proof.Proof.Products.Sums
public import Idealize.ShloMosaic.Lib.Pipeline.ValueKit

@[expose] public section

noncomputable section

namespace Cert.Calls

open Idealize.ShloMosaic

theorem ofBits_width : Ideal.ofBits .f32 1149239296#32 = ((1024 : ℝ) : EReal) := by
  simp [Ideal.ofBits, Ideal.ieee, -EReal.coe_mul]; norm_num
theorem ofBits_eps : Ideal.ofBits .f32 925353388#32 = ((10995116 / 1099511627776 : ℝ) : EReal) := by
  simp [Ideal.ofBits, Ideal.ieee, -EReal.coe_mul]; norm_num
theorem ofBits_neg_half : Ideal.ofBits .f32 3204448256#32 = ((-(1 / 2) : ℝ) : EReal) := by
  simp [Ideal.ofBits, Ideal.ieee, -EReal.coe_mul]; norm_num
theorem ofBits_two : Ideal.ofBits .f32 1073741824#32 = ((2 : ℝ) : EReal) := by
  simp [Ideal.ofBits, Ideal.ieee, -EReal.coe_mul]; norm_num
theorem ofBits_alpha : Ideal.ofBits .f32 1068827891#32 = ((11863283 / 8388608 : ℝ) : EReal) := by
  simp [Ideal.ofBits, Ideal.ieee, -EReal.coe_mul]; norm_num

theorem div_real (a : ℝ) {b : ℝ} (hb : b ≠ 0) : Ideal.div (a : EReal) (b : EReal) = ((a / b : ℝ) : EReal) := by
  rw [Ideal.div_coe hb, ← EReal.coe_mul, mul_one_div]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha h => rw [Finset.sum_insert ha, Finset.sum_insert ha, h, EReal.coe_add]

theorem neg_real (a : ℝ) : -(a : EReal) = ((-a : ℝ) : EReal) := (EReal.coe_neg a).symm

/-- The mean of a row, its deviations' mean square, and one over the square root of that and a small number. -/
def mean (x : Fin 1024 → EReal) : EReal := Ideal.div (∑ k, x k) (Ideal.ofBits .f32 1149239296#32)
def var (x : Fin 1024 → EReal) : EReal := mean fun k => (x k - mean x) * (x k - mean x)
def inv (x : Fin 1024 → EReal) : EReal := Ideal.rsqrt (var x + Ideal.ofBits .f32 925353388#32)

/-- The gradient of a row `z`, of the gradient `y` of its normalised row times the gains `g`. -/
def normGrad (y z g : Fin 1024 → EReal) (j : Fin 1024) : EReal :=
  inv z * (y j * g j - mean (fun k => y k * g k) - (z j - mean z) * inv z * mean fun k => y k * g k * ((z k - mean z) * inv z))

/-- The same by the rules for the derivatives of the operations. -/
def varGrad (y z g : Fin 1024 → EReal) : EReal :=
  ∑ _k : Fin 1, Ideal.div ((∑ k, (z k - mean z) * (y k * g k))
    * (Ideal.ofBits .f32 3204448256#32 * Ideal.div (inv z) (var z + Ideal.ofBits .f32 925353388#32))) (Ideal.ofBits .f32 1149239296#32)
def normGradByRules (y z g : Fin 1024 → EReal) (j : Fin 1024) : EReal :=
  y j * g j * inv z + varGrad y z g * (Ideal.ofBits .f32 1073741824#32 * (z j - mean z))
    + ∑ _k : Fin 1, Ideal.div ((∑ k, -(y k * g k * inv z)) + ∑ k, -(varGrad y z g * (Ideal.ofBits .f32 1073741824#32 * (z k - mean z))))
        (Ideal.ofBits .f32 1149239296#32)

theorem mean_coe (f : Fin 1024 → ℝ) : mean (fun k => ((f k : ℝ) : EReal)) = (((∑ k, f k) / 1024 : ℝ) : EReal) := by
  rw [mean, coe_sum, ofBits_width, div_real _ (by norm_num)]

theorem real_identity (y z g : Fin 1024 → ℝ) (M P I : ℝ) (hM : M = (∑ k, z k) / 1024) (hI : I * I * P = 1) (j : Fin 1024) :
    y j * g j * I + (∑ k, (z k - M) * (y k * g k)) * (-(1 / 2) * (I / P)) / 1024 * (2 * (z j - M))
      + ((∑ k, -(y k * g k * I)) + ∑ k, -((∑ k, (z k - M) * (y k * g k)) * (-(1 / 2) * (I / P)) / 1024 * (2 * (z k - M)))) / 1024
    = I * (y j * g j - (∑ k, y k * g k) / 1024 - (z j - M) * I * ((∑ k, y k * g k * ((z k - M) * I)) / 1024)) := by
  have hP : P ≠ 0 := by rintro rfl; simp at hI
  have hIP : I / P = I * I * I := by
    rw [div_eq_iff hP]
    linear_combination (-I) * hI
  have hd : ∑ k, (z k - M) = 0 := by
    rw [Finset.sum_sub_distrib, hM]
    simp
    ring
  have h1 : ∑ k, y k * g k * ((z k - M) * I) = (∑ k, (z k - M) * (y k * g k)) * I := by
    rw [Finset.sum_mul]
    exact Finset.sum_congr rfl fun k _ => by ring
  have h2 : ∑ k, -(y k * g k * I) = -((∑ k, y k * g k) * I) := by
    rw [Finset.sum_neg_distrib, Finset.sum_mul]
  have h3 (C : ℝ) : ∑ k, -(C * (2 * (z k - M))) = 0 := by
    rw [Finset.sum_neg_distrib, ← Finset.mul_sum, ← Finset.mul_sum, hd]
    ring
  rw [h1, h2, h3, hIP]
  ring

/-- Over real numbers the two are equal. -/
theorem normGrad_eq (y z g : Fin 1024 → EReal) (hy : ∀ k, y k = (((y k).toReal : ℝ) : EReal)) (hz : ∀ k, z k = (((z k).toReal : ℝ) : EReal))
    (hg : ∀ k, g k = (((g k).toReal : ℝ) : EReal)) (j : Fin 1024) : normGradByRules y z g j = normGrad y z g j := by
  obtain ⟨y, rfl⟩ : ∃ f : Fin 1024 → ℝ, y = fun k => ((f k : ℝ) : EReal) := ⟨_, funext hy⟩
  obtain ⟨z, rfl⟩ : ∃ f : Fin 1024 → ℝ, z = fun k => ((f k : ℝ) : EReal) := ⟨_, funext hz⟩
  obtain ⟨g, rfl⟩ : ∃ f : Fin 1024 → ℝ, g = fun k => ((f k : ℝ) : EReal) := ⟨_, funext hg⟩
  clear hy hz hg
  have hm := mean_coe z
  generalize hM : (∑ k, z k) / 1024 = M at hm
  have hv : var (fun k => ((z k : ℝ) : EReal)) = (((∑ k, (z k - M) * (z k - M)) / 1024 : ℝ) : EReal) := by
    rw [var, hm]
    simp only [← EReal.coe_sub, ← EReal.coe_mul, mean_coe]
  have hP : 0 < (∑ k, (z k - M) * (z k - M)) / 1024 + 10995116 / 1099511627776 :=
    add_pos_of_nonneg_of_pos (div_nonneg (Finset.sum_nonneg fun k _ => mul_self_nonneg _) (by norm_num)) (by norm_num)
  generalize (∑ k, (z k - M) * (z k - M)) / 1024 = v at hv hP
  have hi : inv (fun k => ((z k : ℝ) : EReal)) = (((Real.sqrt (v + 10995116 / 1099511627776))⁻¹ : ℝ) : EReal) := by
    rw [inv, hv, ofBits_eps, ← EReal.coe_add, Ideal.rsqrt_coe, if_neg (not_lt.mpr hP.le), if_neg hP.ne']
  have hI : (Real.sqrt (v + 10995116 / 1099511627776))⁻¹ * (Real.sqrt (v + 10995116 / 1099511627776))⁻¹ * (v + 10995116 / 1099511627776) = 1 := by
    rw [← mul_inv, Real.mul_self_sqrt hP.le, inv_mul_cancel₀ hP.ne']
  generalize (Real.sqrt (v + 10995116 / 1099511627776))⁻¹ = I at hi hI
  unfold normGradByRules varGrad normGrad
  rw [hm, hi, hv, ofBits_eps, ofBits_neg_half, ofBits_two, ofBits_width, ← EReal.coe_add, div_real _ hP.ne']
  simp only [← EReal.coe_sub, ← EReal.coe_mul, mean_coe, coe_sum, neg_real, div_real _ (show (1024 : ℝ) ≠ 0 by norm_num), Fin.sum_univ_one, ← EReal.coe_add]
  exact congrArg _ (real_identity y z g M _ I hM.symm hI j)

/-- The gradients of the gains (row 0) and of the shifts (row 1) over some rows, in a tile of 8 rows. -/
def gainGrad {n : ℕ} (y z : Fin n → Fin 1024 → EReal) (i : Fin 8) (j : Fin 1024) : EReal :=
  if i.val = 1 then ∑ r, y r j else if i.val = 0 then ∑ r, y r j * ((z r j - mean (z r)) * inv (z r)) else 0

/-- They are gathered block of rows by block of rows. -/
theorem gainGrad_blocks (y z : Fin 4096 → Fin 1024 → EReal) (i : Fin 8) (j : Fin 1024) (f : Fin 8 → EReal)
    (h : ∀ s : Fin 8, f s = gainGrad (fun r : Fin 512 => y ⟨s.val * 512 + r.val, by omega⟩) (fun r : Fin 512 => z ⟨s.val * 512 + r.val, by omega⟩) i j) :
    ∑ s, f s = gainGrad y z i j := by
  rw [funext h]
  unfold gainGrad
  by_cases h1 : i.val = 1
  · simp only [if_pos h1]
    exact Fin.sum_mul_add_congr (M := EReal) (S := 8) (n := 512) (F := fun s r => y ⟨s.val * 512 + r.val, by omega⟩ j) fun _ _ _ => rfl
  · simp only [if_neg h1]
    by_cases h0 : i.val = 0
    · simp only [if_pos h0]
      exact Fin.sum_mul_add_congr (M := EReal) (S := 8) (n := 512)
        (F := fun s r => y ⟨s.val * 512 + r.val, by omega⟩ j * ((z ⟨s.val * 512 + r.val, by omega⟩ j - mean (z ⟨s.val * 512 + r.val, by omega⟩)) * inv (z ⟨s.val * 512 + r.val, by omega⟩)))
        fun _ _ _ => rfl
    · simp only [if_neg h0]
      exact Finset.sum_const_zero

end Cert.Calls

end
-- ==== Proof.Calls.NormGrad.lean ====
/- NormGrad: the gradient of a layer normalisation under a residual, block of rows by block of rows, the gradients of its gains and shifts gathered over the blocks. -/
module

public import proofs.«01_k».proof.Defs
public import proofs.«01_k».proof.Proof.Gen.NormGradIdeal.Value
public import proofs.«01_k».proof.Proof.Gen.NormGradReferenceIdeal.Run
public import proofs.«01_k».proof.Proof.Calls.Tile
public import proofs.«01_k».proof.Proof.Calls.NormRows
public import proofs.«01_k».proof.Proof.Gen.Pre_finite_norm
public import proofs.«01_k».proof.Proof.Lru.Reals
public import Idealize.ShloMosaic.Lib.Pipeline.ValueKit
public import Idealize.ShloMosaic.Lib.Quiescent

@[expose] public section

set_option maxRecDepth 16384

noncomputable section

namespace Cert.NormGradIdeal.Calls

open Idealize.ShloMosaic Idealize.ShloMosaic.TcCoe
open Cert.NormGradIdeal
open Cert.NormGradIdeal.Gen

variable (m : (ℓ : Loc nD τ sig) → Buf (Elt Ideal) ℓ)

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![0, 0] := (by decide +kernel : ∀ t : Fin grid0.N, _)

/-- The gradient of the normalised rows. -/
def dy {n : ℕ} (a b : (⟨2, ![n, 1024]⟩ : Shape).Idx → EReal) (r : Fin n) (k : Fin 1024) : EReal := Ideal.ofBits .f32 1068827891#32 * a (ix2 r k) + b (ix2 r k)
def rows {n : ℕ} (z : (⟨2, ![n, 1024]⟩ : Shape).Idx → EReal) (r : Fin n) (k : Fin 1024) : EReal := z (ix2 r k)

theorem dz_eq (a b : Vec Ideal S512x1024 .f32) (z : Vec Ideal S512x1024 .f32) (g : Vec Ideal S1x1024 .f32) (r : Fin 512) (j : Fin 1024) :
    k0_pay1 (k0_pay9 a b z g) (k0_pay10 z) (ix2 r j) = Calls.normGrad (dy a b r) (rows z r) (fun k => g (ix2 0 k)) j := by
  pointwise [k0_pay1, k0_pay9, k0_pay10, k0_pay8, k0_pay7, k0_pay6, k0_pay5, Calls.normGrad, Calls.inv, Calls.var, Calls.mean, dy, rows]

theorem gain_row (a b : Vec Ideal S512x1024 .f32) (z : Vec Ideal S512x1024 .f32) (p : Vec Ideal S1x1024 .f32) (j : Fin 1024) :
    k0_pay3 (k0_pay5 a b) (k0_pay8 z) p (ix2 0 j) = p (ix2 0 j) + ∑ r, dy a b r j * ((rows z r j - Calls.mean (rows z r)) * Calls.inv (rows z r)) := by
  pointwise [k0_pay3, k0_pay4, k0_pay5, k0_pay6, k0_pay7, k0_pay8, Calls.inv, Calls.var, Calls.mean, dy, rows]

theorem shift_row (a b : Vec Ideal S512x1024 .f32) (p : Vec Ideal S1x1024 .f32) (j : Fin 1024) :
    k0_pay4 (k0_pay5 a b) p (ix2 0 j) = p (ix2 0 j) + ∑ r, dy a b r j := by
  pointwise [k0_pay3, k0_pay4, k0_pay5, k0_pay6, k0_pay7, k0_pay8, dy]

/-- What a point adds to the tile. -/
def part (c : Dev nD) (t : Fin cfg0.N) : S8x1024.Idx → EReal := fun y =>
  Calls.gainGrad (dy (iblk (F := Ideal) m c 0 t) (iblk (F := Ideal) m c 1 t)) (rows (iblk (F := Ideal) m c 2 t)) ⟨(y 0).val, (y 0).isLt⟩ ⟨(y 1).val, (y 1).isLt⟩

theorem part_ix (c : Dev nD) (t : Fin cfg0.N) (i : Fin 8) (j : Fin 1024) :
    part m c t (ix2 i j) = Calls.gainGrad (dy (iblk (F := Ideal) m c 0 t) (iblk (F := Ideal) m c 1 t)) (rows (iblk (F := Ideal) m c 2 t)) i j := rfl

theorem acc (c : Dev nD) (t : Fin cfg0.N) (h : t.val % 8 = 7) (y : S8x1024.Idx) :
    (outsAt0 (F := Ideal) m c t.val t.isLt).2 y
      = 0 + ∑ s : Fin 8, part m c ⟨8 * (t.val / 8) + s.val, Pipeline.run_point_lt_of_flush t h s⟩ y := by
  refine Pipeline.eq_sum_fin_of_reset_step_apply_of_flush (fun n h => (outsAt0 (F := Ideal) m c n h).2) 8
    (fun _ => 0) (part m c) (fun t h y => ?_) (fun t h y => ?_) t h y
  · rw [outsAt0_A m c t h]
    frame_out
    idx_vars y
    simp (disch := decide) only [View.readCov_skip, View.readCov_fill]
    refine (Calls.canon_row _ _ _ _ _ _).trans ?_
    rw [Calls.canon_row, Calls.canon_fill, part_ix, Calls.gainGrad]
    by_cases h1 : y0.val = 1
    · rw [if_pos h1, if_pos h1]
      refine (shift_row _ _ _ _).trans (congrArg (· + _) ?_)
      pointwise [k0_pay2]
    · rw [if_neg h1, if_neg h1]
      by_cases h0 : y0.val = 0
      · rw [if_pos h0, if_pos h0]
        refine (gain_row _ _ _ _ _).trans (congrArg (· + _) ?_)
        pointwise [k0_pay2]
      · rw [if_neg h0, if_neg h0]
        pointwise [k0_pay2]
  · rw [outsAt0_B m c t h]
    frame_out
    idx_vars y
    rw [part_ix, Calls.gainGrad]
    refine (Calls.read_row _ _ _ _ _ _ _ _).trans ?_
    refine (congrArg _ (Calls.read_row _ _ _ _ _ _ _ _)).trans ?_
    by_cases h1 : y0.val = 1
    · rw [if_pos h1, if_pos h1]
      exact (shift_row _ _ _ _).trans (congrArg (· + _) (Calls.ld_row _ _ _ y0 h1 _))
    · rw [if_neg h1, if_neg h1]
      by_cases h0 : y0.val = 0
      · rw [if_pos h0, if_pos h0]
        exact (gain_row _ _ _ _ _).trans (congrArg (· + _) (Calls.ld_row _ _ _ y0 h0 _))
      · rw [if_neg h0, if_neg h0, add_zero]
        exact congrFun (Memref.IsWhole.read_unread _ _) _

/-- A place of a block among the whole rows. -/
def at0 (t : Fin cfg0.N) (r : Fin 512) : Fin 4096 := ⟨t.val * 512 + r.val, by have := t.isLt; change t.val < 8 at this; omega⟩

/-- The region finds the gains as one row. -/
theorem gain (c : Dev nD) (j : Fin 1024) : V (F := Ideal) m c (Pipeline.arrRef spec0 3) (ix2 0 j) = m (c.tc.loc main_arg3) (ix1 j) := by
  unfold V
  after_results
  pointwise

theorem gain_block (c : Dev nD) (t : Fin cfg0.N) (j : Fin 1024) : iblk (F := Ideal) m c 3 t (ix2 0 j) = m (c.tc.loc main_arg3) (ix1 j) := by
  rw [← gain m c]
  blk_ext [iblk, i3 t]

theorem dy_block (c : Dev nD) (t : Fin cfg0.N) (r : Fin 512) :
    dy (iblk (F := Ideal) m c 0 t) (iblk (F := Ideal) m c 1 t) r = dy (n := 4096) (m (c.tc.loc main_arg0)) (m (c.tc.loc main_arg1)) (at0 t r) := by
  funext k
  unfold dy
  have e0 : iblk (F := Ideal) m c 0 t (ix2 r k) = m (c.tc.loc main_arg0) (ix2 (at0 t r) k) := by
    blk_ext [iblk, V, at0, i0 t]
  have e1 : iblk (F := Ideal) m c 1 t (ix2 r k) = m (c.tc.loc main_arg1) (ix2 (at0 t r) k) := by
    blk_ext [iblk, V, at0, i1 t]
  exact congrArg₂ (fun a b : EReal => Ideal.ofBits .f32 1068827891#32 * a + b) e0 e1

theorem z_block (c : Dev nD) (t : Fin cfg0.N) (r : Fin 512) :
    rows (iblk (F := Ideal) m c 2 t) r = rows (n := 4096) (m (c.tc.loc main_arg2)) (at0 t r) := by
  funext k
  unfold rows
  blk_ext [iblk, V, at0, i2 t]

/-- The gradient of the rows. -/
def rowGrad (a b : S4096x1024.Idx → EReal) (z : S4096x1024.Idx → EReal) (g : S1024.Idx → EReal) : S4096x1024.Idx → EReal := fun y =>
  Calls.normGrad (dy a b ⟨(y 0).val, (y 0).isLt⟩) (rows z ⟨(y 0).val, (y 0).isLt⟩) (fun k => g (ix1 k)) ⟨(y 1).val, (y 1).isLt⟩

theorem final_rows (c : Dev nD) : (dats (F := Ideal) m 0 c).arrAt 4 cfg0.N = rowGrad (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  have e : (outsAt0 (F := Ideal) m c t.val t.isLt).1 = k0_pay1 (k0_pay9 (iblk (F := Ideal) m c 0 t) (iblk (F := Ideal) m c 1 t) (iblk (F := Ideal) m c 2 t) (iblk (F := Ideal) m c 3 t)) (k0_pay10 (iblk (F := Ideal) m c 2 t)) := by
    by_cases h : t.val % 8 = 0
    · rw [outsAt0_A m c t h]
      frame_out
    · rw [outsAt0_B m c t h]
      frame_out
  rw [after0_4, e]
  idx_vars y
  refine (dz_eq _ _ _ _ _ _).trans ?_
  rw [dy_block m c t, z_block m c t, funext (gain_block m c t)]
  unfold rowGrad
  refine congrArg₂ (fun a b => Calls.normGrad (dy (m (c.tc.loc main_arg0)) (m (c.tc.loc main_arg1)) a) (rows (m (c.tc.loc main_arg2)) a) (fun k => m (c.tc.loc main_arg3) (ix1 k)) b) (Fin.ext ?_) (Fin.ext ?_)
  · blk_simp
    simp only [i4 t, at0]
    rfl
  · blk_simp
    simp only [i4 t]
    change y1.val = 0 * 1024 + y1.val
    omega

/-- The gradients of the gains and of the shifts. -/
def gainsGrad (a b : S4096x1024.Idx → EReal) (z : S4096x1024.Idx → EReal) : S8x1024.Idx → EReal := fun y =>
  Calls.gainGrad (dy a b) (rows z) ⟨(y 0).val, (y 0).isLt⟩ ⟨(y 1).val, (y 1).isLt⟩

theorem final_gains (c : Dev nD) : (dats (F := Ideal) m 0 c).arrAt 5 cfg0.N = gainsGrad (m (c.tc.loc main_arg0)) (m (c.tc.loc main_arg1)) (m (c.tc.loc main_arg2)) := by
  refine (dats m 0 c).arrAt_eq_of_covers 5 _ (by decide +kernel) fun t hf y => ?_
  blk_simp
  have h3 : t.val % 8 = 7 := (flush0_5 t).mp hf
  rw [after0_5, acc m c t h3, zero_add]
  have h8 := t.isLt
  change t.val < 8 at h8
  idx_vars y
  have e : Calls.gainGrad (dy (m (c.tc.loc main_arg0)) (m (c.tc.loc main_arg1))) (rows (m (c.tc.loc main_arg2))) y0 y1
      = gainsGrad (m (c.tc.loc main_arg0)) (m (c.tc.loc main_arg1)) (m (c.tc.loc main_arg2)) (((cfg0.win 5).blk t).view.emb (ix2 y0 y1)) := by
    unfold gainsGrad
    refine congrArg₂ (Calls.gainGrad _ _) (Fin.ext ?_) (Fin.ext ?_)
    · blk_simp
      simp only [i5 t]
      change y0.val = 0 * 8 + y0.val
      omega
    · blk_simp
      simp only [i5 t]
      change y1.val = 0 * 1024 + y1.val
      omega
  refine (Calls.gainGrad_blocks (dy (m (c.tc.loc main_arg0)) (m (c.tc.loc main_arg1))) (rows (m (c.tc.loc main_arg2))) y0 y1 _ fun s => ?_).trans e
  rw [part_ix]
  have es (r : Fin 512) : at0 ⟨8 * (t.val / 8) + s.val, Pipeline.run_point_lt_of_flush t h3 s⟩ r = ⟨s.val * 512 + r.val, by omega⟩ := by
    apply Fin.ext
    change (8 * (t.val / 8) + s.val) * 512 + r.val = s.val * 512 + r.val
    omega
  refine congrArg₂ (fun a b => Calls.gainGrad a b y0 y1) (funext fun r => ?_) (funext fun r => ?_)
  · rw [dy_block m c, es]
  · rw [z_block m c, es]

theorem dy_real {n : ℕ} (a b : (⟨2, ![n, 1024]⟩ : Shape).Idx → EReal) (ha : ∀ i, a i = (((a i).toReal : ℝ) : EReal)) (hb : ∀ i, b i = (((b i).toReal : ℝ) : EReal)) (r : Fin n) (k : Fin 1024) :
    dy a b r k = (((dy a b r k).toReal : ℝ) : EReal) := by
  obtain ⟨p, hp⟩ : ∃ p : ℝ, a (ix2 r k) = (p : EReal) := ⟨_, ha _⟩
  obtain ⟨q, hq⟩ : ∃ q : ℝ, b (ix2 r k) = (q : EReal) := ⟨_, hb _⟩
  unfold dy
  rw [hp, hq, Calls.ofBits_alpha, ← EReal.coe_mul, ← EReal.coe_add]
  rfl

theorem ref_gains (a b : S4096x1024.Idx → EReal) (z : S4096x1024.Idx → EReal) (i : Fin 8) (j : Fin 1024) :
    (if h : i.val < 1 then ∑ _x : Fin 1, ∑ r : Fin 4096, (z (ix2 r j) - Calls.mean (rows z r)) * Calls.inv (rows z r) * dy a b r j
      else if h : i.val - 1 < 1 then ∑ _x : Fin 1, ∑ r : Fin 4096, dy a b r j else 0) = gainsGrad a b z (ix2 i j) := by
  change _ = Calls.gainGrad (dy a b) (rows z) i j
  unfold Calls.gainGrad
  by_cases h1 : i.val = 1
  · rw [dif_neg (by omega), dif_pos (by omega), if_pos h1, Fin.sum_univ_one]
  · rw [if_neg h1]
    by_cases h0 : i.val = 0
    · rw [dif_pos (by omega), if_pos h0, Fin.sum_univ_one]
      exact Finset.sum_congr rfl fun r _ => mul_comm _ _
    · rw [dif_neg (by omega), dif_neg (by omega), if_neg h0]

/-- The precondition: the arguments hold real numbers. -/
theorem real_args (c : Dev nD) (hp : Pre_NormGradIdeal_finite_norm m) :
    (∀ i, m (c.tc.loc main_arg0) i = ((EReal.toReal (m (c.tc.loc main_arg0) i) : ℝ) : EReal)) ∧ (∀ i, m (c.tc.loc main_arg1) i = ((EReal.toReal (m (c.tc.loc main_arg1) i) : ℝ) : EReal)) ∧ (∀ i, m (c.tc.loc main_arg2) i = ((EReal.toReal (m (c.tc.loc main_arg2) i) : ℝ) : EReal)) ∧ (∀ i, m (c.tc.loc main_arg3) i = ((EReal.toReal (m (c.tc.loc main_arg3) i) : ℝ) : EReal)) := by
  have hs : Subsingleton Cert.Pre_finite_norm.S_.Idx := ⟨fun a b => funext fun k => k.elim0⟩
  have h := congrFun (hp c) (Shape.Idx.first Cert.Pre_finite_norm.Gen.h_S_)
  dsimp only [Cert.Pre_finite_norm.fn, Cert.Pre_finite_norm.fn_part1] at h
  obtain ⟨h, e4⟩ := Lru.andi_one _ _ h
  obtain ⟨h, e3⟩ := Lru.andi_one _ _ h
  obtain ⟨h, e2⟩ := Lru.andi_one _ _ h
  obtain ⟨h, e1⟩ := Lru.andi_one _ _ h
  obtain ⟨h, e0⟩ := Lru.andi_one _ _ h
  exact ⟨fun i => Lru.real_of_lt_inf _ (Host.reduce_andi_all _ _ _ _ _ e0 i), fun i => Lru.real_of_lt_inf _ (Host.reduce_andi_all _ _ _ _ _ e1 i), fun i => Lru.real_of_lt_inf _ (Host.reduce_andi_all _ _ _ _ _ e2 i), fun i => Lru.real_of_lt_inf _ (Host.reduce_andi_all _ _ _ _ _ e3 i)⟩

/-- The call and its reference leave the same results. -/
theorem algebraic : algebraic_NormGradIdeal_NormGradReferenceIdeal_pre_finite_norm := by
  intro m g m' g' hp ha
  refine ⟨_, _, (θ_run _ _ _).mono (fun r h c => ⟨(h c).1.trans (final_rows m c), (h c).2.1.trans (final_gains m c), (h c).2.2⟩) (Value.run_blocks m g), ?_⟩
  refine (θ_run _ _ _).mono (fun r h c => ?_) (Cert.NormGradReferenceIdeal.Value.run m' g')
  refine ⟨(h c).1.trans ?_, (h c).2.1.trans ?_, (h c).2.2⟩ <;> clear h
  · obtain ⟨h0, h1, h2, h3, -⟩ := ha c
    obtain ⟨r0, r1, r2, r3⟩ := real_args m c hp
    clear ha
    funext j
    idx_vars j
    pointwise [Cert.NormGradReferenceIdeal.Value.res_main_v64]
    change Calls.normGradByRules (dy (n := 4096) (m' (c.tc.loc Cert.NormGradReferenceIdeal.main_arg0)) (m' (c.tc.loc Cert.NormGradReferenceIdeal.main_arg1)) j0) (rows (n := 4096) (m' (c.tc.loc Cert.NormGradReferenceIdeal.main_arg2)) j0) (fun k => m' (c.tc.loc Cert.NormGradReferenceIdeal.main_arg3) (ix1 k)) j1 = _
    rw [h0, h1, h2, h3]
    exact Calls.normGrad_eq _ _ _ (dy_real _ _ r0 r1 j0) (fun k => r2 _) (fun k => r3 _) j1
  · obtain ⟨h0, h1, h2, -⟩ := ha c
    clear ha
    funext j
    idx_vars j
    pointwise
    exact (ref_gains _ _ _ _ _).trans (congrFun (congr (congrArg₂ gainsGrad h0 h1) h2) _)

/-- The reference changes none of its arguments. -/
theorem reference_frame : quiescent_NormGradReferenceIdeal := fun m ρ _ =>
  (θ_run Cert.NormGradReferenceIdeal.defs _ _).mono (fun r h => ⟨fun c => (h c).2.2, sem_eq_zero_of_no_sems (by decide) r.2⟩)
    (Cert.NormGradReferenceIdeal.Value.run m ρ)

end Cert.NormGradIdeal.Calls

end
-- ==== Proof.Calls.NormTopGrad.lean ====
/- NormTopGrad: the gradient of the last layer normalisation, block of rows by block of rows, the gradients of its gains and shifts gathered over the blocks. -/
module

public import proofs.«01_k».proof.Defs
public import proofs.«01_k».proof.Proof.Gen.NormTopGradIdeal.Value
public import proofs.«01_k».proof.Proof.Gen.NormTopGradReferenceIdeal.Run
public import proofs.«01_k».proof.Proof.Calls.Tile
public import proofs.«01_k».proof.Proof.Calls.NormRows
public import proofs.«01_k».proof.Proof.Gen.Pre_finite_top
public import proofs.«01_k».proof.Proof.Lru.Reals
public import Idealize.ShloMosaic.Lib.Pipeline.ValueKit
public import Idealize.ShloMosaic.Lib.Quiescent

@[expose] public section

set_option maxRecDepth 16384

noncomputable section

namespace Cert.NormTopGradIdeal.Calls

open Idealize.ShloMosaic Idealize.ShloMosaic.TcCoe
open Cert.NormTopGradIdeal
open Cert.NormTopGradIdeal.Gen

variable (m : (ℓ : Loc nD τ sig) → Buf (Elt Ideal) ℓ)

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![0, 0] := (by decide +kernel : ∀ t : Fin grid0.N, _)

/-- The gradient of the normalised rows. -/
def dy {n : ℕ} (a : (⟨2, ![n, 1024]⟩ : Shape).Idx → EReal) (r : Fin n) (k : Fin 1024) : EReal := a (ix2 r k)
def rows {n : ℕ} (z : (⟨2, ![n, 1024]⟩ : Shape).Idx → EReal) (r : Fin n) (k : Fin 1024) : EReal := z (ix2 r k)

theorem dz_eq (a : Vec Ideal S512x1024 .f32) (z : Vec Ideal S512x1024 .f32) (g : Vec Ideal S1x1024 .f32) (r : Fin 512) (j : Fin 1024) :
    k0_pay7 a z g (ix2 r j) = Calls.normGrad (dy a r) (rows z r) (fun k => g (ix2 0 k)) j := by
  pointwise [k0_pay7, k0_pay6, k0_pay5, k0_pay4, Calls.normGrad, Calls.inv, Calls.var, Calls.mean, dy, rows]

theorem gain_row (a : Vec Ideal S512x1024 .f32) (z : Vec Ideal S512x1024 .f32) (p : Vec Ideal S1x1024 .f32) (j : Fin 1024) :
    k0_pay2 a (k0_pay6 z) p (ix2 0 j) = p (ix2 0 j) + ∑ r, dy a r j * ((rows z r j - Calls.mean (rows z r)) * Calls.inv (rows z r)) := by
  pointwise [k0_pay2, k0_pay3, k0_pay4, k0_pay5, k0_pay6, Calls.inv, Calls.var, Calls.mean, dy, rows]

theorem shift_row (a : Vec Ideal S512x1024 .f32) (p : Vec Ideal S1x1024 .f32) (j : Fin 1024) :
    k0_pay3 a p (ix2 0 j) = p (ix2 0 j) + ∑ r, dy a r j := by
  pointwise [k0_pay2, k0_pay3, k0_pay4, k0_pay5, k0_pay6, dy]

/-- What a point adds to the tile. -/
def part (c : Dev nD) (t : Fin cfg0.N) : S8x1024.Idx → EReal := fun y =>
  Calls.gainGrad (dy (iblk (F := Ideal) m c 0 t)) (rows (iblk (F := Ideal) m c 1 t)) ⟨(y 0).val, (y 0).isLt⟩ ⟨(y 1).val, (y 1).isLt⟩

theorem part_ix (c : Dev nD) (t : Fin cfg0.N) (i : Fin 8) (j : Fin 1024) :
    part m c t (ix2 i j) = Calls.gainGrad (dy (iblk (F := Ideal) m c 0 t)) (rows (iblk (F := Ideal) m c 1 t)) i j := rfl

theorem acc (c : Dev nD) (t : Fin cfg0.N) (h : t.val % 8 = 7) (y : S8x1024.Idx) :
    (outsAt0 (F := Ideal) m c t.val t.isLt).2 y
      = 0 + ∑ s : Fin 8, part m c ⟨8 * (t.val / 8) + s.val, Pipeline.run_point_lt_of_flush t h s⟩ y := by
  refine Pipeline.eq_sum_fin_of_reset_step_apply_of_flush (fun n h => (outsAt0 (F := Ideal) m c n h).2) 8
    (fun _ => 0) (part m c) (fun t h y => ?_) (fun t h y => ?_) t h y
  · rw [outsAt0_A m c t h]
    frame_out
    idx_vars y
    simp (disch := decide) only [View.readCov_skip, View.readCov_fill]
    refine (Calls.canon_row _ _ _ _ _ _).trans ?_
    rw [Calls.canon_row, Calls.canon_fill, part_ix, Calls.gainGrad]
    by_cases h1 : y0.val = 1
    · rw [if_pos h1, if_pos h1]
      refine (shift_row _ _ _).trans (congrArg (· + _) ?_)
      pointwise [k0_pay1]
    · rw [if_neg h1, if_neg h1]
      by_cases h0 : y0.val = 0
      · rw [if_pos h0, if_pos h0]
        refine (gain_row _ _ _ _).trans (congrArg (· + _) ?_)
        pointwise [k0_pay1]
      · rw [if_neg h0, if_neg h0]
        pointwise [k0_pay1]
  · rw [outsAt0_B m c t h]
    frame_out
    idx_vars y
    rw [part_ix, Calls.gainGrad]
    refine (Calls.read_row _ _ _ _ _ _ _ _).trans ?_
    refine (congrArg _ (Calls.read_row _ _ _ _ _ _ _ _)).trans ?_
    by_cases h1 : y0.val = 1
    · rw [if_pos h1, if_pos h1]
      exact (shift_row _ _ _).trans (congrArg (· + _) (Calls.ld_row _ _ _ y0 h1 _))
    · rw [if_neg h1, if_neg h1]
      by_cases h0 : y0.val = 0
      · rw [if_pos h0, if_pos h0]
        exact (gain_row _ _ _ _).trans (congrArg (· + _) (Calls.ld_row _ _ _ y0 h0 _))
      · rw [if_neg h0, if_neg h0, add_zero]
        exact congrFun (Memref.IsWhole.read_unread _ _) _

/-- A place of a block among the whole rows. -/
def at0 (t : Fin cfg0.N) (r : Fin 512) : Fin 4096 := ⟨t.val * 512 + r.val, by have := t.isLt; change t.val < 8 at this; omega⟩

/-- The region finds the gains as one row. -/
theorem gain (c : Dev nD) (j : Fin 1024) : V (F := Ideal) m c (Pipeline.arrRef spec0 2) (ix2 0 j) = m (c.tc.loc main_arg2) (ix1 j) := by
  unfold V
  after_results
  pointwise

theorem gain_block (c : Dev nD) (t : Fin cfg0.N) (j : Fin 1024) : iblk (F := Ideal) m c 2 t (ix2 0 j) = m (c.tc.loc main_arg2) (ix1 j) := by
  rw [← gain m c]
  blk_ext [iblk, i2 t]

theorem dy_block (c : Dev nD) (t : Fin cfg0.N) (r : Fin 512) :
    dy (iblk (F := Ideal) m c 0 t) r = dy (n := 4096) (m (c.tc.loc main_arg0)) (at0 t r) := by
  funext k
  unfold dy
  blk_ext [iblk, V, at0, i0 t]

theorem z_block (c : Dev nD) (t : Fin cfg0.N) (r : Fin 512) :
    rows (iblk (F := Ideal) m c 1 t) r = rows (n := 4096) (m (c.tc.loc main_arg1)) (at0 t r) := by
  funext k
  unfold rows
  blk_ext [iblk, V, at0, i1 t]

/-- The gradient of the rows. -/
def rowGrad (a : S4096x1024.Idx → EReal) (z : S4096x1024.Idx → EReal) (g : S1024.Idx → EReal) : S4096x1024.Idx → EReal := fun y =>
  Calls.normGrad (dy a ⟨(y 0).val, (y 0).isLt⟩) (rows z ⟨(y 0).val, (y 0).isLt⟩) (fun k => g (ix1 k)) ⟨(y 1).val, (y 1).isLt⟩

theorem final_rows (c : Dev nD) : (dats (F := Ideal) m 0 c).arrAt 3 cfg0.N = rowGrad (m (c.tc.loc main_arg0)) (m (c.tc.loc main_arg1)) (m (c.tc.loc main_arg2)) := by
  refine (dats m 0 c).arrAt_eq_of_covers 3 _ (by decide +kernel) fun t hf y => ?_
  blk_simp
  have e : (outsAt0 (F := Ideal) m c t.val t.isLt).1 = k0_pay7 (iblk (F := Ideal) m c 0 t) (iblk (F := Ideal) m c 1 t) (iblk (F := Ideal) m c 2 t) := by
    by_cases h : t.val % 8 = 0
    · rw [outsAt0_A m c t h]
      frame_out
    · rw [outsAt0_B m c t h]
      frame_out
  rw [after0_3, e]
  idx_vars y
  refine (dz_eq _ _ _ _ _).trans ?_
  rw [dy_block m c t, z_block m c t, funext (gain_block m c t)]
  unfold rowGrad
  refine congrArg₂ (fun a b => Calls.normGrad (dy (m (c.tc.loc main_arg0)) a) (rows (m (c.tc.loc main_arg1)) a) (fun k => m (c.tc.loc main_arg2) (ix1 k)) b) (Fin.ext ?_) (Fin.ext ?_)
  · blk_simp
    simp only [i3 t, at0]
    rfl
  · blk_simp
    simp only [i3 t]
    change y1.val = 0 * 1024 + y1.val
    omega

/-- The gradients of the gains and of the shifts. -/
def gainsGrad (a : S4096x1024.Idx → EReal) (z : S4096x1024.Idx → EReal) : S8x1024.Idx → EReal := fun y =>
  Calls.gainGrad (dy a) (rows z) ⟨(y 0).val, (y 0).isLt⟩ ⟨(y 1).val, (y 1).isLt⟩

theorem final_gains (c : Dev nD) : (dats (F := Ideal) m 0 c).arrAt 4 cfg0.N = gainsGrad (m (c.tc.loc main_arg0)) (m (c.tc.loc main_arg1)) := by
  refine (dats m 0 c).arrAt_eq_of_covers 4 _ (by decide +kernel) fun t hf y => ?_
  blk_simp
  have h3 : t.val % 8 = 7 := (flush0_4 t).mp hf
  rw [after0_4, acc m c t h3, zero_add]
  have h8 := t.isLt
  change t.val < 8 at h8
  idx_vars y
  have e : Calls.gainGrad (dy (m (c.tc.loc main_arg0))) (rows (m (c.tc.loc main_arg1))) y0 y1
      = gainsGrad (m (c.tc.loc main_arg0)) (m (c.tc.loc main_arg1)) (((cfg0.win 4).blk t).view.emb (ix2 y0 y1)) := by
    unfold gainsGrad
    refine congrArg₂ (Calls.gainGrad _ _) (Fin.ext ?_) (Fin.ext ?_)
    · blk_simp
      simp only [i4 t]
      change y0.val = 0 * 8 + y0.val
      omega
    · blk_simp
      simp only [i4 t]
      change y1.val = 0 * 1024 + y1.val
      omega
  refine (Calls.gainGrad_blocks (dy (m (c.tc.loc main_arg0))) (rows (m (c.tc.loc main_arg1))) y0 y1 _ fun s => ?_).trans e
  rw [part_ix]
  have es (r : Fin 512) : at0 ⟨8 * (t.val / 8) + s.val, Pipeline.run_point_lt_of_flush t h3 s⟩ r = ⟨s.val * 512 + r.val, by omega⟩ := by
    apply Fin.ext
    change (8 * (t.val / 8) + s.val) * 512 + r.val = s.val * 512 + r.val
    omega
  refine congrArg₂ (fun a b => Calls.gainGrad a b y0 y1) (funext fun r => ?_) (funext fun r => ?_)
  · rw [dy_block m c, es]
  · rw [z_block m c, es]

theorem dy_real {n : ℕ} (a : (⟨2, ![n, 1024]⟩ : Shape).Idx → EReal) (ha : ∀ i, a i = (((a i).toReal : ℝ) : EReal)) (r : Fin n) (k : Fin 1024) :
    dy a r k = (((dy a r k).toReal : ℝ) : EReal) := by
  exact ha _

theorem ref_gains (a : S4096x1024.Idx → EReal) (z : S4096x1024.Idx → EReal) (i : Fin 8) (j : Fin 1024) :
    (if h : i.val < 1 then ∑ _x : Fin 1, ∑ r : Fin 4096, (z (ix2 r j) - Calls.mean (rows z r)) * Calls.inv (rows z r) * dy a r j
      else if h : i.val - 1 < 1 then ∑ _x : Fin 1, ∑ r : Fin 4096, dy a r j else 0) = gainsGrad a z (ix2 i j) := by
  change _ = Calls.gainGrad (dy a) (rows z) i j
  unfold Calls.gainGrad
  by_cases h1 : i.val = 1
  · rw [dif_neg (by omega), dif_pos (by omega), if_pos h1, Fin.sum_univ_one]
  · rw [if_neg h1]
    by_cases h0 : i.val = 0
    · rw [dif_pos (by omega), if_pos h0, Fin.sum_univ_one]
      exact Finset.sum_congr rfl fun r _ => mul_comm _ _
    · rw [dif_neg (by omega), dif_neg (by omega), if_neg h0]

/-- The precondition: the arguments hold real numbers. -/
theorem real_args (c : Dev nD) (hp : Pre_NormTopGradIdeal_finite_top m) :
    (∀ i, m (c.tc.loc main_arg0) i = ((EReal.toReal (m (c.tc.loc main_arg0) i) : ℝ) : EReal)) ∧ (∀ i, m (c.tc.loc main_arg1) i = ((EReal.toReal (m (c.tc.loc main_arg1) i) : ℝ) : EReal)) ∧ (∀ i, m (c.tc.loc main_arg2) i = ((EReal.toReal (m (c.tc.loc main_arg2) i) : ℝ) : EReal)) := by
  have hs : Subsingleton Cert.Pre_finite_top.S_.Idx := ⟨fun a b => funext fun k => k.elim0⟩
  have h := congrFun (hp c) (Shape.Idx.first Cert.Pre_finite_top.Gen.h_S_)
  dsimp only [Cert.Pre_finite_top.fn, Cert.Pre_finite_top.fn_part1] at h
  obtain ⟨h, e3⟩ := Lru.andi_one _ _ h
  obtain ⟨h, e2⟩ := Lru.andi_one _ _ h
  obtain ⟨h, e1⟩ := Lru.andi_one _ _ h
  obtain ⟨h, e0⟩ := Lru.andi_one _ _ h
  exact ⟨fun i => Lru.real_of_lt_inf _ (Host.reduce_andi_all _ _ _ _ _ e0 i), fun i => Lru.real_of_lt_inf _ (Host.reduce_andi_all _ _ _ _ _ e1 i), fun i => Lru.real_of_lt_inf _ (Host.reduce_andi_all _ _ _ _ _ e2 i)⟩

/-- The call and its reference leave the same results. -/
theorem algebraic : algebraic_NormTopGradIdeal_NormTopGradReferenceIdeal_pre_finite_top := by
  intro m g m' g' hp ha
  refine ⟨_, _, (θ_run _ _ _).mono (fun r h c => ⟨(h c).1.trans (final_rows m c), (h c).2.1.trans (final_gains m c), (h c).2.2⟩) (Value.run_blocks m g), ?_⟩
  refine (θ_run _ _ _).mono (fun r h c => ?_) (Cert.NormTopGradReferenceIdeal.Value.run m' g')
  refine ⟨(h c).1.trans ?_, (h c).2.1.trans ?_, (h c).2.2⟩ <;> clear h
  · obtain ⟨h0, h1, h2, -⟩ := ha c
    obtain ⟨r0, r1, r2⟩ := real_args m c hp
    clear ha
    funext j
    idx_vars j
    pointwise [Cert.NormTopGradReferenceIdeal.Value.res_main_v62]
    change Calls.normGradByRules (dy (n := 4096) (m' (c.tc.loc Cert.NormTopGradReferenceIdeal.main_arg0)) j0) (rows (n := 4096) (m' (c.tc.loc Cert.NormTopGradReferenceIdeal.main_arg1)) j0) (fun k => m' (c.tc.loc Cert.NormTopGradReferenceIdeal.main_arg2) (ix1 k)) j1 = _
    rw [h0, h1, h2]
    exact Calls.normGrad_eq _ _ _ (dy_real _ r0 j0) (fun k => r1 _) (fun k => r2 _) j1
  · obtain ⟨h0, h1, -⟩ := ha c
    clear ha
    funext j
    idx_vars j
    pointwise
    exact (ref_gains _ _ _ _).trans (congrFun (congrArg₂ gainsGrad h0 h1) _)

/-- The reference changes none of its arguments. -/
theorem reference_frame : quiescent_NormTopGradReferenceIdeal := fun m ρ _ =>
  (θ_run Cert.NormTopGradReferenceIdeal.defs _ _).mono (fun r h => ⟨fun c => (h c).2.2, sem_eq_zero_of_no_sems (by decide) r.2⟩)
    (Cert.NormTopGradReferenceIdeal.Value.run m ρ)

end Cert.NormTopGradIdeal.Calls

end
-- ==== Proof.Calls.Loss.lean ====
/- Loss: the gradient of the loss, block of rows by block of rows, and the loss, gathered over the blocks. -/
module

public import proofs.«01_k».proof.Defs
public import proofs.«01_k».proof.Proof.Gen.LossIdeal.Value
public import proofs.«01_k».proof.Proof.Gen.LossReferenceIdeal.Run
public import proofs.«01_k».proof.Proof.Calls.Rows
public import proofs.«01_k».proof.Proof.Calls.Gelu
public import Idealize.ShloMosaic.Lib.Pipeline.ValueKit
public import Idealize.ShloMosaic.Lib.Quiescent

@[expose] public section

set_option maxRecDepth 16384

noncomputable section

namespace Cert.LossIdeal.Calls

open Idealize.ShloMosaic Idealize.ShloMosaic.TcCoe
open Cert.LossIdeal
open Cert.LossIdeal.Gen

variable (m : (ℓ : Loc nD τ sig) → Buf (Elt Ideal) ℓ)

theorem i0 : ∀ t : Fin cfg0.N, win0_0.index t = win0_2.index t := (by decide +kernel : ∀ t : Fin grid0.N, _)
theorem i1 : ∀ t : Fin cfg0.N, win0_1.index t = win0_2.index t := (by decide +kernel : ∀ t : Fin grid0.N, _)
theorem i2 : ∀ t : Fin cfg0.N, win0_2.index t = ![t.val, 0] := (by decide +kernel : ∀ t : Fin grid0.N, _)

/-- The loss of a row. -/
def row (y z : S4096x1024.Idx → EReal) (r : Fin 4096) : EReal :=
  Ideal.div (∑ j : Fin 1024, (y (ix2 r j) - z (ix2 r j)) * (y (ix2 r j) - z (ix2 r j))) (Ideal.ofBits .f32 1149239296#32)

/-- What a point adds to the loss. -/
def part (c : Dev nD) (t : Fin cfg0.N) : S1x1.Idx → EReal := k0_pay4 (iblk (F := Ideal) m c 0 t) (iblk (F := Ideal) m c 1 t) (fun _ => (0 : EReal))

theorem acc (c : Dev nD) (t : Fin cfg0.N) (h : t.val % 8 = 7) (y : S1x1.Idx) :
    (outsAt0 (F := Ideal) m c t.val t.isLt).2 y
      = 0 + ∑ s : Fin 8, part m c ⟨8 * (t.val / 8) + s.val, Pipeline.run_point_lt_of_flush t h s⟩ y := by
  refine Pipeline.eq_sum_fin_of_reset_step_apply_of_flush (fun n h => (outsAt0 (F := Ideal) m c n h).2) 8
    (fun _ => 0) (part m c) (fun t h y => ?_) (fun t h y => ?_) t h y
  · rw [outsAt0_A m c t h]
    frame_out
    idx_vars y
    pointwise [k0_pay4, k0_pay3, k0_pay1, part]
  · rw [outsAt0_B m c t h]
    frame_out
    idx_vars y
    pointwise [k0_pay4, k0_pay3, k0_pay1, part]

/-- The gradient of the loss. -/
def grad (y z : S4096x1024.Idx → EReal) : S4096x1024.Idx → EReal := fun i => (y i - z i) * ((1 / 1024 : ℝ) : EReal)

theorem ofBits_inv : Ideal.ofBits .f32 981467136#32 = ((1 / 1024 : ℝ) : EReal) := by
  simp [Ideal.ofBits, Ideal.ieee, -EReal.coe_mul]; norm_num

theorem ofBits_1024 : Ideal.ofBits .f32 1149239296#32 = ((1024 : ℝ) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

theorem pay2_eq (a b : Vec Ideal S512x1024 .f32) (r : Fin 512) (j : Fin 1024) : k0_pay2 a b (ix2 r j) = (a (ix2 r j) - b (ix2 r j)) * ((1 / 1024 : ℝ) : EReal) := by
  pointwise [k0_pay2, k0_pay1]
  rw [ofBits_inv]

theorem final2 (c : Dev nD) : (dats (F := Ideal) m 0 c).arrAt 2 cfg0.N = grad (m (c.tc.loc main_arg0)) (m (c.tc.loc main_arg1)) := by
  refine (dats m 0 c).arrAt_eq_of_covers 2 _ (by decide +kernel) fun t hf y => ?_
  blk_simp
  have e : (outsAt0 (F := Ideal) m c t.val t.isLt).1 = k0_pay2 (iblk (F := Ideal) m c 0 t) (iblk (F := Ideal) m c 1 t) := by
    by_cases h : t.val % 8 = 0
    · rw [outsAt0_A m c t h]
      frame_out
    · rw [outsAt0_B m c t h]
      frame_out
  rw [after0_2, e]
  idx_vars y
  rw [pay2_eq, grad]
  refine congrArg₂ (fun a b : EReal => (a - b) * ((1 / 1024 : ℝ) : EReal)) ?_ ?_
  · blk_ext [iblk, V, i0 t]
  · blk_ext [iblk, V, i1 t]

/-- The loss. -/
def loss (y z : S4096x1024.Idx → EReal) : S1x1.Idx → EReal := fun _ => ((1 / 2 : ℝ) : EReal) * ∑ r : Fin 4096, row y z r

theorem part_eq (a b : Vec Ideal S512x1024 .f32) (i j : Fin 1) :
    k0_pay4 a b (fun _ => (0 : EReal)) (ix2 i j) = ((1 / 2 : ℝ) : EReal) * ∑ r : Fin 512, Ideal.div (∑ x : Fin 1024, (a (ix2 r x) - b (ix2 r x)) * (a (ix2 r x) - b (ix2 r x))) (Ideal.ofBits .f32 1149239296#32) := by
  pointwise [k0_pay4, k0_pay1]
  rw [Lru.ofBits_half]

theorem final3 (c : Dev nD) : (dats (F := Ideal) m 0 c).arrAt 3 cfg0.N = loss (m (c.tc.loc main_arg0)) (m (c.tc.loc main_arg1)) := by
  refine (dats m 0 c).arrAt_eq_of_covers 3 _ (by decide +kernel) fun t hf y => ?_
  blk_simp
  have h3 : t.val % 8 = 7 := (flush0_3 t).mp hf
  rw [after0_3, acc m c t h3, zero_add, loss, Calls.mul_sum _ _ (by norm_num)]
  have h8 := t.isLt
  change t.val < 8 at h8
  refine (Finset.sum_congr (M := EReal) rfl fun s _ => ?_).trans (Fin.sum_mul_add_congr (M := EReal) (S := 8) (n := 512) (F := fun s r => ((1 / 2 : ℝ) : EReal) * row (m (c.tc.loc main_arg0)) (m (c.tc.loc main_arg1)) ⟨s.val * 512 + r.val, by omega⟩) fun s k hl => rfl)
  idx_vars y
  rw [part]
  refine (part_eq _ _ _ _).trans ?_
  rw [Calls.mul_sum _ _ (by norm_num)]
  refine Finset.sum_congr rfl fun r _ => congrArg (((1 / 2 : ℝ) : EReal) * ·) ?_
  rw [row]
  refine congrArg (fun z => Ideal.div z _) (Finset.sum_congr rfl fun x _ => ?_)
  have e0 : iblk (F := Ideal) m c 0 ⟨8 * (t.val / 8) + s.val, Pipeline.run_point_lt_of_flush t h3 s⟩ (ix2 r x) = m (c.tc.loc main_arg0) (ix2 (⟨s.val * 512 + r.val, by omega⟩ : Fin 4096) x) := by
    blk_ext [iblk, V, i0, i2]
  have e1 : iblk (F := Ideal) m c 1 ⟨8 * (t.val / 8) + s.val, Pipeline.run_point_lt_of_flush t h3 s⟩ (ix2 r x) = m (c.tc.loc main_arg1) (ix2 (⟨s.val * 512 + r.val, by omega⟩ : Fin 4096) x) := by
    blk_ext [iblk, V, i1, i2]
  exact congrArg₂ (fun a b : EReal => (a - b) * (a - b)) e0 e1

/-- The call and its reference leave the same results. -/
theorem algebraic : algebraic_LossIdeal_LossReferenceIdeal := fun m g m' g' _ ha =>
  ⟨_, _, (θ_run _ _ _).mono (fun r h c => ⟨(h c).1.trans (final2 m c), (h c).2.1.trans (final3 m c), (h c).2.2⟩) (Value.run_blocks m g),
    (θ_run _ _ _).mono (fun r h c => ⟨(h c).1.trans (by
        funext j
        idx_vars j
        pointwise
        rw [(ha c).1, (ha c).2, ofBits_1024, ofBits_two, Lru.ofBits_half, Calls.div_pos (by norm_num), grad, ← EReal.coe_mul, ← mul_assoc, ← EReal.coe_mul, mul_comm]
        norm_num), (h c).2.1.trans (by
        funext j
        idx_vars j
        pointwise
        rw [(ha c).1, (ha c).2, Lru.ofBits_half]
        rfl), (h c).2.2⟩)
      (Cert.LossReferenceIdeal.Value.run m' g')⟩

/-- The reference changes none of its arguments. -/
theorem reference_frame : quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run m ρ)

end Cert.LossIdeal.Calls

end
-- ==== Proof.Calls.Mix.lean ====
/- Mix: the three groups of the mixer's channels, each over the square root of its mean square, side by side. -/
module

public import proofs.«01_k».proof.Defs
public import proofs.«01_k».proof.Proof.Gen.MixIdeal.Value
public import proofs.«01_k».proof.Proof.Gen.MixReferenceIdeal.Run
public import proofs.«01_k».proof.Proof.Calls.Tile
public import Idealize.ShloMosaic.Lib.Pipeline.ValueKit
public import Idealize.ShloMosaic.Lib.Quiescent

@[expose] public section

set_option maxRecDepth 16384

noncomputable section

namespace Cert.MixIdeal.Calls

open Idealize.ShloMosaic Idealize.ShloMosaic.TcCoe
open Cert.MixIdeal
open Cert.MixIdeal.Gen

variable (m : (ℓ : Loc nD τ sig) → Buf (Elt Ideal) ℓ)

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![t.val, 0] := (by decide +kernel : ∀ t : Fin grid0.N, _)

/-- An entry of a row over the square root of its mean square, times a gain; `w` holds the width. -/
def rms {n : ℕ} (w : BitVec 32) (x : Fin n → EReal) (j : Fin n) (g : EReal) : EReal :=
  x j * Ideal.rsqrt (Ideal.div (∑ k, x k * x k) (Ideal.ofBits FTy.f32 w) + Ideal.ofBits FTy.f32 897988541#32) * g

theorem rms_congr {n : ℕ} (w : BitVec 32) {x x' : Fin n → EReal} (h : ∀ k, x k = x' k) (j : Fin n) {g g' : EReal} (hg : g = g') :
    rms w x j g = rms w x' j g' := by
  rw [funext h, hg]

theorem pay1_eq (x : Vec Ideal S512x256 .f32) (g : Vec Ideal S1x256 .f32) (r : Fin 512) (j : Fin 256) :
    k0_pay1 x (k0_pay4 x) g (ix2 r j) = rms 1132462080#32 (fun k => x (ix2 r k)) j (g (ix2 0 j)) := by
  pointwise [k0_pay1, k0_pay4, rms]
theorem pay2_eq (x : Vec Ideal S512x384 .f32) (g : Vec Ideal S1x384 .f32) (r : Fin 512) (j : Fin 384) :
    k0_pay2 x g (ix2 r j) = rms 1136656384#32 (fun k => x (ix2 r k)) j (g (ix2 0 j)) := by
  pointwise [k0_pay2, rms]
theorem pay3_eq (x : Vec Ideal S512x384 .f32) (g : Vec Ideal S1x384 .f32) (r : Fin 512) (j : Fin 384) :
    k0_pay3 x g (ix2 r j) = rms 1136656384#32 (fun k => x (ix2 r k)) j (g (ix2 0 j)) := by
  pointwise [k0_pay3, rms]

/-- The region finds the gains as one row. -/
theorem gain (c : Dev nD) (j : Fin 1024) : V (F := Ideal) m c (Pipeline.arrRef spec0 3) (ix2 0 j) = m (c.tc.loc main_arg3) (ix1 j) := by
  unfold V
  after_results
  pointwise

theorem gain_block (c : Dev nD) (t : Fin cfg0.N) (j : Fin 1024) : iblk (F := Ideal) m c 3 t (ix2 0 j) = m (c.tc.loc main_arg3) (ix1 j) := by
  rw [← gain m c]
  blk_ext [iblk, i3 t]

/-- The gains of the three groups. -/
theorem gain0 (x : Vec Ideal S1x1024 .f32) (inb) (j : Fin 384) : View.ld x (Rect.unit (s := S1x1024) ![0, 0] ![1, 384] inb) (ix2 0 j) = x (ix2 0 (⟨j.val, by omega⟩ : Fin 1024)) := by
  pointwise
theorem gain1 (x : Vec Ideal S1x1024 .f32) (inb) (j : Fin 384) : View.ld x (Rect.unit (s := S1x1024) ![0, 384] ![1, 384] inb) (ix2 0 j) = x (ix2 0 (⟨384 + j.val, by omega⟩ : Fin 1024)) := by
  pointwise
theorem gain2 (x : Vec Ideal S1x1024 .f32) (inb) (j : Fin 256) : View.ld x (Rect.unit (s := S1x1024) ![0, 768] ![1, 256] inb) (ix2 0 j) = x (ix2 0 (⟨768 + j.val, by omega⟩ : Fin 1024)) := by
  pointwise

/-- A place of a block among the whole rows. -/
def at0 (t : Fin cfg0.N) (r : Fin 512) : Fin 4096 := ⟨t.val * 512 + r.val, by have := t.isLt; change t.val < 8 at this; omega⟩

/-- The three groups side by side. -/
def mixed (a l : S4096x384.Idx → EReal) (s : S4096x256.Idx → EReal) (g : S1024.Idx → EReal) (r : Fin 4096) (j : Fin 1024) : EReal :=
  if h : j.val < 384 then rms 1136656384#32 (fun k => a (ix2 r k)) ⟨j.val, h⟩ (g (ix1 j))
  else if h1 : j.val - 384 < 384 then rms 1136656384#32 (fun k => l (ix2 r k)) ⟨j.val - 384, h1⟩ (g (ix1 j))
  else rms 1132462080#32 (fun k => s (ix2 r k)) ⟨j.val - 384 - 384, by omega⟩ (g (ix1 j))

def res (a l : S4096x384.Idx → EReal) (s : S4096x256.Idx → EReal) (g : S1024.Idx → EReal) : S4096x1024.Idx → EReal := fun y =>
  mixed a l s g ⟨(y 0).val, (y 0).isLt⟩ ⟨(y 1).val, (y 1).isLt⟩

theorem final (c : Dev nD) : (dats (F := Ideal) m 0 c).arrAt 4 cfg0.N
    = res (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  unfold outsAt0
  frame_out
  idx_vars y
  have e : mixed (m (c.tc.loc main_arg0)) (m (c.tc.loc main_arg1)) (m (c.tc.loc main_arg2)) (m (c.tc.loc main_arg3)) (at0 t y0) y1
      = res (m (c.tc.loc main_arg0)) (m (c.tc.loc main_arg1)) (m (c.tc.loc main_arg2)) (m (c.tc.loc main_arg3)) (((cfg0.win 4).blk t).view.emb (ix2 y0 y1)) := by
    unfold res
    refine congrArg₂ (mixed _ _ _ _) (Fin.ext ?_) (Fin.ext ?_)
    · blk_simp
      simp only [i4 t, at0]
      rfl
    · blk_simp
      simp only [i4 t]
      change y1.val = 0 * 1024 + y1.val
      omega
  refine Eq.trans ?_ e
  unfold mixed
  refine (Calls.canon_col _ _ _ _ _ _ _).trans ?_
  by_cases h2 : 768 ≤ y1.val ∧ y1.val < 768 + 256
  · rw [dif_pos h2, dif_neg (by omega), dif_neg (by omega)]
    refine (pay1_eq _ _ _ _).trans ((rms_congr _ (fun k => ?_) _ ?_).trans (congrArg (fun j => rms _ _ j _) (Fin.ext ?_)))
    · blk_ext [iblk, V, at0, i2 t]
    · refine (gain2 _ _ _).trans ((gain_block m c t _).trans ?_)
      refine congrArg (fun k => m (c.tc.loc main_arg3) (ix1 k)) (Fin.ext ?_)
      dsimp only
      omega
    · dsimp only
      omega
  rw [dif_neg h2]
  refine (Calls.canon_col _ _ _ _ _ _ _).trans ?_
  by_cases h1 : 384 ≤ y1.val ∧ y1.val < 384 + 384
  · rw [dif_pos h1, dif_neg (by omega), dif_pos (by omega)]
    refine (pay3_eq _ _ _ _).trans (rms_congr _ (fun k => ?_) _ ?_)
    · blk_ext [iblk, V, at0, i1 t]
    · refine (gain1 _ _ _).trans ((gain_block m c t _).trans ?_)
      refine congrArg (fun k => m (c.tc.loc main_arg3) (ix1 k)) (Fin.ext ?_)
      dsimp only
      omega
  rw [dif_neg h1]
  refine (Calls.canon_col _ _ _ _ _ _ _).trans ?_
  rw [dif_pos (by omega), dif_pos (by omega)]
  refine (pay2_eq _ _ _ _).trans (rms_congr _ (fun k => ?_) _ ?_)
  · blk_ext [iblk, V, at0, i0 t]
  · exact (gain0 _ _ _).trans (gain_block m c t _)

theorem ref (a l : S4096x384.Idx → EReal) (s : S4096x256.Idx → EReal) (g : S1024.Idx → EReal) (r : Fin 4096) (j : Fin 1024) :
    (if h : j.val < 384 then a (ix2 r ⟨j.val, h⟩) * Ideal.rsqrt (Ideal.div (∑ k : Fin 384, a (ix2 r k) * a (ix2 r k)) (Ideal.ofBits FTy.f32 1136656384#32)
          + Ideal.ofBits FTy.f32 897988541#32) * g (ix1 j)
      else if h1 : j.val - 384 < 384 then
        l (ix2 r ⟨j.val - 384, h1⟩) * Ideal.rsqrt (Ideal.div (∑ k : Fin 384, l (ix2 r k) * l (ix2 r k)) (Ideal.ofBits FTy.f32 1136656384#32)
          + Ideal.ofBits FTy.f32 897988541#32) * g (ix1 (⟨384 + (j.val - 384), by omega⟩ : Fin 1024))
      else s (ix2 r (⟨j.val - 384 - 384, by omega⟩ : Fin 256)) * Ideal.rsqrt (Ideal.div (∑ k : Fin 256, s (ix2 r k) * s (ix2 r k)) (Ideal.ofBits FTy.f32 1132462080#32)
          + Ideal.ofBits FTy.f32 897988541#32) * g (ix1 (⟨768 + (j.val - 384 - 384), by omega⟩ : Fin 1024)))
      = res a l s g (ix2 r j) := by
  change _ = mixed a l s g r j
  unfold mixed rms
  by_cases h : j.val < 384
  · rw [dif_pos h, dif_pos h]
  rw [dif_neg h, dif_neg h]
  by_cases h1 : j.val - 384 < 384
  · rw [dif_pos h1, dif_pos h1]
    refine congrArg (fun k => _ * g (ix1 k)) (Fin.ext ?_)
    dsimp only
    omega
  · rw [dif_neg h1, dif_neg h1]
    refine congrArg (fun k => _ * g (ix1 k)) (Fin.ext ?_)
    dsimp only
    omega

/-- The call and its reference leave the same result. -/
theorem algebraic : algebraic_MixIdeal_MixReferenceIdeal := by
  intro m g m' g' _ ha
  refine ⟨_, (θ_run _ _ _).mono (fun r h c => ⟨(h c).1.trans (final m c), (h c).2⟩) (Value.run_blocks m g), ?_⟩
  refine (θ_run _ _ _).mono (fun r h c => ?_) (Cert.MixReferenceIdeal.Value.run m' g')
  refine ⟨(h c).1.trans ?_, (h c).2⟩
  clear h
  obtain ⟨h0, h1, h2, h3⟩ := ha c
  clear ha
  funext j
  idx_vars j
  pointwise
  exact (ref _ _ _ _ _ _).trans (congrFun (congr (congr (congrArg₂ res h0 h1) h2) h3) _)

/-- The reference changes none of its arguments. -/
theorem reference_frame : quiescent_MixReferenceIdeal := fun m ρ _ =>
  (θ_run Cert.MixReferenceIdeal.defs _ _).mono (fun r h => ⟨fun c => (h c).2, sem_eq_zero_of_no_sems (by decide) r.2⟩)
    (Cert.MixReferenceIdeal.Value.run m ρ)

end Cert.MixIdeal.Calls

end
-- ==== Proof.Calls.S5Out.lean ====
/- S5Out: the read-out of the S5 channels, `y = yc + d·u` and `gelu(y)·σ(gelu(y)·w + b)`, block of rows by block of rows. -/
module

public import proofs.«01_k».proof.Defs
public import proofs.«01_k».proof.Proof.Gen.S5OutIdeal.Value
public import proofs.«01_k».proof.Proof.Gen.S5OutReferenceIdeal.Run
public import proofs.«01_k».proof.Proof.Calls.Gelu
public import Idealize.ShloMosaic.Lib.Pipeline.ValueKit
public import Idealize.ShloMosaic.Lib.Quiescent

@[expose] public section

set_option maxRecDepth 16384

noncomputable section

namespace Cert.S5OutIdeal.Calls

open Idealize.ShloMosaic Idealize.ShloMosaic.TcCoe
open Cert.S5OutIdeal
open Cert.S5OutIdeal.Gen

variable (m : (ℓ : Loc nD τ sig) → Buf (Elt Ideal) ℓ)

theorem i0 : ∀ t : Fin cfg0.N, win0_0.index t = win0_5.index t := (by decide +kernel : ∀ t : Fin grid0.N, _)
theorem i1 : ∀ t : Fin cfg0.N, win0_1.index t = ![win0_5.index t 0, 5] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t 1 = 0 := (by decide +kernel : ∀ t : Fin grid0.N, _)
theorem i6 : ∀ t : Fin cfg0.N, win0_6.index t = win0_5.index t := (by decide +kernel : ∀ t : Fin grid0.N, _)
theorem bound : ∀ t : Fin cfg0.N, win0_5.index t 0 < 8 := (by decide +kernel : ∀ t : Fin grid0.N, _)

/-- The read-out before its gate. -/
def before (yc : S4096x256.Idx → EReal) (p : S4096x2304.Idx → EReal) (d : S256.Idx → EReal) (r : Fin 4096) (j : Fin 256) : EReal :=
  yc (ix2 r j) + d (ix1 j) * p (ix2 r (⟨1920 + j.val, by omega⟩ : Fin 2304))

/-- The gated read-out. -/
def glu (y : Fin 256 → EReal) (w : S256x256.Idx → EReal) (b : S256.Idx → EReal) (j : Fin 256) : EReal :=
  Calls.gelu (y j) * Ideal.div 1 (1 + Ideal.exp (-((∑ x : Fin 256, Calls.gelu (y x) * w (ix2 x j)) + b (ix1 j))))

theorem skip (c : Dev nD) (j : Fin 256) : V (F := Ideal) m c main_v0 (ix2 0 j) = m (c.tc.loc main_arg2) (ix1 j) := by
  unfold V
  after_results
  pointwise

theorem bias (c : Dev nD) (j : Fin 256) : V (F := Ideal) m c main_v1 (ix2 0 j) = m (c.tc.loc main_arg4) (ix1 j) := by
  unfold V
  after_results
  pointwise

/-- The same within a block. -/
def part (yc : Vec Ideal S512x256 .f32) (d : Vec Ideal S1x256 .f32) (u : Vec Ideal S512x256 .f32) (r : Fin 512) (j : Fin 256) : EReal :=
  yc (ix2 r j) + d (ix2 0 j) * u (ix2 r j)

theorem pay1_eq (yc : Vec Ideal S512x256 .f32) (d : Vec Ideal S1x256 .f32) (u : Vec Ideal S512x256 .f32) (r : Fin 512) (j : Fin 256) :
    k0_pay1 yc d u (ix2 r j) = part yc d u r j := by
  pointwise [k0_pay1, part]

theorem pay2_eq (yc : Vec Ideal S512x256 .f32) (d : Vec Ideal S1x256 .f32) (u : Vec Ideal S512x256 .f32) (w : Vec Ideal S256x256 .bf16) (b : Vec Ideal S1x256 .f32)
    (r : Fin 512) (j : Fin 256) :
    k0_pay2 yc d u w b (ix2 r j) = glu (part yc d u r) w (fun i => b (ix2 0 (i 0))) j := by
  pointwise [k0_pay2, k0_pay1]
  rfl

/-- A place of a block among the whole rows. -/
def at0 (t : Fin cfg0.N) (r : Fin 512) : Fin 4096 := ⟨win0_5.index t 0 * 512 + r.val, by have := bound t; omega⟩

theorem used (x : Vec Ideal S512x384 .f32) (r : Fin 512) (j : Fin 256) : View.ld x r0_2 (ix2 r j) = x (ix2 r (⟨j.val, by omega⟩ : Fin 384)) := by
  pointwise [r0_2]

theorem rows (c : Dev nD) (t : Fin cfg0.N) (r : Fin 512) (j : Fin 256) :
    part (iblk (F := Ideal) m c 0 t) (iblk (F := Ideal) m c 2 t) (View.ld (iblk (F := Ideal) m c 1 t) r0_2) r j
      = before (m (c.tc.loc main_arg0)) (m (c.tc.loc main_arg1)) (m (c.tc.loc main_arg2)) (at0 t r) j := by
  rw [part, before, ← skip m c]
  refine congrArg₂ (· + ·) ?_ (congrArg₂ (· * ·) ?_ ((used _ r j).trans ?_))
  · blk_ext [iblk, V, at0, i0 t, i5 t]
  · blk_ext [iblk, V, i2 t]
  · blk_ext [iblk, V, at0, i1 t]

theorem final5 (c : Dev nD) : (dats (F := Ideal) m 0 c).arrAt 5 cfg0.N
    = fun y => glu (before (m (c.tc.loc main_arg0)) (m (c.tc.loc main_arg1)) (m (c.tc.loc main_arg2)) ⟨(y 0).val, (y 0).isLt⟩)
        (m (c.tc.loc main_arg3)) (m (c.tc.loc main_arg4)) ⟨(y 1).val, (y 1).isLt⟩ := by
  refine (dats m 0 c).arrAt_eq_of_covers 5 _ (by decide +kernel) fun t hf y => ?_
  blk_simp
  rw [after0_5]
  frame_out
  idx_vars y
  refine (pay2_eq _ _ _ _ _ _ _).trans ?_
  have e : ∀ x, glu x (iblk (F := Ideal) m c 3 t) (fun i => iblk (F := Ideal) m c 4 t (ix2 0 (i 0))) y1 = glu x (m (c.tc.loc main_arg3)) (m (c.tc.loc main_arg4)) y1 := by
    intro x
    unfold glu
    refine congrArg (fun z => Calls.gelu (x y1) * Ideal.div 1 (1 + Ideal.exp (-z))) (congrArg₂ (· + ·) (Finset.sum_congr rfl fun k _ => congrArg (Calls.gelu (x k) * ·) ?_) ?_)
    · blk_ext [iblk, V, i3 t]
    · rw [← bias m c]
      blk_ext [iblk, V, i4 t]
  refine (congrArg (fun x => glu x (iblk (F := Ideal) m c 3 t) (fun i => iblk (F := Ideal) m c 4 t (ix2 0 (i 0))) y1) (funext fun x => rows m c t y0 x)).trans ((e _).trans ?_)
  refine congrArg₂ (fun a b => glu (before _ _ _ a) _ _ b) (Fin.ext ?_) (Fin.ext ?_)
  · rfl
  · simp only [i5]; omega

theorem final6 (c : Dev nD) : (dats (F := Ideal) m 0 c).arrAt 6 cfg0.N
    = fun y => before (m (c.tc.loc main_arg0)) (m (c.tc.loc main_arg1)) (m (c.tc.loc main_arg2)) ⟨(y 0).val, (y 0).isLt⟩ ⟨(y 1).val, (y 1).isLt⟩ := by
  refine (dats m 0 c).arrAt_eq_of_covers 6 _ (by decide +kernel) fun t hf y => ?_
  blk_simp
  rw [after0_6]
  frame_out
  idx_vars y
  refine (pay1_eq _ _ _ _ _).trans ((rows m c t y0 y1).trans ?_)
  refine congrArg₂ (before _ _ _) (Fin.ext ?_) (Fin.ext ?_)
  · rfl
  · simp only [i6, i5]; omega

/-- The call and its reference leave the same results. -/
theorem algebraic : algebraic_S5OutIdeal_S5OutReferenceIdeal := fun m g m' g' _ ha =>
  ⟨_, _, (θ_run _ _ _).mono (fun r h c => ⟨(h c).1.trans (final5 m c), (h c).2.1.trans (final6 m c), (h c).2.2⟩) (Value.run_blocks m g),
    (θ_run _ _ _).mono (fun r h c => ⟨(h c).1.trans (by
        funext j
        idx_vars j
        pointwise [Cert.S5OutReferenceIdeal.Value.res_main_v31]
        rw [(ha c).1, (ha c).2.1, (ha c).2.2.1, (ha c).2.2.2.1, (ha c).2.2.2.2]
        simp only [Calls.gelu_eq]
        rfl), (h c).2.1.trans (by
        funext j
        idx_vars j
        pointwise
        rw [(ha c).1, (ha c).2.1, (ha c).2.2.1]
        rfl), (h c).2.2⟩)
      (Cert.S5OutReferenceIdeal.Value.run m' g')⟩

/-- The reference changes none of its arguments. -/
theorem reference_frame : quiescent_S5OutReferenceIdeal := fun m ρ _ =>
  (θ_run Cert.S5OutReferenceIdeal.defs _ _).mono (fun r h => ⟨fun c => (h c).2.2, sem_eq_zero_of_no_sems (by decide) r.2⟩)
    (Cert.S5OutReferenceIdeal.Value.run m ρ)

end Cert.S5OutIdeal.Calls

end
-- ==== Proof.Calls.Rotate.lean ====
/- The rotation of a row of six heads by angles given as cosines and sines, as the reference has it and as the kernel computes it: the partner
   of a lane is 32 lanes on or 32 lanes back, and the table of sines carries the sign. -/
module

public import Idealize.ShloMosaic.PureOps.Ideal
public import Idealize.ShloMosaic.Lib.Pointwise

@[expose] public section

noncomputable section

namespace Cert.Calls

open Idealize.ShloMosaic

/-- Whether a lane is in the first half of its head, as the kernel finds it. -/
def first (j : Fin 384) : BitVec 1 :=
  (IntOp.cmpi CmpIPredicate.slt
            (Scalar.select
              (IntOp.andi
                (IntOp.xori
                  (IntOp.cmpi CmpIPredicate.slt
                    (IntOp.remsi ArithUnit.vector (BitVec.ofNat 32 ↑j)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 ↑j)
                    (Scalar.select (Scalar.cmpi CmpIPredicate.eq 64#32 0#32) 1#32 64#32))
                  0#32))
              (IntOp.addi
                (IntOp.remsi ArithUnit.vector (BitVec.ofNat 32 ↑j)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 ↑j)
                (Scalar.select (Scalar.cmpi CmpIPredicate.eq 64#32 0#32) 1#32 64#32)))
            32#32)

theorem first_eq : ∀ j : Fin 384, first j = if j.val % 64 < 32 then 1#1 else 0#1 := by decide +kernel

/-- The partner of a lane, as the kernel finds it. -/
theorem partner (x : Fin 384 → EReal) (j : Fin 384) :
    Scalar.select (first j) (x ⟨(j.val + 384 - 352) % 384, Nat.mod_lt _ (by decide)⟩) (x ⟨(j.val + 384 - 32) % 384, Nat.mod_lt _ (by decide)⟩)
      = if h : j.val % 64 < 32 then x ⟨j.val + 32, by omega⟩ else x ⟨j.val - 32, by omega⟩ := by
  rw [first_eq]
  by_cases h : j.val % 64 < 32
  · rw [if_pos h, dif_pos h]
    refine congrArg x (Fin.ext ?_)
    dsimp only
    omega
  · rw [if_neg h, dif_neg h]
    refine congrArg x (Fin.ext ?_)
    dsimp only
    omega

/-- The rotation of a row. -/
def rotate (x : Fin 384 → EReal) (c s : Fin 32 → EReal) (j : Fin 384) : EReal :=
  if h : j.val % 64 < 32 then x j * c ⟨j.val % 64, h⟩ - x ⟨j.val + 32, by omega⟩ * s ⟨j.val % 64, h⟩
  else x j * c ⟨j.val % 64 - 32, by omega⟩ + x ⟨j.val - 32, by omega⟩ * s ⟨j.val % 64 - 32, by omega⟩

/-- The tables the kernel takes. -/
def cosines (c : Fin 32 → EReal) (j : Fin 384) : EReal := if h : j.val % 64 < 32 then c ⟨j.val % 64, h⟩ else c ⟨j.val % 64 - 32, by omega⟩
def sines (s : Fin 32 → EReal) (j : Fin 384) : EReal := if h : j.val % 64 < 32 then -s ⟨j.val % 64, h⟩ else s ⟨j.val % 64 - 32, by omega⟩

theorem rotate_eq (x : Fin 384 → EReal) (c s : Fin 32 → EReal) (j : Fin 384) :
    x j * cosines c j + Scalar.select (first j) (x ⟨(j.val + 384 - 352) % 384, Nat.mod_lt _ (by decide)⟩) (x ⟨(j.val + 384 - 32) % 384, Nat.mod_lt _ (by decide)⟩)
      * sines s j = rotate x c s j := by
  rw [partner, rotate, cosines, sines]
  by_cases h : j.val % 64 < 32
  · simp only [dif_pos h]
    rw [mul_neg, sub_eq_add_neg]
  · simp only [dif_neg h]

/-- The gradient of the rotation of a row. -/
def rotateGrad (d : Fin 384 → EReal) (c s : Fin 32 → EReal) (j : Fin 384) : EReal :=
  if h : j.val % 64 < 32 then d j * c ⟨j.val % 64, h⟩ + d ⟨j.val + 32, by omega⟩ * s ⟨j.val % 64, h⟩
  else d j * c ⟨j.val % 64 - 32, by omega⟩ + d ⟨j.val - 32, by omega⟩ * -s ⟨j.val % 64 - 32, by omega⟩

theorem rotateGrad_eq (d : Fin 384 → EReal) (c s : Fin 32 → EReal) (j : Fin 384) :
    d j * cosines c j + Scalar.select (first j)
      (d ⟨(j.val + 384 - 352) % 384, Nat.mod_lt _ (by decide)⟩ * sines s ⟨(j.val + 384 - 352) % 384, Nat.mod_lt _ (by decide)⟩)
      (d ⟨(j.val + 384 - 32) % 384, Nat.mod_lt _ (by decide)⟩ * sines s ⟨(j.val + 384 - 32) % 384, Nat.mod_lt _ (by decide)⟩)
      = rotateGrad d c s j := by
  rw [partner (fun i => d i * sines s i), rotateGrad, cosines]
  by_cases h : j.val % 64 < 32
  · simp only [dif_pos h]
    rw [sines, dif_neg (by dsimp only; omega)]
    refine congrArg (fun i => d j * c ⟨j.val % 64, h⟩ + d ⟨j.val + 32, _⟩ * s i) (Fin.ext ?_)
    dsimp only
    omega
  · simp only [dif_neg h]
    rw [sines, dif_pos (by dsimp only; omega)]
    refine congrArg (fun i => d j * c ⟨j.val % 64 - 32, _⟩ + d ⟨j.val - 32, _⟩ * -s i) (Fin.ext ?_)
    dsimp only
    omega

end Cert.Calls

end
-- ==== Proof.Calls.Rope.lean ====
/- Rope: queries and keys rotated by the angles of their positions, block of rows by block of rows. -/
module

public import proofs.«01_k».proof.Defs
public import proofs.«01_k».proof.Proof.Gen.RopeIdeal.Value
public import proofs.«01_k».proof.Proof.Gen.RopeReferenceIdeal.Run
public import proofs.«01_k».proof.Proof.Calls.Rotate
public import Idealize.ShloMosaic.Lib.Pipeline.ValueKit
public import Idealize.ShloMosaic.Lib.Quiescent

@[expose] public section

set_option maxRecDepth 16384

noncomputable section

namespace Cert.RopeIdeal.Calls

open Idealize.ShloMosaic Idealize.ShloMosaic.TcCoe
open Cert.RopeIdeal
open Cert.RopeIdeal.Gen

variable (m : (ℓ : Loc nD τ sig) → Buf (Elt Ideal) ℓ)

theorem i0 : ∀ t : Fin cfg0.N, win0_0.index t = ![t.val, 0] := (by decide +kernel : ∀ t : Fin grid0.N, _)
theorem i1 : ∀ t : Fin cfg0.N, win0_1.index t = ![t.val, 1] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 0] := (by decide +kernel : ∀ t : Fin grid0.N, _)

/-- The region finds the cosines -/
theorem cosine_table (c : Dev nD) (r : Fin 4096) (j : Fin 384) :
    V (F := Ideal) m c (Pipeline.arrRef spec0 2) (ix2 r j) = Calls.cosines (fun k => m (c.tc.loc main_arg1) (ix2 r k)) j := by
  unfold V
  after_results
  pointwise
  rfl

/-- and the sines, with the sign of the first halves. -/
theorem sine_table (c : Dev nD) (r : Fin 4096) (j : Fin 384) :
    V (F := Ideal) m c (Pipeline.arrRef spec0 3) (ix2 r j) = Calls.sines (fun k => m (c.tc.loc main_arg2) (ix2 r k)) j := by
  unfold V
  after_results
  pointwise
  rfl

/-- A place of a block among the whole rows. -/
def at0 (t : Fin cfg0.N) (r : Fin 512) : Fin 4096 := ⟨t.val * 512 + r.val, by have := t.isLt; change t.val < 8 at this; omega⟩

theorem cos_block (c : Dev nD) (t : Fin cfg0.N) (r : Fin 512) :
    (fun j => iblk (F := Ideal) m c 2 t (ix2 r j)) = Calls.cosines (fun k => m (c.tc.loc main_arg1) (ix2 (at0 t r) k)) := by
  funext j
  rw [← cosine_table m c]
  blk_ext [iblk, at0, i2 t]

theorem sin_block (c : Dev nD) (t : Fin cfg0.N) (r : Fin 512) :
    (fun j => iblk (F := Ideal) m c 3 t (ix2 r j)) = Calls.sines (fun k => m (c.tc.loc main_arg2) (ix2 (at0 t r) k)) := by
  funext j
  rw [← sine_table m c]
  blk_ext [iblk, at0, i3 t]

theorem pay4_eq (a b x : Vec Ideal S512x384 .f32) (c s : Fin 32 → EReal) (r : Fin 512) (j : Fin 384)
    (ha : (fun j => a (ix2 r j)) = Calls.cosines c) (hb : (fun j => b (ix2 r j)) = Calls.sines s) :
    k0_pay4 a b x x (ix2 r j) = Calls.rotate (fun j => x (ix2 r j)) c s j := by
  rw [← Calls.rotate_eq, ← ha, ← hb]
  pointwise [k0_pay4, k0_pay2, k0_pay3, Calls.first]

theorem pay1_eq (a b x : Vec Ideal S512x384 .f32) (c s : Fin 32 → EReal) (r : Fin 512) (j : Fin 384)
    (ha : (fun j => a (ix2 r j)) = Calls.cosines c) (hb : (fun j => b (ix2 r j)) = Calls.sines s) :
    k0_pay1 (k0_pay3 b) (k0_pay5 a x) x (ix2 r j) = Calls.rotate (fun j => x (ix2 r j)) c s j := by
  rw [← Calls.rotate_eq, ← ha, ← hb]
  pointwise [k0_pay1, k0_pay5, k0_pay2, k0_pay3, Calls.first]

/-- The first result. -/
def res4 (x : S4096x2304.Idx → EReal) (c s : S4096x32.Idx → EReal) : S4096x384.Idx → EReal := fun y =>
  Calls.rotate (fun k => x (ix2 (⟨(y 0).val, (y 0).isLt⟩ : Fin 4096) (⟨0 + k.val, by omega⟩ : Fin 2304))) (fun k => c (ix2 (⟨(y 0).val, (y 0).isLt⟩ : Fin 4096) k)) (fun k => s (ix2 (⟨(y 0).val, (y 0).isLt⟩ : Fin 4096) k))
    ⟨(y 1).val, (y 1).isLt⟩

theorem final4 (c : Dev nD) : (dats (F := Ideal) m 0 c).arrAt 4 cfg0.N = res4 (m (c.tc.loc main_arg0)) (m (c.tc.loc main_arg1)) (m (c.tc.loc main_arg2)) := by
  refine (dats m 0 c).arrAt_eq_of_covers 4 _ (by decide +kernel) fun t hf y => ?_
  blk_simp
  rw [after0_4]
  frame_out
  idx_vars y
  refine (pay4_eq _ _ _ _ _ _ _ (cos_block m c t y0) (sin_block m c t y0)).trans ?_
  have e : (fun k => iblk (F := Ideal) m c 0 t (ix2 y0 k)) = fun k => m (c.tc.loc main_arg0) (ix2 (at0 t y0) (⟨0 + k.val, by omega⟩ : Fin 2304)) := by
    funext k
    blk_ext [iblk, V, at0, i0 t]
  refine (congrArg (fun x => Calls.rotate x _ _ y1) e).trans ?_
  unfold res4
  refine congrArg₂ (fun (a : Fin 4096) b => Calls.rotate (fun k => m (c.tc.loc main_arg0) (ix2 a (⟨0 + k.val, by omega⟩ : Fin 2304))) (fun k => m (c.tc.loc main_arg1) (ix2 a k)) (fun k => m (c.tc.loc main_arg2) (ix2 a k)) b)
    (Fin.ext ?_) (Fin.ext ?_)
  · blk_simp
    simp only [i4 t, at0]
    rfl
  · blk_simp
    simp only [i4 t]
    change y1.val = 0 * 384 + y1.val
    omega

/-- and the second. -/
def res5 (x : S4096x2304.Idx → EReal) (c s : S4096x32.Idx → EReal) : S4096x384.Idx → EReal := fun y =>
  Calls.rotate (fun k => x (ix2 (⟨(y 0).val, (y 0).isLt⟩ : Fin 4096) (⟨384 + k.val, by omega⟩ : Fin 2304))) (fun k => c (ix2 (⟨(y 0).val, (y 0).isLt⟩ : Fin 4096) k)) (fun k => s (ix2 (⟨(y 0).val, (y 0).isLt⟩ : Fin 4096) k))
    ⟨(y 1).val, (y 1).isLt⟩

theorem final5 (c : Dev nD) : (dats (F := Ideal) m 0 c).arrAt 5 cfg0.N = res5 (m (c.tc.loc main_arg0)) (m (c.tc.loc main_arg1)) (m (c.tc.loc main_arg2)) := by
  refine (dats m 0 c).arrAt_eq_of_covers 5 _ (by decide +kernel) fun t hf y => ?_
  blk_simp
  rw [after0_5]
  frame_out
  idx_vars y
  refine (pay1_eq _ _ _ _ _ _ _ (cos_block m c t y0) (sin_block m c t y0)).trans ?_
  have e : (fun k => iblk (F := Ideal) m c 1 t (ix2 y0 k)) = fun k => m (c.tc.loc main_arg0) (ix2 (at0 t y0) (⟨384 + k.val, by omega⟩ : Fin 2304)) := by
    funext k
    blk_ext [iblk, V, at0, i1 t]
  refine (congrArg (fun x => Calls.rotate x _ _ y1) e).trans ?_
  unfold res5
  refine congrArg₂ (fun (a : Fin 4096) b => Calls.rotate (fun k => m (c.tc.loc main_arg0) (ix2 a (⟨384 + k.val, by omega⟩ : Fin 2304))) (fun k => m (c.tc.loc main_arg1) (ix2 a k)) (fun k => m (c.tc.loc main_arg2) (ix2 a k)) b)
    (Fin.ext ?_) (Fin.ext ?_)
  · blk_simp
    simp only [i5 t, at0]
    rfl
  · blk_simp
    simp only [i5 t]
    change y1.val = 0 * 384 + y1.val
    omega

theorem ref4 (x : S4096x2304.Idx → EReal) (c s : S4096x32.Idx → EReal) (r : Fin 4096) (j : Fin 384) :
    (if h : j.val % 64 < 32 then
      x (ix2 r ⟨j.val, by omega⟩) * c (ix2 r ⟨j.val % 64, h⟩) - x (ix2 r ⟨j.val / 64 * 64 + (32 + j.val % 64), by omega⟩) * s (ix2 r ⟨j.val % 64, h⟩)
    else
      x (ix2 r ⟨j.val / 64 * 64 + (32 + (j.val % 64 - 32)), by omega⟩) * c (ix2 r ⟨j.val % 64 - 32, by omega⟩)
        + x (ix2 r ⟨j.val / 64 * 64 + (j.val % 64 - 32), by omega⟩) * s (ix2 r ⟨j.val % 64 - 32, by omega⟩))
      = res4 x c s (ix2 r j) := by
  change _ = Calls.rotate (fun k => x (ix2 r (⟨0 + k.val, by omega⟩ : Fin 2304))) (fun k => c (ix2 r k)) (fun k => s (ix2 r k)) j
  unfold Calls.rotate
  by_cases h : j.val % 64 < 32
  · rw [dif_pos h, dif_pos h]
    refine congrArg₂ (fun a b => x (ix2 r a) * c (ix2 r _) - x (ix2 r b) * s (ix2 r _)) (Fin.ext ?_) (Fin.ext ?_) <;> dsimp only <;> omega
  · rw [dif_neg h, dif_neg h]
    refine congrArg₂ (fun a b => x (ix2 r a) * c (ix2 r _) + x (ix2 r b) * s (ix2 r _)) (Fin.ext ?_) (Fin.ext ?_) <;> dsimp only <;> omega

theorem ref5 (x : S4096x2304.Idx → EReal) (c s : S4096x32.Idx → EReal) (r : Fin 4096) (j : Fin 384) :
    (if h : j.val % 64 < 32 then
      x (ix2 r ⟨384 + j.val, by omega⟩) * c (ix2 r ⟨j.val % 64, h⟩) - x (ix2 r ⟨384 + (j.val / 64 * 64 + (32 + j.val % 64)), by omega⟩) * s (ix2 r ⟨j.val % 64, h⟩)
    else
      x (ix2 r ⟨384 + (j.val / 64 * 64 + (32 + (j.val % 64 - 32))), by omega⟩) * c (ix2 r ⟨j.val % 64 - 32, by omega⟩)
        + x (ix2 r ⟨384 + (j.val / 64 * 64 + (j.val % 64 - 32)), by omega⟩) * s (ix2 r ⟨j.val % 64 - 32, by omega⟩))
      = res5 x c s (ix2 r j) := by
  change _ = Calls.rotate (fun k => x (ix2 r (⟨384 + k.val, by omega⟩ : Fin 2304))) (fun k => c (ix2 r k)) (fun k => s (ix2 r k)) j
  unfold Calls.rotate
  by_cases h : j.val % 64 < 32
  · rw [dif_pos h, dif_pos h]
    refine congrArg₂ (fun a b => x (ix2 r a) * c (ix2 r _) - x (ix2 r b) * s (ix2 r _)) (Fin.ext ?_) (Fin.ext ?_) <;> dsimp only <;> omega
  · rw [dif_neg h, dif_neg h]
    refine congrArg₂ (fun a b => x (ix2 r a) * c (ix2 r _) + x (ix2 r b) * s (ix2 r _)) (Fin.ext ?_) (Fin.ext ?_) <;> dsimp only <;> omega

/-- The call and its reference leave the same results. -/
theorem algebraic : algebraic_RopeIdeal_RopeReferenceIdeal := by
  intro m g m' g' _ ha
  refine ⟨_, _, (θ_run _ _ _).mono (fun r h c => ⟨(h c).1.trans (final4 m c), (h c).2.1.trans (final5 m c), (h c).2.2⟩) (Value.run_blocks m g), ?_⟩
  refine (θ_run _ _ _).mono (fun r h c => ?_) (Cert.RopeReferenceIdeal.Value.run m' g')
  refine ⟨(h c).1.trans ?_, (h c).2.1.trans ?_, (h c).2.2⟩ <;> clear h
  · obtain ⟨h0, h1, h2⟩ := ha c
    clear ha
    funext j
    idx_vars j
    pointwise
    exact (ref4 _ _ _ _ _).trans (congrFun (congr (congrArg₂ res4 h0 h1) h2) _)
  · obtain ⟨h0, h1, h2⟩ := ha c
    clear ha
    funext j
    idx_vars j
    pointwise
    exact (ref5 _ _ _ _ _).trans (congrFun (congr (congrArg₂ res5 h0 h1) h2) _)

/-- The reference changes none of its arguments. -/
theorem reference_frame : quiescent_RopeReferenceIdeal := fun m ρ _ =>
  (θ_run Cert.RopeReferenceIdeal.defs _ _).mono (fun r h => ⟨fun c => (h c).2.2, sem_eq_zero_of_no_sems (by decide) r.2⟩)
    (Cert.RopeReferenceIdeal.Value.run m ρ)

end Cert.RopeIdeal.Calls

end
-- ==== Proof.Calls.RopeGrad.lean ====
/- RopeGrad: the gradients of the queries and keys before their rotation, block of rows by block of rows. -/
module

public import proofs.«01_k».proof.Defs
public import proofs.«01_k».proof.Proof.Gen.RopeGradIdeal.Value
public import proofs.«01_k».proof.Proof.Gen.RopeGradReferenceIdeal.Run
public import proofs.«01_k».proof.Proof.Calls.Rotate
public import Idealize.ShloMosaic.Lib.Pipeline.ValueKit
public import Idealize.ShloMosaic.Lib.Quiescent

@[expose] public section

set_option maxRecDepth 16384

noncomputable section

namespace Cert.RopeGradIdeal.Calls

open Idealize.ShloMosaic Idealize.ShloMosaic.TcCoe
open Cert.RopeGradIdeal
open Cert.RopeGradIdeal.Gen

variable (m : (ℓ : Loc nD τ sig) → Buf (Elt Ideal) ℓ)

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 0] := (by decide +kernel : ∀ t : Fin grid0.N, _)

/-- The region finds the cosines -/
theorem cosine_table (c : Dev nD) (r : Fin 4096) (j : Fin 384) :
    V (F := Ideal) m c (Pipeline.arrRef spec0 2) (ix2 r j) = Calls.cosines (fun k => m (c.tc.loc main_arg2) (ix2 r k)) j := by
  unfold V
  after_results
  pointwise
  rfl

/-- and the sines, with the sign of the first halves. -/
theorem sine_table (c : Dev nD) (r : Fin 4096) (j : Fin 384) :
    V (F := Ideal) m c (Pipeline.arrRef spec0 3) (ix2 r j) = Calls.sines (fun k => m (c.tc.loc main_arg3) (ix2 r k)) j := by
  unfold V
  after_results
  pointwise
  rfl

/-- A place of a block among the whole rows. -/
def at0 (t : Fin cfg0.N) (r : Fin 512) : Fin 4096 := ⟨t.val * 512 + r.val, by have := t.isLt; change t.val < 8 at this; omega⟩

theorem cos_block (c : Dev nD) (t : Fin cfg0.N) (r : Fin 512) :
    (fun j => iblk (F := Ideal) m c 2 t (ix2 r j)) = Calls.cosines (fun k => m (c.tc.loc main_arg2) (ix2 (at0 t r) k)) := by
  funext j
  rw [← cosine_table m c]
  blk_ext [iblk, at0, i2 t]

theorem sin_block (c : Dev nD) (t : Fin cfg0.N) (r : Fin 512) :
    (fun j => iblk (F := Ideal) m c 3 t (ix2 r j)) = Calls.sines (fun k => m (c.tc.loc main_arg3) (ix2 (at0 t r) k)) := by
  funext j
  rw [← sine_table m c]
  blk_ext [iblk, at0, i3 t]

theorem pay4_eq (a b x : Vec Ideal S512x384 .f32) (c s : Fin 32 → EReal) (r : Fin 512) (j : Fin 384)
    (ha : (fun j => a (ix2 r j)) = Calls.cosines c) (hb : (fun j => b (ix2 r j)) = Calls.sines s) :
    k0_pay4 a b x x (ix2 r j) = Calls.rotateGrad (fun j => x (ix2 r j)) c s j := by
  rw [← Calls.rotateGrad_eq, ← ha, ← hb]
  pointwise [k0_pay4, k0_pay2, k0_pay3, Calls.first]

theorem pay1_eq (a b x : Vec Ideal S512x384 .f32) (c s : Fin 32 → EReal) (r : Fin 512) (j : Fin 384)
    (ha : (fun j => a (ix2 r j)) = Calls.cosines c) (hb : (fun j => b (ix2 r j)) = Calls.sines s) :
    k0_pay1 (k0_pay3 b) (k0_pay5 a x) x (ix2 r j) = Calls.rotateGrad (fun j => x (ix2 r j)) c s j := by
  rw [← Calls.rotateGrad_eq, ← ha, ← hb]
  pointwise [k0_pay1, k0_pay5, k0_pay2, k0_pay3, Calls.first]

/-- The first result. -/
def res4 (x : S4096x384.Idx → EReal) (c s : S4096x32.Idx → EReal) : S4096x384.Idx → EReal := fun y =>
  Calls.rotateGrad (fun k => x (ix2 (⟨(y 0).val, (y 0).isLt⟩ : Fin 4096) k)) (fun k => c (ix2 (⟨(y 0).val, (y 0).isLt⟩ : Fin 4096) k)) (fun k => s (ix2 (⟨(y 0).val, (y 0).isLt⟩ : Fin 4096) k))
    ⟨(y 1).val, (y 1).isLt⟩

theorem final4 (c : Dev nD) : (dats (F := Ideal) m 0 c).arrAt 4 cfg0.N = res4 (m (c.tc.loc main_arg0)) (m (c.tc.loc main_arg2)) (m (c.tc.loc main_arg3)) := by
  refine (dats m 0 c).arrAt_eq_of_covers 4 _ (by decide +kernel) fun t hf y => ?_
  blk_simp
  rw [after0_4]
  frame_out
  idx_vars y
  refine (pay4_eq _ _ _ _ _ _ _ (cos_block m c t y0) (sin_block m c t y0)).trans ?_
  have e : (fun k => iblk (F := Ideal) m c 0 t (ix2 y0 k)) = fun k => m (c.tc.loc main_arg0) (ix2 (at0 t y0) k) := by
    funext k
    blk_ext [iblk, V, at0, i0 t]
  refine (congrArg (fun x => Calls.rotateGrad x _ _ y1) e).trans ?_
  unfold res4
  refine congrArg₂ (fun (a : Fin 4096) b => Calls.rotateGrad (fun k => m (c.tc.loc main_arg0) (ix2 a k)) (fun k => m (c.tc.loc main_arg2) (ix2 a k)) (fun k => m (c.tc.loc main_arg3) (ix2 a k)) b)
    (Fin.ext ?_) (Fin.ext ?_)
  · blk_simp
    simp only [i4 t, at0]
    rfl
  · blk_simp
    simp only [i4 t]
    change y1.val = 0 * 384 + y1.val
    omega

/-- and the second. -/
def res5 (x : S4096x384.Idx → EReal) (c s : S4096x32.Idx → EReal) : S4096x384.Idx → EReal := fun y =>
  Calls.rotateGrad (fun k => x (ix2 (⟨(y 0).val, (y 0).isLt⟩ : Fin 4096) k)) (fun k => c (ix2 (⟨(y 0).val, (y 0).isLt⟩ : Fin 4096) k)) (fun k => s (ix2 (⟨(y 0).val, (y 0).isLt⟩ : Fin 4096) k))
    ⟨(y 1).val, (y 1).isLt⟩

theorem final5 (c : Dev nD) : (dats (F := Ideal) m 0 c).arrAt 5 cfg0.N = res5 (m (c.tc.loc main_arg1)) (m (c.tc.loc main_arg2)) (m (c.tc.loc main_arg3)) := by
  refine (dats m 0 c).arrAt_eq_of_covers 5 _ (by decide +kernel) fun t hf y => ?_
  blk_simp
  rw [after0_5]
  frame_out
  idx_vars y
  refine (pay1_eq _ _ _ _ _ _ _ (cos_block m c t y0) (sin_block m c t y0)).trans ?_
  have e : (fun k => iblk (F := Ideal) m c 1 t (ix2 y0 k)) = fun k => m (c.tc.loc main_arg1) (ix2 (at0 t y0) k) := by
    funext k
    blk_ext [iblk, V, at0, i1 t]
  refine (congrArg (fun x => Calls.rotateGrad x _ _ y1) e).trans ?_
  unfold res5
  refine congrArg₂ (fun (a : Fin 4096) b => Calls.rotateGrad (fun k => m (c.tc.loc main_arg1) (ix2 a k)) (fun k => m (c.tc.loc main_arg2) (ix2 a k)) (fun k => m (c.tc.loc main_arg3) (ix2 a k)) b)
    (Fin.ext ?_) (Fin.ext ?_)
  · blk_simp
    simp only [i5 t, at0]
    rfl
  · blk_simp
    simp only [i5 t]
    change y1.val = 0 * 384 + y1.val
    omega

theorem ref4 (x : S4096x384.Idx → EReal) (c s : S4096x32.Idx → EReal) (r : Fin 4096) (j : Fin 384) :
    ((if h : j.val / 64 < 6 ∧ 32 ≤ j.val % 64 ∧ j.val % 64 - 32 < 32 then
      x (ix2 r ⟨j.val / 64 * 64 + (32 + (j.val % 64 - 32)), by omega⟩) * c (ix2 r ⟨j.val % 64 - 32, by omega⟩)
        + -x (ix2 r ⟨j.val / 64 * 64 + (j.val % 64 - 32), by omega⟩) * s (ix2 r ⟨j.val % 64 - 32, by omega⟩) else 0)
      + (if h : j.val / 64 < 6 ∧ j.val % 64 < 32 then
        x (ix2 r ⟨j.val / 64 * 64 + (32 + j.val % 64), by omega⟩) * s (ix2 r ⟨j.val % 64, h.2⟩) + x (ix2 r ⟨j.val, by omega⟩) * c (ix2 r ⟨j.val % 64, h.2⟩) else 0))
      = res4 x c s (ix2 r j) := by
  change _ = Calls.rotateGrad (fun k => x (ix2 r k)) (fun k => c (ix2 r k)) (fun k => s (ix2 r k)) j
  unfold Calls.rotateGrad
  by_cases h : j.val % 64 < 32
  · rw [dif_neg (by omega), dif_pos ⟨by omega, h⟩, zero_add, dif_pos h, add_comm]
    refine congrArg (fun a => x (ix2 r _) * c (ix2 r _) + x (ix2 r a) * s (ix2 r _)) (Fin.ext ?_)
    dsimp only
    omega
  · rw [dif_pos ⟨by omega, by omega, by omega⟩, dif_neg (by omega), add_zero, dif_neg h, neg_mul, mul_neg]
    refine congrArg₂ (fun a b => x (ix2 r a) * c (ix2 r _) + -(x (ix2 r b) * s (ix2 r _))) (Fin.ext ?_) (Fin.ext ?_) <;> dsimp only <;> omega

theorem ref5 (x : S4096x384.Idx → EReal) (c s : S4096x32.Idx → EReal) (r : Fin 4096) (j : Fin 384) :
    ((if h : j.val / 64 < 6 ∧ 32 ≤ j.val % 64 ∧ j.val % 64 - 32 < 32 then
      x (ix2 r ⟨j.val / 64 * 64 + (32 + (j.val % 64 - 32)), by omega⟩) * c (ix2 r ⟨j.val % 64 - 32, by omega⟩)
        + -x (ix2 r ⟨j.val / 64 * 64 + (j.val % 64 - 32), by omega⟩) * s (ix2 r ⟨j.val % 64 - 32, by omega⟩) else 0)
      + (if h : j.val / 64 < 6 ∧ j.val % 64 < 32 then
        x (ix2 r ⟨j.val / 64 * 64 + (32 + j.val % 64), by omega⟩) * s (ix2 r ⟨j.val % 64, h.2⟩) + x (ix2 r ⟨j.val, by omega⟩) * c (ix2 r ⟨j.val % 64, h.2⟩) else 0))
      = res5 x c s (ix2 r j) := by
  change _ = Calls.rotateGrad (fun k => x (ix2 r k)) (fun k => c (ix2 r k)) (fun k => s (ix2 r k)) j
  unfold Calls.rotateGrad
  by_cases h : j.val % 64 < 32
  · rw [dif_neg (by omega), dif_pos ⟨by omega, h⟩, zero_add, dif_pos h, add_comm]
    refine congrArg (fun a => x (ix2 r _) * c (ix2 r _) + x (ix2 r a) * s (ix2 r _)) (Fin.ext ?_)
    dsimp only
    omega
  · rw [dif_pos ⟨by omega, by omega, by omega⟩, dif_neg (by omega), add_zero, dif_neg h, neg_mul, mul_neg]
    refine congrArg₂ (fun a b => x (ix2 r a) * c (ix2 r _) + -(x (ix2 r b) * s (ix2 r _))) (Fin.ext ?_) (Fin.ext ?_) <;> dsimp only <;> omega

/-- The call and its reference leave the same results. -/
theorem algebraic : algebraic_RopeGradIdeal_RopeGradReferenceIdeal := by
  intro m g m' g' _ ha
  refine ⟨_, _, (θ_run _ _ _).mono (fun r h c => ⟨(h c).1.trans (final4 m c), (h c).2.1.trans (final5 m c), (h c).2.2⟩) (Value.run_blocks m g), ?_⟩
  refine (θ_run _ _ _).mono (fun r h c => ?_) (Cert.RopeGradReferenceIdeal.Value.run m' g')
  refine ⟨(h c).1.trans ?_, (h c).2.1.trans ?_, (h c).2.2⟩ <;> clear h
  · obtain ⟨h0, h1, h2, h3⟩ := ha c
    clear ha
    funext j
    idx_vars j
    pointwise
    exact (ref4 _ _ _ _ _).trans (congrFun (congr (congrArg₂ res4 h0 h2) h3) _)
  · obtain ⟨h0, h1, h2, h3⟩ := ha c
    clear ha
    funext j
    idx_vars j
    pointwise
    exact (ref5 _ _ _ _ _).trans (congrFun (congr (congrArg₂ res5 h1 h2) h3) _)

/-- The reference changes none of its arguments. -/
theorem reference_frame : quiescent_RopeGradReferenceIdeal := fun m ρ _ =>
  (θ_run Cert.RopeGradReferenceIdeal.defs _ _).mono (fun r h => ⟨fun c => (h c).2.2, sem_eq_zero_of_no_sems (by decide) r.2⟩)
    (Cert.RopeGradReferenceIdeal.Value.run m ρ)

end Cert.RopeGradIdeal.Calls

end
-- ==== Proof.Products.S5Bu.lean ====
/- S5Bu: the S5 state's input `u · b`, of the last 384 columns of the projection. A point of the grid computes one block of the result, over the whole contracted axis. -/
module

public import proofs.«01_k».proof.Defs
public import proofs.«01_k».proof.Proof.Gen.S5BuIdeal.Value
public import proofs.«01_k».proof.Proof.Gen.S5BuReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.S5BuIdeal.Products

open Idealize.ShloMosaic
open Cert.S5BuIdeal
open Cert.S5BuIdeal.Gen

variable (m : (ℓ : Loc nD τ sig) → Buf (Elt Ideal) ℓ)

/-- A point reads the block of the first operand in its result's rows, -/
theorem i0 : ∀ t : Fin cfg0.N, win0_0.index t = ![win0_2.index t 0, 5] := (by decide +kernel : ∀ t : Fin grid0.N, _)

/-- and the block of the second in its result's columns. -/
theorem i1 : ∀ t : Fin cfg0.N, win0_1.index t = ![0, win0_2.index t 1] := (by decide +kernel : ∀ t : Fin grid0.N, _)

/-- The result at the end of the run. -/
theorem final (c : Dev nD) : (dats (F := Ideal) m 0 c).arrAt 2 cfg0.N
    = Products.nn (m := 4096) (n := 2048) (k := 384) (Products.u (m (c.tc.loc main_arg0))) (m (c.tc.loc main_arg1)) := by
  refine (dats m 0 c).arrAt_eq_of_covers 2 _ (by decide +kernel) fun t hf y => ?_
  blk_simp
  rw [after0_2]
  frame_out
  idx_vars y
  pointwise [k0_pay1]
  refine Fin.sum_fin_congr fun x => congrArg₂ (· * ·) ?_ ?_
  · blk_ext [iblk, V, i0 t]
  · blk_ext [iblk, V, i1 t]

/-- The call and its reference leave the same result. -/
theorem algebraic : algebraic_S5BuIdeal_S5BuReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).1, (ha c).2]
        funext j
        idx_vars j
        pointwise [Products.nn, Products.u]), (h c).2⟩)
      (Cert.S5BuReferenceIdeal.Value.run m' g')⟩

/-- The reference changes none of its arguments. -/
theorem reference_frame : quiescent_S5BuReferenceIdeal := fun m ρ _ =>
  (θ_run Cert.S5BuReferenceIdeal.defs _ _).mono (fun r h => ⟨fun c => (h c).2, sem_eq_zero_of_no_sems (by decide) r.2⟩)
    (Cert.S5BuReferenceIdeal.Value.run m ρ)

end Cert.S5BuIdeal.Products

end
-- ==== Proof.Products.S5Y.lean ====
/- S5Y: the S5 state's readout `x · c`. A point of the grid computes one block of the result, over the whole contracted axis. -/
module

public import proofs.«01_k».proof.Defs
public import proofs.«01_k».proof.Proof.Gen.S5YIdeal.Value
public import proofs.«01_k».proof.Proof.Gen.S5YReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.S5YIdeal.Products

open Idealize.ShloMosaic
open Cert.S5YIdeal
open Cert.S5YIdeal.Gen

variable (m : (ℓ : Loc nD τ sig) → Buf (Elt Ideal) ℓ)

/-- A point reads the block of the first operand in its result's rows, -/
theorem i0 : ∀ t : Fin cfg0.N, win0_0.index t = ![win0_2.index t 0, 0] := (by decide +kernel : ∀ t : Fin grid0.N, _)

/-- and the block of the second in its result's columns. -/
theorem i1 : ∀ t : Fin cfg0.N, win0_1.index t = ![0, win0_2.index t 1] := (by decide +kernel : ∀ t : Fin grid0.N, _)

/-- The result at the end of the run. -/
theorem final (c : Dev nD) : (dats (F := Ideal) m 0 c).arrAt 2 cfg0.N
    = Products.nn (m := 4096) (n := 256) (k := 2048) (m (c.tc.loc main_arg0)) (m (c.tc.loc main_arg1)) := by
  refine (dats m 0 c).arrAt_eq_of_covers 2 _ (by decide +kernel) fun t hf y => ?_
  blk_simp
  rw [after0_2]
  frame_out
  idx_vars y
  pointwise [k0_pay1]
  refine Fin.sum_fin_congr fun x => congrArg₂ (· * ·) ?_ ?_
  · blk_ext [iblk, V, i0 t]
  · blk_ext [iblk, V, i1 t]

/-- The call and its reference leave the same result. -/
theorem algebraic : algebraic_S5YIdeal_S5YReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).1, (ha c).2]
        funext j
        idx_vars j
        pointwise [Products.nn]), (h c).2⟩)
      (Cert.S5YReferenceIdeal.Value.run m' g')⟩

/-- The reference changes none of its arguments. -/
theorem reference_frame : quiescent_S5YReferenceIdeal := fun m ρ _ =>
  (θ_run Cert.S5YReferenceIdeal.defs _ _).mono (fun r h => ⟨fun c => (h c).2, sem_eq_zero_of_no_sems (by decide) r.2⟩)
    (Cert.S5YReferenceIdeal.Value.run m ρ)

end Cert.S5YIdeal.Products

end
-- ==== Proof.Products.S5Dx.lean ====
/- S5Dx: the gradient `dy · cᵀ` of the S5 state. A point of the grid computes one block of the result, over the whole contracted axis. -/
module

public import proofs.«01_k».proof.Defs
public import proofs.«01_k».proof.Proof.Gen.S5DxIdeal.Value
public import proofs.«01_k».proof.Proof.Gen.S5DxReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.S5DxIdeal.Products

open Idealize.ShloMosaic
open Cert.S5DxIdeal
open Cert.S5DxIdeal.Gen

variable (m : (ℓ : Loc nD τ sig) → Buf (Elt Ideal) ℓ)

/-- A point reads the block of the first operand in its result's rows, -/
theorem i0 : ∀ t : Fin cfg0.N, win0_0.index t = ![win0_2.index t 0, 0] := (by decide +kernel : ∀ t : Fin grid0.N, _)

/-- and the block of the second in its result's columns. -/
theorem i1 : ∀ t : Fin cfg0.N, win0_1.index t = ![win0_2.index t 1, 0] := (by decide +kernel : ∀ t : Fin grid0.N, _)

/-- The result at the end of the run. -/
theorem final (c : Dev nD) : (dats (F := Ideal) m 0 c).arrAt 2 cfg0.N
    = Products.nt (m := 4096) (n := 2048) (k := 256) (m (c.tc.loc main_arg2)) (m (c.tc.loc main_arg1)) := by
  refine (dats m 0 c).arrAt_eq_of_covers 2 _ (by decide +kernel) fun t hf y => ?_
  blk_simp
  rw [after0_2]
  frame_out
  idx_vars y
  pointwise [k0_pay1]
  refine Fin.sum_fin_congr fun x => congrArg₂ (· * ·) ?_ ?_
  · blk_ext [iblk, V, i0 t]
  · blk_ext [iblk, V, i1 t]

/-- The call and its reference leave the same result. -/
theorem algebraic : algebraic_S5DxIdeal_S5DxReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).2.1, (ha c).2.2]
        funext j
        idx_vars j
        pointwise [Products.nt]), (h c).2⟩)
      (Cert.S5DxReferenceIdeal.Value.run m' g')⟩

/-- The reference changes none of its arguments. -/
theorem reference_frame : quiescent_S5DxReferenceIdeal := fun m ρ _ =>
  (θ_run Cert.S5DxReferenceIdeal.defs _ _).mono (fun r h => ⟨fun c => (h c).2, sem_eq_zero_of_no_sems (by decide) r.2⟩)
    (Cert.S5DxReferenceIdeal.Value.run m ρ)

end Cert.S5DxIdeal.Products

end
-- ==== Proof.Products.S5Dc.lean ====
/- S5Dc: the gradient `xᵀ · dy` of the S5 readout's weight. A block of the result is accumulated over 4 points, each of which contracts one block of the axis. -/
module

public import proofs.«01_k».proof.Defs
public import proofs.«01_k».proof.Proof.Gen.S5DcIdeal.Value
public import proofs.«01_k».proof.Proof.Gen.S5DcReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.S5DcIdeal.Products

open Idealize.ShloMosaic
open Cert.S5DcIdeal
open Cert.S5DcIdeal.Gen

variable (m : (ℓ : Loc nD τ sig) → Buf (Elt Ideal) ℓ)

theorem i0 : ∀ t : Fin cfg0.N, win0_0.index t = ![t.val % 4, win0_2.index t 0] := (by decide +kernel : ∀ t : Fin grid0.N, _)

theorem i1 : ∀ t : Fin cfg0.N, win0_1.index t = ![t.val % 4, win0_2.index t 1] := (by decide +kernel : ∀ t : Fin grid0.N, _)

/-- The points of a run share their block of the result. -/
theorem i2 : ∀ t s : Fin cfg0.N, t.val / 4 = s.val / 4 → win0_2.index t = win0_2.index s :=
  (by decide +kernel : ∀ t s : Fin grid0.N, t.val / 4 = s.val / 4 → _)

/-- What a point adds to the accumulator. -/
def part (c : Dev nD) (t : Fin cfg0.N) : S1024x256.Idx → EReal :=
  Products.tn (iblk (F := Ideal) m c 0 t) (iblk (F := Ideal) m c 1 t)

/-- The accumulator at the last point of a run is the sum of what the points of the run add. -/
theorem acc (c : Dev nD) (t : Fin cfg0.N) (h : t.val % 4 = 3) (y : S1024x256.Idx) :
    (outsAt0 (F := Ideal) m c t.val t.isLt).2 y
      = 0 + ∑ s : Fin 4, part m c ⟨4 * (t.val / 4) + s.val, Pipeline.run_point_lt_of_flush t h s⟩ y := by
  refine Pipeline.eq_sum_fin_of_reset_step_apply_of_flush (fun n h => (outsAt0 (F := Ideal) m c n h).2) 4
    (fun _ => 0) (part m c) (fun t h y => ?_) (fun t h y => ?_) t h y
  · rw [outsAt0_A m c t h (by omega) (by omega)]
    frame_out
    idx_vars y
    pointwise [k0_pay2, k0_pay1, part, Products.tn]
  · by_cases h2 : t.val % 4 = 3
    · rw [outsAt0_C m c t h (by omega) h2]
      frame_out
      rw [(Memref.isWhole_whole cc0_scratch0).read_unread]
      idx_vars y
      pointwise [k0_pay3, k0_pay1, part, Products.tn]
    · rw [outsAt0_B m c t h (by omega) h2]
      frame_out
      rw [(Memref.isWhole_whole cc0_scratch0).read_unread]
      idx_vars y
      pointwise [k0_pay3, k0_pay1, part, Products.tn]

/-- The result at the end of the run. -/
theorem final (c : Dev nD) : (dats (F := Ideal) m 0 c).arrAt 2 cfg0.N
    = Products.tn (m := 2048) (n := 256) (k := 4096) (m (c.tc.loc main_arg0)) (m (c.tc.loc main_arg2)) := by
  refine (dats m 0 c).arrAt_eq_of_covers 2 _ (by decide +kernel) fun t hf y => ?_
  blk_simp
  have h3 := (flush0_2 t).mp hf
  have e : (outsAt0 (F := Ideal) m c t.val t.isLt).1 y = (outsAt0 (F := Ideal) m c t.val t.isLt).2 y := by
    rw [outsAt0_C m c t (by omega) (by omega) h3]
    frame_out
  rw [after0_2, e, acc m c t h3, zero_add]
  unfold part Products.tn
  refine Fin.sum_mul_add_congr fun s k hl => ?_
  have e2 := i2 ⟨4 * (t.val / 4) + s.val, Pipeline.run_point_lt_of_flush t h3 s⟩ t (by dsimp only; omega)
  refine congrArg₂ (· * ·) ?_ ?_
  · blk_ext [iblk, V, i0, e2]
  · blk_ext [iblk, V, i1, e2]

/-- The call and its reference leave the same result. -/
theorem algebraic : algebraic_S5DcIdeal_S5DcReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).1, (ha c).2.2]
        funext j
        idx_vars j
        pointwise [Products.tn]
        exact Fin.sum_fin_congr fun x => mul_comm _ _), (h c).2⟩)
      (Cert.S5DcReferenceIdeal.Value.run m' g')⟩

/-- The reference changes none of its arguments. -/
theorem reference_frame : quiescent_S5DcReferenceIdeal := fun m ρ _ =>
  (θ_run Cert.S5DcReferenceIdeal.defs _ _).mono (fun r h => ⟨fun c => (h c).2, sem_eq_zero_of_no_sems (by decide) r.2⟩)
    (Cert.S5DcReferenceIdeal.Value.run m ρ)

end Cert.S5DcIdeal.Products

end
-- ==== Proof.Products.S5Du.lean ====
/- S5Du: the gradient `g · bᵀ + du` of the S5 channels, through the state's input and the skip. A point of the grid computes one block of the result, over the whole contracted axis. -/
module

public import proofs.«01_k».proof.Defs
public import proofs.«01_k».proof.Proof.Gen.S5DuIdeal.Value
public import proofs.«01_k».proof.Proof.Gen.S5DuReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.S5DuIdeal.Products

open Idealize.ShloMosaic
open Cert.S5DuIdeal
open Cert.S5DuIdeal.Gen

variable (m : (ℓ : Loc nD τ sig) → Buf (Elt Ideal) ℓ)

theorem i0 : ∀ t : Fin cfg0.N, win0_0.index t = ![win0_3.index t 0, 0] := (by decide +kernel : ∀ t : Fin grid0.N, _)

theorem i1 : ∀ t : Fin cfg0.N, win0_1.index t = ![win0_3.index t 1, 0] := (by decide +kernel : ∀ t : Fin grid0.N, _)

theorem i2 : ∀ t : Fin cfg0.N, win0_2.index t = win0_3.index t := (by decide +kernel : ∀ t : Fin grid0.N, _)

/-- `a · bᵀ + z`. -/
def sum (a : Products.Ix 4096 2048 → EReal) (b : Products.Ix 256 2048 → EReal) (z : Products.Ix 4096 256 → EReal)
    (i : Products.Ix 4096 256) : EReal := Products.nt a b i + z i

/-- The result at the end of the run. -/
theorem final (c : Dev nD) : (dats (F := Ideal) m 0 c).arrAt 3 cfg0.N
    = sum (m (c.tc.loc main_arg2)) (m (c.tc.loc main_arg1)) (m (c.tc.loc main_arg3)) := by
  refine (dats m 0 c).arrAt_eq_of_covers 3 _ (by decide +kernel) fun t hf y => ?_
  blk_simp
  rw [after0_3]
  frame_out
  idx_vars y
  pointwise [k0_pay1]
  refine congrArg₂ (· + ·) (Fin.sum_fin_congr fun x => congrArg₂ (· * ·) ?_ ?_) ?_
  · blk_ext [iblk, V, i0 t]
  · blk_ext [iblk, V, i1 t]
  · blk_ext [iblk, V, i2 t]

/-- The call and its reference leave the same result. -/
theorem algebraic : algebraic_S5DuIdeal_S5DuReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).2.1, (ha c).2.2.1, (ha c).2.2.2]
        funext j
        idx_vars j
        pointwise [sum, Products.nt]
        exact add_comm _ _), (h c).2⟩)
      (Cert.S5DuReferenceIdeal.Value.run m' g')⟩

/-- The reference changes none of its arguments. -/
theorem reference_frame : quiescent_S5DuReferenceIdeal := fun m ρ _ =>
  (θ_run Cert.S5DuReferenceIdeal.defs _ _).mono (fun r h => ⟨fun c => (h c).2, sem_eq_zero_of_no_sems (by decide) r.2⟩)
    (Cert.S5DuReferenceIdeal.Value.run m ρ)

end Cert.S5DuIdeal.Products

end
-- ==== Proof.Products.S5Db.lean ====
/- S5Db: the gradient `uᵀ · g` of the S5 input's weight, of the last 384 columns of the projection. A block of the result is accumulated over 4 points, each of which contracts one block of the axis. -/
module

public import proofs.«01_k».proof.Defs
public import proofs.«01_k».proof.Proof.Gen.S5DbIdeal.Value
public import proofs.«01_k».proof.Proof.Gen.S5DbReferenceIdeal.Run
public import proofs.«01_k».proof.Proof.Products.Sums
public import Idealize.ShloMosaic.Lib.Pipeline.ValueKit
public import Idealize.ShloMosaic.Lib.Quiescent

@[expose] public section

set_option maxRecDepth 16384

noncomputable section

namespace Cert.S5DbIdeal.Products

open Idealize.ShloMosaic
open Cert.S5DbIdeal
open Cert.S5DbIdeal.Gen

variable (m : (ℓ : Loc nD τ sig) → Buf (Elt Ideal) ℓ)

theorem i0 : ∀ t : Fin cfg0.N, win0_0.index t = ![t.val % 4, 5] := (by decide +kernel : ∀ t : Fin grid0.N, _)

/-- All rows of the result are in one block. -/
theorem i3 : ∀ t : Fin cfg0.N, win0_2.index t 0 = 0 := (by decide +kernel : ∀ t : Fin grid0.N, _)

theorem i1 : ∀ t : Fin cfg0.N, win0_1.index t = ![t.val % 4, win0_2.index t 1] := (by decide +kernel : ∀ t : Fin grid0.N, _)

/-- The points of a run share their block of the result. -/
theorem i2 : ∀ t s : Fin cfg0.N, t.val / 4 = s.val / 4 → win0_2.index t = win0_2.index s :=
  (by decide +kernel : ∀ t s : Fin grid0.N, t.val / 4 = s.val / 4 → _)

/-- What a point adds to the accumulator. -/
def part (c : Dev nD) (t : Fin cfg0.N) : S384x1024.Idx → EReal :=
  Products.tn (iblk (F := Ideal) m c 0 t) (iblk (F := Ideal) m c 1 t)

/-- The accumulator at the last point of a run is the sum of what the points of the run add. -/
theorem acc (c : Dev nD) (t : Fin cfg0.N) (h : t.val % 4 = 3) (y : S384x1024.Idx) :
    (outsAt0 (F := Ideal) m c t.val t.isLt).2 y
      = 0 + ∑ s : Fin 4, part m c ⟨4 * (t.val / 4) + s.val, Pipeline.run_point_lt_of_flush t h s⟩ y := by
  refine Pipeline.eq_sum_fin_of_reset_step_apply_of_flush (fun n h => (outsAt0 (F := Ideal) m c n h).2) 4
    (fun _ => 0) (part m c) (fun t h y => ?_) (fun t h y => ?_) t h y
  · rw [outsAt0_A m c t h (by omega) (by omega)]
    frame_out
    idx_vars y
    pointwise [k0_pay2, k0_pay1, part, Products.tn, Products.u]
  · by_cases h2 : t.val % 4 = 3
    · rw [outsAt0_C m c t h (by omega) h2]
      frame_out
      rw [(Memref.isWhole_whole cc0_scratch0).read_unread]
      idx_vars y
      pointwise [k0_pay3, k0_pay1, part, Products.tn, Products.u]
    · rw [outsAt0_B m c t h (by omega) h2]
      frame_out
      rw [(Memref.isWhole_whole cc0_scratch0).read_unread]
      idx_vars y
      pointwise [k0_pay3, k0_pay1, part, Products.tn, Products.u]

/-- The result at the end of the run. -/
theorem final (c : Dev nD) : (dats (F := Ideal) m 0 c).arrAt 2 cfg0.N
    = Products.tn (m := 384) (n := 2048) (k := 4096) (Products.u (m (c.tc.loc main_arg0))) (m (c.tc.loc main_arg2)) := by
  refine (dats m 0 c).arrAt_eq_of_covers 2 _ (by decide +kernel) fun t hf y => ?_
  blk_simp
  have h3 := (flush0_2 t).mp hf
  have e : (outsAt0 (F := Ideal) m c t.val t.isLt).1 y = (outsAt0 (F := Ideal) m c t.val t.isLt).2 y := by
    rw [outsAt0_C m c t (by omega) (by omega) h3]
    frame_out
  rw [after0_2, e, acc m c t h3, zero_add]
  unfold part Products.tn Products.u
  refine Fin.sum_mul_add_congr fun s k hl => ?_
  have e2 := i2 ⟨4 * (t.val / 4) + s.val, Pipeline.run_point_lt_of_flush t h3 s⟩ t (by dsimp only; omega)
  refine congrArg₂ (· * ·) ?_ ?_
  · blk_ext [iblk, V, i0, e2, i3 t]
  · blk_ext [iblk, V, i1, e2]

/-- The call and its reference leave the same result. -/
theorem algebraic : algebraic_S5DbIdeal_S5DbReferenceIdeal := fun m g m' g' _ ha =>
  ⟨_, (θ_run _ _ _).mono (fun r h c => ⟨(h c).1.trans (final m c), (h c).2⟩) (Value.run_blocks m g),
    (θ_run _ _ _).mono (fun r h c => ⟨(h c).1.trans (by
        rw [(ha c).1, (ha c).2.2]
        funext j
        idx_vars j
        pointwise [Products.tn, Products.u]
        exact Fin.sum_fin_congr fun x => mul_comm _ _), (h c).2⟩)
      (Cert.S5DbReferenceIdeal.Value.run m' g')⟩

/-- The reference changes none of its arguments. -/
theorem reference_frame : quiescent_S5DbReferenceIdeal := fun m ρ _ =>
  (θ_run Cert.S5DbReferenceIdeal.defs _ _).mono (fun r h => ⟨fun c => (h c).2, sem_eq_zero_of_no_sems (by decide) r.2⟩)
    (Cert.S5DbReferenceIdeal.Value.run m ρ)

end Cert.S5DbIdeal.Products

end
-- ==== Proof.Calls.TapRows4.lean ====
/- The gradients of a convolution's four taps and its shift: a row of a tile of 8 rows each, gathered over blocks of rows. -/
module

public import proofs.«01_k».proof.Proof.Calls.TapRows

@[expose] public section

noncomputable section

namespace Cert.Calls

open Idealize.ShloMosaic

/-- Of one column: `d` and its rows moved up by one, two and three, times the rows of the input, and the sum of `d`. -/
def tapGrad4 {n : ℕ} (d d1 d2 d3 u : Fin n → EReal) (i : Fin 8) : EReal :=
  if i.val = 4 then ∑ r, d r else if i.val = 3 then ∑ r, d r * u r else if i.val = 2 then ∑ r, d1 r * u r else if i.val = 1 then ∑ r, d2 r * u r
  else if i.val = 0 then ∑ r, d3 r * u r else 0

theorem tapGrad4_blocks (d d1 d2 d3 u : Fin 4096 → EReal) (i : Fin 8) (f : Fin 8 → EReal)
    (h : ∀ s : Fin 8, f s = tapGrad4 (fun r : Fin 512 => d ⟨s.val * 512 + r.val, by omega⟩) (fun r : Fin 512 => d1 ⟨s.val * 512 + r.val, by omega⟩)
      (fun r : Fin 512 => d2 ⟨s.val * 512 + r.val, by omega⟩) (fun r : Fin 512 => d3 ⟨s.val * 512 + r.val, by omega⟩)
      (fun r : Fin 512 => u ⟨s.val * 512 + r.val, by omega⟩) i) :
    ∑ s, f s = tapGrad4 d d1 d2 d3 u i := by
  rw [funext h]
  unfold tapGrad4
  by_cases h4 : i.val = 4
  · simp only [if_pos h4]
    exact sum_blocks d
  simp only [if_neg h4]
  by_cases h3 : i.val = 3
  · simp only [if_pos h3]
    exact sum_blocks fun r => d r * u r
  simp only [if_neg h3]
  by_cases h2 : i.val = 2
  · simp only [if_pos h2]
    exact sum_blocks fun r => d1 r * u r
  simp only [if_neg h2]
  by_cases h1 : i.val = 1
  · simp only [if_pos h1]
    exact sum_blocks fun r => d2 r * u r
  simp only [if_neg h1]
  by_cases h0 : i.val = 0
  · simp only [if_pos h0]
    exact sum_blocks fun r => d3 r * u r
  simp only [if_neg h0]
  exact Finset.sum_const_zero

/-- A column of a block of 512 rows moved up by `k`: its last `k` rows are the first of the tile `p` of 8. -/
def above8 (k : ℕ) (hk : k < 8) (x : Fin 512 → EReal) (p : Fin 8 → EReal) (r : Fin 512) : EReal :=
  if h : r.val + k < 512 then x ⟨r.val + k, h⟩ else p ⟨r.val + k - 512, by omega⟩

theorem above8_eq (k q : ℕ) (hq : k + q = 8) (h0 : 0 < q) (hk : k < 8) (x : Fin 512 → EReal) (p : Fin 8 → EReal) (a : ℕ) (ha : a < 4294967296) (r : Fin 512) :
    Scalar.select (IntOp.cmpi .slt (BitVec.ofNat 32 (r.val % 8)) (BitVec.ofNat 32 q))
      (x ⟨r.val / 8 * 8 + (r.val % 8 + 8 - q) % 8, by omega⟩)
      (if h : r.val / 8 < 63 then x ⟨(1 + r.val / 8) * 8 + (r.val % 8 + 8 - q) % 8, by omega⟩
        else Scalar.select (Scalar.cmpi .eq (BitVec.ofNat 32 a) 7#32) 0 (p ⟨(r.val % 8 + 8 - q) % 8, by omega⟩))
      = above8 k hk x (fun y => if a = 7 then 0 else p y) r := by
  rw [select_lt _ _ (by omega) (by omega)]
  unfold above8
  by_cases h1 : r.val % 8 < q
  · rw [if_pos h1, dif_pos (by omega)]
    refine congrArg x (Fin.ext ?_)
    dsimp only
    omega
  · rw [if_neg h1]
    by_cases h2 : r.val / 8 < 63
    · rw [dif_pos h2, dif_pos (by omega)]
      refine congrArg x (Fin.ext ?_)
      dsimp only
      omega
    · rw [dif_neg h2, dif_neg (by omega), select_eq _ 7 ha (by omega)]
      refine congrArg (fun y => if a = 7 then (0 : EReal) else p y) (Fin.ext ?_)
      dsimp only
      omega

end Cert.Calls

end
-- ==== Proof.Calls.LruConvGrad.lean ====
/- LruConvGrad: the gradients of the recurrent unit's convolution: of its input, block of rows by block of rows, and of its taps and shift, gathered over the blocks. -/
module

public import proofs.«01_k».proof.Defs
public import proofs.«01_k».proof.Proof.Gen.LruConvGradIdeal.Value
public import proofs.«01_k».proof.Proof.Gen.LruConvGradReferenceIdeal.Run
public import proofs.«01_k».proof.Proof.Calls.Rows
public import proofs.«01_k».proof.Proof.Calls.Tile
public import proofs.«01_k».proof.Proof.Calls.TapRows
public import proofs.«01_k».proof.Proof.Calls.TapRows4
public import Idealize.ShloMosaic.Lib.Pipeline.ValueKit
public import Idealize.ShloMosaic.Lib.Quiescent

@[expose] public section

set_option maxRecDepth 16384

noncomputable section

namespace Cert.LruConvGradIdeal.Calls

open Idealize.ShloMosaic Idealize.ShloMosaic.TcCoe
open Cert.LruConvGradIdeal
open Cert.LruConvGradIdeal.Gen

variable (m : (ℓ : Loc nD τ sig) → Buf (Elt Ideal) ℓ)

theorem i0 : ∀ t : Fin cfg0.N, win0_0.index t = ![0, t.val, 0] := (by decide +kernel : ∀ t : Fin grid0.N, _)
theorem i1 : ∀ t : Fin cfg0.N, win0_1.index t = ![0, min (t.val * 64 + 64) 511, 0] := (by decide +kernel : ∀ t : Fin grid0.N, _)
theorem i2 : ∀ t : Fin cfg0.N, win0_2.index t = ![t.val, 3] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![0, 0] := (by decide +kernel : ∀ t : Fin grid0.N, _)
theorem row : ∀ t : Fin cfg0.N, (grid0.coords t 2).val = t.val := (by decide +kernel : ∀ t : Fin grid0.N, _)

/-- A row of a block among the whole rows. -/
def at0 (t : Fin cfg0.N) (r : Fin 512) : Fin 4096 := ⟨t.val * 512 + r.val, by have := t.isLt; change t.val < 8 at this; omega⟩

/-- A column of the gradient, and of the convolution's input: the fourth of six parts of the projection. -/
def col (d : S4096x384.Idx → EReal) (j : Fin 384) (r : Fin 4096) : EReal := d (ix2 r j)
def given (p : S4096x2304.Idx → EReal) (j : Fin 384) (r : Fin 4096) : EReal := p (ix2 r (⟨1152 + j.val, by omega⟩ : Fin 2304))

/-- The gradient as the call takes it. -/
theorem whole (c : Dev nD) (r : Fin 4096) (j : Fin 384) : (V (F := Ideal) m c main_v0 : S1x4096x384.Idx → EReal) (ix3 0 r j) = m (c.tc.loc main_arg0) (ix2 r j) := by
  unfold V
  after_results
  pointwise

theorem col_block (c : Dev nD) (t : Fin cfg0.N) (r : Fin 512) (j : Fin 384) :
    iblk (F := Ideal) m c 0 t (ix3 0 r j) = col (m (c.tc.loc main_arg0)) j (at0 t r) := by
  refine Eq.trans ?_ (whole m c (at0 t r) j)
  blk_ext [iblk, at0, i0 t]

theorem pay6_eq (c : Dev nD) (t : Fin cfg0.N) (r : Fin 512) (j : Fin 384) :
    k0_pay6 (iblk (F := Ideal) m c 0 t) (ix2 r j) = col (m (c.tc.loc main_arg0)) j (at0 t r) := by
  refine Eq.trans ?_ (col_block m c t r j)
  pointwise [k0_pay6]

/-- The rows of a block moved up. -/
theorem above_block (c : Dev nD) (t : Fin cfg0.N) (k : ℕ) (hk : k < 8) (r : Fin 512) (j : Fin 384) :
    Calls.above8 k hk (fun r => iblk (F := Ideal) m c 0 t (ix3 0 r j)) (fun r => if (grid0.coords t 2).val = 7 then 0 else iblk (F := Ideal) m c 1 t (ix3 0 r j)) r
      = Calls.up (col (m (c.tc.loc main_arg0)) j) k (at0 t r) := by
  have := t.isLt
  change t.val < 8 at this
  unfold Calls.above8 Calls.up
  rw [row t]
  by_cases h : r.val + k < 512
  · rw [dif_pos h, dif_pos (show (at0 t r).val + k < 4096 by unfold at0; dsimp only; omega)]
    refine (col_block m c t _ j).trans (congrArg (col _ _) (Fin.ext ?_))
    unfold at0
    dsimp only
    omega
  · rw [dif_neg h]
    by_cases h7 : t.val = 7
    · rw [dif_neg (show ¬ (at0 t r).val + k < 4096 by unfold at0; dsimp only; omega)]
      exact if_pos h7
    · rw [dif_pos (show (at0 t r).val + k < 4096 by unfold at0; dsimp only; omega)]
      refine (if_neg h7).trans ?_
      refine Eq.trans ?_ (whole m c _ j)
      blk_ext [iblk, at0, i1 t]

theorem pay7_eq (c : Dev nD) (t : Fin cfg0.N) (r : Fin 512) (j : Fin 384) :
    k0_pay7 (grid0.coords t) (iblk (F := Ideal) m c 1 t) (iblk (F := Ideal) m c 0 t) (ix2 r j) = Calls.up (col (m (c.tc.loc main_arg0)) j) 1 (at0 t r) := by
  have hi : (grid0.coords t 2).val < 4294967296 := lt_of_lt_of_le (grid0.coords t 2).isLt (by decide)
  refine Eq.trans ?_ ((Calls.above8_eq 1 7 rfl (by omega) (by omega) (fun r => iblk (F := Ideal) m c 0 t (ix3 0 r j)) (fun r => iblk (F := Ideal) m c 1 t (ix3 0 r j)) _ hi r).trans
    (above_block m c t 1 (by omega) r j))
  pointwise [k0_pay7, k0_pay5, k0_pay6]

theorem pay8_eq (c : Dev nD) (t : Fin cfg0.N) (r : Fin 512) (j : Fin 384) :
    k0_pay8 (grid0.coords t) (iblk (F := Ideal) m c 1 t) (iblk (F := Ideal) m c 0 t) (ix2 r j) = Calls.up (col (m (c.tc.loc main_arg0)) j) 2 (at0 t r) := by
  have hi : (grid0.coords t 2).val < 4294967296 := lt_of_lt_of_le (grid0.coords t 2).isLt (by decide)
  refine Eq.trans ?_ ((Calls.above8_eq 2 6 rfl (by omega) (by omega) (fun r => iblk (F := Ideal) m c 0 t (ix3 0 r j)) (fun r => iblk (F := Ideal) m c 1 t (ix3 0 r j)) _ hi r).trans
    (above_block m c t 2 (by omega) r j))
  pointwise [k0_pay8, k0_pay5, k0_pay6]

theorem pay11_eq (c : Dev nD) (t : Fin cfg0.N) (r : Fin 512) (j : Fin 384) :
    k0_pay11 (k0_pay5 (grid0.coords t) (iblk (F := Ideal) m c 1 t)) (k0_pay9 (iblk (F := Ideal) m c 0 t)) (k0_pay10 (iblk (F := Ideal) m c 0 t)) 5#32 (ix2 r j)
      = Calls.up (col (m (c.tc.loc main_arg0)) j) 3 (at0 t r) := by
  have hi : (grid0.coords t 2).val < 4294967296 := lt_of_lt_of_le (grid0.coords t 2).isLt (by decide)
  refine Eq.trans ?_ ((Calls.above8_eq 3 5 rfl (by omega) (by omega) (fun r => iblk (F := Ideal) m c 0 t (ix3 0 r j)) (fun r => iblk (F := Ideal) m c 1 t (ix3 0 r j)) _ hi r).trans
    (above_block m c t 3 (by omega) r j))
  pointwise [k0_pay11, k0_pay9, k0_pay10, k0_pay5, k0_pay6]

theorem given_block (c : Dev nD) (t : Fin cfg0.N) (r : Fin 512) (j : Fin 384) :
    iblk (F := Ideal) m c 2 t (ix2 r j) = given (m (c.tc.loc main_arg1)) j (at0 t r) := by
  unfold given
  blk_ext [iblk, V, at0, i2 t]

theorem tap_block (c : Dev nD) (t : Fin cfg0.N) (k : Fin 4) (j : Fin 384) :
    iblk (F := Ideal) m c 3 t (ix2 k j) = m (c.tc.loc main_arg2) (ix2 k j) := by
  blk_ext [iblk, V, i3 t]

theorem pay12_eq (h : FVec Ideal S8x384 .f32) (a b d : FVec Ideal S512x384 .f32) (p : FVec Ideal S64x8x384 .f32) (q : FVec Ideal S63x8x384 .f32) (n : BitVec 32)
    (x y z w : Vec Ideal S1x384 .f32) (r : Fin 512) (j : Fin 384) :
    k0_pay12 h a b d p q n x y z w (ix2 r j)
      = x (ix2 0 j) * a (ix2 r j) + y (ix2 0 j) * k0_pay11 h p q n (ix2 r j) + z (ix2 0 j) * d (ix2 r j) + w (ix2 0 j) * b (ix2 r j) := by
  generalize e : k0_pay11 h p q n = f
  pointwise [k0_pay12, e]

/-- The gradient of the convolution's input. -/
def input (d : S4096x384.Idx → EReal) (w : S4x384.Idx → EReal) (r : Fin 4096) (j : Fin 384) : EReal :=
  w (ix2 3 j) * col d j r + w (ix2 0 j) * Calls.up (col d j) 3 r + w (ix2 1 j) * Calls.up (col d j) 2 r + w (ix2 2 j) * Calls.up (col d j) 1 r

def inputs (d : S4096x384.Idx → EReal) (w : S4x384.Idx → EReal) : S4096x384.Idx → EReal := fun y =>
  input d w ⟨(y 0).val, (y 0).isLt⟩ ⟨(y 1).val, (y 1).isLt⟩

theorem final4 (c : Dev nD) : (dats (F := Ideal) m 0 c).arrAt 4 cfg0.N = inputs (m (c.tc.loc main_arg0)) (m (c.tc.loc main_arg2)) := by
  refine (dats m 0 c).arrAt_eq_of_covers 4 _ (by decide +kernel) fun t hf y => ?_
  blk_simp
  idx_vars y
  have e : (outsAt0 (F := Ideal) m c t.val t.isLt).1 (ix2 y0 y1) = input (m (c.tc.loc main_arg0)) (m (c.tc.loc main_arg2)) (at0 t y0) y1 := by
    have e (h : FVec Ideal S8x384 .f32) (a b d : FVec Ideal S512x384 .f32) (p : FVec Ideal S64x8x384 .f32) (q : FVec Ideal S63x8x384 .f32) (n : BitVec 32) (x y z w : Vec Ideal S1x384 .f32)
        (a' b' d' f' x' y' z' w' : EReal) (ha : a (ix2 y0 y1) = a') (hb : b (ix2 y0 y1) = b') (hd : d (ix2 y0 y1) = d') (hf : k0_pay11 h p q n (ix2 y0 y1) = f')
        (hx : x (ix2 0 y1) = x') (hy : y (ix2 0 y1) = y') (hz : z (ix2 0 y1) = z') (hw : w (ix2 0 y1) = w') :
        k0_pay12 h a b d p q n x y z w (ix2 y0 y1) = x' * a' + y' * f' + z' * d' + w' * b' := by
      rw [pay12_eq, ha, hb, hd, hf, hx, hy, hz, hw]
    by_cases h : t.val % 8 = 0
    · rw [outsAt0_A m c t h]
      frame_out
      exact e _ _ _ _ _ _ _ _ _ _ _ _ _ _ _ _ _ _ _ (pay6_eq m c t y0 y1) (pay7_eq m c t y0 y1) (pay8_eq m c t y0 y1) (pay11_eq m c t y0 y1)
        ((Calls.ld_row _ _ _ 3 rfl _).trans (tap_block m c t 3 y1)) ((Calls.ld_row _ _ _ 0 rfl _).trans (tap_block m c t 0 y1))
        ((Calls.ld_row _ _ _ 1 rfl _).trans (tap_block m c t 1 y1)) ((Calls.ld_row _ _ _ 2 rfl _).trans (tap_block m c t 2 y1))
    · rw [outsAt0_B m c t h]
      frame_out
      exact e _ _ _ _ _ _ _ _ _ _ _ _ _ _ _ _ _ _ _ (pay6_eq m c t y0 y1) (pay7_eq m c t y0 y1) (pay8_eq m c t y0 y1) (pay11_eq m c t y0 y1)
        ((Calls.ld_row _ _ _ 3 rfl _).trans (tap_block m c t 3 y1)) ((Calls.ld_row _ _ _ 0 rfl _).trans (tap_block m c t 0 y1))
        ((Calls.ld_row _ _ _ 1 rfl _).trans (tap_block m c t 1 y1)) ((Calls.ld_row _ _ _ 2 rfl _).trans (tap_block m c t 2 y1))
  rw [after0_4]
  refine e.trans ?_
  unfold inputs
  refine congrArg₂ (input _ _) (Fin.ext ?_) (Fin.ext ?_)
  · blk_simp
    simp only [i4 t, at0]
    rfl
  · blk_simp
    simp only [i4 t]
    change y1.val = 0 * 384 + y1.val
    omega

theorem row0 (h : FVec Ideal S8x384 .f32) (u : Vec Ideal S512x384 .f32) (p : FVec Ideal S64x8x384 .f32) (q : FVec Ideal S63x8x384 .f32) (n : BitVec 32) (x : Vec Ideal S1x384 .f32) (j : Fin 384) :
    k0_pay13 h u p q n x (ix2 0 j) = x (ix2 0 j) + ∑ r, k0_pay11 h p q n (ix2 r j) * u (ix2 r j) := by
  generalize e : k0_pay11 h p q n = f
  pointwise [k0_pay13, e]
theorem row1 (u : Vec Ideal S512x384 .f32) (b : FVec Ideal S512x384 .f32) (x : Vec Ideal S1x384 .f32) (j : Fin 384) : k0_pay14 u b x (ix2 0 j) = x (ix2 0 j) + ∑ r, b (ix2 r j) * u (ix2 r j) := by
  pointwise [k0_pay14]
theorem row2 (u : Vec Ideal S512x384 .f32) (b : FVec Ideal S512x384 .f32) (x : Vec Ideal S1x384 .f32) (j : Fin 384) : k0_pay1 u b x (ix2 0 j) = x (ix2 0 j) + ∑ r, b (ix2 r j) * u (ix2 r j) := by
  pointwise [k0_pay1]
theorem row3 (a : FVec Ideal S512x384 .f32) (u : Vec Ideal S512x384 .f32) (x : Vec Ideal S1x384 .f32) (j : Fin 384) : k0_pay2 a u x (ix2 0 j) = x (ix2 0 j) + ∑ r, a (ix2 r j) * u (ix2 r j) := by
  pointwise [k0_pay2]
theorem row4 (a : FVec Ideal S512x384 .f32) (x : Vec Ideal S1x384 .f32) (j : Fin 384) : k0_pay3 a x (ix2 0 j) = x (ix2 0 j) + ∑ r, a (ix2 r j) := by
  pointwise [k0_pay3]

/-- What a point adds to the tile. -/
def part (c : Dev nD) (t : Fin cfg0.N) : S8x384.Idx → EReal := fun y =>
  Calls.tapGrad4 (fun r : Fin 512 => k0_pay6 (iblk (F := Ideal) m c 0 t) (ix2 r (⟨(y 1).val, (y 1).isLt⟩ : Fin 384)))
    (fun r => k0_pay7 (grid0.coords t) (iblk (F := Ideal) m c 1 t) (iblk (F := Ideal) m c 0 t) (ix2 r (⟨(y 1).val, (y 1).isLt⟩ : Fin 384)))
    (fun r => k0_pay8 (grid0.coords t) (iblk (F := Ideal) m c 1 t) (iblk (F := Ideal) m c 0 t) (ix2 r (⟨(y 1).val, (y 1).isLt⟩ : Fin 384)))
    (fun r => k0_pay11 (k0_pay5 (grid0.coords t) (iblk (F := Ideal) m c 1 t)) (k0_pay9 (iblk (F := Ideal) m c 0 t)) (k0_pay10 (iblk (F := Ideal) m c 0 t)) 5#32
      (ix2 r (⟨(y 1).val, (y 1).isLt⟩ : Fin 384)))
    (fun r => iblk (F := Ideal) m c 2 t (ix2 r (⟨(y 1).val, (y 1).isLt⟩ : Fin 384))) ⟨(y 0).val, (y 0).isLt⟩

theorem part_ix (c : Dev nD) (t : Fin cfg0.N) (i : Fin 8) (j : Fin 384) :
    part m c t (ix2 i j) = Calls.tapGrad4 (fun r : Fin 512 => k0_pay6 (iblk (F := Ideal) m c 0 t) (ix2 r j))
      (fun r => k0_pay7 (grid0.coords t) (iblk (F := Ideal) m c 1 t) (iblk (F := Ideal) m c 0 t) (ix2 r j))
      (fun r => k0_pay8 (grid0.coords t) (iblk (F := Ideal) m c 1 t) (iblk (F := Ideal) m c 0 t) (ix2 r j))
      (fun r => k0_pay11 (k0_pay5 (grid0.coords t) (iblk (F := Ideal) m c 1 t)) (k0_pay9 (iblk (F := Ideal) m c 0 t)) (k0_pay10 (iblk (F := Ideal) m c 0 t)) 5#32 (ix2 r j))
      (fun r => iblk (F := Ideal) m c 2 t (ix2 r j)) i := rfl

theorem acc (c : Dev nD) (t : Fin cfg0.N) (h : t.val % 8 = 7) (y : S8x384.Idx) :
    (outsAt0 (F := Ideal) m c t.val t.isLt).2 y
      = 0 + ∑ s : Fin 8, part m c ⟨8 * (t.val / 8) + s.val, Pipeline.run_point_lt_of_flush t h s⟩ y := by
  refine Pipeline.eq_sum_fin_of_reset_step_apply_of_flush (fun n h => (outsAt0 (F := Ideal) m c n h).2) 8
    (fun _ => 0) (part m c) (fun t h y => ?_) (fun t h y => ?_) t h y
  · rw [outsAt0_A m c t h]
    frame_out
    idx_vars y
    simp (disch := decide) only [View.readCov_skip, View.readCov_fill]
    refine (Calls.canon_row _ _ _ _ _ _).trans ?_
    rw [Calls.canon_row, Calls.canon_row, Calls.canon_row, Calls.canon_row, Calls.canon_fill, part_ix, Calls.tapGrad4]
    by_cases h4 : y0.val = 4
    · rw [if_pos h4, if_pos h4]
      refine (row4 _ _ _).trans (congrArg (· + _) ?_)
      pointwise [k0_pay4]
    rw [if_neg h4, if_neg h4]
    by_cases h3 : y0.val = 3
    · rw [if_pos h3, if_pos h3]
      refine (row3 _ _ _ _).trans (congrArg (· + _) ?_)
      pointwise [k0_pay4]
    rw [if_neg h3, if_neg h3]
    by_cases h2 : y0.val = 2
    · rw [if_pos h2, if_pos h2]
      refine (row2 _ _ _ _).trans (congrArg (· + _) ?_)
      pointwise [k0_pay4]
    rw [if_neg h2, if_neg h2]
    by_cases h1 : y0.val = 1
    · rw [if_pos h1, if_pos h1]
      refine (row1 _ _ _ _).trans (congrArg (· + _) ?_)
      pointwise [k0_pay4]
    rw [if_neg h1, if_neg h1]
    by_cases h0 : y0.val = 0
    · rw [if_pos h0, if_pos h0]
      refine (row0 _ _ _ _ _ _ _).trans (congrArg (· + _) ?_)
      pointwise [k0_pay4]
    rw [if_neg h0, if_neg h0]
    pointwise [k0_pay4]
  · rw [outsAt0_B m c t h]
    frame_out
    idx_vars y
    rw [part_ix, Calls.tapGrad4]
    refine (Calls.read_row _ _ _ _ _ _ _ _).trans ?_
    by_cases h4 : y0.val = 4
    · rw [if_pos h4, if_pos h4]
      exact (row4 _ _ _).trans (congrArg (· + _) (Calls.ld_row _ _ _ y0 h4 _))
    rw [if_neg h4, if_neg h4]
    refine (Calls.read_row _ _ _ _ _ _ _ _).trans ?_
    by_cases h3 : y0.val = 3
    · rw [if_pos h3, if_pos h3]
      exact (row3 _ _ _ _).trans (congrArg (· + _) (Calls.ld_row _ _ _ y0 h3 _))
    rw [if_neg h3, if_neg h3]
    refine (Calls.read_row _ _ _ _ _ _ _ _).trans ?_
    by_cases h2 : y0.val = 2
    · rw [if_pos h2, if_pos h2]
      exact (row2 _ _ _ _).trans (congrArg (· + _) (Calls.ld_row _ _ _ y0 h2 _))
    rw [if_neg h2, if_neg h2]
    refine (Calls.read_row _ _ _ _ _ _ _ _).trans ?_
    by_cases h1 : y0.val = 1
    · rw [if_pos h1, if_pos h1]
      exact (row1 _ _ _ _).trans (congrArg (· + _) (Calls.ld_row _ _ _ y0 h1 _))
    rw [if_neg h1, if_neg h1]
    refine (Calls.read_row _ _ _ _ _ _ _ _).trans ?_
    by_cases h0 : y0.val = 0
    · rw [if_pos h0, if_pos h0]
      exact (row0 _ _ _ _ _ _ _).trans (congrArg (· + _) (Calls.ld_row _ _ _ y0 h0 _))
    rw [if_neg h0, if_neg h0, add_zero]
    exact congrFun (Memref.IsWhole.read_unread _ _) _

/-- The gradients of the taps and of the shifts. -/
def tap (d : S4096x384.Idx → EReal) (u : S4096x2304.Idx → EReal) (i : Fin 8) (j : Fin 384) : EReal :=
  Calls.tapGrad4 (col d j) (Calls.up (col d j) 1) (Calls.up (col d j) 2) (Calls.up (col d j) 3) (given u j) i

def taps (d : S4096x384.Idx → EReal) (u : S4096x2304.Idx → EReal) : S8x384.Idx → EReal := fun y =>
  tap d u ⟨(y 0).val, (y 0).isLt⟩ ⟨(y 1).val, (y 1).isLt⟩

theorem final5 (c : Dev nD) : (dats (F := Ideal) m 0 c).arrAt 5 cfg0.N = taps (m (c.tc.loc main_arg0)) (m (c.tc.loc main_arg1)) := by
  refine (dats m 0 c).arrAt_eq_of_covers 5 _ (by decide +kernel) fun t hf y => ?_
  blk_simp
  have h3 : t.val % 8 = 7 := (flush0_5 t).mp hf
  have := t.isLt
  change t.val < 8 at this
  rw [after0_5, acc m c t h3, zero_add]
  idx_vars y
  have e : tap (m (c.tc.loc main_arg0)) (m (c.tc.loc main_arg1)) y0 y1
      = taps (m (c.tc.loc main_arg0)) (m (c.tc.loc main_arg1)) (((cfg0.win 5).blk t).view.emb (ix2 y0 y1)) := by
    unfold taps
    refine congrArg₂ (tap _ _) (Fin.ext ?_) (Fin.ext ?_)
    · blk_simp
      simp only [i5 t]
      change y0.val = 0 * 8 + y0.val
      omega
    · blk_simp
      simp only [i5 t]
      change y1.val = 0 * 384 + y1.val
      omega
  refine Eq.trans ?_ e
  unfold tap
  refine Calls.tapGrad4_blocks _ _ _ _ _ y0 _ fun s => ?_
  have e0 (r : Fin 512) : at0 ⟨8 * (t.val / 8) + s.val, Pipeline.run_point_lt_of_flush t h3 s⟩ r = ⟨s.val * 512 + r.val, by omega⟩ := by
    apply Fin.ext
    change (8 * (t.val / 8) + s.val) * 512 + r.val = s.val * 512 + r.val
    omega
  rw [part_ix]
  refine congr (congr (congr (congr (congr (congrArg Calls.tapGrad4 (funext fun r => ?_)) (funext fun r => ?_)) (funext fun r => ?_)) (funext fun r => ?_)) (funext fun r => ?_)) rfl
  · rw [pay6_eq m c, e0]
  · rw [pay7_eq m c, e0]
  · rw [pay8_eq m c, e0]
  · rw [pay11_eq m c, e0]
  · rw [given_block m c, e0]

theorem ref4 (d : S4096x384.Idx → EReal) (w : S4x384.Idx → EReal) (r : Fin 4096) (j : Fin 384) :
    (((w (ix2 3 j) * d (ix2 r j)
        + if h : r.val < 4095 then w (ix2 2 j) * d (ix2 (⟨1 + r.val, by omega⟩ : Fin 4096) j) else 0)
        + if h : r.val < 4094 then w (ix2 1 j) * d (ix2 (⟨2 + r.val, by omega⟩ : Fin 4096) j) else 0)
        + if h : r.val < 4093 then w (ix2 0 j) * d (ix2 (⟨3 + r.val, by omega⟩ : Fin 4096) j) else 0)
      = inputs d w (ix2 r j) := by
  change _ = input d w r j
  unfold input
  have up_eq (k : ℕ) (z : EReal) : (if h : r.val < 4096 - k then z * d (ix2 (⟨k + r.val, by omega⟩ : Fin 4096) j) else 0) = z * Calls.up (col d j) k r := by
    unfold Calls.up
    by_cases h : r.val < 4096 - k
    · rw [dif_pos h, dif_pos (by omega)]
      exact congrArg (z * col d j ·) (Fin.ext (Nat.add_comm _ _))
    · rw [dif_neg h, dif_neg (by omega), mul_zero]
  refine (congrArg₂ (· + ·) (congrArg₂ (· + ·) (congrArg (w (ix2 3 j) * col d j r + ·) (up_eq 1 (w (ix2 2 j)))) (up_eq 2 (w (ix2 1 j)))) (up_eq 3 (w (ix2 0 j)))).trans ?_
  abel

theorem ref5 (d : S4096x384.Idx → EReal) (u : S4096x2304.Idx → EReal) (i : Fin 8) (j : Fin 384) :
    (if h : i.val < 4 then
      (((if h : 3 ≤ i.val ∧ i.val - 3 < 1 then ∑ _x : Fin 1, ∑ r : Fin 4096, col d j r * given u j r else 0)
        + if h : 2 ≤ i.val ∧ i.val - 2 < 1 then ∑ _x : Fin 1, ((∑ r : Fin 1, col d j 0 * 0)
            + ∑ r : Fin 4095, col d j ⟨1 + r.val, by omega⟩ * given u j ⟨r.val, by omega⟩) else 0)
        + if h : 1 ≤ i.val ∧ i.val - 1 < 1 then ∑ _x : Fin 1, ((∑ r : Fin 2, col d j ⟨r.val, by omega⟩ * 0)
            + ∑ r : Fin 4094, col d j ⟨2 + r.val, by omega⟩ * given u j ⟨r.val, by omega⟩) else 0)
        + (if h : i.val < 1 then ∑ _x : Fin 1, ((∑ r : Fin 3, col d j ⟨r.val, by omega⟩ * 0)
            + ∑ r : Fin 4093, col d j ⟨3 + r.val, by omega⟩ * given u j ⟨r.val, by omega⟩) else 0)
      else if h : i.val - 4 < 1 then ∑ _x : Fin 1, ∑ r : Fin 4096, col d j r else 0)
      = taps d u (ix2 i j) := by
  change _ = tap d u i j
  unfold tap Calls.tapGrad4
  simp only [mul_zero, Finset.sum_const_zero, zero_add, Fin.sum_univ_one]
  by_cases h4 : i.val = 4
  · rw [dif_neg (by omega), dif_pos (by omega), if_pos h4]
  rw [if_neg h4]
  by_cases h3 : i.val = 3
  · rw [dif_pos (by omega), dif_pos (by omega), dif_neg (by omega), dif_neg (by omega), dif_neg (by omega), if_pos h3, add_zero, add_zero, add_zero]
  rw [if_neg h3]
  by_cases h2 : i.val = 2
  · rw [dif_pos (by omega), dif_neg (by omega), dif_pos (by omega), dif_neg (by omega), dif_neg (by omega), if_pos h2, zero_add, add_zero, add_zero]
    exact Calls.sum_up 4095 1 (col d j) (given u j)
  rw [if_neg h2]
  by_cases h1 : i.val = 1
  · rw [dif_pos (by omega), dif_neg (by omega), dif_neg (by omega), dif_pos (by omega), dif_neg (by omega), if_pos h1, add_zero, add_zero, zero_add]
    exact Calls.sum_up 4094 2 (col d j) (given u j)
  rw [if_neg h1]
  by_cases h0 : i.val = 0
  · rw [dif_pos (by omega), dif_neg (by omega), dif_neg (by omega), dif_neg (by omega), dif_pos (by omega), if_pos h0, add_zero, add_zero, zero_add]
    exact Calls.sum_up 4093 3 (col d j) (given u j)
  rw [dif_neg (by omega), dif_neg (by omega), if_neg h0]

/-- The call and its reference leave the same results. -/
theorem algebraic : algebraic_LruConvGradIdeal_LruConvGradReferenceIdeal := by
  intro m g m' g' _ ha
  refine ⟨_, _, (θ_run _ _ _).mono (fun r h c => ⟨(h c).1.trans (final4 m c), (h c).2.1.trans (final5 m c), (h c).2.2⟩) (Value.run_blocks m g), ?_⟩
  refine (θ_run _ _ _).mono (fun r h c => ?_) (Cert.LruConvGradReferenceIdeal.Value.run m' g')
  refine ⟨(h c).1.trans ?_, (h c).2.1.trans ?_, (h c).2.2⟩ <;> clear h
  · obtain ⟨h0, h1, h2, -⟩ := ha c
    clear ha
    funext j
    idx_vars j
    pointwise
    exact (ref4 _ _ _ _).trans (congrFun (congrArg₂ inputs h0 h2) _)
  · obtain ⟨h0, h1, h2, -⟩ := ha c
    clear ha
    funext j
    idx_vars j
    pointwise
    exact (ref5 _ _ _ _).trans (congrFun (congrArg₂ taps h0 h1) _)

/-- The reference changes none of its arguments. -/
theorem reference_frame : quiescent_LruConvGradReferenceIdeal := fun m ρ _ =>
  (θ_run Cert.LruConvGradReferenceIdeal.defs _ _).mono (fun r h => ⟨fun c => (h c).2.2, sem_eq_zero_of_no_sems (by decide) r.2⟩)
    (Cert.LruConvGradReferenceIdeal.Value.run m ρ)

end Cert.LruConvGradIdeal.Calls

end
-- ==== Proof.Calls.Adam.lean ====
/- One step of the optimiser on one weight: the two moments and the step, with the constants as the words that both sides write. -/
module

public import Idealize.ShloMosaic.PureOps.Ideal

@[expose] public section

noncomputable section

namespace Cert.Calls

open Idealize.ShloMosaic

/-- The mean of the gradients, and of their squares. -/
def newMean (g m : EReal) : EReal := Ideal.ofBits .f32 1063675494#32 * m + Ideal.ofBits .f32 1036831949#32 * g
def newSquare (g v : EReal) : EReal := Ideal.ofBits .f32 1065336439#32 * v + Ideal.ofBits .f32 981668463#32 * (g * g)

/-- The step. -/
def adamStep (g w m v : EReal) : EReal :=
  Ideal.ofBits .f32 3129152111#32
    * (Ideal.div (Ideal.div (newMean g m) (Ideal.ofBits .f32 1059503362#32))
        (Ideal.sqrt (Ideal.div (newSquare g v) (Ideal.ofBits .f32 1008933580#32)) + Ideal.ofBits .f32 841731191#32)
      + Ideal.ofBits .f32 1008981770#32 * w)

/-- The sum of two gradients. -/
def pairSum (a b : EReal) : EReal := a + b

end Cert.Calls

end
-- ==== Proof.Calls.AdamSmall.lean ====
/- AdamSmall: the optimiser on the packed small weights, block of rows by block of rows. -/
module

public import proofs.«01_k».proof.Defs
public import proofs.«01_k».proof.Proof.Gen.AdamSmallIdeal.Value
public import proofs.«01_k».proof.Proof.Gen.AdamSmallReferenceIdeal.Run
public import proofs.«01_k».proof.Proof.Calls.Adam
public import Idealize.ShloMosaic.Lib.Pipeline.ValueKit
public import Idealize.ShloMosaic.Lib.Quiescent

@[expose] public section

set_option maxRecDepth 16384

noncomputable section

namespace Cert.AdamSmallIdeal.Calls

open Idealize.ShloMosaic Idealize.ShloMosaic.TcCoe
open Cert.AdamSmallIdeal
open Cert.AdamSmallIdeal.Gen

variable (m : (ℓ : Loc nD τ sig) → Buf (Elt Ideal) ℓ)

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![t.val, 0] := (by decide +kernel : ∀ t : Fin grid0.N, _)

/-- A row of a block among the whole rows. -/
def at0 (t : Fin cfg0.N) (r : Fin 2048) : Fin 4096 := ⟨t.val * 2048 + r.val, by have := t.isLt; change t.val < 2 at this; omega⟩

theorem block0 (c : Dev nD) (t : Fin cfg0.N) (y0 : Fin 2048) (y1 : Fin 128) :
    iblk (F := Ideal) m c 0 t (ix2 y0 y1) = m (c.tc.loc main_arg0) (ix2 (at0 t y0) y1) := by
  blk_ext [iblk, V, at0, i0 t]

theorem block1 (c : Dev nD) (t : Fin cfg0.N) (y0 : Fin 2048) (y1 : Fin 128) :
    iblk (F := Ideal) m c 1 t (ix2 y0 y1) = m (c.tc.loc main_arg1) (ix2 (at0 t y0) y1) := by
  blk_ext [iblk, V, at0, i1 t]

theorem block2 (c : Dev nD) (t : Fin cfg0.N) (y0 : Fin 2048) (y1 : Fin 128) :
    iblk (F := Ideal) m c 2 t (ix2 y0 y1) = m (c.tc.loc main_arg2) (ix2 (at0 t y0) y1) := by
  blk_ext [iblk, V, at0, i2 t]

theorem block3 (c : Dev nD) (t : Fin cfg0.N) (y0 : Fin 2048) (y1 : Fin 128) :
    iblk (F := Ideal) m c 3 t (ix2 y0 y1) = m (c.tc.loc main_arg3) (ix2 (at0 t y0) y1) := by
  blk_ext [iblk, V, at0, i3 t]

theorem final4 (c : Dev nD) : (dats (F := Ideal) m 0 c).arrAt 4 cfg0.N = fun y => Calls.adamStep (m (c.tc.loc main_arg0) y) (m (c.tc.loc main_arg1) y) (m (c.tc.loc main_arg2) y) (m (c.tc.loc main_arg3) y) := by
  refine (dats m 0 c).arrAt_eq_of_covers 4 _ (by decide +kernel) fun t hf y => ?_
  blk_simp
  rw [after0_4]
  frame_out
  idx_vars y
  have e : ((cfg0.win 4).blk t).view.emb (ix2 y0 y1) = ix2 (at0 t y0) y1 := by
    funext a
    apply Fin.ext
    fin_cases a
    · change win0_4.index t 0 * 2048 + 1 * y0.val = t.val * 2048 + y0.val
      rw [i4 t]
      change t.val * 2048 + 1 * y0.val = _
      omega
    · change win0_4.index t 1 * 128 + 1 * y1.val = y1.val
      rw [i4 t]
      change 0 * 128 + 1 * y1.val = _
      omega
  rw [e, ← block0 m c t, ← block1 m c t, ← block2 m c t, ← block3 m c t]
  pointwise [k0_pay3, k0_pay1, k0_pay2]
  rfl

theorem final5 (c : Dev nD) : (dats (F := Ideal) m 0 c).arrAt 5 cfg0.N = fun y => Calls.newMean (m (c.tc.loc main_arg0) y) (m (c.tc.loc main_arg2) y) := by
  refine (dats m 0 c).arrAt_eq_of_covers 5 _ (by decide +kernel) fun t hf y => ?_
  blk_simp
  rw [after0_5]
  frame_out
  idx_vars y
  have e : ((cfg0.win 5).blk t).view.emb (ix2 y0 y1) = ix2 (at0 t y0) y1 := by
    funext a
    apply Fin.ext
    fin_cases a
    · change win0_5.index t 0 * 2048 + 1 * y0.val = t.val * 2048 + y0.val
      rw [i5 t]
      change t.val * 2048 + 1 * y0.val = _
      omega
    · change win0_5.index t 1 * 128 + 1 * y1.val = y1.val
      rw [i5 t]
      change 0 * 128 + 1 * y1.val = _
      omega
  rw [e, ← block0 m c t, ← block2 m c t]
  pointwise [k0_pay3, k0_pay1, k0_pay2]
  rfl

theorem final6 (c : Dev nD) : (dats (F := Ideal) m 0 c).arrAt 6 cfg0.N = fun y => Calls.newSquare (m (c.tc.loc main_arg0) y) (m (c.tc.loc main_arg3) y) := by
  refine (dats m 0 c).arrAt_eq_of_covers 6 _ (by decide +kernel) fun t hf y => ?_
  blk_simp
  rw [after0_6]
  frame_out
  idx_vars y
  have e : ((cfg0.win 6).blk t).view.emb (ix2 y0 y1) = ix2 (at0 t y0) y1 := by
    funext a
    apply Fin.ext
    fin_cases a
    · change win0_6.index t 0 * 2048 + 1 * y0.val = t.val * 2048 + y0.val
      rw [i6 t]
      change t.val * 2048 + 1 * y0.val = _
      omega
    · change win0_6.index t 1 * 128 + 1 * y1.val = y1.val
      rw [i6 t]
      change 0 * 128 + 1 * y1.val = _
      omega
  rw [e, ← block0 m c t, ← block3 m c t]
  pointwise [k0_pay3, k0_pay1, k0_pay2]
  rfl

/-- The call and its reference leave the same results. -/
theorem algebraic : algebraic_AdamSmallIdeal_AdamSmallReferenceIdeal := by
  intro m g m' g' _ ha
  refine ⟨_, _, _, (θ_run _ _ _).mono (fun r h c => ⟨(h c).1.trans (final4 m c), (h c).2.1.trans (final5 m c), (h c).2.2.1.trans (final6 m c), (h c).2.2.2⟩)
    (Value.run_blocks m g), ?_⟩
  refine (θ_run _ _ _).mono (fun r h c => ?_) (Cert.AdamSmallReferenceIdeal.Value.run m' g')
  refine ⟨(h c).1.trans ?_, (h c).2.1.trans ?_, (h c).2.2.1.trans ?_, (h c).2.2.2⟩ <;> clear h <;> obtain ⟨h0, h1, h2, h3⟩ := ha c <;> clear ha
  · rw [← h0, ← h1, ← h2, ← h3]
    funext j
    idx_vars j
    pointwise
    rfl
  · rw [← h0, ← h2]
    funext j
    idx_vars j
    pointwise
    rfl
  · rw [← h0, ← h3]
    funext j
    idx_vars j
    pointwise
    rfl

/-- The reference changes none of its arguments. -/
theorem reference_frame : quiescent_AdamSmallReferenceIdeal := fun m ρ _ =>
  (θ_run Cert.AdamSmallReferenceIdeal.defs _ _).mono (fun r h => ⟨fun c => (h c).2.2.2, sem_eq_zero_of_no_sems (by decide) r.2⟩)
    (Cert.AdamSmallReferenceIdeal.Value.run m ρ)

end Cert.AdamSmallIdeal.Calls

end
-- ==== Proof.Calls.AdamFfnConv.lean ====
/- AdamFfnConv: the optimiser on one device's part of `ffn_conv_w`, all of it at once. -/
module

public import proofs.«01_k».proof.Defs
public import proofs.«01_k».proof.Proof.Gen.AdamFfnConvIdeal.Value
public import proofs.«01_k».proof.Proof.Gen.AdamFfnConvReferenceIdeal.Run
public import proofs.«01_k».proof.Proof.Calls.Adam
public import Idealize.ShloMosaic.Lib.Pipeline.ValueKit
public import Idealize.ShloMosaic.Lib.Quiescent

@[expose] public section

set_option maxRecDepth 16384

noncomputable section

namespace Cert.AdamFfnConvIdeal.Calls

open Idealize.ShloMosaic Idealize.ShloMosaic.TcCoe
open Cert.AdamFfnConvIdeal
open Cert.AdamFfnConvIdeal.Gen

variable (m : (ℓ : Loc nD τ sig) → Buf (Elt Ideal) ℓ)

theorem i0 : ∀ t : Fin cfg0.N, win0_0.index t = ![0, 0, 0] := (by decide +kernel : ∀ t : Fin cfg0.N, _)
theorem i1 : ∀ t : Fin cfg0.N, win0_1.index t = ![0, 0, 0] := (by decide +kernel : ∀ t : Fin cfg0.N, _)
theorem i2 : ∀ t : Fin cfg0.N, win0_2.index t = ![0, 0, 0] := (by decide +kernel : ∀ t : Fin cfg0.N, _)
theorem i3 : ∀ t : Fin cfg0.N, win0_3.index t = ![0, 0, 0] := (by decide +kernel : ∀ t : Fin cfg0.N, _)

theorem block0 (c : Dev nD) (t : Fin cfg0.N) (y0 : Fin 2) (y1 : Fin 3) (y2 : Fin 1536) :
    iblk (F := Ideal) m c 0 t (ix3 y0 y1 y2) = m (c.tc.loc main_arg0) (ix3 y0 y1 y2) := by
  blk_ext [iblk, V, i0 t]

theorem block1 (c : Dev nD) (t : Fin cfg0.N) (y0 : Fin 2) (y1 : Fin 3) (y2 : Fin 1536) :
    iblk (F := Ideal) m c 1 t (ix3 y0 y1 y2) = m (c.tc.loc main_arg1) (ix3 y0 y1 y2) := by
  blk_ext [iblk, V, i1 t]

theorem block2 (c : Dev nD) (t : Fin cfg0.N) (y0 : Fin 2) (y1 : Fin 3) (y2 : Fin 1536) :
    iblk (F := Ideal) m c 2 t (ix3 y0 y1 y2) = m (c.tc.loc main_arg2) (ix3 y0 y1 y2) := by
  blk_ext [iblk, V, i2 t]

theorem block3 (c : Dev nD) (t : Fin cfg0.N) (y0 : Fin 2) (y1 : Fin 3) (y2 : Fin 1536) :
    iblk (F := Ideal) m c 3 t (ix3 y0 y1 y2) = m (c.tc.loc main_arg3) (ix3 y0 y1 y2) := by
  blk_ext [iblk, V, i3 t]

theorem final4 (c : Dev nD) : (dats (F := Ideal) m 0 c).arrAt 4 cfg0.N = fun y => Calls.adamStep (m (c.tc.loc main_arg0) y) (m (c.tc.loc main_arg1) y) (m (c.tc.loc main_arg2) y) (m (c.tc.loc main_arg3) y) := by
  refine (dats m 0 c).arrAt_eq_of_covers 4 _ (by decide +kernel) fun t hf y => ?_
  blk_simp
  rw [after0_4]
  frame_out
  idx_vars y
  have e : ((cfg0.win 4).blk t).view.emb (ix3 y0 y1 y2) = ix3 y0 y1 y2 := by
    funext a
    apply Fin.ext
    fin_cases a
    · change 0 * 2 + 1 * y0.val = y0.val
      omega
    · change 0 * 3 + 1 * y1.val = y1.val
      omega
    · change 0 * 1536 + 1 * y2.val = y2.val
      omega
  rw [e, ← block0 m c t, ← block1 m c t, ← block2 m c t, ← block3 m c t]
  pointwise [k0_pay3, k0_pay1, k0_pay2]
  rfl

theorem final5 (c : Dev nD) : (dats (F := Ideal) m 0 c).arrAt 5 cfg0.N = fun y => Calls.newMean (m (c.tc.loc main_arg0) y) (m (c.tc.loc main_arg2) y) := by
  refine (dats m 0 c).arrAt_eq_of_covers 5 _ (by decide +kernel) fun t hf y => ?_
  blk_simp
  rw [after0_5]
  frame_out
  idx_vars y
  have e : ((cfg0.win 5).blk t).view.emb (ix3 y0 y1 y2) = ix3 y0 y1 y2 := by
    funext a
    apply Fin.ext
    fin_cases a
    · change 0 * 2 + 1 * y0.val = y0.val
      omega
    · change 0 * 3 + 1 * y1.val = y1.val
      omega
    · change 0 * 1536 + 1 * y2.val = y2.val
      omega
  rw [e, ← block0 m c t, ← block2 m c t]
  pointwise [k0_pay3, k0_pay1, k0_pay2]
  rfl

theorem final6 (c : Dev nD) : (dats (F := Ideal) m 0 c).arrAt 6 cfg0.N = fun y => Calls.newSquare (m (c.tc.loc main_arg0) y) (m (c.tc.loc main_arg3) y) := by
  refine (dats m 0 c).arrAt_eq_of_covers 6 _ (by decide +kernel) fun t hf y => ?_
  blk_simp
  rw [after0_6]
  frame_out
  idx_vars y
  have e : ((cfg0.win 6).blk t).view.emb (ix3 y0 y1 y2) = ix3 y0 y1 y2 := by
    funext a
    apply Fin.ext
    fin_cases a
    · change 0 * 2 + 1 * y0.val = y0.val
      omega
    · change 0 * 3 + 1 * y1.val = y1.val
      omega
    · change 0 * 1536 + 1 * y2.val = y2.val
      omega
  rw [e, ← block0 m c t, ← block3 m c t]
  pointwise [k0_pay3, k0_pay1, k0_pay2]
  rfl

/-- The call and its reference leave the same results. -/
theorem algebraic : algebraic_AdamFfnConvIdeal_AdamFfnConvReferenceIdeal := by
  intro m g m' g' _ ha
  refine ⟨_, _, _, (θ_run _ _ _).mono (fun r h c => ⟨(h c).1.trans (final4 m c), (h c).2.1.trans (final5 m c), (h c).2.2.1.trans (final6 m c), (h c).2.2.2⟩)
    (Value.run_blocks m g), ?_⟩
  refine (θ_run _ _ _).mono (fun r h c => ?_) (Cert.AdamFfnConvReferenceIdeal.Value.run m' g')
  refine ⟨(h c).1.trans ?_, (h c).2.1.trans ?_, (h c).2.2.1.trans ?_, (h c).2.2.2⟩ <;> clear h <;> obtain ⟨h0, h1, h2, h3⟩ := ha c <;> clear ha
  · rw [← h0, ← h1, ← h2, ← h3]
    funext j
    idx_vars j
    pointwise
    rfl
  · rw [← h0, ← h2]
    funext j
    idx_vars j
    pointwise
    rfl
  · rw [← h0, ← h3]
    funext j
    idx_vars j
    pointwise
    rfl

/-- The reference changes none of its arguments. -/
theorem reference_frame : quiescent_AdamFfnConvReferenceIdeal := fun m ρ _ =>
  (θ_run Cert.AdamFfnConvReferenceIdeal.defs _ _).mono (fun r h => ⟨fun c => (h c).2.2.2, sem_eq_zero_of_no_sems (by decide) r.2⟩)
    (Cert.AdamFfnConvReferenceIdeal.Value.run m ρ)

end Cert.AdamFfnConvIdeal.Calls

end
-- ==== Proof.Calls.AdamLruConv.lean ====
/- AdamLruConv: the optimiser on one device's part of `lru_conv_w`, all of it at once. -/
module

public import proofs.«01_k».proof.Defs
public import proofs.«01_k».proof.Proof.Gen.AdamLruConvIdeal.Value
public import proofs.«01_k».proof.Proof.Gen.AdamLruConvReferenceIdeal.Run
public import proofs.«01_k».proof.Proof.Calls.Adam
public import Idealize.ShloMosaic.Lib.Pipeline.ValueKit
public import Idealize.ShloMosaic.Lib.Quiescent

@[expose] public section

set_option maxRecDepth 16384

noncomputable section

namespace Cert.AdamLruConvIdeal.Calls

open Idealize.ShloMosaic Idealize.ShloMosaic.TcCoe
open Cert.AdamLruConvIdeal
open Cert.AdamLruConvIdeal.Gen

variable (m : (ℓ : Loc nD τ sig) → Buf (Elt Ideal) ℓ)

theorem i0 : ∀ t : Fin cfg0.N, win0_0.index t = ![0, 0, 0] := (by decide +kernel : ∀ t : Fin cfg0.N, _)
theorem i1 : ∀ t : Fin cfg0.N, win0_1.index t = ![0, 0, 0] := (by decide +kernel : ∀ t : Fin cfg0.N, _)
theorem i2 : ∀ t : Fin cfg0.N, win0_2.index t = ![0, 0, 0] := (by decide +kernel : ∀ t : Fin cfg0.N, _)
theorem i3 : ∀ t : Fin cfg0.N, win0_3.index t = ![0, 0, 0] := (by decide +kernel : ∀ t : Fin cfg0.N, _)

theorem block0 (c : Dev nD) (t : Fin cfg0.N) (y0 : Fin 2) (y1 : Fin 4) (y2 : Fin 96) :
    iblk (F := Ideal) m c 0 t (ix3 y0 y1 y2) = m (c.tc.loc main_arg0) (ix3 y0 y1 y2) := by
  blk_ext [iblk, V, i0 t]

theorem block1 (c : Dev nD) (t : Fin cfg0.N) (y0 : Fin 2) (y1 : Fin 4) (y2 : Fin 96) :
    iblk (F := Ideal) m c 1 t (ix3 y0 y1 y2) = m (c.tc.loc main_arg1) (ix3 y0 y1 y2) := by
  blk_ext [iblk, V, i1 t]

theorem block2 (c : Dev nD) (t : Fin cfg0.N) (y0 : Fin 2) (y1 : Fin 4) (y2 : Fin 96) :
    iblk (F := Ideal) m c 2 t (ix3 y0 y1 y2) = m (c.tc.loc main_arg2) (ix3 y0 y1 y2) := by
  blk_ext [iblk, V, i2 t]

theorem block3 (c : Dev nD) (t : Fin cfg0.N) (y0 : Fin 2) (y1 : Fin 4) (y2 : Fin 96) :
    iblk (F := Ideal) m c 3 t (ix3 y0 y1 y2) = m (c.tc.loc main_arg3) (ix3 y0 y1 y2) := by
  blk_ext [iblk, V, i3 t]

theorem final4 (c : Dev nD) : (dats (F := Ideal) m 0 c).arrAt 4 cfg0.N = fun y => Calls.adamStep (m (c.tc.loc main_arg0) y) (m (c.tc.loc main_arg1) y) (m (c.tc.loc main_arg2) y) (m (c.tc.loc main_arg3) y) := by
  refine (dats m 0 c).arrAt_eq_of_covers 4 _ (by decide +kernel) fun t hf y => ?_
  blk_simp
  rw [after0_4]
  frame_out
  idx_vars y
  have e : ((cfg0.win 4).blk t).view.emb (ix3 y0 y1 y2) = ix3 y0 y1 y2 := by
    funext a
    apply Fin.ext
    fin_cases a
    · change 0 * 2 + 1 * y0.val = y0.val
      omega
    · change 0 * 4 + 1 * y1.val = y1.val
      omega
    · change 0 * 96 + 1 * y2.val = y2.val
      omega
  rw [e, ← block0 m c t, ← block1 m c t, ← block2 m c t, ← block3 m c t]
  pointwise [k0_pay3, k0_pay1, k0_pay2]
  rfl

theorem final5 (c : Dev nD) : (dats (F := Ideal) m 0 c).arrAt 5 cfg0.N = fun y => Calls.newMean (m (c.tc.loc main_arg0) y) (m (c.tc.loc main_arg2) y) := by
  refine (dats m 0 c).arrAt_eq_of_covers 5 _ (by decide +kernel) fun t hf y => ?_
  blk_simp
  rw [after0_5]
  frame_out
  idx_vars y
  have e : ((cfg0.win 5).blk t).view.emb (ix3 y0 y1 y2) = ix3 y0 y1 y2 := by
    funext a
    apply Fin.ext
    fin_cases a
    · change 0 * 2 + 1 * y0.val = y0.val
      omega
    · change 0 * 4 + 1 * y1.val = y1.val
      omega
    · change 0 * 96 + 1 * y2.val = y2.val
      omega
  rw [e, ← block0 m c t, ← block2 m c t]
  pointwise [k0_pay3, k0_pay1, k0_pay2]
  rfl

theorem final6 (c : Dev nD) : (dats (F := Ideal) m 0 c).arrAt 6 cfg0.N = fun y => Calls.newSquare (m (c.tc.loc main_arg0) y) (m (c.tc.loc main_arg3) y) := by
  refine (dats m 0 c).arrAt_eq_of_covers 6 _ (by decide +kernel) fun t hf y => ?_
  blk_simp
  rw [after0_6]
  frame_out
  idx_vars y
  have e : ((cfg0.win 6).blk t).view.emb (ix3 y0 y1 y2) = ix3 y0 y1 y2 := by
    funext a
    apply Fin.ext
    fin_cases a
    · change 0 * 2 + 1 * y0.val = y0.val
      omega
    · change 0 * 4 + 1 * y1.val = y1.val
      omega
    · change 0 * 96 + 1 * y2.val = y2.val
      omega
  rw [e, ← block0 m c t, ← block3 m c t]
  pointwise [k0_pay3, k0_pay1, k0_pay2]
  rfl

/-- The call and its reference leave the same results. -/
theorem algebraic : algebraic_AdamLruConvIdeal_AdamLruConvReferenceIdeal := by
  intro m g m' g' _ ha
  refine ⟨_, _, _, (θ_run _ _ _).mono (fun r h c => ⟨(h c).1.trans (final4 m c), (h c).2.1.trans (final5 m c), (h c).2.2.1.trans (final6 m c), (h c).2.2.2⟩)
    (Value.run_blocks m g), ?_⟩
  refine (θ_run _ _ _).mono (fun r h c => ?_) (Cert.AdamLruConvReferenceIdeal.Value.run m' g')
  refine ⟨(h c).1.trans ?_, (h c).2.1.trans ?_, (h c).2.2.1.trans ?_, (h c).2.2.2⟩ <;> clear h <;> obtain ⟨h0, h1, h2, h3⟩ := ha c <;> clear ha
  · rw [← h0, ← h1, ← h2, ← h3]
    funext j
    idx_vars j
    pointwise
    rfl
  · rw [← h0, ← h2]
    funext j
    idx_vars j
    pointwise
    rfl
  · rw [← h0, ← h3]
    funext j
    idx_vars j
    pointwise
    rfl

/-- The reference changes none of its arguments. -/
theorem reference_frame : quiescent_AdamLruConvReferenceIdeal := fun m ρ _ =>
  (θ_run Cert.AdamLruConvReferenceIdeal.defs _ _).mono (fun r h => ⟨fun c => (h c).2.2.2, sem_eq_zero_of_no_sems (by decide) r.2⟩)
    (Cert.AdamLruConvReferenceIdeal.Value.run m ρ)

end Cert.AdamLruConvIdeal.Calls

end
-- ==== Proof.Calls.PairSum.lean ====
/- PairSum: the sum of two packed arrays of gradients, block of rows by block of rows. -/
module

public import proofs.«01_k».proof.Defs
public import proofs.«01_k».proof.Proof.Gen.PairSumIdeal.Value
public import proofs.«01_k».proof.Proof.Gen.PairSumReferenceIdeal.Run
public import proofs.«01_k».proof.Proof.Calls.Adam
public import Idealize.ShloMosaic.Lib.Pipeline.ValueKit
public import Idealize.ShloMosaic.Lib.Quiescent

@[expose] public section

set_option maxRecDepth 16384

noncomputable section

namespace Cert.PairSumIdeal.Calls

open Idealize.ShloMosaic Idealize.ShloMosaic.TcCoe
open Cert.PairSumIdeal
open Cert.PairSumIdeal.Gen

variable (m : (ℓ : Loc nD τ sig) → Buf (Elt Ideal) ℓ)

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)

theorem final (c : Dev nD) : (dats (F := Ideal) m 0 c).arrAt 2 cfg0.N = fun y => Calls.pairSum (m (c.tc.loc main_arg0) y) (m (c.tc.loc main_arg1) y) := by
  refine (dats m 0 c).arrAt_eq_of_covers 2 _ (by decide +kernel) fun t hf y => ?_
  blk_simp
  rw [after0_2]
  frame_out
  idx_vars y
  pointwise [k0_pay1]
  refine congrArg₂ Calls.pairSum ?_ ?_
  · blk_ext [iblk, V, i0 t, i2 t]
  · blk_ext [iblk, V, i1 t, i2 t]

/-- The call and its reference leave the same result. -/
theorem algebraic : algebraic_PairSumIdeal_PairSumReferenceIdeal := by
  intro m g m' g' _ ha
  refine ⟨_, (θ_run _ _ _).mono (fun r h c => ⟨(h c).1.trans (final m c), (h c).2⟩) (Value.run_blocks m g), ?_⟩
  refine (θ_run _ _ _).mono (fun r h c => ?_) (Cert.PairSumReferenceIdeal.Value.run m' g')
  refine ⟨(h c).1.trans ?_, (h c).2⟩
  obtain ⟨h0, h1⟩ := ha c
  rw [← h0, ← h1]
  rfl

/-- The reference changes none of its arguments. -/
theorem reference_frame : quiescent_PairSumReferenceIdeal := fun m ρ _ =>
  (θ_run Cert.PairSumReferenceIdeal.defs _ _).mono (fun r h => ⟨fun c => (h c).2, sem_eq_zero_of_no_sems (by decide) r.2⟩)
    (Cert.PairSumReferenceIdeal.Value.run m ρ)

end Cert.PairSumIdeal.Calls

end
-- ==== Proof.Calls.S5Params.lean ====
/- S5Params: the S5 parameters made discrete, whole arrays at one grid point. -/
module

public import proofs.«01_k».proof.Defs
public import proofs.«01_k».proof.Proof.Gen.S5ParamsIdeal.Value
public import proofs.«01_k».proof.Proof.Gen.S5ParamsReferenceIdeal.Run
public import Idealize.ShloMosaic.Lib.Pipeline.ValueKit
public import Idealize.ShloMosaic.Lib.Quiescent

@[expose] public section

set_option maxRecDepth 16384

noncomputable section

namespace Cert.S5ParamsIdeal.Calls

open Idealize.ShloMosaic Idealize.ShloMosaic.TcCoe
open Cert.S5ParamsIdeal
open Cert.S5ParamsIdeal.Gen

variable (m : (ℓ : Loc nD τ sig) → Buf (Elt Ideal) ℓ)

/-- The steps' logarithms as a column, and an array with its last two axes turned, as the call takes them. -/
def column (l : S16.Idx → EReal) : S16x1.Idx → EReal := fun y => l (ix1 (⟨(y 0).val, (y 0).isLt⟩ : Fin 16))
def turned (b : S16x64x16.Idx → EReal) : S16x16x64.Idx → EReal := fun y =>
  b (ix3 (⟨(y 0).val, (y 0).isLt⟩ : Fin 16) (⟨(y 2).val, (y 2).isLt⟩ : Fin 64) (⟨(y 1).val, (y 1).isLt⟩ : Fin 16))

theorem taken2 (c : Dev nD) : (V (F := Ideal) m c main_v0 : S16x1.Idx → EReal) = column (m (c.tc.loc main_arg2)) := by
  funext y
  idx_vars y
  unfold V
  after_results
  pointwise [column]

theorem taken3 (c : Dev nD) : (V (F := Ideal) m c main_v1 : S16x16x64.Idx → EReal) = turned (m (c.tc.loc main_arg3)) := by
  funext y
  idx_vars y
  unfold V
  after_results
  pointwise [turned]

theorem taken4 (c : Dev nD) : (V (F := Ideal) m c main_v2 : S16x16x64.Idx → EReal) = turned (m (c.tc.loc main_arg4)) := by
  funext y
  idx_vars y
  unfold V
  after_results
  pointwise [turned]

theorem i0 : ∀ t : Fin cfg0.N, win0_0.index t = ![0, 0] := (by decide +kernel : ∀ t : Fin cfg0.N, _)
theorem block0 (c : Dev nD) (t : Fin cfg0.N) : (iblk (F := Ideal) m c 0 t : S16x64.Idx → EReal) = m (c.tc.loc main_arg0) := by
  funext y
  idx_vars y
  blk_ext [iblk, V, i0 t]

theorem i1 : ∀ t : Fin cfg0.N, win0_1.index t = ![0, 0] := (by decide +kernel : ∀ t : Fin cfg0.N, _)
theorem block1 (c : Dev nD) (t : Fin cfg0.N) : (iblk (F := Ideal) m c 1 t : S16x64.Idx → EReal) = m (c.tc.loc main_arg1) := by
  funext y
  idx_vars y
  blk_ext [iblk, V, i1 t]

theorem i2 : ∀ t : Fin cfg0.N, win0_2.index t = ![0, 0] := (by decide +kernel : ∀ t : Fin cfg0.N, _)
theorem block2 (c : Dev nD) (t : Fin cfg0.N) : (iblk (F := Ideal) m c 2 t : S16x1.Idx → EReal) = column (m (c.tc.loc main_arg2)) := by
  rw [← taken2 m c]
  funext y
  idx_vars y
  blk_ext [iblk, i2 t]

theorem i3 : ∀ t : Fin cfg0.N, win0_3.index t = ![0, 0, 0] := (by decide +kernel : ∀ t : Fin cfg0.N, _)
theorem block3 (c : Dev nD) (t : Fin cfg0.N) : (iblk (F := Ideal) m c 3 t : S16x16x64.Idx → EReal) = turned (m (c.tc.loc main_arg3)) := by
  rw [← taken3 m c]
  funext y
  idx_vars y
  blk_ext [iblk, i3 t]

theorem i4 : ∀ t : Fin cfg0.N, win0_4.index t = ![0, 0, 0] := (by decide +kernel : ∀ t : Fin cfg0.N, _)
theorem block4 (c : Dev nD) (t : Fin cfg0.N) : (iblk (F := Ideal) m c 4 t : S16x16x64.Idx → EReal) = turned (m (c.tc.loc main_arg4)) := by
  rw [← taken4 m c]
  funext y
  idx_vars y
  blk_ext [iblk, i4 t]

theorem i5 : ∀ t : Fin cfg0.N, win0_5.index t = ![0, 0] := (by decide +kernel : ∀ t : Fin cfg0.N, _)
theorem at5 (t : Fin cfg0.N) (y : S16x64.Idx) : ((cfg0.win 5).blk t).view.emb y = y := by
  funext a
  apply Fin.ext
  fin_cases a
  · change 0 * 16 + 1 * (y 0).val = (y 0).val
    omega
  · change 0 * 64 + 1 * (y 1).val = (y 1).val
    omega

theorem i6 : ∀ t : Fin cfg0.N, win0_6.index t = ![0, 0] := (by decide +kernel : ∀ t : Fin cfg0.N, _)
theorem at6 (t : Fin cfg0.N) (y : S16x64.Idx) : ((cfg0.win 6).blk t).view.emb y = y := by
  funext a
  apply Fin.ext
  fin_cases a
  · change 0 * 16 + 1 * (y 0).val = (y 0).val
    omega
  · change 0 * 64 + 1 * (y 1).val = (y 1).val
    omega

theorem i7 : ∀ t : Fin cfg0.N, win0_7.index t = ![0, 0, 0] := (by decide +kernel : ∀ t : Fin cfg0.N, _)
theorem at7 (t : Fin cfg0.N) (y : S16x16x64.Idx) : ((cfg0.win 7).blk t).view.emb y = y := by
  funext a
  apply Fin.ext
  fin_cases a
  · change 0 * 16 + 1 * (y 0).val = (y 0).val
    omega
  · change 0 * 16 + 1 * (y 1).val = (y 1).val
    omega
  · change 0 * 64 + 1 * (y 2).val = (y 2).val
    omega

theorem i8 : ∀ t : Fin cfg0.N, win0_8.index t = ![0, 0, 0] := (by decide +kernel : ∀ t : Fin cfg0.N, _)
theorem at8 (t : Fin cfg0.N) (y : S16x16x64.Idx) : ((cfg0.win 8).blk t).view.emb y = y := by
  funext a
  apply Fin.ext
  fin_cases a
  · change 0 * 16 + 1 * (y 0).val = (y 0).val
    omega
  · change 0 * 16 + 1 * (y 1).val = (y 1).val
    omega
  · change 0 * 64 + 1 * (y 2).val = (y 2).val
    omega

/-- Result 0 is the body's value of the whole arrays: one grid point takes each of them whole. -/
theorem final5 (c : Dev nD) : (dats (F := Ideal) m 0 c).arrAt 5 cfg0.N = k0_pay6 (m (c.tc.loc main_arg0)) (m (c.tc.loc main_arg1)) (column (m (c.tc.loc main_arg2))) := by
  refine (dats m 0 c).arrAt_eq_of_covers 5 _ (by decide +kernel) fun t hf y => ?_
  blk_simp
  rw [at5 t y, after0_5]
  unfold out0_5 r0_0 r0_1
  frame_out
  rw [block0 m c, block1 m c, block2 m c]

/-- Result 1 is the body's value of the whole arrays: one grid point takes each of them whole. -/
theorem final6 (c : Dev nD) : (dats (F := Ideal) m 0 c).arrAt 6 cfg0.N = k0_pay7 (m (c.tc.loc main_arg0)) (m (c.tc.loc main_arg1)) (column (m (c.tc.loc main_arg2))) := by
  refine (dats m 0 c).arrAt_eq_of_covers 6 _ (by decide +kernel) fun t hf y => ?_
  blk_simp
  rw [at6 t y, after0_6]
  unfold out0_6 r0_0 r0_1
  frame_out
  rw [block0 m c, block1 m c, block2 m c]

/-- Result 2 is the body's value of the whole arrays: one grid point takes each of them whole. -/
theorem final7 (c : Dev nD) : (dats (F := Ideal) m 0 c).arrAt 7 cfg0.N = k0_pay12 (m (c.tc.loc main_arg0)) (m (c.tc.loc main_arg1)) (column (m (c.tc.loc main_arg2))) (turned (m (c.tc.loc main_arg3))) (turned (m (c.tc.loc main_arg4))) := by
  refine (dats m 0 c).arrAt_eq_of_covers 7 _ (by decide +kernel) fun t hf y => ?_
  blk_simp
  rw [at7 t y, after0_7]
  frame_out
  rw [block0 m c, block1 m c, block2 m c, block3 m c, block4 m c]

/-- Result 3 is the body's value of the whole arrays: one grid point takes each of them whole. -/
theorem final8 (c : Dev nD) : (dats (F := Ideal) m 0 c).arrAt 8 cfg0.N = k0_pay13 (m (c.tc.loc main_arg0)) (m (c.tc.loc main_arg1)) (column (m (c.tc.loc main_arg2))) (turned (m (c.tc.loc main_arg3))) (turned (m (c.tc.loc main_arg4))) := by
  refine (dats m 0 c).arrAt_eq_of_covers 8 _ (by decide +kernel) fun t hf y => ?_
  blk_simp
  rw [at8 t y, after0_8]
  frame_out
  rw [block0 m c, block1 m c, block2 m c, block3 m c, block4 m c]

theorem algebraic : algebraic_S5ParamsIdeal_S5ParamsReferenceIdeal := by
  intro m g m' g' _ ha
  refine ⟨_, _, _, _, (θ_run _ _ _).mono (fun r h c => ⟨(h c).1.trans (final5 m c), (h c).2.1.trans (final6 m c),
    (h c).2.2.1.trans (final7 m c), (h c).2.2.2.1.trans (final8 m c), (h c).2.2.2.2⟩) (Value.run_blocks m g), ?_⟩
  refine (θ_run _ _ _).mono (fun r h c => ⟨(h c).1.trans ?_, (h c).2.1.trans ?_, (h c).2.2.1.trans ?_,
    (h c).2.2.2.1.trans ?_, (h c).2.2.2.2⟩) (Cert.S5ParamsReferenceIdeal.Value.run m' g')
  all_goals obtain ⟨h0, h1, h2, h3, h4⟩ := ha c
  · rw [h0, h1, h2]
    funext j
    idx_vars j
    pointwise [column, turned, k0_pay1, k0_pay2, k0_pay3, k0_pay4, k0_pay5, k0_pay6, k0_pay7, k0_pay8, k0_pay9, k0_pay10, k0_pay11, k0_pay12, k0_pay13]
  · rw [h0, h1, h2]
    funext j
    idx_vars j
    pointwise [column, turned, k0_pay1, k0_pay2, k0_pay3, k0_pay4, k0_pay5, k0_pay6, k0_pay7, k0_pay8, k0_pay9, k0_pay10, k0_pay11, k0_pay12, k0_pay13]
  · rw [h0, h1, h2, h3, h4]
    funext j
    idx_vars j
    pointwise [column, turned, k0_pay1, k0_pay2, k0_pay3, k0_pay4, k0_pay5, k0_pay6, k0_pay7, k0_pay8, k0_pay9, k0_pay10, k0_pay11, k0_pay12, k0_pay13]
  · rw [h0, h1, h2, h3, h4]
    funext j
    idx_vars j
    pointwise [column, turned, k0_pay1, k0_pay2, k0_pay3, k0_pay4, k0_pay5, k0_pay6, k0_pay7, k0_pay8, k0_pay9, k0_pay10, k0_pay11, k0_pay12, k0_pay13]

/-- The reference changes none of its arguments. -/
theorem reference_frame : quiescent_S5ParamsReferenceIdeal := fun m ρ _ =>
  (θ_run Cert.S5ParamsReferenceIdeal.defs _ _).mono (fun r h => ⟨fun c => (h c).2.2.2.2, sem_eq_zero_of_no_sems (by decide) r.2⟩)
    (Cert.S5ParamsReferenceIdeal.Value.run m ρ)

end Cert.S5ParamsIdeal.Calls

end
-- ==== Proof.Calls.S5ParamsGrad.lean ====
/- S5ParamsGrad: the gradient of the S5 discretisation, whole arrays at one grid point. -/
module

public import proofs.«01_k».proof.Defs
public import proofs.«01_k».proof.Proof.Gen.S5ParamsGradIdeal.Frame
public import proofs.«01_k».proof.Proof.Gen.S5ParamsGradReferenceIdeal.Run
public import Idealize.ShloMosaic.Lib.Pipeline.Value
public import Idealize.ShloMosaic.Lib.Pipeline.ValueKit
public import Idealize.ShloMosaic.Lib.Quiescent

@[expose] public section

set_option maxRecDepth 16384

noncomputable section

namespace Cert.S5ParamsGradIdeal.Calls

open Idealize.ShloMosaic Idealize.ShloMosaic.TcCoe
open Cert.S5ParamsGradIdeal
open Cert.S5ParamsGradIdeal.Gen

variable (m : (ℓ : Loc nD τ sig) → Buf (Elt Ideal) ℓ)

/-- After the frame run, output window 9's array is `(dats m 0 c).arrAt 9 N`. -/
theorem post9 (r : PUnit × MemSt nD τ sig (Elt Ideal)) (h : Pipeline.FramePost cfgs (dats m) 0 (V m) r) (c : Dev nD) :
    r.2.mem ((c : Thread nD τ).loc main_v3_0) = (dats m 0 c).arrAt 9 cfg0.N :=
  (h c).1 9

/-- After the frame run, output window 10's array is `(dats m 0 c).arrAt 10 N`. -/
theorem post10 (r : PUnit × MemSt nD τ sig (Elt Ideal)) (h : Pipeline.FramePost cfgs (dats m) 0 (V m) r) (c : Dev nD) :
    r.2.mem ((c : Thread nD τ).loc main_v3_1) = (dats m 0 c).arrAt 10 cfg0.N :=
  (h c).1 10

/-- After the frame run, output window 11's array is `(dats m 0 c).arrAt 11 N`. -/
theorem post11 (r : PUnit × MemSt nD τ sig (Elt Ideal)) (h : Pipeline.FramePost cfgs (dats m) 0 (V m) r) (c : Dev nD) :
    r.2.mem ((c : Thread nD τ).loc main_v3_2) = (dats m 0 c).arrAt 11 cfg0.N :=
  (h c).1 11

/-- After the frame run, output window 12's array is `(dats m 0 c).arrAt 12 N`. -/
theorem post12 (r : PUnit × MemSt nD τ sig (Elt Ideal)) (h : Pipeline.FramePost cfgs (dats m) 0 (V m) r) (c : Dev nD) :
    r.2.mem ((c : Thread nD τ).loc main_v3_3) = (dats m 0 c).arrAt 12 cfg0.N :=
  (h c).1 12

/-- After the frame run, output window 13's array is `(dats m 0 c).arrAt 13 N`. -/
theorem post13 (r : PUnit × MemSt nD τ sig (Elt Ideal)) (h : Pipeline.FramePost cfgs (dats m) 0 (V m) r) (c : Dev nD) :
    r.2.mem ((c : Thread nD τ).loc main_v3_4) = (dats m 0 c).arrAt 13 cfg0.N :=
  (h c).1 13

/-- After the frame run, argument `main_arg0` is as launched: input window 0 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- The frame run with each output array after the run NAMED — `(dats m 0 c).arrAt w N`, which `blocks_w` / `entry_w` read —,
    the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v3_0) = (dats m 0 c).arrAt 9 cfg0.N
      ∧ r.2.mem ((c : Thread nD τ).loc main_v3_1) = (dats m 0 c).arrAt 10 cfg0.N
      ∧ r.2.mem ((c : Thread nD τ).loc main_v3_2) = (dats m 0 c).arrAt 11 cfg0.N
      ∧ r.2.mem ((c : Thread nD τ).loc main_v3_3) = (dats m 0 c).arrAt 12 cfg0.N
      ∧ r.2.mem ((c : Thread nD τ).loc main_v3_4) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post9 m r h c,
      post10 m r h c,
      post11 m r h c,
      post12 m r h c,
      post13 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-- The steps' logarithms as a column, and an array with its last two axes turned, as the call takes them. -/
def column (l : S16.Idx → EReal) : S16x1.Idx → EReal := fun y => l (ix1 (⟨(y 0).val, (y 0).isLt⟩ : Fin 16))
def turned (b : S16x64x16.Idx → EReal) : S16x16x64.Idx → EReal := fun y =>
  b (ix3 (⟨(y 0).val, (y 0).isLt⟩ : Fin 16) (⟨(y 2).val, (y 2).isLt⟩ : Fin 64) (⟨(y 1).val, (y 1).isLt⟩ : Fin 16))

theorem taken2 (c : Dev nD) : (V (F := Ideal) m c main_v0 : S16x1.Idx → EReal) = column (m (c.tc.loc main_arg2)) := by
  funext y
  idx_vars y
  unfold V
  after_results
  pointwise [column]

theorem taken3 (c : Dev nD) : (V (F := Ideal) m c main_v1 : S16x16x64.Idx → EReal) = turned (m (c.tc.loc main_arg3)) := by
  funext y
  idx_vars y
  unfold V
  after_results
  pointwise [turned]

theorem taken4 (c : Dev nD) : (V (F := Ideal) m c main_v2 : S16x16x64.Idx → EReal) = turned (m (c.tc.loc main_arg4)) := by
  funext y
  idx_vars y
  unfold V
  after_results
  pointwise [turned]

theorem i0 : ∀ t : Fin cfg0.N, win0_0.index t = ![0, 0] := (by decide +kernel : ∀ t : Fin cfg0.N, _)
theorem block0 (c : Dev nD) (t : Fin cfg0.N) : (iblk (F := Ideal) m c 0 t : S16x64.Idx → EReal) = m (c.tc.loc main_arg0) := by
  funext y
  idx_vars y
  blk_ext [iblk, V, i0 t]

theorem i1 : ∀ t : Fin cfg0.N, win0_1.index t = ![0, 0] := (by decide +kernel : ∀ t : Fin cfg0.N, _)
theorem block1 (c : Dev nD) (t : Fin cfg0.N) : (iblk (F := Ideal) m c 1 t : S16x64.Idx → EReal) = m (c.tc.loc main_arg1) := by
  funext y
  idx_vars y
  blk_ext [iblk, V, i1 t]

theorem i2 : ∀ t : Fin cfg0.N, win0_2.index t = ![0, 0] := (by decide +kernel : ∀ t : Fin cfg0.N, _)
theorem block2 (c : Dev nD) (t : Fin cfg0.N) : (iblk (F := Ideal) m c 2 t : S16x1.Idx → EReal) = column (m (c.tc.loc main_arg2)) := by
  rw [← taken2 m c]
  funext y
  idx_vars y
  blk_ext [iblk, i2 t]

theorem i3 : ∀ t : Fin cfg0.N, win0_3.index t = ![0, 0, 0] := (by decide +kernel : ∀ t : Fin cfg0.N, _)
theorem block3 (c : Dev nD) (t : Fin cfg0.N) : (iblk (F := Ideal) m c 3 t : S16x16x64.Idx → EReal) = turned (m (c.tc.loc main_arg3)) := by
  rw [← taken3 m c]
  funext y
  idx_vars y
  blk_ext [iblk, i3 t]

theorem i4 : ∀ t : Fin cfg0.N, win0_4.index t = ![0, 0, 0] := (by decide +kernel : ∀ t : Fin cfg0.N, _)
theorem block4 (c : Dev nD) (t : Fin cfg0.N) : (iblk (F := Ideal) m c 4 t : S16x16x64.Idx → EReal) = turned (m (c.tc.loc main_arg4)) := by
  rw [← taken4 m c]
  funext y
  idx_vars y
  blk_ext [iblk, i4 t]

theorem i5 : ∀ t : Fin cfg0.N, win0_5.index t = ![0, 0] := (by decide +kernel : ∀ t : Fin cfg0.N, _)
theorem block5 (c : Dev nD) (t : Fin cfg0.N) : (iblk (F := Ideal) m c 5 t : S16x64.Idx → EReal) = m (c.tc.loc main_arg5) := by
  funext y
  idx_vars y
  blk_ext [iblk, V, i5 t]

theorem i6 : ∀ t : Fin cfg0.N, win0_6.index t = ![0, 0] := (by decide +kernel : ∀ t : Fin cfg0.N, _)
theorem block6 (c : Dev nD) (t : Fin cfg0.N) : (iblk (F := Ideal) m c 6 t : S16x64.Idx → EReal) = m (c.tc.loc main_arg6) := by
  funext y
  idx_vars y
  blk_ext [iblk, V, i6 t]

theorem i7 : ∀ t : Fin cfg0.N, win0_7.index t = ![0, 0, 0] := (by decide +kernel : ∀ t : Fin cfg0.N, _)
theorem block7 (c : Dev nD) (t : Fin cfg0.N) : (iblk (F := Ideal) m c 7 t : S16x16x64.Idx → EReal) = m (c.tc.loc main_arg7) := by
  funext y
  idx_vars y
  blk_ext [iblk, V, i7 t]

theorem i8 : ∀ t : Fin cfg0.N, win0_8.index t = ![0, 0, 0] := (by decide +kernel : ∀ t : Fin cfg0.N, _)
theorem block8 (c : Dev nD) (t : Fin cfg0.N) : (iblk (F := Ideal) m c 8 t : S16x16x64.Idx → EReal) = m (c.tc.loc main_arg8) := by
  funext y
  idx_vars y
  blk_ext [iblk, V, i8 t]

theorem i9 : ∀ t : Fin cfg0.N, win0_9.index t = ![0, 0] := (by decide +kernel : ∀ t : Fin cfg0.N, _)
theorem at9 (t : Fin cfg0.N) (y : S16x64.Idx) : ((cfg0.win 9).blk t).view.emb y = y := by
  funext a
  apply Fin.ext
  fin_cases a
  · change 0 * 16 + 1 * (y 0).val = (y 0).val
    omega
  · change 0 * 64 + 1 * (y 1).val = (y 1).val
    omega

theorem i10 : ∀ t : Fin cfg0.N, win0_10.index t = ![0, 0] := (by decide +kernel : ∀ t : Fin cfg0.N, _)
theorem at10 (t : Fin cfg0.N) (y : S16x64.Idx) : ((cfg0.win 10).blk t).view.emb y = y := by
  funext a
  apply Fin.ext
  fin_cases a
  · change 0 * 16 + 1 * (y 0).val = (y 0).val
    omega
  · change 0 * 64 + 1 * (y 1).val = (y 1).val
    omega

theorem i11 : ∀ t : Fin cfg0.N, win0_11.index t = ![0, 0] := (by decide +kernel : ∀ t : Fin cfg0.N, _)
theorem at11 (t : Fin cfg0.N) (y : S16x1.Idx) : ((cfg0.win 11).blk t).view.emb y = y := by
  funext a
  apply Fin.ext
  fin_cases a
  · change 0 * 16 + 1 * (y 0).val = (y 0).val
    omega
  · change 0 * 1 + 1 * (y 1).val = (y 1).val
    omega

theorem i12 : ∀ t : Fin cfg0.N, win0_12.index t = ![0, 0, 0] := (by decide +kernel : ∀ t : Fin cfg0.N, _)
theorem at12 (t : Fin cfg0.N) (y : S16x16x64.Idx) : ((cfg0.win 12).blk t).view.emb y = y := by
  funext a
  apply Fin.ext
  fin_cases a
  · change 0 * 16 + 1 * (y 0).val = (y 0).val
    omega
  · change 0 * 16 + 1 * (y 1).val = (y 1).val
    omega
  · change 0 * 64 + 1 * (y 2).val = (y 2).val
    omega

theorem i13 : ∀ t : Fin cfg0.N, win0_13.index t = ![0, 0, 0] := (by decide +kernel : ∀ t : Fin cfg0.N, _)
theorem at13 (t : Fin cfg0.N) (y : S16x16x64.Idx) : ((cfg0.win 13).blk t).view.emb y = y := by
  funext a
  apply Fin.ext
  fin_cases a
  · change 0 * 16 + 1 * (y 0).val = (y 0).val
    omega
  · change 0 * 16 + 1 * (y 1).val = (y 1).val
    omega
  · change 0 * 64 + 1 * (y 2).val = (y 2).val
    omega

/-- Each result is the body's value of the whole arrays: one grid point takes each of them whole. -/
theorem final9 (c : Dev nD) : (dats (F := Ideal) m 0 c).arrAt 9 cfg0.N = out0_9 (m (c.tc.loc main_arg0)) (m (c.tc.loc main_arg1)) (column (m (c.tc.loc main_arg2))) (turned (m (c.tc.loc main_arg3))) (turned (m (c.tc.loc main_arg4))) (m (c.tc.loc main_arg5)) (m (c.tc.loc main_arg6)) (m (c.tc.loc main_arg7)) (m (c.tc.loc main_arg8)) := by
  refine (dats m 0 c).arrAt_eq_of_covers 9 _ (by decide +kernel) fun t hf y => ?_
  blk_simp
  rw [at9 t y, after0_9, block0 m c, block1 m c, block2 m c, block3 m c, block4 m c, block5 m c, block6 m c, block7 m c, block8 m c]

theorem final10 (c : Dev nD) : (dats (F := Ideal) m 0 c).arrAt 10 cfg0.N = out0_10 (m (c.tc.loc main_arg0)) (m (c.tc.loc main_arg1)) (column (m (c.tc.loc main_arg2))) (turned (m (c.tc.loc main_arg3))) (turned (m (c.tc.loc main_arg4))) (m (c.tc.loc main_arg5)) (m (c.tc.loc main_arg6)) (m (c.tc.loc main_arg7)) (m (c.tc.loc main_arg8)) := by
  refine (dats m 0 c).arrAt_eq_of_covers 10 _ (by decide +kernel) fun t hf y => ?_
  blk_simp
  rw [at10 t y, after0_10, block0 m c, block1 m c, block2 m c, block3 m c, block4 m c, block5 m c, block6 m c, block7 m c, block8 m c]

theorem final11 (c : Dev nD) : (dats (F := Ideal) m 0 c).arrAt 11 cfg0.N = out0_11 (m (c.tc.loc main_arg0)) (m (c.tc.loc main_arg1)) (column (m (c.tc.loc main_arg2))) (turned (m (c.tc.loc main_arg3))) (turned (m (c.tc.loc main_arg4))) (m (c.tc.loc main_arg5)) (m (c.tc.loc main_arg6)) (m (c.tc.loc main_arg7)) (m (c.tc.loc main_arg8)) := by
  refine (dats m 0 c).arrAt_eq_of_covers 11 _ (by decide +kernel) fun t hf y => ?_
  blk_simp
  rw [at11 t y, after0_11, block0 m c, block1 m c, block2 m c, block3 m c, block4 m c, block5 m c, block6 m c, block7 m c, block8 m c]

theorem final12 (c : Dev nD) : (dats (F := Ideal) m 0 c).arrAt 12 cfg0.N = out0_12 (m (c.tc.loc main_arg0)) (m (c.tc.loc main_arg1)) (column (m (c.tc.loc main_arg2))) (turned (m (c.tc.loc main_arg3))) (turned (m (c.tc.loc main_arg4))) (m (c.tc.loc main_arg5)) (m (c.tc.loc main_arg6)) (m (c.tc.loc main_arg7)) (m (c.tc.loc main_arg8)) := by
  refine (dats m 0 c).arrAt_eq_of_covers 12 _ (by decide +kernel) fun t hf y => ?_
  blk_simp
  rw [at12 t y, after0_12, block0 m c, block1 m c, block2 m c, block3 m c, block4 m c, block5 m c, block6 m c, block7 m c, block8 m c]

theorem final13 (c : Dev nD) : (dats (F := Ideal) m 0 c).arrAt 13 cfg0.N = out0_13 (m (c.tc.loc main_arg0)) (m (c.tc.loc main_arg1)) (column (m (c.tc.loc main_arg2))) (turned (m (c.tc.loc main_arg3))) (turned (m (c.tc.loc main_arg4))) (m (c.tc.loc main_arg5)) (m (c.tc.loc main_arg6)) (m (c.tc.loc main_arg7)) (m (c.tc.loc main_arg8)) := by
  refine (dats m 0 c).arrAt_eq_of_covers 13 _ (by decide +kernel) fun t hf y => ?_
  blk_simp
  rw [at13 t y, after0_13, block0 m c, block1 m c, block2 m c, block3 m c, block4 m c, block5 m c, block6 m c, block7 m c, block8 m c]

/-- The call's gradients are those of the discretisation's own rule: the two sides are the same expression once a sum over
a single index is its one term and a subtraction from zero is a negation. -/
theorem algebraic : algebraic_S5ParamsGradIdeal_S5ParamsGradReferenceIdeal := by
  intro m g m' g' _ ha
  refine ⟨_, _, _, _, _, (θ_run _ _ _).mono (fun r h c => ⟨(h c).1.trans (final9 m c), (h c).2.1.trans (final10 m c),
    (h c).2.2.1.trans (final11 m c), (h c).2.2.2.1.trans (final12 m c), (h c).2.2.2.2.1.trans (final13 m c),
    (h c).2.2.2.2.2⟩) (run_blocks m g), ?_⟩
  refine (θ_run _ _ _).mono (fun r h c => ⟨(h c).1.trans ?_, (h c).2.1.trans ?_, (h c).2.2.1.trans ?_,
    (h c).2.2.2.1.trans ?_, (h c).2.2.2.2.1.trans ?_, (h c).2.2.2.2.2⟩) (Cert.S5ParamsGradReferenceIdeal.Value.run m' g')
  all_goals obtain ⟨h0, h1, h2, h3, h4, h5, h6, h7, h8⟩ := ha c
  · funext j
    idx_vars j
    unfold out0_9
    frame_out
    pointwise [column, turned, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, Cert.S5ParamsGradReferenceIdeal.Value.res_main_v127]
    simp only [h0, h1, h2, h3, h4, h5, h6, h7, h8, Finset.univ_unique, Finset.sum_singleton, zero_sub]
  · funext j
    idx_vars j
    unfold out0_10
    frame_out
    pointwise [column, turned, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, Cert.S5ParamsGradReferenceIdeal.Value.res_main_v121]
    simp only [h0, h1, h2, h3, h4, h5, h6, h7, h8, Finset.univ_unique, Finset.sum_singleton, zero_sub]
  · funext j
    idx_vars j
    unfold out0_11
    frame_out
    pointwise [column, turned, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, Cert.S5ParamsGradReferenceIdeal.Value.res_main_v134]
    simp only [h0, h1, h2, h3, h4, h5, h6, h7, h8, Finset.univ_unique, Finset.sum_singleton, zero_sub]
  · funext j
    idx_vars j
    unfold out0_12
    frame_out
    pointwise [column, turned, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
    simp only [h0, h1, h2, h3, h4, h5, h6, h7, h8, Finset.univ_unique, Finset.sum_singleton, zero_sub]
  · funext j
    idx_vars j
    unfold out0_13
    frame_out
    pointwise [column, turned, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58]
    simp only [h0, h1, h2, h3, h4, h5, h6, h7, h8, Finset.univ_unique, Finset.sum_singleton, zero_sub]

/-- The reference changes none of its arguments. -/
theorem reference_frame : quiescent_S5ParamsGradReferenceIdeal := fun m ρ _ =>
  (θ_run Cert.S5ParamsGradReferenceIdeal.defs _ _).mono (fun r h => ⟨fun c => (h c).2.2.2.2.2, sem_eq_zero_of_no_sems (by decide) r.2⟩)
    (Cert.S5ParamsGradReferenceIdeal.Value.run m ρ)

end Cert.S5ParamsGradIdeal.Calls

end
-- ==== Proof.Calls.S5OutGradRun.lean ====
/- The reference of S5OutGrad read back: its operations in order, and what it leaves, the intermediate values named. -/
module

public import proofs.«01_k».proof.Proof.Gen.S5OutGradReferenceIdeal
public import Idealize.ShloMosaic.Lib.StableHlo.Run

@[expose] public section

noncomputable section

namespace Cert.S5OutGradReferenceIdeal.Value

open Cert.S5OutGradReferenceIdeal Cert.S5OutGradReferenceIdeal.Gen Idealize.ShloMosaic Idealize.ShloMosaic.TcCoe Idealize.SL.Sem Idealize.ShloMosaic.StableHlo

variable {F : FTy → Type} [FloatOps F]

/-- What the operation that writes `main_v77` computes: the two rows and the zeros below them. -/
def fn_main_v77 : (main_v74 : Ref sig .tc).ty.Contents (Elt F) → (main_v75 : Ref sig .tc).ty.Contents (Elt F) → (main_v76 : Ref sig .tc).ty.Contents (Elt F) → (main_v77 : Ref sig .tc).ty.Contents (Elt F) :=
  (fun u0 u1 u2 => (concatenate S8x256 0 [⟨S1x256, (u0 : (⟨S1x256, .f32⟩ : BufTy).Contents (Elt F))⟩, ⟨S1x256, (u1 : (⟨S1x256, .f32⟩ : BufTy).Contents (Elt F))⟩, ⟨S6x256, (u2 : (⟨S6x256, .f32⟩ : BufTy).Contents (Elt F))⟩] concatenates_S1x256_S1x256_S6x256_S8x256_d0 : (⟨S8x256, .f32⟩ : BufTy).Contents (Elt F)))

/-- @main's 97 operations, in order. -/
abbrev ops : List (HloOp τ sig (Elt F)) :=
  [ unary main_arg4 main_v0 ((extf .f32 · bitsLt_bf16_f32) : (⟨S256x256, .bf16⟩ : BufTy).Contents (Elt F) → (⟨S256x256, .f32⟩ : BufTy).Contents (Elt F)),
    nullary main_cst (constant S_ .f32 0x3F000000#32),
    unary main_cst main_v1 (broadcastInDim S4096x256 ![] bcast_S_S4096x256 : (⟨S_, .f32⟩ : BufTy).Contents (Elt F) → (⟨S4096x256, .f32⟩ : BufTy).Contents (Elt F)),
    binary main_v1 main_arg1 main_v2 (mulf : (⟨S4096x256, .f32⟩ : BufTy).Contents (Elt F) → (⟨S4096x256, .f32⟩ : BufTy).Contents (Elt F) → (⟨S4096x256, .f32⟩ : BufTy).Contents (Elt F)),
    binary main_arg1 main_arg1 main_v3 (mulf : (⟨S4096x256, .f32⟩ : BufTy).Contents (Elt F) → (⟨S4096x256, .f32⟩ : BufTy).Contents (Elt F) → (⟨S4096x256, .f32⟩ : BufTy).Contents (Elt F)),
    binary main_v3 main_arg1 main_v4 (mulf : (⟨S4096x256, .f32⟩ : BufTy).Contents (Elt F) → (⟨S4096x256, .f32⟩ : BufTy).Contents (Elt F) → (⟨S4096x256, .f32⟩ : BufTy).Contents (Elt F)),
    nullary main_cst_0 (constant S_ .f32 0x472EAB00#32),
    unary main_cst_0 main_v5 (broadcastInDim S4096x256 ![] bcast_S_S4096x256 : (⟨S_, .f32⟩ : BufTy).Contents (Elt F) → (⟨S4096x256, .f32⟩ : BufTy).Contents (Elt F)),
    binary main_v4 main_v5 main_v6 (mulf : (⟨S4096x256, .f32⟩ : BufTy).Contents (Elt F) → (⟨S4096x256, .f32⟩ : BufTy).Contents (Elt F) → (⟨S4096x256, .f32⟩ : BufTy).Contents (Elt F)),
    nullary main_cst_1 (constant S_ .f32 0x49742400#32),
    unary main_cst_1 main_v7 (broadcastInDim S4096x256 ![] bcast_S_S4096x256 : (⟨S_, .f32⟩ : BufTy).Contents (Elt F) → (⟨S4096x256, .f32⟩ : BufTy).Contents (Elt F)),
    binary main_v6 main_v7 main_v8 (Host.divf : (⟨S4096x256, .f32⟩ : BufTy).Contents (Elt F) → (⟨S4096x256, .f32⟩ : BufTy).Contents (Elt F) → (⟨S4096x256, .f32⟩ : BufTy).Contents (Elt F)),
    binary main_arg1 main_v8 main_v9 (addf : (⟨S4096x256, .f32⟩ : BufTy).Contents (Elt F) → (⟨S4096x256, .f32⟩ : BufTy).Contents (Elt F) → (⟨S4096x256, .f32⟩ : BufTy).Contents (Elt F)),
    nullary main_cst_2 (constant S_ .f32 0x3F4C422A#32),
    unary main_cst_2 main_v10 (broadcastInDim S4096x256 ![] bcast_S_S4096x256 : (⟨S_, .f32⟩ : BufTy).Contents (Elt F) → (⟨S4096x256, .f32⟩ : BufTy).Contents (Elt F)),
    binary main_v10 main_v9 main_v11 (mulf : (⟨S4096x256, .f32⟩ : BufTy).Contents (Elt F) → (⟨S4096x256, .f32⟩ : BufTy).Contents (Elt F) → (⟨S4096x256, .f32⟩ : BufTy).Contents (Elt F)),
    unary main_v11 main_v12 (Host.tanh : (⟨S4096x256, .f32⟩ : BufTy).Contents (Elt F) → (⟨S4096x256, .f32⟩ : BufTy).Contents (Elt F)),
    nullary main_cst_3 (constant S_ .f32 0x3F800000#32),
    unary main_cst_3 main_v13 (broadcastInDim S4096x256 ![] bcast_S_S4096x256 : (⟨S_, .f32⟩ : BufTy).Contents (Elt F) → (⟨S4096x256, .f32⟩ : BufTy).Contents (Elt F)),
    binary main_v13 main_v12 main_v14 (addf : (⟨S4096x256, .f32⟩ : BufTy).Contents (Elt F) → (⟨S4096x256, .f32⟩ : BufTy).Contents (Elt F) → (⟨S4096x256, .f32⟩ : BufTy).Contents (Elt F)),
    nullary main_cst_4 (constant S_ .f32 0x3F800000#32),
    unary main_cst_4 main_v15 (broadcastInDim S4096x256 ![] bcast_S_S4096x256 : (⟨S_, .f32⟩ : BufTy).Contents (Elt F) → (⟨S4096x256, .f32⟩ : BufTy).Contents (Elt F)),
    binary main_v15 main_v12 main_v16 (subf : (⟨S4096x256, .f32⟩ : BufTy).Contents (Elt F) → (⟨S4096x256, .f32⟩ : BufTy).Contents (Elt F) → (⟨S4096x256, .f32⟩ : BufTy).Contents (Elt F)),
    binary main_v14 main_v16 main_v17 (mulf : (⟨S4096x256, .f32⟩ : BufTy).Contents (Elt F) → (⟨S4096x256, .f32⟩ : BufTy).Contents (Elt F) → (⟨S4096x256, .f32⟩ : BufTy).Contents (Elt F)),
    nullary main_cst_5 (constant S_ .f32 0x3F800000#32),
    unary main_cst_5 main_v18 (broadcastInDim S4096x256 ![] bcast_S_S4096x256 : (⟨S_, .f32⟩ : BufTy).Contents (Elt F) → (⟨S4096x256, .f32⟩ : BufTy).Contents (Elt F)),
    binary main_v18 main_v12 main_v19 (addf : (⟨S4096x256, .f32⟩ : BufTy).Contents (Elt F) → (⟨S4096x256, .f32⟩ : BufTy).Contents (Elt F) → (⟨S4096x256, .f32⟩ : BufTy).Contents (Elt F)),
    binary main_v2 main_v19 main_v20 (mulf : (⟨S4096x256, .f32⟩ : BufTy).Contents (Elt F) → (⟨S4096x256, .f32⟩ : BufTy).Contents (Elt F) → (⟨S4096x256, .f32⟩ : BufTy).Contents (Elt F)),
    binary main_v20 main_v0 main_v21 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    unary main_arg5 main_v22 (broadcastInDim S1x256 ![1] bcast_S256_S1x256_1 : (⟨S256, .f32⟩ : BufTy).Contents (Elt F) → (⟨S1x256, .f32⟩ : BufTy).Contents (Elt F)),
    unary main_v22 main_v23 (broadcastInDim S4096x256 ![0, 1] bcast_S1x256_S4096x256_0_1 : (⟨S1x256, .f32⟩ : BufTy).Contents (Elt F) → (⟨S4096x256, .f32⟩ : BufTy).Contents (Elt F)),
    binary main_v21 main_v23 main_v24 (addf : (⟨S4096x256, .f32⟩ : BufTy).Contents (Elt F) → (⟨S4096x256, .f32⟩ : BufTy).Contents (Elt F) → (⟨S4096x256, .f32⟩ : BufTy).Contents (Elt F)),
    unary main_v24 main_v25 (Host.negf : (⟨S4096x256, .f32⟩ : BufTy).Contents (Elt F) → (⟨S4096x256, .f32⟩ : BufTy).Contents (Elt F)),
    unary main_v25 main_v26 (Host.exp : (⟨S4096x256, .f32⟩ : BufTy).Contents (Elt F) → (⟨S4096x256, .f32⟩ : BufTy).Contents (Elt F)),
    nullary main_cst_6 (constant S_ .f32 0x3F800000#32),
    unary main_cst_6 main_v27 (broadcastInDim S4096x256 ![] bcast_S_S4096x256 : (⟨S_, .f32⟩ : BufTy).Contents (Elt F) → (⟨S4096x256, .f32⟩ : BufTy).Contents (Elt F)),
    binary main_v27 main_v26 main_v28 (addf : (⟨S4096x256, .f32⟩ : BufTy).Contents (Elt F) → (⟨S4096x256, .f32⟩ : BufTy).Contents (Elt F) → (⟨S4096x256, .f32⟩ : BufTy).Contents (Elt F)),
    nullary main_cst_7 (constant S_ .f32 0x3F800000#32),
    unary main_cst_7 main_v29 (broadcastInDim S4096x256 ![] bcast_S_S4096x256 : (⟨S_, .f32⟩ : BufTy).Contents (Elt F) → (⟨S4096x256, .f32⟩ : BufTy).Contents (Elt F)),
    binary main_v29 main_v28 main_v30 (Host.divf : (⟨S4096x256, .f32⟩ : BufTy).Contents (Elt F) → (⟨S4096x256, .f32⟩ : BufTy).Contents (Elt F) → (⟨S4096x256, .f32⟩ : BufTy).Contents (Elt F)),
    nullary main_cst_8 (constant S_ .f32 0x3F800000#32),
    unary main_cst_8 main_v31 (broadcastInDim S4096x256 ![] bcast_S_S4096x256 : (⟨S_, .f32⟩ : BufTy).Contents (Elt F) → (⟨S4096x256, .f32⟩ : BufTy).Contents (Elt F)),
    binary main_v31 main_v30 main_v32 (subf : (⟨S4096x256, .f32⟩ : BufTy).Contents (Elt F) → (⟨S4096x256, .f32⟩ : BufTy).Contents (Elt F) → (⟨S4096x256, .f32⟩ : BufTy).Contents (Elt F)),
    binary main_v30 main_v32 main_v33 (mulf : (⟨S4096x256, .f32⟩ : BufTy).Contents (Elt F) → (⟨S4096x256, .f32⟩ : BufTy).Contents (Elt F) → (⟨S4096x256, .f32⟩ : BufTy).Contents (Elt F)),
    binary main_v20 main_v30 main_v34 (mulf : (⟨S4096x256, .f32⟩ : BufTy).Contents (Elt F) → (⟨S4096x256, .f32⟩ : BufTy).Contents (Elt F) → (⟨S4096x256, .f32⟩ : BufTy).Contents (Elt F)),
    binary main_v20 main_arg0 main_v35 (mulf : (⟨S4096x256, .f32⟩ : BufTy).Contents (Elt F) → (⟨S4096x256, .f32⟩ : BufTy).Contents (Elt F) → (⟨S4096x256, .f32⟩ : BufTy).Contents (Elt F)),
    binary main_arg0 main_v30 main_v36 (mulf : (⟨S4096x256, .f32⟩ : BufTy).Contents (Elt F) → (⟨S4096x256, .f32⟩ : BufTy).Contents (Elt F) → (⟨S4096x256, .f32⟩ : BufTy).Contents (Elt F)),
    binary main_v35 main_v33 main_v37 (mulf : (⟨S4096x256, .f32⟩ : BufTy).Contents (Elt F) → (⟨S4096x256, .f32⟩ : BufTy).Contents (Elt F) → (⟨S4096x256, .f32⟩ : BufTy).Contents (Elt F)),
    nullary main_cst_9 (constant S_ .f32 0x00000000#32),
    binary main_v37 main_cst_9 main_v38 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    reshape main_v38 main_v39 (rfl : (.f32 : EltTy) = .f32) shapeCasts_S256_S1x256,
    nullary main_cst_10 (constant S_ .f32 0x00000000#32),
    binary main_v39 main_cst_10 main_v40 ((fun x v => Host.reduceAdd x v reducesTo_S1x256_S256_d0 h_S_) : (⟨S1x256, .f32⟩ : BufTy).Contents (Elt F) → (⟨S_, .f32⟩ : BufTy).Contents (Elt F) → (⟨S256, .f32⟩ : BufTy).Contents (Elt F)),
    binary main_v37 main_v20 main_v41 ((fun l r => Host.dotGeneral dot_S4096x256_S4096x256_S256x256_0_0_1_1_n_n none l r) : (⟨S4096x256, .f32⟩ : BufTy).Contents (Elt F) → (⟨S4096x256, .f32⟩ : BufTy).Contents (Elt F) → (⟨S256x256, .f32⟩ : BufTy).Contents (Elt F)),
    unary main_v41 main_v42 ((transpose S256x256 [1, 0] · transposes_S256x256_S256x256_1_0) : (⟨S256x256, .f32⟩ : BufTy).Contents (Elt F) → (⟨S256x256, .f32⟩ : BufTy).Contents (Elt F)),
    binary main_v37 main_v0 main_v43 ((fun l r => Host.dotGeneral dot_S4096x256_S256x256_S4096x256_1_1_0_0_n_n none l r) : (⟨S4096x256, .f32⟩ : BufTy).Contents (Elt F) → (⟨S256x256, .f32⟩ : BufTy).Contents (Elt F) → (⟨S4096x256, .f32⟩ : BufTy).Contents (Elt F)),
    binary main_v36 main_v43 main_v44 (addf : (⟨S4096x256, .f32⟩ : BufTy).Contents (Elt F) → (⟨S4096x256, .f32⟩ : BufTy).Contents (Elt F) → (⟨S4096x256, .f32⟩ : BufTy).Contents (Elt F)),
    binary main_v2 main_v44 main_v45 (mulf : (⟨S4096x256, .f32⟩ : BufTy).Contents (Elt F) → (⟨S4096x256, .f32⟩ : BufTy).Contents (Elt F) → (⟨S4096x256, .f32⟩ : BufTy).Contents (Elt F)),
    binary main_v44 main_v19 main_v46 (mulf : (⟨S4096x256, .f32⟩ : BufTy).Contents (Elt F) → (⟨S4096x256, .f32⟩ : BufTy).Contents (Elt F) → (⟨S4096x256, .f32⟩ : BufTy).Contents (Elt F)),
    binary main_v45 main_v17 main_v47 (mulf : (⟨S4096x256, .f32⟩ : BufTy).Contents (Elt F) → (⟨S4096x256, .f32⟩ : BufTy).Contents (Elt F) → (⟨S4096x256, .f32⟩ : BufTy).Contents (Elt F)),
    nullary main_cst_11 (constant S_ .f32 0x3F4C422A#32),
    unary main_cst_11 main_v48 (broadcastInDim S4096x256 ![] bcast_S_S4096x256 : (⟨S_, .f32⟩ : BufTy).Contents (Elt F) → (⟨S4096x256, .f32⟩ : BufTy).Contents (Elt F)),
    binary main_v48 main_v47 main_v49 (mulf : (⟨S4096x256, .f32⟩ : BufTy).Contents (Elt F) → (⟨S4096x256, .f32⟩ : BufTy).Contents (Elt F) → (⟨S4096x256, .f32⟩ : BufTy).Contents (Elt F)),
    nullary main_cst_12 (constant S_ .f32 0x49742400#32),
    unary main_cst_12 main_v50 (broadcastInDim S4096x256 ![] bcast_S_S4096x256 : (⟨S_, .f32⟩ : BufTy).Contents (Elt F) → (⟨S4096x256, .f32⟩ : BufTy).Contents (Elt F)),
    binary main_v49 main_v50 main_v51 (Host.divf : (⟨S4096x256, .f32⟩ : BufTy).Contents (Elt F) → (⟨S4096x256, .f32⟩ : BufTy).Contents (Elt F) → (⟨S4096x256, .f32⟩ : BufTy).Contents (Elt F)),
    nullary main_cst_13 (constant S_ .f32 0x472EAB00#32),
    unary main_cst_13 main_v52 (broadcastInDim S4096x256 ![] bcast_S_S4096x256 : (⟨S_, .f32⟩ : BufTy).Contents (Elt F) → (⟨S4096x256, .f32⟩ : BufTy).Contents (Elt F)),
    binary main_v51 main_v52 main_v53 (mulf : (⟨S4096x256, .f32⟩ : BufTy).Contents (Elt F) → (⟨S4096x256, .f32⟩ : BufTy).Contents (Elt F) → (⟨S4096x256, .f32⟩ : BufTy).Contents (Elt F)),
    binary main_v3 main_v53 main_v54 (mulf : (⟨S4096x256, .f32⟩ : BufTy).Contents (Elt F) → (⟨S4096x256, .f32⟩ : BufTy).Contents (Elt F) → (⟨S4096x256, .f32⟩ : BufTy).Contents (Elt F)),
    binary main_v49 main_v54 main_v55 (addf : (⟨S4096x256, .f32⟩ : BufTy).Contents (Elt F) → (⟨S4096x256, .f32⟩ : BufTy).Contents (Elt F) → (⟨S4096x256, .f32⟩ : BufTy).Contents (Elt F)),
    binary main_v53 main_arg1 main_v56 (mulf : (⟨S4096x256, .f32⟩ : BufTy).Contents (Elt F) → (⟨S4096x256, .f32⟩ : BufTy).Contents (Elt F) → (⟨S4096x256, .f32⟩ : BufTy).Contents (Elt F)),
    binary main_arg1 main_v56 main_v57 (mulf : (⟨S4096x256, .f32⟩ : BufTy).Contents (Elt F) → (⟨S4096x256, .f32⟩ : BufTy).Contents (Elt F) → (⟨S4096x256, .f32⟩ : BufTy).Contents (Elt F)),
    binary main_v55 main_v57 main_v58 (addf : (⟨S4096x256, .f32⟩ : BufTy).Contents (Elt F) → (⟨S4096x256, .f32⟩ : BufTy).Contents (Elt F) → (⟨S4096x256, .f32⟩ : BufTy).Contents (Elt F)),
    binary main_v56 main_arg1 main_v59 (mulf : (⟨S4096x256, .f32⟩ : BufTy).Contents (Elt F) → (⟨S4096x256, .f32⟩ : BufTy).Contents (Elt F) → (⟨S4096x256, .f32⟩ : BufTy).Contents (Elt F)),
    binary main_v58 main_v59 main_v60 (addf : (⟨S4096x256, .f32⟩ : BufTy).Contents (Elt F) → (⟨S4096x256, .f32⟩ : BufTy).Contents (Elt F) → (⟨S4096x256, .f32⟩ : BufTy).Contents (Elt F)),
    nullary main_cst_14 (constant S_ .f32 0x3F000000#32),
    unary main_cst_14 main_v61 (broadcastInDim S4096x256 ![] bcast_S_S4096x256 : (⟨S_, .f32⟩ : BufTy).Contents (Elt F) → (⟨S4096x256, .f32⟩ : BufTy).Contents (Elt F)),
    binary main_v61 main_v46 main_v62 (mulf : (⟨S4096x256, .f32⟩ : BufTy).Contents (Elt F) → (⟨S4096x256, .f32⟩ : BufTy).Contents (Elt F) → (⟨S4096x256, .f32⟩ : BufTy).Contents (Elt F)),
    binary main_v60 main_v62 main_v63 (addf : (⟨S4096x256, .f32⟩ : BufTy).Contents (Elt F) → (⟨S4096x256, .f32⟩ : BufTy).Contents (Elt F) → (⟨S4096x256, .f32⟩ : BufTy).Contents (Elt F)),
    unary main_arg2 main_v64 ((extractStridedSlice S4096x256 ![0, 1920] · slices_S4096x2304_S4096x256_0_1920) : (⟨S4096x2304, .f32⟩ : BufTy).Contents (Elt F) → (⟨S4096x256, .f32⟩ : BufTy).Contents (Elt F)),
    unary main_arg3 main_v65 (broadcastInDim S1x256 ![1] bcast_S256_S1x256_1 : (⟨S256, .f32⟩ : BufTy).Contents (Elt F) → (⟨S1x256, .f32⟩ : BufTy).Contents (Elt F)),
    unary main_v65 main_v66 (broadcastInDim S4096x256 ![0, 1] bcast_S1x256_S4096x256_0_1 : (⟨S1x256, .f32⟩ : BufTy).Contents (Elt F) → (⟨S4096x256, .f32⟩ : BufTy).Contents (Elt F)),
    binary main_v66 main_v64 main_v67 (mulf : (⟨S4096x256, .f32⟩ : BufTy).Contents (Elt F) → (⟨S4096x256, .f32⟩ : BufTy).Contents (Elt F) → (⟨S4096x256, .f32⟩ : BufTy).Contents (Elt F)),
    unary main_v65 main_v68 (broadcastInDim S4096x256 ![0, 1] bcast_S1x256_S4096x256_0_1 : (⟨S1x256, .f32⟩ : BufTy).Contents (Elt F) → (⟨S4096x256, .f32⟩ : BufTy).Contents (Elt F)),
    binary main_v68 main_v63 main_v69 (mulf : (⟨S4096x256, .f32⟩ : BufTy).Contents (Elt F) → (⟨S4096x256, .f32⟩ : BufTy).Contents (Elt F) → (⟨S4096x256, .f32⟩ : BufTy).Contents (Elt F)),
    binary main_v63 main_v64 main_v70 (mulf : (⟨S4096x256, .f32⟩ : BufTy).Contents (Elt F) → (⟨S4096x256, .f32⟩ : BufTy).Contents (Elt F) → (⟨S4096x256, .f32⟩ : BufTy).Contents (Elt F)),
    nullary main_cst_15 (constant S_ .f32 0x00000000#32),
    binary main_v70 main_cst_15 main_v71 ((fun x v => Host.reduceAdd x v reducesTo_S4096x256_S256_d0 h_S_) : (⟨S4096x256, .f32⟩ : BufTy).Contents (Elt F) → (⟨S_, .f32⟩ : BufTy).Contents (Elt F) → (⟨S256, .f32⟩ : BufTy).Contents (Elt F)),
    reshape main_v71 main_v72 (rfl : (.f32 : EltTy) = .f32) shapeCasts_S256_S1x256,
    nullary main_cst_16 (constant S_ .f32 0x00000000#32),
    binary main_v72 main_cst_16 main_v73 ((fun x v => Host.reduceAdd x v reducesTo_S1x256_S256_d0 h_S_) : (⟨S1x256, .f32⟩ : BufTy).Contents (Elt F) → (⟨S_, .f32⟩ : BufTy).Contents (Elt F) → (⟨S256, .f32⟩ : BufTy).Contents (Elt F)),
    reshape main_v40 main_v74 (rfl : (.f32 : EltTy) = .f32) shapeCasts_S256_S1x256,
    reshape main_v73 main_v75 (rfl : (.f32 : EltTy) = .f32) shapeCasts_S256_S1x256,
    nullary main_cst_17 (constant S_ .f32 0x00000000#32),
    unary main_cst_17 main_v76 (broadcastInDim S6x256 ![] bcast_S_S6x256 : (⟨S_, .f32⟩ : BufTy).Contents (Elt F) → (⟨S6x256, .f32⟩ : BufTy).Contents (Elt F)),
    nary ![main_v74, main_v75, main_v76] main_v77 (fun u => fn_main_v77 (F := F) (u 0) (u 1) (u 2)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., nullary_bufs_sub .., binary_bufs_sub .., reshape_bufs_sub .., nullary_bufs_sub .., binary_bufs_sub .., binary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., binary_bufs_sub .., unary_bufs_sub .., unary_bufs_sub .., unary_bufs_sub .., binary_bufs_sub .., unary_bufs_sub .., binary_bufs_sub .., binary_bufs_sub .., nullary_bufs_sub .., binary_bufs_sub .., reshape_bufs_sub .., nullary_bufs_sub .., binary_bufs_sub .., reshape_bufs_sub .., reshape_bufs_sub .., nullary_bufs_sub .., unary_bufs_sub .., nary_bufs_sub ..⟩

set_option maxRecDepth 8192 in
/-- `main_v0` as a function of the arguments. -/
def res_main_v0 (V0 : Valuation τ sig (Elt F)) : (Proc.devRef .tc main_v0 : DevRef τ sig).ty.Contents (Elt F) :=
  extf .f32 (V0 (Proc.devRef .tc main_arg4)) bitsLt_bf16_f32

set_option maxRecDepth 8192 in
/-- `main_v2` as a function of the arguments. -/
def res_main_v2 (V0 : Valuation τ sig (Elt F)) : (Proc.devRef .tc main_v2 : DevRef τ sig).ty.Contents (Elt F) :=
  mulf (broadcastInDim S4096x256 ![] bcast_S_S4096x256 (constant S_ .f32 0x3F000000#32)) (V0 (Proc.devRef .tc main_arg1))

set_option maxRecDepth 8192 in
/-- `main_v3` as a function of the arguments. -/
def res_main_v3 (V0 : Valuation τ sig (Elt F)) : (Proc.devRef .tc main_v3 : DevRef τ sig).ty.Contents (Elt F) :=
  mulf (V0 (Proc.devRef .tc main_arg1)) (V0 (Proc.devRef .tc main_arg1))

set_option maxRecDepth 8192 in
/-- `main_v12` as a function of the arguments. -/
def res_main_v12 (V0 : Valuation τ sig (Elt F)) : (Proc.devRef .tc main_v12 : DevRef τ sig).ty.Contents (Elt F) :=
  Host.tanh (mulf (broadcastInDim S4096x256 ![] bcast_S_S4096x256 (constant S_ .f32 0x3F4C422A#32)) (addf (V0 (Proc.devRef .tc main_arg1)) (Host.divf (mulf (mulf (res_main_v3 V0) (V0 (Proc.devRef .tc main_arg1))) (broadcastInDim S4096x256 ![] bcast_S_S4096x256 (constant S_ .f32 0x472EAB00#32))) (broadcastInDim S4096x256 ![] bcast_S_S4096x256 (constant S_ .f32 0x49742400#32)))))

set_option maxRecDepth 8192 in
/-- `main_v19` as a function of the arguments. -/
def res_main_v19 (V0 : Valuation τ sig (Elt F)) : (Proc.devRef .tc main_v19 : DevRef τ sig).ty.Contents (Elt F) :=
  addf (broadcastInDim S4096x256 ![] bcast_S_S4096x256 (constant S_ .f32 0x3F800000#32)) (res_main_v12 V0)

set_option maxRecDepth 8192 in
/-- `main_v20` as a function of the arguments. -/
def res_main_v20 (V0 : Valuation τ sig (Elt F)) : (Proc.devRef .tc main_v20 : DevRef τ sig).ty.Contents (Elt F) :=
  mulf (res_main_v2 V0) (res_main_v19 V0)

set_option maxRecDepth 8192 in
/-- `main_v30` as a function of the arguments. -/
def res_main_v30 (V0 : Valuation τ sig (Elt F)) : (Proc.devRef .tc main_v30 : DevRef τ sig).ty.Contents (Elt F) :=
  Host.divf (broadcastInDim S4096x256 ![] bcast_S_S4096x256 (constant S_ .f32 0x3F800000#32)) (addf (broadcastInDim S4096x256 ![] bcast_S_S4096x256 (constant S_ .f32 0x3F800000#32)) (Host.exp (Host.negf (addf (Host.dotGeneral dot_S4096x256_S256x256_S4096x256_1_0_0_1_n_n none (res_main_v20 V0) (res_main_v0 V0)) (broadcastInDim S4096x256 ![0, 1] bcast_S1x256_S4096x256_0_1 (broadcastInDim S1x256 ![1] bcast_S256_S1x256_1 (V0 (Proc.devRef .tc main_arg5))))))))

set_option maxRecDepth 8192 in
/-- `main_v37` as a function of the arguments. -/
def res_main_v37 (V0 : Valuation τ sig (Elt F)) : (Proc.devRef .tc main_v37 : DevRef τ sig).ty.Contents (Elt F) :=
  mulf (mulf (res_main_v20 V0) (V0 (Proc.devRef .tc main_arg0))) (mulf (res_main_v30 V0) (subf (broadcastInDim S4096x256 ![] bcast_S_S4096x256 (constant S_ .f32 0x3F800000#32)) (res_main_v30 V0)))

set_option maxRecDepth 8192 in
/-- `main_v44` as a function of the arguments. -/
def res_main_v44 (V0 : Valuation τ sig (Elt F)) : (Proc.devRef .tc main_v44 : DevRef τ sig).ty.Contents (Elt F) :=
  addf (mulf (V0 (Proc.devRef .tc main_arg0)) (res_main_v30 V0)) (Host.dotGeneral dot_S4096x256_S256x256_S4096x256_1_1_0_0_n_n none (res_main_v37 V0) (res_main_v0 V0))

set_option maxRecDepth 8192 in
/-- `main_v49` as a function of the arguments. -/
def res_main_v49 (V0 : Valuation τ sig (Elt F)) : (Proc.devRef .tc main_v49 : DevRef τ sig).ty.Contents (Elt F) :=
  mulf (broadcastInDim S4096x256 ![] bcast_S_S4096x256 (constant S_ .f32 0x3F4C422A#32)) (mulf (mulf (res_main_v2 V0) (res_main_v44 V0)) (mulf (addf (broadcastInDim S4096x256 ![] bcast_S_S4096x256 (constant S_ .f32 0x3F800000#32)) (res_main_v12 V0)) (subf (broadcastInDim S4096x256 ![] bcast_S_S4096x256 (constant S_ .f32 0x3F800000#32)) (res_main_v12 V0))))

set_option maxRecDepth 8192 in
/-- `main_v53` as a function of the arguments. -/
def res_main_v53 (V0 : Valuation τ sig (Elt F)) : (Proc.devRef .tc main_v53 : DevRef τ sig).ty.Contents (Elt F) :=
  mulf (Host.divf (res_main_v49 V0) (broadcastInDim S4096x256 ![] bcast_S_S4096x256 (constant S_ .f32 0x49742400#32))) (broadcastInDim S4096x256 ![] bcast_S_S4096x256 (constant S_ .f32 0x472EAB00#32))

set_option maxRecDepth 8192 in
/-- `main_v56` as a function of the arguments. -/
def res_main_v56 (V0 : Valuation τ sig (Elt F)) : (Proc.devRef .tc main_v56 : DevRef τ sig).ty.Contents (Elt F) :=
  mulf (res_main_v53 V0) (V0 (Proc.devRef .tc main_arg1))

set_option maxRecDepth 8192 in
/-- `main_v63` as a function of the arguments. -/
def res_main_v63 (V0 : Valuation τ sig (Elt F)) : (Proc.devRef .tc main_v63 : DevRef τ sig).ty.Contents (Elt F) :=
  addf (addf (addf (addf (res_main_v49 V0) (mulf (res_main_v3 V0) (res_main_v53 V0))) (mulf (V0 (Proc.devRef .tc main_arg1)) (res_main_v56 V0))) (mulf (res_main_v56 V0) (V0 (Proc.devRef .tc main_arg1)))) (mulf (broadcastInDim S4096x256 ![] bcast_S_S4096x256 (constant S_ .f32 0x3F000000#32)) (mulf (res_main_v44 V0) (res_main_v19 V0)))

set_option maxRecDepth 8192 in
/-- `main_v64` as a function of the arguments. -/
def res_main_v64 (V0 : Valuation τ sig (Elt F)) : (Proc.devRef .tc main_v64 : DevRef τ sig).ty.Contents (Elt F) :=
  extractStridedSlice S4096x256 ![0, 1920] (V0 (Proc.devRef .tc main_arg2)) slices_S4096x2304_S4096x256_0_1920

set_option maxRecDepth 8192 in
/-- `main_v65` as a function of the arguments. -/
def res_main_v65 (V0 : Valuation τ sig (Elt F)) : (Proc.devRef .tc main_v65 : DevRef τ sig).ty.Contents (Elt F) :=
  broadcastInDim S1x256 ![1] bcast_S256_S1x256_1 (V0 (Proc.devRef .tc main_arg3))

set_option maxRecDepth 8192 in
set_option maxHeartbeats 38800000 in
/-- Every weakly fair execution of @main, from any memory with zero counters, terminates with each result as the operations compute it
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = res_main_v63 (launchContents m c)
      ∧ r.2.mem ((c.tc : Thread nD τ).loc main_v69) = mulf (broadcastInDim S4096x256 ![0, 1] bcast_S1x256_S4096x256_0_1 (res_main_v65 (launchContents m c))) (res_main_v63 (launchContents m c))
      ∧ r.2.mem ((c.tc : Thread nD τ).loc main_v42) = transpose S256x256 [1, 0] (Host.dotGeneral dot_S4096x256_S4096x256_S256x256_0_0_1_1_n_n none (res_main_v37 (launchContents m c)) (res_main_v20 (launchContents m c))) transposes_S256x256_S256x256_1_0
      ∧ r.2.mem ((c.tc : Thread nD τ).loc main_v77) = (concatenate S8x256 0 [⟨S1x256, ((shapeCast _ (Host.reduceAdd (shapeCast _ (Host.reduceAdd (res_main_v37 (launchContents m c)) (constant S_ .f32 0x00000000#32) reducesTo_S4096x256_S256_d0 h_S_) shapeCasts_S256_S1x256) (constant S_ .f32 0x00000000#32) reducesTo_S1x256_S256_d0 h_S_) shapeCasts_S256_S1x256) : (⟨S1x256, .f32⟩ : BufTy).Contents (Elt F))⟩, ⟨S1x256, ((shapeCast _ (Host.reduceAdd (shapeCast _ (Host.reduceAdd (mulf (res_main_v63 (launchContents m c)) (res_main_v64 (launchContents m c))) (constant S_ .f32 0x00000000#32) reducesTo_S4096x256_S256_d0 h_S_) shapeCasts_S256_S1x256) (constant S_ .f32 0x00000000#32) reducesTo_S1x256_S256_d0 h_S_) shapeCasts_S256_S1x256) : (⟨S1x256, .f32⟩ : BufTy).Contents (Elt F))⟩, ⟨S6x256, ((broadcastInDim S6x256 ![] bcast_S_S6x256 (constant S_ .f32 0x00000000#32)) : (⟨S6x256, .f32⟩ : BufTy).Contents (Elt F))⟩] concatenates_S1x256_S1x256_S6x256_S8x256_d0 : (⟨S8x256, .f32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v63).trans (by after_results_simp <;> (try dsimp only [Matrix.cons_val]) <;> (try after_results_simp) <;> rfl),
      (h c main_v69).trans (by after_results_simp <;> (try dsimp only [Matrix.cons_val]) <;> (try after_results_simp) <;> rfl),
      (h c main_v42).trans (by after_results_simp <;> (try dsimp only [Matrix.cons_val]) <;> (try after_results_simp) <;> rfl),
      (h c main_v77).trans (by after_results_simp <;> (try dsimp only [Matrix.cons_val]) <;> (try after_results_simp) <;> rfl),
      (h c main_arg0).trans (by after_results_simp <;> (try dsimp only [Matrix.cons_val]) <;> (try after_results_simp) <;> rfl),
      (h c main_arg1).trans (by after_results_simp <;> (try dsimp only [Matrix.cons_val]) <;> (try after_results_simp) <;> rfl),
      (h c main_arg2).trans (by after_results_simp <;> (try dsimp only [Matrix.cons_val]) <;> (try after_results_simp) <;> rfl),
      (h c main_arg3).trans (by after_results_simp <;> (try dsimp only [Matrix.cons_val]) <;> (try after_results_simp) <;> rfl),
      (h c main_arg4).trans (by after_results_simp <;> (try dsimp only [Matrix.cons_val]) <;> (try after_results_simp) <;> rfl),
      (h c main_arg5).trans (by after_results_simp <;> (try dsimp only [Matrix.cons_val]) <;> (try after_results_simp) <;> rfl)⟩)
    (run_seq scopedRefs_eq scopedSems_eq defs main (fun _ => ops) main_eq (fun _ => ops_sub) m ρ)

end Cert.S5OutGradReferenceIdeal.Value

end
-- ==== Proof.Calls.S5OutGrad.lean ====
/- S5OutGrad: the gradients of the S5 read-out, block of rows by block of rows, those of the weight, the bias and the skip gathered over the blocks. -/
module

public import proofs.«01_k».proof.Defs
public import proofs.«01_k».proof.Proof.Gen.S5OutGradIdeal.Value
public import proofs.«01_k».proof.Proof.Calls.S5OutGradRun
public import proofs.«01_k».proof.Proof.Calls.Gelu
public import proofs.«01_k».proof.Proof.Calls.GeluGrad
public import proofs.«01_k».proof.Proof.Calls.Tile
public import proofs.«01_k».proof.Proof.Gen.Pre_finite_s5
public import proofs.«01_k».proof.Proof.Lru.Reals
public import Idealize.ShloMosaic.Lib.Pipeline.Value
public import Idealize.ShloMosaic.Lib.Pipeline.ValueKit
public import Idealize.ShloMosaic.Lib.Quiescent

@[expose] public section

set_option maxRecDepth 16384

noncomputable section

namespace Cert.S5OutGradIdeal.Calls

open Idealize.ShloMosaic Idealize.ShloMosaic.TcCoe
open Cert.S5OutGradIdeal
open Cert.S5OutGradIdeal.Gen

variable (m : (ℓ : Loc nD τ sig) → Buf (Elt Ideal) ℓ)

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 5] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![t.val, 0] := (by decide +kernel : ∀ t : Fin grid0.N, _)
theorem i7 : ∀ t : Fin cfg0.N, win0_7.index t = ![t.val, 0] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![0, 0] := (by decide +kernel : ∀ t : Fin grid0.N, _)

/-- GELU's derivative at `y`, and the tanh in it. -/
def bend (y : EReal) : EReal :=
  Ideal.tanh (Ideal.ofBits .f32 1061962282#32 * (y + ((8943 / 200000 : ℝ) : EReal) * y * y * y))
def ownSlope (y : EReal) : EReal :=
  Ideal.ofBits .f32 1056964608#32 * (1 + bend y)
    + Ideal.ofBits .f32 1056964608#32 * y * (1 - bend y * bend y) * Ideal.ofBits .f32 1061962282#32 * (1 + ((26829 / 200000 : ℝ) : EReal) * y * y)

theorem bend_coe (y : ℝ) : bend (y : EReal) = ((Real.tanh (Lru.arg y) : ℝ) : EReal) := by
  unfold bend
  rw [Lru.ofBits_rt]
  simp only [← EReal.coe_mul, ← EReal.coe_add, Lru.tanh_coe]
  congr 2
  unfold Lru.arg
  ring

theorem ownSlope_coe (y : ℝ) : ownSlope (y : EReal) = Calls.slope y := by
  unfold ownSlope Calls.slope
  rw [bend_coe, Calls.tanhOut_coe, mul_assoc (((26829 / 200000 : ℝ) : EReal))]

/-- A row's gate `σ(gelu(y) w + b)`, the gradient of the gate's argument, and the gradients of `gelu(y)` and of `y`. -/
def gate (y : Fin 256 → EReal) (w : S256x256.Idx → EReal) (b : Fin 256 → EReal) (j : Fin 256) : EReal :=
  Ideal.div 1 (1 + Ideal.exp (-((∑ x : Fin 256, Calls.gelu (y x) * w (ix2 x j)) + b j)))
def dz (o y : Fin 256 → EReal) (w : S256x256.Idx → EReal) (b : Fin 256 → EReal) (j : Fin 256) : EReal :=
  o j * Calls.gelu (y j) * gate y w b j * (1 - gate y w b j)
def dg (o y : Fin 256 → EReal) (w : S256x256.Idx → EReal) (b : Fin 256 → EReal) (j : Fin 256) : EReal :=
  o j * gate y w b j + ∑ x : Fin 256, dz o y w b x * w (ix2 j x)
def dy (o y : Fin 256 → EReal) (w : S256x256.Idx → EReal) (b : Fin 256 → EReal) (j : Fin 256) : EReal :=
  dg o y w b j * ownSlope (y j)

/-- A row of an array. -/
def row {n : ℕ} (a : (⟨2, ![n, 256]⟩ : Shape).Idx → EReal) (r : Fin n) (k : Fin 256) : EReal := a (ix2 r k)

theorem gelu_at (y : Vec Ideal S512x256 .f32) (r : Fin 512) (j : Fin 256) : k0_pay5 y (ix2 r j) = Calls.gelu (row y r j) := by
  pointwise [k0_pay5]
  rfl

theorem gelu_at' (y : Vec Ideal S512x256 .f32) (r : Fin 512) (j : Fin 256) : k0_pay6 y (ix2 r j) = Calls.gelu (row y r j) := by
  refine Eq.trans ?_ (gelu_at y r j)
  pointwise [k0_pay6]

theorem gate_at (y : Vec Ideal S512x256 .f32) (w : Vec Ideal S256x256 .bf16) (b : Vec Ideal S1x256 .f32) (r : Fin 512) (j : Fin 256) :
    k0_pay7 y w b (ix2 r j) = gate (row y r) w (fun k => b (ix2 0 k)) j := by
  unfold gate
  simp only [← gelu_at']
  pointwise [k0_pay7]
  rfl

theorem dz_at (o y : Vec Ideal S512x256 .f32) (w : Vec Ideal S256x256 .bf16) (b : Vec Ideal S1x256 .f32) (r : Fin 512) (j : Fin 256) :
    k0_pay8 o y w b (ix2 r j) = dz (row o r) (row y r) w (fun k => b (ix2 0 k)) j := by
  unfold dz
  rw [← gelu_at, ← gate_at]
  pointwise [k0_pay8, row]

theorem dz_at' (o y : Vec Ideal S512x256 .f32) (w : Vec Ideal S256x256 .bf16) (b : Vec Ideal S1x256 .f32) (r : Fin 512) (j : Fin 256) :
    k0_pay9 o y w b (ix2 r j) = dz (row o r) (row y r) w (fun k => b (ix2 0 k)) j := by
  refine Eq.trans ?_ (dz_at o y w b r j)
  pointwise [k0_pay9]

theorem dg_at (o y : Vec Ideal S512x256 .f32) (w : Vec Ideal S256x256 .bf16) (b : Vec Ideal S1x256 .f32) (r : Fin 512) (j : Fin 256) :
    k0_pay10 o y w b w (ix2 r j) = dg (row o r) (row y r) w (fun k => b (ix2 0 k)) j := by
  unfold dg
  simp only [← gate_at, ← dz_at']
  pointwise [k0_pay10, row]

theorem dy_at (o y : Vec Ideal S512x256 .f32) (w : Vec Ideal S256x256 .bf16) (b : Vec Ideal S1x256 .f32) (r : Fin 512) (j : Fin 256) :
    k0_pay12 y (k0_pay10 o y w b w) (k0_pay11 y) (ix2 r j) = dy (row o r) (row y r) w (fun k => b (ix2 0 k)) j := by
  unfold dy
  rw [← dg_at]
  pointwise [k0_pay12, k0_pay11, row]
  rfl

theorem du_at (o y : Vec Ideal S512x256 .f32) (w : Vec Ideal S256x256 .bf16) (b d : Vec Ideal S1x256 .f32) (r : Fin 512) (j : Fin 256) :
    k0_pay13 y (k0_pay10 o y w b w) (k0_pay11 y) d (ix2 r j) = dy (row o r) (row y r) w (fun k => b (ix2 0 k)) j * d (ix2 0 j) := by
  rw [← dy_at]
  pointwise [k0_pay13]

theorem bias_row (z : Vec Ideal S512x256 .f32) (p : Vec Ideal S1x256 .f32) (j : Fin 256) :
    k0_pay1 z p (ix2 0 j) = p (ix2 0 j) + ∑ r : Fin 512, z (ix2 r j) := by
  pointwise [k0_pay1]

theorem skip_row (z u : Vec Ideal S512x256 .f32) (p : Vec Ideal S1x256 .f32) (j : Fin 256) :
    k0_pay2 z p u (ix2 0 j) = p (ix2 0 j) + ∑ r : Fin 512, z (ix2 r j) * u (ix2 r j) := by
  pointwise [k0_pay2]

theorem weight_at (g : Vec Ideal S512x256 .bf16) (z : Vec Ideal S512x256 .bf16) (p : Vec Ideal S256x256 .f32) (i j : Fin 256) :
    k0_pay14 g z p (ix2 i j) = p (ix2 i j) + ∑ r : Fin 512, g (ix2 r i) * z (ix2 r j) := by
  pointwise [k0_pay14]

/-- A place of a block among the whole rows. -/
def at0 (t : Fin cfg0.N) (r : Fin 512) : Fin 4096 := ⟨t.val * 512 + r.val, by have := t.isLt; change t.val < 8 at this; omega⟩

/-- The region finds the skips and the biases as one row each. -/
theorem skip (c : Dev nD) (j : Fin 256) : V (F := Ideal) m c (Pipeline.arrRef spec0 3) (ix2 0 j) = m (c.tc.loc main_arg3) (ix1 j) := by
  unfold V
  after_results
  pointwise

theorem bias (c : Dev nD) (j : Fin 256) : V (F := Ideal) m c (Pipeline.arrRef spec0 5) (ix2 0 j) = m (c.tc.loc main_arg5) (ix1 j) := by
  unfold V
  after_results
  pointwise

theorem skip_block (c : Dev nD) (t : Fin cfg0.N) (j : Fin 256) : iblk (F := Ideal) m c 3 t (ix2 0 j) = m (c.tc.loc main_arg3) (ix1 j) := by
  rw [← skip m c]
  blk_ext [iblk, i3 t]

theorem bias_block (c : Dev nD) (t : Fin cfg0.N) (j : Fin 256) : iblk (F := Ideal) m c 5 t (ix2 0 j) = m (c.tc.loc main_arg5) (ix1 j) := by
  rw [← bias m c]
  blk_ext [iblk, i5 t]

theorem weight_block (c : Dev nD) (t : Fin cfg0.N) : iblk (F := Ideal) m c 4 t = m (c.tc.loc main_arg4) := by
  funext y
  idx_vars y
  blk_ext [iblk, V, i4 t]

theorem o_block (c : Dev nD) (t : Fin cfg0.N) (r : Fin 512) : row (iblk (F := Ideal) m c 0 t) r = row (n := 4096) (m (c.tc.loc main_arg0)) (at0 t r) := by
  funext k
  unfold row
  blk_ext [iblk, V, at0, i0 t]

theorem y_block (c : Dev nD) (t : Fin cfg0.N) (r : Fin 512) : row (iblk (F := Ideal) m c 1 t) r = row (n := 4096) (m (c.tc.loc main_arg1)) (at0 t r) := by
  funext k
  unfold row
  blk_ext [iblk, V, at0, i1 t]

/-- The S5 channels' inputs, columns of the projection. -/
def input (p : S4096x2304.Idx → EReal) (r : Fin 4096) (j : Fin 256) : EReal := p (ix2 r (⟨1920 + j.val, by omega⟩ : Fin 2304))

theorem taken (x : Vec Ideal S512x384 .f32) (r : Fin 512) (j : Fin 256) :
    View.ld x (Rect.unit (s := S512x384) ![0, 0] ![512, 256] inb_S512x384_S512x256_0_0) (ix2 r j) = x (ix2 r (⟨j.val, by omega⟩ : Fin 384)) := by
  pointwise

theorem u_block (c : Dev nD) (t : Fin cfg0.N) (r : Fin 512) (j : Fin 256) :
    View.ld (iblk (F := Ideal) m c 2 t) (Rect.unit (s := S512x384) ![0, 0] ![512, 256] inb_S512x384_S512x256_0_0) (ix2 r j)
      = input (m (c.tc.loc main_arg2)) (at0 t r) j := by
  refine (taken _ r j).trans ?_
  unfold input
  blk_ext [iblk, V, at0, i2 t]

/-- The gradients at a place of the whole rows. -/
def dzs (c : Dev nD) (r : Fin 4096) (j : Fin 256) : EReal :=
  dz (row (n := 4096) (m (c.tc.loc main_arg0)) r) (row (n := 4096) (m (c.tc.loc main_arg1)) r) (m (c.tc.loc main_arg4)) (fun k => m (c.tc.loc main_arg5) (ix1 k)) j
def dys (c : Dev nD) (r : Fin 4096) (j : Fin 256) : EReal :=
  dy (row (n := 4096) (m (c.tc.loc main_arg0)) r) (row (n := 4096) (m (c.tc.loc main_arg1)) r) (m (c.tc.loc main_arg4)) (fun k => m (c.tc.loc main_arg5) (ix1 k)) j

theorem dz_block (c : Dev nD) (t : Fin cfg0.N) (r : Fin 512) (j : Fin 256) :
    k0_pay8 (iblk (F := Ideal) m c 0 t) (iblk (F := Ideal) m c 1 t) (iblk (F := Ideal) m c 4 t) (iblk (F := Ideal) m c 5 t) (ix2 r j) = dzs m c (at0 t r) j := by
  refine (dz_at _ _ _ _ _ _).trans ?_
  rw [o_block, y_block, weight_block, funext (bias_block m c t), dzs]

theorem dz_block' (c : Dev nD) (t : Fin cfg0.N) (r : Fin 512) (j : Fin 256) :
    k0_pay9 (iblk (F := Ideal) m c 0 t) (iblk (F := Ideal) m c 1 t) (iblk (F := Ideal) m c 4 t) (iblk (F := Ideal) m c 5 t) (ix2 r j) = dzs m c (at0 t r) j := by
  refine (dz_at' _ _ _ _ _ _).trans ?_
  rw [o_block, y_block, weight_block, funext (bias_block m c t), dzs]

theorem dy_block (c : Dev nD) (t : Fin cfg0.N) (r : Fin 512) (j : Fin 256) :
    k0_pay12 (iblk (F := Ideal) m c 1 t) (k0_pay10 (iblk (F := Ideal) m c 0 t) (iblk (F := Ideal) m c 1 t) (iblk (F := Ideal) m c 4 t) (iblk (F := Ideal) m c 5 t) (iblk (F := Ideal) m c 4 t)) (k0_pay11 (iblk (F := Ideal) m c 1 t)) (ix2 r j)
      = dys m c (at0 t r) j := by
  refine (dy_at _ _ _ _ _ _).trans ?_
  rw [o_block, y_block, weight_block, funext (bias_block m c t), dys]

theorem du_block (c : Dev nD) (t : Fin cfg0.N) (r : Fin 512) (j : Fin 256) :
    k0_pay13 (iblk (F := Ideal) m c 1 t) (k0_pay10 (iblk (F := Ideal) m c 0 t) (iblk (F := Ideal) m c 1 t) (iblk (F := Ideal) m c 4 t) (iblk (F := Ideal) m c 5 t) (iblk (F := Ideal) m c 4 t)) (k0_pay11 (iblk (F := Ideal) m c 1 t)) (iblk (F := Ideal) m c 3 t) (ix2 r j)
      = dys m c (at0 t r) j * m (c.tc.loc main_arg3) (ix1 j) := by
  refine (du_at _ _ _ _ _ _ _).trans ?_
  rw [o_block, y_block, weight_block, funext (bias_block m c t), skip_block, dys]

theorem final_dy (c : Dev nD) : (dats (F := Ideal) m 0 c).arrAt 6 cfg0.N = fun y => dys m c ⟨(y 0).val, (y 0).isLt⟩ ⟨(y 1).val, (y 1).isLt⟩ := by
  refine (dats m 0 c).arrAt_eq_of_covers 6 _ (by decide +kernel) fun t hf y => ?_
  blk_simp
  have e : (outsAt0 (F := Ideal) m c t.val t.isLt).1 = k0_pay12 (iblk (F := Ideal) m c 1 t) (k0_pay10 (iblk (F := Ideal) m c 0 t) (iblk (F := Ideal) m c 1 t) (iblk (F := Ideal) m c 4 t) (iblk (F := Ideal) m c 5 t) (iblk (F := Ideal) m c 4 t)) (k0_pay11 (iblk (F := Ideal) m c 1 t)) := by
    by_cases h : t.val % 8 = 0
    · rw [outsAt0_A m c t h]
      frame_out
    · rw [outsAt0_B m c t h]
      frame_out
  rw [after0_6, e]
  idx_vars y
  refine (dy_block m c t _ _).trans ?_
  refine congrArg₂ (dys m c) (Fin.ext ?_) (Fin.ext ?_)
  · simp only [i6 t, at0]
    rfl
  · simp only [i6 t]
    change y1.val = 0 * 256 + y1.val
    omega

theorem final_du (c : Dev nD) : (dats (F := Ideal) m 0 c).arrAt 7 cfg0.N
    = fun y => dys m c ⟨(y 0).val, (y 0).isLt⟩ ⟨(y 1).val, (y 1).isLt⟩ * m (c.tc.loc main_arg3) (ix1 (⟨(y 1).val, (y 1).isLt⟩ : Fin 256)) := by
  refine (dats m 0 c).arrAt_eq_of_covers 7 _ (by decide +kernel) fun t hf y => ?_
  blk_simp
  have e : (outsAt0 (F := Ideal) m c t.val t.isLt).2.1 = k0_pay13 (iblk (F := Ideal) m c 1 t) (k0_pay10 (iblk (F := Ideal) m c 0 t) (iblk (F := Ideal) m c 1 t) (iblk (F := Ideal) m c 4 t) (iblk (F := Ideal) m c 5 t) (iblk (F := Ideal) m c 4 t)) (k0_pay11 (iblk (F := Ideal) m c 1 t)) (iblk (F := Ideal) m c 3 t) := by
    by_cases h : t.val % 8 = 0
    · rw [outsAt0_A m c t h]
      frame_out
    · rw [outsAt0_B m c t h]
      frame_out
  rw [after0_7, e]
  idx_vars y
  refine (du_block m c t _ _).trans ?_
  refine congrArg₂ (fun a b => dys m c a b * m (c.tc.loc main_arg3) (ix1 b)) (Fin.ext ?_) (Fin.ext ?_)
  · simp only [i7 t, at0]
    rfl
  · simp only [i7 t]
    change y1.val = 0 * 256 + y1.val
    omega

/-- What a point adds to the weight's gradient, and to the tile. -/
def part8 (c : Dev nD) (t : Fin cfg0.N) : S256x256.Idx → EReal := fun y =>
  ∑ r : Fin 512, Calls.gelu (row (n := 4096) (m (c.tc.loc main_arg1)) (at0 t r) ⟨(y 0).val, (y 0).isLt⟩) * dzs m c (at0 t r) ⟨(y 1).val, (y 1).isLt⟩
def tile (n : ℕ) (z d u : Fin n → Fin 256 → EReal) (i : Fin 8) (j : Fin 256) : EReal :=
  if i.val = 1 then ∑ r, d r j * u r j else if i.val = 0 then ∑ r, z r j else 0
def part9 (c : Dev nD) (t : Fin cfg0.N) : S8x256.Idx → EReal := fun y =>
  tile 512 (fun r => dzs m c (at0 t r)) (fun r => dys m c (at0 t r)) (fun r => input (m (c.tc.loc main_arg2)) (at0 t r)) ⟨(y 0).val, (y 0).isLt⟩ ⟨(y 1).val, (y 1).isLt⟩

theorem part8_eq (c : Dev nD) (t : Fin cfg0.N) (i j : Fin 256) :
    ∑ r : Fin 512, k0_pay6 (F := Ideal) (iblk (F := Ideal) m c 1 t) (ix2 r i) * k0_pay9 (iblk (F := Ideal) m c 0 t) (iblk (F := Ideal) m c 1 t) (iblk (F := Ideal) m c 4 t) (iblk (F := Ideal) m c 5 t) (ix2 r j)
      = part8 m c t (ix2 i j) := by
  refine Finset.sum_congr rfl fun r _ => congrArg₂ (· * ·) ((gelu_at' _ _ _).trans ?_) (dz_block' m c t r j)
  rw [y_block]
  rfl

theorem acc8 (c : Dev nD) (t : Fin cfg0.N) (h : t.val % 8 = 7) (y : S256x256.Idx) :
    (outsAt0 (F := Ideal) m c t.val t.isLt).2.2.1 y
      = 0 + ∑ s : Fin 8, part8 m c ⟨8 * (t.val / 8) + s.val, Pipeline.run_point_lt_of_flush t h s⟩ y := by
  refine Pipeline.eq_sum_fin_of_reset_step_apply_of_flush (fun n h => (outsAt0 (F := Ideal) m c n h).2.2.1) 8
    (fun _ => 0) (part8 m c) (fun t h y => ?_) (fun t h y => ?_) t h y
  · rw [outsAt0_A m c t h]
    frame_out
    idx_vars y
    refine (weight_at _ _ _ _ _).trans (congrArg₂ (· + ·) ?_ (part8_eq m c t y0 y1))
    pointwise [k0_pay3]
  · rw [outsAt0_B m c t h]
    frame_out
    idx_vars y
    exact (weight_at _ _ _ _ _).trans (congrArg (_ + ·) (part8_eq m c t y0 y1))

theorem acc9 (c : Dev nD) (t : Fin cfg0.N) (h : t.val % 8 = 7) (y : S8x256.Idx) :
    (outsAt0 (F := Ideal) m c t.val t.isLt).2.2.2 y
      = 0 + ∑ s : Fin 8, part9 m c ⟨8 * (t.val / 8) + s.val, Pipeline.run_point_lt_of_flush t h s⟩ y := by
  refine Pipeline.eq_sum_fin_of_reset_step_apply_of_flush (fun n h => (outsAt0 (F := Ideal) m c n h).2.2.2) 8
    (fun _ => 0) (part9 m c) (fun t h y => ?_) (fun t h y => ?_) t h y
  · rw [outsAt0_A m c t h]
    frame_out
    idx_vars y
    simp (disch := decide) only [View.readCov_skip, View.readCov_fill]
    refine (Calls.canon_row _ _ _ _ _ _).trans ?_
    rw [Calls.canon_row, Calls.canon_fill]
    change _ = _ + tile _ _ _ _ y0 y1
    rw [tile]
    by_cases h1 : y0.val = 1
    · rw [if_pos h1, if_pos h1]
      refine (skip_row _ _ _ _).trans (congrArg₂ (· + ·) ?_ (Finset.sum_congr rfl fun r _ => congrArg₂ (· * ·) (dy_block m c t r y1) (u_block m c t r y1)))
      pointwise [k0_pay4]
    · rw [if_neg h1, if_neg h1]
      by_cases h0 : y0.val = 0
      · rw [if_pos h0, if_pos h0]
        refine (bias_row _ _ _).trans (congrArg₂ (· + ·) ?_ (Finset.sum_congr rfl fun r _ => dz_block m c t r y1))
        pointwise [k0_pay4]
      · rw [if_neg h0, if_neg h0]
        pointwise [k0_pay4]
  · rw [outsAt0_B m c t h]
    frame_out
    idx_vars y
    change _ = _ + tile _ _ _ _ y0 y1
    rw [tile]
    refine (Calls.read_row _ _ _ _ _ _ _ _).trans ?_
    refine (congrArg _ (Calls.read_row _ _ _ _ _ _ _ _)).trans ?_
    by_cases h1 : y0.val = 1
    · rw [if_pos h1, if_pos h1]
      exact (skip_row _ _ _ _).trans (congrArg₂ (· + ·) (Calls.ld_row _ _ _ y0 h1 _) (Finset.sum_congr rfl fun r _ => congrArg₂ (· * ·) (dy_block m c t r y1) (u_block m c t r y1)))
    · rw [if_neg h1, if_neg h1]
      by_cases h0 : y0.val = 0
      · rw [if_pos h0, if_pos h0]
        exact (bias_row _ _ _).trans (congrArg₂ (· + ·) (Calls.ld_row _ _ _ y0 h0 _) (Finset.sum_congr rfl fun r _ => dz_block m c t r y1))
      · rw [if_neg h0, if_neg h0, add_zero]
        exact congrFun (Memref.IsWhole.read_unread _ _) _

/-- A sum over the rows, gathered block by block. -/
theorem gather (t : Fin cfg0.N) (h : t.val % 8 = 7) (f : Fin 4096 → EReal) :
    ∑ s : Fin 8, ∑ r : Fin 512, f (at0 ⟨8 * (t.val / 8) + s.val, Pipeline.run_point_lt_of_flush t h s⟩ r) = ∑ r, f r := by
  have h8 := t.isLt
  change t.val < 8 at h8
  refine (Finset.sum_congr rfl fun s _ => Finset.sum_congr rfl fun r _ => congrArg f (Fin.ext ?_)).trans
    (Fin.sum_mul_add_congr (M := EReal) (S := 8) (n := 512) (F := fun s r => f ⟨s.val * 512 + r.val, by omega⟩) fun _ _ _ => rfl)
  change (8 * (t.val / 8) + s.val) * 512 + r.val = s.val * 512 + r.val
  omega

theorem final_dw (c : Dev nD) : (dats (F := Ideal) m 0 c).arrAt 8 cfg0.N
    = fun y => ∑ r : Fin 4096, Calls.gelu (row (n := 4096) (m (c.tc.loc main_arg1)) r ⟨(y 0).val, (y 0).isLt⟩) * dzs m c r ⟨(y 1).val, (y 1).isLt⟩ := by
  refine (dats m 0 c).arrAt_eq_of_covers 8 _ (by decide +kernel) fun t hf y => ?_
  blk_simp
  have h3 : t.val % 8 = 7 := (flush0_8 t).mp hf
  rw [after0_8, acc8 m c t h3, zero_add]
  idx_vars y
  refine (gather t h3 fun r => Calls.gelu (row (n := 4096) (m (c.tc.loc main_arg1)) r y0) * dzs m c r y1).trans ?_
  refine congrArg₂ (fun a b => ∑ r : Fin 4096, Calls.gelu (row (n := 4096) (m (c.tc.loc main_arg1)) r a) * dzs m c r b) (Fin.ext ?_) (Fin.ext ?_)
  · simp only [i8 t]
    change y0.val = 0 * 256 + y0.val
    omega
  · simp only [i8 t]
    change y1.val = 0 * 256 + y1.val
    omega

theorem final_tile (c : Dev nD) : (dats (F := Ideal) m 0 c).arrAt 9 cfg0.N
    = fun y => tile 4096 (dzs m c) (dys m c) (input (m (c.tc.loc main_arg2))) ⟨(y 0).val, (y 0).isLt⟩ ⟨(y 1).val, (y 1).isLt⟩ := by
  refine (dats m 0 c).arrAt_eq_of_covers 9 _ (by decide +kernel) fun t hf y => ?_
  blk_simp
  have h3 : t.val % 8 = 7 := (flush0_9 t).mp hf
  rw [after0_9, acc9 m c t h3, zero_add]
  idx_vars y
  refine Eq.trans (b := tile 4096 (dzs m c) (dys m c) (input (m (c.tc.loc main_arg2))) y0 y1) ?_ ?_
  · change ∑ s : Fin 8, tile 512 _ _ _ y0 y1 = _
    unfold tile
    by_cases h1 : y0.val = 1
    · simp only [if_pos h1]
      exact gather t h3 fun r => dys m c r y1 * input (m (c.tc.loc main_arg2)) r y1
    · simp only [if_neg h1]
      by_cases h0 : y0.val = 0
      · simp only [if_pos h0]
        exact gather t h3 fun r => dzs m c r y1
      · simp only [if_neg h0]
        exact Finset.sum_const_zero
  · refine congrArg₂ (tile 4096 (dzs m c) (dys m c) (input (m (c.tc.loc main_arg2)))) (Fin.ext ?_) (Fin.ext ?_)
    · simp only [i9 t]
      change y0.val = 0 * 8 + y0.val
      omega
    · simp only [i9 t]
      change y1.val = 0 * 256 + y1.val
      omega

theorem gate_real (x : EReal) : Calls.IsReal (Ideal.div 1 (1 + Ideal.exp x)) := by
  induction x with
  | bot => exact ⟨1, by
      have h : Ideal.exp ⊥ = ((0 : ℝ) : EReal) := rfl
      rw [h, ← EReal.coe_one, ← EReal.coe_add, Calls.div_pos (by norm_num), ← EReal.coe_mul]
      norm_num⟩
  | top => exact ⟨0, by
      have h : Ideal.exp ⊤ = ⊤ := rfl
      rw [h, ← EReal.coe_one, EReal.coe_add_top, Ideal.div, if_neg EReal.top_ne_zero, EReal.inv_top, mul_zero, EReal.coe_zero]⟩
  | coe x =>
    have h : (1 + Real.exp x : ℝ) ≠ 0 := by positivity
    exact ⟨(1 + Real.exp x)⁻¹, by rw [Lru.exp_coe, ← EReal.coe_one, ← EReal.coe_add, Calls.div_pos h, ← EReal.coe_mul, one_mul]⟩

theorem gelu_real {x : EReal} : Calls.IsReal x → Calls.IsReal (Calls.gelu x)
  | ⟨x, hx⟩ => by
    rw [hx]
    unfold Calls.gelu
    rw [Lru.ofBits_rt, Lru.ofBits_half, ← EReal.coe_one]
    simp only [← EReal.coe_mul, ← EReal.coe_add, Lru.tanh_coe]
    exact ⟨_, rfl⟩

theorem one_sub_real {x : EReal} : Calls.IsReal x → Calls.IsReal (1 - x)
  | ⟨x, hx⟩ => ⟨1 - x, by rw [hx, EReal.coe_sub, EReal.coe_one]⟩

theorem sum_real {n : ℕ} (f : Fin n → EReal) (h : ∀ k, Calls.IsReal (f k)) : Calls.IsReal (∑ k, f k) :=
  Finset.sum_induction f Calls.IsReal (fun _ _ => Calls.IsReal.add) ⟨0, rfl⟩ fun k _ => h k

theorem dz_real (o y : Fin 256 → EReal) (w : S256x256.Idx → EReal) (b : Fin 256 → EReal) (ho : ∀ k, Calls.IsReal (o k)) (hy : ∀ k, Calls.IsReal (y k))
    (j : Fin 256) : Calls.IsReal (dz o y w b j) :=
  (((ho j).mul (gelu_real (hy j))).mul (gate_real _)).mul (one_sub_real (gate_real _))

theorem dg_real (o y : Fin 256 → EReal) (w : S256x256.Idx → EReal) (b : Fin 256 → EReal) (ho : ∀ k, Calls.IsReal (o k)) (hy : ∀ k, Calls.IsReal (y k))
    (hw : ∀ i, Calls.IsReal (w i)) (j : Fin 256) : Calls.IsReal (dg o y w b j) :=
  ((ho j).mul (gate_real _)).add (sum_real _ fun k => (dz_real o y w b ho hy k).mul (hw _))

/-- The rules of the chain give GELU's derivative. -/
theorem rules_eq {d y : EReal} (hd : Calls.IsReal d) (hy : Calls.IsReal y) : Calls.gateByRules d 1 y = d * ownSlope y := by
  rw [Calls.gate_eq_of_real hd ⟨1, EReal.coe_one.symm⟩ hy, Calls.gateGrad, mul_one]
  obtain ⟨y, rfl⟩ := hy
  rw [ownSlope_coe]

section Reference

variable (V0 : Valuation Cert.S5OutGradReferenceIdeal.τ Cert.S5OutGradReferenceIdeal.sig (Elt Ideal))

/-- The reference's arguments, as arrays. -/
abbrev ssm : S4096x256.Idx → EReal := V0 (Proc.devRef .tc Cert.S5OutGradReferenceIdeal.main_arg0)
abbrev saved : S4096x256.Idx → EReal := V0 (Proc.devRef .tc Cert.S5OutGradReferenceIdeal.main_arg1)
abbrev weight : S256x256.Idx → EReal := V0 (Proc.devRef .tc Cert.S5OutGradReferenceIdeal.main_arg4)
abbrev shift : S256.Idx → EReal := V0 (Proc.devRef .tc Cert.S5OutGradReferenceIdeal.main_arg5)

theorem ref_gelu (r : Fin 4096) (j : Fin 256) : Cert.S5OutGradReferenceIdeal.Value.res_main_v20 (F := Ideal) V0 (ix2 r j) = Calls.gelu (row (saved V0) r j) := by
  rw [← Calls.gelu_eq]
  pointwise [Cert.S5OutGradReferenceIdeal.Value.res_main_v20, Cert.S5OutGradReferenceIdeal.Value.res_main_v19, Cert.S5OutGradReferenceIdeal.Value.res_main_v12, Cert.S5OutGradReferenceIdeal.Value.res_main_v3, Cert.S5OutGradReferenceIdeal.Value.res_main_v2, row]

theorem ref_gate (r : Fin 4096) (j : Fin 256) :
    Cert.S5OutGradReferenceIdeal.Value.res_main_v30 (F := Ideal) V0 (ix2 r j) = gate (row (saved V0) r) (weight V0) (fun k => shift V0 (ix1 k)) j := by
  unfold gate
  simp only [← ref_gelu]
  pointwise [Cert.S5OutGradReferenceIdeal.Value.res_main_v30, Cert.S5OutGradReferenceIdeal.Value.res_main_v0, row]

theorem ref_dz (r : Fin 4096) (j : Fin 256) :
    Cert.S5OutGradReferenceIdeal.Value.res_main_v37 (F := Ideal) V0 (ix2 r j) = dz (row (ssm V0) r) (row (saved V0) r) (weight V0) (fun k => shift V0 (ix1 k)) j := by
  unfold dz
  rw [← ref_gelu, ← ref_gate, mul_comm (row (ssm V0) r j), mul_assoc]
  pointwise [Cert.S5OutGradReferenceIdeal.Value.res_main_v37, row]

theorem ref_dg (r : Fin 4096) (j : Fin 256) :
    Cert.S5OutGradReferenceIdeal.Value.res_main_v44 (F := Ideal) V0 (ix2 r j) = dg (row (ssm V0) r) (row (saved V0) r) (weight V0) (fun k => shift V0 (ix1 k)) j := by
  unfold dg
  simp only [← ref_gate, ← ref_dz]
  pointwise [Cert.S5OutGradReferenceIdeal.Value.res_main_v44, Cert.S5OutGradReferenceIdeal.Value.res_main_v0, row]

theorem ref_rules (r : Fin 4096) (j : Fin 256) :
    Cert.S5OutGradReferenceIdeal.Value.res_main_v63 (F := Ideal) V0 (ix2 r j) = Calls.gateByRules (Cert.S5OutGradReferenceIdeal.Value.res_main_v44 (F := Ideal) V0 (ix2 r j)) 1 (row (saved V0) r j) := by
  simp only [Calls.gateByRules, Calls.inner, Calls.cube, mul_one]
  pointwise [Cert.S5OutGradReferenceIdeal.Value.res_main_v63, Cert.S5OutGradReferenceIdeal.Value.res_main_v56, Cert.S5OutGradReferenceIdeal.Value.res_main_v53, Cert.S5OutGradReferenceIdeal.Value.res_main_v49, Cert.S5OutGradReferenceIdeal.Value.res_main_v19, Cert.S5OutGradReferenceIdeal.Value.res_main_v12, Cert.S5OutGradReferenceIdeal.Value.res_main_v3, Cert.S5OutGradReferenceIdeal.Value.res_main_v2, row]
  rfl

theorem ref_dy (ho : ∀ i, Calls.IsReal (ssm V0 i)) (hy : ∀ i, Calls.IsReal (saved V0 i)) (hw : ∀ i, Calls.IsReal (weight V0 i)) (r : Fin 4096) (j : Fin 256) :
    Cert.S5OutGradReferenceIdeal.Value.res_main_v63 (F := Ideal) V0 (ix2 r j) = dy (row (ssm V0) r) (row (saved V0) r) (weight V0) (fun k => shift V0 (ix1 k)) j := by
  rw [ref_rules, ref_dg]
  exact rules_eq (dg_real _ _ _ _ (fun k => ho (ix2 r k)) (fun k => hy (ix2 r k)) hw j) (hy (ix2 r j))

end Reference

theorem ref_tile (z d u : Fin 4096 → Fin 256 → EReal) (i : Fin 8) (j : Fin 256) :
    (if h : i.val < 1 then ∑ _x : Fin 1, ∑ r, z r j else if h : i.val - 1 < 1 then ∑ _x : Fin 1, ∑ r, d r j * u r j else 0) = tile 4096 z d u i j := by
  unfold tile
  by_cases h1 : i.val = 1
  · rw [dif_neg (by omega), dif_pos (by omega), if_pos h1, Fin.sum_univ_one]
  · rw [if_neg h1]
    by_cases h0 : i.val = 0
    · rw [dif_pos (by omega), if_pos h0, Fin.sum_univ_one]
    · rw [dif_neg (by omega), dif_neg (by omega), if_neg h0]

/-- The precondition: three of the arguments hold real numbers. -/
theorem real_args (c : Dev nD) (hp : Pre_S5OutGradIdeal_finite_s5 m) :
    (∀ i, Calls.IsReal (m (c.tc.loc main_arg0) i)) ∧ (∀ i, Calls.IsReal (m (c.tc.loc main_arg1) i)) ∧ (∀ i, Calls.IsReal (m (c.tc.loc main_arg4) i)) := by
  have hs : Subsingleton Cert.Pre_finite_s5.S_.Idx := ⟨fun a b => funext fun k => k.elim0⟩
  have h := congrFun (hp c) (Shape.Idx.first Cert.Pre_finite_s5.Gen.h_S_)
  dsimp only [Cert.Pre_finite_s5.fn] at h
  obtain ⟨h, e2⟩ := Lru.andi_one _ _ h
  obtain ⟨h, e1⟩ := Lru.andi_one _ _ h
  obtain ⟨h, e0⟩ := Lru.andi_one _ _ h
  exact ⟨fun i => ⟨_, Lru.real_of_lt_inf _ (Host.reduce_andi_all _ _ _ _ _ e0 i)⟩, fun i => ⟨_, Lru.real_of_lt_inf _ (Host.reduce_andi_all _ _ _ _ _ e1 i)⟩, fun i => ⟨_, Lru.real_of_lt_inf _ (Host.reduce_andi_all _ _ _ _ _ e2 i)⟩⟩

/-- The call and its reference leave the same results. -/
theorem algebraic : algebraic_S5OutGradIdeal_S5OutGradReferenceIdeal_pre_finite_s5 := by
  intro m g m' g' hp ha
  refine ⟨_, _, _, _, (θ_run _ _ _).mono (fun r h c => ⟨(h c).1.trans (final_dy m c), (h c).2.1.trans (final_du m c), (h c).2.2.1.trans (final_dw m c), (h c).2.2.2.1.trans (final_tile m c), (h c).2.2.2.2⟩) (Value.run_blocks m g), ?_⟩
  refine (θ_run _ _ _).mono (fun r h c => ?_) (Cert.S5OutGradReferenceIdeal.Value.run m' g')
  obtain ⟨h0, h1, h2, h3, h4, h5⟩ := ha c
  obtain ⟨r0, r1, r4⟩ := real_args m c hp
  rw [← h0] at r0
  rw [← h1] at r1
  rw [← h4] at r4
  have ez (i : Fin 4096) (j : Fin 256) : Cert.S5OutGradReferenceIdeal.Value.res_main_v37 (F := Ideal) (StableHlo.launchContents m' c) (ix2 i j) = dzs m c i j := by
    refine (ref_dz _ i j).trans ?_
    unfold dzs
    rw [← h0, ← h1, ← h4, ← h5]
  have ey (i : Fin 4096) (j : Fin 256) : Cert.S5OutGradReferenceIdeal.Value.res_main_v63 (F := Ideal) (StableHlo.launchContents m' c) (ix2 i j) = dys m c i j := by
    refine (ref_dy _ r0 r1 r4 i j).trans ?_
    unfold dys
    rw [← h0, ← h1, ← h4, ← h5]
  have eg (i : Fin 4096) (j : Fin 256) : Cert.S5OutGradReferenceIdeal.Value.res_main_v20 (F := Ideal) (StableHlo.launchContents m' c) (ix2 i j) = Calls.gelu (row (n := 4096) (m (c.tc.loc main_arg1)) i j) := by
    refine (ref_gelu _ i j).trans ?_
    rw [← h1]
  refine ⟨(h c).1.trans ?_, (h c).2.1.trans ?_, (h c).2.2.1.trans ?_, (h c).2.2.2.1.trans ?_, (h c).2.2.2.2⟩ <;> clear h
  · funext j
    idx_vars j
    exact ey j0 j1
  · funext j
    idx_vars j
    pointwise [Cert.S5OutGradReferenceIdeal.Value.res_main_v65]
    rw [ey, ← h3, mul_comm]
  · funext j
    idx_vars j
    pointwise
    simp only [ez, eg]
    exact Finset.sum_congr rfl fun x _ => mul_comm _ _
  · funext j
    idx_vars j
    pointwise [Cert.S5OutGradReferenceIdeal.Value.res_main_v64]
    simp only [ez, ey]
    rw [← h2]
    exact ref_tile (dzs m c) (dys m c) (input (m' (c.tc.loc Cert.S5OutGradReferenceIdeal.main_arg2))) j0 j1

/-- The reference changes none of its arguments. -/
theorem reference_frame : quiescent_S5OutGradReferenceIdeal := fun m ρ _ =>
  (θ_run Cert.S5OutGradReferenceIdeal.defs _ _).mono (fun r h => ⟨fun c => (h c).2.2.2.2, sem_eq_zero_of_no_sems (by decide) r.2⟩)
    (Cert.S5OutGradReferenceIdeal.Value.run m ρ)

end Cert.S5OutGradIdeal.Calls

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Lru.Pre
public import proofs.«01_k».proof.Proof.LruKernel.Frame
public import proofs.«01_k».proof.Proof.Gen.Proj.Frame
public import proofs.«01_k».proof.Proof.Gen.ProjIdeal.Frame
public import proofs.«01_k».proof.Proof.Gen.ProjIdeal.Value
public import proofs.«01_k».proof.Proof.Gen.ProjReferenceIdeal.Run
public import proofs.«01_k».proof.Proof.Products.Proj
public import proofs.«01_k».proof.Proof.Gen.ProjDw.Frame
public import proofs.«01_k».proof.Proof.Gen.ProjDwIdeal.Frame
public import proofs.«01_k».proof.Proof.Gen.ProjDwIdeal.Value
public import proofs.«01_k».proof.Proof.Gen.ProjDwReferenceIdeal.Run
public import proofs.«01_k».proof.Proof.Products.ProjDw
public import proofs.«01_k».proof.Proof.Gen.ProjDh.Frame
public import proofs.«01_k».proof.Proof.Gen.ProjDhIdeal.Frame
public import proofs.«01_k».proof.Proof.Gen.ProjDhIdeal.Value
public import proofs.«01_k».proof.Proof.Gen.ProjDhReferenceIdeal.Run
public import proofs.«01_k».proof.Proof.Products.ProjDh
public import proofs.«01_k».proof.Proof.Gen.ProjDx.Frame
public import proofs.«01_k».proof.Proof.Gen.ProjDxIdeal.Frame
public import proofs.«01_k».proof.Proof.Gen.ProjDxIdeal.Value
public import proofs.«01_k».proof.Proof.Gen.ProjDxReferenceIdeal.Run
public import proofs.«01_k».proof.Proof.Products.ProjDx
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxReferenceIdeal.Run
public import proofs.«01_k».proof.Proof.Products.OutDx
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwReferenceIdeal.Run
public import proofs.«01_k».proof.Proof.Products.OutDw
public import proofs.«01_k».proof.Proof.Gen.Up.Frame
public import proofs.«01_k».proof.Proof.Gen.UpIdeal.Frame
public import proofs.«01_k».proof.Proof.Gen.UpIdeal.Value
public import proofs.«01_k».proof.Proof.Gen.UpReferenceIdeal.Run
public import proofs.«01_k».proof.Proof.Products.Up
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxReferenceIdeal.Run
public import proofs.«01_k».proof.Proof.Products.UpDx
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwReferenceIdeal.Run
public import proofs.«01_k».proof.Proof.Products.UpDw
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxReferenceIdeal.Run
public import proofs.«01_k».proof.Proof.Products.DownDx
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwReferenceIdeal.Run
public import proofs.«01_k».proof.Proof.Products.DownDw
public import proofs.«01_k».proof.Proof.Gen.OutNorm.Frame
public import proofs.«01_k».proof.Proof.Gen.OutNormIdeal.Frame
public import proofs.«01_k».proof.Proof.Gen.OutNormIdeal.Value
public import proofs.«01_k».proof.Proof.Gen.OutNormReferenceIdeal.Run
public import proofs.«01_k».proof.Proof.Products.OutNorm
public import proofs.«01_k».proof.Proof.Gen.DownNorm.Frame
public import proofs.«01_k».proof.Proof.Gen.DownNormIdeal.Frame
public import proofs.«01_k».proof.Proof.Gen.DownNormIdeal.Value
public import proofs.«01_k».proof.Proof.Gen.DownNormReferenceIdeal.Run
public import proofs.«01_k».proof.Proof.Products.DownNorm
public import proofs.«01_k».proof.Proof.Gen.FfnAct.Frame
public import proofs.«01_k».proof.Proof.Gen.FfnActIdeal.Frame
public import proofs.«01_k».proof.Proof.Gen.FfnActIdeal.Value
public import proofs.«01_k».proof.Proof.Gen.FfnActReferenceIdeal.Run
public import proofs.«01_k».proof.Proof.Calls.FfnAct
public import proofs.«01_k».proof.Proof.Gen.FfnActGrad.Frame
public import proofs.«01_k».proof.Proof.Gen.FfnActGradIdeal.Frame
public import proofs.«01_k».proof.Proof.Gen.FfnActGradIdeal.Value
public import proofs.«01_k».proof.Proof.Gen.FfnActGradReferenceIdeal.Run
public import proofs.«01_k».proof.Proof.Calls.FfnActGrad
public import proofs.«01_k».proof.Proof.Gen.FfnConvGrad.Frame
public import proofs.«01_k».proof.Proof.Gen.FfnConvGradIdeal.Frame
public import proofs.«01_k».proof.Proof.Gen.FfnConvGradIdeal.Value
public import proofs.«01_k».proof.Proof.Gen.FfnConvGradReferenceIdeal.Run
public import proofs.«01_k».proof.Proof.Calls.FfnConvGrad
public import proofs.«01_k».proof.Proof.Gen.NormGrad.Frame
public import proofs.«01_k».proof.Proof.Gen.NormGradIdeal.Frame
public import proofs.«01_k».proof.Proof.Gen.NormGradIdeal.Value
public import proofs.«01_k».proof.Proof.Gen.NormGradReferenceIdeal.Run
public import proofs.«01_k».proof.Proof.Calls.NormGrad
public import proofs.«01_k».proof.Proof.Gen.NormTopGrad.Frame
public import proofs.«01_k».proof.Proof.Gen.NormTopGradIdeal.Frame
public import proofs.«01_k».proof.Proof.Gen.NormTopGradIdeal.Value
public import proofs.«01_k».proof.Proof.Gen.NormTopGradReferenceIdeal.Run
public import proofs.«01_k».proof.Proof.Calls.NormTopGrad
public import proofs.«01_k».proof.Proof.Gen.Loss.Frame
public import proofs.«01_k».proof.Proof.Gen.LossIdeal.Frame
public import proofs.«01_k».proof.Proof.Gen.LossIdeal.Value
public import proofs.«01_k».proof.Proof.Gen.LossReferenceIdeal.Run
public import proofs.«01_k».proof.Proof.Calls.Loss
public import proofs.«01_k».proof.Proof.Gen.Mix.Frame
public import proofs.«01_k».proof.Proof.Gen.MixIdeal.Frame
public import proofs.«01_k».proof.Proof.Gen.MixIdeal.Value
public import proofs.«01_k».proof.Proof.Gen.MixReferenceIdeal.Run
public import proofs.«01_k».proof.Proof.Calls.Mix
public import proofs.«01_k».proof.Proof.Gen.S5Out.Frame
public import proofs.«01_k».proof.Proof.Gen.S5OutIdeal.Frame
public import proofs.«01_k».proof.Proof.Gen.S5OutIdeal.Value
public import proofs.«01_k».proof.Proof.Gen.S5OutReferenceIdeal.Run
public import proofs.«01_k».proof.Proof.Calls.S5Out
public import proofs.«01_k».proof.Proof.Gen.Rope.Frame
public import proofs.«01_k».proof.Proof.Gen.RopeIdeal.Frame
public import proofs.«01_k».proof.Proof.Gen.RopeIdeal.Value
public import proofs.«01_k».proof.Proof.Gen.RopeReferenceIdeal.Run
public import proofs.«01_k».proof.Proof.Calls.Rope
public import proofs.«01_k».proof.Proof.Gen.RopeGrad.Frame
public import proofs.«01_k».proof.Proof.Gen.RopeGradIdeal.Frame
public import proofs.«01_k».proof.Proof.Gen.RopeGradIdeal.Value
public import proofs.«01_k».proof.Proof.Gen.RopeGradReferenceIdeal.Run
public import proofs.«01_k».proof.Proof.Calls.RopeGrad
public import proofs.«01_k».proof.Proof.Gen.S5Bu.Frame
public import proofs.«01_k».proof.Proof.Gen.S5BuIdeal.Frame
public import proofs.«01_k».proof.Proof.Gen.S5BuIdeal.Value
public import proofs.«01_k».proof.Proof.Gen.S5BuReferenceIdeal.Run
public import proofs.«01_k».proof.Proof.Products.S5Bu
public import proofs.«01_k».proof.Proof.Gen.S5Y.Frame
public import proofs.«01_k».proof.Proof.Gen.S5YIdeal.Frame
public import proofs.«01_k».proof.Proof.Gen.S5YIdeal.Value
public import proofs.«01_k».proof.Proof.Gen.S5YReferenceIdeal.Run
public import proofs.«01_k».proof.Proof.Products.S5Y
public import proofs.«01_k».proof.Proof.Gen.S5Dx.Frame
public import proofs.«01_k».proof.Proof.Gen.S5DxIdeal.Frame
public import proofs.«01_k».proof.Proof.Gen.S5DxIdeal.Value
public import proofs.«01_k».proof.Proof.Gen.S5DxReferenceIdeal.Run
public import proofs.«01_k».proof.Proof.Products.S5Dx
public import proofs.«01_k».proof.Proof.Gen.S5Dc.Frame
public import proofs.«01_k».proof.Proof.Gen.S5DcIdeal.Frame
public import proofs.«01_k».proof.Proof.Gen.S5DcIdeal.Value
public import proofs.«01_k».proof.Proof.Gen.S5DcReferenceIdeal.Run
public import proofs.«01_k».proof.Proof.Products.S5Dc
public import proofs.«01_k».proof.Proof.Gen.S5Du.Frame
public import proofs.«01_k».proof.Proof.Gen.S5DuIdeal.Frame
public import proofs.«01_k».proof.Proof.Gen.S5DuIdeal.Value
public import proofs.«01_k».proof.Proof.Gen.S5DuReferenceIdeal.Run
public import proofs.«01_k».proof.Proof.Products.S5Du
public import proofs.«01_k».proof.Proof.Gen.S5Db.Frame
public import proofs.«01_k».proof.Proof.Gen.S5DbIdeal.Frame
public import proofs.«01_k».proof.Proof.Gen.S5DbIdeal.Value
public import proofs.«01_k».proof.Proof.Gen.S5DbReferenceIdeal.Run
public import proofs.«01_k».proof.Proof.Products.S5Db
public import proofs.«01_k».proof.Proof.Gen.LruConvGrad.Frame
public import proofs.«01_k».proof.Proof.Gen.LruConvGradIdeal.Frame
public import proofs.«01_k».proof.Proof.Gen.LruConvGradIdeal.Value
public import proofs.«01_k».proof.Proof.Gen.LruConvGradReferenceIdeal.Run
public import proofs.«01_k».proof.Proof.Calls.LruConvGrad
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallReferenceIdeal.Run
public import proofs.«01_k».proof.Proof.Calls.AdamSmall
public import proofs.«01_k».proof.Proof.Gen.AdamFfnConv.Frame
public import proofs.«01_k».proof.Proof.Gen.AdamFfnConvIdeal.Frame
public import proofs.«01_k».proof.Proof.Gen.AdamFfnConvIdeal.Value
public import proofs.«01_k».proof.Proof.Gen.AdamFfnConvReferenceIdeal.Run
public import proofs.«01_k».proof.Proof.Calls.AdamFfnConv
public import proofs.«01_k».proof.Proof.Gen.AdamLruConv.Frame
public import proofs.«01_k».proof.Proof.Gen.AdamLruConvIdeal.Frame
public import proofs.«01_k».proof.Proof.Gen.AdamLruConvIdeal.Value
public import proofs.«01_k».proof.Proof.Gen.AdamLruConvReferenceIdeal.Run
public import proofs.«01_k».proof.Proof.Calls.AdamLruConv
public import proofs.«01_k».proof.Proof.Gen.PairSum.Frame
public import proofs.«01_k».proof.Proof.Gen.PairSumIdeal.Frame
public import proofs.«01_k».proof.Proof.Gen.PairSumIdeal.Value
public import proofs.«01_k».proof.Proof.Gen.PairSumReferenceIdeal.Run
public import proofs.«01_k».proof.Proof.Calls.PairSum
public import proofs.«01_k».proof.Proof.Gen.S5Params.Frame
public import proofs.«01_k».proof.Proof.Gen.S5ParamsIdeal.Frame
public import proofs.«01_k».proof.Proof.Gen.S5ParamsIdeal.Value
public import proofs.«01_k».proof.Proof.Gen.S5ParamsReferenceIdeal.Run
public import proofs.«01_k».proof.Proof.Calls.S5Params
public import proofs.«01_k».proof.Proof.Gen.S5ParamsGrad.Frame
public import proofs.«01_k».proof.Proof.Gen.S5ParamsGradIdeal.Frame
public import proofs.«01_k».proof.Proof.Gen.S5ParamsGradReferenceIdeal.Run
public import proofs.«01_k».proof.Proof.Calls.S5ParamsGrad
public import proofs.«01_k».proof.Proof.Gen.S5OutGrad.Frame
public import proofs.«01_k».proof.Proof.Gen.S5OutGradIdeal.Frame
public import proofs.«01_k».proof.Proof.Gen.S5OutGradIdeal.Value
public import proofs.«01_k».proof.Proof.Calls.S5OutGrad
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem kernel_frame : quiescent_KernelIdeal := fun m ρ _ => Cert.KernelIdeal.Gen.frame m ρ

theorem reference_frame : quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

theorem constants : preserves_Kernel_KernelIdeal :=
  ⟨IdealRules.named_const.statement Cert.KernelIdeal.κ "cubic" .f32 0x3D372713#32 _ rfl,
    IdealRules.named_const.statement Cert.KernelIdeal.κ "cubic3" .f32 0x3E095D4F#32 _ rfl⟩

theorem gradients : algebraic_KernelIdeal_ReferenceIdeal_pre_finite := by
  intro m g m' g' hp ha
  have hr := fun c => Cert.Lru.reals_of_finite _ _ _ _ (hp c)
  have q0 := fun c => Cert.Lru.eq_rows _ (hr c).1.1
  have q1 := fun c => Cert.Lru.eq_rows _ (hr c).1.2
  have q2 := fun c => Cert.Lru.eq_rows _ (hr c).2.1
  have q3 := fun c => Cert.Lru.eq_rows _ (hr c).2.2
  exact ⟨_, _, Cert.Lru.run m g _ _ _ _ (fun c => ⟨q0 c, q1 c, q2 c, q3 c⟩),
    Cert.Lru.Ref.run m' g' _ _ _ _ (fun c => (ha c).1.trans (q0 c)) (fun c => (ha c).2.1.trans (q1 c)) (fun c => (ha c).2.2.1.trans (q2 c))
      (fun c => (ha c).2.2.2.trans (q3 c))⟩

theorem claim : Cert.Claim := ⟨Cert.Kernel.Gen.facts, Cert.KernelIdeal.Gen.facts, Cert.ReferenceIdeal.Gen.facts, Cert.Proj.Gen.facts, Cert.ProjIdeal.Gen.facts, Cert.ProjReferenceIdeal.Gen.facts, Cert.ProjDw.Gen.facts, Cert.ProjDwIdeal.Gen.facts, Cert.ProjDwReferenceIdeal.Gen.facts, Cert.ProjDh.Gen.facts, Cert.ProjDhIdeal.Gen.facts, Cert.ProjDhReferenceIdeal.Gen.facts, Cert.ProjDx.Gen.facts, Cert.ProjDxIdeal.Gen.facts, Cert.ProjDxReferenceIdeal.Gen.facts, Cert.OutDx.Gen.facts, Cert.OutDxIdeal.Gen.facts, Cert.OutDxReferenceIdeal.Gen.facts, Cert.OutDw.Gen.facts, Cert.OutDwIdeal.Gen.facts, Cert.OutDwReferenceIdeal.Gen.facts, Cert.Up.Gen.facts, Cert.UpIdeal.Gen.facts, Cert.UpReferenceIdeal.Gen.facts, Cert.UpDx.Gen.facts, Cert.UpDxIdeal.Gen.facts, Cert.UpDxReferenceIdeal.Gen.facts, Cert.UpDw.Gen.facts, Cert.UpDwIdeal.Gen.facts, Cert.UpDwReferenceIdeal.Gen.facts, Cert.DownDx.Gen.facts, Cert.DownDxIdeal.Gen.facts, Cert.DownDxReferenceIdeal.Gen.facts, Cert.DownDw.Gen.facts, Cert.DownDwIdeal.Gen.facts, Cert.DownDwReferenceIdeal.Gen.facts, Cert.OutNorm.Gen.facts, Cert.OutNormIdeal.Gen.facts, Cert.OutNormReferenceIdeal.Gen.facts, Cert.DownNorm.Gen.facts, Cert.DownNormIdeal.Gen.facts, Cert.DownNormReferenceIdeal.Gen.facts, Cert.FfnAct.Gen.facts, Cert.FfnActIdeal.Gen.facts, Cert.FfnActReferenceIdeal.Gen.facts, Cert.FfnActGrad.Gen.facts, Cert.FfnActGradIdeal.Gen.facts, Cert.FfnActGradReferenceIdeal.Gen.facts, Cert.FfnConvGrad.Gen.facts, Cert.FfnConvGradIdeal.Gen.facts, Cert.FfnConvGradReferenceIdeal.Gen.facts, Cert.NormGrad.Gen.facts, Cert.NormGradIdeal.Gen.facts, Cert.NormGradReferenceIdeal.Gen.facts, Cert.NormTopGrad.Gen.facts, Cert.NormTopGradIdeal.Gen.facts, Cert.NormTopGradReferenceIdeal.Gen.facts, Cert.Loss.Gen.facts, Cert.LossIdeal.Gen.facts, Cert.LossReferenceIdeal.Gen.facts, Cert.Mix.Gen.facts, Cert.MixIdeal.Gen.facts, Cert.MixReferenceIdeal.Gen.facts, Cert.S5Out.Gen.facts, Cert.S5OutIdeal.Gen.facts, Cert.S5OutReferenceIdeal.Gen.facts, Cert.Rope.Gen.facts, Cert.RopeIdeal.Gen.facts, Cert.RopeReferenceIdeal.Gen.facts, Cert.RopeGrad.Gen.facts, Cert.RopeGradIdeal.Gen.facts, Cert.RopeGradReferenceIdeal.Gen.facts, Cert.S5Bu.Gen.facts, Cert.S5BuIdeal.Gen.facts, Cert.S5BuReferenceIdeal.Gen.facts, Cert.S5Y.Gen.facts, Cert.S5YIdeal.Gen.facts, Cert.S5YReferenceIdeal.Gen.facts, Cert.S5Dx.Gen.facts, Cert.S5DxIdeal.Gen.facts, Cert.S5DxReferenceIdeal.Gen.facts, Cert.S5Dc.Gen.facts, Cert.S5DcIdeal.Gen.facts, Cert.S5DcReferenceIdeal.Gen.facts, Cert.S5Du.Gen.facts, Cert.S5DuIdeal.Gen.facts, Cert.S5DuReferenceIdeal.Gen.facts, Cert.S5Db.Gen.facts, Cert.S5DbIdeal.Gen.facts, Cert.S5DbReferenceIdeal.Gen.facts, Cert.LruConvGrad.Gen.facts, Cert.LruConvGradIdeal.Gen.facts, Cert.LruConvGradReferenceIdeal.Gen.facts, Cert.AdamSmall.Gen.facts, Cert.AdamSmallIdeal.Gen.facts, Cert.AdamSmallReferenceIdeal.Gen.facts, Cert.AdamFfnConv.Gen.facts, Cert.AdamFfnConvIdeal.Gen.facts, Cert.AdamFfnConvReferenceIdeal.Gen.facts, Cert.AdamLruConv.Gen.facts, Cert.AdamLruConvIdeal.Gen.facts, Cert.AdamLruConvReferenceIdeal.Gen.facts, Cert.PairSum.Gen.facts, Cert.PairSumIdeal.Gen.facts, Cert.PairSumReferenceIdeal.Gen.facts, Cert.S5Params.Gen.facts, Cert.S5ParamsIdeal.Gen.facts, Cert.S5ParamsReferenceIdeal.Gen.facts, Cert.S5ParamsGrad.Gen.facts, Cert.S5ParamsGradIdeal.Gen.facts, Cert.S5ParamsGradReferenceIdeal.Gen.facts, Cert.S5OutGrad.Gen.facts, Cert.S5OutGradIdeal.Gen.facts, Cert.S5OutGradReferenceIdeal.Gen.facts, Cert.Pre_finite.Gen.facts, Cert.Pre_finite_act.Gen.facts, Cert.Pre_finite_norm.Gen.facts, Cert.Pre_finite_top.Gen.facts, Cert.Pre_finite_s5.Gen.facts,
  fun m ρ _ => Cert.Kernel.Gen.frame m ρ,
  kernel_frame,
  fun m ρ _ => kernel_frame m ρ trivial,
  reference_frame,
  fun m ρ _ => reference_frame m ρ trivial,
  fun m ρ _ => Cert.Proj.Gen.frame m ρ,
  fun m ρ _ => Cert.ProjIdeal.Gen.frame m ρ,
  Cert.ProjIdeal.Products.reference_frame,
  fun m ρ _ => Cert.ProjDw.Gen.frame m ρ,
  fun m ρ _ => Cert.ProjDwIdeal.Gen.frame m ρ,
  Cert.ProjDwIdeal.Products.reference_frame,
  fun m ρ _ => Cert.ProjDh.Gen.frame m ρ,
  fun m ρ _ => Cert.ProjDhIdeal.Gen.frame m ρ,
  Cert.ProjDhIdeal.Products.reference_frame,
  fun m ρ _ => Cert.ProjDx.Gen.frame m ρ,
  fun m ρ _ => Cert.ProjDxIdeal.Gen.frame m ρ,
  Cert.ProjDxIdeal.Products.reference_frame,
  fun m ρ _ => Cert.OutDx.Gen.frame m ρ,
  fun m ρ _ => Cert.OutDxIdeal.Gen.frame m ρ,
  Cert.OutDxIdeal.Products.reference_frame,
  fun m ρ _ => Cert.OutDw.Gen.frame m ρ,
  fun m ρ _ => Cert.OutDwIdeal.Gen.frame m ρ,
  Cert.OutDwIdeal.Products.reference_frame,
  fun m ρ _ => Cert.Up.Gen.frame m ρ,
  fun m ρ _ => Cert.UpIdeal.Gen.frame m ρ,
  Cert.UpIdeal.Products.reference_frame,
  fun m ρ _ => Cert.UpDx.Gen.frame m ρ,
  fun m ρ _ => Cert.UpDxIdeal.Gen.frame m ρ,
  Cert.UpDxIdeal.Products.reference_frame,
  fun m ρ _ => Cert.UpDw.Gen.frame m ρ,
  fun m ρ _ => Cert.UpDwIdeal.Gen.frame m ρ,
  Cert.UpDwIdeal.Products.reference_frame,
  fun m ρ _ => Cert.DownDx.Gen.frame m ρ,
  fun m ρ _ => Cert.DownDxIdeal.Gen.frame m ρ,
  Cert.DownDxIdeal.Products.reference_frame,
  fun m ρ _ => Cert.DownDw.Gen.frame m ρ,
  fun m ρ _ => Cert.DownDwIdeal.Gen.frame m ρ,
  Cert.DownDwIdeal.Products.reference_frame,
  fun m ρ _ => Cert.OutNorm.Gen.frame m ρ,
  fun m ρ _ => Cert.OutNormIdeal.Gen.frame m ρ,
  Cert.OutNormIdeal.Products.reference_frame,
  fun m ρ _ => Cert.DownNorm.Gen.frame m ρ,
  fun m ρ _ => Cert.DownNormIdeal.Gen.frame m ρ,
  Cert.DownNormIdeal.Products.reference_frame,
  fun m ρ _ => Cert.FfnAct.Gen.frame m ρ,
  fun m ρ _ => Cert.FfnActIdeal.Gen.frame m ρ,
  Cert.FfnActIdeal.Calls.reference_frame,
  fun m ρ _ => Cert.FfnActGrad.Gen.frame m ρ,
  fun m ρ _ => Cert.FfnActGradIdeal.Gen.frame m ρ,
  fun m ρ _ => Cert.FfnActGradIdeal.Gen.frame m ρ,
  Cert.FfnActGradIdeal.Calls.reference_frame,
  fun m ρ _ => Cert.FfnActGradIdeal.Calls.reference_frame m ρ trivial,
  fun m ρ _ => Cert.FfnConvGrad.Gen.frame m ρ,
  fun m ρ _ => Cert.FfnConvGradIdeal.Gen.frame m ρ,
  Cert.FfnConvGradIdeal.Calls.reference_frame,
  fun m ρ _ => Cert.NormGrad.Gen.frame m ρ,
  fun m ρ _ => Cert.NormGradIdeal.Gen.frame m ρ,
  fun m ρ _ => Cert.NormGradIdeal.Gen.frame m ρ,
  Cert.NormGradIdeal.Calls.reference_frame,
  fun m ρ _ => Cert.NormGradIdeal.Calls.reference_frame m ρ trivial,
  fun m ρ _ => Cert.NormTopGrad.Gen.frame m ρ,
  fun m ρ _ => Cert.NormTopGradIdeal.Gen.frame m ρ,
  fun m ρ _ => Cert.NormTopGradIdeal.Gen.frame m ρ,
  Cert.NormTopGradIdeal.Calls.reference_frame,
  fun m ρ _ => Cert.NormTopGradIdeal.Calls.reference_frame m ρ trivial,
  fun m ρ _ => Cert.Loss.Gen.frame m ρ,
  fun m ρ _ => Cert.LossIdeal.Gen.frame m ρ,
  Cert.LossIdeal.Calls.reference_frame,
  fun m ρ _ => Cert.Mix.Gen.frame m ρ,
  fun m ρ _ => Cert.MixIdeal.Gen.frame m ρ,
  Cert.MixIdeal.Calls.reference_frame,
  fun m ρ _ => Cert.S5Out.Gen.frame m ρ,
  fun m ρ _ => Cert.S5OutIdeal.Gen.frame m ρ,
  Cert.S5OutIdeal.Calls.reference_frame,
  fun m ρ _ => Cert.Rope.Gen.frame m ρ,
  fun m ρ _ => Cert.RopeIdeal.Gen.frame m ρ,
  Cert.RopeIdeal.Calls.reference_frame,
  fun m ρ _ => Cert.RopeGrad.Gen.frame m ρ,
  fun m ρ _ => Cert.RopeGradIdeal.Gen.frame m ρ,
  Cert.RopeGradIdeal.Calls.reference_frame,
  fun m ρ _ => Cert.S5Bu.Gen.frame m ρ,
  fun m ρ _ => Cert.S5BuIdeal.Gen.frame m ρ,
  Cert.S5BuIdeal.Products.reference_frame,
  fun m ρ _ => Cert.S5Y.Gen.frame m ρ,
  fun m ρ _ => Cert.S5YIdeal.Gen.frame m ρ,
  Cert.S5YIdeal.Products.reference_frame,
  fun m ρ _ => Cert.S5Dx.Gen.frame m ρ,
  fun m ρ _ => Cert.S5DxIdeal.Gen.frame m ρ,
  Cert.S5DxIdeal.Products.reference_frame,
  fun m ρ _ => Cert.S5Dc.Gen.frame m ρ,
  fun m ρ _ => Cert.S5DcIdeal.Gen.frame m ρ,
  Cert.S5DcIdeal.Products.reference_frame,
  fun m ρ _ => Cert.S5Du.Gen.frame m ρ,
  fun m ρ _ => Cert.S5DuIdeal.Gen.frame m ρ,
  Cert.S5DuIdeal.Products.reference_frame,
  fun m ρ _ => Cert.S5Db.Gen.frame m ρ,
  fun m ρ _ => Cert.S5DbIdeal.Gen.frame m ρ,
  Cert.S5DbIdeal.Products.reference_frame,
  fun m ρ _ => Cert.LruConvGrad.Gen.frame m ρ,
  fun m ρ _ => Cert.LruConvGradIdeal.Gen.frame m ρ,
  Cert.LruConvGradIdeal.Calls.reference_frame,
  fun m ρ _ => Cert.AdamSmall.Gen.frame m ρ,
  fun m ρ _ => Cert.AdamSmallIdeal.Gen.frame m ρ,
  Cert.AdamSmallIdeal.Calls.reference_frame,
  fun m ρ _ => Cert.AdamFfnConv.Gen.frame m ρ,
  fun m ρ _ => Cert.AdamFfnConvIdeal.Gen.frame m ρ,
  Cert.AdamFfnConvIdeal.Calls.reference_frame,
  fun m ρ _ => Cert.AdamLruConv.Gen.frame m ρ,
  fun m ρ _ => Cert.AdamLruConvIdeal.Gen.frame m ρ,
  Cert.AdamLruConvIdeal.Calls.reference_frame,
  fun m ρ _ => Cert.PairSum.Gen.frame m ρ,
  fun m ρ _ => Cert.PairSumIdeal.Gen.frame m ρ,
  Cert.PairSumIdeal.Calls.reference_frame,
  fun m ρ _ => Cert.S5Params.Gen.frame m ρ,
  fun m ρ _ => Cert.S5ParamsIdeal.Gen.frame m ρ,
  Cert.S5ParamsIdeal.Calls.reference_frame,
  fun m ρ _ => Cert.S5ParamsGrad.Gen.frame m ρ,
  fun m ρ _ => Cert.S5ParamsGradIdeal.Gen.frame m ρ,
  Cert.S5ParamsGradIdeal.Calls.reference_frame,
  fun m ρ _ => Cert.S5OutGrad.Gen.frame m ρ,
  fun m ρ _ => Cert.S5OutGradIdeal.Gen.frame m ρ,
  fun m ρ _ => Cert.S5OutGradIdeal.Gen.frame m ρ,
  Cert.S5OutGradIdeal.Calls.reference_frame,
  fun m ρ _ => Cert.S5OutGradIdeal.Calls.reference_frame m ρ trivial,
  constants,
  gradients,
  trivial,
  Cert.ProjIdeal.Products.algebraic,
  trivial,
  Cert.ProjDwIdeal.Products.algebraic,
  trivial,
  Cert.ProjDhIdeal.Products.algebraic,
  trivial,
  Cert.ProjDxIdeal.Products.algebraic,
  trivial,
  Cert.OutDxIdeal.Products.algebraic,
  trivial,
  Cert.OutDwIdeal.Products.algebraic,
  trivial,
  Cert.UpIdeal.Products.algebraic,
  trivial,
  Cert.UpDxIdeal.Products.algebraic,
  trivial,
  Cert.UpDwIdeal.Products.algebraic,
  trivial,
  Cert.DownDxIdeal.Products.algebraic,
  trivial,
  Cert.DownDwIdeal.Products.algebraic,
  trivial,
  Cert.OutNormIdeal.Products.algebraic,
  trivial,
  Cert.DownNormIdeal.Products.algebraic,
  IdealRules.named_const.statement Cert.FfnActIdeal.κ "cubic" .f32 0x3D372713#32 _ rfl,
  Cert.FfnActIdeal.Calls.algebraic,
  ⟨IdealRules.named_const.statement Cert.FfnActGradIdeal.κ "cubic" .f32 0x3D372713#32 _ rfl, IdealRules.named_const.statement Cert.FfnActGradIdeal.κ "cubic3" .f32 0x3E095D4F#32 _ rfl⟩,
  Cert.FfnActGradIdeal.Calls.algebraic,
  trivial,
  Cert.FfnConvGradIdeal.Calls.algebraic,
  trivial,
  Cert.NormGradIdeal.Calls.algebraic,
  trivial,
  Cert.NormTopGradIdeal.Calls.algebraic,
  trivial,
  Cert.LossIdeal.Calls.algebraic,
  trivial,
  Cert.MixIdeal.Calls.algebraic,
  IdealRules.named_const.statement Cert.S5OutIdeal.κ "cubic" .f32 0x3D372713#32 _ rfl,
  Cert.S5OutIdeal.Calls.algebraic,
  trivial,
  Cert.RopeIdeal.Calls.algebraic,
  trivial,
  Cert.RopeGradIdeal.Calls.algebraic,
  trivial,
  Cert.S5BuIdeal.Products.algebraic,
  trivial,
  Cert.S5YIdeal.Products.algebraic,
  trivial,
  Cert.S5DxIdeal.Products.algebraic,
  trivial,
  Cert.S5DcIdeal.Products.algebraic,
  trivial,
  Cert.S5DuIdeal.Products.algebraic,
  trivial,
  Cert.S5DbIdeal.Products.algebraic,
  trivial,
  Cert.LruConvGradIdeal.Calls.algebraic,
  trivial,
  Cert.AdamSmallIdeal.Calls.algebraic,
  trivial,
  Cert.AdamFfnConvIdeal.Calls.algebraic,
  trivial,
  Cert.AdamLruConvIdeal.Calls.algebraic,
  trivial,
  Cert.PairSumIdeal.Calls.algebraic,
  trivial,
  Cert.S5ParamsIdeal.Calls.algebraic,
  trivial,
  Cert.S5ParamsGradIdeal.Calls.algebraic,
  ⟨IdealRules.named_const.statement Cert.S5OutGradIdeal.κ "cubic" .f32 0x3D372713#32 _ rfl, IdealRules.named_const.statement Cert.S5OutGradIdeal.κ "cubic3" .f32 0x3E095D4F#32 _ rfl⟩,
  Cert.S5OutGradIdeal.Calls.algebraic⟩

end Cert.Proof

end
